-- ==== Defs.lean ====
def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2 = (fun _ => 1#1)

def Pre_LbKernel (m : (ℓ : Loc Cert.LbKernel.nD Cert.LbKernel.τ Cert.LbKernel.sig) → Buf (Elt Bits) ℓ) : Prop :=
  True

def Pre_LbKernelIdeal (m : (ℓ : Loc Cert.LbKernelIdeal.nD Cert.LbKernelIdeal.τ Cert.LbKernelIdeal.sig) → Buf (Elt Ideal) ℓ) : Prop :=
  True

def Pre_LbKernelIdeal_lb_finite [hPre_lb_finite : Cert.Pre_lb_finite.Facts] (m : (ℓ : Loc Cert.LbKernelIdeal.nD Cert.LbKernelIdeal.τ Cert.LbKernelIdeal.sig) → Buf (Elt Ideal) ℓ) : Prop :=
  ∀ c : Dev Cert.LbKernelIdeal.nD,
    (Cert.Pre_lb_finite.fn (F := Ideal) (m ((c.tc : Thread Cert.LbKernelIdeal.nD Cert.LbKernelIdeal.τ).loc Cert.LbKernelIdeal.main_arg0)) (m ((c.tc : Thread Cert.LbKernelIdeal.nD Cert.LbKernelIdeal.τ).loc Cert.LbKernelIdeal.main_arg1))).1 = (fun _ => 1#1)
    ∧ (Cert.Pre_lb_finite.fn (F := Ideal) (m ((c.tc : Thread Cert.LbKernelIdeal.nD Cert.LbKernelIdeal.τ).loc Cert.LbKernelIdeal.main_arg0)) (m ((c.tc : Thread Cert.LbKernelIdeal.nD Cert.LbKernelIdeal.τ).loc Cert.LbKernelIdeal.main_arg1))).2 = (fun _ => 1#1)

def Pre_LbRefIdeal (m : (ℓ : Loc Cert.LbRefIdeal.nD Cert.LbRefIdeal.τ Cert.LbRefIdeal.sig) → Buf (Elt Ideal) ℓ) : Prop :=
  True

def Pre_LbRefIdeal_lb_finite [hPre_lb_finite : Cert.Pre_lb_finite.Facts] (m : (ℓ : Loc Cert.LbRefIdeal.nD Cert.LbRefIdeal.τ Cert.LbRefIdeal.sig) → Buf (Elt Ideal) ℓ) : Prop :=
  ∀ c : Dev Cert.LbRefIdeal.nD,
    (Cert.Pre_lb_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).1 = (fun _ => 1#1)
    ∧ (Cert.Pre_lb_finite.fn (F := Ideal) (m ((c.tc : Thread Cert.LbRefIdeal.nD Cert.LbRefIdeal.τ).loc Cert.LbRefIdeal.main_arg0)) (m ((c.tc : Thread Cert.LbRefIdeal.nD Cert.LbRefIdeal.τ).loc Cert.LbRefIdeal.main_arg1))).2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_SwfKernel (m : (ℓ : Loc Cert.SwfKernel.nD Cert.SwfKernel.τ Cert.SwfKernel.sig) → Buf (Elt Bits) ℓ) : Prop :=
  True

def Pre_SwfKernelIdeal (m : (ℓ : Loc Cert.SwfKernelIdeal.nD Cert.SwfKernelIdeal.τ Cert.SwfKernelIdeal.sig) → Buf (Elt Ideal) ℓ) : Prop :=
  True

def Pre_SwfKernelIdeal_swf_finite [hPre_swf_finite : Cert.Pre_swf_finite.Facts] (m : (ℓ : Loc Cert.SwfKernelIdeal.nD Cert.SwfKernelIdeal.τ Cert.SwfKernelIdeal.sig) → Buf (Elt Ideal) ℓ) : Prop :=
  ∀ c : Dev Cert.SwfKernelIdeal.nD,
    (Cert.Pre_swf_finite.fn (F := Ideal) (m ((c.tc : Thread Cert.SwfKernelIdeal.nD Cert.SwfKernelIdeal.τ).loc Cert.SwfKernelIdeal.main_arg0)) (m ((c.tc : Thread Cert.SwfKernelIdeal.nD Cert.SwfKernelIdeal.τ).loc Cert.SwfKernelIdeal.main_arg1))).1 = (fun _ => 1#1)
    ∧ (Cert.Pre_swf_finite.fn (F := Ideal) (m ((c.tc : Thread Cert.SwfKernelIdeal.nD Cert.SwfKernelIdeal.τ).loc Cert.SwfKernelIdeal.main_arg0)) (m ((c.tc : Thread Cert.SwfKernelIdeal.nD Cert.SwfKernelIdeal.τ).loc Cert.SwfKernelIdeal.main_arg1))).2 = (fun _ => 1#1)

def Pre_SwfRefIdeal (m : (ℓ : Loc Cert.SwfRefIdeal.nD Cert.SwfRefIdeal.τ Cert.SwfRefIdeal.sig) → Buf (Elt Ideal) ℓ) : Prop :=
  True

def Pre_SwfRefIdeal_swf_finite [hPre_swf_finite : Cert.Pre_swf_finite.Facts] (m : (ℓ : Loc Cert.SwfRefIdeal.nD Cert.SwfRefIdeal.τ Cert.SwfRefIdeal.sig) → Buf (Elt Ideal) ℓ) : Prop :=
  ∀ c : Dev Cert.SwfRefIdeal.nD,
    (Cert.Pre_swf_finite.fn (F := Ideal) (m ((c.tc : Thread Cert.SwfRefIdeal.nD Cert.SwfRefIdeal.τ).loc Cert.SwfRefIdeal.main_arg0)) (m ((c.tc : Thread Cert.SwfRefIdeal.nD Cert.SwfRefIdeal.τ).loc Cert.SwfRefIdeal.main_arg1))).1 = (fun _ => 1#1)
    ∧ (Cert.Pre_swf_finite.fn (F := Ideal) (m ((c.tc : Thread Cert.SwfRefIdeal.nD Cert.SwfRefIdeal.τ).loc Cert.SwfRefIdeal.main_arg0)) (m ((c.tc : Thread Cert.SwfRefIdeal.nD Cert.SwfRefIdeal.τ).loc Cert.SwfRefIdeal.main_arg1))).2 = (fun _ => 1#1)

def Pre_SwvKernel (m : (ℓ : Loc Cert.SwvKernel.nD Cert.SwvKernel.τ Cert.SwvKernel.sig) → Buf (Elt Bits) ℓ) : Prop :=
  True

def Pre_SwvKernelIdeal (m : (ℓ : Loc Cert.SwvKernelIdeal.nD Cert.SwvKernelIdeal.τ Cert.SwvKernelIdeal.sig) → Buf (Elt Ideal) ℓ) : Prop :=
  True

def Pre_SwvKernelIdeal_swv_finite [hPre_swv_finite : Cert.Pre_swv_finite.Facts] (m : (ℓ : Loc Cert.SwvKernelIdeal.nD Cert.SwvKernelIdeal.τ Cert.SwvKernelIdeal.sig) → Buf (Elt Ideal) ℓ) : Prop :=
  ∀ c : Dev Cert.SwvKernelIdeal.nD,
    (Cert.Pre_swv_finite.fn (F := Ideal) (m ((c.tc : Thread Cert.SwvKernelIdeal.nD Cert.SwvKernelIdeal.τ).loc Cert.SwvKernelIdeal.main_arg0)) (m ((c.tc : Thread Cert.SwvKernelIdeal.nD Cert.SwvKernelIdeal.τ).loc Cert.SwvKernelIdeal.main_arg1)) (m ((c.tc : Thread Cert.SwvKernelIdeal.nD Cert.SwvKernelIdeal.τ).loc Cert.SwvKernelIdeal.main_arg2))).1 = (fun _ => 1#1)
    ∧ (Cert.Pre_swv_finite.fn (F := Ideal) (m ((c.tc : Thread Cert.SwvKernelIdeal.nD Cert.SwvKernelIdeal.τ).loc Cert.SwvKernelIdeal.main_arg0)) (m ((c.tc : Thread Cert.SwvKernelIdeal.nD Cert.SwvKernelIdeal.τ).loc Cert.SwvKernelIdeal.main_arg1)) (m ((c.tc : Thread Cert.SwvKernelIdeal.nD Cert.SwvKernelIdeal.τ).loc Cert.SwvKernelIdeal.main_arg2))).2 = (fun _ => 1#1)

def Pre_SwvRefIdeal (m : (ℓ : Loc Cert.SwvRefIdeal.nD Cert.SwvRefIdeal.τ Cert.SwvRefIdeal.sig) → Buf (Elt Ideal) ℓ) : Prop :=
  True

def Pre_SwvRefIdeal_swv_finite [hPre_swv_finite : Cert.Pre_swv_finite.Facts] (m : (ℓ : Loc Cert.SwvRefIdeal.nD Cert.SwvRefIdeal.τ Cert.SwvRefIdeal.sig) → Buf (Elt Ideal) ℓ) : Prop :=
  ∀ c : Dev Cert.SwvRefIdeal.nD,
    (Cert.Pre_swv_finite.fn (F := Ideal) (m ((c.tc : Thread Cert.SwvRefIdeal.nD Cert.SwvRefIdeal.τ).loc Cert.SwvRefIdeal.main_arg0)) (m ((c.tc : Thread Cert.SwvRefIdeal.nD Cert.SwvRefIdeal.τ).loc Cert.SwvRefIdeal.main_arg1)) (m ((c.tc : Thread Cert.SwvRefIdeal.nD Cert.SwvRefIdeal.τ).loc Cert.SwvRefIdeal.main_arg2))).1 = (fun _ => 1#1)
    ∧ (Cert.Pre_swv_finite.fn (F := Ideal) (m ((c.tc : Thread Cert.SwvRefIdeal.nD Cert.SwvRefIdeal.τ).loc Cert.SwvRefIdeal.main_arg0)) (m ((c.tc : Thread Cert.SwvRefIdeal.nD Cert.SwvRefIdeal.τ).loc Cert.SwvRefIdeal.main_arg1)) (m ((c.tc : Thread Cert.SwvRefIdeal.nD Cert.SwvRefIdeal.τ).loc Cert.SwvRefIdeal.main_arg2))).2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_BoundsKernel (m : (ℓ : Loc Cert.BoundsKernel.nD Cert.BoundsKernel.τ Cert.BoundsKernel.sig) → Buf (Elt Bits) ℓ) : Prop :=
  True

def Pre_BoundsKernelIdeal (m : (ℓ : Loc Cert.BoundsKernelIdeal.nD Cert.BoundsKernelIdeal.τ Cert.BoundsKernelIdeal.sig) → Buf (Elt Ideal) ℓ) : Prop :=
  True

def Pre_BoundsRefIdeal (m : (ℓ : Loc Cert.BoundsRefIdeal.nD Cert.BoundsRefIdeal.τ Cert.BoundsRefIdeal.sig) → Buf (Elt Ideal) ℓ) : Prop :=
  True

def Pre_RmsKernel (m : (ℓ : Loc Cert.RmsKernel.nD Cert.RmsKernel.τ Cert.RmsKernel.sig) → Buf (Elt Bits) ℓ) : Prop :=
  True

def Pre_RmsKernelIdeal (m : (ℓ : Loc Cert.RmsKernelIdeal.nD Cert.RmsKernelIdeal.τ Cert.RmsKernelIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_WguKernel (m : (ℓ : Loc Cert.WguKernel.nD Cert.WguKernel.τ Cert.WguKernel.sig) → Buf (Elt Bits) ℓ) : Prop :=
  True

def Pre_WguKernelIdeal (m : (ℓ : Loc Cert.WguKernelIdeal.nD Cert.WguKernelIdeal.τ Cert.WguKernelIdeal.sig) → Buf (Elt Ideal) ℓ) : Prop :=
  True

def Pre_WguRefIdeal (m : (ℓ : Loc Cert.WguRefIdeal.nD Cert.WguRefIdeal.τ Cert.WguRefIdeal.sig) → Buf (Elt Ideal) ℓ) : Prop :=
  True

def Pre_SlotsKernel (m : (ℓ : Loc Cert.SlotsKernel.nD Cert.SlotsKernel.τ Cert.SlotsKernel.sig) → Buf (Elt Bits) ℓ) : Prop :=
  True

def Pre_SlotsKernelIdeal (m : (ℓ : Loc Cert.SlotsKernelIdeal.nD Cert.SlotsKernelIdeal.τ Cert.SlotsKernelIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_HgvKernel (m : (ℓ : Loc Cert.HgvKernel.nD Cert.HgvKernel.τ Cert.HgvKernel.sig) → Buf (Elt Bits) ℓ) : Prop :=
  True

def Pre_HgvKernelIdeal (m : (ℓ : Loc Cert.HgvKernelIdeal.nD Cert.HgvKernelIdeal.τ Cert.HgvKernelIdeal.sig) → Buf (Elt Ideal) ℓ) : Prop :=
  True

def Pre_HgvKernelIdeal_hgv_finite [hPre_hgv_finite : Cert.Pre_hgv_finite.Facts] (m : (ℓ : Loc Cert.HgvKernelIdeal.nD Cert.HgvKernelIdeal.τ Cert.HgvKernelIdeal.sig) → Buf (Elt Ideal) ℓ) : Prop :=
  ∀ c : Dev Cert.HgvKernelIdeal.nD,
    (Cert.Pre_hgv_finite.fn (F := Ideal) (m ((c.tc : Thread Cert.HgvKernelIdeal.nD Cert.HgvKernelIdeal.τ).loc Cert.HgvKernelIdeal.main_arg0)) (m ((c.tc : Thread Cert.HgvKernelIdeal.nD Cert.HgvKernelIdeal.τ).loc Cert.HgvKernelIdeal.main_arg1)) (m ((c.tc : Thread Cert.HgvKernelIdeal.nD Cert.HgvKernelIdeal.τ).loc Cert.HgvKernelIdeal.main_arg2))) = (fun _ => 1#1)

def Pre_HgvRefIdeal (m : (ℓ : Loc Cert.HgvRefIdeal.nD Cert.HgvRefIdeal.τ Cert.HgvRefIdeal.sig) → Buf (Elt Ideal) ℓ) : Prop :=
  True

def Pre_HgvRefIdeal_hgv_finite [hPre_hgv_finite : Cert.Pre_hgv_finite.Facts] (m : (ℓ : Loc Cert.HgvRefIdeal.nD Cert.HgvRefIdeal.τ Cert.HgvRefIdeal.sig) → Buf (Elt Ideal) ℓ) : Prop :=
  ∀ c : Dev Cert.HgvRefIdeal.nD,
    (Cert.Pre_hgv_finite.fn (F := Ideal) (m ((c.tc : Thread Cert.HgvRefIdeal.nD Cert.HgvRefIdeal.τ).loc Cert.HgvRefIdeal.main_arg0)) (m ((c.tc : Thread Cert.HgvRefIdeal.nD Cert.HgvRefIdeal.τ).loc Cert.HgvRefIdeal.main_arg1)) (m ((c.tc : Thread Cert.HgvRefIdeal.nD Cert.HgvRefIdeal.τ).loc Cert.HgvRefIdeal.main_arg2))) = (fun _ => 1#1)

def Pre_HgsKernel (m : (ℓ : Loc Cert.HgsKernel.nD Cert.HgsKernel.τ Cert.HgsKernel.sig) → Buf (Elt Bits) ℓ) : Prop :=
  True

def Pre_HgsKernelIdeal (m : (ℓ : Loc Cert.HgsKernelIdeal.nD Cert.HgsKernelIdeal.τ Cert.HgsKernelIdeal.sig) → Buf (Elt Ideal) ℓ) : Prop :=
  True

def Pre_HgsKernelIdeal_hgs_finite [hPre_hgs_finite : Cert.Pre_hgs_finite.Facts] (m : (ℓ : Loc Cert.HgsKernelIdeal.nD Cert.HgsKernelIdeal.τ Cert.HgsKernelIdeal.sig) → Buf (Elt Ideal) ℓ) : Prop :=
  ∀ c : Dev Cert.HgsKernelIdeal.nD,
    (Cert.Pre_hgs_finite.fn (F := Ideal) (m ((c.tc : Thread Cert.HgsKernelIdeal.nD Cert.HgsKernelIdeal.τ).loc Cert.HgsKernelIdeal.main_arg0)) (m ((c.tc : Thread Cert.HgsKernelIdeal.nD Cert.HgsKernelIdeal.τ).loc Cert.HgsKernelIdeal.main_arg1)) (m ((c.tc : Thread Cert.HgsKernelIdeal.nD Cert.HgsKernelIdeal.τ).loc Cert.HgsKernelIdeal.main_arg2))) = (fun _ => 1#1)

def Pre_HgsRefIdeal (m : (ℓ : Loc Cert.HgsRefIdeal.nD Cert.HgsRefIdeal.τ Cert.HgsRefIdeal.sig) → Buf (Elt Ideal) ℓ) : Prop :=
  True

def Pre_HgsRefIdeal_hgs_finite [hPre_hgs_finite : Cert.Pre_hgs_finite.Facts] (m : (ℓ : Loc Cert.HgsRefIdeal.nD Cert.HgsRefIdeal.τ Cert.HgsRefIdeal.sig) → Buf (Elt Ideal) ℓ) : Prop :=
  ∀ c : Dev Cert.HgsRefIdeal.nD,
    (Cert.Pre_hgs_finite.fn (F := Ideal) (m ((c.tc : Thread Cert.HgsRefIdeal.nD Cert.HgsRefIdeal.τ).loc Cert.HgsRefIdeal.main_arg0)) (m ((c.tc : Thread Cert.HgsRefIdeal.nD Cert.HgsRefIdeal.τ).loc Cert.HgsRefIdeal.main_arg1)) (m ((c.tc : Thread Cert.HgsRefIdeal.nD Cert.HgsRefIdeal.τ).loc Cert.HgsRefIdeal.main_arg2))) = (fun _ => 1#1)

def Pre_HgCall (m : (ℓ : Loc Cert.HgCall.nD Cert.HgCall.τ Cert.HgCall.sig) → Buf (Elt Bits) ℓ) : Prop :=
  True

def Pre_HgCallIdeal (m : (ℓ : Loc Cert.HgCallIdeal.nD Cert.HgCallIdeal.τ Cert.HgCallIdeal.sig) → Buf (Elt Ideal) ℓ) : Prop :=
  True

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_LbKernel [hLbKernel : Cert.LbKernel.Facts] : Prop :=
  ∀ (m : (ℓ : Loc Cert.LbKernel.nD Cert.LbKernel.τ Cert.LbKernel.sig) → Buf (Elt Bits) ℓ) (g : Dev Cert.LbKernel.nD → PrngReg), Pre_LbKernel m →
    θ_run (Cert.LbKernel.defs (F := Bits)) (onTc (τ := Cert.LbKernel.τ) (Cert.LbKernel.main (F := Bits))) ⟨m, fun _ => 0, g⟩ (fun r => (∀ c : Dev Cert.LbKernel.nD,
      r.2.mem ((c.tc : Thread Cert.LbKernel.nD Cert.LbKernel.τ).loc Cert.LbKernel.main_arg0) = m ((c.tc : Thread Cert.LbKernel.nD Cert.LbKernel.τ).loc Cert.LbKernel.main_arg0)
      ∧ r.2.mem ((c.tc : Thread Cert.LbKernel.nD Cert.LbKernel.τ).loc Cert.LbKernel.main_arg1) = m ((c.tc : Thread Cert.LbKernel.nD Cert.LbKernel.τ).loc Cert.LbKernel.main_arg1))
      ∧ r.2.sem = fun _ => 0)

def quiescent_LbKernelIdeal [hLbKernelIdeal : Cert.LbKernelIdeal.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbKernelIdeal_pre_lb_finite [hLbKernelIdeal : Cert.LbKernelIdeal.Facts] [hPre_lb_finite : Cert.Pre_lb_finite.Facts] : Prop :=
  ∀ (m : (ℓ : Loc Cert.LbKernelIdeal.nD Cert.LbKernelIdeal.τ Cert.LbKernelIdeal.sig) → Buf (Elt Ideal) ℓ) (g : Dev Cert.LbKernelIdeal.nD → PrngReg), Pre_LbKernelIdeal_lb_finite m →
    θ_run (Cert.LbKernelIdeal.defs (F := Ideal)) (onTc (τ := Cert.LbKernelIdeal.τ) (Cert.LbKernelIdeal.main (F := Ideal))) ⟨m, fun _ => 0, g⟩ (fun r => (∀ c : Dev Cert.LbKernelIdeal.nD,
      r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
      ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ r.2.sem = fun _ => 0)

def quiescent_LbRefIdeal [hLbRefIdeal : Cert.LbRefIdeal.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_LbRefIdeal_pre_lb_finite [hLbRefIdeal : Cert.LbRefIdeal.Facts] [hPre_lb_finite : Cert.Pre_lb_finite.Facts] : Prop :=
  ∀ (m : (ℓ : Loc Cert.LbRefIdeal.nD Cert.LbRefIdeal.τ Cert.LbRefIdeal.sig) → Buf (Elt Ideal) ℓ) (g : Dev Cert.LbRefIdeal.nD → PrngReg), Pre_LbRefIdeal_lb_finite m →
    θ_run (Cert.LbRefIdeal.defs (F := Ideal)) (onTc (τ := Cert.LbRefIdeal.τ) (Cert.LbRefIdeal.main (F := Ideal))) ⟨m, fun _ => 0, g⟩ (fun r => (∀ c : Dev Cert.LbRefIdeal.nD,
      r.2.mem ((c.tc : Thread Cert.LbRefIdeal.nD Cert.LbRefIdeal.τ).loc Cert.LbRefIdeal.main_arg0) = m ((c.tc : Thread Cert.LbRefIdeal.nD Cert.LbRefIdeal.τ).loc Cert.LbRefIdeal.main_arg0)
      ∧ r.2.mem ((c.tc : Thread Cert.LbRefIdeal.nD Cert.LbRefIdeal.τ).loc Cert.LbRefIdeal.main_arg1) = m ((c.tc : Thread Cert.LbRefIdeal.nD Cert.LbRefIdeal.τ).loc Cert.LbRefIdeal.main_arg1))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2)
      ∧ r.2.mem ((c.tc : Thread Cert.WinKernel.nD Cert.WinKernel.τ).loc Cert.WinKernel.main_arg3) = m ((c.tc : Thread Cert.WinKernel.nD Cert.WinKernel.τ).loc Cert.WinKernel.main_arg3)
      ∧ r.2.mem ((c.tc : Thread Cert.WinKernel.nD Cert.WinKernel.τ).loc Cert.WinKernel.main_arg4) = m ((c.tc : Thread Cert.WinKernel.nD Cert.WinKernel.τ).loc Cert.WinKernel.main_arg4))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
      ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
      ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4))
      ∧ r.2.sem = fun _ => 0)

def quiescent_SwfKernel [hSwfKernel : Cert.SwfKernel.Facts] : Prop :=
  ∀ (m : (ℓ : Loc Cert.SwfKernel.nD Cert.SwfKernel.τ Cert.SwfKernel.sig) → Buf (Elt Bits) ℓ) (g : Dev Cert.SwfKernel.nD → PrngReg), Pre_SwfKernel m →
    θ_run (Cert.SwfKernel.defs (F := Bits)) (onTc (τ := Cert.SwfKernel.τ) (Cert.SwfKernel.main (F := Bits))) ⟨m, fun _ => 0, g⟩ (fun r => (∀ c : Dev Cert.SwfKernel.nD,
      r.2.mem ((c.tc : Thread Cert.SwfKernel.nD Cert.SwfKernel.τ).loc Cert.SwfKernel.main_arg0) = m ((c.tc : Thread Cert.SwfKernel.nD Cert.SwfKernel.τ).loc Cert.SwfKernel.main_arg0)
      ∧ r.2.mem ((c.tc : Thread Cert.SwfKernel.nD Cert.SwfKernel.τ).loc Cert.SwfKernel.main_arg1) = m ((c.tc : Thread Cert.SwfKernel.nD Cert.SwfKernel.τ).loc Cert.SwfKernel.main_arg1))
      ∧ r.2.sem = fun _ => 0)

def quiescent_SwfKernelIdeal [hSwfKernelIdeal : Cert.SwfKernelIdeal.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg), Pre_SwfKernelIdeal m →
    θ_run (Cert.SwfKernelIdeal.defs (F := Ideal)) (onTc (τ := Cert.SwfKernelIdeal.τ) (Cert.SwfKernelIdeal.main (F := Ideal))) ⟨m, fun _ => 0, g⟩ (fun r => (∀ c : Dev Cert.SwfKernelIdeal.nD,
      r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0)
      ∧ r.2.mem ((c.tc : Thread Cert.SwfKernelIdeal.nD Cert.SwfKernelIdeal.τ).loc Cert.SwfKernelIdeal.main_arg1) = m ((c.tc : Thread Cert.SwfKernelIdeal.nD Cert.SwfKernelIdeal.τ).loc Cert.SwfKernelIdeal.main_arg1))
      ∧ r.2.sem = fun _ => 0)

def quiescent_SwfKernelIdeal_pre_swf_finite [hSwfKernelIdeal : Cert.SwfKernelIdeal.Facts] [hPre_swf_finite : Cert.Pre_swf_finite.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg), Pre_SwfKernelIdeal_swf_finite m →
    θ_run (Cert.SwfKernelIdeal.defs (F := Ideal)) (onTc (τ := Cert.SwfKernelIdeal.τ) (Cert.SwfKernelIdeal.main (F := Ideal))) ⟨m, fun _ => 0, g⟩ (fun r => (∀ c : Dev Cert.SwfKernelIdeal.nD,
      r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0)
      ∧ r.2.mem ((c.tc : Thread Cert.SwfKernelIdeal.nD Cert.SwfKernelIdeal.τ).loc Cert.SwfKernelIdeal.main_arg1) = m ((c.tc : Thread Cert.SwfKernelIdeal.nD Cert.SwfKernelIdeal.τ).loc Cert.SwfKernelIdeal.main_arg1))
      ∧ r.2.sem = fun _ => 0)

def quiescent_SwfRefIdeal [hSwfRefIdeal : Cert.SwfRefIdeal.Facts] : Prop :=
  ∀ (m : (ℓ : Loc Cert.SwfRefIdeal.nD Cert.SwfRefIdeal.τ Cert.SwfRefIdeal.sig) → Buf (Elt Ideal) ℓ) (g : Dev Cert.SwfRefIdeal.nD → PrngReg), Pre_SwfRefIdeal m →
    θ_run (Cert.SwfRefIdeal.defs (F := Ideal)) (onTc (τ := Cert.SwfRefIdeal.τ) (Cert.SwfRefIdeal.main (F := Ideal))) ⟨m, fun _ => 0, g⟩ (fun r => (∀ c : Dev Cert.SwfRefIdeal.nD,
      r.2.mem ((c.tc : Thread Cert.SwfRefIdeal.nD Cert.SwfRefIdeal.τ).loc Cert.SwfRefIdeal.main_arg0) = m ((c.tc : Thread Cert.SwfRefIdeal.nD Cert.SwfRefIdeal.τ).loc Cert.SwfRefIdeal.main_arg0)
      ∧ r.2.mem ((c.tc : Thread Cert.SwfRefIdeal.nD Cert.SwfRefIdeal.τ).loc Cert.SwfRefIdeal.main_arg1) = m ((c.tc : Thread Cert.SwfRefIdeal.nD Cert.SwfRefIdeal.τ).loc Cert.SwfRefIdeal.main_arg1))
      ∧ r.2.sem = fun _ => 0)

def quiescent_SwfRefIdeal_pre_swf_finite [hSwfRefIdeal : Cert.SwfRefIdeal.Facts] [hPre_swf_finite : Cert.Pre_swf_finite.Facts] : Prop :=
  ∀ (m : (ℓ : Loc Cert.SwfRefIdeal.nD Cert.SwfRefIdeal.τ Cert.SwfRefIdeal.sig) → Buf (Elt Ideal) ℓ) (g : Dev Cert.SwfRefIdeal.nD → PrngReg), Pre_SwfRefIdeal_swf_finite m →
    θ_run (Cert.SwfRefIdeal.defs (F := Ideal)) (onTc (τ := Cert.SwfRefIdeal.τ) (Cert.SwfRefIdeal.main (F := Ideal))) ⟨m, fun _ => 0, g⟩ (fun r => (∀ c : Dev Cert.SwfRefIdeal.nD,
      r.2.mem ((c.tc : Thread Cert.SwfRefIdeal.nD Cert.SwfRefIdeal.τ).loc Cert.SwfRefIdeal.main_arg0) = m ((c.tc : Thread Cert.SwfRefIdeal.nD Cert.SwfRefIdeal.τ).loc Cert.SwfRefIdeal.main_arg0)
      ∧ r.2.mem ((c.tc : Thread Cert.SwfRefIdeal.nD Cert.SwfRefIdeal.τ).loc Cert.SwfRefIdeal.main_arg1) = m ((c.tc : Thread Cert.SwfRefIdeal.nD Cert.SwfRefIdeal.τ).loc Cert.SwfRefIdeal.main_arg1))
      ∧ r.2.sem = fun _ => 0)

def quiescent_SwvKernel [hSwvKernel : Cert.SwvKernel.Facts] : Prop :=
  ∀ (m : (ℓ : Loc Cert.SwvKernel.nD Cert.SwvKernel.τ Cert.SwvKernel.sig) → Buf (Elt Bits) ℓ) (g : Dev Cert.SwvKernel.nD → PrngReg), Pre_SwvKernel m →
    θ_run (Cert.SwvKernel.defs (F := Bits)) (onTc (τ := Cert.SwvKernel.τ) (Cert.SwvKernel.main (F := Bits))) ⟨m, fun _ => 0, g⟩ (fun r => (∀ c : Dev Cert.SwvKernel.nD,
      r.2.mem ((c.tc : Thread Cert.SwvKernel.nD Cert.SwvKernel.τ).loc Cert.SwvKernel.main_arg0) = m ((c.tc : Thread Cert.SwvKernel.nD Cert.SwvKernel.τ).loc Cert.SwvKernel.main_arg0)
      ∧ r.2.mem ((c.tc : Thread Cert.SwvKernel.nD Cert.SwvKernel.τ).loc Cert.SwvKernel.main_arg1) = m ((c.tc : Thread Cert.SwvKernel.nD Cert.SwvKernel.τ).loc Cert.SwvKernel.main_arg1)
      ∧ r.2.mem ((c.tc : Thread Cert.SwvKernel.nD Cert.SwvKernel.τ).loc Cert.SwvKernel.main_arg2) = m ((c.tc : Thread Cert.SwvKernel.nD Cert.SwvKernel.τ).loc Cert.SwvKernel.main_arg2))
      ∧ r.2.sem = fun _ => 0)

def quiescent_SwvKernelIdeal [hSwvKernelIdeal : Cert.SwvKernelIdeal.Facts] : Prop :=
  ∀ (m : (ℓ : Loc Cert.SwvKernelIdeal.nD Cert.SwvKernelIdeal.τ Cert.SwvKernelIdeal.sig) → Buf (Elt Ideal) ℓ) (g : Dev Cert.SwvKernelIdeal.nD → PrngReg), Pre_SwvKernelIdeal m →
    θ_run (Cert.SwvKernelIdeal.defs (F := Ideal)) (onTc (τ := Cert.SwvKernelIdeal.τ) (Cert.SwvKernelIdeal.main (F := Ideal))) ⟨m, fun _ => 0, g⟩ (fun r => (∀ c : Dev Cert.SwvKernelIdeal.nD,
      r.2.mem ((c.tc : Thread Cert.SwvKernelIdeal.nD Cert.SwvKernelIdeal.τ).loc Cert.SwvKernelIdeal.main_arg0) = m ((c.tc : Thread Cert.SwvKernelIdeal.nD Cert.SwvKernelIdeal.τ).loc Cert.SwvKernelIdeal.main_arg0)
      ∧ r.2.mem ((c.tc : Thread Cert.SwvKernelIdeal.nD Cert.SwvKernelIdeal.τ).loc Cert.SwvKernelIdeal.main_arg1) = m ((c.tc : Thread Cert.SwvKernelIdeal.nD Cert.SwvKernelIdeal.τ).loc Cert.SwvKernelIdeal.main_arg1)
      ∧ r.2.mem ((c.tc : Thread Cert.SwvKernelIdeal.nD Cert.SwvKernelIdeal.τ).loc Cert.SwvKernelIdeal.main_arg2) = m ((c.tc : Thread Cert.SwvKernelIdeal.nD Cert.SwvKernelIdeal.τ).loc Cert.SwvKernelIdeal.main_arg2))
      ∧ r.2.sem = fun _ => 0)

def quiescent_SwvKernelIdeal_pre_swv_finite [hSwvKernelIdeal : Cert.SwvKernelIdeal.Facts] [hPre_swv_finite : Cert.Pre_swv_finite.Facts] : Prop :=
  ∀ (m : (ℓ : Loc Cert.SwvKernelIdeal.nD Cert.SwvKernelIdeal.τ Cert.SwvKernelIdeal.sig) → Buf (Elt Ideal) ℓ) (g : Dev Cert.SwvKernelIdeal.nD → PrngReg), Pre_SwvKernelIdeal_swv_finite m →
    θ_run (Cert.SwvKernelIdeal.defs (F := Ideal)) (onTc (τ := Cert.SwvKernelIdeal.τ) (Cert.SwvKernelIdeal.main (F := Ideal))) ⟨m, fun _ => 0, g⟩ (fun r => (∀ c : Dev Cert.SwvKernelIdeal.nD,
      r.2.mem ((c.tc : Thread Cert.SwvKernelIdeal.nD Cert.SwvKernelIdeal.τ).loc Cert.SwvKernelIdeal.main_arg0) = m ((c.tc : Thread Cert.SwvKernelIdeal.nD Cert.SwvKernelIdeal.τ).loc Cert.SwvKernelIdeal.main_arg0)
      ∧ r.2.mem ((c.tc : Thread Cert.SwvKernelIdeal.nD Cert.SwvKernelIdeal.τ).loc Cert.SwvKernelIdeal.main_arg1) = m ((c.tc : Thread Cert.SwvKernelIdeal.nD Cert.SwvKernelIdeal.τ).loc Cert.SwvKernelIdeal.main_arg1)
      ∧ r.2.mem ((c.tc : Thread Cert.SwvKernelIdeal.nD Cert.SwvKernelIdeal.τ).loc Cert.SwvKernelIdeal.main_arg2) = m ((c.tc : Thread Cert.SwvKernelIdeal.nD Cert.SwvKernelIdeal.τ).loc Cert.SwvKernelIdeal.main_arg2))
      ∧ r.2.sem = fun _ => 0)

def quiescent_SwvRefIdeal [hSwvRefIdeal : Cert.SwvRefIdeal.Facts] : Prop :=
  ∀ (m : (ℓ : Loc Cert.SwvRefIdeal.nD Cert.SwvRefIdeal.τ Cert.SwvRefIdeal.sig) → Buf (Elt Ideal) ℓ) (g : Dev Cert.SwvRefIdeal.nD → PrngReg), Pre_SwvRefIdeal m →
    θ_run (Cert.SwvRefIdeal.defs (F := Ideal)) (onTc (τ := Cert.SwvRefIdeal.τ) (Cert.SwvRefIdeal.main (F := Ideal))) ⟨m, fun _ => 0, g⟩ (fun r => (∀ c : Dev Cert.SwvRefIdeal.nD,
      r.2.mem ((c.tc : Thread Cert.SwvRefIdeal.nD Cert.SwvRefIdeal.τ).loc Cert.SwvRefIdeal.main_arg0) = m ((c.tc : Thread Cert.SwvRefIdeal.nD Cert.SwvRefIdeal.τ).loc Cert.SwvRefIdeal.main_arg0)
      ∧ r.2.mem ((c.tc : Thread Cert.SwvRefIdeal.nD Cert.SwvRefIdeal.τ).loc Cert.SwvRefIdeal.main_arg1) = m ((c.tc : Thread Cert.SwvRefIdeal.nD Cert.SwvRefIdeal.τ).loc Cert.SwvRefIdeal.main_arg1)
      ∧ r.2.mem ((c.tc : Thread Cert.SwvRefIdeal.nD Cert.SwvRefIdeal.τ).loc Cert.SwvRefIdeal.main_arg2) = m ((c.tc : Thread Cert.SwvRefIdeal.nD Cert.SwvRefIdeal.τ).loc Cert.SwvRefIdeal.main_arg2))
      ∧ r.2.sem = fun _ => 0)

def quiescent_SwvRefIdeal_pre_swv_finite [hSwvRefIdeal : Cert.SwvRefIdeal.Facts] [hPre_swv_finite : Cert.Pre_swv_finite.Facts] : Prop :=
  ∀ (m : (ℓ : Loc Cert.SwvRefIdeal.nD Cert.SwvRefIdeal.τ Cert.SwvRefIdeal.sig) → Buf (Elt Ideal) ℓ) (g : Dev Cert.SwvRefIdeal.nD → PrngReg), Pre_SwvRefIdeal_swv_finite m →
    θ_run (Cert.SwvRefIdeal.defs (F := Ideal)) (onTc (τ := Cert.SwvRefIdeal.τ) (Cert.SwvRefIdeal.main (F := Ideal))) ⟨m, fun _ => 0, g⟩ (fun r => (∀ c : Dev Cert.SwvRefIdeal.nD,
      r.2.mem ((c.tc : Thread Cert.SwvRefIdeal.nD Cert.SwvRefIdeal.τ).loc Cert.SwvRefIdeal.main_arg0) = m ((c.tc : Thread Cert.SwvRefIdeal.nD Cert.SwvRefIdeal.τ).loc Cert.SwvRefIdeal.main_arg0)
      ∧ r.2.mem ((c.tc : Thread Cert.SwvRefIdeal.nD Cert.SwvRefIdeal.τ).loc Cert.SwvRefIdeal.main_arg1) = m ((c.tc : Thread Cert.SwvRefIdeal.nD Cert.SwvRefIdeal.τ).loc Cert.SwvRefIdeal.main_arg1)
      ∧ r.2.mem ((c.tc : Thread Cert.SwvRefIdeal.nD Cert.SwvRefIdeal.τ).loc Cert.SwvRefIdeal.main_arg2) = m ((c.tc : Thread Cert.SwvRefIdeal.nD Cert.SwvRefIdeal.τ).loc Cert.SwvRefIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_BoundsKernel [hBoundsKernel : Cert.BoundsKernel.Facts] : Prop :=
  ∀ (m : (ℓ : Loc Cert.BoundsKernel.nD Cert.BoundsKernel.τ Cert.BoundsKernel.sig) → Buf (Elt Bits) ℓ) (g : Dev Cert.BoundsKernel.nD → PrngReg), Pre_BoundsKernel m →
    θ_run (Cert.BoundsKernel.defs (F := Bits)) (onTc (τ := Cert.BoundsKernel.τ) (Cert.BoundsKernel.main (F := Bits))) ⟨m, fun _ => 0, g⟩ (fun r => (∀ c : Dev Cert.BoundsKernel.nD,
      r.2.mem ((c.tc : Thread Cert.BoundsKernel.nD Cert.BoundsKernel.τ).loc Cert.BoundsKernel.main_arg0) = m ((c.tc : Thread Cert.BoundsKernel.nD Cert.BoundsKernel.τ).loc Cert.BoundsKernel.main_arg0))
      ∧ r.2.sem = fun _ => 0)

def quiescent_BoundsKernelIdeal [hBoundsKernelIdeal : Cert.BoundsKernelIdeal.Facts] : Prop :=
  ∀ (m : (ℓ : Loc Cert.BoundsKernelIdeal.nD Cert.BoundsKernelIdeal.τ Cert.BoundsKernelIdeal.sig) → Buf (Elt Ideal) ℓ) (g : Dev Cert.BoundsKernelIdeal.nD → PrngReg), Pre_BoundsKernelIdeal m →
    θ_run (Cert.BoundsKernelIdeal.defs (F := Ideal)) (onTc (τ := Cert.BoundsKernelIdeal.τ) (Cert.BoundsKernelIdeal.main (F := Ideal))) ⟨m, fun _ => 0, g⟩ (fun r => (∀ c : Dev Cert.BoundsKernelIdeal.nD,
      r.2.mem ((c.tc : Thread Cert.BoundsKernelIdeal.nD Cert.BoundsKernelIdeal.τ).loc Cert.BoundsKernelIdeal.main_arg0) = m ((c.tc : Thread Cert.BoundsKernelIdeal.nD Cert.BoundsKernelIdeal.τ).loc Cert.BoundsKernelIdeal.main_arg0))
      ∧ r.2.sem = fun _ => 0)

def quiescent_BoundsRefIdeal [hBoundsRefIdeal : Cert.BoundsRefIdeal.Facts] : Prop :=
  ∀ (m : (ℓ : Loc Cert.BoundsRefIdeal.nD Cert.BoundsRefIdeal.τ Cert.BoundsRefIdeal.sig) → Buf (Elt Ideal) ℓ) (g : Dev Cert.BoundsRefIdeal.nD → PrngReg), Pre_BoundsRefIdeal m →
    θ_run (Cert.BoundsRefIdeal.defs (F := Ideal)) (onTc (τ := Cert.BoundsRefIdeal.τ) (Cert.BoundsRefIdeal.main (F := Ideal))) ⟨m, fun _ => 0, g⟩ (fun r => (∀ c : Dev Cert.BoundsRefIdeal.nD,
      r.2.mem ((c.tc : Thread Cert.BoundsRefIdeal.nD Cert.BoundsRefIdeal.τ).loc Cert.BoundsRefIdeal.main_arg0) = m ((c.tc : Thread Cert.BoundsRefIdeal.nD Cert.BoundsRefIdeal.τ).loc Cert.BoundsRefIdeal.main_arg0))
      ∧ r.2.sem = fun _ => 0)

def quiescent_RmsKernel [hRmsKernel : Cert.RmsKernel.Facts] : Prop :=
  ∀ (m : (ℓ : Loc Cert.RmsKernel.nD Cert.RmsKernel.τ Cert.RmsKernel.sig) → Buf (Elt Bits) ℓ) (g : Dev Cert.RmsKernel.nD → PrngReg), Pre_RmsKernel m →
    θ_run (Cert.RmsKernel.defs (F := Bits)) (onTc (τ := Cert.RmsKernel.τ) (Cert.RmsKernel.main (F := Bits))) ⟨m, fun _ => 0, g⟩ (fun r => (∀ c : Dev Cert.RmsKernel.nD,
      r.2.mem ((c.tc : Thread Cert.RmsKernel.nD Cert.RmsKernel.τ).loc Cert.RmsKernel.main_arg0) = m ((c.tc : Thread Cert.RmsKernel.nD Cert.RmsKernel.τ).loc Cert.RmsKernel.main_arg0)
      ∧ r.2.mem ((c.tc : Thread Cert.RmsKernel.nD Cert.RmsKernel.τ).loc Cert.RmsKernel.main_arg1) = m ((c.tc : Thread Cert.RmsKernel.nD Cert.RmsKernel.τ).loc Cert.RmsKernel.main_arg1))
      ∧ r.2.sem = fun _ => 0)

def quiescent_RmsKernelIdeal [hRmsKernelIdeal : Cert.RmsKernelIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg), Pre_RmsKernelIdeal m →
    θ_run (Cert.RmsKernelIdeal.defs (F := Ideal)) (onTc (τ := Cert.RmsKernelIdeal.τ) (Cert.RmsKernelIdeal.main (F := Ideal))) ⟨m, fun _ => 0, g⟩ (fun r => (∀ c : Dev Cert.RmsKernelIdeal.nD,
      r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
      ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_WguKernel [hWguKernel : Cert.WguKernel.Facts] : Prop :=
  ∀ (m : (ℓ : Loc Cert.WguKernel.nD Cert.WguKernel.τ Cert.WguKernel.sig) → Buf (Elt Bits) ℓ) (g : Dev Cert.WguKernel.nD → PrngReg), Pre_WguKernel m →
    θ_run (Cert.WguKernel.defs (F := Bits)) (onTc (τ := Cert.WguKernel.τ) (Cert.WguKernel.main (F := Bits))) ⟨m, fun _ => 0, g⟩ (fun r => (∀ c : Dev Cert.WguKernel.nD,
      r.2.mem ((c.tc : Thread Cert.WguKernel.nD Cert.WguKernel.τ).loc Cert.WguKernel.main_arg0) = m ((c.tc : Thread Cert.WguKernel.nD Cert.WguKernel.τ).loc Cert.WguKernel.main_arg0)
      ∧ r.2.mem ((c.tc : Thread Cert.WguKernel.nD Cert.WguKernel.τ).loc Cert.WguKernel.main_arg1) = m ((c.tc : Thread Cert.WguKernel.nD Cert.WguKernel.τ).loc Cert.WguKernel.main_arg1)
      ∧ r.2.mem ((c.tc : Thread Cert.WguKernel.nD Cert.WguKernel.τ).loc Cert.WguKernel.main_arg2) = m ((c.tc : Thread Cert.WguKernel.nD Cert.WguKernel.τ).loc Cert.WguKernel.main_arg2))
      ∧ r.2.sem = fun _ => 0)

def quiescent_WguKernelIdeal [hWguKernelIdeal : Cert.WguKernelIdeal.Facts] : Prop :=
  ∀ (m : (ℓ : Loc Cert.WguKernelIdeal.nD Cert.WguKernelIdeal.τ Cert.WguKernelIdeal.sig) → Buf (Elt Ideal) ℓ) (g : Dev Cert.WguKernelIdeal.nD → PrngReg), Pre_WguKernelIdeal m →
    θ_run (Cert.WguKernelIdeal.defs (F := Ideal)) (onTc (τ := Cert.WguKernelIdeal.τ) (Cert.WguKernelIdeal.main (F := Ideal))) ⟨m, fun _ => 0, g⟩ (fun r => (∀ c : Dev Cert.WguKernelIdeal.nD,
      r.2.mem ((c.tc : Thread Cert.WguKernelIdeal.nD Cert.WguKernelIdeal.τ).loc Cert.WguKernelIdeal.main_arg0) = m ((c.tc : Thread Cert.WguKernelIdeal.nD Cert.WguKernelIdeal.τ).loc Cert.WguKernelIdeal.main_arg0)
      ∧ r.2.mem ((c.tc : Thread Cert.WguKernelIdeal.nD Cert.WguKernelIdeal.τ).loc Cert.WguKernelIdeal.main_arg1) = m ((c.tc : Thread Cert.WguKernelIdeal.nD Cert.WguKernelIdeal.τ).loc Cert.WguKernelIdeal.main_arg1)
      ∧ r.2.mem ((c.tc : Thread Cert.WguKernelIdeal.nD Cert.WguKernelIdeal.τ).loc Cert.WguKernelIdeal.main_arg2) = m ((c.tc : Thread Cert.WguKernelIdeal.nD Cert.WguKernelIdeal.τ).loc Cert.WguKernelIdeal.main_arg2))
      ∧ r.2.sem = fun _ => 0)

def quiescent_WguRefIdeal [hWguRefIdeal : Cert.WguRefIdeal.Facts] : Prop :=
  ∀ (m : (ℓ : Loc Cert.WguRefIdeal.nD Cert.WguRefIdeal.τ Cert.WguRefIdeal.sig) → Buf (Elt Ideal) ℓ) (g : Dev Cert.WguRefIdeal.nD → PrngReg), Pre_WguRefIdeal m →
    θ_run (Cert.WguRefIdeal.defs (F := Ideal)) (onTc (τ := Cert.WguRefIdeal.τ) (Cert.WguRefIdeal.main (F := Ideal))) ⟨m, fun _ => 0, g⟩ (fun r => (∀ c : Dev Cert.WguRefIdeal.nD,
      r.2.mem ((c.tc : Thread Cert.WguRefIdeal.nD Cert.WguRefIdeal.τ).loc Cert.WguRefIdeal.main_arg0) = m ((c.tc : Thread Cert.WguRefIdeal.nD Cert.WguRefIdeal.τ).loc Cert.WguRefIdeal.main_arg0)
      ∧ r.2.mem ((c.tc : Thread Cert.WguRefIdeal.nD Cert.WguRefIdeal.τ).loc Cert.WguRefIdeal.main_arg1) = m ((c.tc : Thread Cert.WguRefIdeal.nD Cert.WguRefIdeal.τ).loc Cert.WguRefIdeal.main_arg1)
      ∧ r.2.mem ((c.tc : Thread Cert.WguRefIdeal.nD Cert.WguRefIdeal.τ).loc Cert.WguRefIdeal.main_arg2) = m ((c.tc : Thread Cert.WguRefIdeal.nD Cert.WguRefIdeal.τ).loc Cert.WguRefIdeal.main_arg2))
      ∧ r.2.sem = fun _ => 0)

def quiescent_SlotsKernel [hSlotsKernel : Cert.SlotsKernel.Facts] : Prop :=
  ∀ (m : (ℓ : Loc Cert.SlotsKernel.nD Cert.SlotsKernel.τ Cert.SlotsKernel.sig) → Buf (Elt Bits) ℓ) (g : Dev Cert.SlotsKernel.nD → PrngReg), Pre_SlotsKernel m →
    θ_run (Cert.SlotsKernel.defs (F := Bits)) (onTc (τ := Cert.SlotsKernel.τ) (Cert.SlotsKernel.main (F := Bits))) ⟨m, fun _ => 0, g⟩ (fun r => (∀ c : Dev Cert.SlotsKernel.nD,
      r.2.mem ((c.tc : Thread Cert.SlotsKernel.nD Cert.SlotsKernel.τ).loc Cert.SlotsKernel.main_arg0) = m ((c.tc : Thread Cert.SlotsKernel.nD Cert.SlotsKernel.τ).loc Cert.SlotsKernel.main_arg0))
      ∧ r.2.sem = fun _ => 0)

def quiescent_SlotsKernelIdeal [hSlotsKernelIdeal : Cert.SlotsKernelIdeal.Facts] : Prop :=
  ∀ (m : (ℓ : Loc Cert.SlotsKernelIdeal.nD Cert.SlotsKernelIdeal.τ Cert.SlotsKernelIdeal.sig) → Buf (Elt Ideal) ℓ) (g : Dev Cert.SlotsKernelIdeal.nD → PrngReg), Pre_SlotsKernelIdeal m →
    θ_run (Cert.SlotsKernelIdeal.defs (F := Ideal)) (onTc (τ := Cert.SlotsKernelIdeal.τ) (Cert.SlotsKernelIdeal.main (F := Ideal))) ⟨m, fun _ => 0, g⟩ (fun r => (∀ c : Dev Cert.SlotsKernelIdeal.nD,
      r.2.mem ((c.tc : Thread Cert.SlotsKernelIdeal.nD Cert.SlotsKernelIdeal.τ).loc Cert.SlotsKernelIdeal.main_arg0) = m ((c.tc : Thread Cert.SlotsKernelIdeal.nD Cert.SlotsKernelIdeal.τ).loc Cert.SlotsKernelIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_HgvKernel [hHgvKernel : Cert.HgvKernel.Facts] : Prop :=
  ∀ (m : (ℓ : Loc Cert.HgvKernel.nD Cert.HgvKernel.τ Cert.HgvKernel.sig) → Buf (Elt Bits) ℓ) (g : Dev Cert.HgvKernel.nD → PrngReg), Pre_HgvKernel m →
    θ_run (Cert.HgvKernel.defs (F := Bits)) (onTc (τ := Cert.HgvKernel.τ) (Cert.HgvKernel.main (F := Bits))) ⟨m, fun _ => 0, g⟩ (fun r => (∀ c : Dev Cert.HgvKernel.nD,
      r.2.mem ((c.tc : Thread Cert.HgvKernel.nD Cert.HgvKernel.τ).loc Cert.HgvKernel.main_arg0) = m ((c.tc : Thread Cert.HgvKernel.nD Cert.HgvKernel.τ).loc Cert.HgvKernel.main_arg0)
      ∧ r.2.mem ((c.tc : Thread Cert.HgvKernel.nD Cert.HgvKernel.τ).loc Cert.HgvKernel.main_arg1) = m ((c.tc : Thread Cert.HgvKernel.nD Cert.HgvKernel.τ).loc Cert.HgvKernel.main_arg1)
      ∧ r.2.mem ((c.tc : Thread Cert.HgvKernel.nD Cert.HgvKernel.τ).loc Cert.HgvKernel.main_arg2) = m ((c.tc : Thread Cert.HgvKernel.nD Cert.HgvKernel.τ).loc Cert.HgvKernel.main_arg2))
      ∧ r.2.sem = fun _ => 0)

def quiescent_HgvKernelIdeal [hHgvKernelIdeal : Cert.HgvKernelIdeal.Facts] : Prop :=
  ∀ (m : (ℓ : Loc Cert.HgvKernelIdeal.nD Cert.HgvKernelIdeal.τ Cert.HgvKernelIdeal.sig) → Buf (Elt Ideal) ℓ) (g : Dev Cert.HgvKernelIdeal.nD → PrngReg), Pre_HgvKernelIdeal m →
    θ_run (Cert.HgvKernelIdeal.defs (F := Ideal)) (onTc (τ := Cert.HgvKernelIdeal.τ) (Cert.HgvKernelIdeal.main (F := Ideal))) ⟨m, fun _ => 0, g⟩ (fun r => (∀ c : Dev Cert.HgvKernelIdeal.nD,
      r.2.mem ((c.tc : Thread Cert.HgvKernelIdeal.nD Cert.HgvKernelIdeal.τ).loc Cert.HgvKernelIdeal.main_arg0) = m ((c.tc : Thread Cert.HgvKernelIdeal.nD Cert.HgvKernelIdeal.τ).loc Cert.HgvKernelIdeal.main_arg0)
      ∧ r.2.mem ((c.tc : Thread Cert.HgvKernelIdeal.nD Cert.HgvKernelIdeal.τ).loc Cert.HgvKernelIdeal.main_arg1) = m ((c.tc : Thread Cert.HgvKernelIdeal.nD Cert.HgvKernelIdeal.τ).loc Cert.HgvKernelIdeal.main_arg1)
      ∧ r.2.mem ((c.tc : Thread Cert.HgvKernelIdeal.nD Cert.HgvKernelIdeal.τ).loc Cert.HgvKernelIdeal.main_arg2) = m ((c.tc : Thread Cert.HgvKernelIdeal.nD Cert.HgvKernelIdeal.τ).loc Cert.HgvKernelIdeal.main_arg2))
      ∧ r.2.sem = fun _ => 0)

def quiescent_HgvKernelIdeal_pre_hgv_finite [hHgvKernelIdeal : Cert.HgvKernelIdeal.Facts] [hPre_hgv_finite : Cert.Pre_hgv_finite.Facts] : Prop :=
  ∀ (m : (ℓ : Loc Cert.HgvKernelIdeal.nD Cert.HgvKernelIdeal.τ Cert.HgvKernelIdeal.sig) → Buf (Elt Ideal) ℓ) (g : Dev Cert.HgvKernelIdeal.nD → PrngReg), Pre_HgvKernelIdeal_hgv_finite m →
    θ_run (Cert.HgvKernelIdeal.defs (F := Ideal)) (onTc (τ := Cert.HgvKernelIdeal.τ) (Cert.HgvKernelIdeal.main (F := Ideal))) ⟨m, fun _ => 0, g⟩ (fun r => (∀ c : Dev Cert.HgvKernelIdeal.nD,
      r.2.mem ((c.tc : Thread Cert.HgvKernelIdeal.nD Cert.HgvKernelIdeal.τ).loc Cert.HgvKernelIdeal.main_arg0) = m ((c.tc : Thread Cert.HgvKernelIdeal.nD Cert.HgvKernelIdeal.τ).loc Cert.HgvKernelIdeal.main_arg0)
      ∧ r.2.mem ((c.tc : Thread Cert.HgvKernelIdeal.nD Cert.HgvKernelIdeal.τ).loc Cert.HgvKernelIdeal.main_arg1) = m ((c.tc : Thread Cert.HgvKernelIdeal.nD Cert.HgvKernelIdeal.τ).loc Cert.HgvKernelIdeal.main_arg1)
      ∧ r.2.mem ((c.tc : Thread Cert.HgvKernelIdeal.nD Cert.HgvKernelIdeal.τ).loc Cert.HgvKernelIdeal.main_arg2) = m ((c.tc : Thread Cert.HgvKernelIdeal.nD Cert.HgvKernelIdeal.τ).loc Cert.HgvKernelIdeal.main_arg2))
      ∧ r.2.sem = fun _ => 0)

def quiescent_HgvRefIdeal [hHgvRefIdeal : Cert.HgvRefIdeal.Facts] : Prop :=
  ∀ (m : (ℓ : Loc Cert.HgvRefIdeal.nD Cert.HgvRefIdeal.τ Cert.HgvRefIdeal.sig) → Buf (Elt Ideal) ℓ) (g : Dev Cert.HgvRefIdeal.nD → PrngReg), Pre_HgvRefIdeal m →
    θ_run (Cert.HgvRefIdeal.defs (F := Ideal)) (onTc (τ := Cert.HgvRefIdeal.τ) (Cert.HgvRefIdeal.main (F := Ideal))) ⟨m, fun _ => 0, g⟩ (fun r => (∀ c : Dev Cert.HgvRefIdeal.nD,
      r.2.mem ((c.tc : Thread Cert.HgvRefIdeal.nD Cert.HgvRefIdeal.τ).loc Cert.HgvRefIdeal.main_arg0) = m ((c.tc : Thread Cert.HgvRefIdeal.nD Cert.HgvRefIdeal.τ).loc Cert.HgvRefIdeal.main_arg0)
      ∧ r.2.mem ((c.tc : Thread Cert.HgvRefIdeal.nD Cert.HgvRefIdeal.τ).loc Cert.HgvRefIdeal.main_arg1) = m ((c.tc : Thread Cert.HgvRefIdeal.nD Cert.HgvRefIdeal.τ).loc Cert.HgvRefIdeal.main_arg1)
      ∧ r.2.mem ((c.tc : Thread Cert.HgvRefIdeal.nD Cert.HgvRefIdeal.τ).loc Cert.HgvRefIdeal.main_arg2) = m ((c.tc : Thread Cert.HgvRefIdeal.nD Cert.HgvRefIdeal.τ).loc Cert.HgvRefIdeal.main_arg2))
      ∧ r.2.sem = fun _ => 0)

def quiescent_HgvRefIdeal_pre_hgv_finite [hHgvRefIdeal : Cert.HgvRefIdeal.Facts] [hPre_hgv_finite : Cert.Pre_hgv_finite.Facts] : Prop :=
  ∀ (m : (ℓ : Loc Cert.HgvRefIdeal.nD Cert.HgvRefIdeal.τ Cert.HgvRefIdeal.sig) → Buf (Elt Ideal) ℓ) (g : Dev Cert.HgvRefIdeal.nD → PrngReg), Pre_HgvRefIdeal_hgv_finite m →
    θ_run (Cert.HgvRefIdeal.defs (F := Ideal)) (onTc (τ := Cert.HgvRefIdeal.τ) (Cert.HgvRefIdeal.main (F := Ideal))) ⟨m, fun _ => 0, g⟩ (fun r => (∀ c : Dev Cert.HgvRefIdeal.nD,
      r.2.mem ((c.tc : Thread Cert.HgvRefIdeal.nD Cert.HgvRefIdeal.τ).loc Cert.HgvRefIdeal.main_arg0) = m ((c.tc : Thread Cert.HgvRefIdeal.nD Cert.HgvRefIdeal.τ).loc Cert.HgvRefIdeal.main_arg0)
      ∧ r.2.mem ((c.tc : Thread Cert.HgvRefIdeal.nD Cert.HgvRefIdeal.τ).loc Cert.HgvRefIdeal.main_arg1) = m ((c.tc : Thread Cert.HgvRefIdeal.nD Cert.HgvRefIdeal.τ).loc Cert.HgvRefIdeal.main_arg1)
      ∧ r.2.mem ((c.tc : Thread Cert.HgvRefIdeal.nD Cert.HgvRefIdeal.τ).loc Cert.HgvRefIdeal.main_arg2) = m ((c.tc : Thread Cert.HgvRefIdeal.nD Cert.HgvRefIdeal.τ).loc Cert.HgvRefIdeal.main_arg2))
      ∧ r.2.sem = fun _ => 0)

def quiescent_HgsKernel [hHgsKernel : Cert.HgsKernel.Facts] : Prop :=
  ∀ (m : (ℓ : Loc Cert.HgsKernel.nD Cert.HgsKernel.τ Cert.HgsKernel.sig) → Buf (Elt Bits) ℓ) (g : Dev Cert.HgsKernel.nD → PrngReg), Pre_HgsKernel m →
    θ_run (Cert.HgsKernel.defs (F := Bits)) (onTc (τ := Cert.HgsKernel.τ) (Cert.HgsKernel.main (F := Bits))) ⟨m, fun _ => 0, g⟩ (fun r => (∀ c : Dev Cert.HgsKernel.nD,
      r.2.mem ((c.tc : Thread Cert.HgsKernel.nD Cert.HgsKernel.τ).loc Cert.HgsKernel.main_arg0) = m ((c.tc : Thread Cert.HgsKernel.nD Cert.HgsKernel.τ).loc Cert.HgsKernel.main_arg0)
      ∧ r.2.mem ((c.tc : Thread Cert.HgsKernel.nD Cert.HgsKernel.τ).loc Cert.HgsKernel.main_arg1) = m ((c.tc : Thread Cert.HgsKernel.nD Cert.HgsKernel.τ).loc Cert.HgsKernel.main_arg1)
      ∧ r.2.mem ((c.tc : Thread Cert.HgsKernel.nD Cert.HgsKernel.τ).loc Cert.HgsKernel.main_arg2) = m ((c.tc : Thread Cert.HgsKernel.nD Cert.HgsKernel.τ).loc Cert.HgsKernel.main_arg2))
      ∧ r.2.sem = fun _ => 0)

def quiescent_HgsKernelIdeal [hHgsKernelIdeal : Cert.HgsKernelIdeal.Facts] : Prop :=
  ∀ (m : (ℓ : Loc Cert.HgsKernelIdeal.nD Cert.HgsKernelIdeal.τ Cert.HgsKernelIdeal.sig) → Buf (Elt Ideal) ℓ) (g : Dev Cert.HgsKernelIdeal.nD → PrngReg), Pre_HgsKernelIdeal m →
    θ_run (Cert.HgsKernelIdeal.defs (F := Ideal)) (onTc (τ := Cert.HgsKernelIdeal.τ) (Cert.HgsKernelIdeal.main (F := Ideal))) ⟨m, fun _ => 0, g⟩ (fun r => (∀ c : Dev Cert.HgsKernelIdeal.nD,
      r.2.mem ((c.tc : Thread Cert.HgsKernelIdeal.nD Cert.HgsKernelIdeal.τ).loc Cert.HgsKernelIdeal.main_arg0) = m ((c.tc : Thread Cert.HgsKernelIdeal.nD Cert.HgsKernelIdeal.τ).loc Cert.HgsKernelIdeal.main_arg0)
      ∧ r.2.mem ((c.tc : Thread Cert.HgsKernelIdeal.nD Cert.HgsKernelIdeal.τ).loc Cert.HgsKernelIdeal.main_arg1) = m ((c.tc : Thread Cert.HgsKernelIdeal.nD Cert.HgsKernelIdeal.τ).loc Cert.HgsKernelIdeal.main_arg1)
      ∧ r.2.mem ((c.tc : Thread Cert.HgsKernelIdeal.nD Cert.HgsKernelIdeal.τ).loc Cert.HgsKernelIdeal.main_arg2) = m ((c.tc : Thread Cert.HgsKernelIdeal.nD Cert.HgsKernelIdeal.τ).loc Cert.HgsKernelIdeal.main_arg2))
      ∧ r.2.sem = fun _ => 0)

def quiescent_HgsKernelIdeal_pre_hgs_finite [hHgsKernelIdeal : Cert.HgsKernelIdeal.Facts] [hPre_hgs_finite : Cert.Pre_hgs_finite.Facts] : Prop :=
  ∀ (m : (ℓ : Loc Cert.HgsKernelIdeal.nD Cert.HgsKernelIdeal.τ Cert.HgsKernelIdeal.sig) → Buf (Elt Ideal) ℓ) (g : Dev Cert.HgsKernelIdeal.nD → PrngReg), Pre_HgsKernelIdeal_hgs_finite m →
    θ_run (Cert.HgsKernelIdeal.defs (F := Ideal)) (onTc (τ := Cert.HgsKernelIdeal.τ) (Cert.HgsKernelIdeal.main (F := Ideal))) ⟨m, fun _ => 0, g⟩ (fun r => (∀ c : Dev Cert.HgsKernelIdeal.nD,
      r.2.mem ((c.tc : Thread Cert.HgsKernelIdeal.nD Cert.HgsKernelIdeal.τ).loc Cert.HgsKernelIdeal.main_arg0) = m ((c.tc : Thread Cert.HgsKernelIdeal.nD Cert.HgsKernelIdeal.τ).loc Cert.HgsKernelIdeal.main_arg0)
      ∧ r.2.mem ((c.tc : Thread Cert.HgsKernelIdeal.nD Cert.HgsKernelIdeal.τ).loc Cert.HgsKernelIdeal.main_arg1) = m ((c.tc : Thread Cert.HgsKernelIdeal.nD Cert.HgsKernelIdeal.τ).loc Cert.HgsKernelIdeal.main_arg1)
      ∧ r.2.mem ((c.tc : Thread Cert.HgsKernelIdeal.nD Cert.HgsKernelIdeal.τ).loc Cert.HgsKernelIdeal.main_arg2) = m ((c.tc : Thread Cert.HgsKernelIdeal.nD Cert.HgsKernelIdeal.τ).loc Cert.HgsKernelIdeal.main_arg2))
      ∧ r.2.sem = fun _ => 0)

def quiescent_HgsRefIdeal [hHgsRefIdeal : Cert.HgsRefIdeal.Facts] : Prop :=
  ∀ (m : (ℓ : Loc Cert.HgsRefIdeal.nD Cert.HgsRefIdeal.τ Cert.HgsRefIdeal.sig) → Buf (Elt Ideal) ℓ) (g : Dev Cert.HgsRefIdeal.nD → PrngReg), Pre_HgsRefIdeal m →
    θ_run (Cert.HgsRefIdeal.defs (F := Ideal)) (onTc (τ := Cert.HgsRefIdeal.τ) (Cert.HgsRefIdeal.main (F := Ideal))) ⟨m, fun _ => 0, g⟩ (fun r => (∀ c : Dev Cert.HgsRefIdeal.nD,
      r.2.mem ((c.tc : Thread Cert.HgsRefIdeal.nD Cert.HgsRefIdeal.τ).loc Cert.HgsRefIdeal.main_arg0) = m ((c.tc : Thread Cert.HgsRefIdeal.nD Cert.HgsRefIdeal.τ).loc Cert.HgsRefIdeal.main_arg0)
      ∧ r.2.mem ((c.tc : Thread Cert.HgsRefIdeal.nD Cert.HgsRefIdeal.τ).loc Cert.HgsRefIdeal.main_arg1) = m ((c.tc : Thread Cert.HgsRefIdeal.nD Cert.HgsRefIdeal.τ).loc Cert.HgsRefIdeal.main_arg1)
      ∧ r.2.mem ((c.tc : Thread Cert.HgsRefIdeal.nD Cert.HgsRefIdeal.τ).loc Cert.HgsRefIdeal.main_arg2) = m ((c.tc : Thread Cert.HgsRefIdeal.nD Cert.HgsRefIdeal.τ).loc Cert.HgsRefIdeal.main_arg2))
      ∧ r.2.sem = fun _ => 0)

def quiescent_HgsRefIdeal_pre_hgs_finite [hHgsRefIdeal : Cert.HgsRefIdeal.Facts] [hPre_hgs_finite : Cert.Pre_hgs_finite.Facts] : Prop :=
  ∀ (m : (ℓ : Loc Cert.HgsRefIdeal.nD Cert.HgsRefIdeal.τ Cert.HgsRefIdeal.sig) → Buf (Elt Ideal) ℓ) (g : Dev Cert.HgsRefIdeal.nD → PrngReg), Pre_HgsRefIdeal_hgs_finite m →
    θ_run (Cert.HgsRefIdeal.defs (F := Ideal)) (onTc (τ := Cert.HgsRefIdeal.τ) (Cert.HgsRefIdeal.main (F := Ideal))) ⟨m, fun _ => 0, g⟩ (fun r => (∀ c : Dev Cert.HgsRefIdeal.nD,
      r.2.mem ((c.tc : Thread Cert.HgsRefIdeal.nD Cert.HgsRefIdeal.τ).loc Cert.HgsRefIdeal.main_arg0) = m ((c.tc : Thread Cert.HgsRefIdeal.nD Cert.HgsRefIdeal.τ).loc Cert.HgsRefIdeal.main_arg0)
      ∧ r.2.mem ((c.tc : Thread Cert.HgsRefIdeal.nD Cert.HgsRefIdeal.τ).loc Cert.HgsRefIdeal.main_arg1) = m ((c.tc : Thread Cert.HgsRefIdeal.nD Cert.HgsRefIdeal.τ).loc Cert.HgsRefIdeal.main_arg1)
      ∧ r.2.mem ((c.tc : Thread Cert.HgsRefIdeal.nD Cert.HgsRefIdeal.τ).loc Cert.HgsRefIdeal.main_arg2) = m ((c.tc : Thread Cert.HgsRefIdeal.nD Cert.HgsRefIdeal.τ).loc Cert.HgsRefIdeal.main_arg2))
      ∧ r.2.sem = fun _ => 0)

def quiescent_HgCall [hHgCall : Cert.HgCall.Facts] : Prop :=
  ∀ (m : (ℓ : Loc Cert.HgCall.nD Cert.HgCall.τ Cert.HgCall.sig) → Buf (Elt Bits) ℓ) (g : Dev Cert.HgCall.nD → PrngReg), Pre_HgCall m →
    θ_run (Cert.HgCall.defs (F := Bits)) (onTc (τ := Cert.HgCall.τ) (Cert.HgCall.main (F := Bits))) ⟨m, fun _ => 0, g⟩ (fun r => (∀ c : Dev Cert.HgCall.nD,
      r.2.mem ((c.tc : Thread Cert.HgCall.nD Cert.HgCall.τ).loc Cert.HgCall.main_arg0) = m ((c.tc : Thread Cert.HgCall.nD Cert.HgCall.τ).loc Cert.HgCall.main_arg0)
      ∧ r.2.mem ((c.tc : Thread Cert.HgCall.nD Cert.HgCall.τ).loc Cert.HgCall.main_arg1) = m ((c.tc : Thread Cert.HgCall.nD Cert.HgCall.τ).loc Cert.HgCall.main_arg1)
      ∧ r.2.mem ((c.tc : Thread Cert.HgCall.nD Cert.HgCall.τ).loc Cert.HgCall.main_arg2) = m ((c.tc : Thread Cert.HgCall.nD Cert.HgCall.τ).loc Cert.HgCall.main_arg2)
      ∧ r.2.mem ((c.tc : Thread Cert.HgCall.nD Cert.HgCall.τ).loc Cert.HgCall.main_arg3) = m ((c.tc : Thread Cert.HgCall.nD Cert.HgCall.τ).loc Cert.HgCall.main_arg3)
      ∧ r.2.mem ((c.tc : Thread Cert.HgCall.nD Cert.HgCall.τ).loc Cert.HgCall.main_arg4) = m ((c.tc : Thread Cert.HgCall.nD Cert.HgCall.τ).loc Cert.HgCall.main_arg4)
      ∧ r.2.mem ((c.tc : Thread Cert.HgCall.nD Cert.HgCall.τ).loc Cert.HgCall.main_arg5) = m ((c.tc : Thread Cert.HgCall.nD Cert.HgCall.τ).loc Cert.HgCall.main_arg5)
      ∧ r.2.mem ((c.tc : Thread Cert.HgCall.nD Cert.HgCall.τ).loc Cert.HgCall.main_arg6) = m ((c.tc : Thread Cert.HgCall.nD Cert.HgCall.τ).loc Cert.HgCall.main_arg6)
      ∧ r.2.mem ((c.tc : Thread Cert.HgCall.nD Cert.HgCall.τ).loc Cert.HgCall.main_arg7) = m ((c.tc : Thread Cert.HgCall.nD Cert.HgCall.τ).loc Cert.HgCall.main_arg7))
      ∧ r.2.sem = fun _ => 0)

def quiescent_HgCallIdeal [hHgCallIdeal : Cert.HgCallIdeal.Facts] : Prop :=
  ∀ (m : (ℓ : Loc Cert.HgCallIdeal.nD Cert.HgCallIdeal.τ Cert.HgCallIdeal.sig) → Buf (Elt Ideal) ℓ) (g : Dev Cert.HgCallIdeal.nD → PrngReg), Pre_HgCallIdeal m →
    θ_run (Cert.HgCallIdeal.defs (F := Ideal)) (onTc (τ := Cert.HgCallIdeal.τ) (Cert.HgCallIdeal.main (F := Ideal))) ⟨m, fun _ => 0, g⟩ (fun r => (∀ c : Dev Cert.HgCallIdeal.nD,
      r.2.mem ((c.tc : Thread Cert.HgCallIdeal.nD Cert.HgCallIdeal.τ).loc Cert.HgCallIdeal.main_arg0) = m ((c.tc : Thread Cert.HgCallIdeal.nD Cert.HgCallIdeal.τ).loc Cert.HgCallIdeal.main_arg0)
      ∧ r.2.mem ((c.tc : Thread Cert.HgCallIdeal.nD Cert.HgCallIdeal.τ).loc Cert.HgCallIdeal.main_arg1) = m ((c.tc : Thread Cert.HgCallIdeal.nD Cert.HgCallIdeal.τ).loc Cert.HgCallIdeal.main_arg1)
      ∧ r.2.mem ((c.tc : Thread Cert.HgCallIdeal.nD Cert.HgCallIdeal.τ).loc Cert.HgCallIdeal.main_arg2) = m ((c.tc : Thread Cert.HgCallIdeal.nD Cert.HgCallIdeal.τ).loc Cert.HgCallIdeal.main_arg2)
      ∧ r.2.mem ((c.tc : Thread Cert.HgCallIdeal.nD Cert.HgCallIdeal.τ).loc Cert.HgCallIdeal.main_arg3) = m ((c.tc : Thread Cert.HgCallIdeal.nD Cert.HgCallIdeal.τ).loc Cert.HgCallIdeal.main_arg3)
      ∧ r.2.mem ((c.tc : Thread Cert.HgCallIdeal.nD Cert.HgCallIdeal.τ).loc Cert.HgCallIdeal.main_arg4) = m ((c.tc : Thread Cert.HgCallIdeal.nD Cert.HgCallIdeal.τ).loc Cert.HgCallIdeal.main_arg4)
      ∧ r.2.mem ((c.tc : Thread Cert.HgCallIdeal.nD Cert.HgCallIdeal.τ).loc Cert.HgCallIdeal.main_arg5) = m ((c.tc : Thread Cert.HgCallIdeal.nD Cert.HgCallIdeal.τ).loc Cert.HgCallIdeal.main_arg5)
      ∧ r.2.mem ((c.tc : Thread Cert.HgCallIdeal.nD Cert.HgCallIdeal.τ).loc Cert.HgCallIdeal.main_arg6) = m ((c.tc : Thread Cert.HgCallIdeal.nD Cert.HgCallIdeal.τ).loc Cert.HgCallIdeal.main_arg6)
      ∧ r.2.mem ((c.tc : Thread Cert.HgCallIdeal.nD Cert.HgCallIdeal.τ).loc Cert.HgCallIdeal.main_arg7) = m ((c.tc : Thread Cert.HgCallIdeal.nD Cert.HgCallIdeal.τ).loc Cert.HgCallIdeal.main_arg7))
      ∧ r.2.sem = fun _ => 0)

def preserves_FfnKernel_FfnKernelIdeal : Prop :=
  True

def algebraic_FfnKernelIdeal_FfnRefIdeal_pre_ffn_finite [hFfnKernelIdeal : Cert.FfnKernelIdeal.Facts] [hFfnRefIdeal : Cert.FfnRefIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnKernelIdeal_ffn_finite m →
    (∀ c : Dev Cert.FfnKernelIdeal.nD,
      m' ((c.tc : Thread Cert.FfnRefIdeal.nD Cert.FfnRefIdeal.τ).loc Cert.FfnRefIdeal.main_arg0) = m ((c.tc : Thread Cert.FfnKernelIdeal.nD Cert.FfnKernelIdeal.τ).loc Cert.FfnKernelIdeal.main_arg0)
      ∧ m' ((c.tc : Thread Cert.FfnRefIdeal.nD Cert.FfnRefIdeal.τ).loc Cert.FfnRefIdeal.main_arg1) = m ((c.tc : Thread Cert.FfnKernelIdeal.nD Cert.FfnKernelIdeal.τ).loc Cert.FfnKernelIdeal.main_arg1)
      ∧ m' ((c.tc : Thread Cert.FfnRefIdeal.nD Cert.FfnRefIdeal.τ).loc Cert.FfnRefIdeal.main_arg2) = m ((c.tc : Thread Cert.FfnKernelIdeal.nD Cert.FfnKernelIdeal.τ).loc Cert.FfnKernelIdeal.main_arg2)
      ∧ m' ((c.tc : Thread Cert.FfnRefIdeal.nD Cert.FfnRefIdeal.τ).loc Cert.FfnRefIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v10)) (v1 : (c : Dev Cert.FfnKernelIdeal.nD) → Buf (Elt Ideal) ((c.tc : Thread Cert.FfnKernelIdeal.nD Cert.FfnKernelIdeal.τ).loc Cert.FfnKernelIdeal.main_v13)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v10) = v0 c
          ∧ r.2.mem ((c.tc : Thread Cert.FfnKernelIdeal.nD Cert.FfnKernelIdeal.τ).loc Cert.FfnKernelIdeal.main_v13) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v7) = v0 c
          ∧ r.2.mem ((c.tc : Thread Cert.FfnRefIdeal.nD Cert.FfnRefIdeal.τ).loc Cert.FfnRefIdeal.main_v8) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_LbKernel_LbKernelIdeal : Prop :=
  True

def algebraic_LbKernelIdeal_LbRefIdeal_pre_lb_finite [hLbKernelIdeal : Cert.LbKernelIdeal.Facts] [hLbRefIdeal : Cert.LbRefIdeal.Facts] [hPre_lb_finite : Cert.Pre_lb_finite.Facts] : Prop :=
  ∀ (m : (ℓ : Loc Cert.LbKernelIdeal.nD Cert.LbKernelIdeal.τ Cert.LbKernelIdeal.sig) → Buf (Elt Ideal) ℓ) (g : Dev Cert.LbKernelIdeal.nD → PrngReg)
    (m' : (ℓ : Loc Cert.LbRefIdeal.nD Cert.LbRefIdeal.τ Cert.LbRefIdeal.sig) → Buf (Elt Ideal) ℓ) (g' : Dev Cert.LbRefIdeal.nD → PrngReg), Pre_LbKernelIdeal_lb_finite m →
    (∀ c : Dev Cert.LbKernelIdeal.nD,
      m' ((c.tc : Thread Cert.LbRefIdeal.nD Cert.LbRefIdeal.τ).loc Cert.LbRefIdeal.main_arg0) = m ((c.tc : Thread Cert.LbKernelIdeal.nD Cert.LbKernelIdeal.τ).loc Cert.LbKernelIdeal.main_arg0)
      ∧ m' ((c.tc : Thread Cert.LbRefIdeal.nD Cert.LbRefIdeal.τ).loc Cert.LbRefIdeal.main_arg1) = m ((c.tc : Thread Cert.LbKernelIdeal.nD Cert.LbKernelIdeal.τ).loc Cert.LbKernelIdeal.main_arg1)) →
    ∃ (v0 : (c : Dev Cert.LbKernelIdeal.nD) → Buf (Elt Ideal) ((c.tc : Thread Cert.LbKernelIdeal.nD Cert.LbKernelIdeal.τ).loc Cert.LbKernelIdeal.main_v0)),
      θ_run (Cert.LbKernelIdeal.defs (F := Ideal)) (onTc (τ := Cert.LbKernelIdeal.τ) (Cert.LbKernelIdeal.main (F := Ideal))) ⟨m, fun _ => 0, g⟩ (fun r => ∀ c : Dev Cert.LbKernelIdeal.nD,
          r.2.mem ((c.tc : Thread Cert.LbKernelIdeal.nD Cert.LbKernelIdeal.τ).loc Cert.LbKernelIdeal.main_v0) = v0 c
          ∧ r.2.mem ((c.tc : Thread Cert.LbKernelIdeal.nD Cert.LbKernelIdeal.τ).loc Cert.LbKernelIdeal.main_arg0) = m ((c.tc : Thread Cert.LbKernelIdeal.nD Cert.LbKernelIdeal.τ).loc Cert.LbKernelIdeal.main_arg0)
          ∧ r.2.mem ((c.tc : Thread Cert.LbKernelIdeal.nD Cert.LbKernelIdeal.τ).loc Cert.LbKernelIdeal.main_arg1) = m ((c.tc : Thread Cert.LbKernelIdeal.nD Cert.LbKernelIdeal.τ).loc Cert.LbKernelIdeal.main_arg1))
      ∧ θ_run (Cert.LbRefIdeal.defs (F := Ideal)) (onTc (τ := Cert.LbRefIdeal.τ) (Cert.LbRefIdeal.main (F := Ideal))) ⟨m', fun _ => 0, g'⟩ (fun r => ∀ c : Dev Cert.LbRefIdeal.nD,
          r.2.mem ((c.tc : Thread Cert.LbRefIdeal.nD Cert.LbRefIdeal.τ).loc Cert.LbRefIdeal.main_v50) = v0 c
          ∧ r.2.mem ((c.tc : Thread Cert.LbRefIdeal.nD Cert.LbRefIdeal.τ).loc Cert.LbRefIdeal.main_arg0) = m' ((c.tc : Thread Cert.LbRefIdeal.nD Cert.LbRefIdeal.τ).loc Cert.LbRefIdeal.main_arg0)
          ∧ r.2.mem ((c.tc : Thread Cert.LbRefIdeal.nD Cert.LbRefIdeal.τ).loc Cert.LbRefIdeal.main_arg1) = m' ((c.tc : Thread Cert.LbRefIdeal.nD Cert.LbRefIdeal.τ).loc Cert.LbRefIdeal.main_arg1))

def preserves_LossKernel_LossKernelIdeal : Prop :=
  True

def algebraic_LossKernelIdeal_LossRefIdeal [hLossKernelIdeal : Cert.LossKernelIdeal.Facts] [hLossRefIdeal : Cert.LossRefIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)
      ∧ m' ((c.tc : Thread Cert.LossRefIdeal.nD Cert.LossRefIdeal.τ).loc Cert.LossRefIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v32) = v1 c
          ∧ r.2.mem ((c.tc : Thread Cert.LossRefIdeal.nD Cert.LossRefIdeal.τ).loc Cert.LossRefIdeal.main_v49) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_MergeKernel_MergeKernelIdeal : Prop :=
  True

def algebraic_MergeKernelIdeal_MergeRefIdeal [hMergeKernelIdeal : Cert.MergeKernelIdeal.Facts] [hMergeRefIdeal : Cert.MergeRefIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeKernelIdeal m →
    (∀ c : Dev Cert.MergeKernelIdeal.nD,
      m' ((c.tc : Thread Cert.MergeRefIdeal.nD Cert.MergeRefIdeal.τ).loc Cert.MergeRefIdeal.main_arg0) = m ((c.tc : Thread Cert.MergeKernelIdeal.nD Cert.MergeKernelIdeal.τ).loc Cert.MergeKernelIdeal.main_arg0)
      ∧ m' ((c.tc : Thread Cert.MergeRefIdeal.nD Cert.MergeRefIdeal.τ).loc Cert.MergeRefIdeal.main_arg1) = m ((c.tc : Thread Cert.MergeKernelIdeal.nD Cert.MergeKernelIdeal.τ).loc Cert.MergeKernelIdeal.main_arg1)
      ∧ m' ((c.tc : Thread Cert.MergeRefIdeal.nD Cert.MergeRefIdeal.τ).loc Cert.MergeRefIdeal.main_arg2) = m ((c.tc : Thread Cert.MergeKernelIdeal.nD Cert.MergeKernelIdeal.τ).loc Cert.MergeKernelIdeal.main_arg2)
      ∧ m' ((c.tc : Thread Cert.MergeRefIdeal.nD Cert.MergeRefIdeal.τ).loc Cert.MergeRefIdeal.main_arg3) = m ((c.tc : Thread Cert.MergeKernelIdeal.nD Cert.MergeKernelIdeal.τ).loc Cert.MergeKernelIdeal.main_arg3)
      ∧ m' ((c.tc : Thread Cert.MergeRefIdeal.nD Cert.MergeRefIdeal.τ).loc Cert.MergeRefIdeal.main_arg4) = m ((c.tc : Thread Cert.MergeKernelIdeal.nD Cert.MergeKernelIdeal.τ).loc Cert.MergeKernelIdeal.main_arg4)
      ∧ m' ((c.tc : Thread Cert.MergeRefIdeal.nD Cert.MergeRefIdeal.τ).loc Cert.MergeRefIdeal.main_arg5) = m ((c.tc : Thread Cert.MergeKernelIdeal.nD Cert.MergeKernelIdeal.τ).loc Cert.MergeKernelIdeal.main_arg5)
      ∧ m' ((c.tc : Thread Cert.MergeRefIdeal.nD Cert.MergeRefIdeal.τ).loc Cert.MergeRefIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v9_0)) (v1 : (c : Dev Cert.MergeKernelIdeal.nD) → Buf (Elt Ideal) ((c.tc : Thread Cert.MergeKernelIdeal.nD Cert.MergeKernelIdeal.τ).loc Cert.MergeKernelIdeal.main_v9_1)) (v2 : (c : Dev Cert.MergeKernelIdeal.nD) → Buf (Elt Ideal) ((c.tc : Thread Cert.MergeKernelIdeal.nD Cert.MergeKernelIdeal.τ).loc Cert.MergeKernelIdeal.main_v9_2)) (v3 : (c : Dev Cert.MergeKernelIdeal.nD) → Buf (Elt Ideal) ((c.tc : Thread Cert.MergeKernelIdeal.nD Cert.MergeKernelIdeal.τ).loc Cert.MergeKernelIdeal.main_v9_3)) (v4 : (c : Dev Cert.MergeKernelIdeal.nD) → Buf (Elt Ideal) ((c.tc : Thread Cert.MergeKernelIdeal.nD Cert.MergeKernelIdeal.τ).loc Cert.MergeKernelIdeal.main_v9_4)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v9_0) = v0 c
          ∧ r.2.mem ((c.tc : Thread Cert.MergeKernelIdeal.nD Cert.MergeKernelIdeal.τ).loc Cert.MergeKernelIdeal.main_v9_1) = v1 c
          ∧ r.2.mem ((c.tc : Thread Cert.MergeKernelIdeal.nD Cert.MergeKernelIdeal.τ).loc Cert.MergeKernelIdeal.main_v9_2) = v2 c
          ∧ r.2.mem ((c.tc : Thread Cert.MergeKernelIdeal.nD Cert.MergeKernelIdeal.τ).loc Cert.MergeKernelIdeal.main_v9_3) = v3 c
          ∧ r.2.mem ((c.tc : Thread Cert.MergeKernelIdeal.nD Cert.MergeKernelIdeal.τ).loc Cert.MergeKernelIdeal.main_v9_4) = v4 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_v36) = v1 c
          ∧ r.2.mem ((c.tc : Thread Cert.MergeRefIdeal.nD Cert.MergeRefIdeal.τ).loc Cert.MergeRefIdeal.main_v38) = v2 c
          ∧ r.2.mem ((c.tc : Thread Cert.MergeRefIdeal.nD Cert.MergeRefIdeal.τ).loc Cert.MergeRefIdeal.main_v34) = v3 c
          ∧ r.2.mem ((c.tc : Thread Cert.MergeRefIdeal.nD Cert.MergeRefIdeal.τ).loc Cert.MergeRefIdeal.main_v33) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_UpKernel_UpKernelIdeal : Prop :=
  True

def algebraic_UpKernelIdeal_UpRefIdeal [hUpKernelIdeal : Cert.UpKernelIdeal.Facts] [hUpRefIdeal : Cert.UpRefIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpKernelIdeal m →
    (∀ c : Dev Cert.UpKernelIdeal.nD,
      m' ((c.tc : Thread Cert.UpRefIdeal.nD Cert.UpRefIdeal.τ).loc Cert.UpRefIdeal.main_arg0) = m ((c.tc : Thread Cert.UpKernelIdeal.nD Cert.UpKernelIdeal.τ).loc Cert.UpKernelIdeal.main_arg0)
      ∧ m' ((c.tc : Thread Cert.UpRefIdeal.nD Cert.UpRefIdeal.τ).loc Cert.UpRefIdeal.main_arg1) = m ((c.tc : Thread Cert.UpKernelIdeal.nD Cert.UpKernelIdeal.τ).loc Cert.UpKernelIdeal.main_arg1)
      ∧ m' ((c.tc : Thread Cert.UpRefIdeal.nD Cert.UpRefIdeal.τ).loc Cert.UpRefIdeal.main_arg2) = m ((c.tc : Thread Cert.UpKernelIdeal.nD Cert.UpKernelIdeal.τ).loc Cert.UpKernelIdeal.main_arg2)
      ∧ m' ((c.tc : Thread Cert.UpRefIdeal.nD Cert.UpRefIdeal.τ).loc Cert.UpRefIdeal.main_arg3) = m ((c.tc : Thread Cert.UpKernelIdeal.nD Cert.UpKernelIdeal.τ).loc Cert.UpKernelIdeal.main_arg3)
      ∧ m' ((c.tc : Thread Cert.UpRefIdeal.nD Cert.UpRefIdeal.τ).loc Cert.UpRefIdeal.main_arg4) = m ((c.tc : Thread Cert.UpKernelIdeal.nD Cert.UpKernelIdeal.τ).loc Cert.UpKernelIdeal.main_arg4)
      ∧ m' ((c.tc : Thread Cert.UpRefIdeal.nD Cert.UpRefIdeal.τ).loc Cert.UpRefIdeal.main_arg5) = m ((c.tc : Thread Cert.UpKernelIdeal.nD Cert.UpKernelIdeal.τ).loc Cert.UpKernelIdeal.main_arg5)
      ∧ m' ((c.tc : Thread Cert.UpRefIdeal.nD Cert.UpRefIdeal.τ).loc Cert.UpRefIdeal.main_arg6) = m ((c.tc : Thread Cert.UpKernelIdeal.nD Cert.UpKernelIdeal.τ).loc Cert.UpKernelIdeal.main_arg6)) →
    ∃ (v0 : (c : Dev Cert.UpKernelIdeal.nD) → Buf (Elt Ideal) ((c.tc : Thread Cert.UpKernelIdeal.nD Cert.UpKernelIdeal.τ).loc Cert.UpKernelIdeal.main_v15_0)) (v1 : (c : Dev Cert.UpKernelIdeal.nD) → Buf (Elt Ideal) ((c.tc : Thread Cert.UpKernelIdeal.nD Cert.UpKernelIdeal.τ).loc Cert.UpKernelIdeal.main_v15_1)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v15_0) = v0 c
          ∧ r.2.mem ((c.tc : Thread Cert.UpKernelIdeal.nD Cert.UpKernelIdeal.τ).loc Cert.UpKernelIdeal.main_v15_1) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v39) = v0 c
          ∧ r.2.mem ((c.tc : Thread Cert.UpRefIdeal.nD Cert.UpRefIdeal.τ).loc Cert.UpRefIdeal.main_v22) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_WinKernel_WinKernelIdeal : Prop :=
  True

def algebraic_WinKernelIdeal_WinRefIdeal [hWinKernelIdeal : Cert.WinKernelIdeal.Facts] [hWinRefIdeal : Cert.WinRefIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinKernelIdeal m →
    (∀ c : Dev Cert.WinKernelIdeal.nD,
      m' ((c.tc : Thread Cert.WinRefIdeal.nD Cert.WinRefIdeal.τ).loc Cert.WinRefIdeal.main_arg0) = m ((c.tc : Thread Cert.WinKernelIdeal.nD Cert.WinKernelIdeal.τ).loc Cert.WinKernelIdeal.main_arg0)
      ∧ m' ((c.tc : Thread Cert.WinRefIdeal.nD Cert.WinRefIdeal.τ).loc Cert.WinRefIdeal.main_arg1) = m ((c.tc : Thread Cert.WinKernelIdeal.nD Cert.WinKernelIdeal.τ).loc Cert.WinKernelIdeal.main_arg1)
      ∧ m' ((c.tc : Thread Cert.WinRefIdeal.nD Cert.WinRefIdeal.τ).loc Cert.WinRefIdeal.main_arg2) = m ((c.tc : Thread Cert.WinKernelIdeal.nD Cert.WinKernelIdeal.τ).loc Cert.WinKernelIdeal.main_arg2)
      ∧ m' ((c.tc : Thread Cert.WinRefIdeal.nD Cert.WinRefIdeal.τ).loc Cert.WinRefIdeal.main_arg3) = m ((c.tc : Thread Cert.WinKernelIdeal.nD Cert.WinKernelIdeal.τ).loc Cert.WinKernelIdeal.main_arg3)
      ∧ m' ((c.tc : Thread Cert.WinRefIdeal.nD Cert.WinRefIdeal.τ).loc Cert.WinRefIdeal.main_arg4) = m ((c.tc : Thread Cert.WinKernelIdeal.nD Cert.WinKernelIdeal.τ).loc Cert.WinKernelIdeal.main_arg4)) →
    ∃ (v0 : (c : Dev Cert.WinKernelIdeal.nD) → Buf (Elt Ideal) ((c.tc : Thread Cert.WinKernelIdeal.nD Cert.WinKernelIdeal.τ).loc Cert.WinKernelIdeal.main_v8_0)) (v1 : (c : Dev Cert.WinKernelIdeal.nD) → Buf (Elt Ideal) ((c.tc : Thread Cert.WinKernelIdeal.nD Cert.WinKernelIdeal.τ).loc Cert.WinKernelIdeal.main_v8_1)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v8_0) = v0 c
          ∧ r.2.mem ((c.tc : Thread Cert.WinKernelIdeal.nD Cert.WinKernelIdeal.τ).loc Cert.WinKernelIdeal.main_v8_1) = v1 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2)
          ∧ r.2.mem ((c.tc : Thread Cert.WinKernelIdeal.nD Cert.WinKernelIdeal.τ).loc Cert.WinKernelIdeal.main_arg3) = m ((c.tc : Thread Cert.WinKernelIdeal.nD Cert.WinKernelIdeal.τ).loc Cert.WinKernelIdeal.main_arg3)
          ∧ r.2.mem ((c.tc : Thread Cert.WinKernelIdeal.nD Cert.WinKernelIdeal.τ).loc Cert.WinKernelIdeal.main_arg4) = m ((c.tc : Thread Cert.WinKernelIdeal.nD Cert.WinKernelIdeal.τ).loc Cert.WinKernelIdeal.main_arg4))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v36) = v0 c
          ∧ r.2.mem ((c.tc : Thread Cert.WinRefIdeal.nD Cert.WinRefIdeal.τ).loc Cert.WinRefIdeal.main_v19) = v1 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4))

def preserves_SwfKernel_SwfKernelIdeal : Prop :=
  True

def algebraic_SwfKernelIdeal_SwfRefIdeal_pre_swf_finite [hSwfKernelIdeal : Cert.SwfKernelIdeal.Facts] [hSwfRefIdeal : Cert.SwfRefIdeal.Facts] [hPre_swf_finite : Cert.Pre_swf_finite.Facts] : Prop :=
  ∀ (m : (ℓ : Loc Cert.SwfKernelIdeal.nD Cert.SwfKernelIdeal.τ Cert.SwfKernelIdeal.sig) → Buf (Elt Ideal) ℓ) (g : Dev Cert.SwfKernelIdeal.nD → PrngReg)
    (m' : (ℓ : Loc Cert.SwfRefIdeal.nD Cert.SwfRefIdeal.τ Cert.SwfRefIdeal.sig) → Buf (Elt Ideal) ℓ) (g' : Dev Cert.SwfRefIdeal.nD → PrngReg), Pre_SwfKernelIdeal_swf_finite m →
    (∀ c : Dev Cert.SwfKernelIdeal.nD,
      m' ((c.tc : Thread Cert.SwfRefIdeal.nD Cert.SwfRefIdeal.τ).loc Cert.SwfRefIdeal.main_arg0) = m ((c.tc : Thread Cert.SwfKernelIdeal.nD Cert.SwfKernelIdeal.τ).loc Cert.SwfKernelIdeal.main_arg0)
      ∧ m' ((c.tc : Thread Cert.SwfRefIdeal.nD Cert.SwfRefIdeal.τ).loc Cert.SwfRefIdeal.main_arg1) = m ((c.tc : Thread Cert.SwfKernelIdeal.nD Cert.SwfKernelIdeal.τ).loc Cert.SwfKernelIdeal.main_arg1)) →
    ∃ (v0 : (c : Dev Cert.SwfKernelIdeal.nD) → Buf (Elt Ideal) ((c.tc : Thread Cert.SwfKernelIdeal.nD Cert.SwfKernelIdeal.τ).loc Cert.SwfKernelIdeal.main_v41)),
      θ_run (Cert.SwfKernelIdeal.defs (F := Ideal)) (onTc (τ := Cert.SwfKernelIdeal.τ) (Cert.SwfKernelIdeal.main (F := Ideal))) ⟨m, fun _ => 0, g⟩ (fun r => ∀ c : Dev Cert.SwfKernelIdeal.nD,
          r.2.mem ((c.tc : Thread Cert.SwfKernelIdeal.nD Cert.SwfKernelIdeal.τ).loc Cert.SwfKernelIdeal.main_v41) = v0 c
          ∧ r.2.mem ((c.tc : Thread Cert.SwfKernelIdeal.nD Cert.SwfKernelIdeal.τ).loc Cert.SwfKernelIdeal.main_arg0) = m ((c.tc : Thread Cert.SwfKernelIdeal.nD Cert.SwfKernelIdeal.τ).loc Cert.SwfKernelIdeal.main_arg0)
          ∧ r.2.mem ((c.tc : Thread Cert.SwfKernelIdeal.nD Cert.SwfKernelIdeal.τ).loc Cert.SwfKernelIdeal.main_arg1) = m ((c.tc : Thread Cert.SwfKernelIdeal.nD Cert.SwfKernelIdeal.τ).loc Cert.SwfKernelIdeal.main_arg1))
      ∧ θ_run (Cert.SwfRefIdeal.defs (F := Ideal)) (onTc (τ := Cert.SwfRefIdeal.τ) (Cert.SwfRefIdeal.main (F := Ideal))) ⟨m', fun _ => 0, g'⟩ (fun r => ∀ c : Dev Cert.SwfRefIdeal.nD,
          r.2.mem ((c.tc : Thread Cert.SwfRefIdeal.nD Cert.SwfRefIdeal.τ).loc Cert.SwfRefIdeal.main_v142) = v0 c
          ∧ r.2.mem ((c.tc : Thread Cert.SwfRefIdeal.nD Cert.SwfRefIdeal.τ).loc Cert.SwfRefIdeal.main_arg0) = m' ((c.tc : Thread Cert.SwfRefIdeal.nD Cert.SwfRefIdeal.τ).loc Cert.SwfRefIdeal.main_arg0)
          ∧ r.2.mem ((c.tc : Thread Cert.SwfRefIdeal.nD Cert.SwfRefIdeal.τ).loc Cert.SwfRefIdeal.main_arg1) = m' ((c.tc : Thread Cert.SwfRefIdeal.nD Cert.SwfRefIdeal.τ).loc Cert.SwfRefIdeal.main_arg1))

def preserves_SwvKernel_SwvKernelIdeal : Prop :=
  True

def algebraic_SwvKernelIdeal_SwvRefIdeal_pre_swv_finite [hSwvKernelIdeal : Cert.SwvKernelIdeal.Facts] [hSwvRefIdeal : Cert.SwvRefIdeal.Facts] [hPre_swv_finite : Cert.Pre_swv_finite.Facts] : Prop :=
  ∀ (m : (ℓ : Loc Cert.SwvKernelIdeal.nD Cert.SwvKernelIdeal.τ Cert.SwvKernelIdeal.sig) → Buf (Elt Ideal) ℓ) (g : Dev Cert.SwvKernelIdeal.nD → PrngReg)
    (m' : (ℓ : Loc Cert.SwvRefIdeal.nD Cert.SwvRefIdeal.τ Cert.SwvRefIdeal.sig) → Buf (Elt Ideal) ℓ) (g' : Dev Cert.SwvRefIdeal.nD → PrngReg), Pre_SwvKernelIdeal_swv_finite m →
    (∀ c : Dev Cert.SwvKernelIdeal.nD,
      m' ((c.tc : Thread Cert.SwvRefIdeal.nD Cert.SwvRefIdeal.τ).loc Cert.SwvRefIdeal.main_arg0) = m ((c.tc : Thread Cert.SwvKernelIdeal.nD Cert.SwvKernelIdeal.τ).loc Cert.SwvKernelIdeal.main_arg0)
      ∧ m' ((c.tc : Thread Cert.SwvRefIdeal.nD Cert.SwvRefIdeal.τ).loc Cert.SwvRefIdeal.main_arg1) = m ((c.tc : Thread Cert.SwvKernelIdeal.nD Cert.SwvKernelIdeal.τ).loc Cert.SwvKernelIdeal.main_arg1)
      ∧ m' ((c.tc : Thread Cert.SwvRefIdeal.nD Cert.SwvRefIdeal.τ).loc Cert.SwvRefIdeal.main_arg2) = m ((c.tc : Thread Cert.SwvKernelIdeal.nD Cert.SwvKernelIdeal.τ).loc Cert.SwvKernelIdeal.main_arg2)) →
    ∃ (v0 : (c : Dev Cert.SwvKernelIdeal.nD) → Buf (Elt Ideal) ((c.tc : Thread Cert.SwvKernelIdeal.nD Cert.SwvKernelIdeal.τ).loc Cert.SwvKernelIdeal.main_v134_2)),
      θ_run (Cert.SwvKernelIdeal.defs (F := Ideal)) (onTc (τ := Cert.SwvKernelIdeal.τ) (Cert.SwvKernelIdeal.main (F := Ideal))) ⟨m, fun _ => 0, g⟩ (fun r => ∀ c : Dev Cert.SwvKernelIdeal.nD,
          r.2.mem ((c.tc : Thread Cert.SwvKernelIdeal.nD Cert.SwvKernelIdeal.τ).loc Cert.SwvKernelIdeal.main_v134_2) = v0 c
          ∧ r.2.mem ((c.tc : Thread Cert.SwvKernelIdeal.nD Cert.SwvKernelIdeal.τ).loc Cert.SwvKernelIdeal.main_arg0) = m ((c.tc : Thread Cert.SwvKernelIdeal.nD Cert.SwvKernelIdeal.τ).loc Cert.SwvKernelIdeal.main_arg0)
          ∧ r.2.mem ((c.tc : Thread Cert.SwvKernelIdeal.nD Cert.SwvKernelIdeal.τ).loc Cert.SwvKernelIdeal.main_arg1) = m ((c.tc : Thread Cert.SwvKernelIdeal.nD Cert.SwvKernelIdeal.τ).loc Cert.SwvKernelIdeal.main_arg1)
          ∧ r.2.mem ((c.tc : Thread Cert.SwvKernelIdeal.nD Cert.SwvKernelIdeal.τ).loc Cert.SwvKernelIdeal.main_arg2) = m ((c.tc : Thread Cert.SwvKernelIdeal.nD Cert.SwvKernelIdeal.τ).loc Cert.SwvKernelIdeal.main_arg2))
      ∧ θ_run (Cert.SwvRefIdeal.defs (F := Ideal)) (onTc (τ := Cert.SwvRefIdeal.τ) (Cert.SwvRefIdeal.main (F := Ideal))) ⟨m', fun _ => 0, g'⟩ (fun r => ∀ c : Dev Cert.SwvRefIdeal.nD,
          r.2.mem ((c.tc : Thread Cert.SwvRefIdeal.nD Cert.SwvRefIdeal.τ).loc Cert.SwvRefIdeal.main_v104) = v0 c
          ∧ r.2.mem ((c.tc : Thread Cert.SwvRefIdeal.nD Cert.SwvRefIdeal.τ).loc Cert.SwvRefIdeal.main_arg0) = m' ((c.tc : Thread Cert.SwvRefIdeal.nD Cert.SwvRefIdeal.τ).loc Cert.SwvRefIdeal.main_arg0)
          ∧ r.2.mem ((c.tc : Thread Cert.SwvRefIdeal.nD Cert.SwvRefIdeal.τ).loc Cert.SwvRefIdeal.main_arg1) = m' ((c.tc : Thread Cert.SwvRefIdeal.nD Cert.SwvRefIdeal.τ).loc Cert.SwvRefIdeal.main_arg1)
          ∧ r.2.mem ((c.tc : Thread Cert.SwvRefIdeal.nD Cert.SwvRefIdeal.τ).loc Cert.SwvRefIdeal.main_arg2) = m' ((c.tc : Thread Cert.SwvRefIdeal.nD Cert.SwvRefIdeal.τ).loc Cert.SwvRefIdeal.main_arg2))

def preserves_MixKernel_MixKernelIdeal : Prop :=
  True

def algebraic_MixKernelIdeal_MixRefIdeal [hMixKernelIdeal : Cert.MixKernelIdeal.Facts] [hMixRefIdeal : Cert.MixRefIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixKernelIdeal m →
    (∀ c : Dev Cert.MixKernelIdeal.nD,
      m' ((c.tc : Thread Cert.MixRefIdeal.nD Cert.MixRefIdeal.τ).loc Cert.MixRefIdeal.main_arg0) = m ((c.tc : Thread Cert.MixKernelIdeal.nD Cert.MixKernelIdeal.τ).loc Cert.MixKernelIdeal.main_arg0)
      ∧ m' ((c.tc : Thread Cert.MixRefIdeal.nD Cert.MixRefIdeal.τ).loc Cert.MixRefIdeal.main_arg1) = m ((c.tc : Thread Cert.MixKernelIdeal.nD Cert.MixKernelIdeal.τ).loc Cert.MixKernelIdeal.main_arg1)
      ∧ m' ((c.tc : Thread Cert.MixRefIdeal.nD Cert.MixRefIdeal.τ).loc Cert.MixRefIdeal.main_arg2) = m ((c.tc : Thread Cert.MixKernelIdeal.nD Cert.MixKernelIdeal.τ).loc Cert.MixKernelIdeal.main_arg2)
      ∧ m' ((c.tc : Thread Cert.MixRefIdeal.nD Cert.MixRefIdeal.τ).loc Cert.MixRefIdeal.main_arg3) = m ((c.tc : Thread Cert.MixKernelIdeal.nD Cert.MixKernelIdeal.τ).loc Cert.MixKernelIdeal.main_arg3)
      ∧ m' ((c.tc : Thread Cert.MixRefIdeal.nD Cert.MixRefIdeal.τ).loc Cert.MixRefIdeal.main_arg4) = m ((c.tc : Thread Cert.MixKernelIdeal.nD Cert.MixKernelIdeal.τ).loc Cert.MixKernelIdeal.main_arg4)
      ∧ m' ((c.tc : Thread Cert.MixRefIdeal.nD Cert.MixRefIdeal.τ).loc Cert.MixRefIdeal.main_arg5) = m ((c.tc : Thread Cert.MixKernelIdeal.nD Cert.MixKernelIdeal.τ).loc Cert.MixKernelIdeal.main_arg5)
      ∧ m' ((c.tc : Thread Cert.MixRefIdeal.nD Cert.MixRefIdeal.τ).loc Cert.MixRefIdeal.main_arg6) = m ((c.tc : Thread Cert.MixKernelIdeal.nD Cert.MixKernelIdeal.τ).loc Cert.MixKernelIdeal.main_arg6)
      ∧ m' ((c.tc : Thread Cert.MixRefIdeal.nD Cert.MixRefIdeal.τ).loc Cert.MixRefIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v5_0)) (v1 : (c : Dev Cert.MixKernelIdeal.nD) → Buf (Elt Ideal) ((c.tc : Thread Cert.MixKernelIdeal.nD Cert.MixKernelIdeal.τ).loc Cert.MixKernelIdeal.main_v5_1)) (v2 : (c : Dev Cert.MixKernelIdeal.nD) → Buf (Elt Ideal) ((c.tc : Thread Cert.MixKernelIdeal.nD Cert.MixKernelIdeal.τ).loc Cert.MixKernelIdeal.main_v5_2)) (v3 : (c : Dev Cert.MixKernelIdeal.nD) → Buf (Elt Ideal) ((c.tc : Thread Cert.MixKernelIdeal.nD Cert.MixKernelIdeal.τ).loc Cert.MixKernelIdeal.main_v5_3)) (v4 : (c : Dev Cert.MixKernelIdeal.nD) → Buf (Elt Ideal) ((c.tc : Thread Cert.MixKernelIdeal.nD Cert.MixKernelIdeal.τ).loc Cert.MixKernelIdeal.main_v5_4)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v5_0) = v0 c
          ∧ r.2.mem ((c.tc : Thread Cert.MixKernelIdeal.nD Cert.MixKernelIdeal.τ).loc Cert.MixKernelIdeal.main_v5_1) = v1 c
          ∧ r.2.mem ((c.tc : Thread Cert.MixKernelIdeal.nD Cert.MixKernelIdeal.τ).loc Cert.MixKernelIdeal.main_v5_2) = v2 c
          ∧ r.2.mem ((c.tc : Thread Cert.MixKernelIdeal.nD Cert.MixKernelIdeal.τ).loc Cert.MixKernelIdeal.main_v5_3) = v3 c
          ∧ r.2.mem ((c.tc : Thread Cert.MixKernelIdeal.nD Cert.MixKernelIdeal.τ).loc Cert.MixKernelIdeal.main_v5_4) = v4 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v21) = v0 c
          ∧ r.2.mem ((c.tc : Thread Cert.MixRefIdeal.nD Cert.MixRefIdeal.τ).loc Cert.MixRefIdeal.main_v22) = v1 c
          ∧ r.2.mem ((c.tc : Thread Cert.MixRefIdeal.nD Cert.MixRefIdeal.τ).loc Cert.MixRefIdeal.main_v23) = v2 c
          ∧ r.2.mem ((c.tc : Thread Cert.MixRefIdeal.nD Cert.MixRefIdeal.τ).loc Cert.MixRefIdeal.main_v36) = v3 c
          ∧ r.2.mem ((c.tc : Thread Cert.MixRefIdeal.nD Cert.MixRefIdeal.τ).loc Cert.MixRefIdeal.main_v20) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_ActKernel_ActKernelIdeal : Prop :=
  True

def algebraic_ActKernelIdeal_ActRefIdeal [hActKernelIdeal : Cert.ActKernelIdeal.Facts] [hActRefIdeal : Cert.ActRefIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActKernelIdeal m →
    (∀ c : Dev Cert.ActKernelIdeal.nD,
      m' ((c.tc : Thread Cert.ActRefIdeal.nD Cert.ActRefIdeal.τ).loc Cert.ActRefIdeal.main_arg0) = m ((c.tc : Thread Cert.ActKernelIdeal.nD Cert.ActKernelIdeal.τ).loc Cert.ActKernelIdeal.main_arg0)
      ∧ m' ((c.tc : Thread Cert.ActRefIdeal.nD Cert.ActRefIdeal.τ).loc Cert.ActRefIdeal.main_arg1) = m ((c.tc : Thread Cert.ActKernelIdeal.nD Cert.ActKernelIdeal.τ).loc Cert.ActKernelIdeal.main_arg1)
      ∧ m' ((c.tc : Thread Cert.ActRefIdeal.nD Cert.ActRefIdeal.τ).loc Cert.ActRefIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v13)) (v1 : (c : Dev Cert.ActKernelIdeal.nD) → Buf (Elt Ideal) ((c.tc : Thread Cert.ActKernelIdeal.nD Cert.ActKernelIdeal.τ).loc Cert.ActKernelIdeal.main_v16)) (v2 : (c : Dev Cert.ActKernelIdeal.nD) → Buf (Elt Ideal) ((c.tc : Thread Cert.ActKernelIdeal.nD Cert.ActKernelIdeal.τ).loc Cert.ActKernelIdeal.main_v10_1)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v13) = v0 c
          ∧ r.2.mem ((c.tc : Thread Cert.ActKernelIdeal.nD Cert.ActKernelIdeal.τ).loc Cert.ActKernelIdeal.main_v16) = v1 c
          ∧ r.2.mem ((c.tc : Thread Cert.ActKernelIdeal.nD Cert.ActKernelIdeal.τ).loc Cert.ActKernelIdeal.main_v10_1) = v2 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v2) = v0 c
          ∧ r.2.mem ((c.tc : Thread Cert.ActRefIdeal.nD Cert.ActRefIdeal.τ).loc Cert.ActRefIdeal.main_v3) = v1 c
          ∧ r.2.mem ((c.tc : Thread Cert.ActRefIdeal.nD Cert.ActRefIdeal.τ).loc Cert.ActRefIdeal.main_v6) = v2 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_DownKernel_DownKernelIdeal : Prop :=
  True

def algebraic_DownKernelIdeal_DownRefIdeal [hDownKernelIdeal : Cert.DownKernelIdeal.Facts] [hDownRefIdeal : Cert.DownRefIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownKernelIdeal m →
    (∀ c : Dev Cert.DownKernelIdeal.nD,
      m' ((c.tc : Thread Cert.DownRefIdeal.nD Cert.DownRefIdeal.τ).loc Cert.DownRefIdeal.main_arg0) = m ((c.tc : Thread Cert.DownKernelIdeal.nD Cert.DownKernelIdeal.τ).loc Cert.DownKernelIdeal.main_arg0)
      ∧ m' ((c.tc : Thread Cert.DownRefIdeal.nD Cert.DownRefIdeal.τ).loc Cert.DownRefIdeal.main_arg1) = m ((c.tc : Thread Cert.DownKernelIdeal.nD Cert.DownKernelIdeal.τ).loc Cert.DownKernelIdeal.main_arg1)
      ∧ m' ((c.tc : Thread Cert.DownRefIdeal.nD Cert.DownRefIdeal.τ).loc Cert.DownRefIdeal.main_arg2) = m ((c.tc : Thread Cert.DownKernelIdeal.nD Cert.DownKernelIdeal.τ).loc Cert.DownKernelIdeal.main_arg2)
      ∧ m' ((c.tc : Thread Cert.DownRefIdeal.nD Cert.DownRefIdeal.τ).loc Cert.DownRefIdeal.main_arg3) = m ((c.tc : Thread Cert.DownKernelIdeal.nD Cert.DownKernelIdeal.τ).loc Cert.DownKernelIdeal.main_arg3)) →
    ∃ (v0 : (c : Dev Cert.DownKernelIdeal.nD) → Buf (Elt Ideal) ((c.tc : Thread Cert.DownKernelIdeal.nD Cert.DownKernelIdeal.τ).loc Cert.DownKernelIdeal.main_v2_0)) (v1 : (c : Dev Cert.DownKernelIdeal.nD) → Buf (Elt Ideal) ((c.tc : Thread Cert.DownKernelIdeal.nD Cert.DownKernelIdeal.τ).loc Cert.DownKernelIdeal.main_v2_1)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2_0) = v0 c
          ∧ r.2.mem ((c.tc : Thread Cert.DownKernelIdeal.nD Cert.DownKernelIdeal.τ).loc Cert.DownKernelIdeal.main_v2_1) = v1 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_v14) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_BoundsKernel_BoundsKernelIdeal : Prop :=
  True

def algebraic_BoundsKernelIdeal_BoundsRefIdeal [hBoundsKernelIdeal : Cert.BoundsKernelIdeal.Facts] [hBoundsRefIdeal : Cert.BoundsRefIdeal.Facts] : Prop :=
  ∀ (m : (ℓ : Loc Cert.BoundsKernelIdeal.nD Cert.BoundsKernelIdeal.τ Cert.BoundsKernelIdeal.sig) → Buf (Elt Ideal) ℓ) (g : Dev Cert.BoundsKernelIdeal.nD → PrngReg)
    (m' : (ℓ : Loc Cert.BoundsRefIdeal.nD Cert.BoundsRefIdeal.τ Cert.BoundsRefIdeal.sig) → Buf (Elt Ideal) ℓ) (g' : Dev Cert.BoundsRefIdeal.nD → PrngReg), Pre_BoundsKernelIdeal m →
    (∀ c : Dev Cert.BoundsKernelIdeal.nD,
      m' ((c.tc : Thread Cert.BoundsRefIdeal.nD Cert.BoundsRefIdeal.τ).loc Cert.BoundsRefIdeal.main_arg0) = m ((c.tc : Thread Cert.BoundsKernelIdeal.nD Cert.BoundsKernelIdeal.τ).loc Cert.BoundsKernelIdeal.main_arg0)) →
    ∃ (v0 : (c : Dev Cert.BoundsKernelIdeal.nD) → Buf (Elt Ideal) ((c.tc : Thread Cert.BoundsKernelIdeal.nD Cert.BoundsKernelIdeal.τ).loc Cert.BoundsKernelIdeal.main_v0)),
      θ_run (Cert.BoundsKernelIdeal.defs (F := Ideal)) (onTc (τ := Cert.BoundsKernelIdeal.τ) (Cert.BoundsKernelIdeal.main (F := Ideal))) ⟨m, fun _ => 0, g⟩ (fun r => ∀ c : Dev Cert.BoundsKernelIdeal.nD,
          r.2.mem ((c.tc : Thread Cert.BoundsKernelIdeal.nD Cert.BoundsKernelIdeal.τ).loc Cert.BoundsKernelIdeal.main_v0) = v0 c
          ∧ r.2.mem ((c.tc : Thread Cert.BoundsKernelIdeal.nD Cert.BoundsKernelIdeal.τ).loc Cert.BoundsKernelIdeal.main_arg0) = m ((c.tc : Thread Cert.BoundsKernelIdeal.nD Cert.BoundsKernelIdeal.τ).loc Cert.BoundsKernelIdeal.main_arg0))
      ∧ θ_run (Cert.BoundsRefIdeal.defs (F := Ideal)) (onTc (τ := Cert.BoundsRefIdeal.τ) (Cert.BoundsRefIdeal.main (F := Ideal))) ⟨m', fun _ => 0, g'⟩ (fun r => ∀ c : Dev Cert.BoundsRefIdeal.nD,
          r.2.mem ((c.tc : Thread Cert.BoundsRefIdeal.nD Cert.BoundsRefIdeal.τ).loc Cert.BoundsRefIdeal.main_v14) = v0 c
          ∧ r.2.mem ((c.tc : Thread Cert.BoundsRefIdeal.nD Cert.BoundsRefIdeal.τ).loc Cert.BoundsRefIdeal.main_arg0) = m' ((c.tc : Thread Cert.BoundsRefIdeal.nD Cert.BoundsRefIdeal.τ).loc Cert.BoundsRefIdeal.main_arg0))

def preserves_RmsKernel_RmsKernelIdeal : Prop :=
  True

def algebraic_RmsKernelIdeal_RmsRefIdeal [hRmsKernelIdeal : Cert.RmsKernelIdeal.Facts] [hRmsRefIdeal : Cert.RmsRefIdeal.Facts] : Prop :=
  ∀ (m : (ℓ : Loc Cert.RmsKernelIdeal.nD Cert.RmsKernelIdeal.τ Cert.RmsKernelIdeal.sig) → Buf (Elt Ideal) ℓ) (g : Dev Cert.RmsKernelIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsKernelIdeal m →
    (∀ c : Dev Cert.RmsKernelIdeal.nD,
      m' ((c.tc : Thread Cert.RmsRefIdeal.nD Cert.RmsRefIdeal.τ).loc Cert.RmsRefIdeal.main_arg0) = m ((c.tc : Thread Cert.RmsKernelIdeal.nD Cert.RmsKernelIdeal.τ).loc Cert.RmsKernelIdeal.main_arg0)
      ∧ m' ((c.tc : Thread Cert.RmsRefIdeal.nD Cert.RmsRefIdeal.τ).loc Cert.RmsRefIdeal.main_arg1) = m ((c.tc : Thread Cert.RmsKernelIdeal.nD Cert.RmsKernelIdeal.τ).loc Cert.RmsKernelIdeal.main_arg1)) →
    ∃ (v0 : (c : Dev Cert.RmsKernelIdeal.nD) → Buf (Elt Ideal) ((c.tc : Thread Cert.RmsKernelIdeal.nD Cert.RmsKernelIdeal.τ).loc Cert.RmsKernelIdeal.main_v0)),
      θ_run (Cert.RmsKernelIdeal.defs (F := Ideal)) (onTc (τ := Cert.RmsKernelIdeal.τ) (Cert.RmsKernelIdeal.main (F := Ideal))) ⟨m, fun _ => 0, g⟩ (fun r => ∀ c : Dev Cert.RmsKernelIdeal.nD,
          r.2.mem ((c.tc : Thread Cert.RmsKernelIdeal.nD Cert.RmsKernelIdeal.τ).loc Cert.RmsKernelIdeal.main_v0) = v0 c
          ∧ r.2.mem ((c.tc : Thread Cert.RmsKernelIdeal.nD Cert.RmsKernelIdeal.τ).loc Cert.RmsKernelIdeal.main_arg0) = m ((c.tc : Thread Cert.RmsKernelIdeal.nD Cert.RmsKernelIdeal.τ).loc Cert.RmsKernelIdeal.main_arg0)
          ∧ r.2.mem ((c.tc : Thread Cert.RmsKernelIdeal.nD Cert.RmsKernelIdeal.τ).loc Cert.RmsKernelIdeal.main_arg1) = m ((c.tc : Thread Cert.RmsKernelIdeal.nD Cert.RmsKernelIdeal.τ).loc Cert.RmsKernelIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v12) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_ProjKernel_ProjKernelIdeal : Prop :=
  True

def algebraic_ProjKernelIdeal_ProjRefIdeal [hProjKernelIdeal : Cert.ProjKernelIdeal.Facts] [hProjRefIdeal : Cert.ProjRefIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjKernelIdeal m →
    (∀ c : Dev Cert.ProjKernelIdeal.nD,
      m' ((c.tc : Thread Cert.ProjRefIdeal.nD Cert.ProjRefIdeal.τ).loc Cert.ProjRefIdeal.main_arg0) = m ((c.tc : Thread Cert.ProjKernelIdeal.nD Cert.ProjKernelIdeal.τ).loc Cert.ProjKernelIdeal.main_arg0)
      ∧ m' ((c.tc : Thread Cert.ProjRefIdeal.nD Cert.ProjRefIdeal.τ).loc Cert.ProjRefIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v3)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v3) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_WguKernel_WguKernelIdeal : Prop :=
  True

def algebraic_WguKernelIdeal_WguRefIdeal [hWguKernelIdeal : Cert.WguKernelIdeal.Facts] [hWguRefIdeal : Cert.WguRefIdeal.Facts] : Prop :=
  ∀ (m : (ℓ : Loc Cert.WguKernelIdeal.nD Cert.WguKernelIdeal.τ Cert.WguKernelIdeal.sig) → Buf (Elt Ideal) ℓ) (g : Dev Cert.WguKernelIdeal.nD → PrngReg)
    (m' : (ℓ : Loc Cert.WguRefIdeal.nD Cert.WguRefIdeal.τ Cert.WguRefIdeal.sig) → Buf (Elt Ideal) ℓ) (g' : Dev Cert.WguRefIdeal.nD → PrngReg), Pre_WguKernelIdeal m →
    (∀ c : Dev Cert.WguKernelIdeal.nD,
      m' ((c.tc : Thread Cert.WguRefIdeal.nD Cert.WguRefIdeal.τ).loc Cert.WguRefIdeal.main_arg0) = m ((c.tc : Thread Cert.WguKernelIdeal.nD Cert.WguKernelIdeal.τ).loc Cert.WguKernelIdeal.main_arg0)
      ∧ m' ((c.tc : Thread Cert.WguRefIdeal.nD Cert.WguRefIdeal.τ).loc Cert.WguRefIdeal.main_arg1) = m ((c.tc : Thread Cert.WguKernelIdeal.nD Cert.WguKernelIdeal.τ).loc Cert.WguKernelIdeal.main_arg1)
      ∧ m' ((c.tc : Thread Cert.WguRefIdeal.nD Cert.WguRefIdeal.τ).loc Cert.WguRefIdeal.main_arg2) = m ((c.tc : Thread Cert.WguKernelIdeal.nD Cert.WguKernelIdeal.τ).loc Cert.WguKernelIdeal.main_arg2)) →
    ∃ (v0 : (c : Dev Cert.WguKernelIdeal.nD) → Buf (Elt Ideal) ((c.tc : Thread Cert.WguKernelIdeal.nD Cert.WguKernelIdeal.τ).loc Cert.WguKernelIdeal.main_v11)) (v1 : (c : Dev Cert.WguKernelIdeal.nD) → Buf (Elt Ideal) ((c.tc : Thread Cert.WguKernelIdeal.nD Cert.WguKernelIdeal.τ).loc Cert.WguKernelIdeal.main_v15)),
      θ_run (Cert.WguKernelIdeal.defs (F := Ideal)) (onTc (τ := Cert.WguKernelIdeal.τ) (Cert.WguKernelIdeal.main (F := Ideal))) ⟨m, fun _ => 0, g⟩ (fun r => ∀ c : Dev Cert.WguKernelIdeal.nD,
          r.2.mem ((c.tc : Thread Cert.WguKernelIdeal.nD Cert.WguKernelIdeal.τ).loc Cert.WguKernelIdeal.main_v11) = v0 c
          ∧ r.2.mem ((c.tc : Thread Cert.WguKernelIdeal.nD Cert.WguKernelIdeal.τ).loc Cert.WguKernelIdeal.main_v15) = v1 c
          ∧ r.2.mem ((c.tc : Thread Cert.WguKernelIdeal.nD Cert.WguKernelIdeal.τ).loc Cert.WguKernelIdeal.main_arg0) = m ((c.tc : Thread Cert.WguKernelIdeal.nD Cert.WguKernelIdeal.τ).loc Cert.WguKernelIdeal.main_arg0)
          ∧ r.2.mem ((c.tc : Thread Cert.WguKernelIdeal.nD Cert.WguKernelIdeal.τ).loc Cert.WguKernelIdeal.main_arg1) = m ((c.tc : Thread Cert.WguKernelIdeal.nD Cert.WguKernelIdeal.τ).loc Cert.WguKernelIdeal.main_arg1)
          ∧ r.2.mem ((c.tc : Thread Cert.WguKernelIdeal.nD Cert.WguKernelIdeal.τ).loc Cert.WguKernelIdeal.main_arg2) = m ((c.tc : Thread Cert.WguKernelIdeal.nD Cert.WguKernelIdeal.τ).loc Cert.WguKernelIdeal.main_arg2))
      ∧ θ_run (Cert.WguRefIdeal.defs (F := Ideal)) (onTc (τ := Cert.WguRefIdeal.τ) (Cert.WguRefIdeal.main (F := Ideal))) ⟨m', fun _ => 0, g'⟩ (fun r => ∀ c : Dev Cert.WguRefIdeal.nD,
          r.2.mem ((c.tc : Thread Cert.WguRefIdeal.nD Cert.WguRefIdeal.τ).loc Cert.WguRefIdeal.main_v2) = v0 c
          ∧ r.2.mem ((c.tc : Thread Cert.WguRefIdeal.nD Cert.WguRefIdeal.τ).loc Cert.WguRefIdeal.main_v5) = v1 c
          ∧ r.2.mem ((c.tc : Thread Cert.WguRefIdeal.nD Cert.WguRefIdeal.τ).loc Cert.WguRefIdeal.main_arg0) = m' ((c.tc : Thread Cert.WguRefIdeal.nD Cert.WguRefIdeal.τ).loc Cert.WguRefIdeal.main_arg0)
          ∧ r.2.mem ((c.tc : Thread Cert.WguRefIdeal.nD Cert.WguRefIdeal.τ).loc Cert.WguRefIdeal.main_arg1) = m' ((c.tc : Thread Cert.WguRefIdeal.nD Cert.WguRefIdeal.τ).loc Cert.WguRefIdeal.main_arg1)
          ∧ r.2.mem ((c.tc : Thread Cert.WguRefIdeal.nD Cert.WguRefIdeal.τ).loc Cert.WguRefIdeal.main_arg2) = m' ((c.tc : Thread Cert.WguRefIdeal.nD Cert.WguRefIdeal.τ).loc Cert.WguRefIdeal.main_arg2))

def preserves_SlotsKernel_SlotsKernelIdeal : Prop :=
  True

def algebraic_SlotsKernelIdeal_SlotsRefIdeal [hSlotsKernelIdeal : Cert.SlotsKernelIdeal.Facts] [hSlotsRefIdeal : Cert.SlotsRefIdeal.Facts] : Prop :=
  ∀ (m : (ℓ : Loc Cert.SlotsKernelIdeal.nD Cert.SlotsKernelIdeal.τ Cert.SlotsKernelIdeal.sig) → Buf (Elt Ideal) ℓ) (g : Dev Cert.SlotsKernelIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsKernelIdeal m →
    (∀ c : Dev Cert.SlotsKernelIdeal.nD,
      m' ((c.tc : Thread Cert.SlotsRefIdeal.nD Cert.SlotsRefIdeal.τ).loc Cert.SlotsRefIdeal.main_arg0) = m ((c.tc : Thread Cert.SlotsKernelIdeal.nD Cert.SlotsKernelIdeal.τ).loc Cert.SlotsKernelIdeal.main_arg0)) →
    ∃ (v0 : (c : Dev Cert.SlotsKernelIdeal.nD) → Buf (Elt Ideal) ((c.tc : Thread Cert.SlotsKernelIdeal.nD Cert.SlotsKernelIdeal.τ).loc Cert.SlotsKernelIdeal.main_v1)),
      θ_run (Cert.SlotsKernelIdeal.defs (F := Ideal)) (onTc (τ := Cert.SlotsKernelIdeal.τ) (Cert.SlotsKernelIdeal.main (F := Ideal))) ⟨m, fun _ => 0, g⟩ (fun r => ∀ c : Dev Cert.SlotsKernelIdeal.nD,
          r.2.mem ((c.tc : Thread Cert.SlotsKernelIdeal.nD Cert.SlotsKernelIdeal.τ).loc Cert.SlotsKernelIdeal.main_v1) = v0 c
          ∧ r.2.mem ((c.tc : Thread Cert.SlotsKernelIdeal.nD Cert.SlotsKernelIdeal.τ).loc Cert.SlotsKernelIdeal.main_arg0) = m ((c.tc : Thread Cert.SlotsKernelIdeal.nD Cert.SlotsKernelIdeal.τ).loc Cert.SlotsKernelIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_AdamKernel_AdamKernelIdeal : Prop :=
  IdealRules.named_const.Statement Cert.AdamKernelIdeal.κ "inv_m" .f32 0x3FC48605#32 ((8388608 / 5463681 : ℝ) : EReal)
  ∧ IdealRules.named_const.Statement Cert.AdamKernelIdeal.κ "inv_v" .f32 0x42C8E6D3#32 ((268435456 / 2672307 : ℝ) : EReal)

def algebraic_AdamKernelIdeal_AdamRefIdeal [hAdamKernelIdeal : Cert.AdamKernelIdeal.Facts] [hAdamRefIdeal : Cert.AdamRefIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamKernelIdeal m →
    (∀ c : Dev Cert.AdamKernelIdeal.nD,
      m' ((c.tc : Thread Cert.AdamRefIdeal.nD Cert.AdamRefIdeal.τ).loc Cert.AdamRefIdeal.main_arg0) = m ((c.tc : Thread Cert.AdamKernelIdeal.nD Cert.AdamKernelIdeal.τ).loc Cert.AdamKernelIdeal.main_arg0)
      ∧ m' ((c.tc : Thread Cert.AdamRefIdeal.nD Cert.AdamRefIdeal.τ).loc Cert.AdamRefIdeal.main_arg1) = m ((c.tc : Thread Cert.AdamKernelIdeal.nD Cert.AdamKernelIdeal.τ).loc Cert.AdamKernelIdeal.main_arg1)
      ∧ m' ((c.tc : Thread Cert.AdamRefIdeal.nD Cert.AdamRefIdeal.τ).loc Cert.AdamRefIdeal.main_arg2) = m ((c.tc : Thread Cert.AdamKernelIdeal.nD Cert.AdamKernelIdeal.τ).loc Cert.AdamKernelIdeal.main_arg2)
      ∧ m' ((c.tc : Thread Cert.AdamRefIdeal.nD Cert.AdamRefIdeal.τ).loc Cert.AdamRefIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v5)) (v1 : (c : Dev Cert.AdamKernelIdeal.nD) → Buf (Elt Ideal) ((c.tc : Thread Cert.AdamKernelIdeal.nD Cert.AdamKernelIdeal.τ).loc Cert.AdamKernelIdeal.main_v6)) (v2 : (c : Dev Cert.AdamKernelIdeal.nD) → Buf (Elt Ideal) ((c.tc : Thread Cert.AdamKernelIdeal.nD Cert.AdamKernelIdeal.τ).loc Cert.AdamKernelIdeal.main_v7)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v5) = v0 c
          ∧ r.2.mem ((c.tc : Thread Cert.AdamKernelIdeal.nD Cert.AdamKernelIdeal.τ).loc Cert.AdamKernelIdeal.main_v6) = v1 c
          ∧ r.2.mem ((c.tc : Thread Cert.AdamKernelIdeal.nD Cert.AdamKernelIdeal.τ).loc Cert.AdamKernelIdeal.main_v7) = v2 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_HgvKernel_HgvKernelIdeal : Prop :=
  True

def algebraic_HgvKernelIdeal_HgvRefIdeal_pre_hgv_finite [hHgvKernelIdeal : Cert.HgvKernelIdeal.Facts] [hHgvRefIdeal : Cert.HgvRefIdeal.Facts] [hPre_hgv_finite : Cert.Pre_hgv_finite.Facts] : Prop :=
  ∀ (m : (ℓ : Loc Cert.HgvKernelIdeal.nD Cert.HgvKernelIdeal.τ Cert.HgvKernelIdeal.sig) → Buf (Elt Ideal) ℓ) (g : Dev Cert.HgvKernelIdeal.nD → PrngReg)
    (m' : (ℓ : Loc Cert.HgvRefIdeal.nD Cert.HgvRefIdeal.τ Cert.HgvRefIdeal.sig) → Buf (Elt Ideal) ℓ) (g' : Dev Cert.HgvRefIdeal.nD → PrngReg), Pre_HgvKernelIdeal_hgv_finite m →
    (∀ c : Dev Cert.HgvKernelIdeal.nD,
      m' ((c.tc : Thread Cert.HgvRefIdeal.nD Cert.HgvRefIdeal.τ).loc Cert.HgvRefIdeal.main_arg0) = m ((c.tc : Thread Cert.HgvKernelIdeal.nD Cert.HgvKernelIdeal.τ).loc Cert.HgvKernelIdeal.main_arg0)
      ∧ m' ((c.tc : Thread Cert.HgvRefIdeal.nD Cert.HgvRefIdeal.τ).loc Cert.HgvRefIdeal.main_arg1) = m ((c.tc : Thread Cert.HgvKernelIdeal.nD Cert.HgvKernelIdeal.τ).loc Cert.HgvKernelIdeal.main_arg1)
      ∧ m' ((c.tc : Thread Cert.HgvRefIdeal.nD Cert.HgvRefIdeal.τ).loc Cert.HgvRefIdeal.main_arg2) = m ((c.tc : Thread Cert.HgvKernelIdeal.nD Cert.HgvKernelIdeal.τ).loc Cert.HgvKernelIdeal.main_arg2)) →
    ∃ (v0 : (c : Dev Cert.HgvKernelIdeal.nD) → Buf (Elt Ideal) ((c.tc : Thread Cert.HgvKernelIdeal.nD Cert.HgvKernelIdeal.τ).loc Cert.HgvKernelIdeal.main_v0_3)),
      θ_run (Cert.HgvKernelIdeal.defs (F := Ideal)) (onTc (τ := Cert.HgvKernelIdeal.τ) (Cert.HgvKernelIdeal.main (F := Ideal))) ⟨m, fun _ => 0, g⟩ (fun r => ∀ c : Dev Cert.HgvKernelIdeal.nD,
          r.2.mem ((c.tc : Thread Cert.HgvKernelIdeal.nD Cert.HgvKernelIdeal.τ).loc Cert.HgvKernelIdeal.main_v0_3) = v0 c
          ∧ r.2.mem ((c.tc : Thread Cert.HgvKernelIdeal.nD Cert.HgvKernelIdeal.τ).loc Cert.HgvKernelIdeal.main_arg0) = m ((c.tc : Thread Cert.HgvKernelIdeal.nD Cert.HgvKernelIdeal.τ).loc Cert.HgvKernelIdeal.main_arg0)
          ∧ r.2.mem ((c.tc : Thread Cert.HgvKernelIdeal.nD Cert.HgvKernelIdeal.τ).loc Cert.HgvKernelIdeal.main_arg1) = m ((c.tc : Thread Cert.HgvKernelIdeal.nD Cert.HgvKernelIdeal.τ).loc Cert.HgvKernelIdeal.main_arg1)
          ∧ r.2.mem ((c.tc : Thread Cert.HgvKernelIdeal.nD Cert.HgvKernelIdeal.τ).loc Cert.HgvKernelIdeal.main_arg2) = m ((c.tc : Thread Cert.HgvKernelIdeal.nD Cert.HgvKernelIdeal.τ).loc Cert.HgvKernelIdeal.main_arg2))
      ∧ θ_run (Cert.HgvRefIdeal.defs (F := Ideal)) (onTc (τ := Cert.HgvRefIdeal.τ) (Cert.HgvRefIdeal.main (F := Ideal))) ⟨m', fun _ => 0, g'⟩ (fun r => ∀ c : Dev Cert.HgvRefIdeal.nD,
          r.2.mem ((c.tc : Thread Cert.HgvRefIdeal.nD Cert.HgvRefIdeal.τ).loc Cert.HgvRefIdeal.main_v24) = v0 c
          ∧ r.2.mem ((c.tc : Thread Cert.HgvRefIdeal.nD Cert.HgvRefIdeal.τ).loc Cert.HgvRefIdeal.main_arg0) = m' ((c.tc : Thread Cert.HgvRefIdeal.nD Cert.HgvRefIdeal.τ).loc Cert.HgvRefIdeal.main_arg0)
          ∧ r.2.mem ((c.tc : Thread Cert.HgvRefIdeal.nD Cert.HgvRefIdeal.τ).loc Cert.HgvRefIdeal.main_arg1) = m' ((c.tc : Thread Cert.HgvRefIdeal.nD Cert.HgvRefIdeal.τ).loc Cert.HgvRefIdeal.main_arg1)
          ∧ r.2.mem ((c.tc : Thread Cert.HgvRefIdeal.nD Cert.HgvRefIdeal.τ).loc Cert.HgvRefIdeal.main_arg2) = m' ((c.tc : Thread Cert.HgvRefIdeal.nD Cert.HgvRefIdeal.τ).loc Cert.HgvRefIdeal.main_arg2))

def preserves_HgsKernel_HgsKernelIdeal : Prop :=
  True

def algebraic_HgsKernelIdeal_HgsRefIdeal_pre_hgs_finite [hHgsKernelIdeal : Cert.HgsKernelIdeal.Facts] [hHgsRefIdeal : Cert.HgsRefIdeal.Facts] [hPre_hgs_finite : Cert.Pre_hgs_finite.Facts] : Prop :=
  ∀ (m : (ℓ : Loc Cert.HgsKernelIdeal.nD Cert.HgsKernelIdeal.τ Cert.HgsKernelIdeal.sig) → Buf (Elt Ideal) ℓ) (g : Dev Cert.HgsKernelIdeal.nD → PrngReg)
    (m' : (ℓ : Loc Cert.HgsRefIdeal.nD Cert.HgsRefIdeal.τ Cert.HgsRefIdeal.sig) → Buf (Elt Ideal) ℓ) (g' : Dev Cert.HgsRefIdeal.nD → PrngReg), Pre_HgsKernelIdeal_hgs_finite m →
    (∀ c : Dev Cert.HgsKernelIdeal.nD,
      m' ((c.tc : Thread Cert.HgsRefIdeal.nD Cert.HgsRefIdeal.τ).loc Cert.HgsRefIdeal.main_arg0) = m ((c.tc : Thread Cert.HgsKernelIdeal.nD Cert.HgsKernelIdeal.τ).loc Cert.HgsKernelIdeal.main_arg0)
      ∧ m' ((c.tc : Thread Cert.HgsRefIdeal.nD Cert.HgsRefIdeal.τ).loc Cert.HgsRefIdeal.main_arg1) = m ((c.tc : Thread Cert.HgsKernelIdeal.nD Cert.HgsKernelIdeal.τ).loc Cert.HgsKernelIdeal.main_arg1)
      ∧ m' ((c.tc : Thread Cert.HgsRefIdeal.nD Cert.HgsRefIdeal.τ).loc Cert.HgsRefIdeal.main_arg2) = m ((c.tc : Thread Cert.HgsKernelIdeal.nD Cert.HgsKernelIdeal.τ).loc Cert.HgsKernelIdeal.main_arg2)) →
    ∃ (v0 : (c : Dev Cert.HgsKernelIdeal.nD) → Buf (Elt Ideal) ((c.tc : Thread Cert.HgsKernelIdeal.nD Cert.HgsKernelIdeal.τ).loc Cert.HgsKernelIdeal.main_v0_2)),
      θ_run (Cert.HgsKernelIdeal.defs (F := Ideal)) (onTc (τ := Cert.HgsKernelIdeal.τ) (Cert.HgsKernelIdeal.main (F := Ideal))) ⟨m, fun _ => 0, g⟩ (fun r => ∀ c : Dev Cert.HgsKernelIdeal.nD,
          r.2.mem ((c.tc : Thread Cert.HgsKernelIdeal.nD Cert.HgsKernelIdeal.τ).loc Cert.HgsKernelIdeal.main_v0_2) = v0 c
          ∧ r.2.mem ((c.tc : Thread Cert.HgsKernelIdeal.nD Cert.HgsKernelIdeal.τ).loc Cert.HgsKernelIdeal.main_arg0) = m ((c.tc : Thread Cert.HgsKernelIdeal.nD Cert.HgsKernelIdeal.τ).loc Cert.HgsKernelIdeal.main_arg0)
          ∧ r.2.mem ((c.tc : Thread Cert.HgsKernelIdeal.nD Cert.HgsKernelIdeal.τ).loc Cert.HgsKernelIdeal.main_arg1) = m ((c.tc : Thread Cert.HgsKernelIdeal.nD Cert.HgsKernelIdeal.τ).loc Cert.HgsKernelIdeal.main_arg1)
          ∧ r.2.mem ((c.tc : Thread Cert.HgsKernelIdeal.nD Cert.HgsKernelIdeal.τ).loc Cert.HgsKernelIdeal.main_arg2) = m ((c.tc : Thread Cert.HgsKernelIdeal.nD Cert.HgsKernelIdeal.τ).loc Cert.HgsKernelIdeal.main_arg2))
      ∧ θ_run (Cert.HgsRefIdeal.defs (F := Ideal)) (onTc (τ := Cert.HgsRefIdeal.τ) (Cert.HgsRefIdeal.main (F := Ideal))) ⟨m', fun _ => 0, g'⟩ (fun r => ∀ c : Dev Cert.HgsRefIdeal.nD,
          r.2.mem ((c.tc : Thread Cert.HgsRefIdeal.nD Cert.HgsRefIdeal.τ).loc Cert.HgsRefIdeal.main_v34) = v0 c
          ∧ r.2.mem ((c.tc : Thread Cert.HgsRefIdeal.nD Cert.HgsRefIdeal.τ).loc Cert.HgsRefIdeal.main_arg0) = m' ((c.tc : Thread Cert.HgsRefIdeal.nD Cert.HgsRefIdeal.τ).loc Cert.HgsRefIdeal.main_arg0)
          ∧ r.2.mem ((c.tc : Thread Cert.HgsRefIdeal.nD Cert.HgsRefIdeal.τ).loc Cert.HgsRefIdeal.main_arg1) = m' ((c.tc : Thread Cert.HgsRefIdeal.nD Cert.HgsRefIdeal.τ).loc Cert.HgsRefIdeal.main_arg1)
          ∧ r.2.mem ((c.tc : Thread Cert.HgsRefIdeal.nD Cert.HgsRefIdeal.τ).loc Cert.HgsRefIdeal.main_arg2) = m' ((c.tc : Thread Cert.HgsRefIdeal.nD Cert.HgsRefIdeal.τ).loc Cert.HgsRefIdeal.main_arg2))

def preserves_HgCall_HgCallIdeal : Prop :=
  True

def Claim : Prop :=
  ∃ (hFfnKernel : Cert.FfnKernel.Facts) (hFfnKernelIdeal : Cert.FfnKernelIdeal.Facts) (hFfnRefIdeal : Cert.FfnRefIdeal.Facts) (hLbKernel : Cert.LbKernel.Facts) (hLbKernelIdeal : Cert.LbKernelIdeal.Facts) (hLbRefIdeal : Cert.LbRefIdeal.Facts) (hLossKernel : Cert.LossKernel.Facts) (hLossKernelIdeal : Cert.LossKernelIdeal.Facts) (hLossRefIdeal : Cert.LossRefIdeal.Facts) (hMergeKernel : Cert.MergeKernel.Facts) (hMergeKernelIdeal : Cert.MergeKernelIdeal.Facts) (hMergeRefIdeal : Cert.MergeRefIdeal.Facts) (hUpKernel : Cert.UpKernel.Facts) (hUpKernelIdeal : Cert.UpKernelIdeal.Facts) (hUpRefIdeal : Cert.UpRefIdeal.Facts) (hWinKernel : Cert.WinKernel.Facts) (hWinKernelIdeal : Cert.WinKernelIdeal.Facts) (hWinRefIdeal : Cert.WinRefIdeal.Facts) (hSwfKernel : Cert.SwfKernel.Facts) (hSwfKernelIdeal : Cert.SwfKernelIdeal.Facts) (hSwfRefIdeal : Cert.SwfRefIdeal.Facts) (hSwvKernel : Cert.SwvKernel.Facts) (hSwvKernelIdeal : Cert.SwvKernelIdeal.Facts) (hSwvRefIdeal : Cert.SwvRefIdeal.Facts) (hMixKernel : Cert.MixKernel.Facts) (hMixKernelIdeal : Cert.MixKernelIdeal.Facts) (hMixRefIdeal : Cert.MixRefIdeal.Facts) (hActKernel : Cert.ActKernel.Facts) (hActKernelIdeal : Cert.ActKernelIdeal.Facts) (hActRefIdeal : Cert.ActRefIdeal.Facts) (hDownKernel : Cert.DownKernel.Facts) (hDownKernelIdeal : Cert.DownKernelIdeal.Facts) (hDownRefIdeal : Cert.DownRefIdeal.Facts) (hBoundsKernel : Cert.BoundsKernel.Facts) (hBoundsKernelIdeal : Cert.BoundsKernelIdeal.Facts) (hBoundsRefIdeal : Cert.BoundsRefIdeal.Facts) (hRmsKernel : Cert.RmsKernel.Facts) (hRmsKernelIdeal : Cert.RmsKernelIdeal.Facts) (hRmsRefIdeal : Cert.RmsRefIdeal.Facts) (hProjKernel : Cert.ProjKernel.Facts) (hProjKernelIdeal : Cert.ProjKernelIdeal.Facts) (hProjRefIdeal : Cert.ProjRefIdeal.Facts) (hWguKernel : Cert.WguKernel.Facts) (hWguKernelIdeal : Cert.WguKernelIdeal.Facts) (hWguRefIdeal : Cert.WguRefIdeal.Facts) (hSlotsKernel : Cert.SlotsKernel.Facts) (hSlotsKernelIdeal : Cert.SlotsKernelIdeal.Facts) (hSlotsRefIdeal : Cert.SlotsRefIdeal.Facts) (hAdamKernel : Cert.AdamKernel.Facts) (hAdamKernelIdeal : Cert.AdamKernelIdeal.Facts) (hAdamRefIdeal : Cert.AdamRefIdeal.Facts) (hHgvKernel : Cert.HgvKernel.Facts) (hHgvKernelIdeal : Cert.HgvKernelIdeal.Facts) (hHgvRefIdeal : Cert.HgvRefIdeal.Facts) (hHgsKernel : Cert.HgsKernel.Facts) (hHgsKernelIdeal : Cert.HgsKernelIdeal.Facts) (hHgsRefIdeal : Cert.HgsRefIdeal.Facts) (hHgCall : Cert.HgCall.Facts) (hHgCallIdeal : Cert.HgCallIdeal.Facts) (hPre_ffn_finite : Cert.Pre_ffn_finite.Facts) (hPre_lb_finite : Cert.Pre_lb_finite.Facts) (hPre_swf_finite : Cert.Pre_swf_finite.Facts) (hPre_swv_finite : Cert.Pre_swv_finite.Facts) (hPre_hgv_finite : Cert.Pre_hgv_finite.Facts) (hPre_hgs_finite : Cert.Pre_hgs_finite.Facts),
    quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_LbKernel (hLbKernel := hLbKernel)
    ∧ quiescent_LbKernelIdeal (hLbKernelIdeal := hLbKernelIdeal)
    ∧ quiescent_LbKernelIdeal_pre_lb_finite (hLbKernelIdeal := hLbKernelIdeal) (hPre_lb_finite := hPre_lb_finite)
    ∧ quiescent_LbRefIdeal (hLbRefIdeal := hLbRefIdeal)
    ∧ quiescent_LbRefIdeal_pre_lb_finite (hLbRefIdeal := hLbRefIdeal) (hPre_lb_finite := hPre_lb_finite)
    ∧ quiescent_LossKernel (hLossKernel := hLossKernel)
    ∧ quiescent_LossKernelIdeal (hLossKernelIdeal := hLossKernelIdeal)
    ∧ quiescent_LossRefIdeal (hLossRefIdeal := hLossRefIdeal)
    ∧ quiescent_MergeKernel (hMergeKernel := hMergeKernel)
    ∧ quiescent_MergeKernelIdeal (hMergeKernelIdeal := hMergeKernelIdeal)
    ∧ quiescent_MergeRefIdeal (hMergeRefIdeal := hMergeRefIdeal)
    ∧ quiescent_UpKernel (hUpKernel := hUpKernel)
    ∧ quiescent_UpKernelIdeal (hUpKernelIdeal := hUpKernelIdeal)
    ∧ quiescent_UpRefIdeal (hUpRefIdeal := hUpRefIdeal)
    ∧ quiescent_WinKernel (hWinKernel := hWinKernel)
    ∧ quiescent_WinKernelIdeal (hWinKernelIdeal := hWinKernelIdeal)
    ∧ quiescent_WinRefIdeal (hWinRefIdeal := hWinRefIdeal)
    ∧ quiescent_SwfKernel (hSwfKernel := hSwfKernel)
    ∧ quiescent_SwfKernelIdeal (hSwfKernelIdeal := hSwfKernelIdeal)
    ∧ quiescent_SwfKernelIdeal_pre_swf_finite (hSwfKernelIdeal := hSwfKernelIdeal) (hPre_swf_finite := hPre_swf_finite)
    ∧ quiescent_SwfRefIdeal (hSwfRefIdeal := hSwfRefIdeal)
    ∧ quiescent_SwfRefIdeal_pre_swf_finite (hSwfRefIdeal := hSwfRefIdeal) (hPre_swf_finite := hPre_swf_finite)
    ∧ quiescent_SwvKernel (hSwvKernel := hSwvKernel)
    ∧ quiescent_SwvKernelIdeal (hSwvKernelIdeal := hSwvKernelIdeal)
    ∧ quiescent_SwvKernelIdeal_pre_swv_finite (hSwvKernelIdeal := hSwvKernelIdeal) (hPre_swv_finite := hPre_swv_finite)
    ∧ quiescent_SwvRefIdeal (hSwvRefIdeal := hSwvRefIdeal)
    ∧ quiescent_SwvRefIdeal_pre_swv_finite (hSwvRefIdeal := hSwvRefIdeal) (hPre_swv_finite := hPre_swv_finite)
    ∧ quiescent_MixKernel (hMixKernel := hMixKernel)
    ∧ quiescent_MixKernelIdeal (hMixKernelIdeal := hMixKernelIdeal)
    ∧ quiescent_MixRefIdeal (hMixRefIdeal := hMixRefIdeal)
    ∧ quiescent_ActKernel (hActKernel := hActKernel)
    ∧ quiescent_ActKernelIdeal (hActKernelIdeal := hActKernelIdeal)
    ∧ quiescent_ActRefIdeal (hActRefIdeal := hActRefIdeal)
    ∧ quiescent_DownKernel (hDownKernel := hDownKernel)
    ∧ quiescent_DownKernelIdeal (hDownKernelIdeal := hDownKernelIdeal)
    ∧ quiescent_DownRefIdeal (hDownRefIdeal := hDownRefIdeal)
    ∧ quiescent_BoundsKernel (hBoundsKernel := hBoundsKernel)
    ∧ quiescent_BoundsKernelIdeal (hBoundsKernelIdeal := hBoundsKernelIdeal)
    ∧ quiescent_BoundsRefIdeal (hBoundsRefIdeal := hBoundsRefIdeal)
    ∧ quiescent_RmsKernel (hRmsKernel := hRmsKernel)
    ∧ quiescent_RmsKernelIdeal (hRmsKernelIdeal := hRmsKernelIdeal)
    ∧ quiescent_RmsRefIdeal (hRmsRefIdeal := hRmsRefIdeal)
    ∧ quiescent_ProjKernel (hProjKernel := hProjKernel)
    ∧ quiescent_ProjKernelIdeal (hProjKernelIdeal := hProjKernelIdeal)
    ∧ quiescent_ProjRefIdeal (hProjRefIdeal := hProjRefIdeal)
    ∧ quiescent_WguKernel (hWguKernel := hWguKernel)
    ∧ quiescent_WguKernelIdeal (hWguKernelIdeal := hWguKernelIdeal)
    ∧ quiescent_WguRefIdeal (hWguRefIdeal := hWguRefIdeal)
    ∧ quiescent_SlotsKernel (hSlotsKernel := hSlotsKernel)
    ∧ quiescent_SlotsKernelIdeal (hSlotsKernelIdeal := hSlotsKernelIdeal)
    ∧ quiescent_SlotsRefIdeal (hSlotsRefIdeal := hSlotsRefIdeal)
    ∧ quiescent_AdamKernel (hAdamKernel := hAdamKernel)
    ∧ quiescent_AdamKernelIdeal (hAdamKernelIdeal := hAdamKernelIdeal)
    ∧ quiescent_AdamRefIdeal (hAdamRefIdeal := hAdamRefIdeal)
    ∧ quiescent_HgvKernel (hHgvKernel := hHgvKernel)
    ∧ quiescent_HgvKernelIdeal (hHgvKernelIdeal := hHgvKernelIdeal)
    ∧ quiescent_HgvKernelIdeal_pre_hgv_finite (hHgvKernelIdeal := hHgvKernelIdeal) (hPre_hgv_finite := hPre_hgv_finite)
    ∧ quiescent_HgvRefIdeal (hHgvRefIdeal := hHgvRefIdeal)
    ∧ quiescent_HgvRefIdeal_pre_hgv_finite (hHgvRefIdeal := hHgvRefIdeal) (hPre_hgv_finite := hPre_hgv_finite)
    ∧ quiescent_HgsKernel (hHgsKernel := hHgsKernel)
    ∧ quiescent_HgsKernelIdeal (hHgsKernelIdeal := hHgsKernelIdeal)
    ∧ quiescent_HgsKernelIdeal_pre_hgs_finite (hHgsKernelIdeal := hHgsKernelIdeal) (hPre_hgs_finite := hPre_hgs_finite)
    ∧ quiescent_HgsRefIdeal (hHgsRefIdeal := hHgsRefIdeal)
    ∧ quiescent_HgsRefIdeal_pre_hgs_finite (hHgsRefIdeal := hHgsRefIdeal) (hPre_hgs_finite := hPre_hgs_finite)
    ∧ quiescent_HgCall (hHgCall := hHgCall)
    ∧ quiescent_HgCallIdeal (hHgCallIdeal := hHgCallIdeal)
    ∧ preserves_FfnKernel_FfnKernelIdeal
    ∧ algebraic_FfnKernelIdeal_FfnRefIdeal_pre_ffn_finite (hFfnKernelIdeal := hFfnKernelIdeal) (hFfnRefIdeal := hFfnRefIdeal) (hPre_ffn_finite := hPre_ffn_finite)
    ∧ preserves_LbKernel_LbKernelIdeal
    ∧ algebraic_LbKernelIdeal_LbRefIdeal_pre_lb_finite (hLbKernelIdeal := hLbKernelIdeal) (hLbRefIdeal := hLbRefIdeal) (hPre_lb_finite := hPre_lb_finite)
    ∧ preserves_LossKernel_LossKernelIdeal
    ∧ algebraic_LossKernelIdeal_LossRefIdeal (hLossKernelIdeal := hLossKernelIdeal) (hLossRefIdeal := hLossRefIdeal)
    ∧ preserves_MergeKernel_MergeKernelIdeal
    ∧ algebraic_MergeKernelIdeal_MergeRefIdeal (hMergeKernelIdeal := hMergeKernelIdeal) (hMergeRefIdeal := hMergeRefIdeal)
    ∧ preserves_UpKernel_UpKernelIdeal
    ∧ algebraic_UpKernelIdeal_UpRefIdeal (hUpKernelIdeal := hUpKernelIdeal) (hUpRefIdeal := hUpRefIdeal)
    ∧ preserves_WinKernel_WinKernelIdeal
    ∧ algebraic_WinKernelIdeal_WinRefIdeal (hWinKernelIdeal := hWinKernelIdeal) (hWinRefIdeal := hWinRefIdeal)
    ∧ preserves_SwfKernel_SwfKernelIdeal
    ∧ algebraic_SwfKernelIdeal_SwfRefIdeal_pre_swf_finite (hSwfKernelIdeal := hSwfKernelIdeal) (hSwfRefIdeal := hSwfRefIdeal) (hPre_swf_finite := hPre_swf_finite)
    ∧ preserves_SwvKernel_SwvKernelIdeal
    ∧ algebraic_SwvKernelIdeal_SwvRefIdeal_pre_swv_finite (hSwvKernelIdeal := hSwvKernelIdeal) (hSwvRefIdeal := hSwvRefIdeal) (hPre_swv_finite := hPre_swv_finite)
    ∧ preserves_MixKernel_MixKernelIdeal
    ∧ algebraic_MixKernelIdeal_MixRefIdeal (hMixKernelIdeal := hMixKernelIdeal) (hMixRefIdeal := hMixRefIdeal)
    ∧ preserves_ActKernel_ActKernelIdeal
    ∧ algebraic_ActKernelIdeal_ActRefIdeal (hActKernelIdeal := hActKernelIdeal) (hActRefIdeal := hActRefIdeal)
    ∧ preserves_DownKernel_DownKernelIdeal
    ∧ algebraic_DownKernelIdeal_DownRefIdeal (hDownKernelIdeal := hDownKernelIdeal) (hDownRefIdeal := hDownRefIdeal)
    ∧ preserves_BoundsKernel_BoundsKernelIdeal
    ∧ algebraic_BoundsKernelIdeal_BoundsRefIdeal (hBoundsKernelIdeal := hBoundsKernelIdeal) (hBoundsRefIdeal := hBoundsRefIdeal)
    ∧ preserves_RmsKernel_RmsKernelIdeal
    ∧ algebraic_RmsKernelIdeal_RmsRefIdeal (hRmsKernelIdeal := hRmsKernelIdeal) (hRmsRefIdeal := hRmsRefIdeal)
    ∧ preserves_ProjKernel_ProjKernelIdeal
    ∧ algebraic_ProjKernelIdeal_ProjRefIdeal (hProjKernelIdeal := hProjKernelIdeal) (hProjRefIdeal := hProjRefIdeal)
    ∧ preserves_WguKernel_WguKernelIdeal
    ∧ algebraic_WguKernelIdeal_WguRefIdeal (hWguKernelIdeal := hWguKernelIdeal) (hWguRefIdeal := hWguRefIdeal)
    ∧ preserves_SlotsKernel_SlotsKernelIdeal
    ∧ algebraic_SlotsKernelIdeal_SlotsRefIdeal (hSlotsKernelIdeal := hSlotsKernelIdeal) (hSlotsRefIdeal := hSlotsRefIdeal)
    ∧ preserves_AdamKernel_AdamKernelIdeal
    ∧ algebraic_AdamKernelIdeal_AdamRefIdeal (hAdamKernelIdeal := hAdamKernelIdeal) (hAdamRefIdeal := hAdamRefIdeal)
    ∧ preserves_HgvKernel_HgvKernelIdeal
    ∧ algebraic_HgvKernelIdeal_HgvRefIdeal_pre_hgv_finite (hHgvKernelIdeal := hHgvKernelIdeal) (hHgvRefIdeal := hHgvRefIdeal) (hPre_hgv_finite := hPre_hgv_finite)
    ∧ preserves_HgsKernel_HgsKernelIdeal
    ∧ algebraic_HgsKernelIdeal_HgsRefIdeal_pre_hgs_finite (hHgsKernelIdeal := hHgsKernelIdeal) (hHgsRefIdeal := hHgsRefIdeal) (hPre_hgs_finite := hPre_hgs_finite)
    ∧ preserves_HgCall_HgCallIdeal
-- ==== Pre_ffn_finite.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

class Facts : Prop where
  bcast_S_S16384x2816 : S_.BroadcastsInDim S16384x2816 (![] : Fin 0 → Fin S16384x2816.rank)
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x2816 .f32) (main_arg1 : FVec F S16384x2816 .f32) (main_arg2 : FVec F S2816x1024 .f32) (main_arg3 : FVec F S16384x1024 .f32) : IVec S16384x2816 1 × IVec S2816x1024 1 × IVec S16384x1024 1 :=
  let main_v0 : FVec F S16384x2816 .f32 := Host.absf main_arg1
  let main_cst : FVec F S_ .f32 := constant S_ .f32 0x7F800000#32
  let main_v1 : FVec F S16384x2816 .f32 := broadcastInDim S16384x2816 ![] bcast_S_S16384x2816 main_cst
  let main_v2 : IVec S16384x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S16384x1024 .f32 := Host.absf main_arg3
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== Pre_hgs_finite.lean ====
abbrev S16384x7680 : Shape := ⟨2, ![16384, 7680]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S16384x7680 .f32) (main_arg1 : FVec F S1x1024 .f32) (main_arg2 : FVec F S1x1024 .f32) : IVec S1x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  main_v2
-- ==== Pre_hgv_finite.lean ====
abbrev S16384x7680 : Shape := ⟨2, ![16384, 7680]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S16384x7680 .f32) (main_arg1 : FVec F S1x1024 .f32) (main_arg2 : FVec F S1x1024 .f32) : IVec S1x1024 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  main_v2
-- ==== Pre_lb_finite.lean ====
abbrev S4x1024 : Shape := ⟨2, ![4, 1024]⟩
abbrev S_ : Shape := ⟨0, ![]⟩

class Facts : Prop where
  bcast_S_S4x1024 : S_.BroadcastsInDim S4x1024 (![] : Fin 0 → Fin S4x1024.rank)

variable [Facts]

def fn {F : FTy → Type} [FloatOps F] (main_arg0 : FVec F S4x1024 .f32) (main_arg1 : FVec F S4x1024 .f32) : IVec S4x1024 1 × IVec S4x1024 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  (main_v2, main_v5)
-- ==== Pre_swf_finite.lean ====
abbrev S16384x7680 : Shape := ⟨2, ![16384, 7680]⟩
abbrev S16 : Shape := ⟨1, ![16]⟩
abbrev S_ : Shape := ⟨0, ![]⟩

class Facts : Prop where
  bcast_S_S16384x7680 : S_.BroadcastsInDim S16384x7680 (![] : Fin 0 → Fin S16384x7680.rank)
  bcast_S_S16 : S_.BroadcastsInDim S16 (![] : Fin 0 → Fin S16.rank)

variable [Facts]

def fn {F : FTy → Type} [FloatOps F] (main_arg0 : FVec F S16384x7680 .f32) (main_arg1 : FVec F S16 .f32) : IVec S16384x7680 1 × IVec S16 1 :=
  let main_v0 : FVec F S16384x7680 .f32 := Host.absf main_arg0
  let main_cst : FVec F S_ .f32 := constant S_ .f32 0x7F800000#32
  let main_v1 : FVec F S16384x7680 .f32 := broadcastInDim S16384x7680 ![] bcast_S_S16384x7680 main_cst
  let main_v2 : IVec S16384x7680 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== Pre_swv_finite.lean ====
abbrev S16384x7680 : Shape := ⟨2, ![16384, 7680]⟩
abbrev S16 : Shape := ⟨1, ![16]⟩
abbrev S16384x1024 : Shape := ⟨2, ![16384, 1024]⟩
abbrev S_ : Shape := ⟨0, ![]⟩

class Facts : Prop where
  bcast_S_S16384x7680 : S_.BroadcastsInDim S16384x7680 (![] : Fin 0 → Fin S16384x7680.rank)
  bcast_S_S16 : S_.BroadcastsInDim S16 (![] : Fin 0 → Fin S16.rank)

variable [Facts]

def fn {F : FTy → Type} [FloatOps F] (main_arg0 : FVec F S16384x7680 .f32) (main_arg1 : FVec F S16 .f32) (main_arg2 : FVec F S16384x1024 .f32) : IVec S16384x7680 1 × IVec S16 1 :=
  let main_v0 : FVec F S16384x7680 .f32 := Host.absf main_arg0
  let main_cst : FVec F S_ .f32 := constant S_ .f32 0x7F800000#32
  let main_v1 : FVec F S16384x7680 .f32 := broadcastInDim S16384x7680 ![] bcast_S_S16384x7680 main_cst
  let main_v2 : IVec S16384x7680 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  (main_v2, main_v5)
-- ==== FfnKernel.lean ====
abbrev S16384x2816 : Shape := ⟨2, ![16384, 2816]⟩
abbrev S2816x1024 : Shape := ⟨2, ![2816, 1024]⟩
abbrev S16384x1024 : Shape := ⟨2, ![16384, 1024]⟩
abbrev S16384x1408 : Shape := ⟨2, ![16384, 1408]⟩
abbrev S16384x5632 : Shape := ⟨2, ![16384, 5632]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 18
  | .vmem => 8
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x1408, .f32⟩
  | .hbm, ⟨8, _⟩ => ⟨S16384x5632, .f32⟩
  | .hbm, ⟨9, _⟩ => ⟨S16384x5632, .bf16⟩
  | .hbm, ⟨10, _⟩ => ⟨S2816x1024, .bf16⟩
  | .hbm, ⟨11, _⟩ => ⟨S16384x5632, .bf16⟩
  | .hbm, ⟨12, _⟩ => ⟨S16384x1408, .bf16⟩
  | .hbm, ⟨13, _⟩ => ⟨S16384x1408, .bf16⟩
  | .hbm, ⟨14, _⟩ => ⟨S16384x2816, .bf16⟩
  | .hbm, ⟨15, _⟩ => ⟨S16384x1408, .bf16⟩
  | .hbm, ⟨16, _⟩ => ⟨S16384x1408, .bf16⟩
  | .hbm, ⟨17, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnRefIdeal.lean ====
abbrev S16384x2816 : Shape := ⟨2, ![16384, 2816]⟩
abbrev S2816x1024 : Shape := ⟨2, ![2816, 1024]⟩
abbrev S16384x1024 : Shape := ⟨2, ![16384, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S_, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x1024, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .bf16⟩
  | .hbm, ⟨27, _⟩ => ⟨S16384x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== LbKernel.lean ====
abbrev S4x1024 : Shape := ⟨2, ![4, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S4x1024, .f32⟩
  | .hbm, ⟨6, _⟩ => ⟨S4x1024, .i1⟩
  | .hbm, ⟨7, _⟩ => ⟨S4x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4x1024, .f32⟩
  | .hbm, ⟨35, _⟩ => ⟨S4x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S4x1024, .f32⟩
  | .hbm, ⟨43, _⟩ => ⟨S1x1024, .f32⟩
  | .hbm, ⟨44, _⟩ => ⟨S4x1024, .f32⟩
  | .hbm, ⟨45, _⟩ => ⟨S4x1024, .f32⟩
  | .hbm, ⟨46, _⟩ => ⟨S4x1024, .f32⟩
  | .hbm, ⟨47, _⟩ => ⟨S4x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S4x1024, .f32⟩
  | .hbm, ⟨53, _⟩ => ⟨S_, .f32⟩
  | .hbm, ⟨54, _⟩ => ⟨S_, .f32⟩
  | .hbm, ⟨55, _⟩ => ⟨S4x1024, .f32⟩
  | .hbm, ⟨56, _⟩ => ⟨S4x1024, .f32⟩
  | .hbm, ⟨57, _⟩ => ⟨S4x1024, .f32⟩
  | .hbm, ⟨58, _⟩ => ⟨S4x1024, .f32⟩
  | .hbm, ⟨59, _⟩ => ⟨S4x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1024, .f32⟩
  | .hbm, ⟨64, _⟩ => ⟨S4x1024, .f32⟩
  | .hbm, ⟨65, _⟩ => ⟨S4x1024, .f32⟩
  | .hbm, ⟨66, _⟩ => ⟨S_, .f32⟩
  | .hbm, ⟨67, _⟩ => ⟨S1024, .f32⟩
  | .hbm, ⟨68, _⟩ => ⟨S4x1024, .f32⟩
  | .hbm, ⟨69, _⟩ => ⟨S4x1024, .f32⟩
  | .hbm, ⟨70, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== LossKernel.lean ====
abbrev S16384x1024 : Shape := ⟨2, ![16384, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S_, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S16384x1024, .f32⟩
  | .hbm, ⟨56, _⟩ => ⟨S16384x1024, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== MergeKernel.lean ====
abbrev S16384x1024 : Shape := ⟨2, ![16384, 1024]⟩
abbrev S16384x7680 : Shape := ⟨2, ![16384, 7680]⟩
abbrev S1024x1024 : Shape := ⟨2, ![1024, 1024]⟩
abbrev S16384x2048 : Shape := ⟨2, ![16384, 2048]⟩
abbrev S512x1024 : Shape := ⟨2, ![512, 1024]⟩
abbrev S512x512 : Shape := ⟨2, ![512, 512]⟩
abbrev S512x2048 : Shape := ⟨2, ![512, 2048]⟩

abbrev nBuf : Space → Nat
  | .hbm => 21
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x7680, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16384x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .bf16⟩
  | .hbm, ⟨14, _⟩ => ⟨S16384x1024, .f32⟩
  | .hbm, ⟨15, _⟩ => ⟨S16384x1024, .bf16⟩
  | .hbm, ⟨16, _⟩ => ⟨S16384x1024, .bf16⟩
  | .hbm, ⟨17, _⟩ => ⟨S16384x1024, .bf16⟩
  | .hbm, ⟨18, _⟩ => ⟨S16384x2048, .bf16⟩
  | .hbm, ⟨19, _⟩ => ⟨S16384x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x2048, .bf16⟩
  | .local _ .vmem, ⟨22, _⟩ => ⟨S512x2048, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeRefIdeal.lean ====
abbrev S16384x1024 : Shape := ⟨2, ![16384, 1024]⟩
abbrev S16384x7680 : Shape := ⟨2, ![16384, 7680]⟩
abbrev S1024x1024 : Shape := ⟨2, ![1024, 1024]⟩
abbrev S_ : Shape := ⟨0, ![]⟩
abbrev S16384x2048 : Shape := ⟨2, ![16384, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x7680, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S16384x1024, .bf16⟩
  | .hbm, ⟨50, _⟩ => ⟨S16384x2048, .f32⟩
  | .hbm, ⟨51, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== UpKernel.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S2816x1024 : Shape := ⟨2, ![2816, 1024]⟩
abbrev S1408x1024 : Shape := ⟨2, ![1408, 1024]⟩
abbrev S5632x1024 : Shape := ⟨2, ![5632, 1024]⟩
abbrev S16384x1408 : Shape := ⟨2, ![16384, 1408]⟩
abbrev S16384x5632 : Shape := ⟨2, ![16384, 5632]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S1408x1024, .bf16⟩
  | .hbm, ⟨12, _⟩ => ⟨S1408x1024, .bf16⟩
  | .hbm, ⟨13, _⟩ => ⟨S1408x1024, .bf16⟩
  | .hbm, ⟨14, _⟩ => ⟨S1408x1024, .bf16⟩
  | .hbm, ⟨15, _⟩ => ⟨S5632x1024, .bf16⟩
  | .hbm, ⟨16, _⟩ => ⟨S16384x1408, .f32⟩
  | .hbm, ⟨17, _⟩ => ⟨S16384x1408, .f32⟩
  | .hbm, ⟨18, _⟩ => ⟨S16384x1408, .f32⟩
  | .hbm, ⟨19, _⟩ => ⟨S16384x1408, .f32⟩
  | .hbm, ⟨20, _⟩ => ⟨S16384x5632, .f32⟩
  | .hbm, ⟨21, _⟩ => ⟨S16384x5632, .bf16⟩
  | .hbm, ⟨22, _⟩ => ⟨S16384x1024, .f32⟩
  | .hbm, ⟨23, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== UpRefIdeal.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S16384x2816, .f32⟩
  | .hbm, ⟨5, _⟩ => ⟨S16384x2816, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== WinKernel.lean ====
abbrev S16384x1024 : Shape := ⟨2, ![16384, 1024]⟩
abbrev S1x1024 : Shape := ⟨2, ![1, 1024]⟩
abbrev S1024x7680 : Shape := ⟨2, ![1024, 7680]⟩
abbrev S16384x7680 : Shape := ⟨2, ![16384, 7680]⟩
abbrev S16384x4096 : Shape := ⟨2, ![16384, 4096]⟩
abbrev S16384x256 : Shape := ⟨2, ![16384, 256]⟩
abbrev S16384x2048 : Shape := ⟨2, ![16384, 2048]⟩
abbrev S7680x1024 : Shape := ⟨2, ![7680, 1024]⟩
abbrev S256x4096 : Shape := ⟨2, ![256, 4096]⟩
abbrev S256x1024 : Shape := ⟨2, ![256, 1024]⟩
abbrev S256x256 : Shape := ⟨2, ![256, 256]⟩
abbrev S256x2048 : Shape := ⟨2, ![256, 2048]⟩
abbrev S4096x1024 : Shape := ⟨2, ![4096, 1024]⟩
abbrev S1024x1024 : Shape := ⟨2, ![1024, 1024]⟩
abbrev S2048x1024 : Shape := ⟨2, ![2048, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7680, .f32⟩
  | .hbm, ⟨3, _⟩ => ⟨S16384x7680, .f32⟩
  | .hbm, ⟨4, _⟩ => ⟨S16384x1024, .f32⟩
  | .hbm, ⟨5, _⟩ => ⟨S16384x7680, .bf16⟩
  | .hbm, ⟨6, _⟩ => ⟨S16384x4096, .bf16⟩
  | .hbm, ⟨7, _⟩ => ⟨S16384x1024, .bf16⟩
  | .hbm, ⟨8, _⟩ => ⟨S16384x256, .bf16⟩
  | .hbm, ⟨9, _⟩ => ⟨S16384x256, .bf16⟩
  | .hbm, ⟨10, _⟩ => ⟨S16384x2048, .bf16⟩
  | .hbm, ⟨11, _⟩ => ⟨S7680x1024, .f32⟩
  | .hbm, ⟨12, _⟩ => ⟨S7680x1024, .bf16⟩
  | .hbm, ⟨13, _⟩ => ⟨S16384x1024, .f32⟩
  | .hbm, ⟨14, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S256x1024, .bf16⟩
  | .local _ .vmem, ⟨3, _⟩ => ⟨S256x1024, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x2048, .bf16⟩
  | .local _ .vmem, ⟨9, _⟩ => ⟨S256x2048, .bf16⟩
  | .local _ .vmem, ⟨10, _⟩ => ⟨S7680x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S7680x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== WinRefIdeal.lean ====
abbrev S16384x1024 : Shape := ⟨2, ![16384, 1024]⟩
abbrev S1x1024 : Shape := ⟨2, ![1, 1024]⟩
abbrev S1024x7680 : Shape := ⟨2, ![1024, 7680]⟩
abbrev S16384x7680 : Shape := ⟨2, ![16384, 7680]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7680, .f32⟩
  | .hbm, ⟨3, _⟩ => ⟨S16384x7680, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x7680, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S16384, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== SwfKernel.lean ====
abbrev S16384x7680 : Shape := ⟨2, ![16384, 7680]⟩
abbrev S16 : Shape := ⟨1, ![16]⟩
abbrev S1x16 : Shape := ⟨2, ![1, 16]⟩
abbrev S8 : Shape := ⟨1, ![8]⟩
abbrev S_ : Shape := ⟨0, ![]⟩
abbrev S128 : Shape := ⟨1, ![128]⟩
abbrev S16384 : Shape := ⟨1, ![16384]⟩
abbrev S16384x1 : Shape := ⟨2, ![16384, 1]⟩
abbrev S128x1 : Shape := ⟨2, ![128, 1]⟩
abbrev S1x128 : Shape := ⟨2, ![1, 128]⟩
abbrev S16384x128 : Shape := ⟨2, ![16384, 128]⟩
abbrev S16384x1024 : Shape := ⟨2, ![16384, 1024]⟩
abbrev S128x512 : Shape := ⟨2, ![128, 512]⟩
abbrev S128x128 : Shape := ⟨2, ![128, 128]⟩
abbrev S256x128 : Shape := ⟨2, ![256, 128]⟩
abbrev S1x1 : Shape := ⟨2, ![1, 1]⟩

abbrev nBuf : Space → Nat
  | .hbm => 107
  | .vmem => 24
  | .smem => 1
  | _ => 0

abbrev bufTy : (tb : Table) → Fin (tcTables nBuf tb) → BufTy
  | .hbm, ⟨0, _⟩ => ⟨S16384x7680, .f32⟩
  | .hbm, ⟨1, _⟩ => ⟨S16, .f32⟩
  | .hbm, ⟨2, _⟩ => ⟨S1x16, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S_, .i1⟩
  | .hbm, ⟨31, _⟩ => ⟨S128, .i1⟩
  | .hbm, ⟨32, _⟩ => ⟨S128, .i1⟩
  | .hbm, ⟨33, _⟩ => ⟨S128, .i1⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S16384, .i32⟩
  | .hbm, ⟨38, _⟩ => ⟨S16384, .f32⟩
  | .hbm, ⟨39, _⟩ => ⟨S16384x1, .f32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .i32⟩
  | .hbm, ⟨55, _⟩ => ⟨S_, .i1⟩
  | .hbm, ⟨56, _⟩ => ⟨S128, .i1⟩
  | .hbm, ⟨57, _⟩ => ⟨S128, .i1⟩
  | .hbm, ⟨58, _⟩ => ⟨S128, .i1⟩
  | .hbm, ⟨59, _⟩ => ⟨S128, .i32⟩
  | .hbm, ⟨60, _⟩ => ⟨S128, .i32⟩
  | .hbm, ⟨61, _⟩ => ⟨S128, .i32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S128, .i32⟩
  | .hbm, ⟨69, _⟩ => ⟨S128x1, .i32⟩
  | .hbm, ⟨70, _⟩ => ⟨S128, .f32⟩
  | .hbm, ⟨71, _⟩ => ⟨S1x128, .f32⟩
  | .hbm, ⟨72, _⟩ => ⟨S16384x128, .f32⟩
  | .hbm, ⟨73, _⟩ => ⟨S16384x128, .f32⟩
  | .hbm, ⟨74, _⟩ => ⟨S16384x128, .f32⟩
  | .hbm, ⟨75, _⟩ => ⟨S16384x128, .f32⟩
  | .hbm, ⟨76, _⟩ => ⟨S16384x128, .f32⟩
  | .hbm, ⟨77, _⟩ => ⟨S_, .i32⟩
  | .hbm, ⟨78, _⟩ => ⟨S128, .i32⟩
  | .hbm, ⟨79, _⟩ => ⟨S128, .i1⟩
  | .hbm, ⟨80, _⟩ => ⟨S_, .f32⟩
  | .hbm, ⟨81, _⟩ => ⟨S_, .f32⟩
  | .hbm, ⟨82, _⟩ => ⟨S16384x128, .i1⟩
  | .hbm, ⟨83, _⟩ => ⟨S16384x128, .f32⟩
  | .hbm, ⟨84, _⟩ => ⟨S16384x128, .f32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S16384x128, .f32⟩
  | .hbm, ⟨89, _⟩ => ⟨S_, .f32⟩
  | .hbm, ⟨90, _⟩ => ⟨S_, .f32⟩
  | .hbm, ⟨91, _⟩ => ⟨S16384x128, .i1⟩
  | .hbm, ⟨92, _⟩ => ⟨S16384x128, .f32⟩
  | .hbm, ⟨93, _⟩ => ⟨S16384x128, .f32⟩
  | .hbm, ⟨94, _⟩ => ⟨S_, .i32⟩
  | .hbm, ⟨95, _⟩ => ⟨S128, .i32⟩
  | .hbm, ⟨96, _⟩ => ⟨S128, .i1⟩
  | .hbm, ⟨97, _⟩ => ⟨S_, .i32⟩
  | .hbm, ⟨98, _⟩ => ⟨S128, .i32⟩
  | .hbm, ⟨99, _⟩ => ⟨S128, .i1⟩
  | .hbm, ⟨100, _⟩ => ⟨S128, .i1⟩
  | .hbm, ⟨101, _⟩ => ⟨S_, .f32⟩
  | .hbm, ⟨102, _⟩ => ⟨S_, .f32⟩
  | .hbm, ⟨103, _⟩ => ⟨S16384x128, .i1⟩
  | .hbm, ⟨104, _⟩ => ⟨S16384x128, .f32⟩
  | .hbm, ⟨105, _⟩ => ⟨S16384x128, .f32⟩
  | .hbm, ⟨106, _⟩ => ⟨S16384x1024, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x512, .bf16⟩
  | .local _ .vmem, ⟨23, _⟩ => ⟨S128x512, .bf16⟩
  | .local _ .smem, ⟨0, _⟩ => ⟨S1x16, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_1 : Ref sig .tc := ⟨.hbm, 48, rfl⟩
abbrev main_call1_v5 : Ref sig .tc := ⟨.hbm, 49, rfl⟩
abbrev main_call1_v6 : Ref sig .tc := ⟨.hbm, 50, rfl⟩
abbrev main_call1_c_2 : Ref sig .tc := ⟨.hbm, 51, rfl⟩
abbrev main_call1_v7 : Ref sig .tc := ⟨.hbm, 52, rfl⟩
abbrev main_call1_v8 : Ref sig .tc := ⟨.hbm, 53, rfl⟩
abbrev main_call1_c_3 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_v14 : Ref sig .tc := ⟨.hbm, 61, rfl⟩
abbrev main_c_3 : Ref sig .tc := ⟨.hbm, 62, rfl⟩
abbrev main_v15 : Ref sig .tc := ⟨.hbm, 63, rfl⟩
abbrev main_v16 : Ref sig .tc := ⟨.hbm, 64, rfl⟩
abbrev main_c_4 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_5 : Ref sig .tc := ⟨.hbm, 77, rfl⟩
abbrev main_v28 : Ref sig .tc := ⟨.hbm, 78, rfl⟩
abbrev main_v29 : Ref sig .tc := ⟨.hbm, 79, rfl⟩
abbrev main_cst_6 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_v30 : Ref sig .tc := ⟨.hbm, 84, rfl⟩
abbrev main_c_7 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_8 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v34 : Ref sig .tc := ⟨.hbm, 93, rfl⟩
abbrev main_c_9 : Ref sig .tc := ⟨.hbm, 94, rfl⟩
abbrev main_v35 : Ref sig .tc := ⟨.hbm, 95, rfl⟩
abbrev main_v36 : Ref sig .tc := ⟨.hbm, 96, rfl⟩
abbrev main_c_10 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_cst_11 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_v40 : Ref sig .tc := ⟨.hbm, 105, rfl⟩
abbrev main_v41 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![2, 128], ![false, false]⟩

def k0_off1 (i : grid0.Coords) (c0_i32_33 : BitVec 32) (c0_i32_34 : BitVec 32) (c0_i32_35 : BitVec 32) : Fin 2 → Nat :=
  let c0_36 : Index := 0#32
  let c8_i32_32 : BitVec 32 := 8#32
  let arg0 : BitVec 32 := BitVec.ofNat 32 (i 0).val
  let v71 : BitVec 32 := Scalar.muli c8_i32_32 arg0
  let v72 : BitVec 32 := Scalar.addi v71 c0_i32_33
  let v73 : BitVec 32 := Scalar.addi v72 c0_i32_34
  let v74 : BitVec 32 := Scalar.addi v73 c0_i32_35
  let v75 : Index := Scalar.indexCast v74
  ![0, v75.toNat]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c40_i32 : BitVec 32 := 40#32
  let v2 : BitVec 32 := Scalar.addi c40_i32 arg0
  let c0_i32_0 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c42_i32 : BitVec 32 := 42#32
  let v2 : BitVec 32 := Scalar.addi c42_i32 arg0
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .smem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== SwfRefIdeal.lean ====
abbrev S16384x7680 : Shape := ⟨2, ![16384, 7680]⟩
abbrev S16 : Shape := ⟨1, ![16]⟩
abbrev S16384x1024 : Shape := ⟨2, ![16384, 1024]⟩
abbrev S16384x256 : Shape := ⟨2, ![16384, 256]⟩
abbrev S16384 : Shape := ⟨1, ![16384]⟩
abbrev S1x16384x16x64 : Shape := ⟨4, ![1, 16384, 16, 64]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S1x16384x16x16 : Shape := ⟨4, ![1, 16384, 16, 16]⟩
abbrev S1x16384x16x8 : Shape := ⟨4, ![1, 16384, 16, 8]⟩
abbrev S1x16384x16x48 : Shape := ⟨4, ![1, 16384, 16, 48]⟩
abbrev S1x16384x4x64 : Shape := ⟨4, ![1, 16384, 4, 64]⟩
abbrev S1x16384x4x16 : Shape := ⟨4, ![1, 16384, 4, 16]⟩
abbrev S1x16384x4x8 : Shape := ⟨4, ![1, 16384, 4, 8]⟩
abbrev S1x16384x4x48 : Shape := ⟨4, ![1, 16384, 4, 48]⟩
abbrev S1x128x128x4x4x64 : Shape := ⟨6, ![1, 128, 128, 4, 4, 64]⟩
abbrev S1x128x128x4x64 : Shape := ⟨5, ![1, 128, 128, 4, 64]⟩
abbrev S1x1x128x4x64 : Shape := ⟨5, ![1, 1, 128, 4, 64]⟩
abbrev S1x127x128x4x64 : Shape := ⟨5, ![1, 127, 128, 4, 64]⟩
abbrev S1x128x256x4x64 : Shape := ⟨5, ![1, 128, 256, 4, 64]⟩
abbrev S1x128x4x256x128x4 : Shape := ⟨6, ![1, 128, 4, 256, 128, 4]⟩
abbrev S1x128x4x4x128x256 : Shape := ⟨6, ![1, 128, 4, 4, 128, 256]⟩
abbrev S128 : Shape := ⟨1, ![128]⟩
abbrev S128x1x1 : Shape := ⟨3, ![128, 1, 1]⟩
abbrev S1x128x1 : Shape := ⟨3, ![1, 128, 1]⟩
abbrev S128x128x1 : Shape := ⟨3, ![128, 128, 1]⟩
abbrev S256 : Shape := ⟨1, ![256]⟩
abbrev S1x1x256 : Shape := ⟨3, ![1, 1, 256]⟩
abbrev S128x1x256 : Shape := ⟨3, ![128, 1, 256]⟩
abbrev S128x128x256 : Shape := ⟨3, ![128, 128, 256]⟩
abbrev S1x128x1x1x128x256 : Shape := ⟨6, ![1, 128, 1, 1, 128, 256]⟩
abbrev S1x1x4x4x1x1 : Shape := ⟨6, ![1, 1, 4, 4, 1, 1]⟩
abbrev S1x128x4x4x128 : Shape := ⟨5, ![1, 128, 4, 4, 128]⟩
abbrev S1x128x4x4x128x1 : Shape := ⟨6, ![1, 128, 4, 4, 128, 1]⟩
abbrev S1x128x4x64x4x128 : Shape := ⟨6, ![1, 128, 4, 64, 4, 128]⟩
abbrev S1x16384x1024 : Shape := ⟨3, ![1, 16384, 1024]⟩

abbrev nBuf : Space → Nat
  | .hbm => 165
  | .vmem => 0
  | .smem => 0
  | _ => 0

abbrev hbmTy0_0 (i : Nat) : BufTy := match i % 128 with
  | 0 => ⟨S16384x7680, .f32⟩
  | 1 => ⟨S16, .f32⟩
  | 2 => ⟨S16384x1024, .f32⟩
  | 3 => ⟨S16384x256, .f32⟩
  | 4 => ⟨S16384x256, .f32⟩
  | 5 => ⟨S16384, .i32⟩
  | 6 => ⟨S1x16384x16x64, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S16384, .f32⟩
  | 19 => ⟨S16384x1, .f32⟩
  | 20 => ⟨S1x8, .f32⟩
  | 21 => ⟨S16384x8, .f32⟩
  | 22 => ⟨S16384x8, .f32⟩
  | 23 => ⟨S16384x8, .f32⟩
  | 24 => ⟨S16384x8, .f32⟩
  | 25 => ⟨S1x16384x1x8, .f32⟩
  | 26 => ⟨S16384x8, .f32⟩
  | 27 => ⟨S1x16384x1x8, .f32⟩
  | 28 => ⟨S1x16384x16x16, .f32⟩
  | 29 => ⟨S1x16384x16x8, .f32⟩
  | 30 => ⟨S1x16384x16x8, .f32⟩
  | 31 => ⟨S1x16384x16x8, .f32⟩
  | 32 => ⟨S1x16384x16x8, .f32⟩
  | 33 => ⟨S1x16384x16x8, .f32⟩
  | 34 => ⟨S1x16384x16x8, .f32⟩
  | 35 => ⟨S1x16384x16x8, .f32⟩
  | 36 => ⟨S1x16384x16x8, .f32⟩
  | 37 => ⟨S1x16384x16x8, .f32⟩
  | 38 => ⟨S1x16384x16x8, .f32⟩
  | 39 => ⟨S1x16384x16x8, .f32⟩
  | 40 => ⟨S1x16384x16x8, .f32⟩
  | 41 => ⟨S1x16384x16x16, .f32⟩
  | 42 => ⟨S1x16384x16x48, .f32⟩
  | 43 => ⟨S1x16384x16x64, .f32⟩
  | 44 => ⟨S1x16384x4x64, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S16384, .f32⟩
  | 57 => ⟨S16384x1, .f32⟩
  | 58 => ⟨S1x8, .f32⟩
  | 59 => ⟨S16384x8, .f32⟩
  | 60 => ⟨S16384x8, .f32⟩
  | 61 => ⟨S16384x8, .f32⟩
  | 62 => ⟨S16384x8, .f32⟩
  | 63 => ⟨S1x16384x1x8, .f32⟩
  | 64 => ⟨S16384x8, .f32⟩
  | 65 => ⟨S1x16384x1x8, .f32⟩
  | 66 => ⟨S1x16384x4x16, .f32⟩
  | 67 => ⟨S1x16384x4x8, .f32⟩
  | 68 => ⟨S1x16384x4x8, .f32⟩
  | 69 => ⟨S1x16384x4x8, .f32⟩
  | 70 => ⟨S1x16384x4x8, .f32⟩
  | 71 => ⟨S1x16384x4x8, .f32⟩
  | 72 => ⟨S1x16384x4x8, .f32⟩
  | 73 => ⟨S1x16384x4x8, .f32⟩
  | 74 => ⟨S1x16384x4x8, .f32⟩
  | 75 => ⟨S1x16384x4x8, .f32⟩
  | 76 => ⟨S1x16384x4x8, .f32⟩
  | 77 => ⟨S1x16384x4x8, .f32⟩
  | 78 => ⟨S1x16384x4x8, .f32⟩
  | 79 => ⟨S1x16384x4x16, .f32⟩
  | 80 => ⟨S1x16384x4x48, .f32⟩
  | 81 => ⟨S1x16384x4x64, .f32⟩
  | 82 => ⟨S1x16384x4x64, .f32⟩
  | 83 => ⟨S1x128x128x4x4x64, .f32⟩
  | 84 => ⟨S1x128x128x4x64, .f32⟩
  | 85 => ⟨S1x1x128x4x64, .f32⟩
  | 86 => ⟨S_, .f32⟩
  | 87 => ⟨S1x1x128x4x64, .f32⟩
  | 88 => ⟨S1x127x128x4x64, .f32⟩
  | 89 => ⟨S1x128x128x4x64, .f32⟩
  | 90 => ⟨S1x128x256x4x64, .f32⟩
  | 91 => ⟨S1x128x128x4x64, .f32⟩
  | 92 => ⟨S1x1x128x4x64, .f32⟩
  | 93 => ⟨S_, .f32⟩
  | 94 => ⟨S1x1x128x4x64, .f32⟩
  | 95 => ⟨S1x127x128x4x64, .f32⟩
  | 96 => ⟨S1x128x128x4x64, .f32⟩
  | 97 => ⟨S1x128x256x4x64, .f32⟩
  | 98 => ⟨S1x128x4x256x128x4, .f32⟩
  | 99 => ⟨S1x128x4x4x128x256, .f32⟩
  | 100 => ⟨S_, .f32⟩
  | 101 => ⟨S1x128x4x4x128x256, .f32⟩
  | 102 => ⟨S1x128x4x4x128x256, .f32⟩
  | 103 => ⟨S128, .i32⟩
  | 104 => ⟨S128x1x1, .i32⟩
  | 105 => ⟨S_, .i32⟩
  | 106 => ⟨S128x1x1, .i32⟩
  | 107 => ⟨S128x1x1, .i32⟩
  | 108 => ⟨S128, .i32⟩
  | 109 => ⟨S1x128x1, .i32⟩
  | 110 => ⟨S128x128x1, .i32⟩
  | 111 => ⟨S128x128x1, .i32⟩
  | 112 => ⟨S128x128x1, .i32⟩
  | 113 => ⟨S_, .i32⟩
  | 114 => ⟨S128x1x1, .i32⟩
  | 115 => ⟨S128x1x1, .i32⟩
  | 116 => ⟨S256, .i32⟩
  | 117 => ⟨S1x1x256, .i32⟩
  | 118 => ⟨S128x1x256, .i32⟩
  | 119 => ⟨S128x1x256, .i32⟩
  | 120 => ⟨S128x1x256, .i32⟩
  | 121 => ⟨S128x128x256, .i32⟩
  | 122 => ⟨S128x128x256, .i32⟩
  | 123 => ⟨S128x128x256, .i32⟩
  | 124 => ⟨S_, .i32⟩
  | 125 => ⟨S128x128x256, .i32⟩
  | 126 => ⟨S128x128x256, .i1⟩
  | 127 => ⟨S_, .i32⟩
  | _ => ⟨S16384x7680, .f32⟩

abbrev hbmTy0_1 (i : Nat) : BufTy := match i % 128 with
  | 0 => ⟨S128x128x256, .i32⟩
  | 1 => ⟨S128x128x256, .i1⟩
  | 2 => ⟨S128x128x256, .i1⟩
  | 3 => ⟨S_, .i32⟩
  | 4 => ⟨S128x1x256, .i32⟩
  | 5 => ⟨S128x1x256, .i1⟩
  | 6 => ⟨S128x128x256, .i1⟩
  | 7 => ⟨S128x128x256, .i1⟩
  | 8 => ⟨S1x128x1x1x128x256, .i1⟩
  | 9 => ⟨S_, .f32⟩
  | 10 => ⟨S_, .f32⟩
  | 11 => ⟨S1x128x4x4x128x256, .i1⟩
  | 12 => ⟨S1x128x4x4x128x256, .f32⟩
  | 13 => ⟨S1x128x4x4x128x256, .f32⟩
  | 14 => ⟨S1x1x4x4x1x1, .f32⟩
  | 15 => ⟨S_, .f32⟩
  | 16 => ⟨S1x128x4x4x128, .f32⟩
  | 17 => ⟨S1x128x4x4x128x1, .f32⟩
  | 18 => ⟨S1x128x4x4x128x1, .f32⟩
  | 19 => ⟨S1x128x4x4x128x1, .f32⟩
  | 20 => ⟨S1x128x4x4x128x256, .f32⟩
  | 21 => ⟨S1x128x4x4x128x256, .f32⟩
  | 22 => ⟨S1x128x4x4x128x256, .f32⟩
  | 23 => ⟨S_, .f32⟩
  | 24 => ⟨S1x128x4x4x128, .f32⟩
  | 25 => ⟨S1x128x4x4x128x1, .f32⟩
  | 26 => ⟨S1x128x4x4x128x1, .f32⟩
  | 27 => ⟨S1x128x4x4x128x1, .f32⟩
  | 28 => ⟨S1x128x4x4x128x1, .f32⟩
  | 29 => ⟨S1x128x4x4x128x1, .f32⟩
  | 30 => ⟨S1x128x4x4x128x256, .f32⟩
  | 31 => ⟨S1x128x4x4x128x256, .f32⟩
  | 32 => ⟨S1x128x4x64x4x128, .f32⟩
  | 33 => ⟨S1x128x128x4x4x64, .f32⟩
  | 34 => ⟨S1x16384x1024, .f32⟩
  | 35 => ⟨S16384x1024, .f32⟩
  | 36 => ⟨S16384x1024, .bf16⟩
  | _ => ⟨S16384x7680, .f32⟩

abbrev hbmTy (i : Nat) : BufTy := match i / 128 with
  | 0 => hbmTy0_0 i
  | 1 => hbmTy0_1 i
  | _ => ⟨S16384x7680, .f32⟩

abbrev bufTy : (tb : Table) → Fin (tcTables nBuf tb) → BufTy
  | .hbm, ⟨i, _⟩ => hbmTy i
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_cst_2 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_cst_4 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_cst_6 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_7 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_c : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_c_8 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_c_9 : Ref sig .tc := ⟨.hbm, 124, rfl⟩
abbrev main_v111 : Ref sig .tc := ⟨.hbm, 125, rfl⟩
abbrev main_v112 : Ref sig .tc := ⟨.hbm, 126, rfl⟩
abbrev main_c_10 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_c_11 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_cst_12 : Ref sig .tc := ⟨.hbm, 137, rfl⟩
abbrev main_call0_v0 : Ref sig .tc := ⟨.hbm, 138, rfl⟩
abbrev main_call0_v1 : Ref sig .tc := ⟨.hbm, 139, rfl⟩
abbrev main_call0_v2 : Ref sig .tc := ⟨.hbm, 140, rfl⟩
abbrev main_v121 : Ref sig .tc := ⟨.hbm, 141, rfl⟩
abbrev main_v122 : Ref sig .tc := ⟨.hbm, 142, rfl⟩
abbrev main_cst_13 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_cst_14 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩

abbrev nD : Nat := 1
abbrev τ : Topo := Topo.v7x

variable {F : FTy → Type} [FloatOps F]
-- ==== SwvKernel.lean ====
abbrev S16384x7680 : Shape := ⟨2, ![16384, 7680]⟩
abbrev S16 : Shape := ⟨1, ![16]⟩
abbrev S16384x1024 : Shape := ⟨2, ![16384, 1024]⟩
abbrev S16384x256 : Shape := ⟨2, ![16384, 256]⟩
abbrev S16384x1280 : Shape := ⟨2, ![16384, 1280]⟩
abbrev S1x16384x20x64 : Shape := ⟨4, ![1, 16384, 20, 64]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S1x16384x20x16 : Shape := ⟨4, ![1, 16384, 20, 16]⟩
abbrev S1x16384x20x8 : Shape := ⟨4, ![1, 16384, 20, 8]⟩
abbrev S1x16384x20x48 : Shape := ⟨4, ![1, 16384, 20, 48]⟩
abbrev S1x16384x16x64 : Shape := ⟨4, ![1, 16384, 16, 64]⟩
abbrev S128x128x4x4x64 : Shape := ⟨5, ![128, 128, 4, 4, 64]⟩
abbrev S1x16384x4x64 : Shape := ⟨4, ![1, 16384, 4, 64]⟩
abbrev S128x128x4x64 : Shape := ⟨4, ![128, 128, 4, 64]⟩
abbrev S1x128x4x64 : Shape := ⟨4, ![1, 128, 4, 64]⟩
abbrev S127x128x4x64 : Shape := ⟨4, ![127, 128, 4, 64]⟩
abbrev S128x256x4x64 : Shape := ⟨4, ![128, 256, 4, 64]⟩
abbrev S128x4x256x128x4 : Shape := ⟨5, ![128, 4, 256, 128, 4]⟩
abbrev S128x4x4x128x256 : Shape := ⟨5, ![128, 4, 4, 128, 256]⟩
abbrev S128x128x256 : Shape := ⟨3, ![128, 128, 256]⟩
abbrev S128x1x1x128x256 : Shape := ⟨5, ![128, 1, 1, 128, 256]⟩
abbrev S1x4x4x1x1 : Shape := ⟨5, ![1, 4, 4, 1, 1]⟩
abbrev S128x4x4x128 : Shape := ⟨4, ![128, 4, 4, 128]⟩
abbrev S128x4x4x128x1 : Shape := ⟨5, ![128, 4, 4, 128, 1]⟩
abbrev S128x4x64x4x128 : Shape := ⟨5, ![128, 4, 64, 4, 128]⟩
abbrev S1x16 : Shape := ⟨2, ![1, 16]⟩
abbrev S128 : Shape := ⟨1, ![128]⟩
abbrev S128x1 : Shape := ⟨2, ![128, 1]⟩
abbrev S1x128 : Shape := ⟨2, ![1, 128]⟩
abbrev S16384x128 : Shape := ⟨2, ![16384, 128]⟩
abbrev S2x8x128 : Shape := ⟨3, ![2, 8, 128]⟩
abbrev S128x512 : Shape := ⟨2, ![128, 512]⟩
abbrev S128x128 : Shape := ⟨2, ![128, 128]⟩
abbrev S1x8x128 : Shape := ⟨3, ![1, 8, 128]⟩
abbrev S8x128 : Shape := ⟨2, ![8, 128]⟩
abbrev S256x128 : Shape := ⟨2, ![256, 128]⟩
abbrev S16x128 : Shape := ⟨2, ![16, 128]⟩
abbrev S512x128 : Shape := ⟨2, ![512, 128]⟩
abbrev S1x1 : Shape := ⟨2, ![1, 1]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 221
  | .vmem => 36
  | .smem => 1
  | _ => 0

abbrev hbmTy0_0 (i : Nat) : BufTy := match i % 128 with
  | 0 => ⟨S16384x7680, .f32⟩
  | 1 => ⟨S16, .f32⟩
  | 2 => ⟨S16384x1024, .f32⟩
  | 3 => ⟨S16384x256, .f32⟩
  | 4 => ⟨S16384x1280, .f32⟩
  | 5 => ⟨S1x16384x20x64, .f32⟩
  | 6 => ⟨S16384, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S16384x1, .f32⟩
  | 19 => ⟨S1x8, .f32⟩
  | 20 => ⟨S16384x8, .f32⟩
  | 21 => ⟨S16384x8, .f32⟩
  | 22 => ⟨S16384x8, .f32⟩
  | 23 => ⟨S16384x8, .f32⟩
  | 24 => ⟨S1x16384x1x8, .f32⟩
  | 25 => ⟨S16384x8, .f32⟩
  | 26 => ⟨S1x16384x1x8, .f32⟩
  | 27 => ⟨S1x16384x20x16, .f32⟩
  | 28 => ⟨S1x16384x20x8, .f32⟩
  | 29 => ⟨S1x16384x20x8, .f32⟩
  | 30 => ⟨S1x16384x20x8, .f32⟩
  | 31 => ⟨S1x16384x20x8, .f32⟩
  | 32 => ⟨S1x16384x20x8, .f32⟩
  | 33 => ⟨S1x16384x20x8, .f32⟩
  | 34 => ⟨S1x16384x20x8, .f32⟩
  | 35 => ⟨S1x16384x20x8, .f32⟩
  | 36 => ⟨S1x16384x20x8, .f32⟩
  | 37 => ⟨S1x16384x20x8, .f32⟩
  | 38 => ⟨S1x16384x20x8, .f32⟩
  | 39 => ⟨S1x16384x20x8, .f32⟩
  | 40 => ⟨S1x16384x20x16, .f32⟩
  | 41 => ⟨S1x16384x20x48, .f32⟩
  | 42 => ⟨S1x16384x20x64, .f32⟩
  | 43 => ⟨S1x16384x16x64, .f32⟩
  | 44 => ⟨S128x128x4x4x64, .f32⟩
  | 45 => ⟨S1x16384x4x64, .f32⟩
  | 46 => ⟨S128x128x4x64, .f32⟩
  | 47 => ⟨S_, .f32⟩
  | 48 => ⟨S1x128x4x64, .f32⟩
  | 49 => ⟨S127x128x4x64, .f32⟩
  | 50 => ⟨S128x128x4x64, .f32⟩
  | 51 => ⟨S128x256x4x64, .f32⟩
  | 52 => ⟨S128x128x4x64, .f32⟩
  | 53 => ⟨S_, .f32⟩
  | 54 => ⟨S1x128x4x64, .f32⟩
  | 55 => ⟨S127x128x4x64, .f32⟩
  | 56 => ⟨S128x128x4x64, .f32⟩
  | 57 => ⟨S128x256x4x64, .f32⟩
  | 58 => ⟨S128x4x256x128x4, .f32⟩
  | 59 => ⟨S128x4x4x128x256, .f32⟩
  | 60 => ⟨S_, .f32⟩
  | 61 => ⟨S128x4x4x128x256, .f32⟩
  | 62 => ⟨S128x4x4x128x256, .f32⟩
  | 63 => ⟨S128x128x256, .i32⟩
  | 64 => ⟨S128x128x256, .i32⟩
  | 65 => ⟨S_, .i32⟩
  | 66 => ⟨S128x128x256, .i32⟩
  | 67 => ⟨S128x128x256, .i32⟩
  | 68 => ⟨S128x128x256, .i32⟩
  | 69 => ⟨S_, .i32⟩
  | 70 => ⟨S128x128x256, .i32⟩
  | 71 => ⟨S128x128x256, .i1⟩
  | 72 => ⟨S_, .i32⟩
  | 73 => ⟨S128x128x256, .i32⟩
  | 74 => ⟨S128x128x256, .i1⟩
  | 75 => ⟨S128x128x256, .i1⟩
  | 76 => ⟨S128x128x256, .i32⟩
  | 77 => ⟨S_, .i32⟩
  | 78 => ⟨S128x128x256, .i32⟩
  | 79 => ⟨S128x128x256, .i32⟩
  | 80 => ⟨S128x128x256, .i32⟩
  | 81 => ⟨S_, .i32⟩
  | 82 => ⟨S128x128x256, .i32⟩
  | 83 => ⟨S128x128x256, .i1⟩
  | 84 => ⟨S128x128x256, .i1⟩
  | 85 => ⟨S128x1x1x128x256, .i1⟩
  | 86 => ⟨S_, .f32⟩
  | 87 => ⟨S_, .f32⟩
  | 88 => ⟨S128x4x4x128x256, .i1⟩
  | 89 => ⟨S128x4x4x128x256, .f32⟩
  | 90 => ⟨S128x4x4x128x256, .f32⟩
  | 91 => ⟨S1x4x4x1x1, .f32⟩
  | 92 => ⟨S_, .f32⟩
  | 93 => ⟨S128x4x4x128, .f32⟩
  | 94 => ⟨S128x4x4x128x1, .f32⟩
  | 95 => ⟨S128x4x4x128x1, .f32⟩
  | 96 => ⟨S128x4x4x128x1, .f32⟩
  | 97 => ⟨S128x4x4x128x256, .f32⟩
  | 98 => ⟨S128x4x4x128x256, .f32⟩
  | 99 => ⟨S128x4x4x128x256, .f32⟩
  | 100 => ⟨S_, .f32⟩
  | 101 => ⟨S128x4x4x128, .f32⟩
  | 102 => ⟨S128x4x4x128x1, .f32⟩
  | 103 => ⟨S128x4x4x128x1, .f32⟩
  | 104 => ⟨S128x4x4x128x1, .f32⟩
  | 105 => ⟨S128x4x4x128x1, .f32⟩
  | 106 => ⟨S128x4x4x128x1, .f32⟩
  | 107 => ⟨S128x4x4x128x256, .f32⟩
  | 108 => ⟨S128x4x4x128x256, .f32⟩
  | 109 => ⟨S128x4x64x4x128, .f32⟩
  | 110 => ⟨S128x128x4x4x64, .f32⟩
  | 111 => ⟨S16384x1024, .f32⟩
  | 112 => ⟨S16384x1024, .bf16⟩
  | 113 => ⟨S1x16, .f32⟩
  | 114 => ⟨S8, .f32⟩
  | 115 => ⟨S8, .f32⟩
  | 116 => ⟨S_, .f32⟩
  | 117 => ⟨S8, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S128, .i32⟩
  | 126 => ⟨S_, .i32⟩
  | 127 => ⟨S_, .i32⟩
  | _ => ⟨S16384x7680, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S128, .i32⟩
  | 5 => ⟨S128, .i32⟩
  | 6 => ⟨S_, .i32⟩
  | 7 => ⟨S128, .i32⟩
  | 8 => ⟨S128, .i1⟩
  | 9 => ⟨S_, .i32⟩
  | 10 => ⟨S128, .i32⟩
  | 11 => ⟨S128, .i1⟩
  | 12 => ⟨S_, .i32⟩
  | 13 => ⟨S_, .i1⟩
  | 14 => ⟨S128, .i1⟩
  | 15 => ⟨S128, .i1⟩
  | 16 => ⟨S128, .i1⟩
  | 17 => ⟨S128, .i32⟩
  | 18 => ⟨S128, .i32⟩
  | 19 => ⟨S128, .i32⟩
  | 20 => ⟨S16384, .i32⟩
  | 21 => ⟨S16384, .f32⟩
  | 22 => ⟨S16384x1, .f32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i1⟩
  | 37 => ⟨S_, .i32⟩
  | 38 => ⟨S_, .i1⟩
  | 39 => ⟨S128, .i1⟩
  | 40 => ⟨S128, .i1⟩
  | 41 => ⟨S128, .i1⟩
  | 42 => ⟨S128, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S128, .i32⟩
  | 50 => ⟨S128, .i32⟩
  | 51 => ⟨S128, .i32⟩
  | 52 => ⟨S128x1, .i32⟩
  | 53 => ⟨S128, .f32⟩
  | 54 => ⟨S1x128, .f32⟩
  | 55 => ⟨S16384x128, .f32⟩
  | 56 => ⟨S16384x128, .f32⟩
  | 57 => ⟨S16384x128, .f32⟩
  | 58 => ⟨S16384x128, .f32⟩
  | 59 => ⟨S16384x128, .f32⟩
  | 60 => ⟨S_, .i32⟩
  | 61 => ⟨S128, .i32⟩
  | 62 => ⟨S128, .i1⟩
  | 63 => ⟨S_, .f32⟩
  | 64 => ⟨S_, .f32⟩
  | 65 => ⟨S16384x128, .i1⟩
  | 66 => ⟨S16384x128, .f32⟩
  | 67 => ⟨S16384x128, .f32⟩
  | 68 => ⟨S_, .i32⟩
  | 69 => ⟨S128, .i32⟩
  | 70 => ⟨S128, .i1⟩
  | 71 => ⟨S16384x128, .f32⟩
  | 72 => ⟨S_, .f32⟩
  | 73 => ⟨S_, .f32⟩
  | 74 => ⟨S16384x128, .i1⟩
  | 75 => ⟨S16384x128, .f32⟩
  | 76 => ⟨S16384x128, .f32⟩
  | 77 => ⟨S_, .i32⟩
  | 78 => ⟨S128, .i32⟩
  | 79 => ⟨S128, .i1⟩
  | 80 => ⟨S_, .i32⟩
  | 81 => ⟨S128, .i32⟩
  | 82 => ⟨S128, .i1⟩
  | 83 => ⟨S128, .i1⟩
  | 84 => ⟨S_, .f32⟩
  | 85 => ⟨S_, .f32⟩
  | 86 => ⟨S16384x128, .i1⟩
  | 87 => ⟨S16384x128, .f32⟩
  | 88 => ⟨S16384x128, .f32⟩
  | 89 => ⟨S16384x1024, .bf16⟩
  | 90 => ⟨S16384x256, .bf16⟩
  | 91 => ⟨S16384x256, .bf16⟩
  | 92 => ⟨S2x8x128, .f32⟩
  | _ => ⟨S16384x7680, .f32⟩

abbrev hbmTy (i : Nat) : BufTy := match i / 128 with
  | 0 => hbmTy0_0 i
  | 1 => hbmTy0_1 i
  | _ => ⟨S16384x7680, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x512, .bf16⟩
  | .local _ .vmem, ⟨23, _⟩ => ⟨S128x512, .bf16⟩
  | .local _ .vmem, ⟨24, _⟩ => ⟨S128x512, .f32⟩
  | .local _ .vmem, ⟨25, _⟩ => ⟨S128x512, .f32⟩
  | .local _ .vmem, ⟨26, _⟩ => ⟨S128x512, .bf16⟩
  | .local _ .vmem, ⟨27, _⟩ => ⟨S128x512, .bf16⟩
  | .local _ .vmem, ⟨28, _⟩ => ⟨S128x128, .bf16⟩
  | .local _ .vmem, ⟨29, _⟩ => ⟨S128x128, .bf16⟩
  | .local _ .vmem, ⟨30, _⟩ => ⟨S128x128, .bf16⟩
  | .local _ .vmem, ⟨31, _⟩ => ⟨S128x128, .bf16⟩
  | .local _ .vmem, ⟨32, _⟩ => ⟨S1x8x128, .f32⟩
  | .local _ .vmem, ⟨33, _⟩ => ⟨S1x8x128, .f32⟩
  | .local _ .vmem, ⟨34, _⟩ => ⟨S128x128, .f32⟩
  | .local _ .vmem, ⟨35, _⟩ => ⟨S128x128, .f32⟩
  | .local _ .smem, ⟨0, _⟩ => ⟨S1x16, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_c : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_c_5 : Ref sig .tc := ⟨.hbm, 69, rfl⟩
abbrev main_v59 : Ref sig .tc := ⟨.hbm, 70, rfl⟩
abbrev main_v60 : Ref sig .tc := ⟨.hbm, 71, rfl⟩
abbrev main_c_6 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c_7 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_c_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_9 : Ref sig .tc := ⟨.hbm, 86, rfl⟩
abbrev main_call0_v0 : Ref sig .tc := ⟨.hbm, 87, rfl⟩
abbrev main_call0_v1 : Ref sig .tc := ⟨.hbm, 88, rfl⟩
abbrev main_call0_v2 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_12 : Ref sig .tc := ⟨.hbm, 116, rfl⟩
abbrev main_v96 : Ref sig .tc := ⟨.hbm, 117, rfl⟩
abbrev main_v97 : Ref sig .tc := ⟨.hbm, 118, rfl⟩
abbrev main_cst_13 : Ref sig .tc := ⟨.hbm, 119, rfl⟩
abbrev main_v98 : Ref sig .tc := ⟨.hbm, 120, rfl⟩
abbrev main_v99 : Ref sig .tc := ⟨.hbm, 121, rfl⟩
abbrev main_cst_14 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_c_15 : Ref sig .tc := ⟨.hbm, 126, rfl⟩
abbrev main_call1_v0 : Ref sig .tc := ⟨.hbm, 127, rfl⟩
abbrev main_call1_c : Ref sig .tc := ⟨.hbm, 128, rfl⟩
abbrev main_call1_v1 : Ref sig .tc := ⟨.hbm, 129, rfl⟩
abbrev main_call1_c_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_c_1 : Ref sig .tc := ⟨.hbm, 134, rfl⟩
abbrev main_call1_v5 : Ref sig .tc := ⟨.hbm, 135, rfl⟩
abbrev main_call1_v6 : Ref sig .tc := ⟨.hbm, 136, rfl⟩
abbrev main_call1_c_2 : Ref sig .tc := ⟨.hbm, 137, rfl⟩
abbrev main_call1_v7 : Ref sig .tc := ⟨.hbm, 138, rfl⟩
abbrev main_call1_v8 : Ref sig .tc := ⟨.hbm, 139, rfl⟩
abbrev main_call1_c_3 : Ref sig .tc := ⟨.hbm, 140, rfl⟩
abbrev main_call1_v9 : Ref sig .tc := ⟨.hbm, 141, rfl⟩
abbrev main_call1_v10 : Ref sig .tc := ⟨.hbm, 142, rfl⟩
abbrev main_call1_v11 : Ref sig .tc := ⟨.hbm, 143, rfl⟩
abbrev main_call1_v12 : Ref sig .tc := ⟨.hbm, 144, rfl⟩
abbrev main_call1_v13 : Ref sig .tc := ⟨.hbm, 145, rfl⟩
abbrev main_call1_v14 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_16 : Ref sig .tc := ⟨.hbm, 151, rfl⟩
abbrev main_call2_v0 : Ref sig .tc := ⟨.hbm, 152, rfl⟩
abbrev main_call2_c : Ref sig .tc := ⟨.hbm, 153, rfl⟩
abbrev main_call2_v1 : Ref sig .tc := ⟨.hbm, 154, rfl⟩
abbrev main_call2_c_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_c_1 : Ref sig .tc := ⟨.hbm, 159, rfl⟩
abbrev main_call2_v5 : Ref sig .tc := ⟨.hbm, 160, rfl⟩
abbrev main_call2_v6 : Ref sig .tc := ⟨.hbm, 161, rfl⟩
abbrev main_call2_c_2 : Ref sig .tc := ⟨.hbm, 162, rfl⟩
abbrev main_call2_v7 : Ref sig .tc := ⟨.hbm, 163, rfl⟩
abbrev main_call2_v8 : Ref sig .tc := ⟨.hbm, 164, rfl⟩
abbrev main_call2_c_3 : Ref sig .tc := ⟨.hbm, 165, rfl⟩
abbrev main_call2_v9 : Ref sig .tc := ⟨.hbm, 166, rfl⟩
abbrev main_call2_v10 : Ref sig .tc := ⟨.hbm, 167, rfl⟩
abbrev main_call2_v11 : Ref sig .tc := ⟨.hbm, 168, rfl⟩
abbrev main_call2_v12 : Ref sig .tc := ⟨.hbm, 169, rfl⟩
abbrev main_call2_v13 : Ref sig .tc := ⟨.hbm, 170, rfl⟩
abbrev main_call2_v14 : Ref sig .tc := ⟨.hbm, 171, rfl⟩
abbrev main_v107 : Ref sig .tc := ⟨.hbm, 172, rfl⟩
abbrev main_c_17 : Ref sig .tc := ⟨.hbm, 173, rfl⟩
abbrev main_v108 : Ref sig .tc := ⟨.hbm, 174, rfl⟩
abbrev main_v109 : Ref sig .tc := ⟨.hbm, 175, rfl⟩
abbrev main_c_18 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_c_19 : Ref sig .tc := ⟨.hbm, 188, rfl⟩
abbrev main_v121 : Ref sig .tc := ⟨.hbm, 189, rfl⟩
abbrev main_v122 : Ref sig .tc := ⟨.hbm, 190, rfl⟩
abbrev main_cst_20 : Ref sig .tc := ⟨.hbm, 191, rfl⟩
abbrev main_call3_v0 : Ref sig .tc := ⟨.hbm, 192, rfl⟩
abbrev main_call3_v1 : Ref sig .tc := ⟨.hbm, 193, rfl⟩
abbrev main_call3_v2 : Ref sig .tc := ⟨.hbm, 194, rfl⟩
abbrev main_v123 : Ref sig .tc := ⟨.hbm, 195, rfl⟩
abbrev main_c_21 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_cst_22 : Ref sig .tc := ⟨.hbm, 200, rfl⟩
abbrev main_call4_v0 : Ref sig .tc := ⟨.hbm, 201, rfl⟩
abbrev main_call4_v1 : Ref sig .tc := ⟨.hbm, 202, rfl⟩
abbrev main_call4_v2 : Ref sig .tc := ⟨.hbm, 203, rfl⟩
abbrev main_v127 : Ref sig .tc := ⟨.hbm, 204, rfl⟩
abbrev main_c_23 : Ref sig .tc := ⟨.hbm, 205, rfl⟩
abbrev main_v128 : Ref sig .tc := ⟨.hbm, 206, rfl⟩
abbrev main_v129 : Ref sig .tc := ⟨.hbm, 207, rfl⟩
abbrev main_c_24 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_cst_25 : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_v133 : Ref sig .tc := ⟨.hbm, 216, rfl⟩
abbrev main_v134_0 : Ref sig .tc := ⟨.hbm, 217, rfl⟩
abbrev main_v134_1 : Ref sig .tc := ⟨.hbm, 218, rfl⟩
abbrev main_v134_2 : Ref sig .tc := ⟨.hbm, 219, rfl⟩
abbrev main_v134_3 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_scratch0 : Ref sig .tc := ⟨.vmem, 34, rfl⟩
abbrev cc0_scratch1 : Ref sig .tc := ⟨.vmem, 35, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34

abbrev nD : Nat := 1
abbrev τ : Topo := Topo.v7x

variable {F : FTy → Type} [FloatOps F]

abbrev grid0 : Pipeline.Grid := ⟨2, ![2, 129], ![false, false]⟩

def k0_cond2 (i : grid0.Coords) : BitVec 1 :=
  let arg1 : BitVec 32 := BitVec.ofNat 32 (i 1).val
  let c128_i32 : BitVec 32 := 128#32
  let v3 : BitVec 1 := Scalar.cmpi .slt arg1 c128_i32
  let v4 : BitVec 32 := Scalar.extui v3
  let c0_i32_1 : BitVec 32 := 0#32
  let v5 : BitVec 1 := Scalar.cmpi .ne v4 c0_i32_1
  v5

def k0_off1 (i : grid0.Coords) (c0_i32_55 : BitVec 32) : Fin 2 → Nat :=
  let c0_56 : Index := 0#32
  let c8_i32_54 : BitVec 32 := 8#32
  let arg0 : BitVec 32 := BitVec.ofNat 32 (i 0).val
  let v112 : BitVec 32 := Scalar.muli c8_i32_54 arg0
  let v113 : BitVec 32 := Scalar.addi v112 c0_i32_55
  let v114 : Index := Scalar.indexCast v113
  ![0, v114.toNat]
def k0_cond3 (i : grid0.Coords) : BitVec 1 :=
  let arg1 : BitVec 32 := BitVec.ofNat 32 (i 1).val
  let c128_i32_2 : BitVec 32 := 128#32
  let v6 : BitVec 1 := Scalar.cmpi .eq arg1 c128_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c8_i32 : BitVec 32 := 8#32
  let v1 : BitVec 32 := Scalar.addi c8_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c40_i32 : BitVec 32 := 40#32
  let v1 : BitVec 32 := Scalar.addi c40_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c1_i32 : BitVec 32 := 1#32
  let v1 : BitVec 32 := Scalar.subi v0 c1_i32
  let c0_i32 : BitVec 32 := 0#32
  let v2 : BitVec 32 := Scalar.maxsi v1 c0_i32
  let c40_i32 : BitVec 32 := 40#32
  let v3 : BitVec 32 := Scalar.addi c40_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c42_i32 : BitVec 32 := 42#32
  let v1 : BitVec 32 := Scalar.addi c42_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c1_i32 : BitVec 32 := 1#32
  let v1 : BitVec 32 := Scalar.subi v0 c1_i32
  let c0_i32 : BitVec 32 := 0#32
  let v2 : BitVec 32 := Scalar.maxsi v1 c0_i32
  let c42_i32 : BitVec 32 := 42#32
  let v3 : BitVec 32 := Scalar.addi c42_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  ![v0.toNat, arg0.toNat]

def cc0_transform_13 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  ![v0.toNat, arg0.toNat]

def cc0_transform_14 (i : grid0.Coords) : Fin 2 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .smem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== SwvRefIdeal.lean ====
abbrev S16384x7680 : Shape := ⟨2, ![16384, 7680]⟩
abbrev S16 : Shape := ⟨1, ![16]⟩
abbrev S16384x1024 : Shape := ⟨2, ![16384, 1024]⟩
abbrev S16384x256 : Shape := ⟨2, ![16384, 256]⟩
abbrev S16384x1280 : Shape := ⟨2, ![16384, 1280]⟩
abbrev S1x16384x20x64 : Shape := ⟨4, ![1, 16384, 20, 64]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S1x16384x1x8 : Shape := ⟨4, ![1, 16384, 1, 8]⟩
abbrev S1x16384x20x16 : Shape := ⟨4, ![1, 16384, 20, 16]⟩
abbrev S1x16384x20x8 : Shape := ⟨4, ![1, 16384, 20, 8]⟩
abbrev S1x16384x20x48 : Shape := ⟨4, ![1, 16384, 20, 48]⟩
abbrev S1x16384x16x64 : Shape := ⟨4, ![1, 16384, 16, 64]⟩
abbrev S128x128x4x4x64 : Shape := ⟨5, ![128, 128, 4, 4, 64]⟩
abbrev S1x16384x4x64 : Shape := ⟨4, ![1, 16384, 4, 64]⟩
abbrev S128x128x4x64 : Shape := ⟨4, ![128, 128, 4, 64]⟩
abbrev S1x128x4x64 : Shape := ⟨4, ![1, 128, 4, 64]⟩
abbrev S127x128x4x64 : Shape := ⟨4, ![127, 128, 4, 64]⟩
abbrev S128x256x4x64 : Shape := ⟨4, ![128, 256, 4, 64]⟩
abbrev S128x4x256x128x4 : Shape := ⟨5, ![128, 4, 256, 128, 4]⟩
abbrev S128x4x4x128x256 : Shape := ⟨5, ![128, 4, 4, 128, 256]⟩
abbrev S128x128x256 : Shape := ⟨3, ![128, 128, 256]⟩
abbrev S128x1x1x128x256 : Shape := ⟨5, ![128, 1, 1, 128, 256]⟩
abbrev S1x4x4x1x1 : Shape := ⟨5, ![1, 4, 4, 1, 1]⟩
abbrev S128x4x4x128 : Shape := ⟨4, ![128, 4, 4, 128]⟩
abbrev S128x4x4x128x1 : Shape := ⟨5, ![128, 4, 4, 128, 1]⟩
abbrev S128x4x64x4x128 : Shape := ⟨5, ![128, 4, 64, 4, 128]⟩
abbrev S128x4x64x256 : Shape := ⟨4, ![128, 4, 64, 256]⟩

abbrev nBuf : Space → Nat
  | .hbm => 127
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S16, .f32⟩
  | .hbm, ⟨2, _⟩ => ⟨S16384x1024, .f32⟩
  | .hbm, ⟨3, _⟩ => ⟨S16384x256, .f32⟩
  | .hbm, ⟨4, _⟩ => ⟨S16384x1280, .f32⟩
  | .hbm, ⟨5, _⟩ => ⟨S1x16384x20x64, .f32⟩
  | .hbm, ⟨6, _⟩ => ⟨S16384, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16384x1, .f32⟩
  | .hbm, ⟨19, _⟩ => ⟨S1x8, .f32⟩
  | .hbm, ⟨20, _⟩ => ⟨S16384x8, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S1x16384x1x8, .f32⟩
  | .hbm, ⟨25, _⟩ => ⟨S16384x8, .f32⟩
  | .hbm, ⟨26, _⟩ => ⟨S1x16384x1x8, .f32⟩
  | .hbm, ⟨27, _⟩ => ⟨S1x16384x20x16, .f32⟩
  | .hbm, ⟨28, _⟩ => ⟨S1x16384x20x8, .f32⟩
  | .hbm, ⟨29, _⟩ => ⟨S1x16384x20x8, .f32⟩
  | .hbm, ⟨30, _⟩ => ⟨S1x16384x20x8, .f32⟩
  | .hbm, ⟨31, _⟩ => ⟨S1x16384x20x8, .f32⟩
  | .hbm, ⟨32, _⟩ => ⟨S1x16384x20x8, .f32⟩
  | .hbm, ⟨33, _⟩ => ⟨S1x16384x20x8, .f32⟩
  | .hbm, ⟨34, _⟩ => ⟨S1x16384x20x8, .f32⟩
  | .hbm, ⟨35, _⟩ => ⟨S1x16384x20x8, .f32⟩
  | .hbm, ⟨36, _⟩ => ⟨S1x16384x20x8, .f32⟩
  | .hbm, ⟨37, _⟩ => ⟨S1x16384x20x8, .f32⟩
  | .hbm, ⟨38, _⟩ => ⟨S1x16384x20x8, .f32⟩
  | .hbm, ⟨39, _⟩ => ⟨S1x16384x20x8, .f32⟩
  | .hbm, ⟨40, _⟩ => ⟨S1x16384x20x16, .f32⟩
  | .hbm, ⟨41, _⟩ => ⟨S1x16384x20x48, .f32⟩
  | .hbm, ⟨42, _⟩ => ⟨S1x16384x20x64, .f32⟩
  | .hbm, ⟨43, _⟩ => ⟨S1x16384x16x64, .f32⟩
  | .hbm, ⟨44, _⟩ => ⟨S128x128x4x4x64, .f32⟩
  | .hbm, ⟨45, _⟩ => ⟨S1x16384x4x64, .f32⟩
  | .hbm, ⟨46, _⟩ => ⟨S128x128x4x64, .f32⟩
  | .hbm, ⟨47, _⟩ => ⟨S_, .f32⟩
  | .hbm, ⟨48, _⟩ => ⟨S1x128x4x64, .f32⟩
  | .hbm, ⟨49, _⟩ => ⟨S127x128x4x64, .f32⟩
  | .hbm, ⟨50, _⟩ => ⟨S128x128x4x64, .f32⟩
  | .hbm, ⟨51, _⟩ => ⟨S128x256x4x64, .f32⟩
  | .hbm, ⟨52, _⟩ => ⟨S128x128x4x64, .f32⟩
  | .hbm, ⟨53, _⟩ => ⟨S_, .f32⟩
  | .hbm, ⟨54, _⟩ => ⟨S1x128x4x64, .f32⟩
  | .hbm, ⟨55, _⟩ => ⟨S127x128x4x64, .f32⟩
  | .hbm, ⟨56, _⟩ => ⟨S128x128x4x64, .f32⟩
  | .hbm, ⟨57, _⟩ => ⟨S_, .f32⟩
  | .hbm, ⟨58, _⟩ => ⟨S1x128x4x64, .f32⟩
  | .hbm, ⟨59, _⟩ => ⟨S128x256x4x64, .f32⟩
  | .hbm, ⟨60, _⟩ => ⟨S128x4x256x128x4, .f32⟩
  | .hbm, ⟨61, _⟩ => ⟨S128x4x4x128x256, .f32⟩
  | .hbm, ⟨62, _⟩ => ⟨S_, .f32⟩
  | .hbm, ⟨63, _⟩ => ⟨S128x4x4x128x256, .f32⟩
  | .hbm, ⟨64, _⟩ => ⟨S128x4x4x128x256, .f32⟩
  | .hbm, ⟨65, _⟩ => ⟨S128x128x256, .i32⟩
  | .hbm, ⟨66, _⟩ => ⟨S128x128x256, .i32⟩
  | .hbm, ⟨67, _⟩ => ⟨S_, .i32⟩
  | .hbm, ⟨68, _⟩ => ⟨S128x128x256, .i32⟩
  | .hbm, ⟨69, _⟩ => ⟨S128x128x256, .i32⟩
  | .hbm, ⟨70, _⟩ => ⟨S128x128x256, .i32⟩
  | .hbm, ⟨71, _⟩ => ⟨S_, .i32⟩
  | .hbm, ⟨72, _⟩ => ⟨S128x128x256, .i32⟩
  | .hbm, ⟨73, _⟩ => ⟨S128x128x256, .i1⟩
  | .hbm, ⟨74, _⟩ => ⟨S_, .i32⟩
  | .hbm, ⟨75, _⟩ => ⟨S128x128x256, .i32⟩
  | .hbm, ⟨76, _⟩ => ⟨S128x128x256, .i1⟩
  | .hbm, ⟨77, _⟩ => ⟨S128x128x256, .i1⟩
  | .hbm, ⟨78, _⟩ => ⟨S128x128x256, .i32⟩
  | .hbm, ⟨79, _⟩ => ⟨S_, .i32⟩
  | .hbm, ⟨80, _⟩ => ⟨S128x128x256, .i32⟩
  | .hbm, ⟨81, _⟩ => ⟨S128x128x256, .i32⟩
  | .hbm, ⟨82, _⟩ => ⟨S128x128x256, .i32⟩
  | .hbm, ⟨83, _⟩ => ⟨S_, .i32⟩
  | .hbm, ⟨84, _⟩ => ⟨S128x128x256, .i32⟩
  | .hbm, ⟨85, _⟩ => ⟨S128x128x256, .i1⟩
  | .hbm, ⟨86, _⟩ => ⟨S128x128x256, .i1⟩
  | .hbm, ⟨87, _⟩ => ⟨S128x1x1x128x256, .i1⟩
  | .hbm, ⟨88, _⟩ => ⟨S_, .f32⟩
  | .hbm, ⟨89, _⟩ => ⟨S_, .f32⟩
  | .hbm, ⟨90, _⟩ => ⟨S128x4x4x128x256, .i1⟩
  | .hbm, ⟨91, _⟩ => ⟨S128x4x4x128x256, .f32⟩
  | .hbm, ⟨92, _⟩ => ⟨S128x4x4x128x256, .f32⟩
  | .hbm, ⟨93, _⟩ => ⟨S1x4x4x1x1, .f32⟩
  | .hbm, ⟨94, _⟩ => ⟨S_, .f32⟩
  | .hbm, ⟨95, _⟩ => ⟨S128x4x4x128, .f32⟩
  | .hbm, ⟨96, _⟩ => ⟨S128x4x4x128x1, .f32⟩
  | .hbm, ⟨97, _⟩ => ⟨S128x4x4x128x1, .f32⟩
  | .hbm, ⟨98, _⟩ => ⟨S128x4x4x128x1, .f32⟩
  | .hbm, ⟨99, _⟩ => ⟨S128x4x4x128x256, .f32⟩
  | .hbm, ⟨100, _⟩ => ⟨S128x4x4x128x256, .f32⟩
  | .hbm, ⟨101, _⟩ => ⟨S128x4x4x128x256, .f32⟩
  | .hbm, ⟨102, _⟩ => ⟨S_, .f32⟩
  | .hbm, ⟨103, _⟩ => ⟨S128x4x4x128, .f32⟩
  | .hbm, ⟨104, _⟩ => ⟨S128x4x4x128x1, .f32⟩
  | .hbm, ⟨105, _⟩ => ⟨S128x4x4x128x1, .f32⟩
  | .hbm, ⟨106, _⟩ => ⟨S128x4x4x128x1, .f32⟩
  | .hbm, ⟨107, _⟩ => ⟨S128x4x4x128x1, .f32⟩
  | .hbm, ⟨108, _⟩ => ⟨S128x4x4x128x1, .f32⟩
  | .hbm, ⟨109, _⟩ => ⟨S128x4x4x128x256, .f32⟩
  | .hbm, ⟨110, _⟩ => ⟨S128x4x4x128x256, .f32⟩
  | .hbm, ⟨111, _⟩ => ⟨S128x4x64x4x128, .f32⟩
  | .hbm, ⟨112, _⟩ => ⟨S128x128x4x4x64, .f32⟩
  | .hbm, ⟨113, _⟩ => ⟨S16384x1024, .f32⟩
  | .hbm, ⟨114, _⟩ => ⟨S128x128x4x4x64, .f32⟩
  | .hbm, ⟨115, _⟩ => ⟨S128x4x64x4x128, .f32⟩
  | .hbm, ⟨116, _⟩ => ⟨S128x4x64x256, .f32⟩
  | .hbm, ⟨117, _⟩ => ⟨S128x256x4x64, .f32⟩
  | .hbm, ⟨118, _⟩ => ⟨S128x128x4x64, .f32⟩
  | .hbm, ⟨119, _⟩ => ⟨S128x128x4x64, .f32⟩
  | .hbm, ⟨120, _⟩ => ⟨S1x128x4x64, .f32⟩
  | .hbm, ⟨121, _⟩ => ⟨S127x128x4x64, .f32⟩
  | .hbm, ⟨122, _⟩ => ⟨S_, .f32⟩
  | .hbm, ⟨123, _⟩ => ⟨S128x128x4x64, .f32⟩
  | .hbm, ⟨124, _⟩ => ⟨S128x128x4x64, .f32⟩
  | .hbm, ⟨125, _⟩ => ⟨S16384x256, .f32⟩
  | .hbm, ⟨126, _⟩ => ⟨S16384x256, .bf16⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_5 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_c : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_c_6 : Ref sig .tc := ⟨.hbm, 71, rfl⟩
abbrev main_v60 : Ref sig .tc := ⟨.hbm, 72, rfl⟩
abbrev main_v61 : Ref sig .tc := ⟨.hbm, 73, rfl⟩
abbrev main_c_7 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_8 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_c_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_10 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_13 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩

abbrev nD : Nat := 1
abbrev τ : Topo := Topo.v7x

variable {F : FTy → Type} [FloatOps F]
-- ==== MixKernel.lean ====
abbrev S16384x1024 : Shape := ⟨2, ![16384, 1024]⟩
abbrev S16384x7680 : Shape := ⟨2, ![16384, 7680]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x7680, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S16384x1024, .bf16⟩
  | .hbm, ⟨9, _⟩ => ⟨S16384x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S16384x1024, .bf16⟩
  | .hbm, ⟨17, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixRefIdeal.lean ====
abbrev S16384x1024 : Shape := ⟨2, ![16384, 1024]⟩
abbrev S16384x7680 : Shape := ⟨2, ![16384, 7680]⟩
abbrev S1024x1024 : Shape := ⟨2, ![1024, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x7680, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S16384x1024, .bf16⟩
  | .hbm, ⟨35, _⟩ => ⟨S16384x1024, .bf16⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== ActKernel.lean ====
abbrev S16384x1024 : Shape := ⟨2, ![16384, 1024]⟩
abbrev S1024x2816 : Shape := ⟨2, ![1024, 2816]⟩
abbrev S2816x1024 : Shape := ⟨2, ![2816, 1024]⟩
abbrev S1408x1024 : Shape := ⟨2, ![1408, 1024]⟩
abbrev S5632x1024 : Shape := ⟨2, ![5632, 1024]⟩
abbrev S16384x5632 : Shape := ⟨2, ![16384, 5632]⟩
abbrev S16384x2816 : Shape := ⟨2, ![16384, 2816]⟩
abbrev S512x1024 : Shape := ⟨2, ![512, 1024]⟩
abbrev S512x2816 : Shape := ⟨2, ![512, 2816]⟩
abbrev S512x1408 : Shape := ⟨2, ![512, 1408]⟩
abbrev S16384x1408 : Shape := ⟨2, ![16384, 1408]⟩

abbrev nBuf : Space → Nat
  | .hbm => 21
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S1408x1024, .bf16⟩
  | .hbm, ⟨8, _⟩ => ⟨S1408x1024, .bf16⟩
  | .hbm, ⟨9, _⟩ => ⟨S1408x1024, .bf16⟩
  | .hbm, ⟨10, _⟩ => ⟨S1408x1024, .bf16⟩
  | .hbm, ⟨11, _⟩ => ⟨S5632x1024, .bf16⟩
  | .hbm, ⟨12, _⟩ => ⟨S16384x1024, .bf16⟩
  | .hbm, ⟨13, _⟩ => ⟨S16384x5632, .bf16⟩
  | .hbm, ⟨14, _⟩ => ⟨S16384x2816, .bf16⟩
  | .hbm, ⟨15, _⟩ => ⟨S16384x1408, .bf16⟩
  | .hbm, ⟨16, _⟩ => ⟨S16384x1408, .bf16⟩
  | .hbm, ⟨17, _⟩ => ⟨S16384x2816, .bf16⟩
  | .hbm, ⟨18, _⟩ => ⟨S16384x1408, .bf16⟩
  | .hbm, ⟨19, _⟩ => ⟨S16384x1408, .bf16⟩
  | .hbm, ⟨20, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActRefIdeal.lean ====
abbrev S16384x1024 : Shape := ⟨2, ![16384, 1024]⟩
abbrev S1024x2816 : Shape := ⟨2, ![1024, 2816]⟩
abbrev S16384x2816 : Shape := ⟨2, ![16384, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S16384x2816, .f32⟩
  | .hbm, ⟨4, _⟩ => ⟨S16384x2816, .f32⟩
  | .hbm, ⟨5, _⟩ => ⟨S16384x2816, .bf16⟩
  | .hbm, ⟨6, _⟩ => ⟨S16384x2816, .bf16⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== DownKernel.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S16384x2816, .bf16⟩
  | .hbm, ⟨5, _⟩ => ⟨S2816x1024, .bf16⟩
  | .hbm, ⟨6, _⟩ => ⟨S16384x1024, .f32⟩
  | .hbm, ⟨7, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_6 : BitVec 32 := 0#32
  let v11 : BitVec 1 := Scalar.cmpi .eq arg1 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S2816x1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== BoundsKernel.lean ====
abbrev S4x1024 : Shape := ⟨2, ![4, 1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .local _ .vmem, ⟨0, _⟩ => ⟨S4x1024, .f32⟩
  | .local _ .vmem, ⟨1, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BoundsRefIdeal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S_, .f32⟩
  | .hbm, ⟨17, _⟩ => ⟨S4x1024, .f32⟩
  | .hbm, ⟨18, _⟩ => ⟨S1x1024, .f32⟩
  | .hbm, ⟨19, _⟩ => ⟨S4x1024, .f32⟩
  | .hbm, ⟨20, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RmsKernel.lean ====
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ProjKernel.lean ====
abbrev S16384x1024 : Shape := ⟨2, ![16384, 1024]⟩
abbrev S1024x7680 : Shape := ⟨2, ![1024, 7680]⟩
abbrev S7680x1024 : Shape := ⟨2, ![7680, 1024]⟩
abbrev S16384x7680 : Shape := ⟨2, ![16384, 7680]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S16384x1024, .bf16⟩
  | .hbm, ⟨3, _⟩ => ⟨S7680x1024, .f32⟩
  | .hbm, ⟨4, _⟩ => ⟨S7680x1024, .bf16⟩
  | .hbm, ⟨5, _⟩ => ⟨S16384x7680, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .f32⟩
  | .local _ .vmem, ⟨5, _⟩ => ⟨S1024x1280, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x1024 : Shape := ⟨2, ![16384, 1024]⟩
abbrev S1024x7680 : Shape := ⟨2, ![1024, 7680]⟩
abbrev S16384x7680 : Shape := ⟨2, ![16384, 7680]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x7680, .f32⟩
  | .hbm, ⟨2, _⟩ => ⟨S16384x7680, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WguKernel.lean ====
abbrev S16384x2816 : Shape := ⟨2, ![16384, 2816]⟩
abbrev S16384x1024 : Shape := ⟨2, ![16384, 1024]⟩
abbrev S16384x1408 : Shape := ⟨2, ![16384, 1408]⟩
abbrev S16384x5632 : Shape := ⟨2, ![16384, 5632]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩
abbrev S2816x1024 : Shape := ⟨2, ![2816, 1024]⟩
abbrev S1024x2816 : Shape := ⟨2, ![1024, 2816]⟩

abbrev nBuf : Space → Nat
  | .hbm => 19
  | .vmem => 7
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S16384x1408, .f32⟩
  | .hbm, ⟨4, _⟩ => ⟨S16384x1408, .f32⟩
  | .hbm, ⟨5, _⟩ => ⟨S16384x1408, .f32⟩
  | .hbm, ⟨6, _⟩ => ⟨S16384x1408, .f32⟩
  | .hbm, ⟨7, _⟩ => ⟨S16384x5632, .f32⟩
  | .hbm, ⟨8, _⟩ => ⟨S16384x5632, .bf16⟩
  | .hbm, ⟨9, _⟩ => ⟨S16384x1024, .bf16⟩
  | .hbm, ⟨10, _⟩ => ⟨S5632x1024, .bf16⟩
  | .hbm, ⟨11, _⟩ => ⟨S1408x1024, .bf16⟩
  | .hbm, ⟨12, _⟩ => ⟨S1408x1024, .bf16⟩
  | .hbm, ⟨13, _⟩ => ⟨S2816x1024, .bf16⟩
  | .hbm, ⟨14, _⟩ => ⟨S1024x2816, .bf16⟩
  | .hbm, ⟨15, _⟩ => ⟨S1408x1024, .bf16⟩
  | .hbm, ⟨16, _⟩ => ⟨S1408x1024, .bf16⟩
  | .hbm, ⟨17, _⟩ => ⟨S2816x1024, .bf16⟩
  | .hbm, ⟨18, _⟩ => ⟨S1024x2816, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WguRefIdeal.lean ====
abbrev S16384x2816 : Shape := ⟨2, ![16384, 2816]⟩
abbrev S16384x1024 : Shape := ⟨2, ![16384, 1024]⟩
abbrev S1024x16384 : Shape := ⟨2, ![1024, 16384]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x2816, .f32⟩
  | .hbm, ⟨2, _⟩ => ⟨S16384x1024, .f32⟩
  | .hbm, ⟨3, _⟩ => ⟨S1024x16384, .f32⟩
  | .hbm, ⟨4, _⟩ => ⟨S1024x2816, .f32⟩
  | .hbm, ⟨5, _⟩ => ⟨S1024x2816, .bf16⟩
  | .hbm, ⟨6, _⟩ => ⟨S1024x16384, .f32⟩
  | .hbm, ⟨7, _⟩ => ⟨S1024x2816, .f32⟩
  | .hbm, ⟨8, _⟩ => ⟨S1024x2816, .bf16⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SlotsKernel.lean ====
abbrev S8x1440x1024 : Shape := ⟨3, ![8, 1440, 1024]⟩
abbrev S1440x1024 : Shape := ⟨2, ![1440, 1024]⟩
abbrev S8x480x1024 : Shape := ⟨3, ![8, 480, 1024]⟩
abbrev S480x1024 : Shape := ⟨2, ![480, 1024]⟩
abbrev S1x480x1024 : Shape := ⟨3, ![1, 480, 1024]⟩

abbrev nBuf : Space → Nat
  | .hbm => 3
  | .vmem => 4
  | .smem => 0
  | _ => 0

abbrev bufTy : (tb : Table) → Fin (tcTables nBuf tb) → BufTy
  | .hbm, ⟨0, _⟩ => ⟨S8x1440x1024, .f32⟩
  | .hbm, ⟨1, _⟩ => ⟨S8x1440x1024, .bf16⟩
  | .hbm, ⟨2, _⟩ => ⟨S1440x1024, .f32⟩
  | .local _ .vmem, ⟨0, _⟩ => ⟨S8x480x1024, .bf16⟩
  | .local _ .vmem, ⟨1, _⟩ => ⟨S8x480x1024, .bf16⟩
  | .local _ .vmem, ⟨2, _⟩ => ⟨S480x1024, .f32⟩
  | .local _ .vmem, ⟨3, _⟩ => ⟨S480x1024, .f32⟩
  | _, _ => ⟨S8x1440x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x480x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsRefIdeal.lean ====
abbrev S8x1440x1024 : Shape := ⟨3, ![8, 1440, 1024]⟩
abbrev S_ : Shape := ⟨0, ![]⟩
abbrev S1440x1024 : Shape := ⟨2, ![1440, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x1440x1024, .f32⟩
  | .hbm, ⟨1, _⟩ => ⟨S_, .f32⟩
  | .hbm, ⟨2, _⟩ => ⟨S1440x1024, .f32⟩
  | _, _ => ⟨S8x1440x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamKernel.lean ====
abbrev S4x1024x960 : Shape := ⟨3, ![4, 1024, 960]⟩
abbrev S4096x960 : Shape := ⟨2, ![4096, 960]⟩
abbrev S512x960 : Shape := ⟨2, ![512, 960]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x960, .f32⟩
  | .hbm, ⟨1, _⟩ => ⟨S4x1024x960, .f32⟩
  | .hbm, ⟨2, _⟩ => ⟨S4x1024x960, .f32⟩
  | .hbm, ⟨3, _⟩ => ⟨S4x1024x960, .f32⟩
  | .hbm, ⟨4, _⟩ => ⟨S4096x960, .f32⟩
  | .hbm, ⟨5, _⟩ => ⟨S4096x960, .f32⟩
  | .hbm, ⟨6, _⟩ => ⟨S4096x960, .f32⟩
  | .hbm, ⟨7, _⟩ => ⟨S4096x960, .f32⟩
  | .hbm, ⟨8, _⟩ => ⟨S4096x960, .f32⟩
  | .hbm, ⟨9, _⟩ => ⟨S4096x960, .f32⟩
  | .hbm, ⟨10, _⟩ => ⟨S4096x960, .f32⟩
  | .hbm, ⟨11, _⟩ => ⟨S4x1024x960, .f32⟩
  | .hbm, ⟨12, _⟩ => ⟨S4x1024x960, .f32⟩
  | .hbm, ⟨13, _⟩ => ⟨S4x1024x960, .f32⟩
  | .local _ .vmem, ⟨0, _⟩ => ⟨S512x960, .f32⟩
  | .local _ .vmem, ⟨1, _⟩ => ⟨S512x960, .f32⟩
  | .local _ .vmem, ⟨2, _⟩ => ⟨S512x960, .f32⟩
  | .local _ .vmem, ⟨3, _⟩ => ⟨S512x960, .f32⟩
  | .local _ .vmem, ⟨4, _⟩ => ⟨S512x960, .f32⟩
  | .local _ .vmem, ⟨5, _⟩ => ⟨S512x960, .f32⟩
  | .local _ .vmem, ⟨6, _⟩ => ⟨S512x960, .f32⟩
  | .local _ .vmem, ⟨7, _⟩ => ⟨S512x960, .f32⟩
  | .local _ .vmem, ⟨8, _⟩ => ⟨S512x960, .f32⟩
  | .local _ .vmem, ⟨9, _⟩ => ⟨S512x960, .f32⟩
  | .local _ .vmem, ⟨10, _⟩ => ⟨S512x960, .f32⟩
  | .local _ .vmem, ⟨11, _⟩ => ⟨S512x960, .f32⟩
  | .local _ .vmem, ⟨12, _⟩ => ⟨S512x960, .f32⟩
  | .local _ .vmem, ⟨13, _⟩ => ⟨S512x960, .f32⟩
  | _, _ => ⟨S4x1024x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKernelIdeal.lean ====
variable {F : FTy → Type} [FloatOps F] [Named F]
def κ : String → Option EReal := fun
  | "inv_m" => some ((8388608 / 5463681 : ℝ) : EReal)
  | "inv_v" => some ((268435456 / 2672307 : ℝ) : EReal)
  | _ => none
-- ==== AdamRefIdeal.lean ====
abbrev S4x1024x960 : Shape := ⟨3, ![4, 1024, 960]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x960, .f32⟩
  | .hbm, ⟨1, _⟩ => ⟨S4x1024x960, .f32⟩
  | .hbm, ⟨2, _⟩ => ⟨S4x1024x960, .f32⟩
  | .hbm, ⟨3, _⟩ => ⟨S4x1024x960, .f32⟩
  | .hbm, ⟨4, _⟩ => ⟨S_, .f32⟩
  | .hbm, ⟨5, _⟩ => ⟨S4x1024x960, .f32⟩
  | .hbm, ⟨6, _⟩ => ⟨S4x1024x960, .f32⟩
  | .hbm, ⟨7, _⟩ => ⟨S_, .f32⟩
  | .hbm, ⟨8, _⟩ => ⟨S4x1024x960, .f32⟩
  | .hbm, ⟨9, _⟩ => ⟨S4x1024x960, .f32⟩
  | .hbm, ⟨10, _⟩ => ⟨S4x1024x960, .f32⟩
  | .hbm, ⟨11, _⟩ => ⟨S_, .f32⟩
  | .hbm, ⟨12, _⟩ => ⟨S4x1024x960, .f32⟩
  | .hbm, ⟨13, _⟩ => ⟨S4x1024x960, .f32⟩
  | .hbm, ⟨14, _⟩ => ⟨S4x1024x960, .f32⟩
  | .hbm, ⟨15, _⟩ => ⟨S_, .f32⟩
  | .hbm, ⟨16, _⟩ => ⟨S4x1024x960, .f32⟩
  | .hbm, ⟨17, _⟩ => ⟨S4x1024x960, .f32⟩
  | .hbm, ⟨18, _⟩ => ⟨S4x1024x960, .f32⟩
  | .hbm, ⟨19, _⟩ => ⟨S_, .f32⟩
  | .hbm, ⟨20, _⟩ => ⟨S4x1024x960, .f32⟩
  | .hbm, ⟨21, _⟩ => ⟨S4x1024x960, .f32⟩
  | .hbm, ⟨22, _⟩ => ⟨S_, .f32⟩
  | .hbm, ⟨23, _⟩ => ⟨S4x1024x960, .f32⟩
  | .hbm, ⟨24, _⟩ => ⟨S4x1024x960, .f32⟩
  | .hbm, ⟨25, _⟩ => ⟨S4x1024x960, .f32⟩
  | .hbm, ⟨26, _⟩ => ⟨S_, .f32⟩
  | .hbm, ⟨27, _⟩ => ⟨S4x1024x960, .f32⟩
  | .hbm, ⟨28, _⟩ => ⟨S4x1024x960, .f32⟩
  | .hbm, ⟨29, _⟩ => ⟨S4x1024x960, .f32⟩
  | .hbm, ⟨30, _⟩ => ⟨S_, .f32⟩
  | .hbm, ⟨31, _⟩ => ⟨S4x1024x960, .f32⟩
  | .hbm, ⟨32, _⟩ => ⟨S4x1024x960, .f32⟩
  | .hbm, ⟨33, _⟩ => ⟨S4x1024x960, .f32⟩
  | .hbm, ⟨34, _⟩ => ⟨S_, .f32⟩
  | .hbm, ⟨35, _⟩ => ⟨S4x1024x960, .f32⟩
  | .hbm, ⟨36, _⟩ => ⟨S4x1024x960, .f32⟩
  | _, _ => ⟨S4x1024x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== HgvKernel.lean ====
abbrev S16384x7680 : Shape := ⟨2, ![16384, 7680]⟩
abbrev S1x1024 : Shape := ⟨2, ![1, 1024]⟩
abbrev S16384x1024 : Shape := ⟨2, ![16384, 1024]⟩
abbrev S256x8x128x128 : Shape := ⟨4, ![256, 8, 128, 128]⟩
abbrev S256x4x64x128 : Shape := ⟨4, ![256, 4, 64, 128]⟩
abbrev S512x1024 : Shape := ⟨2, ![512, 1024]⟩
abbrev S8x8x128x128 : Shape := ⟨4, ![8, 8, 128, 128]⟩
abbrev S8x4x64x128 : Shape := ⟨4, ![8, 4, 64, 128]⟩
abbrev S4x256x256 : Shape := ⟨3, ![4, 256, 256]⟩
abbrev S64x64 : Shape := ⟨2, ![64, 64]⟩
abbrev S64x128 : Shape := ⟨2, ![64, 128]⟩
abbrev S64x256 : Shape := ⟨2, ![64, 256]⟩
abbrev S256x256 : Shape := ⟨2, ![256, 256]⟩
abbrev S1x256 : Shape := ⟨2, ![1, 256]⟩
abbrev S64x768 : Shape := ⟨2, ![64, 768]⟩
abbrev S1x256x256 : Shape := ⟨3, ![1, 256, 256]⟩
abbrev S128x128 : Shape := ⟨2, ![128, 128]⟩
abbrev S1x1x128x128 : Shape := ⟨4, ![1, 1, 128, 128]⟩
abbrev S128x256 : Shape := ⟨2, ![128, 256]⟩
abbrev S1x1x64x128 : Shape := ⟨4, ![1, 1, 64, 128]⟩
abbrev S1x128 : Shape := ⟨2, ![1, 128]⟩
abbrev S64 : Shape := ⟨1, ![64]⟩
abbrev S64x1 : Shape := ⟨2, ![64, 1]⟩

abbrev nBuf : Space → Nat
  | .hbm => 8
  | .vmem => 21
  | .smem => 0
  | _ => 0

abbrev bufTy : (tb : Table) → Fin (tcTables nBuf tb) → BufTy
  | .hbm, ⟨0, _⟩ => ⟨S16384x7680, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S16384x1024, .bf16⟩
  | .hbm, ⟨5, _⟩ => ⟨S256x8x128x128, .f32⟩
  | .hbm, ⟨6, _⟩ => ⟨S16384x1024, .f32⟩
  | .hbm, ⟨7, _⟩ => ⟨S256x4x64x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x8x128x128, .f32⟩
  | .local _ .vmem, ⟨15, _⟩ => ⟨S8x8x128x128, .f32⟩
  | .local _ .vmem, ⟨16, _⟩ => ⟨S512x1024, .f32⟩
  | .local _ .vmem, ⟨17, _⟩ => ⟨S512x1024, .f32⟩
  | .local _ .vmem, ⟨18, _⟩ => ⟨S8x4x64x128, .bf16⟩
  | .local _ .vmem, ⟨19, _⟩ => ⟨S8x4x64x128, .bf16⟩
  | .local _ .vmem, ⟨20, _⟩ => ⟨S4x256x256, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== HgvRefIdeal.lean ====
abbrev S16384x7680 : Shape := ⟨2, ![16384, 7680]⟩
abbrev S1x1024 : Shape := ⟨2, ![1, 1024]⟩
abbrev S16384x1024 : Shape := ⟨2, ![16384, 1024]⟩
abbrev S1x16384x8x128 : Shape := ⟨4, ![1, 16384, 8, 128]⟩
abbrev S8x128 : Shape := ⟨2, ![8, 128]⟩
abbrev S_ : Shape := ⟨0, ![]⟩
abbrev S1x1x8x128 : Shape := ⟨4, ![1, 1, 8, 128]⟩
abbrev S1x256x64x8x128 : Shape := ⟨5, ![1, 256, 64, 8, 128]⟩
abbrev S256x1x8x64x128 : Shape := ⟨5, ![256, 1, 8, 64, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S1x16384x8x128, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S1x16384x8x128, .f32⟩
  | .hbm, ⟨10, _⟩ => ⟨S1x16384x8x128, .f32⟩
  | .hbm, ⟨11, _⟩ => ⟨S_, .f32⟩
  | .hbm, ⟨12, _⟩ => ⟨S1x16384x8x128, .f32⟩
  | .hbm, ⟨13, _⟩ => ⟨S1x16384x8x128, .f32⟩
  | .hbm, ⟨14, _⟩ => ⟨S_, .f32⟩
  | .hbm, ⟨15, _⟩ => ⟨S1x16384x8x128, .f32⟩
  | .hbm, ⟨16, _⟩ => ⟨S1x16384x8x128, .f32⟩
  | .hbm, ⟨17, _⟩ => ⟨S1x1x8x128, .f32⟩
  | .hbm, ⟨18, _⟩ => ⟨S1x16384x8x128, .f32⟩
  | .hbm, ⟨19, _⟩ => ⟨S1x16384x8x128, .f32⟩
  | .hbm, ⟨20, _⟩ => ⟨S1x1x8x128, .f32⟩
  | .hbm, ⟨21, _⟩ => ⟨S1x16384x8x128, .f32⟩
  | .hbm, ⟨22, _⟩ => ⟨S1x16384x8x128, .f32⟩
  | .hbm, ⟨23, _⟩ => ⟨S_, .f32⟩
  | .hbm, ⟨24, _⟩ => ⟨S1x16384x8x128, .f32⟩
  | .hbm, ⟨25, _⟩ => ⟨S1x16384x8x128, .f32⟩
  | .hbm, ⟨26, _⟩ => ⟨S1x16384x8x128, .f32⟩
  | .hbm, ⟨27, _⟩ => ⟨S1x256x64x8x128, .f32⟩
  | .hbm, ⟨28, _⟩ => ⟨S256x1x8x64x128, .f32⟩
  | .hbm, ⟨29, _⟩ => ⟨S_, .f32⟩
  | .hbm, ⟨30, _⟩ => ⟨S_, .f32⟩
  | .hbm, ⟨31, _⟩ => ⟨S256x1x8x64x128, .f32⟩
  | .hbm, ⟨32, _⟩ => ⟨S1x256x64x8x128, .f32⟩
  | .hbm, ⟨33, _⟩ => ⟨S16384x1024, .f32⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_call0_cst : Ref sig .tc := ⟨.hbm, 29, rfl⟩
abbrev main_call0_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== HgsKernel.lean ====
abbrev S16384x7680 : Shape := ⟨2, ![16384, 7680]⟩
abbrev S1x1024 : Shape := ⟨2, ![1, 1024]⟩
abbrev S16384x1024 : Shape := ⟨2, ![16384, 1024]⟩
abbrev S256x8x128x128 : Shape := ⟨4, ![256, 8, 128, 128]⟩
abbrev S256x4x64x128 : Shape := ⟨4, ![256, 4, 64, 128]⟩
abbrev S512x1024 : Shape := ⟨2, ![512, 1024]⟩
abbrev S8x8x128x128 : Shape := ⟨4, ![8, 8, 128, 128]⟩
abbrev S8x4x64x128 : Shape := ⟨4, ![8, 4, 64, 128]⟩
abbrev S4x256x256 : Shape := ⟨3, ![4, 256, 256]⟩
abbrev S64x64 : Shape := ⟨2, ![64, 64]⟩
abbrev S64x128 : Shape := ⟨2, ![64, 128]⟩
abbrev S64x256 : Shape := ⟨2, ![64, 256]⟩
abbrev S256x256 : Shape := ⟨2, ![256, 256]⟩
abbrev S1x256 : Shape := ⟨2, ![1, 256]⟩
abbrev S64x768 : Shape := ⟨2, ![64, 768]⟩
abbrev S1x256x256 : Shape := ⟨3, ![1, 256, 256]⟩
abbrev S128x128 : Shape := ⟨2, ![128, 128]⟩
abbrev S1x1x128x128 : Shape := ⟨4, ![1, 1, 128, 128]⟩
abbrev S128x256 : Shape := ⟨2, ![128, 256]⟩
abbrev S1x1x64x128 : Shape := ⟨4, ![1, 1, 64, 128]⟩
abbrev S1x128 : Shape := ⟨2, ![1, 128]⟩
abbrev S64 : Shape := ⟨1, ![64]⟩
abbrev S64x1 : Shape := ⟨2, ![64, 1]⟩

abbrev nBuf : Space → Nat
  | .hbm => 8
  | .vmem => 21
  | .smem => 0
  | _ => 0

abbrev bufTy : (tb : Table) → Fin (tcTables nBuf tb) → BufTy
  | .hbm, ⟨0, _⟩ => ⟨S16384x7680, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S16384x1024, .bf16⟩
  | .hbm, ⟨5, _⟩ => ⟨S256x8x128x128, .f32⟩
  | .hbm, ⟨6, _⟩ => ⟨S16384x1024, .f32⟩
  | .hbm, ⟨7, _⟩ => ⟨S256x4x64x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x8x128x128, .f32⟩
  | .local _ .vmem, ⟨15, _⟩ => ⟨S8x8x128x128, .f32⟩
  | .local _ .vmem, ⟨16, _⟩ => ⟨S512x1024, .f32⟩
  | .local _ .vmem, ⟨17, _⟩ => ⟨S512x1024, .f32⟩
  | .local _ .vmem, ⟨18, _⟩ => ⟨S8x4x64x128, .bf16⟩
  | .local _ .vmem, ⟨19, _⟩ => ⟨S8x4x64x128, .bf16⟩
  | .local _ .vmem, ⟨20, _⟩ => ⟨S4x256x256, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== HgsRefIdeal.lean ====
abbrev S16384x7680 : Shape := ⟨2, ![16384, 7680]⟩
abbrev S1x1024 : Shape := ⟨2, ![1, 1024]⟩
abbrev S16384x1024 : Shape := ⟨2, ![16384, 1024]⟩
abbrev S1x16384x8x128 : Shape := ⟨4, ![1, 16384, 8, 128]⟩
abbrev S8x128 : Shape := ⟨2, ![8, 128]⟩
abbrev S_ : Shape := ⟨0, ![]⟩
abbrev S1x1x8x128 : Shape := ⟨4, ![1, 1, 8, 128]⟩
abbrev S1x8x128x128 : Shape := ⟨4, ![1, 8, 128, 128]⟩
abbrev S1x256x64x8x128 : Shape := ⟨5, ![1, 256, 64, 8, 128]⟩
abbrev S256x1x8x64x128 : Shape := ⟨5, ![256, 1, 8, 64, 128]⟩
abbrev S256x1x8x128x128 : Shape := ⟨5, ![256, 1, 8, 128, 128]⟩
abbrev S1x1x8x64x128 : Shape := ⟨5, ![1, 1, 8, 64, 128]⟩
abbrev S1x8x64x128 : Shape := ⟨4, ![1, 8, 64, 128]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S256x8x128x128 : Shape := ⟨4, ![256, 8, 128, 128]⟩

abbrev nBuf : Space → Nat
  | .hbm => 94
  | .vmem => 0
  | .smem => 0
  | _ => 0

abbrev bufTy : (tb : Table) → Fin (tcTables nBuf tb) → BufTy
  | .hbm, ⟨0, _⟩ => ⟨S16384x7680, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S1x16384x8x128, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S1x16384x8x128, .f32⟩
  | .hbm, ⟨10, _⟩ => ⟨S1x16384x8x128, .f32⟩
  | .hbm, ⟨11, _⟩ => ⟨S_, .f32⟩
  | .hbm, ⟨12, _⟩ => ⟨S1x16384x8x128, .f32⟩
  | .hbm, ⟨13, _⟩ => ⟨S1x16384x8x128, .f32⟩
  | .hbm, ⟨14, _⟩ => ⟨S_, .f32⟩
  | .hbm, ⟨15, _⟩ => ⟨S1x16384x8x128, .f32⟩
  | .hbm, ⟨16, _⟩ => ⟨S1x16384x8x128, .f32⟩
  | .hbm, ⟨17, _⟩ => ⟨S1x1x8x128, .f32⟩
  | .hbm, ⟨18, _⟩ => ⟨S1x16384x8x128, .f32⟩
  | .hbm, ⟨19, _⟩ => ⟨S1x16384x8x128, .f32⟩
  | .hbm, ⟨20, _⟩ => ⟨S1x1x8x128, .f32⟩
  | .hbm, ⟨21, _⟩ => ⟨S1x16384x8x128, .f32⟩
  | .hbm, ⟨22, _⟩ => ⟨S1x16384x8x128, .f32⟩
  | .hbm, ⟨23, _⟩ => ⟨S_, .f32⟩
  | .hbm, ⟨24, _⟩ => ⟨S1x16384x8x128, .f32⟩
  | .hbm, ⟨25, _⟩ => ⟨S1x16384x8x128, .f32⟩
  | .hbm, ⟨26, _⟩ => ⟨S1x16384x8x128, .f32⟩
  | .hbm, ⟨27, _⟩ => ⟨S_, .f32⟩
  | .hbm, ⟨28, _⟩ => ⟨S1x16384x8x128, .f32⟩
  | .hbm, ⟨29, _⟩ => ⟨S1x16384x8x128, .f32⟩
  | .hbm, ⟨30, _⟩ => ⟨S16384x1024, .f32⟩
  | .hbm, ⟨31, _⟩ => ⟨S1x16384x8x128, .f32⟩
  | .hbm, ⟨32, _⟩ => ⟨S_, .f32⟩
  | .hbm, ⟨33, _⟩ => ⟨S1x8x128x128, .f32⟩
  | .hbm, ⟨34, _⟩ => ⟨S1x256x64x8x128, .f32⟩
  | .hbm, ⟨35, _⟩ => ⟨S256x1x8x64x128, .f32⟩
  | .hbm, ⟨36, _⟩ => ⟨S1x256x64x8x128, .f32⟩
  | .hbm, ⟨37, _⟩ => ⟨S256x1x8x64x128, .f32⟩
  | .hbm, ⟨38, _⟩ => ⟨S1x256x64x8x128, .f32⟩
  | .hbm, ⟨39, _⟩ => ⟨S256x1x8x64x128, .f32⟩
  | .hbm, ⟨40, _⟩ => ⟨S_, .f32⟩
  | .hbm, ⟨41, _⟩ => ⟨S256x1x8x128x128, .f32⟩
  | .hbm, ⟨42, _⟩ => ⟨S_, .i32⟩
  | .hbm, ⟨43, _⟩ => ⟨S256x1x8x64x128, .f32⟩
  | .hbm, ⟨44, _⟩ => ⟨S256x1x8x64x128, .f32⟩
  | .hbm, ⟨45, _⟩ => ⟨S256x1x8x64x128, .f32⟩
  | .hbm, ⟨46, _⟩ => ⟨S_, .i32⟩
  | .hbm, ⟨47, _⟩ => ⟨S1x8x128x128, .f32⟩
  | .hbm, ⟨48, _⟩ => ⟨S256x1x8x128x128, .f32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x1x8x64x128, .f32⟩
  | .hbm, ⟨56, _⟩ => ⟨S1x8x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x1x8x64x128, .f32⟩
  | .hbm, ⟨62, _⟩ => ⟨S1x8x64x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x1x8x64x128, .f32⟩
  | .hbm, ⟨68, _⟩ => ⟨S1x8x64x128, .f32⟩
  | .hbm, ⟨69, _⟩ => ⟨S_, .f32⟩
  | .hbm, ⟨70, _⟩ => ⟨S_, .f32⟩
  | .hbm, ⟨71, _⟩ => ⟨S1x8x64x128, .f32⟩
  | .hbm, ⟨72, _⟩ => ⟨S1x8x1x128, .f32⟩
  | .hbm, ⟨73, _⟩ => ⟨S1x8x128, .f32⟩
  | .hbm, ⟨74, _⟩ => ⟨S1x8x128, .f32⟩
  | .hbm, ⟨75, _⟩ => ⟨S1x8x128x1, .f32⟩
  | .hbm, ⟨76, _⟩ => ⟨S1x8x128x128, .f32⟩
  | .hbm, ⟨77, _⟩ => ⟨S1x8x128x128, .f32⟩
  | .hbm, ⟨78, _⟩ => ⟨S1x8x64x128, .f32⟩
  | .hbm, ⟨79, _⟩ => ⟨S1x8x64x128, .f32⟩
  | .hbm, ⟨80, _⟩ => ⟨S1x8x64x128, .f32⟩
  | .hbm, ⟨81, _⟩ => ⟨S1x8x64x128, .f32⟩
  | .hbm, ⟨82, _⟩ => ⟨S1x8x128x128, .f32⟩
  | .hbm, ⟨83, _⟩ => ⟨S1x8x128x128, .f32⟩
  | .hbm, ⟨84, _⟩ => ⟨S1x1x8x128x128, .f32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S256x1x8x128x128, .f32⟩
  | .hbm, ⟨90, _⟩ => ⟨S_, .i32⟩
  | .hbm, ⟨91, _⟩ => ⟨S_, .i32⟩
  | .hbm, ⟨92, _⟩ => ⟨S256x8x128x128, .f32⟩
  | .hbm, ⟨93, _⟩ => ⟨S256x8x128x128, .f32⟩
  | _, _ => ⟨S16384x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_c : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev main_v32_4 : Ref sig .tc := ⟨.hbm, 47, rfl⟩
abbrev main_v32_5 : Ref sig .tc := ⟨.hbm, 48, rfl⟩
abbrev main_while0c_c_11 : Ref sig .tc := ⟨.hbm, 49, rfl⟩
abbrev main_while0c_v35 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_c_1 : Ref sig .tc := ⟨.hbm, 53, rfl⟩
abbrev main_while0b_call0_c_2 : Ref sig .tc := ⟨.hbm, 54, rfl⟩
abbrev main_while0b_call0_v0 : Ref sig .tc := ⟨.hbm, 55, rfl⟩
abbrev main_while0b_v35 : Ref sig .tc := ⟨.hbm, 56, rfl⟩
abbrev main_while0b_call1_c : Ref sig .tc := ⟨.hbm, 57, rfl⟩
abbrev main_while0b_call1_c_0 : Ref sig .tc := ⟨.hbm, 58, rfl⟩
abbrev main_while0b_call1_c_1 : Ref sig .tc := ⟨.hbm, 59, rfl⟩
abbrev main_while0b_call1_c_2 : Ref sig .tc := ⟨.hbm, 60, rfl⟩
abbrev main_while0b_call1_v0 : Ref sig .tc := ⟨.hbm, 61, rfl⟩
abbrev main_while0b_v36 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_call2_c_2 : Ref sig .tc := ⟨.hbm, 66, rfl⟩
abbrev main_while0b_call2_v0 : Ref sig .tc := ⟨.hbm, 67, rfl⟩
abbrev main_while0b_v37 : Ref sig .tc := ⟨.hbm, 68, rfl⟩
abbrev main_while0b_call3_call0_cst : Ref sig .tc := ⟨.hbm, 69, rfl⟩
abbrev main_while0b_call3_call0_v0 : Ref sig .tc := ⟨.hbm, 70, rfl⟩
abbrev main_while0b_v38 : Ref sig .tc := ⟨.hbm, 71, rfl⟩
abbrev main_while0b_v39 : Ref sig .tc := ⟨.hbm, 72, rfl⟩
abbrev main_while0b_v40 : Ref sig .tc := ⟨.hbm, 73, rfl⟩
abbrev main_while0b_v41 : Ref sig .tc := ⟨.hbm, 74, rfl⟩
abbrev main_while0b_v42 : Ref sig .tc := ⟨.hbm, 75, rfl⟩
abbrev main_while0b_v43 : Ref sig .tc := ⟨.hbm, 76, rfl⟩
abbrev main_while0b_v44 : Ref sig .tc := ⟨.hbm, 77, rfl⟩
abbrev main_while0b_v45 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_call4_v0 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_v51 : Ref sig .tc := ⟨.hbm, 89, rfl⟩
abbrev main_while0b_c_11 : Ref sig .tc := ⟨.hbm, 90, rfl⟩
abbrev main_while0b_v52 : Ref sig .tc := ⟨.hbm, 91, rfl⟩
abbrev main_v33 : Ref sig .tc := ⟨.hbm, 92, rfl⟩
abbrev main_v34 : Ref sig .tc := ⟨.hbm, 93, rfl⟩

abbrev nD : Nat := 1
abbrev τ : Topo := Topo.v7x

variable {F : FTy → Type} [FloatOps F]

abbrev main_while0_count : Scf.Loop 32 := ⟨0#32, 256#32, 1#32⟩
-- ==== HgCall.lean ====
abbrev S16384x7680 : Shape := ⟨2, ![16384, 7680]⟩
abbrev S1x1024 : Shape := ⟨2, ![1, 1024]⟩
abbrev S16384x1024 : Shape := ⟨2, ![16384, 1024]⟩
abbrev S256x8x128x128 : Shape := ⟨4, ![256, 8, 128, 128]⟩
abbrev S256x4x64x128 : Shape := ⟨4, ![256, 4, 64, 128]⟩
abbrev S16384x4096 : Shape := ⟨2, ![16384, 4096]⟩
abbrev S512x1024 : Shape := ⟨2, ![512, 1024]⟩
abbrev S8x8x128x128 : Shape := ⟨4, ![8, 8, 128, 128]⟩
abbrev S1x8x128x128 : Shape := ⟨4, ![1, 8, 128, 128]⟩
abbrev S8x4x64x128 : Shape := ⟨4, ![8, 4, 64, 128]⟩
abbrev S512x4096 : Shape := ⟨2, ![512, 4096]⟩
abbrev S4x256x256 : Shape := ⟨3, ![4, 256, 256]⟩
abbrev S64x64 : Shape := ⟨2, ![64, 64]⟩
abbrev S64x128 : Shape := ⟨2, ![64, 128]⟩
abbrev S64x256 : Shape := ⟨2, ![64, 256]⟩
abbrev S256x256 : Shape := ⟨2, ![256, 256]⟩
abbrev S128x128 : Shape := ⟨2, ![128, 128]⟩
abbrev S1x256 : Shape := ⟨2, ![1, 256]⟩
abbrev S1x1x128x128 : Shape := ⟨4, ![1, 1, 128, 128]⟩
abbrev S128x256 : Shape := ⟨2, ![128, 256]⟩
abbrev S1x256x256 : Shape := ⟨3, ![1, 256, 256]⟩
abbrev S1x128 : Shape := ⟨2, ![1, 128]⟩
abbrev S64 : Shape := ⟨1, ![64]⟩
abbrev S64x1 : Shape := ⟨2, ![64, 1]⟩
abbrev S128 : Shape := ⟨1, ![128]⟩
abbrev S1x1x64x128 : Shape := ⟨4, ![1, 1, 64, 128]⟩
abbrev S64x768 : Shape := ⟨2, ![64, 768]⟩
abbrev S256 : Shape := ⟨1, ![256]⟩

abbrev nBuf : Space → Nat
  | .hbm => 11
  | .vmem => 27
  | .smem => 0
  | _ => 0

abbrev bufTy : (tb : Table) → Fin (tcTables nBuf tb) → BufTy
  | .hbm, ⟨0, _⟩ => ⟨S16384x7680, .f32⟩
  | .hbm, ⟨1, _⟩ => ⟨S1x1024, .f32⟩
  | .hbm, ⟨2, _⟩ => ⟨S1x1024, .f32⟩
  | .hbm, ⟨3, _⟩ => ⟨S16384x1024, .f32⟩
  | .hbm, ⟨4, _⟩ => ⟨S256x8x128x128, .f32⟩
  | .hbm, ⟨5, _⟩ => ⟨S16384x1024, .f32⟩
  | .hbm, ⟨6, _⟩ => ⟨S256x4x64x128, .bf16⟩
  | .hbm, ⟨7, _⟩ => ⟨S16384x1024, .f32⟩
  | .hbm, ⟨8, _⟩ => ⟨S16384x4096, .bf16⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x8x128x128, .f32⟩
  | .local _ .vmem, ⟨13, _⟩ => ⟨S8x8x128x128, .f32⟩
  | .local _ .vmem, ⟨14, _⟩ => ⟨S1x8x128x128, .f32⟩
  | .local _ .vmem, ⟨15, _⟩ => ⟨S1x8x128x128, .f32⟩
  | .local _ .vmem, ⟨16, _⟩ => ⟨S512x1024, .f32⟩
  | .local _ .vmem, ⟨17, _⟩ => ⟨S512x1024, .f32⟩
  | .local _ .vmem, ⟨18, _⟩ => ⟨S8x4x64x128, .bf16⟩
  | .local _ .vmem, ⟨19, _⟩ => ⟨S8x4x64x128, .bf16⟩
  | .local _ .vmem, ⟨20, _⟩ => ⟨S512x1024, .f32⟩
  | .local _ .vmem, ⟨21, _⟩ => ⟨S512x1024, .f32⟩
  | .local _ .vmem, ⟨22, _⟩ => ⟨S512x4096, .bf16⟩
  | .local _ .vmem, ⟨23, _⟩ => ⟨S512x4096, .bf16⟩
  | .local _ .vmem, ⟨24, _⟩ => ⟨S1x1024, .f32⟩
  | .local _ .vmem, ⟨25, _⟩ => ⟨S1x1024, .f32⟩
  | .local _ .vmem, ⟨26, _⟩ => ⟨S4x256x256, .f32⟩
  | _, _ => ⟨S16384x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 4 → Nat :=
  let arg0 : BitVec 32 := BitVec.ofNat 32 (i 0).val
  let c32_i32 : BitVec 32 := 32#32
  let v0 : BitVec 32 := Scalar.subi c32_i32 arg0
  let c8_i32 : BitVec 32 := 8#32
  let v1 : BitVec 32 := Scalar.muli v0 c8_i32
  let c255_i32 : BitVec 32 := 255#32
  let v2 : BitVec 32 := Scalar.minsi v1 c255_i32
  let c0_i32 : BitVec 32 := 0#32
  let c0_i32_0 : BitVec 32 := 0#32
  let c0_i32_1 : BitVec 32 := 0#32
  let c0_i32_2 : BitVec 32 := 0#32
  ![v2.toNat, c0_i32.toNat, c0_i32_0.toNat, c0_i32_1.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Proof.Lib.lean ====
module

public import Idealize.ShloMosaic.PureOps.Ideal
public import Idealize.ShloMosaic.PureOps.Ideal.Laws
public import Idealize.ShloMosaic.Lib.Pointwise

/-! Facts about the extended reals the value proofs share. -/

@[expose] public section

set_option maxRecDepth 16384

noncomputable section

namespace Cert.Own

open Idealize.ShloMosaic

/-- The pattern of one half. -/
theorem ofBits_half : Ideal.ofBits .f32 0x3F000000#32 = ((1 / 2 : ℝ) : EReal) := by
  simp [Ideal.ofBits, Ideal.ieee, -EReal.coe_mul]; norm_num

/-- The pattern of plus infinity. -/
theorem ofBits_inf : Ideal.ofBits .f32 0x7F800000#32 = ⊤ := by
  simp [Ideal.ofBits, Ideal.ieee, -EReal.coe_mul]

theorem ofBits_ninf : Ideal.ofBits .f32 0xFF800000#32 = ⊥ := by
  simp [Ideal.ofBits, Ideal.ieee, -EReal.coe_mul]

/-- The logistic function as a real number, whatever the argument. -/
theorem logistic_real (x : EReal) : ∃ s : ℝ, Ideal.logistic x = (s : EReal) := by
  induction x using EReal.rec with
  | bot => exact ⟨0, by simp⟩
  | top => exact ⟨1, by simp⟩
  | coe r => exact ⟨_, Ideal.logistic_coe r⟩

theorem tanh_half (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by
    rw [← Real.exp_add]; ring_nf
  have h2 : Real.exp (1 / 2 * r) * Real.exp (-(1 / 2 * r)) = 1 := by
    rw [← Real.exp_add]; simp
  rw [h1]
  have hp := Real.exp_pos (1 / 2 * r)
  have hm := Real.exp_pos (-(1 / 2 * r))
  generalize Real.exp (1 / 2 * r) = a at *
  generalize Real.exp (-(1 / 2 * r)) = b at *
  have : a = b⁻¹ := eq_inv_of_mul_eq_one_left h2
  subst this
  field_simp
  ring

/-- The logistic function by the hyperbolic tangent. -/
theorem half_tanh (x : EReal) :
    ((1 / 2 : ℝ) : EReal) * Ideal.tanh (((1 / 2 : ℝ) : EReal) * x) + ((1 / 2 : ℝ) : EReal) = Ideal.logistic x := by
  induction x using EReal.rec with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top]
    rw [mul_one, ← EReal.coe_add]; norm_num
  | coe r =>
    rw [← EReal.coe_mul, Ideal.tanh_coe, ← EReal.coe_mul, ← EReal.coe_add, tanh_half, Ideal.logistic_coe]

/-- `half_tanh` at the pattern of one half. -/
theorem half_tanh_bits (x : EReal) :
    Ideal.ofBits .f32 1056964608#32 * Ideal.tanh (Ideal.ofBits .f32 1056964608#32 * x) + Ideal.ofBits .f32 1056964608#32 = Ideal.logistic x := by
  rw [show (1056964608#32 : BitVec 32) = 0x3F000000#32 from rfl, ofBits_half]
  exact half_tanh x

/-- The quotient a host line spells the logistic function with. -/
theorem div_logistic (x : EReal) : Ideal.div 1 (1 + Ideal.exp (-x)) = Ideal.logistic x := rfl

/-- What `|x| < ∞` says of an extended real. -/
theorem real_of_abs_lt_top {x : EReal} (h : max x (-x) < ⊤) : ∃ r : ℝ, x = (r : EReal) := by
  induction x using EReal.rec with
  | bot => simp at h
  | top => simp at h
  | coe r => exact ⟨r, rfl⟩

/-- The test of a finiteness precondition, read: the element is a real number. -/
theorem real_of_test {x : EReal}
    (h : BitVec.ofBool (decide ((FloatOps.absf (F := Ideal) (φ := .f32) x : EReal) < Ideal.ofBits .f32 2139095040#32)) = 1#1) :
    ∃ r : ℝ, x = (r : EReal) := by
  rw [show (2139095040#32 : BitVec 32) = 0x7F800000#32 from rfl, ofBits_inf] at h
  have h2 : decide ((FloatOps.absf (F := Ideal) (φ := .f32) x : EReal) < ⊤) = true := by
    cases hd : decide ((FloatOps.absf (F := Ideal) (φ := .f32) x : EReal) < ⊤)
    · rw [hd] at h; exact absurd h (by decide)
    · rfl
  exact real_of_abs_lt_top (of_decide_eq_true h2)

/-- A finite sum of products of real numbers is a real number. -/
theorem sum_real {ι : Type} [Fintype ι] (f : ι → EReal) (h : ∀ i, ∃ r : ℝ, f i = (r : EReal)) :
    ∃ r : ℝ, ∑ i, f i = (r : EReal) := by
  choose g hg using h
  exact ⟨∑ i, g i, by simp only [hg]; exact (map_sum (⟨⟨fun r => (r : EReal), EReal.coe_zero⟩, EReal.coe_add⟩ : ℝ →+ EReal) g _).symm⟩

/-- A row's mean square with the small constant added. -/
def ms (x : Fin 1024 → EReal) : EReal :=
  Ideal.div (∑ k, x k * x k) (Ideal.ofBits .f32 1149239296#32) + Ideal.ofBits .f32 897988541#32

/-- What the mean square's gradient sends to each entry, before the entry itself. -/
def nq (x g d : Fin 1024 → EReal) : EReal :=
  Ideal.div ((∑ k, x k * (d k * g k)) * (Ideal.ofBits .f32 3204448256#32 * Ideal.div (Ideal.rsqrt (ms x)) (ms x))) (Ideal.ofBits .f32 1149239296#32)

/-- The norm's gradient at a row. -/
def nx (x g d : Fin 1024 → EReal) (k : Fin 1024) : EReal :=
  d k * g k * Ideal.rsqrt (ms x) + x k * nq x g d + nq x g d * x k

end Cert.Own

end
-- ==== Proof.Ffn.lean ====
module

public import proofs.«01_k».proof.Defs
public import proofs.«01_k».proof.Proof.Lib
public import proofs.«01_k».proof.Proof.Gen.Pre_ffn_finite

public import proofs.«01_k».proof.Proof.Gen.FfnKernelIdeal.Frame
public import proofs.«01_k».proof.Proof.Gen.FfnRefIdeal.Run
public import Idealize.ShloMosaic.Lib.Pipeline.ValueKit
public import Idealize.ShloMosaic.Lib.Claim
public import Idealize.ShloMosaic.Lib.Pointwise

/-! The SwiGLU's backward call: what it returns is what the reference returns. -/

@[expose] public section

set_option maxRecDepth 16384

noncomputable section

namespace Cert.Own.Ffn

open Idealize.ShloMosaic Idealize.ShloMosaic.TcCoe Idealize.SL.Sem

section
open Cert.FfnKernelIdeal Cert.FfnKernelIdeal.Gen

/-- The cotangent of the activation, row `i`, column `k`. -/
def act (w : S2816x1024.Idx → EReal) (x : S16384x1024.Idx → EReal) (i : Fin 16384) (k : Fin 2816) : EReal :=
  ∑ c : Fin 1024, x (ix2 i c) * w (ix2 k c)

/-- The gate's gradient. -/
def dgate (g u : S16384x2816.Idx → EReal) (w : S2816x1024.Idx → EReal) (x : S16384x1024.Idx → EReal) (i : Fin 16384) (k : Fin 2816) : EReal :=
  act w x i k * u (ix2 i k)
    * (Ideal.logistic (g (ix2 i k)) + g (ix2 i k) * Ideal.logistic (g (ix2 i k)) * (1 - Ideal.logistic (g (ix2 i k))))

/-- The up projection's gradient. -/
def dup (g : S16384x2816.Idx → EReal) (w : S2816x1024.Idx → EReal) (x : S16384x1024.Idx → EReal) (i : Fin 16384) (k : Fin 2816) : EReal :=
  act w x i k * (g (ix2 i k) * Ideal.logistic (g (ix2 i k)))

/-- The two gradients as the call lays them out: in each half the gate's columns, then the up projection's. -/
def packed (g u : S16384x2816.Idx → EReal) (w : S2816x1024.Idx → EReal) (x : S16384x1024.Idx → EReal) : S16384x5632.Idx → EReal := fun y =>
  let i : Fin 16384 := y 0
  let j : Fin 5632 := y 1
  if h : j.val % 2816 < 1408 then dgate g u w x i ⟨j.val / 2816 * 1408 + j.val % 2816, by omega⟩
  else dup g w x i ⟨j.val / 2816 * 1408 + (j.val % 2816 - 1408), by omega⟩

/-- The operand of the call that holds the gate's and the up projection's columns. -/
def gu (g u : FVec Ideal S16384x2816 .f32) : FVec Ideal S16384x5632 .bf16 := truncf .bf16 (concatenate S16384x5632 1
    [⟨S16384x1408, extractStridedSlice S16384x1408 ![0, 0] g slices_S16384x2816_S16384x1408_0_0⟩,
     ⟨S16384x1408, extractStridedSlice S16384x1408 ![0, 0] u slices_S16384x2816_S16384x1408_0_0⟩,
     ⟨S16384x1408, extractStridedSlice S16384x1408 ![0, 1408] g slices_S16384x2816_S16384x1408_0_1408⟩,
     ⟨S16384x1408, extractStridedSlice S16384x1408 ![0, 1408] u slices_S16384x2816_S16384x1408_0_1408⟩]
    concatenates_S16384x1408_S16384x1408_S16384x1408_S16384x1408_S16384x5632_d1) bitsLt_bf16_f32

theorem packed_gate (g u : S16384x2816.Idx → EReal) (w : S2816x1024.Idx → EReal) (x : S16384x1024.Idx → EReal)
    (i : Fin 16384) (j : Fin 5632) (k : Fin 2816) (h : j.val = k.val / 1408 * 2816 + k.val % 1408) :
    packed g u w x (ix2 i j) = dgate g u w x i k := by
  have h1 : j.val % 2816 < 1408 := by omega
  have h2 : (⟨j.val / 2816 * 1408 + j.val % 2816, by omega⟩ : Fin 2816) = k := Fin.ext (by simp only; omega)
  exact (dif_pos h1).trans (congrArg (dgate g u w x i) h2)

theorem packed_up (g u : S16384x2816.Idx → EReal) (w : S2816x1024.Idx → EReal) (x : S16384x1024.Idx → EReal)
    (i : Fin 16384) (j : Fin 5632) (k : Fin 2816) (h : j.val = k.val / 1408 * 2816 + 1408 + k.val % 1408) :
    packed g u w x (ix2 i j) = dup g w x i k := by
  have h1 : ¬ j.val % 2816 < 1408 := by omega
  have h2 : (⟨j.val / 2816 * 1408 + (j.val % 2816 - 1408), by omega⟩ : Fin 2816) = k := Fin.ext (by simp only; omega)
  exact (dif_neg h1).trans (congrArg (dup g w x i) h2)

theorem idx : ∀ t : Fin cfg0.N, win0_0.index t = ![t.val % 32, 0] ∧ win0_1.index t = ![t.val / 32, 0]
    ∧ win0_2.index t = ![t.val % 32, t.val / 32] ∧ win0_3.index t = ![t.val % 32, t.val / 32] :=
  (by decide +kernel : ∀ t : Fin grid0.N, _)

section
variable (m : (ℓ : Loc nD τ sig) → Buf (Elt Ideal) ℓ) (c : Dev nD) (t : Fin cfg0.N)

theorem read_x (a : Fin 512) (b : Fin 1024) : iblk m c 0 t (ix2 a b)
    = m ((c.tc : Thread nD τ).loc main_arg3) (ix2 (⟨t.val % 32 * 512 + a.val, by omega⟩ : Fin 16384) b) := by
  obtain ⟨e0, e1, e2, e3⟩ := idx t
  blk_ext [iblk, V, e0]

theorem entry_w : V m c main_v6 = truncf (F := Ideal) (s := S2816x1024) (φ := .f32) .bf16 (m ((c.tc : Thread nD τ).loc main_arg2)) bitsLt_bf16_f32 := by
  change StableHlo.after hostOps0 (fun b => m (c, b)) _ = _
  after_results
  try rfl

theorem read_w (a : Fin 1408) (b : Fin 1024) : iblk m c 1 t (ix2 a b)
    = m ((c.tc : Thread nD τ).loc main_arg2) (ix2 (⟨t.val / 32 * 1408 + a.val, by have := t.isLt; change t.val < 64 at this; omega⟩ : Fin 2816) b) := by
  obtain ⟨e0, e1, e2, e3⟩ := idx t
  unfold iblk
  have e := entry_w m c
  generalize V m c main_v6 = X at e
  subst e
  blk_ext [e1]

theorem entry_gu : V m c main_v5 = gu (m ((c.tc : Thread nD τ).loc main_arg0)) (m ((c.tc : Thread nD τ).loc main_arg1)) := by
  change StableHlo.after hostOps0 (fun b => m (c, b)) _ = _
  after_results
  try rfl

theorem read_g (a : Fin 512) (b : Fin 1408) : iblk m c 2 t (ix2 a (⟨b.val, by omega⟩ : Fin 2816))
    = m ((c.tc : Thread nD τ).loc main_arg0) (ix2 (⟨t.val % 32 * 512 + a.val, by omega⟩ : Fin 16384)
        (⟨t.val / 32 * 1408 + b.val, by have := t.isLt; change t.val < 64 at this; omega⟩ : Fin 2816)) := by
  obtain ⟨e0, e1, e2, e3⟩ := idx t
  have ht : t.val < 64 := t.isLt
  have e : iblk m c 2 t (ix2 a (⟨b.val, by omega⟩ : Fin 2816)) = V m c main_v5 (ix2 (⟨t.val % 32 * 512 + a.val, by omega⟩ : Fin 16384)
        (⟨t.val / 32 * 2816 + (b.val), by omega⟩ : Fin 5632)) := by
    unfold iblk
    generalize V m c main_v5 = X
    blk_ext [e2]
  rw [e, entry_gu]
  pointwise [gu]
  obtain h | h : t.val / 32 = 0 ∨ t.val / 32 = 1 := by omega
  all_goals
    split_ifs
    all_goals first | omega | blk_ext

theorem read_u (a : Fin 512) (b : Fin 1408) : iblk m c 2 t (ix2 a (⟨1408 + b.val, by omega⟩ : Fin 2816))
    = m ((c.tc : Thread nD τ).loc main_arg1) (ix2 (⟨t.val % 32 * 512 + a.val, by omega⟩ : Fin 16384)
        (⟨t.val / 32 * 1408 + b.val, by have := t.isLt; change t.val < 64 at this; omega⟩ : Fin 2816)) := by
  obtain ⟨e0, e1, e2, e3⟩ := idx t
  have ht : t.val < 64 := t.isLt
  have e : iblk m c 2 t (ix2 a (⟨1408 + b.val, by omega⟩ : Fin 2816)) = V m c main_v5 (ix2 (⟨t.val % 32 * 512 + a.val, by omega⟩ : Fin 16384)
        (⟨t.val / 32 * 2816 + (1408 + b.val), by omega⟩ : Fin 5632)) := by
    unfold iblk
    generalize V m c main_v5 = X
    blk_ext [e2]
  rw [e, entry_gu]
  pointwise [gu]
  obtain h | h : t.val / 32 = 0 ∨ t.val / 32 = 1 := by omega
  all_goals
    split_ifs
    all_goals first | omega | blk_ext

end

set_option backward.isDefEq.respectTransparency false in
theorem final (m : (ℓ : Loc nD τ sig) → Buf (Elt Ideal) ℓ) (c : Dev nD) :
    (dats m 0 c).arrAt 3 cfg0.N
      = packed (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 3 _ (by decide +kernel) fun t hf y => ?_
  obtain ⟨e0, e1, e2, e3⟩ := idx t
  have ht : t.val < 64 := t.isLt
  have ey : (win0_3.blk t).view.emb y
      = ix2 (⟨t.val % 32 * 512 + (y 0).val, by have := (y 0).isLt; change (y 0).val < 512 at this; omega⟩ : Fin 16384)
          (⟨t.val / 32 * 2816 + (y 1).val, by have := (y 1).isLt; change (y 1).val < 2816 at this; omega⟩ : Fin 5632) := by
    blk_ext [e3]
  blk_simp
  rw [ey, after0_3]
  frame_out
  canon_tiles x h
  · pointwise [k0_pay1, k0_pay2, k0_pay3, k0_pay4, k0_pay5, k0_pay6]
    simp only [read_x, read_w, read_g, read_u, h0, h1]
    rw [packed_up _ _ _ _ _ _ ⟨t.val / 32 * 1408 + (x 1).val, by omega⟩ (by simp only; omega)]
    simp only [half_tanh_bits, dup, act]
  · pointwise [k0_pay1, k0_pay2, k0_pay3, k0_pay4, k0_pay5, k0_pay6]
    simp only [read_x, read_w, read_g, read_u, h0, h1]
    rw [packed_gate _ _ _ _ _ _ ⟨t.val / 32 * 1408 + (x 1).val, by omega⟩ (by simp only; omega)]
    simp only [half_tanh_bits, dgate, act]

/-- The columns of one gradient out of the packed array. -/
def ungate (P : FVec Ideal S16384x5632 .bf16) : FVec Ideal S16384x2816 .bf16 := concatenate S16384x2816 1
    [⟨S16384x1408, extractStridedSlice S16384x1408 ![0, 0] P slices_S16384x5632_S16384x1408_0_0⟩,
     ⟨S16384x1408, extractStridedSlice S16384x1408 ![0, 2816] P slices_S16384x5632_S16384x1408_0_2816⟩]
    concatenates_S16384x1408_S16384x1408_S16384x2816_d1

theorem tail_gate (m : (ℓ : Loc nD τ sig) → Buf (Elt Ideal) ℓ) (c : Dev nD) (i : Fin 16384) (k : Fin 2816) :
    Pipeline.afterTail₀ cfgs (dats m) 0 (V0 m) [hostOps1] c main_v10 (ix2 i k)
      = dgate (m ((c.tc : Thread nD τ).loc main_arg0)) (m ((c.tc : Thread nD τ).loc main_arg1)) (m ((c.tc : Thread nD τ).loc main_arg2)) (m ((c.tc : Thread nD τ).loc main_arg3)) i k := by
  have e : Pipeline.withArrays (cfgs 0).spec c (V0 m c) (fun w => (dats m 0 c).arrAt w (cfgs 0).N) (Proc.tc.devRef main_v7)
      = _ := (Pipeline.withArrays_arr (cfgs 0).spec (by decide) c _ _ 3).trans (final m c)
  unfold Pipeline.afterTail₀
  change StableHlo.after hostOps1 _ _ _ = _
  refine (congrFun (?_ : _ = ungate (packed (m ((c.tc : Thread nD τ).loc main_arg0)) (m ((c.tc : Thread nD τ).loc main_arg1)) (m ((c.tc : Thread nD τ).loc main_arg2)) (m ((c.tc : Thread nD τ).loc main_arg3)))) _).trans ?_
  · after_results
    rw [e]
    try rfl
  pointwise [ungate]
  split_ifs
  all_goals exact packed_gate _ _ _ _ _ _ _ (by simp only; omega)

/-- The columns of one gradient out of the packed array. -/
def unup (P : FVec Ideal S16384x5632 .bf16) : FVec Ideal S16384x2816 .bf16 := concatenate S16384x2816 1
    [⟨S16384x1408, extractStridedSlice S16384x1408 ![0, 1408] P slices_S16384x5632_S16384x1408_0_1408⟩,
     ⟨S16384x1408, extractStridedSlice S16384x1408 ![0, 4224] P slices_S16384x5632_S16384x1408_0_4224⟩]
    concatenates_S16384x1408_S16384x1408_S16384x2816_d1

theorem tail_up (m : (ℓ : Loc nD τ sig) → Buf (Elt Ideal) ℓ) (c : Dev nD) (i : Fin 16384) (k : Fin 2816) :
    Pipeline.afterTail₀ cfgs (dats m) 0 (V0 m) [hostOps1] c main_v13 (ix2 i k)
      = dup (m ((c.tc : Thread nD τ).loc main_arg0)) (m ((c.tc : Thread nD τ).loc main_arg2)) (m ((c.tc : Thread nD τ).loc main_arg3)) i k := by
  have e : Pipeline.withArrays (cfgs 0).spec c (V0 m c) (fun w => (dats m 0 c).arrAt w (cfgs 0).N) (Proc.tc.devRef main_v7)
      = _ := (Pipeline.withArrays_arr (cfgs 0).spec (by decide) c _ _ 3).trans (final m c)
  unfold Pipeline.afterTail₀
  change StableHlo.after hostOps1 _ _ _ = _
  refine (congrFun (?_ : _ = unup (packed (m ((c.tc : Thread nD τ).loc main_arg0)) (m ((c.tc : Thread nD τ).loc main_arg1)) (m ((c.tc : Thread nD τ).loc main_arg2)) (m ((c.tc : Thread nD τ).loc main_arg3)))) _).trans ?_
  · after_results
    rw [e]
    try rfl
  pointwise [unup]
  split_ifs
  all_goals exact packed_up _ _ _ _ _ _ _ (by simp only; omega)

end

end Cert.Own.Ffn

end
-- ==== Proof.FfnClaim.lean ====
module

public import proofs.«01_k».proof.Defs
public import proofs.«01_k».proof.Proof.Ffn
public import proofs.«01_k».proof.Proof.Gen.Pre_ffn_finite

public import proofs.«01_k».proof.Proof.Gen.FfnKernelIdeal.Frame
public import proofs.«01_k».proof.Proof.Gen.FfnRefIdeal.Run
public import Idealize.ShloMosaic.Lib.Pipeline.ValueKit
public import Idealize.ShloMosaic.Lib.Claim
public import Idealize.ShloMosaic.Lib.Pointwise

/-! The SwiGLU's backward call: what it returns is what the reference returns. -/

@[expose] public section

set_option maxRecDepth 16384

noncomputable section

namespace Cert.Own.Ffn

open Idealize.ShloMosaic Idealize.ShloMosaic.TcCoe Idealize.SL.Sem

section
variable (g u : FVec Ideal Cert.FfnKernelIdeal.S16384x2816 .f32) (w : FVec Ideal Cert.FfnKernelIdeal.S2816x1024 .f32)
  (x : FVec Ideal Cert.FfnKernelIdeal.S16384x1024 .f32)

theorem pre_u (h : (Cert.Pre_ffn_finite.fn (F := Ideal) g u w x).1 = fun _ => 1#1) (i : Fin 16384) (k : Fin 2816) :
    ∃ r : ℝ, u (ix2 i k) = (r : EReal) := by
  have h2 := congrFun h (ix2 i k)
  revert h2
  pointwise [Cert.Pre_ffn_finite.fn]
  exact real_of_test

theorem pre_w (h : (Cert.Pre_ffn_finite.fn (F := Ideal) g u w x).2.1 = fun _ => 1#1) (i : Fin 2816) (k : Fin 1024) :
    ∃ r : ℝ, w (ix2 i k) = (r : EReal) := by
  have h2 := congrFun h (ix2 i k)
  revert h2
  pointwise [Cert.Pre_ffn_finite.fn]
  exact real_of_test

theorem pre_x (h : (Cert.Pre_ffn_finite.fn (F := Ideal) g u w x).2.2 = fun _ => 1#1) (i : Fin 16384) (k : Fin 1024) :
    ∃ r : ℝ, x (ix2 i k) = (r : EReal) := by
  have h2 := congrFun h (ix2 i k)
  revert h2
  pointwise [Cert.Pre_ffn_finite.fn]
  exact real_of_test

theorem act_real (hu : (Cert.Pre_ffn_finite.fn (F := Ideal) g u w x).1 = fun _ => 1#1)
    (hw : (Cert.Pre_ffn_finite.fn (F := Ideal) g u w x).2.1 = fun _ => 1#1)
    (hx : (Cert.Pre_ffn_finite.fn (F := Ideal) g u w x).2.2 = fun _ => 1#1) (i : Fin 16384) (k : Fin 2816) :
    ∃ r : ℝ, act w x i k * (u (ix2 i k) : EReal) = (r : EReal) := by
  obtain ⟨r, hr⟩ := sum_real (fun c : Fin 1024 => (x (ix2 i c) * w (ix2 k c) : EReal)) fun c => by
    obtain ⟨p, hp⟩ := pre_x _ _ _ _ hx i c
    obtain ⟨q, hq⟩ := pre_w _ _ _ _ hw k c
    exact ⟨p * q, by simp only [hp, hq, EReal.coe_mul]⟩
  obtain ⟨p, hp⟩ := pre_u _ _ _ _ hu i k
  exact ⟨r * p, by simp only [EReal.coe_mul, ← hp, ← hr, act]⟩

end

/-- The one place where the two programs' gradients of the gate differ in form. -/
theorem gate_form (a : ℝ) (g : EReal) :
    (a : EReal) * (Ideal.logistic g + g * Ideal.logistic g * (1 - Ideal.logistic g))
      = (a : EReal) * Ideal.logistic g + g * (a : EReal) * (Ideal.logistic g * (1 - Ideal.logistic g)) := by
  induction g using EReal.rec with
  | bot => simp
  | top =>
    have h : (1 : EReal) - 1 = 0 := by rw [← EReal.coe_one, ← EReal.coe_sub, sub_self, EReal.coe_zero]
    simp [h]
  | coe r =>
    rw [Ideal.logistic_coe]
    norm_cast
    ring

theorem algebraic : Cert.algebraic_FfnKernelIdeal_FfnRefIdeal_pre_ffn_finite := by
  pair_intro
  · run_from Cert.FfnKernelIdeal.Gen.run_main m g
    · exact Cert.FfnKernelIdeal.Gen.W_main_arg0 m _ c
    · exact Cert.FfnKernelIdeal.Gen.W_main_arg1 m _ c
    · exact Cert.FfnKernelIdeal.Gen.W_main_arg2 m _ c
  · run_from Cert.FfnRefIdeal.Value.run m' g'
    · funext y
      idx_vars y
      rw [tail_gate]
      obtain ⟨hu, hw, hx⟩ := hpre c
      obtain ⟨a, ha⟩ := act_real _ _ _ _ hu hw hx y0 y1
      simp only [act] at ha
      pointwise [dgate, act]
      simp only [div_logistic, ha, gate_form a]
    · funext y
      idx_vars y
      rw [tail_up]
      pointwise [dup, act]
      simp only [div_logistic]
      rw [mul_comm]

end Cert.Own.Ffn

end
-- ==== Proof.Merge.lean ====
module

public import proofs.«01_k».proof.Defs
public import proofs.«01_k».proof.Proof.Lib
public import proofs.«01_k».proof.Proof.Gen.MergeKernelIdeal.Value
public import proofs.«01_k».proof.Proof.Gen.MergeRefIdeal.Run
public import Idealize.ShloMosaic.Lib.Pipeline.ValueKit
public import Idealize.ShloMosaic.Lib.Claim
public import Idealize.ShloMosaic.Lib.Pointwise

/-! The gated merge's backward call: what it returns is what the reference returns. -/

@[expose] public section

set_option maxRecDepth 16384

noncomputable section

namespace Cert.Own.Merge

open Idealize.ShloMosaic Idealize.ShloMosaic.TcCoe Idealize.SL.Sem

theorem tanh_real (x : EReal) : ∃ s : ℝ, Ideal.tanh x = (s : EReal) := by
  induction x using EReal.rec with
  | bot => exact ⟨-1, by simp⟩
  | top => exact ⟨1, by simp⟩
  | coe r => exact ⟨_, Ideal.tanh_coe r⟩

/-- The gate's derivative by the hyperbolic tangent of half the argument. -/
theorem half_half_tanh (c x : EReal) :
    Ideal.ofBits .f32 1056964608#32 * (Ideal.ofBits .f32 1056964608#32 * c *
        ((1 + Ideal.tanh (Ideal.ofBits .f32 1056964608#32 * x))
          * (1 - Ideal.tanh (Ideal.ofBits .f32 1056964608#32 * x))))
      = c * (Ideal.logistic x * (1 - Ideal.logistic x)) := by
  rw [← half_tanh_bits x]
  rw [show (1056964608#32 : BitVec 32) = 0x3F000000#32 from rfl, ofBits_half]
  obtain ⟨t, ht⟩ : ∃ t : ℝ, Ideal.tanh (((1 / 2 : ℝ) : EReal) * x) = (t : EReal) := tanh_real _
  rw [ht, ← EReal.coe_one]
  have e1 : (((1 : ℝ) : EReal) + (t : EReal)) * (((1 : ℝ) : EReal) - (t : EReal)) = (((1 + t) * (1 - t) : ℝ) : EReal) := by norm_cast
  have e2 : (((1 / 2 : ℝ) : EReal) * (t : EReal) + ((1 / 2 : ℝ) : EReal)) * (((1 : ℝ) : EReal) - (((1 / 2 : ℝ) : EReal) * (t : EReal) + ((1 / 2 : ℝ) : EReal)))
      = (((1 / 2 * t + 1 / 2) * (1 - (1 / 2 * t + 1 / 2)) : ℝ) : EReal) := by norm_cast
  rw [e1, e2, mul_comm _ c, mul_assoc c, mul_left_comm _ c, ← EReal.coe_mul, ← EReal.coe_mul]
  congr 2
  ring

section
open Cert.MergeKernelIdeal Cert.MergeKernelIdeal.Gen

/-- The cotangent of the merged rows. -/
def dm (x : S16384x1024.Idx → EReal) (w : S1024x1024.Idx → EReal) (i : Fin 16384) (k : Fin 1024) : EReal :=
  ∑ c : Fin 1024, x (ix2 i c) * w (ix2 k c)

/-- A branch's projected rows. -/
def br (o : S16384x1024.Idx → EReal) (w : S1024x1024.Idx → EReal) (i : Fin 16384) (k : Fin 1024) : EReal :=
  ∑ c : Fin 1024, o (ix2 i c) * w (ix2 c k)

/-- The first gate's column. -/
def ga (p : S16384x7680.Idx → EReal) (i : Fin 16384) (k : Fin 1024) : EReal := p (ix2 i (⟨5632 + k.val, by omega⟩ : Fin 7680))

/-- The second gate's column. -/
def gb (p : S16384x7680.Idx → EReal) (i : Fin 16384) (k : Fin 1024) : EReal := p (ix2 i (⟨6656 + k.val, by omega⟩ : Fin 7680))

/-- A branch's gradient, its gate's column given. -/
def dy (g : EReal) (x : S16384x1024.Idx → EReal) (w : S1024x1024.Idx → EReal) (i : Fin 16384) (k : Fin 1024) : EReal :=
  Ideal.logistic g * dm x w i k

/-- A gate's gradient. -/
def dg (g : EReal) (x : S16384x1024.Idx → EReal) (w : S1024x1024.Idx → EReal) (y : EReal) (i : Fin 16384) (k : Fin 1024) : EReal :=
  dm x w i k * y * (Ideal.logistic g * (1 - Ideal.logistic g))

/-- The branches' projected rows, as the host lines before the call compute them. -/
def proj (o : FVec Ideal S16384x1024 .f32) (w : FVec Ideal S1024x1024 .f32) : FVec Ideal S16384x1024 .bf16 :=
  truncf .bf16 (Host.dotGeneral dot_S16384x1024_S1024x1024_S16384x1024_1_0_0_1_n_n none (truncf .bf16 o bitsLt_bf16_f32 : FVec Ideal S16384x1024 .bf16) (truncf .bf16 w bitsLt_bf16_f32 : FVec Ideal S1024x1024 .bf16) : FVec Ideal S16384x1024 .f32) bitsLt_bf16_f32

theorem idx : ∀ t : Fin cfg0.N, win0_0.index t = ![t.val, 0] ∧ win0_1.index t = ![t.val, 0] ∧ win0_2.index t = ![t.val, 0]
    ∧ win0_3.index t = ![t.val, 11] ∧ win0_4.index t = ![t.val, 12] ∧ win0_5.index t = ![t.val, 13] ∧ win0_6.index t = ![t.val, 14]
    ∧ win0_7.index t = ![0, 0] ∧ win0_8.index t = ![0, 0] ∧ win0_9.index t = ![0, 0]
    ∧ win0_10.index t = ![t.val, 0] ∧ win0_11.index t = ![t.val, 0] ∧ win0_12.index t = ![t.val, 0]
    ∧ win0_13.index t = ![t.val, 0] ∧ win0_14.index t = ![t.val, 0] :=
  (by decide +kernel : ∀ t : Fin grid0.N, _)

section
variable (m : (ℓ : Loc nD τ sig) → Buf (Elt Ideal) ℓ) (c : Dev nD) (t : Fin cfg0.N)

theorem row (a : Fin 512) : t.val * 512 + a.val < 16384 := by
  have := t.isLt; change t.val < 32 at this; omega

theorem read_x (a : Fin 512) (b : Fin 1024) : iblk m c 0 t (ix2 a b)
    = m ((c.tc : Thread nD τ).loc main_arg6) (ix2 (⟨t.val * 512 + a.val, row t a⟩ : Fin 16384) b) := by
  have e := (idx t).1
  blk_ext [iblk, V, e]

theorem entry_ya : V m c main_v5 = proj (m ((c.tc : Thread nD τ).loc main_arg0)) (m ((c.tc : Thread nD τ).loc main_arg3)) := by
  change StableHlo.after hostOps0 (fun b => m (c, b)) _ = _
  after_results
  try rfl

theorem entry_yb : V m c main_v8 = proj (m ((c.tc : Thread nD τ).loc main_arg1)) (m ((c.tc : Thread nD τ).loc main_arg4)) := by
  change StableHlo.after hostOps0 (fun b => m (c, b)) _ = _
  after_results
  try rfl

theorem proj_apply (o : FVec Ideal S16384x1024 .f32) (w : FVec Ideal S1024x1024 .f32) (i : Fin 16384) (k : Fin 1024) :
    proj o w (ix2 i k) = br o w i k := by
  pointwise [proj, br]

theorem read_ya (a : Fin 512) (b : Fin 1024) : iblk m c 1 t (ix2 a b)
    = br (m ((c.tc : Thread nD τ).loc main_arg0)) (m ((c.tc : Thread nD τ).loc main_arg3)) (⟨t.val * 512 + a.val, row t a⟩ : Fin 16384) b := by
  rw [← proj_apply]
  have e := (idx t).2.1
  unfold iblk
  have e' := entry_ya m c
  generalize V m c main_v5 = X at e'
  subst e'
  blk_ext [e]

theorem read_yb (a : Fin 512) (b : Fin 1024) : iblk m c 2 t (ix2 a b)
    = br (m ((c.tc : Thread nD τ).loc main_arg1)) (m ((c.tc : Thread nD τ).loc main_arg4)) (⟨t.val * 512 + a.val, row t a⟩ : Fin 16384) b := by
  rw [← proj_apply]
  have e := (idx t).2.2.1
  unfold iblk
  have e' := entry_yb m c
  generalize V m c main_v8 = X at e'
  subst e'
  blk_ext [e]

theorem read_ga0 (a b : Fin 512) : iblk m c 3 t (ix2 a b)
    = m ((c.tc : Thread nD τ).loc main_arg2) (ix2 (⟨t.val * 512 + a.val, row t a⟩ : Fin 16384) (⟨5632 + b.val, by omega⟩ : Fin 7680)) := by
  have e := (idx t).2.2.2.1
  blk_ext [iblk, V, e]

theorem read_ga1 (a b : Fin 512) : iblk m c 4 t (ix2 a b)
    = m ((c.tc : Thread nD τ).loc main_arg2) (ix2 (⟨t.val * 512 + a.val, row t a⟩ : Fin 16384) (⟨6144 + b.val, by omega⟩ : Fin 7680)) := by
  have e := (idx t).2.2.2.2.1
  blk_ext [iblk, V, e]

theorem read_gb0 (a b : Fin 512) : iblk m c 5 t (ix2 a b)
    = m ((c.tc : Thread nD τ).loc main_arg2) (ix2 (⟨t.val * 512 + a.val, row t a⟩ : Fin 16384) (⟨6656 + b.val, by omega⟩ : Fin 7680)) := by
  have e := (idx t).2.2.2.2.2.1
  blk_ext [iblk, V, e]

theorem read_gb1 (a b : Fin 512) : iblk m c 6 t (ix2 a b)
    = m ((c.tc : Thread nD τ).loc main_arg2) (ix2 (⟨t.val * 512 + a.val, row t a⟩ : Fin 16384) (⟨7168 + b.val, by omega⟩ : Fin 7680)) := by
  have e := (idx t).2.2.2.2.2.2.1
  blk_ext [iblk, V, e]

theorem entry_wa : V m c main_v0 = truncf (F := Ideal) (s := S1024x1024) (φ := .f32) .bf16 (m ((c.tc : Thread nD τ).loc main_arg3)) bitsLt_bf16_f32 := by
  change StableHlo.after hostOps0 (fun b => m (c, b)) _ = _
  after_results
  try rfl

theorem read_wa (a b : Fin 1024) : iblk m c 7 t (ix2 a b) = m ((c.tc : Thread nD τ).loc main_arg3) (ix2 a b) := by
  have e := (idx t).2.2.2.2.2.2.2.1
  unfold iblk
  have e' := entry_wa m c
  generalize V m c main_v0 = X at e'
  subst e'
  blk_ext [e]

theorem entry_wb : V m c main_v1 = truncf (F := Ideal) (s := S1024x1024) (φ := .f32) .bf16 (m ((c.tc : Thread nD τ).loc main_arg4)) bitsLt_bf16_f32 := by
  change StableHlo.after hostOps0 (fun b => m (c, b)) _ = _
  after_results
  try rfl

theorem read_wb (a b : Fin 1024) : iblk m c 8 t (ix2 a b) = m ((c.tc : Thread nD τ).loc main_arg4) (ix2 a b) := by
  have e := (idx t).2.2.2.2.2.2.2.2.1
  unfold iblk
  have e' := entry_wb m c
  generalize V m c main_v1 = X at e'
  subst e'
  blk_ext [e]

theorem entry_wo : V m c main_v2 = truncf (F := Ideal) (s := S1024x1024) (φ := .f32) .bf16 (m ((c.tc : Thread nD τ).loc main_arg5)) bitsLt_bf16_f32 := by
  change StableHlo.after hostOps0 (fun b => m (c, b)) _ = _
  after_results
  try rfl

theorem read_wo (a b : Fin 1024) : iblk m c 9 t (ix2 a b) = m ((c.tc : Thread nD τ).loc main_arg5) (ix2 a b) := by
  have e := (idx t).2.2.2.2.2.2.2.2.2.1
  unfold iblk
  have e' := entry_wo m c
  generalize V m c main_v2 = X at e'
  subst e'
  blk_ext [e]

theorem val_dm (a : Fin 512) (b : Fin 1024) : k0_pay15 (iblk m c 0 t) (iblk m c 1 t) (iblk m c 2 t) (iblk m c 3 t) (iblk m c 4 t) (iblk m c 5 t) (iblk m c 6 t) (iblk m c 7 t) (iblk m c 8 t) (iblk m c 9 t) (ix2 a b) = dm (m ((c.tc : Thread nD τ).loc main_arg6)) (m ((c.tc : Thread nD τ).loc main_arg5)) (⟨t.val * 512 + a.val, row t a⟩ : Fin 16384) b := by
  pointwise [k0_pay15, k0_pay2]
  simp only [read_x, read_wo, dm]

theorem val_ta (a : Fin 512) (b : Fin 1024) : k0_pay5 (iblk m c 3 t) (iblk m c 4 t) (ix2 a b)
    = Ideal.tanh (Ideal.ofBits .f32 1056964608#32 * ga (m ((c.tc : Thread nD τ).loc main_arg2)) (⟨t.val * 512 + a.val, row t a⟩ : Fin 16384) b) := by
  pointwise [k0_pay5, ga]
  split_ifs with h h'
  · rw [read_ga0]
  · rw [read_ga1]
    have e : (⟨6144 + (b.val - 512), by omega⟩ : Fin 7680) = ⟨5632 + b.val, by omega⟩ := Fin.ext (by simp only; omega)
    simp only [e]
  · exact absurd rfl h'

theorem val_tb (a : Fin 512) (b : Fin 1024) : k0_pay8 (iblk m c 5 t) (iblk m c 6 t) (ix2 a b)
    = Ideal.tanh (Ideal.ofBits .f32 1056964608#32 * gb (m ((c.tc : Thread nD τ).loc main_arg2)) (⟨t.val * 512 + a.val, row t a⟩ : Fin 16384) b) := by
  pointwise [k0_pay8, gb]
  split_ifs with h h'
  · rw [read_gb0]
  · rw [read_gb1]
    have e : (⟨7168 + (b.val - 512), by omega⟩ : Fin 7680) = ⟨6656 + b.val, by omega⟩ := Fin.ext (by simp only; omega)
    simp only [e]
  · exact absurd rfl h'

theorem ld_half (x : Vec Ideal S512x512 .f32) : View.ld x r0_2 = x := by
  funext y
  pointwise

theorem val_ga (a : Fin 512) (b : Fin 1024) : k0_pay16 (iblk m c 0 t) (iblk m c 1 t) (iblk m c 2 t) (iblk m c 3 t) (iblk m c 4 t) (iblk m c 5 t) (iblk m c 6 t) (iblk m c 7 t) (iblk m c 8 t) (iblk m c 9 t) (ix2 a b) = Ideal.logistic (ga (m ((c.tc : Thread nD τ).loc main_arg2)) (⟨t.val * 512 + a.val, row t a⟩ : Fin 16384) b) := by
  pointwise [k0_pay16, k0_pay7]
  rw [ld_half, ld_half, val_ta, ← half_tanh_bits]

theorem val_gb (a : Fin 512) (b : Fin 1024) :
    Ideal.ofBits .f32 1056964608#32 * k0_pay17 (iblk m c 0 t) (iblk m c 1 t) (iblk m c 2 t) (iblk m c 3 t) (iblk m c 4 t) (iblk m c 5 t) (iblk m c 6 t) (iblk m c 7 t) (iblk m c 8 t) (iblk m c 9 t) (ix2 a b) + Ideal.ofBits .f32 1056964608#32 = Ideal.logistic (gb (m ((c.tc : Thread nD τ).loc main_arg2)) (⟨t.val * 512 + a.val, row t a⟩ : Fin 16384) b) := by
  pointwise [k0_pay17]
  rw [ld_half, ld_half, val_tb, ← half_tanh_bits]

end

/-- The two gates' gradients side by side. -/
def gates (p : S16384x7680.Idx → EReal) (x oa ob : S16384x1024.Idx → EReal) (wa wb wo : S1024x1024.Idx → EReal) : S16384x2048.Idx → EReal := fun y =>
  let i : Fin 16384 := y 0
  let j : Fin 2048 := y 1
  if h : j.val < 1024 then dg (ga p i ⟨j.val, h⟩) x wo (br oa wa i ⟨j.val, h⟩) i ⟨j.val, h⟩
  else dg (gb p i ⟨j.val - 1024, by omega⟩) x wo (br ob wb i ⟨j.val - 1024, by omega⟩) i ⟨j.val - 1024, by omega⟩

theorem gates_a (p : S16384x7680.Idx → EReal) (x oa ob : S16384x1024.Idx → EReal) (wa wb wo : S1024x1024.Idx → EReal) (i : Fin 16384) (j : Fin 2048) (k : Fin 1024)
    (h : j.val = k.val) : gates p x oa ob wa wb wo (ix2 i j) = dg (ga p i k) x wo (br oa wa i k) i k := by
  have h1 : j.val < 1024 := by omega
  have h2 : (⟨j.val, h1⟩ : Fin 1024) = k := Fin.ext h
  exact (dif_pos h1).trans (by subst h2; rfl)

theorem gates_b (p : S16384x7680.Idx → EReal) (x oa ob : S16384x1024.Idx → EReal) (wa wb wo : S1024x1024.Idx → EReal) (i : Fin 16384) (j : Fin 2048) (k : Fin 1024)
    (h : j.val = 1024 + k.val) : gates p x oa ob wa wb wo (ix2 i j) = dg (gb p i k) x wo (br ob wb i k) i k := by
  have h1 : ¬ j.val < 1024 := by omega
  have h2 : (⟨j.val - 1024, by omega⟩ : Fin 1024) = k := Fin.ext (by simp only; omega)
  exact (dif_neg h1).trans (congrArg (fun k => dg (gb p i k) x wo (br ob wb i k) i k) h2)

set_option backward.isDefEq.respectTransparency false in
theorem final10 (m : (ℓ : Loc nD τ sig) → Buf (Elt Ideal) ℓ) (c : Dev nD) :
    (dats m 0 c).arrAt 10 cfg0.N = (fun y => dy (ga (m ((c.tc : Thread nD τ).loc main_arg2)) (y 0) (y 1)) (m ((c.tc : Thread nD τ).loc main_arg6)) (m ((c.tc : Thread nD τ).loc main_arg5)) (y 0) (y 1) : S16384x1024.Idx → EReal) := by
  refine (dats m 0 c).arrAt_eq_of_covers 10 _ (by decide +kernel) fun t hf y => ?_
  have e := (idx t).2.2.2.2.2.2.2.2.2.2.1
  have ht : t.val < 32 := t.isLt
  have ey : (win0_10.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_10]
  frame_out
  idx_vars y
  pointwise [k0_pay1, k0_pay2, k0_pay3, k0_pay4, k0_pay5, k0_pay6, k0_pay7, k0_pay8, k0_pay9, k0_pay10, k0_pay11, k0_pay12, k0_pay13, k0_pay14]
  simp only [val_dm, val_ga, val_gb, read_wa, read_wb, dy]
set_option backward.isDefEq.respectTransparency false in
theorem final11 (m : (ℓ : Loc nD τ sig) → Buf (Elt Ideal) ℓ) (c : Dev nD) :
    (dats m 0 c).arrAt 11 cfg0.N = (fun y => dy (gb (m ((c.tc : Thread nD τ).loc main_arg2)) (y 0) (y 1)) (m ((c.tc : Thread nD τ).loc main_arg6)) (m ((c.tc : Thread nD τ).loc main_arg5)) (y 0) (y 1) : S16384x1024.Idx → EReal) := by
  refine (dats m 0 c).arrAt_eq_of_covers 11 _ (by decide +kernel) fun t hf y => ?_
  have e := (idx t).2.2.2.2.2.2.2.2.2.2.2.1
  have ht : t.val < 32 := t.isLt
  have ey : (win0_11.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_11]
  frame_out
  idx_vars y
  pointwise [k0_pay1, k0_pay2, k0_pay3, k0_pay4, k0_pay5, k0_pay6, k0_pay7, k0_pay8, k0_pay9, k0_pay10, k0_pay11, k0_pay12, k0_pay13, k0_pay14]
  simp only [val_dm, val_ga, val_gb, read_wa, read_wb, dy]
set_option backward.isDefEq.respectTransparency false in
theorem final13 (m : (ℓ : Loc nD τ sig) → Buf (Elt Ideal) ℓ) (c : Dev nD) :
    (dats m 0 c).arrAt 13 cfg0.N = (fun y => ∑ k : Fin 1024, dy (ga (m ((c.tc : Thread nD τ).loc main_arg2)) (y 0) k) (m ((c.tc : Thread nD τ).loc main_arg6)) (m ((c.tc : Thread nD τ).loc main_arg5)) (y 0) k * (m ((c.tc : Thread nD τ).loc main_arg3)) (ix2 (y 1) k) : S16384x1024.Idx → EReal) := by
  refine (dats m 0 c).arrAt_eq_of_covers 13 _ (by decide +kernel) fun t hf y => ?_
  have e := (idx t).2.2.2.2.2.2.2.2.2.2.2.2.2.1
  have ht : t.val < 32 := t.isLt
  have ey : (win0_13.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_13]
  frame_out
  idx_vars y
  pointwise [k0_pay1, k0_pay2, k0_pay3, k0_pay4, k0_pay5, k0_pay6, k0_pay7, k0_pay8, k0_pay9, k0_pay10, k0_pay11, k0_pay12, k0_pay13, k0_pay14]
  simp only [val_dm, val_ga, val_gb, read_wa, read_wb, dy]
set_option backward.isDefEq.respectTransparency false in
theorem final14 (m : (ℓ : Loc nD τ sig) → Buf (Elt Ideal) ℓ) (c : Dev nD) :
    (dats m 0 c).arrAt 14 cfg0.N = (fun y => ∑ k : Fin 1024, dy (gb (m ((c.tc : Thread nD τ).loc main_arg2)) (y 0) k) (m ((c.tc : Thread nD τ).loc main_arg6)) (m ((c.tc : Thread nD τ).loc main_arg5)) (y 0) k * (m ((c.tc : Thread nD τ).loc main_arg4)) (ix2 (y 1) k) : S16384x1024.Idx → EReal) := by
  refine (dats m 0 c).arrAt_eq_of_covers 14 _ (by decide +kernel) fun t hf y => ?_
  have e := (idx t).2.2.2.2.2.2.2.2.2.2.2.2.2.2
  have ht : t.val < 32 := t.isLt
  have ey : (win0_14.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_14]
  frame_out
  idx_vars y
  pointwise [k0_pay1, k0_pay2, k0_pay3, k0_pay4, k0_pay5, k0_pay6, k0_pay7, k0_pay8, k0_pay9, k0_pay10, k0_pay11, k0_pay12, k0_pay13, k0_pay14]
  simp only [val_dm, val_ga, val_gb, read_wa, read_wb, dy]
set_option backward.isDefEq.respectTransparency false in
theorem final12 (m : (ℓ : Loc nD τ sig) → Buf (Elt Ideal) ℓ) (c : Dev nD) :
    (dats m 0 c).arrAt 12 cfg0.N = (gates (m ((c.tc : Thread nD τ).loc main_arg2)) (m ((c.tc : Thread nD τ).loc main_arg6)) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) : S16384x2048.Idx → EReal) := by
  refine (dats m 0 c).arrAt_eq_of_covers 12 _ (by decide +kernel) fun t hf y => ?_
  have e := (idx t).2.2.2.2.2.2.2.2.2.2.2.2.1
  have ht : t.val < 32 := t.isLt
  have ey : (win0_12.blk t).view.emb y
      = ix2 (⟨t.val * 512 + (y 0).val, by have := (y 0).isLt; change (y 0).val < 512 at this; omega⟩ : Fin 16384)
          (⟨(y 1).val, by have := (y 1).isLt; change (y 1).val < 2048 at this; omega⟩ : Fin 2048) := by
    blk_ext [e]
  blk_simp
  rw [ey, after0_12]
  frame_out
  canon_tiles x h
  · idx_vars x
    pointwise [k0_pay1, k0_pay2, k0_pay3, k0_pay4, k0_pay6, k0_pay7, k0_pay9, k0_pay10, k0_pay11, k0_pay12, k0_pay13, k0_pay14, k0_pay17]
    simp only [ld_half, val_dm, val_tb, read_yb, h0, h1]
    rw [gates_b _ _ _ _ _ _ _ _ _ ⟨x1.val, by omega⟩ (by simp only; omega)]
    exact half_half_tanh _ _
  · idx_vars x
    pointwise [k0_pay1, k0_pay2, k0_pay3, k0_pay4, k0_pay6, k0_pay7, k0_pay9, k0_pay10, k0_pay11, k0_pay12, k0_pay13, k0_pay14]
    simp only [val_dm, val_ta, read_ya, h0, h1]
    rw [gates_a _ _ _ _ _ _ _ _ _ ⟨x1.val, by omega⟩ (by simpa only using h1)]
    exact half_half_tanh _ _
end

theorem algebraic : Cert.algebraic_MergeKernelIdeal_MergeRefIdeal := by
  pair_intro
  · run_from Cert.MergeKernelIdeal.Value.run_blocks m g
  · run_from Cert.MergeRefIdeal.Value.run m' g'
    · funext y
      idx_vars y
      rw [final10]
      pointwise [dy, dm, ga]
      simp only [div_logistic]
    · funext y
      idx_vars y
      rw [final11]
      pointwise [dy, dm, gb]
      simp only [div_logistic]
    · funext y
      idx_vars y
      rw [final12]
      pointwise
      obtain ⟨a0, a1, a2, a3, a4, a5, a6⟩ := hagree c
      split_ifs with h h'
      · rw [gates_a _ _ _ _ _ _ _ _ _ ⟨y1.val, h⟩ rfl]
        simp only [div_logistic, dg, dm, br, ga, a3, a4, a5, a6]
      · rw [gates_b _ _ _ _ _ _ _ _ _ ⟨y1.val - 1024, by omega⟩ (by simp only; omega)]
        simp only [div_logistic, dg, dm, br, gb, a3, a4, a5, a6]
      · exact absurd rfl h'
    · funext y
      idx_vars y
      rw [final13]
      pointwise [dy, dm, ga]
      simp only [div_logistic]
    · funext y
      idx_vars y
      rw [final14]
      pointwise [dy, dm, gb]
      simp only [div_logistic]

end Cert.Own.Merge

end
-- ==== Proof.Up.lean ====
module

public import proofs.«01_k».proof.Defs
public import proofs.«01_k».proof.Proof.Lib
public import proofs.«01_k».proof.Proof.Gen.UpKernelIdeal.Value
public import proofs.«01_k».proof.Proof.Gen.UpRefIdeal.Run
public import Idealize.ShloMosaic.Lib.Pipeline.ValueKit
public import Idealize.ShloMosaic.Lib.Claim
public import Idealize.ShloMosaic.Lib.Pointwise

/-! The backward call of the gated unit's first layer and its norm: what it returns is what the reference returns. -/

@[expose] public section

set_option maxRecDepth 65536

noncomputable section

namespace Cert.Own.Up

open Idealize.ShloMosaic Idealize.ShloMosaic.TcCoe Idealize.SL.Sem

/-- Two rows of 2816 in alternating halves. -/
def pk (a b : Fin 2816 → EReal) (j : Fin 5632) : EReal :=
  if h : j.val < 1408 then a ⟨j.val, by omega⟩ else if h : j.val - 1408 < 1408 then b ⟨j.val - 1408, by omega⟩
  else if h : j.val - 1408 - 1408 < 1408 then a ⟨1408 + (j.val - 1408 - 1408), by omega⟩
  else b ⟨1408 + (j.val - 1408 - 1408 - 1408), by omega⟩

theorem sum_halves (f : Fin 2816 → EReal) :
    ∑ j, f j = ∑ j : Fin 1408, f ⟨j.val, by omega⟩ + ∑ j : Fin 1408, f ⟨1408 + j.val, by omega⟩ :=
  Fin.sum_univ_add (a := 1408) (b := 1408) f

theorem sum_quarters (f : Fin 5632 → EReal) :
    ∑ j, f j = ∑ j : Fin 1408, f ⟨j.val, by omega⟩ + (∑ j : Fin 1408, f ⟨1408 + j.val, by omega⟩
      + (∑ j : Fin 1408, f ⟨2816 + j.val, by omega⟩ + ∑ j : Fin 1408, f ⟨4224 + j.val, by omega⟩)) := by
  refine (Fin.sum_univ_add (a := 1408) (b := 1408 + (1408 + 1408)) f).trans (congrArg₂ _ rfl ?_)
  refine (Fin.sum_univ_add (a := 1408) (b := 1408 + 1408) _).trans (congrArg₂ _ rfl ?_)
  refine (Fin.sum_univ_add (a := 1408) (b := 1408) _).trans ?_
  refine congrArg₂ _ (Finset.sum_congr rfl fun j _ => congrArg f (Fin.ext ?_)) (Finset.sum_congr rfl fun j _ => congrArg f (Fin.ext ?_))
  · simp only [Fin.val_natAdd, Fin.val_castAdd]; omega
  · simp only [Fin.val_natAdd]; omega

theorem sum_pk (a b a' b' : Fin 2816 → EReal) : ∑ j, pk a b j * pk a' b' j = ∑ j, b j * b' j + ∑ j, a j * a' j := by
  rw [sum_quarters, sum_halves, sum_halves (fun j => a j * a' j)]
  have h1 : ∀ (x y : Fin 2816 → EReal) (j : Fin 1408), pk x y ⟨j.val, by omega⟩ = x ⟨j.val, by omega⟩ := fun x y j => dif_pos j.isLt
  have h2 : ∀ (x y : Fin 2816 → EReal) (j : Fin 1408), pk x y ⟨1408 + j.val, by omega⟩ = y ⟨j.val, by omega⟩ := fun x y j =>
    (dif_neg (by simp only; omega)).trans ((dif_pos (by simp only; omega)).trans (congrArg y (Fin.ext (by simp only; omega))))
  have h3 : ∀ (x y : Fin 2816 → EReal) (j : Fin 1408), pk x y ⟨2816 + j.val, by omega⟩ = x ⟨1408 + j.val, by omega⟩ := fun x y j =>
    (dif_neg (by simp only; omega)).trans ((dif_neg (by simp only; omega)).trans ((dif_pos (by simp only; omega)).trans (congrArg x (Fin.ext (by simp only; omega)))))
  have h4 : ∀ (x y : Fin 2816 → EReal) (j : Fin 1408), pk x y ⟨4224 + j.val, by omega⟩ = y ⟨1408 + j.val, by omega⟩ := fun x y j =>
    (dif_neg (by simp only; omega)).trans ((dif_neg (by simp only; omega)).trans ((dif_neg (by simp only; omega)).trans (congrArg y (Fin.ext (by simp only; omega)))))
  simp only [h1, h2, h3, h4]
  abel

section
open Cert.UpKernelIdeal Cert.UpKernelIdeal.Gen

/-- The two cotangents' columns, as the host lines before the call lay them out. -/
def packX (a b : FVec Ideal S16384x2816 .f32) : FVec Ideal S16384x5632 .bf16 :=
  truncf .bf16 (concatenate S16384x5632 1 [⟨S16384x1408, extractStridedSlice S16384x1408 ![0, 0] a slices_S16384x2816_S16384x1408_0_0⟩,
    ⟨S16384x1408, extractStridedSlice S16384x1408 ![0, 0] b slices_S16384x2816_S16384x1408_0_0⟩,
    ⟨S16384x1408, extractStridedSlice S16384x1408 ![0, 1408] a slices_S16384x2816_S16384x1408_0_1408⟩,
    ⟨S16384x1408, extractStridedSlice S16384x1408 ![0, 1408] b slices_S16384x2816_S16384x1408_0_1408⟩] concatenates_S16384x1408_S16384x1408_S16384x1408_S16384x1408_S16384x5632_d1 : FVec Ideal S16384x5632 .f32) bitsLt_bf16_f32

/-- The transposed weight rows, as the host lines before the call lay them out. -/
def tr (a : FVec Ideal S1024x2816 .f32) : FVec Ideal S2816x1024 .bf16 :=
  truncf .bf16 (transpose S2816x1024 [1, 0] a transposes_S1024x2816_S2816x1024_1_0 : FVec Ideal S2816x1024 .f32) bitsLt_bf16_f32

def packW (a b : FVec Ideal S1024x2816 .f32) : FVec Ideal S5632x1024 .bf16 :=
  concatenate S5632x1024 0 [⟨S1408x1024, extractStridedSlice S1408x1024 ![0, 0] (tr a) slices_S2816x1024_S1408x1024_0_0⟩,
    ⟨S1408x1024, extractStridedSlice S1408x1024 ![0, 0] (tr b) slices_S2816x1024_S1408x1024_0_0⟩,
    ⟨S1408x1024, extractStridedSlice S1408x1024 ![1408, 0] (tr a) slices_S2816x1024_S1408x1024_1408_0⟩,
    ⟨S1408x1024, extractStridedSlice S1408x1024 ![1408, 0] (tr b) slices_S2816x1024_S1408x1024_1408_0⟩] concatenates_S1408x1024_S1408x1024_S1408x1024_S1408x1024_S5632x1024_d0

theorem packX_apply (a b : FVec Ideal S16384x2816 .f32) (i : Fin 16384) (j : Fin 5632) :
    packX a b (ix2 i j) = pk (fun k => a (ix2 i k)) (fun k => b (ix2 i k)) j := by
  pointwise [packX, pk]

theorem packW_apply (a b : FVec Ideal S1024x2816 .f32) (j : Fin 5632) (i : Fin 1024) :
    packW a b (ix2 j i) = pk (fun k => a (ix2 i k)) (fun k => b (ix2 i k)) j := by
  pointwise [packW, tr, pk]

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

section
variable (m : (ℓ : Loc nD τ sig) → Buf (Elt Ideal) ℓ) (c : Dev nD) (t : Fin cfg0.N)

theorem row (a : Fin 512) : t.val * 512 + a.val < 16384 := by
  have := t.isLt; change t.val < 32 at this; omega

theorem entry_x : V m c main_v14 = packX (m ((c.tc : Thread nD τ).loc main_arg4)) (m ((c.tc : Thread nD τ).loc main_arg5)) := by
  change StableHlo.after hostOps0 (fun b => m (c, b)) _ = _
  after_results
  try rfl

theorem entry_w : V m c main_v8 = packW (m ((c.tc : Thread nD τ).loc main_arg2)) (m ((c.tc : Thread nD τ).loc main_arg3)) := by
  change StableHlo.after hostOps0 (fun b => m (c, b)) _ = _
  after_results
  try rfl

theorem read_x (a : Fin 512) (b : Fin 5632) : iblk m c 0 t (ix2 a b)
    = pk (fun k => m ((c.tc : Thread nD τ).loc main_arg4) (ix2 (⟨t.val * 512 + a.val, row t a⟩ : Fin 16384) k))
        (fun k => m ((c.tc : Thread nD τ).loc main_arg5) (ix2 (⟨t.val * 512 + a.val, row t a⟩ : Fin 16384) k)) b := by
  refine Eq.trans ?_ (packX_apply (m ((c.tc : Thread nD τ).loc main_arg4)) (m ((c.tc : Thread nD τ).loc main_arg5)) _ b)
  have e := (idx t).1
  unfold iblk
  have e' := entry_x m c
  generalize V m c main_v14 = X at e'
  subst e'
  blk_ext [e]

theorem read_w (b : Fin 5632) (a : Fin 1024) : iblk m c 1 t (ix2 b a)
    = pk (fun k => m ((c.tc : Thread nD τ).loc main_arg2) (ix2 a k)) (fun k => m ((c.tc : Thread nD τ).loc main_arg3) (ix2 a k)) b := by
  refine Eq.trans ?_ (packW_apply (m ((c.tc : Thread nD τ).loc main_arg2)) (m ((c.tc : Thread nD τ).loc main_arg3)) b a)
  have e := (idx t).2.1
  unfold iblk
  have e' := entry_w m c
  generalize V m c main_v8 = X at e'
  subst e'
  blk_ext [e]

theorem read_h (a : Fin 512) (b : Fin 1024) : iblk m c 2 t (ix2 a b)
    = m ((c.tc : Thread nD τ).loc main_arg0) (ix2 (⟨t.val * 512 + a.val, row t a⟩ : Fin 16384) b) := by
  have e := (idx t).2.2.1
  blk_ext [iblk, V, e]

theorem read_g (a : Fin 1) (b : Fin 1024) : iblk m c 3 t (ix2 a b) = m ((c.tc : Thread nD τ).loc main_arg1) (ix2 0 b) := by
  have e := (idx t).2.2.2.1
  blk_ext [iblk, V, e]

theorem read_r (a : Fin 512) (b : Fin 1024) : iblk m c 4 t (ix2 a b)
    = m ((c.tc : Thread nD τ).loc main_arg6) (ix2 (⟨t.val * 512 + a.val, row t a⟩ : Fin 16384) b) := by
  have e := (idx t).2.2.2.2.1
  blk_ext [iblk, V, e]

/-- The normalised rows' cotangent. -/
def dh (du dg : S16384x2816.Idx → EReal) (wu wg : S1024x2816.Idx → EReal) (i : Fin 16384) (k : Fin 1024) : EReal :=
  ∑ j : Fin 2816, du (ix2 i j) * wu (ix2 k j) + ∑ j : Fin 2816, dg (ix2 i j) * wg (ix2 k j)

/-- The rows' gradient with the residual's added. -/
def up (r x : S16384x1024.Idx → EReal) (g : S1x1024.Idx → EReal) (du dg : S16384x2816.Idx → EReal) (wu wg : S1024x2816.Idx → EReal) : S16384x1024.Idx → EReal := fun y =>
  r y + nx (fun k => x (ix2 (y 0 : Fin 16384) k)) (fun k => g (ix2 0 k)) (fun k => dh du dg wu wg (y 0) k) (y 1)

theorem up_apply (r x : S16384x1024.Idx → EReal) (g : S1x1024.Idx → EReal) (du dg : S16384x2816.Idx → EReal) (wu wg : S1024x2816.Idx → EReal) (i : Fin 16384) (k : Fin 1024) :
    up r x g du dg wu wg (ix2 i k) = r (ix2 i k) + nx (fun k => x (ix2 i k)) (fun k => g (ix2 0 k)) (fun k => dh du dg wu wg i k) k := rfl

theorem val_dh (a : Fin 512) (b : Fin 1024) : k0_pay4 (iblk m c 0 t) (iblk m c 1 t) (ix2 a b)
    = dh (m ((c.tc : Thread nD τ).loc main_arg5)) (m ((c.tc : Thread nD τ).loc main_arg4)) (m ((c.tc : Thread nD τ).loc main_arg3)) (m ((c.tc : Thread nD τ).loc main_arg2)) (⟨t.val * 512 + a.val, row t a⟩ : Fin 16384) b := by
  pointwise [k0_pay4]
  simp only [read_x, read_w, sum_pk, dh]

end

set_option backward.isDefEq.respectTransparency false in
theorem final5 (m : (ℓ : Loc nD τ sig) → Buf (Elt Ideal) ℓ) (c : Dev nD) :
    (dats m 0 c).arrAt 5 cfg0.N = up (m ((c.tc : Thread nD τ).loc main_arg6)) (m ((c.tc : Thread nD τ).loc main_arg0)) (m ((c.tc : Thread nD τ).loc main_arg1)) (m ((c.tc : Thread nD τ).loc main_arg5)) (m ((c.tc : Thread nD τ).loc main_arg4)) (m ((c.tc : Thread nD τ).loc main_arg3)) (m ((c.tc : Thread nD τ).loc main_arg2)) := by
  refine (dats m 0 c).arrAt_eq_of_covers 5 _ (by decide +kernel) fun t hf y => ?_
  have e := (idx t).2.2.2.2.2.1
  have ht : t.val < 32 := t.isLt
  have ey : (win0_5.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_5]
  have key : (outsAt0 m c t.val t.isLt).1 = k0_pay1 (k0_pay8 (iblk m c 0 t) (iblk m c 1 t) (iblk m c 2 t) (iblk m c 3 t)) (iblk m c 4 t) := by
    by_cases h : t.val % 32 = 0
    · rw [outsAt0_A m c t h]; frame_out
    · rw [outsAt0_B m c t h]; frame_out
  rw [key]
  idx_vars y
  pointwise [k0_pay1, k0_pay8, k0_pay6, k0_pay5]
  rw [up_apply]
  simp only [val_dh, read_h, read_g, read_r, nx, nq, ms, Finset.univ_unique, Finset.sum_singleton]

/-- A row's part of the scale's gradient. -/
def dgt (x : S16384x1024.Idx → EReal) (du dg : S16384x2816.Idx → EReal) (wu wg : S1024x2816.Idx → EReal) (k : Fin 1024) (i : Fin 16384) : EReal :=
  x (ix2 i k) * Ideal.rsqrt (ms fun k => x (ix2 i k)) * dh du dg wu wg i k

/-- The scale's gradient. -/
def dgn (x : S16384x1024.Idx → EReal) (du dg : S16384x2816.Idx → EReal) (wu wg : S1024x2816.Idx → EReal) (k : Fin 1024) : EReal :=
  ∑ i : Fin 16384, dgt x du dg wu wg k i

theorem pay3 (v acc : Vec Ideal S1x1024 .f32) (y : S1x1024.Idx) : k0_pay3 (F := Ideal) v acc y = acc y + v y := by
  pointwise [k0_pay3]

theorem pay2 (y : S1x1024.Idx) : k0_pay2 (F := Ideal) y = 0 := by
  pointwise [k0_pay2]

theorem val_dg (m : (ℓ : Loc nD τ sig) → Buf (Elt Ideal) ℓ) (c : Dev nD) (t : Fin cfg0.N) (a : Fin 1) (k : Fin 1024) :
    k0_pay7 (iblk m c 0 t) (iblk m c 1 t) (iblk m c 2 t) (ix2 a k)
      = ∑ r : Fin 512, dgt (m ((c.tc : Thread nD τ).loc main_arg0)) (m ((c.tc : Thread nD τ).loc main_arg5)) (m ((c.tc : Thread nD τ).loc main_arg4)) (m ((c.tc : Thread nD τ).loc main_arg3)) (m ((c.tc : Thread nD τ).loc main_arg2)) k (⟨t.val * 512 + r.val, row t r⟩ : Fin 16384) := by
  pointwise [k0_pay7, k0_pay6, k0_pay5]
  simp only [val_dh, read_h, dgt, ms]

set_option backward.isDefEq.respectTransparency false in
theorem final6 (m : (ℓ : Loc nD τ sig) → Buf (Elt Ideal) ℓ) (c : Dev nD) :
    (dats m 0 c).arrAt 6 cfg0.N = (fun y => dgn (m ((c.tc : Thread nD τ).loc main_arg0)) (m ((c.tc : Thread nD τ).loc main_arg5)) (m ((c.tc : Thread nD τ).loc main_arg4)) (m ((c.tc : Thread nD τ).loc main_arg3)) (m ((c.tc : Thread nD τ).loc main_arg2)) (y 1) : S1x1024.Idx → EReal) := by
  refine (dats m 0 c).arrAt_eq_of_covers 6 _ (by decide +kernel) fun t hf y => ?_
  have e := (idx t).2.2.2.2.2.2
  have hl : t.val + 1 = cfg0.N := by
    revert hf; revert t; decide +kernel
  have ey : (win0_6.blk t).view.emb y
      = ix2 (⟨0, by omega⟩ : Fin 1) (⟨(y 1).val, by have := (y 1).isLt; change (y 1).val < 1024 at this; omega⟩ : Fin 1024) := by
    blk_ext [e]
  blk_simp
  rw [ey, after0_6, Pipeline.eq_sum_fin_of_reset_step_apply_last (fun n h => (outsAt0 m c n h).2) 32 (fun _ => 0)
    (fun t => k0_pay7 (iblk m c 0 t) (iblk m c 1 t) (iblk m c 2 t))
    (fun t h j => by rw [outsAt0_A m c t h]; frame_out; rw [pay3, pay2])
    (fun t h j => by rw [outsAt0_B m c t h]; frame_out; rw [pay3]) (le_of_eq N_0) t hl y, zero_add]
  idx_vars y
  simp only [val_dg, dgn]
  exact Fin.sum_mul_add_congr fun t k hl => rfl

end

theorem algebraic : Cert.algebraic_UpKernelIdeal_UpRefIdeal := by
  pair_intro
  · run_from Cert.UpKernelIdeal.Value.run_blocks m g
  · refine (θ_run _ _ _).mono (fun r h c => ⟨(h c).1.trans ?_, (h c).2.1.trans ?_, (h c).2.2⟩) (Cert.UpRefIdeal.Value.run m' g')
    · obtain ⟨a0, a1, a2, a3, a4, a5, a6⟩ := hagree c
      rw [final5]
      funext y
      idx_vars y
      unfold Cert.UpRefIdeal.Value.res_main_v39
      rw [a0, a1, a2, a3, a4, a5, a6]
      pointwise [up, dh, nx, nq, ms]
      simp only [Finset.univ_unique, Finset.sum_singleton, add_assoc]
    · obtain ⟨a0, a1, a2, a3, a4, a5, a6⟩ := hagree c
      rw [final6]
      funext y
      idx_vars y
      rw [a0, a2, a3, a4, a5]
      pointwise [dgn, dgt, dh, ms]

end Cert.Own.Up

end
-- ==== Proof.Win.lean ====
module

public import proofs.«01_k».proof.Defs
public import proofs.«01_k».proof.Proof.Lib
public import proofs.«01_k».proof.Proof.Gen.WinKernelIdeal.Value
public import proofs.«01_k».proof.Proof.Gen.WinRefIdeal.Run
public import Idealize.ShloMosaic.Lib.Pipeline.ValueKit
public import Idealize.ShloMosaic.Lib.Claim
public import Idealize.ShloMosaic.Lib.Pointwise

/-! The backward call of the input projections and their norm: what it returns is what the reference returns. -/

@[expose] public section

set_option maxRecDepth 65536

noncomputable section

namespace Cert.Own.Win

open Idealize.ShloMosaic Idealize.ShloMosaic.TcCoe Idealize.SL.Sem

theorem sum_pieces (f : Fin 7680 → EReal) :
    ∑ j : Fin 4096, f ⟨j.val, by omega⟩ + ∑ j : Fin 1024, f ⟨4096 + j.val, by omega⟩ + ∑ j : Fin 256, f ⟨5120 + j.val, by omega⟩
      + ∑ j : Fin 256, f ⟨5376 + j.val, by omega⟩ + ∑ j : Fin 2048, f ⟨5632 + j.val, by omega⟩ = ∑ j, f j := by
  refine Eq.symm ((Fin.sum_univ_add (a := 5632) (b := 2048) f).trans (congrArg₂ _ ?_ rfl))
  refine (Fin.sum_univ_add (a := 5376) (b := 256) _).trans (congrArg₂ _ ?_ rfl)
  refine (Fin.sum_univ_add (a := 5120) (b := 256) _).trans (congrArg₂ _ ?_ rfl)
  exact Fin.sum_univ_add (a := 4096) (b := 1024) _

section
open Cert.WinKernelIdeal Cert.WinKernelIdeal.Gen

/-- The transposed weight rows, as the host lines before the call lay them out. -/
def tr (a : FVec Ideal S1024x7680 .f32) : FVec Ideal S7680x1024 .bf16 :=
  truncf .bf16 (transpose S7680x1024 [1, 0] a transposes_S1024x7680_S7680x1024_1_0 : FVec Ideal S7680x1024 .f32) bitsLt_bf16_f32

/-- The rounded cotangent columns. -/
def lo (a : FVec Ideal S16384x7680 .f32) : FVec Ideal S16384x7680 .bf16 := truncf .bf16 a bitsLt_bf16_f32

theorem tr_apply (a : FVec Ideal S1024x7680 .f32) (j : Fin 7680) (i : Fin 1024) : tr a (ix2 j i) = a (ix2 i j) := by
  pointwise [tr]

theorem part0_apply (a : FVec Ideal S16384x7680 .f32) (i : Fin 16384) (j : Fin 4096) :
    extractStridedSlice S16384x4096 ![0, 0] (lo a) slices_S16384x7680_S16384x4096_0_0 (ix2 i j) = a (ix2 i (⟨0 + j.val, by omega⟩ : Fin 7680)) := by
  pointwise [lo]

theorem part1_apply (a : FVec Ideal S16384x7680 .f32) (i : Fin 16384) (j : Fin 1024) :
    extractStridedSlice S16384x1024 ![0, 4096] (lo a) slices_S16384x7680_S16384x1024_0_4096 (ix2 i j) = a (ix2 i (⟨4096 + j.val, by omega⟩ : Fin 7680)) := by
  pointwise [lo]

theorem part2_apply (a : FVec Ideal S16384x7680 .f32) (i : Fin 16384) (j : Fin 256) :
    extractStridedSlice S16384x256 ![0, 5120] (lo a) slices_S16384x7680_S16384x256_0_5120 (ix2 i j) = a (ix2 i (⟨5120 + j.val, by omega⟩ : Fin 7680)) := by
  pointwise [lo]

theorem part3_apply (a : FVec Ideal S16384x7680 .f32) (i : Fin 16384) (j : Fin 256) :
    extractStridedSlice S16384x256 ![0, 5376] (lo a) slices_S16384x7680_S16384x256_0_5376 (ix2 i j) = a (ix2 i (⟨5376 + j.val, by omega⟩ : Fin 7680)) := by
  pointwise [lo]

theorem part4_apply (a : FVec Ideal S16384x7680 .f32) (i : Fin 16384) (j : Fin 2048) :
    extractStridedSlice S16384x2048 ![0, 5632] (lo a) slices_S16384x7680_S16384x2048_0_5632 (ix2 i j) = a (ix2 i (⟨5632 + j.val, by omega⟩ : Fin 7680)) := by
  pointwise [lo]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, _)

section
variable (m : (ℓ : Loc nD τ sig) → Buf (Elt Ideal) ℓ) (c : Dev nD) (t : Fin cfg0.N)

theorem row (a : Fin 256) : t.val * 256 + a.val < 16384 := by
  have := t.isLt; change t.val < 64 at this; omega

theorem entry_x0 : V m c main_v1 = extractStridedSlice S16384x4096 ![0, 0] (lo (m ((c.tc : Thread nD τ).loc main_arg3))) slices_S16384x7680_S16384x4096_0_0 := by
  change StableHlo.after hostOps0 (fun b => m (c, b)) _ = _
  after_results
  try rfl

theorem read_x0 (a : Fin 256) (b : Fin 4096) : iblk m c 0 t (ix2 a b)
    = m ((c.tc : Thread nD τ).loc main_arg3) (ix2 (⟨t.val * 256 + a.val, row t a⟩ : Fin 16384) (⟨0 + b.val, by omega⟩ : Fin 7680)) := by
  refine Eq.trans ?_ (part0_apply (m ((c.tc : Thread nD τ).loc main_arg3)) _ b)
  have e := (idx t).1
  unfold iblk
  have e' := entry_x0 m c
  generalize V m c main_v1 = X at e'
  subst e'
  blk_ext [e]

theorem entry_x1 : V m c main_v2 = extractStridedSlice S16384x1024 ![0, 4096] (lo (m ((c.tc : Thread nD τ).loc main_arg3))) slices_S16384x7680_S16384x1024_0_4096 := by
  change StableHlo.after hostOps0 (fun b => m (c, b)) _ = _
  after_results
  try rfl

theorem read_x1 (a : Fin 256) (b : Fin 1024) : iblk m c 1 t (ix2 a b)
    = m ((c.tc : Thread nD τ).loc main_arg3) (ix2 (⟨t.val * 256 + a.val, row t a⟩ : Fin 16384) (⟨4096 + b.val, by omega⟩ : Fin 7680)) := by
  refine Eq.trans ?_ (part1_apply (m ((c.tc : Thread nD τ).loc main_arg3)) _ b)
  have e := (idx t).2.1
  unfold iblk
  have e' := entry_x1 m c
  generalize V m c main_v2 = X at e'
  subst e'
  blk_ext [e]

theorem entry_x2 : V m c main_v3 = extractStridedSlice S16384x256 ![0, 5120] (lo (m ((c.tc : Thread nD τ).loc main_arg3))) slices_S16384x7680_S16384x256_0_5120 := by
  change StableHlo.after hostOps0 (fun b => m (c, b)) _ = _
  after_results
  try rfl

theorem read_x2 (a : Fin 256) (b : Fin 256) : iblk m c 2 t (ix2 a b)
    = m ((c.tc : Thread nD τ).loc main_arg3) (ix2 (⟨t.val * 256 + a.val, row t a⟩ : Fin 16384) (⟨5120 + b.val, by omega⟩ : Fin 7680)) := by
  refine Eq.trans ?_ (part2_apply (m ((c.tc : Thread nD τ).loc main_arg3)) _ b)
  have e := (idx t).2.2.1
  unfold iblk
  have e' := entry_x2 m c
  generalize V m c main_v3 = X at e'
  subst e'
  blk_ext [e]

theorem entry_x3 : V m c main_v4 = extractStridedSlice S16384x256 ![0, 5376] (lo (m ((c.tc : Thread nD τ).loc main_arg3))) slices_S16384x7680_S16384x256_0_5376 := by
  change StableHlo.after hostOps0 (fun b => m (c, b)) _ = _
  after_results
  try rfl

theorem read_x3 (a : Fin 256) (b : Fin 256) : iblk m c 3 t (ix2 a b)
    = m ((c.tc : Thread nD τ).loc main_arg3) (ix2 (⟨t.val * 256 + a.val, row t a⟩ : Fin 16384) (⟨5376 + b.val, by omega⟩ : Fin 7680)) := by
  refine Eq.trans ?_ (part3_apply (m ((c.tc : Thread nD τ).loc main_arg3)) _ b)
  have e := (idx t).2.2.2.1
  unfold iblk
  have e' := entry_x3 m c
  generalize V m c main_v4 = X at e'
  subst e'
  blk_ext [e]

theorem entry_x4 : V m c main_v5 = extractStridedSlice S16384x2048 ![0, 5632] (lo (m ((c.tc : Thread nD τ).loc main_arg3))) slices_S16384x7680_S16384x2048_0_5632 := by
  change StableHlo.after hostOps0 (fun b => m (c, b)) _ = _
  after_results
  try rfl

theorem read_x4 (a : Fin 256) (b : Fin 2048) : iblk m c 4 t (ix2 a b)
    = m ((c.tc : Thread nD τ).loc main_arg3) (ix2 (⟨t.val * 256 + a.val, row t a⟩ : Fin 16384) (⟨5632 + b.val, by omega⟩ : Fin 7680)) := by
  refine Eq.trans ?_ (part4_apply (m ((c.tc : Thread nD τ).loc main_arg3)) _ b)
  have e := (idx t).2.2.2.2.1
  unfold iblk
  have e' := entry_x4 m c
  generalize V m c main_v5 = X at e'
  subst e'
  blk_ext [e]

theorem entry_w : V m c main_v7 = tr (m ((c.tc : Thread nD τ).loc main_arg2)) := by
  change StableHlo.after hostOps0 (fun b => m (c, b)) _ = _
  after_results
  try rfl

theorem read_w (b : Fin 7680) (a : Fin 1024) : iblk m c 5 t (ix2 b a) = m ((c.tc : Thread nD τ).loc main_arg2) (ix2 a b) := by
  refine Eq.trans ?_ (tr_apply (m ((c.tc : Thread nD τ).loc main_arg2)) b a)
  have e := (idx t).2.2.2.2.2.1
  unfold iblk
  have e' := entry_w m c
  generalize V m c main_v7 = X at e'
  subst e'
  blk_ext [e]

theorem read_h (a : Fin 256) (b : Fin 1024) : iblk m c 6 t (ix2 a b)
    = m ((c.tc : Thread nD τ).loc main_arg0) (ix2 (⟨t.val * 256 + a.val, row t a⟩ : Fin 16384) b) := by
  have e := (idx t).2.2.2.2.2.2.1
  blk_ext [iblk, V, e]

theorem read_g (a : Fin 1) (b : Fin 1024) : iblk m c 7 t (ix2 a b) = m ((c.tc : Thread nD τ).loc main_arg1) (ix2 0 b) := by
  have e := (idx t).2.2.2.2.2.2.2.1
  blk_ext [iblk, V, e]

theorem read_r (a : Fin 256) (b : Fin 1024) : iblk m c 8 t (ix2 a b)
    = m ((c.tc : Thread nD τ).loc main_arg4) (ix2 (⟨t.val * 256 + a.val, row t a⟩ : Fin 16384) b) := by
  have e := (idx t).2.2.2.2.2.2.2.2.1
  blk_ext [iblk, V, e]

/-- A term of it. -/
def dht (dp : S16384x7680.Idx → EReal) (wi : S1024x7680.Idx → EReal) (i : Fin 16384) (k : Fin 1024) (j : Fin 7680) : EReal :=
  dp (ix2 i j) * wi (ix2 k j)

/-- The normalised rows' cotangent. -/
def dh (dp : S16384x7680.Idx → EReal) (wi : S1024x7680.Idx → EReal) (i : Fin 16384) (k : Fin 1024) : EReal :=
  ∑ j : Fin 7680, dht dp wi i k j

/-- The rows' gradient with the residual's added. -/
def up (r x : S16384x1024.Idx → EReal) (g : S1x1024.Idx → EReal) (dp : S16384x7680.Idx → EReal) (wi : S1024x7680.Idx → EReal) : S16384x1024.Idx → EReal := fun y =>
  r y + nx (fun k => x (ix2 (y 0 : Fin 16384) k)) (fun k => g (ix2 0 k)) (fun k => dh dp wi (y 0) k) (y 1)

theorem up_apply (r x : S16384x1024.Idx → EReal) (g : S1x1024.Idx → EReal) (dp : S16384x7680.Idx → EReal) (wi : S1024x7680.Idx → EReal) (i : Fin 16384) (k : Fin 1024) :
    up r x g dp wi (ix2 i k) = r (ix2 i k) + nx (fun k => x (ix2 i k)) (fun k => g (ix2 0 k)) (fun k => dh dp wi i k) k := rfl

theorem val_dh (a : Fin 256) (b : Fin 1024) : k0_pay2 (iblk m c 0 t) (View.ld (iblk m c 5 t) (Rect.unit (s := S7680x1024) ![0, 0] S4096x1024.size inb_S7680x1024_S4096x1024_0_0)) (iblk m c 1 t) (View.ld (iblk m c 5 t) (Rect.unit (s := S7680x1024) ![4096, 0] S1024x1024.size inb_S7680x1024_S1024x1024_4096_0)) (iblk m c 2 t) (View.ld (iblk m c 5 t) (Rect.unit (s := S7680x1024) ![5120, 0] S256x1024.size inb_S7680x1024_S256x1024_5120_0)) (iblk m c 3 t) (View.ld (iblk m c 5 t) (Rect.unit (s := S7680x1024) ![5376, 0] S256x1024.size inb_S7680x1024_S256x1024_5376_0)) (iblk m c 4 t) (View.ld (iblk m c 5 t) (Rect.unit (s := S7680x1024) ![5632, 0] S2048x1024.size inb_S7680x1024_S2048x1024_5632_0)) (ix2 a b)
    = dh (m ((c.tc : Thread nD τ).loc main_arg3)) (m ((c.tc : Thread nD τ).loc main_arg2)) (⟨t.val * 256 + a.val, row t a⟩ : Fin 16384) b := by
  pointwise [k0_pay2]
  simp only [read_x0, read_x1, read_x2, read_x3, read_x4, read_w]
  exact sum_pieces (dht (m ((c.tc : Thread nD τ).loc main_arg3)) (m ((c.tc : Thread nD τ).loc main_arg2)) (⟨t.val * 256 + a.val, row t a⟩ : Fin 16384) b)

end

set_option backward.isDefEq.respectTransparency false in
theorem final9 (m : (ℓ : Loc nD τ sig) → Buf (Elt Ideal) ℓ) (c : Dev nD) :
    (dats m 0 c).arrAt 9 cfg0.N = up (m ((c.tc : Thread nD τ).loc main_arg4)) (m ((c.tc : Thread nD τ).loc main_arg0)) (m ((c.tc : Thread nD τ).loc main_arg1)) (m ((c.tc : Thread nD τ).loc main_arg3)) (m ((c.tc : Thread nD τ).loc main_arg2)) := by
  refine (dats m 0 c).arrAt_eq_of_covers 9 _ (by decide +kernel) fun t hf y => ?_
  have e := (idx t).2.2.2.2.2.2.2.2.2.1
  have ht : t.val < 64 := t.isLt
  have ey : (win0_9.blk t).view.emb y
      = ix2 (⟨t.val * 256 + (y 0).val, by have := (y 0).isLt; change (y 0).val < 256 at this; omega⟩ : Fin 16384)
          (⟨(y 1).val, by have := (y 1).isLt; change (y 1).val < 1024 at this; omega⟩ : Fin 1024) := by
    blk_ext [e]
  blk_simp
  rw [ey, after0_9]
  have key : (outsAt0 m c t.val t.isLt).1 = k0_pay6 (k0_pay2 (iblk m c 0 t) (View.ld (iblk m c 5 t) (Rect.unit (s := S7680x1024) ![0, 0] S4096x1024.size inb_S7680x1024_S4096x1024_0_0)) (iblk m c 1 t) (View.ld (iblk m c 5 t) (Rect.unit (s := S7680x1024) ![4096, 0] S1024x1024.size inb_S7680x1024_S1024x1024_4096_0)) (iblk m c 2 t) (View.ld (iblk m c 5 t) (Rect.unit (s := S7680x1024) ![5120, 0] S256x1024.size inb_S7680x1024_S256x1024_5120_0)) (iblk m c 3 t) (View.ld (iblk m c 5 t) (Rect.unit (s := S7680x1024) ![5376, 0] S256x1024.size inb_S7680x1024_S256x1024_5376_0)) (iblk m c 4 t) (View.ld (iblk m c 5 t) (Rect.unit (s := S7680x1024) ![5632, 0] S2048x1024.size inb_S7680x1024_S2048x1024_5632_0))) (iblk m c 6 t) (iblk m c 7 t) (iblk m c 8 t) := by
    by_cases h : t.val % 64 = 0
    · rw [outsAt0_A m c t h]; frame_out; rfl
    · rw [outsAt0_B m c t h]; frame_out; rfl
  rw [key]
  idx_vars y
  pointwise [k0_pay6, k0_pay4, k0_pay3]
  rw [up_apply]
  simp only [val_dh, read_h, read_g, read_r, nx, nq, ms, Finset.univ_unique, Finset.sum_singleton]

/-- A row's part of the scale's gradient. -/
def dgt (x : S16384x1024.Idx → EReal) (dp : S16384x7680.Idx → EReal) (wi : S1024x7680.Idx → EReal) (k : Fin 1024) (i : Fin 16384) : EReal :=
  x (ix2 i k) * Ideal.rsqrt (ms fun k => x (ix2 i k)) * dh dp wi i k

/-- The scale's gradient. -/
def dgn (x : S16384x1024.Idx → EReal) (dp : S16384x7680.Idx → EReal) (wi : S1024x7680.Idx → EReal) (k : Fin 1024) : EReal :=
  ∑ i : Fin 16384, dgt x dp wi k i

theorem pay1 (v acc : Vec Ideal S1x1024 .f32) (y : S1x1024.Idx) : k0_pay1 (F := Ideal) v (k0_pay8 acc) y = acc y + v y := by
  pointwise [k0_pay1, k0_pay8]

theorem pay7 (y : S1x1024.Idx) : k0_pay7 (F := Ideal) y = 0 := by
  pointwise [k0_pay7]

theorem val_dg (m : (ℓ : Loc nD τ sig) → Buf (Elt Ideal) ℓ) (c : Dev nD) (t : Fin cfg0.N) (a : Fin 1) (k : Fin 1024) :
    k0_pay5 (k0_pay2 (iblk m c 0 t) (View.ld (iblk m c 5 t) (Rect.unit (s := S7680x1024) ![0, 0] S4096x1024.size inb_S7680x1024_S4096x1024_0_0)) (iblk m c 1 t) (View.ld (iblk m c 5 t) (Rect.unit (s := S7680x1024) ![4096, 0] S1024x1024.size inb_S7680x1024_S1024x1024_4096_0)) (iblk m c 2 t) (View.ld (iblk m c 5 t) (Rect.unit (s := S7680x1024) ![5120, 0] S256x1024.size inb_S7680x1024_S256x1024_5120_0)) (iblk m c 3 t) (View.ld (iblk m c 5 t) (Rect.unit (s := S7680x1024) ![5376, 0] S256x1024.size inb_S7680x1024_S256x1024_5376_0)) (iblk m c 4 t) (View.ld (iblk m c 5 t) (Rect.unit (s := S7680x1024) ![5632, 0] S2048x1024.size inb_S7680x1024_S2048x1024_5632_0))) (iblk m c 6 t) (ix2 a k)
      = ∑ r : Fin 256, dgt (m ((c.tc : Thread nD τ).loc main_arg0)) (m ((c.tc : Thread nD τ).loc main_arg3)) (m ((c.tc : Thread nD τ).loc main_arg2)) k (⟨t.val * 256 + r.val, row t r⟩ : Fin 16384) := by
  pointwise [k0_pay5, k0_pay4, k0_pay3]
  simp only [val_dh, read_h, dgt, ms]

set_option backward.isDefEq.respectTransparency false in
theorem final10 (m : (ℓ : Loc nD τ sig) → Buf (Elt Ideal) ℓ) (c : Dev nD) :
    (dats m 0 c).arrAt 10 cfg0.N = (fun y => dgn (m ((c.tc : Thread nD τ).loc main_arg0)) (m ((c.tc : Thread nD τ).loc main_arg3)) (m ((c.tc : Thread nD τ).loc main_arg2)) (y 1) : S1x1024.Idx → EReal) := by
  refine (dats m 0 c).arrAt_eq_of_covers 10 _ (by decide +kernel) fun t hf y => ?_
  have e := (idx t).2.2.2.2.2.2.2.2.2.2
  have hl : t.val + 1 = cfg0.N := by
    revert hf; revert t; decide +kernel
  have ey : (win0_10.blk t).view.emb y
      = ix2 (⟨0, by omega⟩ : Fin 1) (⟨(y 1).val, by have := (y 1).isLt; change (y 1).val < 1024 at this; omega⟩ : Fin 1024) := by
    blk_ext [e]
  blk_simp
  rw [ey, after0_10, Pipeline.eq_sum_fin_of_reset_step_apply_last (fun n h => (outsAt0 m c n h).2) 64 (fun _ => 0)
    (fun t => k0_pay5 (k0_pay2 (iblk m c 0 t) (View.ld (iblk m c 5 t) (Rect.unit (s := S7680x1024) ![0, 0] S4096x1024.size inb_S7680x1024_S4096x1024_0_0)) (iblk m c 1 t) (View.ld (iblk m c 5 t) (Rect.unit (s := S7680x1024) ![4096, 0] S1024x1024.size inb_S7680x1024_S1024x1024_4096_0)) (iblk m c 2 t) (View.ld (iblk m c 5 t) (Rect.unit (s := S7680x1024) ![5120, 0] S256x1024.size inb_S7680x1024_S256x1024_5120_0)) (iblk m c 3 t) (View.ld (iblk m c 5 t) (Rect.unit (s := S7680x1024) ![5376, 0] S256x1024.size inb_S7680x1024_S256x1024_5376_0)) (iblk m c 4 t) (View.ld (iblk m c 5 t) (Rect.unit (s := S7680x1024) ![5632, 0] S2048x1024.size inb_S7680x1024_S2048x1024_5632_0))) (iblk m c 6 t))
    (fun t h j => by rw [outsAt0_A m c t h]; frame_out; rw [pay1, pay7]; rfl)
    (fun t h j => by rw [outsAt0_B m c t h]; frame_out; rw [pay1]; rfl) (le_of_eq N_0) t hl y, zero_add]
  idx_vars y
  simp only [val_dg, dgn]
  exact Fin.sum_mul_add_congr fun t k hl => rfl

end

theorem algebraic : Cert.algebraic_WinKernelIdeal_WinRefIdeal := by
  pair_intro
  · run_from Cert.WinKernelIdeal.Value.run_blocks m g
  · refine (θ_run _ _ _).mono (fun r h c => ⟨(h c).1.trans ?_, (h c).2.1.trans ?_, (h c).2.2⟩) (Cert.WinRefIdeal.Value.run m' g')
    · obtain ⟨a0, a1, a2, a3, a4⟩ := hagree c
      rw [final9]
      funext y
      idx_vars y
      unfold Cert.WinRefIdeal.Value.res_main_v36
      rw [a0, a1, a2, a3, a4]
      pointwise [up, dh, dht, nx, nq, ms]
      simp only [Finset.univ_unique, Finset.sum_singleton, add_assoc]
    · obtain ⟨a0, a1, a2, a3, a4⟩ := hagree c
      rw [final10]
      funext y
      idx_vars y
      rw [a0, a2, a3]
      pointwise [dgn, dgt, dh, dht, ms]

end Cert.Own.Win

end
-- ==== Proof.Loss.lean ====
module

public import proofs.«01_k».proof.Defs
public import proofs.«01_k».proof.Proof.Lib
public import proofs.«01_k».proof.Proof.Gen.LossKernelIdeal.Value
public import proofs.«01_k».proof.Proof.Gen.LossRefIdeal.Run
public import Idealize.ShloMosaic.Lib.Pipeline.ValueKit
public import Idealize.ShloMosaic.Lib.Claim
public import Idealize.ShloMosaic.Lib.Pointwise

/-! The loss and its gradient: what it returns is what the reference returns. -/

@[expose] public section

set_option maxRecDepth 65536

noncomputable section

namespace Cert.Own.Loss

open Idealize.ShloMosaic Idealize.ShloMosaic.TcCoe Idealize.SL.Sem

theorem mul_sum_real {ι : Type} (s : Finset ι) (f : ι → EReal) (r : ℝ) (h : 0 ≤ r) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr h) (EReal.coe_ne_top r), ih]

/-- The mean's weight in the loss. -/
def cc : EReal := Ideal.div (Ideal.ofBits .f32 1056964608#32 * 1) (Ideal.ofBits .f32 1149239296#32)

theorem cc_real : cc = ((1 / 2048 : ℝ) : EReal) := by
  have h : Ideal.ofBits .f32 1149239296#32 = ((1024 : ℝ) : EReal) := by
    simp [Ideal.ofBits, Ideal.ieee, -EReal.coe_mul]; norm_num
  rw [cc, h, show (1056964608#32 : BitVec 32) = 0x3F000000#32 from rfl, ofBits_half, mul_one, Ideal.div_coe (by norm_num), ← EReal.coe_mul]
  norm_num

/-- An entry's error scaled into the loss's gradient. -/
def gd (e : EReal) : EReal := e * cc + cc * e

theorem gd_eq (e : EReal) : cc * (Ideal.ofBits .f32 1073741824#32 * e) = gd e := by
  have h : Ideal.ofBits .f32 1073741824#32 = ((2 : ℝ) : EReal) := by
    simp [Ideal.ofBits, Ideal.ieee, -EReal.coe_mul]; norm_num
  rw [gd, h, mul_comm e, ← mul_assoc, cc_real, ← EReal.right_distrib_of_nonneg (EReal.coe_nonneg.mpr (by norm_num)) (EReal.coe_nonneg.mpr (by norm_num)), ← EReal.coe_mul, ← EReal.coe_add]
  norm_num

/-- An entry's error. -/
def er (x g y : Fin 1024 → EReal) (k : Fin 1024) : EReal := x k * Ideal.rsqrt (ms x) * g k - y k

/-- A row's mean square error. -/
def mse (x g y : Fin 1024 → EReal) : EReal := Ideal.div (∑ k, er x g y k * er x g y k) (Ideal.ofBits .f32 1149239296#32)

section
open Cert.LossKernelIdeal Cert.LossKernelIdeal.Gen

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

section
variable (m : (ℓ : Loc nD τ sig) → Buf (Elt Ideal) ℓ) (c : Dev nD) (t : Fin cfg0.N)

theorem row (a : Fin 512) : t.val * 512 + a.val < 16384 := by
  have := t.isLt; change t.val < 32 at this; omega

theorem read_x (a : Fin 512) (b : Fin 1024) : iblk m c 0 t (ix2 a b) = m ((c.tc : Thread nD τ).loc main_arg0) (ix2 (⟨t.val * 512 + a.val, row t a⟩ : Fin 16384) b) := by
  have e := (idx t).1
  blk_ext [iblk, V, e]

theorem read_g (a : Fin 1) (b : Fin 1024) : iblk m c 1 t (ix2 a b) = m ((c.tc : Thread nD τ).loc main_arg1) (ix2 0 b) := by
  have e := (idx t).2.1
  blk_ext [iblk, V, e]

theorem read_y (a : Fin 512) (b : Fin 1024) : iblk m c 2 t (ix2 a b) = m ((c.tc : Thread nD τ).loc main_arg2) (ix2 (⟨t.val * 512 + a.val, row t a⟩ : Fin 16384) b) := by
  have e := (idx t).2.2.1
  blk_ext [iblk, V, e]

theorem half_sum (f : Fin 16384 → EReal) :
    ∑ t : Fin cfg0.N, Ideal.ofBits .f32 1056964608#32 * ∑ r : Fin 512, f (⟨t.val * 512 + r.val, row t r⟩ : Fin 16384)
      = Ideal.ofBits .f32 1056964608#32 * ∑ i, f i := by
  rw [show (1056964608#32 : BitVec 32) = 0x3F000000#32 from rfl, ofBits_half, ← mul_sum_real _ _ _ (by norm_num)]
  exact congrArg _ (Fin.sum_mul_add_congr fun t k hl => rfl)

/-- An entry's error, the arrays given. -/
def err (x y : S16384x1024.Idx → EReal) (g : S1x1024.Idx → EReal) (i : Fin 16384) (k : Fin 1024) : EReal :=
  er (fun k => x (ix2 i k)) (fun k => g (ix2 0 k)) (fun k => y (ix2 i k)) k

/-- The rows' gradient. -/
def dx (x y : S16384x1024.Idx → EReal) (g : S1x1024.Idx → EReal) (i : Fin 16384) (k : Fin 1024) : EReal :=
  nx (fun k => x (ix2 i k)) (fun k => g (ix2 0 k)) (fun k => gd (err x y g i k)) k

/-- A row's part of the scale's gradient. -/
def dgt (x y : S16384x1024.Idx → EReal) (g : S1x1024.Idx → EReal) (k : Fin 1024) (i : Fin 16384) : EReal :=
  x (ix2 i k) * Ideal.rsqrt (ms fun k => x (ix2 i k)) * gd (err x y g i k)

/-- A row's part of the loss, before the half. -/
def lt (x y : S16384x1024.Idx → EReal) (g : S1x1024.Idx → EReal) (i : Fin 16384) : EReal :=
  mse (fun k => x (ix2 i k)) (fun k => g (ix2 0 k)) (fun k => y (ix2 i k))

theorem val_err (a : Fin 512) (b : Fin 1024) : k0_pay10 (iblk m c 2 t) (iblk m c 0 t) (iblk m c 1 t) (ix2 a b) = err (m ((c.tc : Thread nD τ).loc main_arg0)) (m ((c.tc : Thread nD τ).loc main_arg2)) (m ((c.tc : Thread nD τ).loc main_arg1)) (⟨t.val * 512 + a.val, row t a⟩ : Fin 16384) b := by
  pointwise [k0_pay10, k0_pay9, k0_pay7, k0_pay6, err, er, ms]
  simp only [read_x, read_g, read_y]

theorem val_gd (a : Fin 512) (b : Fin 1024) : k0_pay12 (iblk m c 2 t) (iblk m c 0 t) (iblk m c 1 t) (ix2 a b) = gd (err (m ((c.tc : Thread nD τ).loc main_arg0)) (m ((c.tc : Thread nD τ).loc main_arg2)) (m ((c.tc : Thread nD τ).loc main_arg1)) (⟨t.val * 512 + a.val, row t a⟩ : Fin 16384) b) := by
  pointwise [k0_pay12, gd, cc]
  simp only [val_err, Finset.univ_unique, Finset.sum_singleton]

theorem val_dg (a : Fin 1) (k : Fin 1024) (acc : Vec Ideal S1x1024 .f32) :
    k0_pay4 (k0_pay13 (iblk m c 2 t) (iblk m c 0 t) (iblk m c 1 t)) acc (ix2 a k) = acc (ix2 a k) + ∑ r : Fin 512, dgt (m ((c.tc : Thread nD τ).loc main_arg0)) (m ((c.tc : Thread nD τ).loc main_arg2)) (m ((c.tc : Thread nD τ).loc main_arg1)) k (⟨t.val * 512 + r.val, row t r⟩ : Fin 16384) := by
  pointwise [k0_pay4, k0_pay13, k0_pay9, k0_pay7, k0_pay6, dgt, ms]
  simp only [val_gd, read_x]

theorem val_loss (acc : Vec Ideal S1x128 .f32) (y : S1x128.Idx) :
    k0_pay5 (k0_pay11 (iblk m c 2 t) (iblk m c 0 t) (iblk m c 1 t)) acc y = acc y + Ideal.ofBits .f32 1056964608#32 * ∑ r : Fin 512, lt (m ((c.tc : Thread nD τ).loc main_arg0)) (m ((c.tc : Thread nD τ).loc main_arg2)) (m ((c.tc : Thread nD τ).loc main_arg1)) (⟨t.val * 512 + r.val, row t r⟩ : Fin 16384) := by
  pointwise [k0_pay5, k0_pay11, lt, mse]
  simp only [val_err, err, Finset.univ_unique, Finset.sum_singleton]

theorem pay2 (y : S1x1024.Idx) : k0_pay2 (F := Ideal) y = 0 := by
  pointwise [k0_pay2]

theorem pay3 (y : S1x128.Idx) : k0_pay3 (F := Ideal) y = 0 := by
  pointwise [k0_pay3]

end

set_option backward.isDefEq.respectTransparency false in
theorem final3 (m : (ℓ : Loc nD τ sig) → Buf (Elt Ideal) ℓ) (c : Dev nD) :
    (dats m 0 c).arrAt 3 cfg0.N = (fun y => dx (m ((c.tc : Thread nD τ).loc main_arg0)) (m ((c.tc : Thread nD τ).loc main_arg2)) (m ((c.tc : Thread nD τ).loc main_arg1)) (y 0) (y 1) : S16384x1024.Idx → EReal) := by
  refine (dats m 0 c).arrAt_eq_of_covers 3 _ (by decide +kernel) fun t hf y => ?_
  have e := (idx t).2.2.2.1
  have ht : t.val < 32 := t.isLt
  have ey : (win0_3.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_3]
  have key : (outsAt0 m c t.val t.isLt).1 = k0_pay1 (iblk m c 0 t) (iblk m c 1 t) (k0_pay7 (iblk m c 0 t)) (k0_pay8 (iblk m c 0 t)) (k0_pay12 (iblk m c 2 t) (iblk m c 0 t) (iblk m c 1 t)) := by
    by_cases h : t.val % 32 = 0
    · rw [outsAt0_A m c t h]; frame_out
    · rw [outsAt0_B m c t h]; frame_out
  rw [key]
  idx_vars y
  pointwise [k0_pay1, k0_pay8, k0_pay7, k0_pay6]
  simp only [val_gd, read_x, read_g, dx, nx, nq, ms, Finset.univ_unique, Finset.sum_singleton]

set_option backward.isDefEq.respectTransparency false in
theorem final4 (m : (ℓ : Loc nD τ sig) → Buf (Elt Ideal) ℓ) (c : Dev nD) :
    (dats m 0 c).arrAt 4 cfg0.N = (fun y => ∑ i : Fin 16384, dgt (m ((c.tc : Thread nD τ).loc main_arg0)) (m ((c.tc : Thread nD τ).loc main_arg2)) (m ((c.tc : Thread nD τ).loc main_arg1)) (y 1) i : S1x1024.Idx → EReal) := by
  refine (dats m 0 c).arrAt_eq_of_covers 4 _ (by decide +kernel) fun t hf y => ?_
  have e := (idx t).2.2.2.2.1
  have hl : t.val + 1 = cfg0.N := by
    revert hf; revert t; decide +kernel
  have ey : (win0_4.blk t).view.emb y
      = ix2 (⟨0, by omega⟩ : Fin 1) (⟨(y 1).val, by have := (y 1).isLt; change (y 1).val < 1024 at this; omega⟩ : Fin 1024) := by
    blk_ext [e]
  blk_simp
  rw [ey, after0_4, Pipeline.eq_sum_fin_of_reset_step_apply_last (fun n h => (outsAt0 m c n h).2.1) 32 (fun _ => 0)
    (fun t j => ∑ r : Fin 512, dgt (m ((c.tc : Thread nD τ).loc main_arg0)) (m ((c.tc : Thread nD τ).loc main_arg2)) (m ((c.tc : Thread nD τ).loc main_arg1)) (j 1) (⟨t.val * 512 + r.val, row t r⟩ : Fin 16384))
    (fun t h j => by rw [outsAt0_A m c t h]; frame_out; idx_vars j; rw [val_dg, pay2])
    (fun t h j => by rw [outsAt0_B m c t h]; frame_out; idx_vars j; rw [val_dg]) (le_of_eq N_0) t hl y, zero_add]
  idx_vars y
  exact Fin.sum_mul_add_congr fun t k hl => rfl

set_option backward.isDefEq.respectTransparency false in
theorem final5 (m : (ℓ : Loc nD τ sig) → Buf (Elt Ideal) ℓ) (c : Dev nD) :
    (dats m 0 c).arrAt 5 cfg0.N = (fun _ => Ideal.ofBits .f32 1056964608#32 * ∑ i : Fin 16384, lt (m ((c.tc : Thread nD τ).loc main_arg0)) (m ((c.tc : Thread nD τ).loc main_arg2)) (m ((c.tc : Thread nD τ).loc main_arg1)) i : S1x128.Idx → EReal) := by
  refine (dats m 0 c).arrAt_eq_of_covers 5 _ (by decide +kernel) fun t hf y => ?_
  have e := (idx t).2.2.2.2.2
  have hl : t.val + 1 = cfg0.N := by
    revert hf; revert t; decide +kernel
  blk_simp
  rw [after0_5, Pipeline.eq_sum_fin_of_reset_step_apply_last (fun n h => (outsAt0 m c n h).2.2) 32 (fun _ => 0)
    (fun t _ => Ideal.ofBits .f32 1056964608#32 * ∑ r : Fin 512, lt (m ((c.tc : Thread nD τ).loc main_arg0)) (m ((c.tc : Thread nD τ).loc main_arg2)) (m ((c.tc : Thread nD τ).loc main_arg1)) (⟨t.val * 512 + r.val, row t r⟩ : Fin 16384))
    (fun t h j => by rw [outsAt0_A m c t h]; frame_out; rw [val_loss, pay3])
    (fun t h j => by rw [outsAt0_B m c t h]; frame_out; rw [val_loss]) (le_of_eq N_0) t hl y, zero_add]
  exact half_sum _

end

theorem algebraic : Cert.algebraic_LossKernelIdeal_LossRefIdeal := by
  pair_intro
  · run_from Cert.LossKernelIdeal.Value.run_blocks m g
  · refine (θ_run _ _ _).mono (fun r h c => ⟨(h c).1.trans ?_, (h c).2.1.trans ?_, (h c).2.2.1.trans ?_, (h c).2.2.2⟩) (Cert.LossRefIdeal.Value.run m' g')
    · obtain ⟨a0, a1, a2⟩ := hagree c
      rw [final3]
      funext y
      idx_vars y
      unfold Cert.LossRefIdeal.Value.res_main_v48
      rw [a0, a1, a2]
      pointwise [dx, err, er, nx, nq, ms, ← gd_eq, cc]
      simp only [Finset.univ_unique, Finset.sum_singleton]
    · obtain ⟨a0, a1, a2⟩ := hagree c
      rw [final4]
      funext y
      idx_vars y
      rw [a0, a1, a2]
      pointwise [dgt, err, er, ms, ← gd_eq, cc]
    · obtain ⟨a0, a1, a2⟩ := hagree c
      rw [final5]
      funext y
      idx_vars y
      rw [a0, a1, a2]
      pointwise [lt, mse, er, ms]

end Cert.Own.Loss

end
-- ==== Proof.Lb.lean ====
module

public import proofs.«01_k».proof.Defs
public import proofs.«01_k».proof.Proof.Lib
public import proofs.«01_k».proof.Proof.Gen.LbKernelIdeal.Value
public import proofs.«01_k».proof.Proof.Gen.LbRefIdeal.Run
public import proofs.«01_k».proof.Proof.Gen.Pre_lb_finite
public import Idealize.ShloMosaic.Lib.Pipeline.ValueKit
public import Idealize.ShloMosaic.Lib.Claim
public import Idealize.ShloMosaic.Lib.Pointwise

/-! The decay bounds' gradient, a softmax over four rows and a running sum: at finite arguments the call returns what the reference
returns. The call also sends a gradient through the rows' maximum; over the reals that part is zero. -/

@[expose] public section

set_option maxRecDepth 65536

noncomputable section

namespace Cert.Own.Lb

open Idealize.ShloMosaic Idealize.ShloMosaic.TcCoe Idealize.SL.Sem

/-- The greatest of a column's four logits. -/
def mx (a : Fin 4 → ℝ) : ℝ := max (max (a 0) (a 1)) (max (a 2) (a 3))

/-- A row's exponential. -/
def ex (a : Fin 4 → ℝ) (i : Fin 4) : ℝ := Real.exp (a i - mx a)

/-- The exponentials' sum. -/
def sm (a : Fin 4 → ℝ) : ℝ := ex a 0 + ex a 1 + ex a 2 + ex a 3

/-- What the running sum sends back to each row of the softmax. -/
def dd (d : Fin 4 → ℝ) : Fin 4 → ℝ := ![0, d 1 + (d 2 + d 3), d 2 + d 3, d 3]

/-- What the softmax's denominator sends back. -/
def dt (a d : Fin 4 → ℝ) : ℝ :=
  -(dd d 0 * (1 / (sm a * sm a)) * ex a 0 + dd d 1 * (1 / (sm a * sm a)) * ex a 1 + dd d 2 * (1 / (sm a * sm a)) * ex a 2 + dd d 3 * (1 / (sm a * sm a)) * ex a 3)

/-- The logits' gradient. -/
def gr (a d : Fin 4 → ℝ) (i : Fin 4) : ℝ := (dd d i * (1 / sm a) + dt a d) * ex a i

theorem sm_pos (a : Fin 4 → ℝ) : 0 < sm a := by
  unfold sm ex; positivity

theorem sm_ne (a : Fin 4 → ℝ) : sm a ≠ 0 := (sm_pos a).ne'

/-- The gradients of a column sum to zero. -/
theorem gr_sum (a d : Fin 4 → ℝ) : gr a d 0 + gr a d 1 + gr a d 2 + gr a d 3 = 0 := by
  have h := sm_ne a
  have e : ex a 3 = sm a - ex a 0 - ex a 1 - ex a 2 := by unfold sm; ring
  unfold gr dt
  rw [e]
  generalize sm a = s at *
  field_simp
  ring

theorem coe_max (x y : ℝ) : max (x : EReal) (y : EReal) = ((max x y : ℝ) : EReal) := (EReal.coe_strictMono.monotone.map_max).symm

theorem ofBits_one : Ideal.ofBits .f32 1065353216#32 = ((1 : ℝ) : EReal) := by
  simp [Ideal.ofBits, Ideal.ieee, -EReal.coe_mul]; norm_num

section
open Cert.LbKernelIdeal Cert.LbKernelIdeal.Gen

variable (X Y : Vec Ideal S4x1024 .f32) (k : Fin 1024) (a d : Fin 4 → ℝ)

theorem ld0 (X : Vec Ideal S4x1024 .f32) : View.ld X r0_0 (ix2 0 k) = X (ix2 0 k) := by
  refine congrArg X ?_; funext b; fin_cases b <;> apply Fin.ext <;> simp [Rect.unit]
theorem ld1 (X : Vec Ideal S4x1024 .f32) : View.ld X r0_1 (ix2 0 k) = X (ix2 1 k) := by
  refine congrArg X ?_; funext b; fin_cases b <;> apply Fin.ext <;> simp [Rect.unit]
theorem ld2 (X : Vec Ideal S4x1024 .f32) : View.ld X r0_2 (ix2 0 k) = X (ix2 2 k) := by
  refine congrArg X ?_; funext b; fin_cases b <;> apply Fin.ext <;> simp [Rect.unit]
theorem ld3 (X : Vec Ideal S4x1024 .f32) : View.ld X r0_3 (ix2 0 k) = X (ix2 3 k) := by
  refine congrArg X ?_; funext b; fin_cases b <;> apply Fin.ext <;> simp [Rect.unit]

variable (hA : ∀ i, X (ix2 i k) = (a i : EReal)) (hD : ∀ i, Y (ix2 i k) = (d i : EReal))
include hA

theorem v_mx : k0_pay43 X Y (ix2 0 k) = (mx a : EReal) := by
  pointwise [k0_pay43, k0_pay15, k0_pay9, k0_pay12]
  simp only [ld0, ld1, ld2, ld3, hA, coe_max]; rfl

theorem v_ex0 : k0_pay46 X Y (ix2 0 k) = (ex a 0 : EReal) := by
  pointwise [k0_pay46, k0_pay21]
  simp only [ld0, hA, v_mx X Y k a hA, ← EReal.coe_sub, Ideal.exp_coe]; rfl
theorem v_ex1 : k0_pay47 X Y (ix2 0 k) = (ex a 1 : EReal) := by
  pointwise [k0_pay47, k0_pay22]
  simp only [ld1, hA, v_mx X Y k a hA, ← EReal.coe_sub, Ideal.exp_coe]; rfl
theorem v_ex2 : k0_pay48 X Y (ix2 0 k) = (ex a 2 : EReal) := by
  pointwise [k0_pay48, k0_pay23]
  simp only [ld2, hA, v_mx X Y k a hA, ← EReal.coe_sub, Ideal.exp_coe]; rfl
theorem v_ex3 : k0_pay49 X Y (ix2 0 k) = (ex a 3 : EReal) := by
  pointwise [k0_pay49, k0_pay24]
  simp only [ld3, hA, v_mx X Y k a hA, ← EReal.coe_sub, Ideal.exp_coe]; rfl

theorem v_sm : k0_pay50 X Y (ix2 0 k) = (sm a : EReal) := by
  have h0 := v_ex0 X Y k a hA
  have h1 := v_ex1 X Y k a hA
  have h2 := v_ex2 X Y k a hA
  have h3 := v_ex3 X Y k a hA
  unfold k0_pay46 at h0; unfold k0_pay47 at h1; unfold k0_pay48 at h2; unfold k0_pay49 at h3
  pointwise [k0_pay50, k0_pay25]
  rw [h0, h1, h2, h3]
  simp only [← EReal.coe_add]; rfl

theorem v_sq (v : FVec Ideal S1x1024 .f32) (hv : v = k0_pay51 X Y ∨ v = k0_pay52 X Y ∨ v = k0_pay53 X Y ∨ v = k0_pay54 X Y) :
    v (ix2 0 k) = ((1 / (sm a * sm a) : ℝ) : EReal) := by
  have h := v_sm X Y k a hA
  unfold k0_pay50 at h
  rcases hv with rfl | rfl | rfl | rfl
  all_goals
    pointwise [k0_pay51, k0_pay52, k0_pay53, k0_pay54, k0_pay26, k0_pay27, k0_pay28, k0_pay29]
    rw [h, ← EReal.coe_mul, Ideal.div_coe (mul_ne_zero (sm_ne a) (sm_ne a))]
    simp

include hD

theorem v_dd1 : k0_pay34 (View.ld Y r0_1) (k0_pay55 X Y) (k0_pay57 X Y) (ix2 0 k) = (dd d 1 : EReal) := by
  pointwise [k0_pay34, k0_pay33, k0_pay55, k0_pay57, k0_pay30, k0_pay32]
  simp only [ld1, ld2, ld3, hD, ← EReal.coe_add]; rfl
theorem v_dd2 : k0_pay33 (k0_pay55 X Y) (k0_pay57 X Y) (ix2 0 k) = (dd d 2 : EReal) := by
  pointwise [k0_pay33, k0_pay55, k0_pay57, k0_pay30, k0_pay32]
  simp only [ld1, ld2, ld3, hD, ← EReal.coe_add]; rfl
theorem v_dd3 : k0_pay55 X Y (ix2 0 k) = (dd d 3 : EReal) := by
  pointwise [k0_pay55, k0_pay30]
  simp only [ld3, hD]; rfl
theorem v_dd0 (z : EReal) (hz : z = 0) : k0_pay35 (View.ld Y r0_0) (View.ld Y r0_1) (View.ld Y r0_2) (k0_pay55 X Y) (k0_pay56 X Y) (k0_pay57 X Y) z (ix2 0 k) = (dd d 0 : EReal) := by
  have h := v_dd1 X Y k a d hA hD
  subst hz
  pointwise [k0_pay35, k0_pay56, k0_pay31]
  rw [h]
  simp only [ld0, ld1, ld2, ld3, hD, ← EReal.coe_add, ← EReal.coe_sub, ← EReal.coe_zero, ← EReal.coe_neg]
  congr 1
  simp [dd]

theorem v_dt (z : EReal) (hz : z = 0) : k0_pay36 (k0_pay46 X Y) (k0_pay47 X Y) (k0_pay48 X Y) (k0_pay49 X Y) (k0_pay51 X Y) (k0_pay52 X Y) (k0_pay53 X Y) (k0_pay54 X Y) (View.ld Y r0_0) (View.ld Y r0_1) (View.ld Y r0_2) (k0_pay55 X Y) (k0_pay56 X Y) (k0_pay57 X Y) z (ix2 0 k) = (dt a d : EReal) := by
  have q1 := v_sq X Y k a hA _ (.inl rfl)
  have q2 := v_sq X Y k a hA _ (.inr (.inl rfl))
  have q3 := v_sq X Y k a hA _ (.inr (.inr (.inl rfl)))
  have q4 := v_sq X Y k a hA _ (.inr (.inr (.inr rfl)))
  subst hz
  pointwise [k0_pay36]
  simp only [zero_sub, q1, q2, q3, q4, v_ex0 X Y k a hA, v_ex1 X Y k a hA, v_ex2 X Y k a hA, v_ex3 X Y k a hA, v_dd0 X Y k a d hA hD 0 rfl, v_dd1 X Y k a d hA hD, v_dd2 X Y k a d hA hD, v_dd3 X Y k a d hA hD, ← EReal.coe_mul, ← EReal.coe_neg, ← EReal.coe_sub, ← EReal.coe_add]
  congr 1
  unfold dt; ring

theorem v_g3 (z : EReal) (hz : z = 0) : k0_pay38 (k0_pay46 X Y) (k0_pay47 X Y) (k0_pay48 X Y) (k0_pay49 X Y) (k0_pay50 X Y) (k0_pay51 X Y) (k0_pay52 X Y) (k0_pay53 X Y) (k0_pay54 X Y) (View.ld Y r0_0) (View.ld Y r0_1) (View.ld Y r0_2) (k0_pay55 X Y) (k0_pay56 X Y) (k0_pay57 X Y) z (ix2 0 k) = (gr a d 3 : EReal) := by
  subst hz
  pointwise [k0_pay38]
  simp only [v_dt X Y k a d hA hD 0 rfl, v_sm X Y k a hA, v_ex3 X Y k a hA, v_dd3 X Y k a d hA hD, Ideal.div_coe (sm_ne a), ← EReal.coe_mul, ← EReal.coe_add]
  rfl

theorem v_g2 (z : EReal) (hz : z = 0) : k0_pay39 (k0_pay46 X Y) (k0_pay47 X Y) (k0_pay48 X Y) (k0_pay49 X Y) (k0_pay50 X Y) (k0_pay51 X Y) (k0_pay52 X Y) (k0_pay53 X Y) (k0_pay54 X Y) (View.ld Y r0_0) (View.ld Y r0_1) (View.ld Y r0_2) (k0_pay55 X Y) (k0_pay56 X Y) (k0_pay57 X Y) z (ix2 0 k) = (gr a d 2 : EReal) := by
  subst hz
  pointwise [k0_pay39]
  simp only [v_dt X Y k a d hA hD 0 rfl, v_sm X Y k a hA, v_ex2 X Y k a hA, v_dd2 X Y k a d hA hD, Ideal.div_coe (sm_ne a), ← EReal.coe_mul, ← EReal.coe_add]
  rfl

theorem v_g1 : k0_pay60 X Y (ix2 0 k) = (gr a d 1 : EReal) := by
  pointwise [k0_pay60, k0_pay41]
  simp only [v_dt X Y k a d hA hD 0 rfl, v_sm X Y k a hA, v_ex1 X Y k a hA, v_dd1 X Y k a d hA hD, Ideal.div_coe (sm_ne a), ← EReal.coe_mul, ← EReal.coe_add]
  rfl

theorem v_g0 : k0_pay1 (k0_pay46 X Y) (k0_pay58 X Y) (ix2 0 k) = (gr a d 0 : EReal) := by
  pointwise [k0_pay1, k0_pay58, k0_pay37]
  simp only [v_dt X Y k a d hA hD 0 rfl, v_sm X Y k a hA, v_ex0 X Y k a hA, v_dd0 X Y k a d hA hD 0 rfl, Ideal.div_coe (sm_ne a), ← EReal.coe_mul, ← EReal.coe_add]
  rfl

/-- What goes through the maximum is zero. -/
theorem v_total : k0_pay2 (k0_pay46 X Y) (k0_pay58 X Y) (k0_pay59 X Y) (k0_pay60 X Y) (k0_pay61 X Y) (ix2 0 k) = 0 := by
  pointwise [k0_pay2, k0_pay59, k0_pay40, k0_pay61, k0_pay42]
  simp only [zero_sub, v_g0 X Y k a d hA hD, v_g1 X Y k a d hA hD, v_g2 X Y k a d hA hD 0 rfl, v_g3 X Y k a d hA hD 0 rfl, ← EReal.coe_neg, ← EReal.coe_sub, ← EReal.coe_add]
  rw [← EReal.coe_zero]
  congr 1
  have := gr_sum a d
  linarith

theorem value (i : Fin 4) : Value.G2 X Y (ix2 i k) = (gr a d i : EReal) := by
  have ht := v_total X Y k a d hA hD
  have hz : (Scalar.ofBits (F := Ideal) .f32 0x00000000#32 : EReal) = 0 := by
    change Ideal.ofBits .f32 _ = 0
    simp [Ideal.ofBits, Ideal.ieee]
  have g0 := v_g0 X Y k a d hA hD
  have g1 := v_g1 X Y k a d hA hD
  have g2 := v_g2 X Y k a d hA hD _ hz
  have g3 := v_g3 X Y k a d hA hD _ hz
  canon_tiles x h
  all_goals
    obtain rfl : x = ix2 0 k := by
      idx_vars x
      refine congrArg₂ ix2 (Subsingleton.elim _ _) (Fin.ext ?_)
      simpa using h1.symm
  · obtain rfl : i = 3 := by apply Fin.ext; simpa using h0
    pointwise [k0_pay5, k0_pay3]
    rw [ht, zero_mul, zero_mul, add_zero]
    exact v_g3 X Y k a d hA hD 0 rfl
  · obtain rfl : i = 2 := by apply Fin.ext; simpa using h0
    pointwise [k0_pay6, k0_pay3]
    rw [ht, zero_mul, zero_mul, add_zero]
    exact v_g2 X Y k a d hA hD 0 rfl
  · obtain rfl : i = 1 := by apply Fin.ext; simpa using h0
    pointwise [k0_pay7, k0_pay4]
    rw [ht, zero_mul, zero_mul, add_zero, g1]
  · obtain rfl : i = 0 := by apply Fin.ext; simpa using h0
    pointwise [k0_pay8, k0_pay4]
    rw [ht, zero_mul, zero_mul, add_zero, g0]

end

section
open Cert.LbRefIdeal Cert.LbRefIdeal.Gen

variable (x : Vec Ideal S4x1024 .f32) (k : Fin 1024)

/-- The window's positions, in order. -/
theorem win_pos : ∀ n : Fin 4, ((⟨2, ![4, 1]⟩ : Shape).rowMajor.symm n 0).val = n.val ∧ ((⟨2, ![4, 1]⟩ : Shape).rowMajor.symm n 1).val = 0 := by
  decide +kernel

theorem fold4 (q : Fin 4 → EReal) : List.foldl (fun r n => r + q n) 0 (List.finRange 4) = q 0 + q 1 + q 2 + q 3 := by
  simp [List.finRange_succ]

/-- The running sum's own gradient: the sum of the rows from a row on. -/
theorem suffix (i : Fin 4) (z : S_.Idx → EReal) (hz : z = fun _ => 0) (h : S4x1024.ReduceWindows ![4, 1] ![1, 1] ![0, 0] ![3, 0] S4x1024) (hu : 0 < S_.numel) :
    Host.reduceWindowAdd (F := Ideal) (φ := .f32) ![4, 1] ![1, 1] ![0, 0] ![3, 0] x z h hu (ix2 i k)
      = ∑ j : Fin 4, if h : i.val + j.val < 4 then x (ix2 (⟨i.val + j.val, h⟩ : Fin 4) k) else 0 := by
  subst hz
  change Host.reduceWindow (· + ·) _ _ _ _ x _ h _ (ix2 i k) = _
  unfold Host.reduceWindow
  change List.foldl _ _ (List.finRange 4) = _
  have f (j : Fin 4) : ∀ (p : Fin 2 → ℕ) (hp : p = ![i.val + j.val, k.val]) (D : Decidable (∀ b : Fin 2, (![0, 0] : Fin 2 → ℕ) b ≤ p b ∧ p b - (![0, 0] : Fin 2 → ℕ) b < S4x1024.size b)), (if hin : ∀ b : Fin 2, (![0, 0] : Fin 2 → ℕ) b ≤ p b ∧ p b - (![0, 0] : Fin 2 → ℕ) b < S4x1024.size b then x (fun b => ⟨p b - (![0, 0] : Fin 2 → ℕ) b, (hin b).2⟩) else (0 : EReal))
      = if h : i.val + j.val < 4 then x (ix2 (⟨i.val + j.val, h⟩ : Fin 4) k) else 0 := by
    rintro p rfl D
    by_cases hj : i.val + j.val < 4
    · rw [dif_pos hj, dif_pos]
      · refine congrArg x ?_; funext b; fin_cases b <;> rfl
      · intro b; fin_cases b
        · exact ⟨Nat.zero_le _, hj⟩
        · exact ⟨Nat.zero_le _, k.isLt⟩
    · rw [dif_neg hj, dif_neg]
      exact fun hin => hj (hin 0).2
  have w (n : Fin 4) : (fun b : Fin 2 => (ix2 i k b).val * (![1, 1] : Fin 2 → ℕ) b + ((⟨2, ![4, 1]⟩ : Shape).rowMajor.symm n b).val) = ![i.val + n.val, k.val] := by
    funext b
    have := win_pos n
    fin_cases b
    · exact congrArg₂ (· + ·) (Nat.mul_one _) this.1
    · exact congrArg₂ (· + ·) (Nat.mul_one _) this.2
  rw [Fin.sum_univ_four]
  refine (fold4 (fun n => _)).trans ?_
  exact congrArg₂ (· + ·) (congrArg₂ (· + ·) (congrArg₂ (· + ·) (f 0 _ (w 0) _) (f 1 _ (w 1) _)) (f 2 _ (w 2) _)) (f 3 _ (w 3) _)

end

section
open Cert.LbRefIdeal Cert.LbRefIdeal.Gen

variable (x : Vec Ideal S4x1024 .f32) (k : Fin 1024) (a d : Fin 4 → ℝ)

theorem drop_eq (i : Fin 4) (j : Fin 1024) : reducesTo_S4x1024_S1024_d0.drop (ix2 i j) = ix1 j := by
  funext b; fin_cases b; rfl

/-- The maximum the reference subtracts. -/
theorem fold_mx (D : DecidablePred fun i : S4x1024.Idx => reducesTo_S4x1024_S1024_d0.drop i = ix1 k) (hA : ∀ i, x (ix2 i k) = (a i : EReal)) :
    max (Ideal.ofBits .f32 4286578688#32) (Finset.fold max (Ideal.ofBits .f32 4286578688#32) x {i | reducesTo_S4x1024_S1024_d0.drop i = ix1 k}) = (mx a : EReal) := by
  have hb : Ideal.ofBits .f32 4286578688#32 = ⊥ := by simp [Ideal.ofBits, Ideal.ieee, -EReal.coe_mul]
  have hm (i : Fin 4) : a i ≤ mx a := by
    unfold mx; fin_cases i <;> simp
  rw [hb, max_eq_right bot_le]
  refine le_antisymm ((Finset.fold_max_le _).mpr ⟨bot_le, fun i hi => ?_⟩) ?_
  · idx_vars i
    rw [Finset.mem_filter, drop_eq] at hi
    obtain rfl : i1 = k := congrFun hi.2 0
    rw [hA]
    exact EReal.coe_le_coe_iff.mpr (hm i0)
  · have hle (i : Fin 4) : (a i : EReal) ≤ Finset.fold max ⊥ x {i | reducesTo_S4x1024_S1024_d0.drop i = ix1 k} := by
      rw [← hA]
      exact (Finset.le_fold_max _).mpr (.inr ⟨ix2 i k, Finset.mem_filter.mpr ⟨Finset.mem_univ _, drop_eq i k⟩, le_rfl⟩)
    rw [mx, ← coe_max, ← coe_max, ← coe_max]
    exact max_le (max_le (hle 0) (hle 1)) (max_le (hle 2) (hle 3))

/-- The rows' sums from a row on, at real arguments. -/
theorem suffix_real (hD : ∀ i, x (ix2 i k) = (d i : EReal)) (i : Fin 4) :
    Host.reduceWindowAdd (F := Ideal) (φ := .f32) ![4, 1] ![1, 1] ![0, 0] ![3, 0] (shapeCast S4x1024 x shapeCasts_S4x1024_S4x1024)
      (broadcastInDim S_ ![] bcast_S_S_ (constant S_ .f32 0#32)) reduceWindows_S4x1024_S4x1024_w4s1p0_3_w1s1p0_0 h_S_ (ix2 i k)
      = ((![d 0 + (d 1 + (d 2 + d 3)), dd d 1, dd d 2, dd d 3] i : ℝ) : EReal) := by
  have e : shapeCast S4x1024 x shapeCasts_S4x1024_S4x1024 = x := by
    funext j; idx_vars j; pointwise
  rw [e, suffix x k i _ (by funext j; pointwise)]
  fin_cases i <;> simp [Fin.sum_univ_four, hD, dd, ← EReal.coe_add, add_assoc] <;> rfl

end

theorem algebraic : Cert.algebraic_LbKernelIdeal_LbRefIdeal_pre_lb_finite := by
  pair_intro
  · run_from Cert.LbKernelIdeal.Value.run m g
  · refine (θ_run _ _ _).mono (fun r h c => ⟨(h c).1.trans ?_, (h c).2⟩) (Cert.LbRefIdeal.Value.run m' g')
    clear h
    obtain ⟨a0, a1⟩ := hagree c
    obtain ⟨hl, hd⟩ := hpre c
    have pl (i : Fin 4) (k : Fin 1024) : ∃ r : ℝ, m' (c.tc.loc Cert.LbRefIdeal.main_arg0) (ix2 i k) = (r : EReal) := by
      have := congrFun hl (ix2 i k)
      revert this
      rw [← a0]
      pointwise [Cert.Pre_lb_finite.fn]
      exact real_of_test
    have pd (i : Fin 4) (k : Fin 1024) : ∃ r : ℝ, m' (c.tc.loc Cert.LbRefIdeal.main_arg1) (ix2 i k) = (r : EReal) := by
      have := congrFun hd (ix2 i k)
      revert this
      rw [← a1]
      pointwise [Cert.Pre_lb_finite.fn]
      exact real_of_test
    rw [← a0, ← a1]
    generalize m' (c.tc.loc Cert.LbRefIdeal.main_arg0) = x at pl ⊢
    generalize m' (c.tc.loc Cert.LbRefIdeal.main_arg1) = y at pd ⊢
    clear a0 a1 hl hd hpre hagree
    funext j
    idx_vars j
    choose a ha using fun i => pl i j1
    choose d hd using fun i => pd i j1
    refine Eq.trans ?_ (value x y j1 a d ha hd j0).symm
    pointwise
    erw [fold_mx x j1 a _ ha]
    have he (i : Fin 4) : Ideal.exp ((a i : EReal) - (mx a : EReal)) = (ex a i : EReal) := by
      rw [← EReal.coe_sub, Ideal.exp_coe]; rfl
    have hs : (ex a 0 : EReal) + ex a 1 + ex a 2 + ex a 3 = (sm a : EReal) := by
      simp only [← EReal.coe_add]; rfl
    simp only [fold_mx x j1 a _ ha, suffix_real y j1 d hd, ha, hd, he, Fin.sum_univ_four, Fin.sum_univ_three]
    rw [hs]
    simp only [Finset.univ_unique, Finset.sum_singleton]
    generalize hr : ![d 0 + (d 1 + (d 2 + d 3)), dd d 1, dd d 2, dd d 3] = r
    have r0 : -(d 0 : EReal) + -(d 1 : EReal) + -(d 2 : EReal) + -(d 3 : EReal) + (r 0 : EReal) = (dd d 0 : EReal) := by
      simp only [← EReal.coe_neg, ← EReal.coe_add]
      refine congrArg _ ?_
      rw [← hr]
      change -d 0 + -d 1 + -d 2 + -d 3 + (d 0 + (d 1 + (d 2 + d 3))) = 0
      ring
    have r1 (p) : r ⟨1 + ((0 : Fin 3) : ℕ), p⟩ = dd d 1 := by rw [← hr]; rfl
    have r2 (p) : r ⟨1 + ((1 : Fin 3) : ℕ), p⟩ = dd d 2 := by rw [← hr]; rfl
    have r3 (p) : r ⟨1 + ((2 : Fin 3) : ℕ), p⟩ = dd d 3 := by rw [← hr]; rfl
    have e1 (p) : ex a ⟨1 + ((0 : Fin 3) : ℕ), p⟩ = ex a 1 := rfl
    have e2 (p) : ex a ⟨1 + ((1 : Fin 3) : ℕ), p⟩ = ex a 2 := rfl
    have e3 (p) : ex a ⟨1 + ((2 : Fin 3) : ℕ), p⟩ = ex a 3 := rfl
    have hj : ((if h : j0.val < 1 then -(d 0 : EReal) + -(d 1 : EReal) + -(d 2 : EReal) + -(d 3 : EReal) else 0) + (r j0 : EReal)) = (dd d j0 : EReal) := by
      obtain h | h | h | h : j0 = 0 ∨ j0 = 1 ∨ j0 = 2 ∨ j0 = 3 := by revert j0; decide
      all_goals subst h
      · exact r0
      · exact (zero_add _).trans (congrArg _ (r1 (by decide)))
      · exact (zero_add _).trans (congrArg _ (r2 (by decide)))
      · exact (zero_add _).trans (congrArg _ (r3 (by decide)))
    rw [hj, r0]
    simp only [r1, r2, r3, e1, e2, e3]
    rw [← EReal.coe_mul, ← EReal.coe_one, Ideal.div_coe (sm_ne a), Ideal.div_coe (mul_ne_zero (sm_ne a) (sm_ne a))]
    simp only [← EReal.coe_mul, ← EReal.coe_add, ← EReal.coe_neg]
    refine congrArg _ ?_
    unfold gr dt
    rw [one_mul, one_div, one_div]
    ring

end Cert.Own.Lb

end
-- ==== Proof.SwfCom.lean ====
module

public import proofs.«01_k».proof.Proof.Lib
public import Idealize.ShloMosaic.PureOps.Ideal
public import Idealize.ShloMosaic.PureOps.Ideal.Laws
public import Idealize.ShloMosaic.Lib.Pointwise

/-! What the two sides of the windowed attention share: the rotation, the mask and the weighted sum of one query. -/

@[expose] public section

set_option maxRecDepth 16384

noncomputable section

namespace Cert.Own.Swf

open Idealize.ShloMosaic

/-- The inverse frequency of a pair of columns. -/
def freqv (l : ℕ) : EReal :=
  Ideal.pow (Ideal.ofBits .f32 0x48F42400#32) (Ideal.div (-FloatOps.sitofp (F := Ideal) .f32 (BitVec.ofNat 32 l) * Ideal.ofBits .f32 0x40000000#32) (Ideal.ofBits .f32 0x41800000#32))

/-- The angle of a position at a pair of columns. -/
def angv (t l : ℕ) : EReal := FloatOps.sitofp (F := Ideal) .f32 (BitVec.ofNat 32 t) * freqv l

/-- One head's columns, the first sixteen rotated. -/
def rope (t : ℕ) (x : Fin 64 → EReal) (d : Fin 64) : EReal :=
  if h : d.val < 16 then
    if d.val < 8 then x d * Ideal.cos (angv t d) - x ⟨8 + d, by omega⟩ * Ideal.sin (angv t d)
    else x d * Ideal.cos (angv t (d - 8)) + x ⟨d - 8, by omega⟩ * Ideal.sin (angv t (d - 8))
  else x d

/-- Whether query `i` of block `n` sees key `s` of its window. -/
def sees (n i s : ℕ) : BitVec 1 :=
  IntOp.andi (IntOp.andi (IntOp.cmpi .sge (IntOp.subi (IntOp.addi (BitVec.ofNat 32 i) 128#32) (BitVec.ofNat 32 s)) 0#32)
    (IntOp.cmpi .slt (IntOp.subi (IntOp.addi (BitVec.ofNat 32 i) 128#32) (BitVec.ofNat 32 s)) 128#32))
    (IntOp.ori (IntOp.cmpi .sge (BitVec.ofNat 32 s) 128#32) (IntOp.cmpi .sgt (BitVec.ofNat 32 n) 0#32))

theorem real_mul {x y : EReal} (hx : ∃ r : ℝ, x = r) (hy : ∃ r : ℝ, y = r) : ∃ r : ℝ, x * y = (r : EReal) := by
  obtain ⟨a, rfl⟩ := hx; obtain ⟨b, rfl⟩ := hy
  exact ⟨a * b, (EReal.coe_mul a b).symm⟩

theorem real_add {x y : EReal} (hx : ∃ r : ℝ, x = r) (hy : ∃ r : ℝ, y = r) : ∃ r : ℝ, x + y = (r : EReal) := by
  obtain ⟨a, rfl⟩ := hx; obtain ⟨b, rfl⟩ := hy
  exact ⟨a + b, (EReal.coe_add a b).symm⟩

theorem real_sub {x y : EReal} (hx : ∃ r : ℝ, x = r) (hy : ∃ r : ℝ, y = r) : ∃ r : ℝ, x - y = (r : EReal) := by
  obtain ⟨a, rfl⟩ := hx; obtain ⟨b, rfl⟩ := hy
  exact ⟨a - b, (EReal.coe_sub a b).symm⟩

theorem ofBits_two : Ideal.ofBits .f32 0x40000000#32 = ((2 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_base : Ideal.ofBits .f32 0x48F42400#32 = ((500000 : ℝ) : EReal) := by
  simp [Ideal.ofBits, Ideal.ieee, -EReal.coe_mul]; norm_num

theorem freqv_real (l : ℕ) : ∃ r : ℝ, freqv l = r := by
  unfold freqv
  rw [ofBits_two, ofBits_sixteen, ofBits_base, Ideal.div_coe (by norm_num)]
  obtain ⟨a, ha⟩ : ∃ a : ℝ, -FloatOps.sitofp (F := Ideal) .f32 (BitVec.ofNat 32 l) * ((2 : ℝ) : EReal) * ((1 / 16 : ℝ) : EReal) = (a : EReal) :=
    real_mul (real_mul ⟨-((BitVec.ofNat 32 l).toInt : ℝ), (EReal.coe_neg _).symm⟩ ⟨2, rfl⟩) ⟨1 / 16, rfl⟩
  rw [ha]
  exact ⟨_, rfl⟩

theorem angv_real (t l : ℕ) : ∃ r : ℝ, angv t l = r := real_mul ⟨_, rfl⟩ (freqv_real l)

theorem cos_real {x : EReal} (h : ∃ r : ℝ, x = r) : ∃ r : ℝ, Ideal.cos x = r := by
  obtain ⟨a, rfl⟩ := h; exact ⟨_, rfl⟩

theorem sin_real {x : EReal} (h : ∃ r : ℝ, x = r) : ∃ r : ℝ, Ideal.sin x = r := by
  obtain ⟨a, rfl⟩ := h; exact ⟨_, rfl⟩

theorem rope_real (t : ℕ) (x : Fin 64 → EReal) (h : ∀ e, ∃ r : ℝ, x e = r) (d : Fin 64) : ∃ r : ℝ, rope t x d = r := by
  unfold rope
  split_ifs
  · exact real_sub (real_mul (h _) (cos_real (angv_real _ _))) (real_mul (h _) (sin_real (angv_real _ _)))
  · exact real_add (real_mul (h _) (cos_real (angv_real _ _))) (real_mul (h _) (sin_real (angv_real _ _)))
  · exact h _

/-- A sum over two heads' columns with one head's terms only. -/
theorem sum_lo (f : Fin 128 → EReal) (g : Fin 64 → EReal) (h0 : ∀ l : Fin 64, f ⟨l, by omega⟩ = g l) (h1 : ∀ l : Fin 64, f ⟨64 + l, by omega⟩ = 0) :
    ∑ y, f y = ∑ y, g y := by
  rw [show ∑ y, f y = ∑ y : Fin (64 + 64), f y from rfl, Fin.sum_univ_add]
  rw [Finset.sum_congr rfl (fun l _ => show f (Fin.natAdd 64 l) = 0 from h1 l), Finset.sum_const_zero, add_zero]
  exact Finset.sum_congr rfl fun l _ => h0 l

theorem sum_hi (f : Fin 128 → EReal) (g : Fin 64 → EReal) (h0 : ∀ l : Fin 64, f ⟨l, by omega⟩ = 0) (h1 : ∀ l : Fin 64, f ⟨64 + l, by omega⟩ = g l) :
    ∑ y, f y = ∑ y, g y := by
  rw [show ∑ y, f y = ∑ y : Fin (64 + 64), f y from rfl, Fin.sum_univ_add]
  rw [Finset.sum_congr rfl (fun l _ => show f (Fin.castAdd 64 l) = 0 from h0 l), Finset.sum_const_zero, zero_add]
  exact Finset.sum_congr rfl fun l _ => h1 l

/-- A nonnegative real factor out of a sum. -/
theorem sum_scale {n : ℕ} (a b : Fin n → EReal) {c : EReal} (h : 0 ≤ c) (h' : c ≠ ⊤) : ∑ y, a y * (b y * c) = (∑ y, a y * b y) * c := by
  have key : ∀ s : Finset (Fin n), ∑ y ∈ s, a y * (b y * c) = (∑ y ∈ s, a y * b y) * c := by
    intro s
    induction s using Finset.induction_on with
    | empty => simp
    | insert x s hx ih => rw [Finset.sum_insert hx, Finset.sum_insert hx, ih, EReal.right_distrib_of_nonneg_of_ne_top h h', mul_assoc]
  exact key _

theorem eighth_nonneg : (0 : EReal) ≤ Ideal.ofBits .f32 0x3E000000#32 := by
  rw [ofBits_eighth]; exact_mod_cast (by norm_num : (0 : ℝ) ≤ 1 / 8)

theorem eighth_ne_top : Ideal.ofBits .f32 0x3E000000#32 ≠ ⊤ := by
  rw [ofBits_eighth]; exact EReal.coe_ne_top _

/-- The greatest of a row and its sink. -/
def peak (S : Fin 256 → EReal) (z : EReal) : EReal := max ((Finset.univ : Finset (Fin 256)).fold max ⊥ S) z

theorem peak_real (S : Fin 256 → EReal) (z : EReal) (hz : ∃ r : ℝ, z = r) (hS : ∀ x, S x = ⊥ ∨ ∃ r : ℝ, S x = r) : ∃ r : ℝ, peak S z = r := by
  obtain ⟨a, rfl⟩ := hz
  have h1 : ((a : ℝ) : EReal) ≤ peak S a := le_max_right _ _
  have h2 : peak S a < ⊤ := by
    refine max_lt ?_ (EReal.coe_lt_top a)
    refine (Finset.fold_max_lt _).mpr ⟨bot_lt_top, fun x _ => ?_⟩
    rcases hS x with h | ⟨r, h⟩ <;> rw [h]
    · exact bot_lt_top
    · exact EReal.coe_lt_top r
  generalize peak S a = p at *
  induction p using EReal.rec with
  | bot => exact absurd (h1.trans_lt (EReal.bot_lt_coe 0)) (fun h => by exact absurd h1 (not_le.mpr (EReal.bot_lt_coe a)))
  | top => exact absurd h2 (lt_irrefl _)
  | coe r => exact ⟨r, rfl⟩

/-- One query's weighted values, the weights divided by their sum: by a reciprocal or by the quotient. -/
theorem weigh (S : Fin 256 → EReal) (z : EReal) (v w : Fin 256 → EReal) (hz : ∃ r : ℝ, z = r)
    (hS : ∀ x, S x = ⊥ ∨ ∃ r : ℝ, S x = r) (hv : ∀ x, S x = ⊥ ∨ v x = w x) :
    ∑ x, Ideal.exp (S x - peak S z) * Ideal.div 1 (∑ y, Ideal.exp (S y - peak S z) + Ideal.exp (z - peak S z)) * v x
      = ∑ x, w x * Ideal.div (Ideal.exp (S x - peak S z)) (∑ y, Ideal.exp (S y - peak S z) + Ideal.exp (z - peak S z)) := by
  obtain ⟨p, hp⟩ := peak_real S z hz hS
  rw [hp]
  obtain ⟨a, rfl⟩ := hz
  have e0 : ∀ x, ∃ r : ℝ, 0 ≤ r ∧ Ideal.exp (S x - (p : EReal)) = r := by
    intro x
    rcases hS x with h | ⟨r, h⟩ <;> rw [h]
    · exact ⟨0, le_refl _, by simp⟩
    · rw [← EReal.coe_sub]; exact ⟨_, (Real.exp_pos _).le, Ideal.exp_coe _⟩
  choose e he he' using e0
  have hD : ∑ y, Ideal.exp (S y - (p : EReal)) + Ideal.exp ((a : EReal) - (p : EReal)) = ((∑ y, e y + Real.exp (a - p) : ℝ) : EReal) := by
    simp only [he']
    rw [← EReal.coe_sub, Ideal.exp_coe, EReal.coe_add]
    congr 1
  have hne : (∑ y, e y + Real.exp (a - p) : ℝ) ≠ 0 :=
    (add_pos_of_nonneg_of_pos (Finset.sum_nonneg fun y _ => he y) (Real.exp_pos _)).ne'
  rw [hD]
  refine Finset.sum_congr rfl fun x _ => ?_
  rw [Ideal.div_coe hne, Ideal.div_coe hne, one_mul]
  rcases hv x with h | h
  · rw [h]; simp
  · rw [h, mul_comm]

/-- The array at natural indices. -/
def xn (A : Fin 16384 → Fin 7680 → EReal) (r k : ℕ) : EReal := if h : r < 16384 ∧ k < 7680 then A ⟨r, h.1⟩ ⟨k, h.2⟩ else 0

theorem xn_eq (A : Fin 16384 → Fin 7680 → EReal) (r : Fin 16384) (k : Fin 7680) : A r k = xn A r.val k.val := by
  unfold xn; rw [dif_pos ⟨r.isLt, k.isLt⟩]

theorem xn_real (A : Fin 16384 → Fin 7680 → EReal) (h : ∀ r k, ∃ a : ℝ, A r k = a) (r k : ℕ) : ∃ a : ℝ, xn A r k = a := by
  unfold xn
  split_ifs
  · exact h _ _
  · exact ⟨0, EReal.coe_zero.symm⟩

/-- Row `r` of the head whose columns start at `o`, rotated. -/
def rk (A : Fin 16384 → Fin 7680 → EReal) (o r : ℕ) (d : Fin 64) : EReal := rope r (fun e => xn A r (o + e)) d

/-- Key `s` of block `n`'s window. -/
def key (A : Fin 16384 → Fin 7680 → EReal) (o n s : ℕ) (d : Fin 64) : EReal :=
  if s < 128 then rk A o (128 * (n - 1) + s) d else rk A o (128 * n + (s - 128)) d

/-- Value `s` of block `n`'s window. -/
def val (A : Fin 16384 → Fin 7680 → EReal) (o n s d : ℕ) : EReal :=
  if s < 128 then xn A (128 * (n - 1) + s) (o + d) else xn A (128 * n + (s - 128)) (o + d)

/-- The masked scores of query `i` of block `n`. -/
def score (A : Fin 16384 → Fin 7680 → EReal) (ok oq n i : ℕ) (s : Fin 256) : EReal :=
  Scalar.select (sees n i s) ((∑ y, key A ok n s y * rk A oq (128 * n + i) y) * Ideal.ofBits .f32 0x3E000000#32) ⊥

/-- The weighted values of query `i` of block `n`. -/
def att (A : Fin 16384 → Fin 7680 → EReal) (ok ov oq n i : ℕ) (z : EReal) (d : ℕ) : EReal :=
  ∑ x, Ideal.exp (score A ok oq n i x - peak (score A ok oq n i) z)
    * Ideal.div 1 (∑ y, Ideal.exp (score A ok oq n i y - peak (score A ok oq n i) z) + Ideal.exp (z - peak (score A ok oq n i) z)) * val A ov n x d

theorem key_real (A : Fin 16384 → Fin 7680 → EReal) (h : ∀ r k, ∃ a : ℝ, A r k = a) (o n s : ℕ) (d : Fin 64) : ∃ a : ℝ, key A o n s d = a := by
  unfold key rk
  split_ifs <;> exact rope_real _ _ (fun e => xn_real A h _ _) d

theorem select_zero {α : Type} (x y : α) : Scalar.select 0#1 x y = y := rfl

theorem select_or {α : Type} (b : BitVec 1) (x y : α) : Scalar.select b x y = x ∨ Scalar.select b x y = y := by
  obtain rfl | rfl : b = 0#1 ∨ b = 1#1 := by revert b; decide
  · exact .inr rfl
  · exact .inl rfl

theorem score_real (A : Fin 16384 → Fin 7680 → EReal) (h : ∀ r k, ∃ a : ℝ, A r k = a) (ok oq n i : ℕ) (s : Fin 256) :
    score A ok oq n i s = ⊥ ∨ ∃ a : ℝ, score A ok oq n i s = a := by
  unfold score
  rcases select_or (sees n i s) ((∑ y, key A ok n s y * rk A oq (128 * n + i) y) * Ideal.ofBits .f32 0x3E000000#32) ⊥ with e | e <;> rw [e]
  · refine .inr (real_mul (sum_real _ fun y => real_mul (key_real A h _ _ _ _) (rope_real _ _ (fun e => xn_real A h _ _) y)) ⟨_, ofBits_eighth⟩)
  · exact .inl rfl

/-- The first block has no block before it. -/
theorem sees_first (i : ℕ) (s : Fin 256) (h : s.val < 128) : sees 0 i s = 0#1 := by
  unfold sees
  rw [(by decide +kernel : ∀ s : Fin 256, s.val < 128 → IntOp.ori (IntOp.cmpi .sge (BitVec.ofNat 32 s.val) 128#32) (IntOp.cmpi .sgt (BitVec.ofNat 32 0) 0#32) = 0#1) s h]
  exact BitVec.and_zero

theorem score_first (A : Fin 16384 → Fin 7680 → EReal) (ok oq i : ℕ) (s : Fin 256) (h : s.val < 128) : score A ok oq 0 i s = ⊥ := by
  unfold score
  rw [sees_first i s h, select_zero]

end Cert.Own.Swf

end
-- ==== Proof.SwfHead.lean ====
module

public import proofs.«01_k».proof.Defs
public import proofs.«01_k».proof.Proof.Lib
public import proofs.«01_k».proof.Proof.SwfCom
public import proofs.«01_k».proof.Proof.Gen.SwfKernelIdeal.Value
public import Idealize.ShloMosaic.Lib.Pipeline.ValueKit
public import Idealize.ShloMosaic.Lib.Claim
public import Idealize.ShloMosaic.Lib.Pointwise

/-! The windowed attention's kernel body in named steps, each at an index. -/

@[expose] public section

set_option maxRecDepth 65536

noncomputable section

namespace Cert.Own.Swf.K

open Idealize.ShloMosaic Idealize.ShloMosaic.TcCoe Idealize.SL.Sem
open Cert.SwfKernelIdeal Cert.SwfKernelIdeal.Gen

variable {F : FTy → Type} [FloatOps F]

/-- Two heads' columns, rotated by the three tables. -/
def turn (c u d : FVec F S128x128 .f32) (x : FVec F S128x128 .f32) : FVec F S128x128 .f32 :=
  addf (addf (mulf x c) (mulf (dynamicRotate 1 120#32 none x rotates_S128x128_d1) u)) (mulf (dynamicRotate 1 8#32 none x rotates_S128x128_d1) d)

/-- The masked scores of one head. -/
def sc (mask : IVec S256x128 1) (kd : FVec F S256x128 .bf16) (qm : FVec F S128x128 .f32) : FVec F S256x128 .f32 :=
  select mask (matmul dot_S256x128_S128x128_S256x128_1_1_0_0_n_n none kd (truncf .bf16 qm bitsLt_bf16_f32) (constant S256x128 .f32 0x00000000#32)) (broadcast S256x128 (Scalar.ofBits .f32 0xFF800000#32))

/-- Each query's maximum, the sink included. -/
def mx (s : FVec F S256x128 .f32) (z : Elt F .f32) : FVec F S1x128 .f32 :=
  maximumf (shapeCast S1x128 (multiReduction .maximumf [0] S128 s 0xFF800000#32 reduces_S256x128_S128 (.inl rfl) rfl) shapeCasts_S128_S1x128) (broadcast S1x128 z)

/-- The exponentials. -/
def ex (s : FVec F S256x128 .f32) (z : Elt F .f32) : FVec F S256x128 .f32 :=
  exp (subf s (broadcastTo S256x128 (mx s z) broadcasts_S1x128_S256x128))

/-- Their sum, the sink included. -/
def dn (s : FVec F S256x128 .f32) (z : Elt F .f32) : FVec F S1x128 .f32 :=
  addf (shapeCast S1x128 (multiReduction .add [0] S128 (ex s z) 0x00000000#32 reduces_S256x128_S128 (.inl rfl) rfl) shapeCasts_S128_S1x128) (exp (subf (broadcast S1x128 z) (mx s z)))

/-- One head's result, over two heads' columns. -/
def hd (s : FVec F S256x128 .f32) (vd : FVec F S256x128 .bf16) (z : Elt F .f32) : FVec F S128x128 .f32 :=
  matmul dot_S256x128_S256x128_S128x128_0_0_1_1_n_n none (truncf .bf16 (mulf (ex s z) (broadcastTo S256x128 (divf (broadcast S1x128 (Scalar.ofBits .f32 0x3F800000#32)) (dn s z)) broadcasts_S1x128_S256x128)) bitsLt_bf16_f32) vd (constant S128x128 .f32 0x00000000#32)

/-- The queries of one head, the other head's columns zero. -/
def half (own : IVec S128x128 1) (q : FVec F S128x128 .f32) : FVec F S128x128 .f32 :=
  select own q (broadcast S128x128 (Scalar.ofBits .f32 0x00000000#32))

/-- The complement of a mask. -/
def co (up : IVec S128x128 1) : IVec S128x128 1 := xori up (constantI S128x128 1 1#1)

/-- Scaled rotated queries. -/
def qs (c u d : FVec F S128x128 .f32) (x : FVec F S128x128 .f32) : FVec F S128x128 .f32 :=
  mulf (turn c u d x) (broadcast S128x128 (Scalar.ofBits .f32 0x3E000000#32))

/-- Two heads' results. -/
def two (mask : IVec S256x128 1) (up : IVec S128x128 1) (kd vd : FVec F S256x128 .bf16) (q : FVec F S128x128 .f32) (z0 z1 : Elt F .f32) : FVec F S128x128 .bf16 :=
  truncf .bf16 (select up (hd (sc mask kd (half up q)) vd z1) (hd (sc mask kd (half (co up) q)) vd z0)) bitsLt_bf16_f32

theorem pays0 (mask : IVec S256x128 1) (up : IVec S128x128 1) (kd vd : FVec F S256x128 .bf16) (q : FVec F S128x128 .f32) (z0 z1 : Elt F .f32) :
    k0_pay19 up vd (k0_pay16 mask up kd vd q z0) z1 (k0_pay17 mask up kd q) (k0_pay18 mask up kd q) = two mask up kd vd q z0 z1 := rfl

theorem pays1 (c u d x : FVec F S128x128 .f32) (mask : IVec S256x128 1) (up : IVec S128x128 1) (kd vd : FVec F S256x128 .bf16) (z0 z1 : Elt F .f32) :
    k0_pay28 up vd (k0_pay22 mask vd z0 (k0_pay21 c u d up kd x)) (k0_pay25 mask up kd (k0_pay20 c u d x) z1) (k0_pay26 mask up kd (k0_pay20 c u d x) z1) (k0_pay27 mask up kd (k0_pay20 c u d x) z1)
      = two mask up kd vd (qs c u d x) z0 z1 := rfl

theorem pays2 (c u d x : FVec F S128x128 .f32) (k kr : FVec F S256x128 .f32) (mask upk : IVec S256x128 1) (up : IVec S128x128 1) (vd : FVec F S256x128 .bf16) (z0 z1 : Elt F .f32) :
    k0_pay37 up vd (k0_pay35 vd z0 (k0_pay32 c u d k mask kr upk up x) (k0_pay33 c u d k mask kr upk up x) (k0_pay34 z0)) (k0_pay36 mask up (k0_pay29 k kr upk) (k0_pay31 c u d x) z1)
      = two mask up (k0_pay29 k kr upk) vd (qs c u d x) z0 z1 := rfl

theorem pays3 (c u d x : FVec F S128x128 .f32) (mask : IVec S256x128 1) (up : IVec S128x128 1) (kd vd : FVec F S256x128 .bf16) (z0 z1 : Elt F .f32) :
    k0_pay1 (k0_pay43 mask up kd vd (k0_pay38 c u d x) (k0_pay41 c u d mask up kd x z0) (k0_pay42 c u d mask up kd x z0) z1)
      = two mask up kd vd (qs c u d x) z0 z1 := rfl

/-! At an index -/

/-- A select at an index whose mask compares the column with 64. -/
theorem up_lo (l : Fin 128) (h : l.val < 64) : IntOp.cmpi .sge (BitVec.ofNat 32 l.val) 64#32 = 0#1 := by
  revert l; decide +kernel

theorem up_hi (l : Fin 128) (h : ¬ l.val < 64) : IntOp.cmpi .sge (BitVec.ofNat 32 l.val) 64#32 = 1#1 := by
  revert l; decide +kernel

theorem turn_apply (c u d x : FVec Ideal S128x128 .f32) (i l : Fin 128) : turn c u d x (ix2 i l)
    = x (ix2 i l) * c (ix2 i l) + x (ix2 i ⟨(l + 128 - 120) % 128, by omega⟩) * u (ix2 i l) + x (ix2 i ⟨(l + 128 - 8) % 128, by omega⟩) * d (ix2 i l) := by
  pointwise [turn]

theorem qs_apply (c u d x : FVec Ideal S128x128 .f32) (i l : Fin 128) : qs c u d x (ix2 i l)
    = turn c u d x (ix2 i l) * Ideal.ofBits .f32 0x3E000000#32 := by
  pointwise [qs]

theorem sc_apply (mask : IVec S256x128 1) (kd : FVec Ideal S256x128 .bf16) (qm : FVec Ideal S128x128 .f32) (s : Fin 256) (i : Fin 128) :
    sc mask kd qm (ix2 s i) = Scalar.select (mask (ix2 s i)) (∑ x, kd (ix2 s x) * qm (ix2 i x)) ⊥ := by
  pointwise [sc]
  rw [ofBits_ninf]

theorem mx_apply (s : FVec Ideal S256x128 .f32) (z : Ideal .f32) (i : Fin 128) : mx (F := Ideal) s z (ix2 0 i)
    = max ((Finset.univ : Finset (Fin 256)).fold max ⊥ fun x => s (ix2 x i)) z := by
  pointwise [mx]
  rw [ofBits_ninf]

theorem ex_apply (s : FVec Ideal S256x128 .f32) (z : Ideal .f32) (k : Fin 256) (i : Fin 128) : ex (F := Ideal) s z (ix2 k i) = Ideal.exp (s (ix2 k i) - mx (F := Ideal) s z (ix2 0 i)) := by
  pointwise [ex]

theorem dn_apply (s : FVec Ideal S256x128 .f32) (z : Ideal .f32) (i : Fin 128) : dn (F := Ideal) s z (ix2 0 i)
    = ∑ x, ex (F := Ideal) s z (ix2 x i) + Ideal.exp (z - mx (F := Ideal) s z (ix2 0 i)) := by
  pointwise [dn]

theorem hd_apply (s : FVec Ideal S256x128 .f32) (vd : FVec Ideal S256x128 .bf16) (z : Ideal .f32) (i l : Fin 128) : hd (F := Ideal) s vd z (ix2 i l)
    = ∑ x, ex (F := Ideal) s z (ix2 x i) * Ideal.div 1 (dn (F := Ideal) s z (ix2 0 i)) * vd (ix2 x l) := by
  pointwise [hd]

theorem half_apply (own : IVec S128x128 1) (q : FVec Ideal S128x128 .f32) (i l : Fin 128) : half own q (ix2 i l) = Scalar.select (own (ix2 i l)) (q (ix2 i l)) 0 := by
  pointwise [half]

theorem up_apply (i l : Fin 128) : k0_pay11 (ix2 i l) = if l.val < 64 then 0#1 else 1#1 := by
  pointwise [k0_pay11]
  split_ifs with h
  · exact up_lo l h
  · exact up_hi l h

theorem co_apply (i l : Fin 128) : co k0_pay11 (ix2 i l) = if l.val < 64 then 1#1 else 0#1 := by
  have := up_apply i l
  pointwise [co]
  rw [this]
  split_ifs <;> rfl

theorem two_lo (mask : IVec S256x128 1) (kd vd : FVec Ideal S256x128 .bf16) (q : FVec Ideal S128x128 .f32) (z0 z1 : Ideal .f32) (i l : Fin 128) (h : l.val < 64) :
    two (F := Ideal) mask k0_pay11 kd vd q z0 z1 (ix2 i l) = hd (F := Ideal) (sc mask kd (half (co k0_pay11) q)) vd z0 (ix2 i l) := by
  have := up_apply i l
  pointwise [two]
  rw [this, if_pos h]; rfl

theorem two_hi (mask : IVec S256x128 1) (kd vd : FVec Ideal S256x128 .bf16) (q : FVec Ideal S128x128 .f32) (z0 z1 : Ideal .f32) (i l : Fin 128) (h : ¬ l.val < 64) :
    two (F := Ideal) mask k0_pay11 kd vd q z0 z1 (ix2 i l) = hd (F := Ideal) (sc mask kd (half k0_pay11 q)) vd z1 (ix2 i l) := by
  have := up_apply i l
  pointwise [two]
  rw [this, if_neg h]; rfl

/-- The first key head's columns, twice. -/
theorem kd0_apply (x : FVec Ideal S256x128 .f32) (s : Fin 256) (l : Fin 128) : k0_pay13 x (ix2 s l) = x (ix2 s ⟨l % 64, by omega⟩) := by
  pointwise [k0_pay13, k0_pay12, k0_pay10, k0_pay8]
  by_cases h : l.val < 64
  · rw [up_lo l h]
    change x (ix2 s l) = _
    blk_ext
  · rw [up_hi l h]
    change x (ix2 s ⟨(l + 128 - 64) % 128, _⟩) = _
    blk_ext

theorem vd0_apply (x : FVec Ideal S256x128 .f32) (s : Fin 256) (l : Fin 128) : k0_pay14 x (ix2 s l) = x (ix2 s ⟨l % 64, by omega⟩) := kd0_apply x s l

/-- The second key head's columns, twice. -/
theorem kd1_apply (x : FVec Ideal S256x128 .f32) (s : Fin 256) (l : Fin 128) : k0_pay29 x (k0_pay8 x) k0_pay10 (ix2 s l) = x (ix2 s ⟨64 + l % 64, by omega⟩) := by
  pointwise [k0_pay29, k0_pay10, k0_pay8]
  by_cases h : l.val < 64
  · rw [up_lo l h]
    change x (ix2 s ⟨(l + 128 - 64) % 128, _⟩) = _
    blk_ext
  · rw [up_hi l h]
    change x (ix2 s l) = _
    blk_ext

theorem vd1_apply (x : FVec Ideal S256x128 .f32) (s : Fin 256) (l : Fin 128) : k0_pay30 x (k0_pay9 x) k0_pay10 (ix2 s l) = x (ix2 s ⟨64 + l % 64, by omega⟩) := kd1_apply x s l

theorem cat_apply (x y : FVec Ideal S128x128 .f32) (s : Fin 256) (l : Fin 128) : k0_pay6 (F := Ideal) x y (ix2 s l)
    = if h : s.val < 128 then x (ix2 ⟨s, h⟩ l) else y (ix2 ⟨s - 128, by omega⟩ l) := by
  pointwise [k0_pay6]

theorem cast_self (x : FVec Ideal S128x128 .f32) (h : S128x128.ShapeCasts S128x128) : shapeCast S128x128 x h = x := by
  funext y
  pointwise []

theorem tab_c (x : FVec Ideal S128x128 .f32) : k0_pay2 (F := Ideal) x = x := cast_self x _
theorem tab_u (x : FVec Ideal S128x128 .f32) : k0_pay3 (F := Ideal) x = x := cast_self x _
theorem tab_d (x : FVec Ideal S128x128 .f32) : k0_pay4 (F := Ideal) x = x := cast_self x _

theorem keys_cast (c u d c' u' d' x x' : FVec F S128x128 .f32) :
    k0_pay5 c u d c' u' d' x' x = k0_pay6 (F := F) (turn (F := F) (k0_pay2 c') (k0_pay3 u') (k0_pay4 d') x') (turn (F := F) (k0_pay2 c) (k0_pay3 u) (k0_pay4 d) x) := rfl

/-- The keys of a window: the block before, then the block, each rotated. -/
theorem keys_eq (c u d c' u' d' x x' : FVec Ideal S128x128 .f32) :
    k0_pay5 (F := Ideal) c u d c' u' d' x' x = k0_pay6 (F := Ideal) (turn (F := Ideal) c' u' d' x') (turn (F := Ideal) c u d x) := by
  rw [keys_cast, tab_c, tab_u, tab_d, tab_c, tab_u, tab_d]

/-- Two heads' columns rotated by tables of the cosine and the sine are each head's columns rotated. -/
theorem turn_rope (c u d x : FVec Ideal S128x128 .f32) (A : Fin 16384 → Fin 7680 → EReal) (o r : ℕ) (i l : Fin 128)
    (hc : c (ix2 i l) = if l.val % 64 < 16 then Ideal.cos (angv r (l % 8)) else 1)
    (hu : u (ix2 i l) = if l.val % 64 < 8 then -Ideal.sin (angv r (l % 8)) else 0)
    (hd : d (ix2 i l) = if 8 ≤ l.val % 64 ∧ l.val % 64 < 16 then Ideal.sin (angv r (l % 8)) else 0)
    (hx : ∀ l : Fin 128, x (ix2 i l) = xn A r (o + l)) :
    turn c u d x (ix2 i l) = rk A (o + 64 * (l / 64)) r ⟨l % 64, by omega⟩ := by
  rw [turn_apply, hc, hu, hd, hx, hx, hx]
  unfold rk rope
  have e0 : o + 64 * (l.val / 64) + l.val % 64 = o + l.val := by omega
  by_cases h8 : l.val % 64 < 8
  · rw [if_pos (by omega : l.val % 64 < 16), if_pos h8, if_neg (by omega), dif_pos (show (⟨l.val % 64, by omega⟩ : Fin 64).val < 16 by show l.val % 64 < 16; omega), if_pos h8]
    rw [mul_zero, add_zero, mul_neg, ← sub_eq_add_neg]
    dsimp only
    rw [e0, show o + 64 * (l.val / 64) + (8 + l.val % 64) = o + (l.val + 128 - 120) % 128 by omega, show l.val % 64 = l.val % 8 by omega]
  · by_cases h16 : l.val % 64 < 16
    · rw [if_pos h16, if_neg h8, if_pos ⟨by omega, h16⟩, dif_pos (show (⟨l.val % 64, by omega⟩ : Fin 64).val < 16 from h16), if_neg h8]
      rw [mul_zero, add_zero]
      dsimp only
      rw [e0, show o + 64 * (l.val / 64) + (l.val % 64 - 8) = o + (l.val + 128 - 8) % 128 by omega, show l.val % 64 - 8 = l.val % 8 by omega]
    · rw [if_neg h16, if_neg h8, if_neg (by omega), dif_neg (show ¬ (⟨l.val % 64, by omega⟩ : Fin 64).val < 16 from h16)]
      rw [mul_zero, mul_zero, add_zero, add_zero, mul_one]
      dsimp only
      rw [e0]

theorem half_lo (q : FVec Ideal S128x128 .f32) (i l : Fin 128) : half (co k0_pay11) q (ix2 i l) = if l.val < 64 then q (ix2 i l) else 0 := by
  rw [half_apply, co_apply]
  split_ifs <;> rfl

theorem half_hi (q : FVec Ideal S128x128 .f32) (i l : Fin 128) : half k0_pay11 q (ix2 i l) = if l.val < 64 then 0 else q (ix2 i l) := by
  rw [half_apply, up_apply]
  split_ifs <;> rfl

section
variable (A : Fin 16384 → Fin 7680 → EReal) (ok ov oq n : ℕ) (mask : IVec S256x128 1) (kd vd : FVec Ideal S256x128 .bf16) (q : FVec Ideal S128x128 .f32)
  (hm : ∀ (s : Fin 256) (i : Fin 128), mask (ix2 s i) = sees n i s)
  (hk : ∀ (s : Fin 256) (l : Fin 128), kd (ix2 s l) = key A ok n s ⟨l % 64, by omega⟩)
  (hv : ∀ (s : Fin 256) (l : Fin 128), vd (ix2 s l) = val A ov n s (l % 64))
  (hq : ∀ i l : Fin 128, q (ix2 i l) = rk A (oq + 64 * (l / 64)) (128 * n + i) ⟨l % 64, by omega⟩ * Ideal.ofBits .f32 0x3E000000#32)

include hm hk hq in
theorem sc_lo (s : Fin 256) (i : Fin 128) : sc mask kd (half (co k0_pay11) q) (ix2 s i) = score A ok oq n i s := by
  rw [sc_apply, hm]
  unfold score
  congr 1
  rw [← sum_scale _ _ eighth_nonneg eighth_ne_top]
  refine sum_lo _ _ (fun l => ?_) (fun l => ?_)
  · rw [half_lo, if_pos l.isLt, hk, hq]
    have e1 : (⟨l.val % 64, by omega⟩ : Fin 64) = l := Fin.ext (Nat.mod_eq_of_lt l.isLt)
    dsimp only
    rw [e1, show oq + 64 * (l.val / 64) = oq by omega]
  · rw [half_lo, if_neg (by show ¬ (64 + l.val < 64); omega), mul_zero]

include hm hk hq in
theorem sc_hi (s : Fin 256) (i : Fin 128) : sc mask kd (half k0_pay11 q) (ix2 s i) = score A ok (oq + 64) n i s := by
  rw [sc_apply, hm]
  unfold score
  congr 1
  rw [← sum_scale _ _ eighth_nonneg eighth_ne_top]
  refine sum_hi _ _ (fun l => ?_) (fun l => ?_)
  · rw [half_hi, if_pos l.isLt, mul_zero]
  · rw [half_hi, if_neg (by show ¬ (64 + l.val < 64); omega), hk, hq]
    have e1 : (⟨(64 + l.val) % 64, by omega⟩ : Fin 64) = l := Fin.ext (by show (64 + l.val) % 64 = l.val; omega)
    dsimp only
    rw [e1, show oq + 64 * ((64 + l.val) / 64) = oq + 64 by omega]

/-- One head's result from its scores. -/
theorem hd_att (S : FVec Ideal S256x128 .f32) (z : Ideal .f32) (oq' : ℕ) (i l : Fin 128) (hS : ∀ s, S (ix2 s i) = score A ok oq' n i s)
    (hv : ∀ (s : Fin 256) (l : Fin 128), vd (ix2 s l) = val A ov n s (l % 64)) :
    hd (F := Ideal) S vd z (ix2 i l) = att A ok ov oq' n i z (l % 64) := by
  have hp : mx (F := Ideal) S z (ix2 0 i) = peak (score A ok oq' n i) z := by
    rw [mx_apply]
    unfold peak
    simp only [hS]
  rw [hd_apply, dn_apply]
  simp only [ex_apply, hp, hS, hv]
  rfl

include hm hk hv hq in
theorem two_att (z0 z1 : Ideal .f32) (i l : Fin 128) :
    two (F := Ideal) mask k0_pay11 kd vd q z0 z1 (ix2 i l) = att A ok ov (oq + 64 * (l / 64)) n i (if l.val < 64 then z0 else z1) (l % 64) := by
  by_cases h : l.val < 64
  · rw [two_lo _ _ _ _ _ _ _ _ h, if_pos h, show oq + 64 * (l.val / 64) = oq by omega]
    exact hd_att A ok ov n vd _ z0 oq i l (fun s => sc_lo A ok oq n mask kd q hm hk hq s i) hv
  · rw [two_hi _ _ _ _ _ _ _ _ h, if_neg h, show oq + 64 * (l.val / 64) = oq + 64 by omega]
    exact hd_att A ok ov n vd _ z1 (oq + 64) i l (fun s => sc_hi A ok oq n mask kd q hm hk hq s i) hv

end

end Cert.Own.Swf.K
-- ==== Proof.SwfTab.lean ====
module

public import proofs.«01_k».proof.Defs
public import proofs.«01_k».proof.Proof.Lib
public import proofs.«01_k».proof.Proof.SwfCom
public import proofs.«01_k».proof.Proof.Gen.SwfKernelIdeal.Value
public import Idealize.ShloMosaic.Lib.Pipeline.ValueKit
public import Idealize.ShloMosaic.Lib.Claim
public import Idealize.ShloMosaic.Lib.Pointwise

/-! The windowed attention's rotation tables, as the call's host lines make them. -/

@[expose] public section

set_option maxRecDepth 65536

noncomputable section

namespace Cert.Own.Swf.T

open Idealize.ShloMosaic Idealize.ShloMosaic.TcCoe Idealize.SL.Sem
open Cert.SwfKernelIdeal Cert.SwfKernelIdeal.Gen

variable (m : (ℓ : Loc nD τ sig) → Buf (Elt Ideal) ℓ) (c : Dev nD)

theorem entry_z : V m c main_v0 = broadcastInDim S1x16 ![1] bcast_S16_S1x16_1 (m ((c.tc : Thread nD τ).loc main_arg1)) := by
  change StableHlo.after _ (fun b => m (c, b)) _ = _
  after_results
  try rfl

/-- The remainder by a number, as the host lines take it. -/
def md (k : BitVec 32) : IVec S_ 32 := select (cmpi .eq (id (constantI S_ 32 k)) (constantI S_ 32 0#32)) (constantI S_ 32 1#32) (id (constantI S_ 32 k))

def rm (x : IVec S128 32) (k : BitVec 32) : IVec S128 32 :=
  select (andi (cmpi .ne (cmpi .slt (Host.remsi x (broadcastInDim S128 ![] bcast_S_S128 (md k))) (broadcastInDim S128 ![] bcast_S_S128 (constantI S_ 32 0#32))) (broadcastInDim S128 ![] bcast_S_S128 (cmpi .slt (md k) (constantI S_ 32 0#32))))
      (cmpi .ne (Host.remsi x (broadcastInDim S128 ![] bcast_S_S128 (md k))) (broadcastInDim S128 ![] bcast_S_S128 (constantI S_ 32 0#32))))
    (addi (Host.remsi x (broadcastInDim S128 ![] bcast_S_S128 (md k))) (broadcastInDim S128 ![] bcast_S_S128 (md k)))
    (Host.remsi x (broadcastInDim S128 ![] bcast_S_S128 (md k)))

/-- A column's place in its head. -/
def lane : IVec S128 32 := rm (iotaInDim S128 32 0) 64#32

/-- The column of the inverse frequency. -/
def fcol : IVec S128x1 32 := broadcastInDim S128x1 ![0] bcast_S128_S128x1_0
  (select (cmpi .slt (rm lane 8#32) (broadcastInDim S128 ![] bcast_S_S128 (constantI S_ 32 0#32))) (addi (rm lane 8#32) (broadcastInDim S128 ![] bcast_S_S128 (constantI S_ 32 8#32))) (rm lane 8#32))

/-- The inverse frequencies. -/
def freq : FVec Ideal S8 .f32 := Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32)))

/-- The angles. -/
def angs : FVec Ideal S16384x128 .f32 := mulf (broadcastInDim S16384x128 ![0, 1] bcast_S16384x1_S16384x128_0_1 (broadcastInDim S16384x1 ![0] bcast_S16384_S16384x1_0 (sitofp .f32 (iotaInDim S16384 32 0))))
  (broadcastInDim S16384x128 ![0, 1] bcast_S1x128_S16384x128_0_1 (broadcastInDim S1x128 ![1] bcast_S128_S1x128_1 (Host.gather gather_S8_S128x1_S128_n_0_n_n_0_1_1 freq fcol)))

/-- One table: a value where the mask holds, a constant elsewhere. -/
def tabl (p : IVec S128 1) (v : FVec Ideal S16384x128 .f32) (w : BitVec 32) : FVec Ideal S16384x128 .f32 :=
  select (broadcastInDim S16384x128 ![1] bcast_S128_S16384x128_1 p) v (broadcastInDim S16384x128 ![] bcast_S_S16384x128 (id (constant S_ .f32 w)))

def cosl : FVec Ideal S16384x128 .f32 := tabl (cmpi .slt lane (broadcastInDim S128 ![] bcast_S_S128 (constantI S_ 32 16#32))) (Host.cos angs) 0x3F800000#32

def upl : FVec Ideal S16384x128 .f32 := tabl (cmpi .slt lane (broadcastInDim S128 ![] bcast_S_S128 (constantI S_ 32 8#32))) (Host.negf (Host.sin angs)) 0x00000000#32

def dnl : FVec Ideal S16384x128 .f32 := tabl (andi (cmpi .sge lane (broadcastInDim S128 ![] bcast_S_S128 (constantI S_ 32 8#32))) (cmpi .slt lane (broadcastInDim S128 ![] bcast_S_S128 (constantI S_ 32 16#32)))) (Host.sin angs) 0x00000000#32

def ang0 (a : FVec Ideal S16384x1 .f32) (f : FVec Ideal S8 .f32) (r : IVec S128 32) : FVec Ideal S16384x128 .f32 :=
  mulf (broadcastInDim S16384x128 ![0, 1] bcast_S16384x1_S16384x128_0_1 a)
    (broadcastInDim S16384x128 ![0, 1] bcast_S1x128_S16384x128_0_1 (broadcastInDim S1x128 ![1] bcast_S128_S1x128_1 (Host.gather gather_S8_S128x1_S128_n_0_n_n_0_1_1 f
      (broadcastInDim S128x1 ![0] bcast_S128_S128x1_0 (select (cmpi .slt r (broadcastInDim S128 ![] bcast_S_S128 (constantI S_ 32 0#32))) (addi r (broadcastInDim S128 ![] bcast_S_S128 (constantI S_ 32 8#32))) r)))))

theorem ang0_eq : ang0 (broadcastInDim S16384x1 ![0] bcast_S16384_S16384x1_0 (sitofp .f32 (iotaInDim S16384 32 0))) freq (rm lane 8#32) = angs := rfl

theorem after_app {τ : Topo} {sig : RefSig} {Val : EltTy → Type} (a b : List (HloOp τ sig Val)) (V : Valuation τ sig Val) :
    StableHlo.after (a ++ b) V = StableHlo.after b (StableHlo.after a V) := by
  induction a generalizing V with
  | nil => rfl
  | cons o a ih => exact ih _

variable (G : Valuation τ sig (Elt Ideal))

theorem st0_v8 : StableHlo.after (hostOps0 (F := Ideal)) G (Proc.devRef .tc main_v8) = freq := by
  after_results_simp
  try rfl

theorem st0_v9 : StableHlo.after (hostOps0 (F := Ideal)) G (Proc.devRef .tc main_v9) = iotaInDim S128 32 0 := by
  after_results_simp
  try rfl

theorem st0_c : StableHlo.after (hostOps0 (F := Ideal)) G (Proc.devRef .tc main_c) = constantI S_ 32 64#32 := by
  after_results_simp
  try rfl

theorem st1_v10 (h : G (Proc.devRef .tc main_c) = constantI S_ 32 64#32) : StableHlo.after (hostOps0_1 (F := Ideal)) G (Proc.devRef .tc main_v10) = rm (G (Proc.devRef .tc main_v9)) 64#32 := by
  after_results_simp
  have e := h
  generalize G (Proc.devRef .tc main_c) = K at *
  subst e
  rfl

theorem st2_v13 : StableHlo.after (hostOps0_2 (F := Ideal)) G (Proc.devRef .tc main_v13) = (broadcastInDim S16384x1 ![0] bcast_S16384_S16384x1_0 (sitofp .f32 (iotaInDim S16384 32 0)) : FVec Ideal S16384x1 .f32) := by
  after_results_simp
  try rfl

theorem st2_c : StableHlo.after (hostOps0_2 (F := Ideal)) G (Proc.devRef .tc main_c_2) = constantI S_ 32 8#32 := by
  after_results_simp
  try rfl

theorem st3_v14 (h : G (Proc.devRef .tc main_c_2) = constantI S_ 32 8#32) : StableHlo.after (hostOps0_3 (F := Ideal)) G (Proc.devRef .tc main_v14) = rm (G (Proc.devRef .tc main_v10)) 8#32 := by
  after_results_simp
  have e := h
  generalize G (Proc.devRef .tc main_c_2) = K at *
  subst e
  rfl

theorem st4_v26 : StableHlo.after (hostOps0_4 (F := Ideal)) G (Proc.devRef .tc main_v26) = Host.cos (ang0 (G (Proc.devRef .tc main_v13)) (G (Proc.devRef .tc main_v8)) (G (Proc.devRef .tc main_v14))) := by
  after_results_simp
  try rfl

theorem st4_v27 : StableHlo.after (hostOps0_4 (F := Ideal)) G (Proc.devRef .tc main_v27) = Host.sin (ang0 (G (Proc.devRef .tc main_v13)) (G (Proc.devRef .tc main_v8)) (G (Proc.devRef .tc main_v14))) := by
  after_results_simp
  try rfl

theorem st4_v29 : StableHlo.after (hostOps0_4 (F := Ideal)) G (Proc.devRef .tc main_v29) = cmpi .slt (G (Proc.devRef .tc main_v10) : IVec S128 32) (broadcastInDim S128 ![] bcast_S_S128 (constantI S_ 32 16#32)) := by
  after_results_simp
  try rfl

theorem st4_c : StableHlo.after (hostOps0_4 (F := Ideal)) G (Proc.devRef .tc main_cst_6) = constant (F := Ideal) S_ .f32 0x3F800000#32 := by
  after_results_simp
  try rfl

theorem st5_o (h : G (Proc.devRef .tc main_cst_6) = constant (F := Ideal) S_ .f32 0x3F800000#32) : StableHlo.after (hostOps0_5 (F := Ideal)) G (Proc.devRef .tc main_v30) = tabl (G (Proc.devRef .tc main_v29)) (G (Proc.devRef .tc main_v26)) 0x3F800000#32 := by
  after_results_simp
  have e := h
  generalize G (Proc.devRef .tc main_cst_6) = K at *
  subst e
  rfl

theorem st6_p : StableHlo.after (hostOps0_6 (F := Ideal)) G (Proc.devRef .tc main_v32) = cmpi .slt (G (Proc.devRef .tc main_v10) : IVec S128 32) (broadcastInDim S128 ![] bcast_S_S128 (constantI S_ 32 8#32)) := by
  after_results_simp
  try rfl

theorem st6_v : StableHlo.after (hostOps0_6 (F := Ideal)) G (Proc.devRef .tc main_v33) = Host.negf (F := Ideal) (s := S16384x128) (φ := .f32) (G (Proc.devRef .tc main_v27)) := by
  after_results_simp
  try rfl

theorem st6_c : StableHlo.after (hostOps0_6 (F := Ideal)) G (Proc.devRef .tc main_cst_8) = constant (F := Ideal) S_ .f32 0x00000000#32 := by
  after_results_simp
  try rfl

theorem st7_o (h : G (Proc.devRef .tc main_cst_8) = constant (F := Ideal) S_ .f32 0x00000000#32) : StableHlo.after (hostOps0_7 (F := Ideal)) G (Proc.devRef .tc main_v34) = tabl (G (Proc.devRef .tc main_v32)) (G (Proc.devRef .tc main_v33)) 0x00000000#32 := by
  after_results_simp
  have e := h
  generalize G (Proc.devRef .tc main_cst_8) = K at *
  subst e
  rfl

theorem st8_p : StableHlo.after (hostOps0_8 (F := Ideal)) G (Proc.devRef .tc main_v39) = andi (cmpi .sge (G (Proc.devRef .tc main_v10) : IVec S128 32) (broadcastInDim S128 ![] bcast_S_S128 (constantI S_ 32 8#32))) (cmpi .slt (G (Proc.devRef .tc main_v10) : IVec S128 32) (broadcastInDim S128 ![] bcast_S_S128 (constantI S_ 32 16#32))) := by
  after_results_simp
  try rfl

theorem st8_c : StableHlo.after (hostOps0_8 (F := Ideal)) G (Proc.devRef .tc main_cst_11) = constant (F := Ideal) S_ .f32 0x00000000#32 := by
  after_results_simp
  try rfl

theorem st9_o (h : G (Proc.devRef .tc main_cst_11) = constant (F := Ideal) S_ .f32 0x00000000#32) : StableHlo.after (hostOps0_9 (F := Ideal)) G (Proc.devRef .tc main_v40) = tabl (G (Proc.devRef .tc main_v39)) (G (Proc.devRef .tc main_v27)) 0x00000000#32 := by
  after_results_simp
  have e := h
  generalize G (Proc.devRef .tc main_cst_11) = K at *
  subst e
  rfl

theorem kp1_v8 : StableHlo.after (hostOps0_1 (F := Ideal)) G (Proc.devRef .tc main_v8) = G (Proc.devRef .tc main_v8) := by
  after_results_simp
  try rfl

theorem kp2_v8 : StableHlo.after (hostOps0_2 (F := Ideal)) G (Proc.devRef .tc main_v8) = G (Proc.devRef .tc main_v8) := by
  after_results_simp
  try rfl

theorem kp3_v8 : StableHlo.after (hostOps0_3 (F := Ideal)) G (Proc.devRef .tc main_v8) = G (Proc.devRef .tc main_v8) := by
  after_results_simp
  try rfl

theorem kp2_v10 : StableHlo.after (hostOps0_2 (F := Ideal)) G (Proc.devRef .tc main_v10) = G (Proc.devRef .tc main_v10) := by
  after_results_simp
  try rfl

theorem kp3_v10 : StableHlo.after (hostOps0_3 (F := Ideal)) G (Proc.devRef .tc main_v10) = G (Proc.devRef .tc main_v10) := by
  after_results_simp
  try rfl

theorem kp4_v10 : StableHlo.after (hostOps0_4 (F := Ideal)) G (Proc.devRef .tc main_v10) = G (Proc.devRef .tc main_v10) := by
  after_results_simp
  try rfl

theorem kp5_v10 : StableHlo.after (hostOps0_5 (F := Ideal)) G (Proc.devRef .tc main_v10) = G (Proc.devRef .tc main_v10) := by
  after_results_simp
  try rfl

theorem kp6_v10 : StableHlo.after (hostOps0_6 (F := Ideal)) G (Proc.devRef .tc main_v10) = G (Proc.devRef .tc main_v10) := by
  after_results_simp
  try rfl

theorem kp7_v10 : StableHlo.after (hostOps0_7 (F := Ideal)) G (Proc.devRef .tc main_v10) = G (Proc.devRef .tc main_v10) := by
  after_results_simp
  try rfl

theorem kp3_v13 : StableHlo.after (hostOps0_3 (F := Ideal)) G (Proc.devRef .tc main_v13) = G (Proc.devRef .tc main_v13) := by
  after_results_simp
  try rfl

theorem kp5_v27 : StableHlo.after (hostOps0_5 (F := Ideal)) G (Proc.devRef .tc main_v27) = G (Proc.devRef .tc main_v27) := by
  after_results_simp
  try rfl

theorem kp6_v27 : StableHlo.after (hostOps0_6 (F := Ideal)) G (Proc.devRef .tc main_v27) = G (Proc.devRef .tc main_v27) := by
  after_results_simp
  try rfl

theorem kp7_v27 : StableHlo.after (hostOps0_7 (F := Ideal)) G (Proc.devRef .tc main_v27) = G (Proc.devRef .tc main_v27) := by
  after_results_simp
  try rfl

theorem kp8_v27 : StableHlo.after (hostOps0_8 (F := Ideal)) G (Proc.devRef .tc main_v27) = G (Proc.devRef .tc main_v27) := by
  after_results_simp
  try rfl

theorem kp6_v30 : StableHlo.after (hostOps0_6 (F := Ideal)) G (Proc.devRef .tc main_v30) = G (Proc.devRef .tc main_v30) := by
  after_results_simp
  try rfl

theorem kp7_v30 : StableHlo.after (hostOps0_7 (F := Ideal)) G (Proc.devRef .tc main_v30) = G (Proc.devRef .tc main_v30) := by
  after_results_simp
  try rfl

theorem kp8_v30 : StableHlo.after (hostOps0_8 (F := Ideal)) G (Proc.devRef .tc main_v30) = G (Proc.devRef .tc main_v30) := by
  after_results_simp
  try rfl

theorem kp9_v30 : StableHlo.after (hostOps0_9 (F := Ideal)) G (Proc.devRef .tc main_v30) = G (Proc.devRef .tc main_v30) := by
  after_results_simp
  try rfl

theorem kp8_v34 : StableHlo.after (hostOps0_8 (F := Ideal)) G (Proc.devRef .tc main_v34) = G (Proc.devRef .tc main_v34) := by
  after_results_simp
  try rfl

theorem kp9_v34 : StableHlo.after (hostOps0_9 (F := Ideal)) G (Proc.devRef .tc main_v34) = G (Proc.devRef .tc main_v34) := by
  after_results_simp
  try rfl

theorem entries : V m c main_v30 = cosl ∧ V m c main_v34 = upl ∧ V m c main_v40 = dnl := by
  have hV : StableHlo.after (List.flatten [hostOps0 (F := Ideal), hostOps0_1, hostOps0_2, hostOps0_3, hostOps0_4, hostOps0_5, hostOps0_6, hostOps0_7, hostOps0_8, hostOps0_9]) (fun b => m (c, b)) = StableHlo.after (hostOps0_9 (F := Ideal)) (StableHlo.after hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 fun b => m (c, b)))))))))) := by
    simp only [List.flatten_cons, List.flatten_nil, List.append_nil, after_app]
  generalize e0 : StableHlo.after (hostOps0 (F := Ideal)) (fun b => m (c, b)) = W0 at hV
  have a8 := st0_v8 fun b => m (c, b)
  have a9 := st0_v9 fun b => m (c, b)
  have ac := st0_c fun b => m (c, b)
  rw [e0] at a8 a9 ac
  generalize e1 : StableHlo.after (hostOps0_1 (F := Ideal)) W0 = W1 at hV
  have b10 := st1_v10 W0 ac
  have b8 := kp1_v8 W0
  rw [e1] at b10 b8
  rw [a9] at b10
  rw [a8] at b8
  generalize e2 : StableHlo.after (hostOps0_2 (F := Ideal)) W1 = W2 at hV
  have c10 := kp2_v10 W1
  have c8 := kp2_v8 W1
  have c13 := st2_v13 W1
  have cc := st2_c W1
  rw [e2] at c10 c8 c13 cc
  rw [b10] at c10
  rw [b8] at c8
  generalize e3 : StableHlo.after (hostOps0_3 (F := Ideal)) W2 = W3 at hV
  have d10 := kp3_v10 W2
  have d8 := kp3_v8 W2
  have d13 := kp3_v13 W2
  have d14 := st3_v14 W2 cc
  rw [e3] at d10 d8 d13 d14
  rw [c10] at d10 d14
  rw [c8] at d8
  rw [c13] at d13
  generalize e4 : StableHlo.after (hostOps0_4 (F := Ideal)) W3 = W4 at hV
  have f10 := kp4_v10 W3
  have f26 := st4_v26 W3
  have f27 := st4_v27 W3
  have f29 := st4_v29 W3
  have fc := st4_c W3
  rw [e4] at f10 f26 f27 f29 fc
  rw [d13, d8, d14] at f26 f27
  rw [d10] at f10 f29
  have q := ang0_eq
  unfold lane at q
  rw [q] at f26 f27
  generalize e5 : StableHlo.after (hostOps0_5 (F := Ideal)) W4 = W5 at hV
  have g10 := kp5_v10 W4
  have g27 := kp5_v27 W4
  have g30 := st5_o W4 fc
  rw [e5] at g10 g27 g30
  rw [f29, f26] at g30
  rw [f10] at g10
  rw [f27] at g27
  generalize e6 : StableHlo.after (hostOps0_6 (F := Ideal)) W5 = W6 at hV
  have h10 := kp6_v10 W5
  have h27 := kp6_v27 W5
  have h30 := kp6_v30 W5
  have hp := st6_p W5
  have hv := st6_v W5
  have hc := st6_c W5
  rw [e6] at h10 h27 h30 hp hv hc
  rw [g10] at h10 hp
  rw [g27] at h27 hv
  rw [g30] at h30
  generalize e7 : StableHlo.after (hostOps0_7 (F := Ideal)) W6 = W7 at hV
  have i10 := kp7_v10 W6
  have i27 := kp7_v27 W6
  have i30 := kp7_v30 W6
  have i34 := st7_o W6 hc
  rw [e7] at i10 i27 i30 i34
  rw [hp, hv] at i34
  rw [h10] at i10
  rw [h27] at i27
  rw [h30] at i30
  generalize e8 : StableHlo.after (hostOps0_8 (F := Ideal)) W7 = W8 at hV
  have j27 := kp8_v27 W7
  have j30 := kp8_v30 W7
  have j34 := kp8_v34 W7
  have jp := st8_p W7
  have jc := st8_c W7
  rw [e8] at j27 j30 j34 jp jc
  rw [i10] at jp
  rw [i27] at j27
  rw [i30] at j30
  rw [i34] at j34
  have k30 := kp9_v30 W8
  have k34 := kp9_v34 W8
  have k40 := st9_o W8 jc
  rw [j30] at k30
  rw [j34] at k34
  rw [jp, j27] at k40
  show StableHlo.after (List.flatten [hostOps0 (F := Ideal), hostOps0_1, hostOps0_2, hostOps0_3, hostOps0_4, hostOps0_5, hostOps0_6, hostOps0_7, hostOps0_8, hostOps0_9]) (fun b => m (c, b)) (Proc.devRef .tc main_v30) = _ ∧ StableHlo.after (List.flatten [hostOps0 (F := Ideal), hostOps0_1, hostOps0_2, hostOps0_3, hostOps0_4, hostOps0_5, hostOps0_6, hostOps0_7, hostOps0_8, hostOps0_9]) (fun b => m (c, b)) (Proc.devRef .tc main_v34) = _ ∧ StableHlo.after (List.flatten [hostOps0 (F := Ideal), hostOps0_1, hostOps0_2, hostOps0_3, hostOps0_4, hostOps0_5, hostOps0_6, hostOps0_7, hostOps0_8, hostOps0_9]) (fun b => m (c, b)) (Proc.devRef .tc main_v40) = _
  rw [hV]
  exact ⟨k30, k34, k40⟩

theorem lane_apply (l : Fin 128) : lane (ix1 l) = BitVec.ofNat 32 (l % 64) := by
  pointwise [lane, rm, md]
  revert l
  decide +kernel

theorem lane8_apply (l : Fin 128) : rm lane 8#32 (ix1 l) = BitVec.ofNat 32 (l % 8) := by
  have h := lane_apply l
  pointwise [rm, md]
  simp only [h]
  revert l
  decide +kernel

theorem fcol_apply (l : Fin 128) : fcol (ix2 l 0) = BitVec.ofNat 32 (l % 8) := by
  have h := lane8_apply l
  pointwise [fcol]
  simp only [h]
  revert l
  decide +kernel

theorem fcol_eq : fcol = fun y : S128x1.Idx => BitVec.ofNat 32 ((y 0).val % 8) := by
  funext y
  have h := fcol_apply (y 0)
  rw [show y = ix2 (y 0) 0 from by funext b; fin_cases b <;> first | rfl | exact Fin.ext (by have := (y 1).isLt; show (y 1).val = 0; have : (y 1).val < 1 := this; omega)]
  exact h

theorem gather_apply (x : FVec Ideal S8 .f32) (l : Fin 128) :
    Host.gather gather_S8_S128x1_S128_n_0_n_n_0_1_1 x fcol (ix1 l) = x (ix1 ⟨l % 8, by omega⟩) := by
  unfold Host.gather
  rw [fcol_eq]
  refine congrArg x ?_
  funext b
  fin_cases b
  apply Fin.ext
  revert l
  decide +kernel

theorem freq_apply (k : Fin 8) : freq (ix1 k) = freqv k := by
  pointwise [freq]
  rfl

theorem angs_apply (t : Fin 16384) (l : Fin 128) : angs (ix2 t l) = angv t (l % 8) := by
  have h := gather_apply freq l
  rw [freq_apply] at h
  pointwise [angs]
  rw [h]
  rfl

theorem cosl_apply (t : Fin 16384) (l : Fin 128) : cosl (ix2 t l) = if l.val % 64 < 16 then Ideal.cos (angv t (l % 8)) else 1 := by
  have h := lane_apply l
  rw [← angs_apply]
  pointwise [cosl, tabl]
  rw [h]
  by_cases h' : l.val % 64 < 16
  · rw [if_pos h', (by revert l; decide +kernel : ∀ l : Fin 128, l.val % 64 < 16 → IntOp.cmpi .slt (BitVec.ofNat 32 (l % 64)) 16#32 = 1#1) l h']; rfl
  · rw [if_neg h', (by revert l; decide +kernel : ∀ l : Fin 128, ¬ l.val % 64 < 16 → IntOp.cmpi .slt (BitVec.ofNat 32 (l % 64)) 16#32 = 0#1) l h']; exact Ideal.ofBits_one_f32

theorem upl_apply (t : Fin 16384) (l : Fin 128) : upl (ix2 t l) = if l.val % 64 < 8 then -Ideal.sin (angv t (l % 8)) else 0 := by
  have h := lane_apply l
  rw [← angs_apply]
  pointwise [upl, tabl]
  rw [h]
  by_cases h' : l.val % 64 < 8
  · rw [if_pos h', (by revert l; decide +kernel : ∀ l : Fin 128, l.val % 64 < 8 → IntOp.cmpi .slt (BitVec.ofNat 32 (l % 64)) 8#32 = 1#1) l h']; rfl
  · rw [if_neg h', (by revert l; decide +kernel : ∀ l : Fin 128, ¬ l.val % 64 < 8 → IntOp.cmpi .slt (BitVec.ofNat 32 (l % 64)) 8#32 = 0#1) l h']
    first | rfl | exact Ideal.ofBits_zero_f32

theorem dnl_apply (t : Fin 16384) (l : Fin 128) : dnl (ix2 t l) = if 8 ≤ l.val % 64 ∧ l.val % 64 < 16 then Ideal.sin (angv t (l % 8)) else 0 := by
  have h := lane_apply l
  rw [← angs_apply]
  pointwise [dnl, tabl]
  rw [h]
  by_cases h' : 8 ≤ l.val % 64 ∧ l.val % 64 < 16
  · rw [if_pos h', (by revert l; decide +kernel : ∀ l : Fin 128, 8 ≤ l.val % 64 ∧ l.val % 64 < 16 → IntOp.andi (IntOp.cmpi .sge (BitVec.ofNat 32 (l % 64)) 8#32) (IntOp.cmpi .slt (BitVec.ofNat 32 (l % 64)) 16#32) = 1#1) l h']; rfl
  · rw [if_neg h', (by revert l; decide +kernel : ∀ l : Fin 128, ¬ (8 ≤ l.val % 64 ∧ l.val % 64 < 16) → IntOp.andi (IntOp.cmpi .sge (BitVec.ofNat 32 (l % 64)) 8#32) (IntOp.cmpi .slt (BitVec.ofNat 32 (l % 64)) 16#32) = 0#1) l h']
    first | rfl | exact Ideal.ofBits_zero_f32

end Cert.Own.Swf.T
-- ==== Proof.SwfRef.lean ====
module

public import proofs.«01_k».proof.Defs
public import proofs.«01_k».proof.Proof.Lib
public import proofs.«01_k».proof.Proof.SwfCom
public import proofs.«01_k».proof.Proof.Gen.SwfRefIdeal.Run
public import Idealize.ShloMosaic.Lib.Pipeline.ValueKit
public import Idealize.ShloMosaic.Lib.Claim
public import Idealize.ShloMosaic.Lib.Pointwise

/-! The windowed attention's reference, read back in named steps, and each step at an index. -/

@[expose] public section

set_option maxRecDepth 65536

noncomputable section

namespace Cert.Own.Swf.R

open Idealize.ShloMosaic Idealize.ShloMosaic.TcCoe Idealize.SL.Sem
open Cert.SwfRefIdeal Cert.SwfRefIdeal.Gen

/-- The angles: position times inverse frequency. -/
def ang  : FVec Ideal S16384x8 .f32 :=
  (mulf (broadcastInDim S16384x8 ![0, 1] bcast_S16384x1_S16384x8_0_1 (broadcastInDim S16384x1 ![0] bcast_S16384_S16384x1_0 (sitofp .f32 (iotaInDim S16384 32 0)))) (broadcastInDim S16384x8 ![0, 1] bcast_S1x8_S16384x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32)))))))

/-- Their cosines. -/
def cosT  : FVec Ideal S1x16384x1x8 .f32 :=
  (broadcastInDim S1x16384x1x8 ![1, 3] bcast_S16384x8_S1x16384x1x8_1_3 (Host.cos ang))

/-- Their sines. -/
def sinT  : FVec Ideal S1x16384x1x8 .f32 :=
  (broadcastInDim S1x16384x1x8 ![1, 3] bcast_S16384x8_S1x16384x1x8_1_3 (Host.sin ang))

/-- The key columns. -/
def pk (X : FVec Ideal S16384x7680 .f32) : FVec Ideal S1x16384x4x64 .f32 :=
  (shapeCast _ (extractStridedSlice S16384x256 ![0, 5120] X slices_S16384x7680_S16384x256_0_5120) shapeCasts_S16384x256_S1x16384x4x64)

/-- The query columns. -/
def pq (X : FVec Ideal S16384x7680 .f32) : FVec Ideal S1x16384x16x64 .f32 :=
  (shapeCast _ (extractStridedSlice S16384x1024 ![0, 4096] X slices_S16384x7680_S16384x1024_0_4096) shapeCasts_S16384x1024_S1x16384x16x64)

/-- The value columns. -/
def pv (X : FVec Ideal S16384x7680 .f32) : FVec Ideal S1x16384x4x64 .f32 :=
  (shapeCast _ (extractStridedSlice S16384x256 ![0, 5376] X slices_S16384x7680_S16384x256_0_5376) shapeCasts_S16384x256_S1x16384x4x64)

/-- The keys, rotated. -/
def ropeK (x : FVec Ideal S1x16384x4x64 .f32) : FVec Ideal S1x16384x4x64 .f32 :=
  (concatenate S1x16384x4x64 3 [⟨S1x16384x4x16, (concatenate S1x16384x4x16 3 [⟨S1x16384x4x8, (subf (mulf (extractStridedSlice S1x16384x4x8 ![0, 0, 0, 0] (extractStridedSlice S1x16384x4x16 ![0, 0, 0, 0] x slices_S1x16384x4x64_S1x16384x4x16_0_0_0_0) slices_S1x16384x4x16_S1x16384x4x8_0_0_0_0) (broadcastInDim S1x16384x4x8 ![0, 1, 2, 3] bcast_S1x16384x1x8_S1x16384x4x8_0_1_2_3 cosT)) (mulf (extractStridedSlice S1x16384x4x8 ![0, 0, 0, 8] (extractStridedSlice S1x16384x4x16 ![0, 0, 0, 0] x slices_S1x16384x4x64_S1x16384x4x16_0_0_0_0) slices_S1x16384x4x16_S1x16384x4x8_0_0_0_8) (broadcastInDim S1x16384x4x8 ![0, 1, 2, 3] bcast_S1x16384x1x8_S1x16384x4x8_0_1_2_3 sinT)))⟩, ⟨S1x16384x4x8, (addf (mulf (extractStridedSlice S1x16384x4x8 ![0, 0, 0, 8] (extractStridedSlice S1x16384x4x16 ![0, 0, 0, 0] x slices_S1x16384x4x64_S1x16384x4x16_0_0_0_0) slices_S1x16384x4x16_S1x16384x4x8_0_0_0_8) (broadcastInDim S1x16384x4x8 ![0, 1, 2, 3] bcast_S1x16384x1x8_S1x16384x4x8_0_1_2_3 cosT)) (mulf (extractStridedSlice S1x16384x4x8 ![0, 0, 0, 0] (extractStridedSlice S1x16384x4x16 ![0, 0, 0, 0] x slices_S1x16384x4x64_S1x16384x4x16_0_0_0_0) slices_S1x16384x4x16_S1x16384x4x8_0_0_0_0) (broadcastInDim S1x16384x4x8 ![0, 1, 2, 3] bcast_S1x16384x1x8_S1x16384x4x8_0_1_2_3 sinT)))⟩] concatenates_S1x16384x4x8_S1x16384x4x8_S1x16384x4x16_d3)⟩, ⟨S1x16384x4x48, (extractStridedSlice S1x16384x4x48 ![0, 0, 0, 16] x slices_S1x16384x4x64_S1x16384x4x48_0_0_0_16)⟩] concatenates_S1x16384x4x16_S1x16384x4x48_S1x16384x4x64_d3)

/-- The queries, rotated. -/
def ropeQ (x : FVec Ideal S1x16384x16x64 .f32) : FVec Ideal S1x16384x16x64 .f32 :=
  (concatenate S1x16384x16x64 3 [⟨S1x16384x16x16, (concatenate S1x16384x16x16 3 [⟨S1x16384x16x8, (subf (mulf (extractStridedSlice S1x16384x16x8 ![0, 0, 0, 0] (extractStridedSlice S1x16384x16x16 ![0, 0, 0, 0] x slices_S1x16384x16x64_S1x16384x16x16_0_0_0_0) slices_S1x16384x16x16_S1x16384x16x8_0_0_0_0) (broadcastInDim S1x16384x16x8 ![0, 1, 2, 3] bcast_S1x16384x1x8_S1x16384x16x8_0_1_2_3 cosT)) (mulf (extractStridedSlice S1x16384x16x8 ![0, 0, 0, 8] (extractStridedSlice S1x16384x16x16 ![0, 0, 0, 0] x slices_S1x16384x16x64_S1x16384x16x16_0_0_0_0) slices_S1x16384x16x16_S1x16384x16x8_0_0_0_8) (broadcastInDim S1x16384x16x8 ![0, 1, 2, 3] bcast_S1x16384x1x8_S1x16384x16x8_0_1_2_3 sinT)))⟩, ⟨S1x16384x16x8, (addf (mulf (extractStridedSlice S1x16384x16x8 ![0, 0, 0, 8] (extractStridedSlice S1x16384x16x16 ![0, 0, 0, 0] x slices_S1x16384x16x64_S1x16384x16x16_0_0_0_0) slices_S1x16384x16x16_S1x16384x16x8_0_0_0_8) (broadcastInDim S1x16384x16x8 ![0, 1, 2, 3] bcast_S1x16384x1x8_S1x16384x16x8_0_1_2_3 cosT)) (mulf (extractStridedSlice S1x16384x16x8 ![0, 0, 0, 0] (extractStridedSlice S1x16384x16x16 ![0, 0, 0, 0] x slices_S1x16384x16x64_S1x16384x16x16_0_0_0_0) slices_S1x16384x16x16_S1x16384x16x8_0_0_0_0) (broadcastInDim S1x16384x16x8 ![0, 1, 2, 3] bcast_S1x16384x1x8_S1x16384x16x8_0_1_2_3 sinT)))⟩] concatenates_S1x16384x16x8_S1x16384x16x8_S1x16384x16x16_d3)⟩, ⟨S1x16384x16x48, (extractStridedSlice S1x16384x16x48 ![0, 0, 0, 16] x slices_S1x16384x16x64_S1x16384x16x48_0_0_0_16)⟩] concatenates_S1x16384x16x16_S1x16384x16x48_S1x16384x16x64_d3)

/-- Rows cut into blocks. -/
def cut (x : FVec Ideal S1x16384x4x64 .f32) : FVec Ideal S1x128x128x4x64 .f32 :=
  shapeCast _ x shapeCasts_S1x16384x4x64_S1x128x128x4x64

/-- Each block behind the block before it. -/
def win (x : FVec Ideal S1x128x128x4x64 .f32) : FVec Ideal S1x128x256x4x64 .f32 :=
  (concatenate S1x128x256x4x64 2 [⟨S1x128x128x4x64, (concatenate S1x128x128x4x64 1 [⟨S1x1x128x4x64, (broadcastInDim S1x1x128x4x64 ![] bcast_S_S1x1x128x4x64 (constant S_ .f32 0x00000000#32))⟩, ⟨S1x127x128x4x64, (extractStridedSlice S1x127x128x4x64 ![0, 0, 0, 0, 0] x slices_S1x128x128x4x64_S1x127x128x4x64_0_0_0_0_0)⟩] concatenates_S1x1x128x4x64_S1x127x128x4x64_S1x128x128x4x64_d1)⟩, ⟨S1x128x128x4x64, x⟩] concatenates_S1x128x128x4x64_S1x128x128x4x64_S1x128x256x4x64_d2)

/-- Which key of the window a query sees. -/
def mask  : IVec S128x128x256 1 :=
  (andi (andi (cmpi .sge (subi (broadcastInDim S128x128x256 ![0, 1, 2] bcast_S128x128x1_S128x128x256_0_1_2 (addi (broadcastInDim S128x128x1 ![0, 1, 2] bcast_S128x1x1_S128x128x1_0_1_2 (muli (broadcastInDim S128x1x1 ![0] bcast_S128_S128x1x1_0 (iotaInDim S128 32 0)) (broadcastInDim S128x1x1 ![] bcast_S_S128x1x1 (constantI S_ 32 128#32)))) (broadcastInDim S128x128x1 ![0, 1, 2] bcast_S1x128x1_S128x128x1_0_1_2 (broadcastInDim S1x128x1 ![1] bcast_S128_S1x128x1_1 (iotaInDim S128 32 0))))) (broadcastInDim S128x128x256 ![0, 1, 2] bcast_S128x1x256_S128x128x256_0_1_2 (addi (broadcastInDim S128x1x256 ![0, 1, 2] bcast_S128x1x1_S128x1x256_0_1_2 (subi (muli (broadcastInDim S128x1x1 ![0] bcast_S128_S128x1x1_0 (iotaInDim S128 32 0)) (broadcastInDim S128x1x1 ![] bcast_S_S128x1x1 (constantI S_ 32 128#32))) (broadcastInDim S128x1x1 ![] bcast_S_S128x1x1 (constantI S_ 32 128#32)))) (broadcastInDim S128x1x256 ![0, 1, 2] bcast_S1x1x256_S128x1x256_0_1_2 (broadcastInDim S1x1x256 ![2] bcast_S256_S1x1x256_2 (iotaInDim S256 32 0)))))) (broadcastInDim S128x128x256 ![] bcast_S_S128x128x256 (constantI S_ 32 0#32))) (cmpi .slt (subi (broadcastInDim S128x128x256 ![0, 1, 2] bcast_S128x128x1_S128x128x256_0_1_2 (addi (broadcastInDim S128x128x1 ![0, 1, 2] bcast_S128x1x1_S128x128x1_0_1_2 (muli (broadcastInDim S128x1x1 ![0] bcast_S128_S128x1x1_0 (iotaInDim S128 32 0)) (broadcastInDim S128x1x1 ![] bcast_S_S128x1x1 (constantI S_ 32 128#32)))) (broadcastInDim S128x128x1 ![0, 1, 2] bcast_S1x128x1_S128x128x1_0_1_2 (broadcastInDim S1x128x1 ![1] bcast_S128_S1x128x1_1 (iotaInDim S128 32 0))))) (broadcastInDim S128x128x256 ![0, 1, 2] bcast_S128x1x256_S128x128x256_0_1_2 (addi (broadcastInDim S128x1x256 ![0, 1, 2] bcast_S128x1x1_S128x1x256_0_1_2 (subi (muli (broadcastInDim S128x1x1 ![0] bcast_S128_S128x1x1_0 (iotaInDim S128 32 0)) (broadcastInDim S128x1x1 ![] bcast_S_S128x1x1 (constantI S_ 32 128#32))) (broadcastInDim S128x1x1 ![] bcast_S_S128x1x1 (constantI S_ 32 128#32)))) (broadcastInDim S128x1x256 ![0, 1, 2] bcast_S1x1x256_S128x1x256_0_1_2 (broadcastInDim S1x1x256 ![2] bcast_S256_S1x1x256_2 (iotaInDim S256 32 0)))))) (broadcastInDim S128x128x256 ![] bcast_S_S128x128x256 (constantI S_ 32 128#32)))) (broadcastInDim S128x128x256 ![0, 1, 2] bcast_S128x1x256_S128x128x256_0_1_2 (cmpi .sge (addi (broadcastInDim S128x1x256 ![0, 1, 2] bcast_S128x1x1_S128x1x256_0_1_2 (subi (muli (broadcastInDim S128x1x1 ![0] bcast_S128_S128x1x1_0 (iotaInDim S128 32 0)) (broadcastInDim S128x1x1 ![] bcast_S_S128x1x1 (constantI S_ 32 128#32))) (broadcastInDim S128x1x1 ![] bcast_S_S128x1x1 (constantI S_ 32 128#32)))) (broadcastInDim S128x1x256 ![0, 1, 2] bcast_S1x1x256_S128x1x256_0_1_2 (broadcastInDim S1x1x256 ![2] bcast_S256_S1x1x256_2 (iotaInDim S256 32 0)))) (broadcastInDim S128x1x256 ![] bcast_S_S128x1x256 (constantI S_ 32 0#32)))))

/-- The masked scores. -/
def scores (k : FVec Ideal S1x128x256x4x64 .f32) (q : FVec Ideal S1x16384x16x64 .f32) : FVec Ideal S1x128x4x4x128x256 .f32 :=
  (select (broadcastInDim S1x128x4x4x128x256 ![0, 1, 2, 3, 4, 5] bcast_S1x128x1x1x128x256_S1x128x4x4x128x256_0_1_2_3_4_5 (broadcastInDim S1x128x1x1x128x256 ![1, 4, 5] bcast_S128x128x256_S1x128x1x1x128x256_1_4_5 mask)) (mulf (transpose S1x128x4x4x128x256 [0, 1, 2, 5, 4, 3] (Host.dotGeneral dot_S1x128x256x4x64_S1x128x128x4x4x64_S1x128x4x256x128x4_4_5_2_24_013_013 none k (shapeCast _ q shapeCasts_S1x16384x16x64_S1x128x128x4x4x64)) transposes_S1x128x4x256x128x4_S1x128x4x4x128x256_0_1_2_5_4_3) (broadcastInDim S1x128x4x4x128x256 ![] bcast_S_S1x128x4x4x128x256 (constant S_ .f32 0x3E000000#32))) (broadcastInDim S1x128x4x4x128x256 ![] bcast_S_S1x128x4x4x128x256 (id (constant S_ .f32 0xFF800000#32))))

/-- A row's maximum and the sink, the greater. -/
def topOf (R : FVec Ideal S1x128x4x4x128 .f32) (Z : FVec Ideal S16 .f32) : FVec Ideal S1x128x4x4x128x1 .f32 :=
  maximumf (broadcastInDim S1x128x4x4x128x1 ![0, 1, 2, 3, 4] bcast_S1x128x4x4x128_S1x128x4x4x128x1_0_1_2_3_4 R) (broadcastInDim S1x128x4x4x128x1 ![0, 1, 2, 3, 4, 5] bcast_S1x1x4x4x1x1_S1x128x4x4x128x1_0_1_2_3_4_5 (shapeCast _ Z shapeCasts_S16_S1x1x4x4x1x1))

/-- A row's maximum. -/
def rowMax (s : FVec Ideal S1x128x4x4x128x256 .f32) : FVec Ideal S1x128x4x4x128 .f32 :=
  Host.reduce FloatOps.maximumf s (constant S_ .f32 0xFF800000#32) reducesTo_S1x128x4x4x128x256_S1x128x4x4x128_d5 h_S_

/-- A row's maximum, the sink included. -/
def top (s : FVec Ideal S1x128x4x4x128x256 .f32) (Z : FVec Ideal S16 .f32) : FVec Ideal S1x128x4x4x128x1 .f32 := topOf (rowMax s) Z

/-- The exponentials of a row from its maximum. -/
def exOf (s : FVec Ideal S1x128x4x4x128x256 .f32) (T : FVec Ideal S1x128x4x4x128x1 .f32) : FVec Ideal S1x128x4x4x128x256 .f32 :=
  Host.exp (subf s (broadcastInDim S1x128x4x4x128x256 ![0, 1, 2, 3, 4, 5] bcast_S1x128x4x4x128x1_S1x128x4x4x128x256_0_1_2_3_4_5 T))

/-- The row sums. -/
def sumOf (E : FVec Ideal S1x128x4x4x128x256 .f32) : FVec Ideal S1x128x4x4x128 .f32 :=
  Host.reduceAdd E (constant S_ .f32 0x00000000#32) reducesTo_S1x128x4x4x128x256_S1x128x4x4x128_d5 h_S_

/-- The weights from the exponentials, the sums, the maximum and the sink. -/
def wtOf (E : FVec Ideal S1x128x4x4x128x256 .f32) (R : FVec Ideal S1x128x4x4x128 .f32) (T : FVec Ideal S1x128x4x4x128x1 .f32) (Z : FVec Ideal S16 .f32) : FVec Ideal S1x128x4x4x128x256 .f32 :=
  Host.divf E (broadcastInDim S1x128x4x4x128x256 ![0, 1, 2, 3, 4, 5] bcast_S1x128x4x4x128x1_S1x128x4x4x128x256_0_1_2_3_4_5 (addf (broadcastInDim S1x128x4x4x128x1 ![0, 1, 2, 3, 4] bcast_S1x128x4x4x128_S1x128x4x4x128x1_0_1_2_3_4 R) (Host.exp (subf (broadcastInDim S1x128x4x4x128x1 ![0, 1, 2, 3, 4, 5] bcast_S1x1x4x4x1x1_S1x128x4x4x128x1_0_1_2_3_4_5 (shapeCast _ Z shapeCasts_S16_S1x1x4x4x1x1)) T))))

/-- The row's weights. -/
def prob (s : FVec Ideal S1x128x4x4x128x256 .f32) (Z : FVec Ideal S16 .f32) : FVec Ideal S1x128x4x4x128x256 .f32 :=
  wtOf (exOf s (top s Z)) (sumOf (exOf s (top s Z))) (top s Z) Z

/-- The weighted values. -/
def outp (v : FVec Ideal S1x128x256x4x64 .f32) (p : FVec Ideal S1x128x4x4x128x256 .f32) : FVec Ideal S16384x1024 .bf16 :=
  truncf .bf16 (shapeCast _ (shapeCast _ (transpose S1x128x128x4x4x64 [0, 1, 5, 2, 4, 3] (Host.dotGeneral dot_S1x128x256x4x64_S1x128x4x4x128x256_S1x128x4x64x4x128_2_5_4_34_013_012 none v p) transposes_S1x128x4x64x4x128_S1x128x128x4x4x64_0_1_5_2_4_3) shapeCasts_S1x128x128x4x4x64_S1x16384x1024) shapeCasts_S1x16384x1024_S16384x1024) bitsLt_bf16_f32

/-- The reference's result in these steps. -/
theorem res_eq (m : (ℓ : Loc nD τ sig) → Buf (Elt Ideal) ℓ) (c : Dev nD) :
    Value.res_main_v142 m c = outp (win (cut (pv (m ((c.tc : Thread nD τ).loc main_arg0))))) (prob (scores (win (cut (ropeK (pk (m ((c.tc : Thread nD τ).loc main_arg0)))))) (ropeQ (pq (m ((c.tc : Thread nD τ).loc main_arg0))))) (m ((c.tc : Thread nD τ).loc main_arg1))) := by
  unfold Value.res_main_v142 outp prob top topOf rowMax scores mask win cut ropeQ ropeK pv pq pk sinT cosT ang
  rfl

theorem pk_apply (X : FVec Ideal S16384x7680 .f32) (t : Fin 16384) (g : Fin 4) (d : Fin 64) :
    pk X (ix4 0 t g d) = X (ix2 t ⟨5120 + (64 * g + d), by omega⟩) := by
  pointwise [pk]
  blk_ext

theorem pv_apply (X : FVec Ideal S16384x7680 .f32) (t : Fin 16384) (g : Fin 4) (d : Fin 64) :
    pv X (ix4 0 t g d) = X (ix2 t ⟨5376 + (64 * g + d), by omega⟩) := by
  pointwise [pv]
  blk_ext

theorem pq_apply (X : FVec Ideal S16384x7680 .f32) (t : Fin 16384) (h : Fin 16) (d : Fin 64) :
    pq X (ix4 0 t h d) = X (ix2 t ⟨4096 + (64 * h + d), by omega⟩) := by
  pointwise [pq]
  blk_ext

theorem cut_apply (x : FVec Ideal S1x16384x4x64 .f32) (n r : Fin 128) (g : Fin 4) (d : Fin 64) : cut x (ix5 0 n r g d) = x (ix4 0 ⟨128 * n + r, by omega⟩ g d) := by
  pointwise [cut]
  blk_ext

theorem win_apply (x : FVec Ideal S1x128x128x4x64 .f32) (n : Fin 128) (j : Fin 256) (g : Fin 4) (d : Fin 64) :
    win x (ix5 0 n j g d) = if h : j.val < 128 then if h' : n.val < 1 then 0 else x (ix5 0 ⟨n - 1, by omega⟩ ⟨j, h⟩ g d) else x (ix5 0 n ⟨j - 128, by omega⟩ g d) := by
  pointwise [win]

theorem scores_apply (k : FVec Ideal S1x128x256x4x64 .f32) (q : FVec Ideal S1x16384x16x64 .f32) (n : Fin 128) (g j : Fin 4) (i : Fin 128) (s : Fin 256) :
    scores k q (ix6 0 n g j i s) = Scalar.select (mask (ix3 n i s))
      ((∑ x, k (ix5 0 n s g x) * q (ix4 0 ⟨128 * n + i, by omega⟩ ⟨4 * g + j, by omega⟩ x)) * Ideal.ofBits .f32 0x3E000000#32) ⊥ := by
  pointwise [scores]
  have e : (id (constant (F := Ideal) S_ FTy.f32 4286578688#32) ix0) = ⊥ := by
    exact ofBits_ninf
  rw [e]
  congr 2
  refine Finset.sum_congr rfl fun x _ => ?_
  congr 1
  blk_ext

theorem max_apply (s : FVec Ideal S1x128x4x4x128x256 .f32) (n : Fin 128) (g j : Fin 4) (i : Fin 128) :
    rowMax s (ix5 0 n g j i) = (Finset.univ : Finset (Fin 256)).fold max ⊥ fun k => s (ix6 0 n g j i k) := by
  refine (Host.reduce_eq_fold_single _ _ _ _ (by decide : Shape.Reduces S1x128x4x4x128x256 [5] S1x128x4x4x128) _ _).trans ?_
  have e : (constant (F := Ideal) S_ FTy.f32 (4286578688#32) (Shape.Idx.first h_S_)) = (⊥ : EReal) := ofBits_ninf
  rw [e]
  refine congrArg (fun f => Finset.fold max (⊥ : EReal) f (Finset.univ : Finset (Fin 256))) (funext fun k => congrArg s ?_)
  funext b; fin_cases b <;> rfl

theorem sum_apply (s : FVec Ideal S1x128x4x4x128x256 .f32) (n : Fin 128) (g j : Fin 4) (i : Fin 128) :
    Ideal.hostReduceAdd reducesTo_S1x128x4x4x128x256_S1x128x4x4x128_d5 s 0 (ix5 0 n g j i)
      = ∑ k : Fin 256, s (ix6 0 n g j i k) := by
  refine (Ideal.hostReduceAdd_single _ (by decide) _ _ _).trans ?_
  rw [zero_add]
  refine Finset.sum_congr rfl fun k _ => congrArg s ?_
  funext b; fin_cases b <;> rfl

theorem topOf_apply (R : FVec Ideal S1x128x4x4x128 .f32) (Z : FVec Ideal S16 .f32) (n : Fin 128) (g j : Fin 4) (i : Fin 128) :
    topOf R Z (ix6 0 n g j i 0) = max (R (ix5 0 n g j i)) (Z (ix1 ⟨4 * g + j, by omega⟩)) := by
  pointwise [topOf]
  congr 1
  blk_ext

theorem top_apply (s : FVec Ideal S1x128x4x4x128x256 .f32) (Z : FVec Ideal S16 .f32) (n : Fin 128) (g j : Fin 4) (i : Fin 128) :
    top s Z (ix6 0 n g j i 0) = max ((Finset.univ : Finset (Fin 256)).fold max ⊥ fun k => s (ix6 0 n g j i k)) (Z (ix1 ⟨4 * g + j, by omega⟩)) := by
  unfold top
  generalize e : rowMax s = R
  rw [topOf_apply, ← e, max_apply]

theorem exOf_apply (s : FVec Ideal S1x128x4x4x128x256 .f32) (T : FVec Ideal S1x128x4x4x128x1 .f32) (n : Fin 128) (g j : Fin 4) (i : Fin 128) (k : Fin 256) :
    exOf s T (ix6 0 n g j i k) = Ideal.exp (s (ix6 0 n g j i k) - T (ix6 0 n g j i 0)) := by
  pointwise [exOf]

theorem sumOf_apply (E : FVec Ideal S1x128x4x4x128x256 .f32) (n : Fin 128) (g j : Fin 4) (i : Fin 128) :
    sumOf E (ix5 0 n g j i) = ∑ x : Fin 256, E (ix6 0 n g j i x) := by
  pointwise [sumOf]
  exact sum_apply E n g j i

theorem wtOf_apply (E : FVec Ideal S1x128x4x4x128x256 .f32) (R : FVec Ideal S1x128x4x4x128 .f32) (T : FVec Ideal S1x128x4x4x128x1 .f32) (Z : FVec Ideal S16 .f32) (n : Fin 128) (g j : Fin 4) (i : Fin 128) (k : Fin 256) :
    wtOf E R T Z (ix6 0 n g j i k) = Ideal.div (E (ix6 0 n g j i k)) (R (ix5 0 n g j i) + Ideal.exp (Z (ix1 ⟨4 * g + j, by omega⟩) - T (ix6 0 n g j i 0))) := by
  pointwise [wtOf]
  congr 5
  blk_ext

theorem prob_apply (s : FVec Ideal S1x128x4x4x128x256 .f32) (Z : FVec Ideal S16 .f32) (n : Fin 128) (g j : Fin 4) (i : Fin 128) (k : Fin 256) :
    prob s Z (ix6 0 n g j i k) = Ideal.div (Ideal.exp (s (ix6 0 n g j i k) - top s Z (ix6 0 n g j i 0)))
      (∑ x : Fin 256, Ideal.exp (s (ix6 0 n g j i x) - top s Z (ix6 0 n g j i 0)) + Ideal.exp (Z (ix1 ⟨4 * g + j, by omega⟩) - top s Z (ix6 0 n g j i 0))) := by
  unfold prob
  generalize top s Z = T
  rw [wtOf_apply, sumOf_apply, exOf_apply]
  simp only [exOf_apply]

theorem outp_apply (v : FVec Ideal S1x128x256x4x64 .f32) (p : FVec Ideal S1x128x4x4x128x256 .f32) (n i : Fin 128) (g j : Fin 4) (d : Fin 64) : outp v p (ix2 ⟨128 * n + i, by omega⟩ ⟨256 * g + 64 * j + d, by omega⟩) = ∑ x, v (ix5 0 n x g d) * p (ix6 0 n g j i x) := by
  pointwise [outp]

theorem ang_apply (t : Fin 16384) (l : Fin 8) : ang (ix2 t l) = angv t l := by
  pointwise [ang]
  rfl

theorem rope_of (t : Fin 16384) (x : Fin 64 → EReal) (d : Fin 64) :
    (if h : d.val < 16 then
      if h_1 : d.val < 8 then x d * Ideal.cos (ang (ix2 t ⟨d, h_1⟩)) - x ⟨8 + d, by omega⟩ * Ideal.sin (ang (ix2 t ⟨d, h_1⟩))
      else x ⟨8 + (d - 8), by omega⟩ * Ideal.cos (ang (ix2 t ⟨d - 8, by omega⟩)) + x ⟨d - 8, by omega⟩ * Ideal.sin (ang (ix2 t ⟨d - 8, by omega⟩))
    else x ⟨16 + (d - 16), by omega⟩) = rope t x d := by
  unfold rope
  split_ifs with h h'
  · rw [ang_apply]
  · rw [ang_apply, show (⟨8 + (d.val - 8), by omega⟩ : Fin 64) = d from Fin.ext (by show 8 + (d.val - 8) = d.val; omega)]
  · rw [show (⟨16 + (d.val - 16), by omega⟩ : Fin 64) = d from Fin.ext (by show 16 + (d.val - 16) = d.val; omega)]

theorem ropeK_apply (x : FVec Ideal S1x16384x4x64 .f32) (t : Fin 16384) (g : Fin 4) (d : Fin 64) : ropeK x (ix4 0 t g d) = rope t (fun e => x (ix4 0 t g e)) d := by
  rw [← rope_of]
  pointwise [ropeK, cosT, sinT]

theorem ropeQ_apply (x : FVec Ideal S1x16384x16x64 .f32) (t : Fin 16384) (g : Fin 16) (d : Fin 64) : ropeQ x (ix4 0 t g d) = rope t (fun e => x (ix4 0 t g e)) d := by
  rw [← rope_of]
  pointwise [ropeQ, cosT, sinT]

theorem mask_apply (n : Fin 128) (i : Fin 128) (s : Fin 256) : mask (ix3 n i s) = sees n i s := by
  pointwise [mask]
  have e1 : IntOp.subi (IntOp.addi (IntOp.muli (BitVec.ofNat 32 n) 128#32) (BitVec.ofNat 32 i))
      (IntOp.addi (IntOp.subi (IntOp.muli (BitVec.ofNat 32 n) 128#32) 128#32) (BitVec.ofNat 32 s))
      = IntOp.subi (IntOp.addi (BitVec.ofNat 32 i) 128#32) (BitVec.ofNat 32 s) := by
    show (BitVec.ofNat 32 n.val * 128#32 + BitVec.ofNat 32 i.val) - (BitVec.ofNat 32 n.val * 128#32 - 128#32 + BitVec.ofNat 32 s.val) = BitVec.ofNat 32 i.val + 128#32 - BitVec.ofNat 32 s.val
    generalize BitVec.ofNat 32 n.val * 128#32 = a
    generalize BitVec.ofNat 32 i.val = b
    generalize BitVec.ofNat 32 s.val = d
    generalize 128#32 = k
    have h : b + k - d + (a - k + d) = a + b := by
      calc b + k - d + (a - k + d) = ((b + k - d) + d) + (a - k) := by ac_rfl
        _ = (b + k) + (a - k) := by rw [BitVec.sub_add_cancel]
        _ = b + ((a - k) + k) := by ac_rfl
        _ = a + b := by rw [BitVec.sub_add_cancel, BitVec.add_comm]
    rw [← h, BitVec.add_sub_cancel]
  have e2 : IntOp.cmpi .sge (IntOp.addi (IntOp.subi (IntOp.muli (BitVec.ofNat 32 n) 128#32) 128#32) (BitVec.ofNat 32 s)) 0#32
      = IntOp.ori (IntOp.cmpi .sge (BitVec.ofNat 32 s) 128#32) (IntOp.cmpi .sgt (BitVec.ofNat 32 n) 0#32) := by
    exact (by decide +kernel : ∀ (n : Fin 128) (s : Fin 256), IntOp.cmpi .sge (IntOp.addi (IntOp.subi (IntOp.muli (BitVec.ofNat 32 n) 128#32) 128#32) (BitVec.ofNat 32 s)) 0#32
      = IntOp.ori (IntOp.cmpi .sge (BitVec.ofNat 32 s) 128#32) (IntOp.cmpi .sgt (BitVec.ofNat 32 n) 0#32)) n s
  rw [e1, e2]
  rfl

end Cert.Own.Swf.R
-- ==== Proof.SwfKer.lean ====
module

public import proofs.«01_k».proof.Defs
public import proofs.«01_k».proof.Proof.Lib
public import proofs.«01_k».proof.Proof.SwfCom
public import proofs.«01_k».proof.Proof.SwfHead
public import proofs.«01_k».proof.Proof.SwfTab
public import proofs.«01_k».proof.Proof.Gen.SwfKernelIdeal.Value
public import Idealize.ShloMosaic.Lib.Pipeline.ValueKit
public import Idealize.ShloMosaic.Lib.Claim
public import Idealize.ShloMosaic.Lib.Pointwise

/-! The windowed attention's kernel side: what each grid point stores, over the arguments. -/

@[expose] public section

set_option maxRecDepth 65536

noncomputable section

namespace Cert.Own.Swf.K

open Idealize.ShloMosaic Idealize.ShloMosaic.TcCoe Idealize.SL.Sem
open Cert.SwfKernelIdeal Cert.SwfKernelIdeal.Gen

variable (m : (ℓ : Loc nD τ sig) → Buf (Elt Ideal) ℓ) (c : Dev nD)

theorem idx : ∀ t : Fin cfg0.N, win0_0.index t = ![t.val % 128, 8 + t.val / 128] ∧ win0_1.index t = ![t.val % 128, 40 + t.val / 128] ∧ win0_2.index t = ![t.val % 128 - 1, 40 + t.val / 128]
    ∧ win0_3.index t = ![t.val % 128, 42 + t.val / 128] ∧ win0_4.index t = ![t.val % 128 - 1, 42 + t.val / 128]
    ∧ win0_5.index t = ![t.val % 128, 0] ∧ win0_6.index t = ![t.val % 128, 0] ∧ win0_7.index t = ![t.val % 128, 0]
    ∧ win0_8.index t = ![t.val % 128 - 1, 0] ∧ win0_9.index t = ![t.val % 128 - 1, 0] ∧ win0_10.index t = ![t.val % 128 - 1, 0]
    ∧ win0_11.index t = ![0, 0] ∧ win0_12.index t = ![t.val % 128, t.val / 128] :=
  (by decide +kernel : ∀ t : Fin grid0.N, _)

theorem coord : ∀ t : Fin cfg0.N, (grid0.coords t 1).val = t.val % 128 := (by decide +kernel : ∀ t : Fin grid0.N, _)

/-- The array the columns come from. -/
def xa : FVec Ideal S16384x7680 .f32 := m ((c.tc : Thread nD τ).loc main_arg0)
/-- The sinks. -/
def za : FVec Ideal S16 .f32 := m ((c.tc : Thread nD τ).loc main_arg1)

section
variable (t : Fin cfg0.N) (s l : Fin 128)

theorem lt256 : t.val < 256 := t.isLt

theorem rd_q (l : Fin 512) : iblk m c 0 t (ix2 s l) = xa m c (ix2 ⟨128 * (t.val % 128) + s, by have := lt256 t; omega⟩ ⟨4096 + 512 * (t.val / 128) + l, by have := lt256 t; omega⟩) := by
  obtain ⟨e0, e1, e2, e3, e4, e5, e6, e7, e8, e9, e10, e11, e12⟩ := idx t
  unfold xa
  blk_ext [iblk, V, e0]

theorem rd_kc : iblk m c 1 t (ix2 s l) = xa m c (ix2 ⟨128 * (t.val % 128) + s, by have := lt256 t; omega⟩ ⟨5120 + 128 * (t.val / 128) + l, by have := lt256 t; omega⟩) := by
  obtain ⟨e0, e1, e2, e3, e4, e5, e6, e7, e8, e9, e10, e11, e12⟩ := idx t
  unfold xa
  blk_ext [iblk, V, e1]

theorem rd_kp : iblk m c 2 t (ix2 s l) = xa m c (ix2 ⟨128 * (t.val % 128 - 1) + s, by have := lt256 t; omega⟩ ⟨5120 + 128 * (t.val / 128) + l, by have := lt256 t; omega⟩) := by
  obtain ⟨e0, e1, e2, e3, e4, e5, e6, e7, e8, e9, e10, e11, e12⟩ := idx t
  unfold xa
  blk_ext [iblk, V, e2]

theorem rd_vc : iblk m c 3 t (ix2 s l) = xa m c (ix2 ⟨128 * (t.val % 128) + s, by have := lt256 t; omega⟩ ⟨5376 + 128 * (t.val / 128) + l, by have := lt256 t; omega⟩) := by
  obtain ⟨e0, e1, e2, e3, e4, e5, e6, e7, e8, e9, e10, e11, e12⟩ := idx t
  unfold xa
  blk_ext [iblk, V, e3]

theorem rd_vp : iblk m c 4 t (ix2 s l) = xa m c (ix2 ⟨128 * (t.val % 128 - 1) + s, by have := lt256 t; omega⟩ ⟨5376 + 128 * (t.val / 128) + l, by have := lt256 t; omega⟩) := by
  obtain ⟨e0, e1, e2, e3, e4, e5, e6, e7, e8, e9, e10, e11, e12⟩ := idx t
  unfold xa
  blk_ext [iblk, V, e4]

theorem rd_cc : iblk m c 5 t (ix2 s l) = T.cosl (ix2 ⟨128 * (t.val % 128) + s, by have := lt256 t; omega⟩ l) := by
  obtain ⟨e0, e1, e2, e3, e4, e5, e6, e7, e8, e9, e10, e11, e12⟩ := idx t
  have e' := (T.entries m c).1
  unfold iblk
  generalize V m c main_v30 = Y at e' ⊢
  subst e'
  generalize T.cosl = Y
  blk_ext [e5]

theorem rd_uc : iblk m c 6 t (ix2 s l) = T.upl (ix2 ⟨128 * (t.val % 128) + s, by have := lt256 t; omega⟩ l) := by
  obtain ⟨e0, e1, e2, e3, e4, e5, e6, e7, e8, e9, e10, e11, e12⟩ := idx t
  have e' := (T.entries m c).2.1
  unfold iblk
  generalize V m c main_v34 = Y at e' ⊢
  subst e'
  generalize T.upl = Y
  blk_ext [e6]

theorem rd_dc : iblk m c 7 t (ix2 s l) = T.dnl (ix2 ⟨128 * (t.val % 128) + s, by have := lt256 t; omega⟩ l) := by
  obtain ⟨e0, e1, e2, e3, e4, e5, e6, e7, e8, e9, e10, e11, e12⟩ := idx t
  have e' := (T.entries m c).2.2
  unfold iblk
  generalize V m c main_v40 = Y at e' ⊢
  subst e'
  generalize T.dnl = Y
  blk_ext [e7]

theorem rd_cp : iblk m c 8 t (ix2 s l) = T.cosl (ix2 ⟨128 * (t.val % 128 - 1) + s, by have := lt256 t; omega⟩ l) := by
  obtain ⟨e0, e1, e2, e3, e4, e5, e6, e7, e8, e9, e10, e11, e12⟩ := idx t
  have e' := (T.entries m c).1
  unfold iblk
  generalize V m c main_v30 = Y at e' ⊢
  subst e'
  generalize T.cosl = Y
  blk_ext [e8]

theorem rd_up : iblk m c 9 t (ix2 s l) = T.upl (ix2 ⟨128 * (t.val % 128 - 1) + s, by have := lt256 t; omega⟩ l) := by
  obtain ⟨e0, e1, e2, e3, e4, e5, e6, e7, e8, e9, e10, e11, e12⟩ := idx t
  have e' := (T.entries m c).2.1
  unfold iblk
  generalize V m c main_v34 = Y at e' ⊢
  subst e'
  generalize T.upl = Y
  blk_ext [e9]

theorem rd_dp : iblk m c 10 t (ix2 s l) = T.dnl (ix2 ⟨128 * (t.val % 128 - 1) + s, by have := lt256 t; omega⟩ l) := by
  obtain ⟨e0, e1, e2, e3, e4, e5, e6, e7, e8, e9, e10, e11, e12⟩ := idx t
  have e' := (T.entries m c).2.2
  unfold iblk
  generalize V m c main_v40 = Y at e' ⊢
  subst e'
  generalize T.dnl = Y
  blk_ext [e10]

theorem rd_z (h : Fin 16) : iblk m c 11 t (ix2 0 h) = za m c (ix1 h) := by
  obtain ⟨e0, e1, e2, e3, e4, e5, e6, e7, e8, e9, e10, e11, e12⟩ := idx t
  have e' := T.entry_z m c
  unfold iblk za
  generalize (m ((c.tc : Thread nD τ).loc main_arg1) : FVec Ideal S16 .f32) = Z at e' ⊢
  have e2 : ∀ h, broadcastInDim S1x16 ![1] bcast_S16_S1x16_1 Z (ix2 0 h) = Z (ix1 h) := fun h => by pointwise []
  refine Eq.trans ?_ (e2 h)
  generalize broadcastInDim S1x16 ![1] bcast_S16_S1x16_1 Z = W at e' ⊢
  generalize V m c main_v0 = Y at e'
  subst e'
  blk_ext [e11]

end

theorem mask_apply (n : BitVec 32) (k : ℕ) (hn : n = BitVec.ofNat 32 k) (s : Fin 256) (i : Fin 128) :
    k0_pay7 n (iota .tc S256x128 32 [0] iota_S256x128_d0_w32) (iota .tc S256x128 32 [1] iota_S256x128_d1_w32) (ix2 s i) = sees k i s := by
  subst hn
  pointwise [k0_pay7]
  rfl

section
variable (t : Fin cfg0.N)

/-- The array of the columns, by row and column. -/
def aa : Fin 16384 → Fin 7680 → EReal := fun r k => xa m c (ix2 r k)

/-- The result: at column `64 h + d`, head `h`'s weighted values. -/
def outArr : FVec Ideal S16384x1024 .bf16 := fun y =>
  att (aa m c) (5120 + 64 * ((y 1).val / 256)) (5376 + 64 * ((y 1).val / 256)) (4096 + 64 * ((y 1).val / 64)) ((y 0).val / 128) ((y 0).val % 128)
    (za m c (ix1 ⟨(y 1).val / 64, by have := (y 1).isLt; change (y 1).val < 1024 at this; omega⟩)) ((y 1).val % 64)

theorem sink (a b e : BitVec 32) (k : Fin 16) (ho : k0_off1 (grid0.coords t) a b e = ![0, k.val]) (inb) (j) :
    View.ld (iblk m c 11 t) (Rect.unit (s := S1x16) (k0_off1 (grid0.coords t) a b e) ![1, 1] inb) j = za m c (ix1 k) := by
  refine (congrArg (iblk m c 11 t) ?_).trans (rd_z m c t k)
  funext b'
  have j0 : (j 0).val = 0 := by have := (j 0).isLt; change (j 0).val < 1 at this; omega
  have j1 : (j 1).val = 0 := by have := (j 1).isLt; change (j 1).val < 1 at this; omega
  fin_cases b' <;> apply Fin.ext <;> simp [Rect.unit, ho, j0, j1]

theorem keys_at (s : Fin 256) (l : Fin 128) :
    k0_pay5 (F := Ideal) (iblk m c 5 t) (iblk m c 6 t) (iblk m c 7 t) (iblk m c 8 t) (iblk m c 9 t) (iblk m c 10 t) (iblk m c 2 t) (iblk m c 1 t) (ix2 s l)
      = key (aa m c) (5120 + 128 * (t.val / 128) + 64 * (l / 64)) (t.val % 128) s ⟨l % 64, by omega⟩ := by
  rw [keys_eq, cat_apply]
  unfold key
  split_ifs with hs
  · refine turn_rope _ _ _ _ (aa m c) (5120 + 128 * (t.val / 128)) (128 * (t.val % 128 - 1) + s) ⟨s, hs⟩ l ?_ ?_ ?_ fun l => ?_
    · rw [rd_cp, T.cosl_apply]
    · rw [rd_up, T.upl_apply]
    · rw [rd_dp, T.dnl_apply]
    · rw [rd_kp]; exact xn_eq (aa m c) _ _
  · refine turn_rope _ _ _ _ (aa m c) (5120 + 128 * (t.val / 128)) (128 * (t.val % 128) + (s - 128)) ⟨s - 128, by omega⟩ l ?_ ?_ ?_ fun l => ?_
    · rw [rd_cc, T.cosl_apply]
    · rw [rd_uc, T.upl_apply]
    · rw [rd_dc, T.dnl_apply]
    · rw [rd_kc]; exact xn_eq (aa m c) _ _

theorem vals_at (s : Fin 256) (l : Fin 128) :
    k0_pay6 (F := Ideal) (iblk m c 4 t) (iblk m c 3 t) (ix2 s l)
      = val (aa m c) (5376 + 128 * (t.val / 128) + 64 * (l / 64)) (t.val % 128) s (l % 64) := by
  rw [cat_apply]
  unfold val
  split_ifs with hs
  · rw [rd_vp, show 5376 + 128 * (t.val / 128) + 64 * (l.val / 64) + l.val % 64 = 5376 + 128 * (t.val / 128) + l.val by omega]
    exact xn_eq (aa m c) _ _
  · rw [rd_vc, show 5376 + 128 * (t.val / 128) + 64 * (l.val / 64) + l.val % 64 = 5376 + 128 * (t.val / 128) + l.val by omega]
    exact xn_eq (aa m c) _ _

theorem query_at (p : Fin 4) (inb) (i l : Fin 128) :
    qs (F := Ideal) (k0_pay2 (iblk m c 5 t)) (k0_pay3 (iblk m c 6 t)) (k0_pay4 (iblk m c 7 t)) (View.ld (iblk m c 0 t) (Rect.unit (s := S128x512) ![0, 128 * p.val] ![128, 128] inb)) (ix2 i l)
      = rk (aa m c) (4096 + 512 * (t.val / 128) + 128 * p + 64 * (l / 64)) (128 * (t.val % 128) + i) ⟨l % 64, by omega⟩ * Ideal.ofBits .f32 0x3E000000#32 := by
  rw [tab_c, tab_u, tab_d, qs_apply]
  congr 1
  refine turn_rope _ _ _ _ (aa m c) (4096 + 512 * (t.val / 128) + 128 * p) (128 * (t.val % 128) + i) i l ?_ ?_ ?_ fun l => ?_
  · rw [rd_cc, T.cosl_apply]
  · rw [rd_uc, T.upl_apply]
  · rw [rd_dc, T.dnl_apply]
  · have e : View.ld (iblk m c 0 t) (Rect.unit (s := S128x512) ![0, 128 * p.val] ![128, 128] inb) (ix2 i l) = iblk m c 0 t (ix2 i ⟨128 * p + l, by omega⟩) := by
      refine congrArg (iblk m c 0 t) ?_
      funext b'
      fin_cases b' <;> apply Fin.ext <;> simp [Rect.unit]
    refine e.trans ?_
    rw [rd_q]
    refine (xn_eq (aa m c) _ _).trans ?_
    dsimp only
    rw [show 4096 + 512 * (t.val / 128) + (128 * p.val + l.val) = 4096 + 512 * (t.val / 128) + 128 * p.val + l.val by omega]

theorem piece (p : Fin 4) (inb) (kd vd : FVec Ideal S256x128 .bf16) (z0 z1 : Ideal .f32) (x : S128x128.Idx) (r : Fin 16384) (k : Fin 1024)
    (hk : ∀ (s : Fin 256) (l : Fin 128), kd (ix2 s l) = key (aa m c) (5120 + 128 * (t.val / 128) + 64 * (p / 2)) (t.val % 128) s ⟨l % 64, by omega⟩)
    (hv : ∀ (s : Fin 256) (l : Fin 128), vd (ix2 s l) = val (aa m c) (5376 + 128 * (t.val / 128) + 64 * (p / 2)) (t.val % 128) s (l % 64))
    (h0 : z0 = za m c (ix1 ⟨8 * (t.val / 128) + 2 * p, by have := lt256 t; omega⟩))
    (h1 : z1 = za m c (ix1 ⟨8 * (t.val / 128) + 2 * p + 1, by have := lt256 t; omega⟩))
    (hr : r.val = 128 * (t.val % 128) + (x 0).val) (hc : k.val = 512 * (t.val / 128) + (128 * p + (x 1).val)) :
    two (F := Ideal) (k0_pay7 (BitVec.ofNat 32 (grid0.coords t 1).val) (iota .tc S256x128 32 [0] iota_S256x128_d0_w32) (iota .tc S256x128 32 [1] iota_S256x128_d1_w32))
      k0_pay11 kd vd (qs (F := Ideal) (k0_pay2 (iblk m c 5 t)) (k0_pay3 (iblk m c 6 t)) (k0_pay4 (iblk m c 7 t)) (View.ld (iblk m c 0 t) (Rect.unit (s := S128x512) ![0, 128 * p.val] ![128, 128] inb))) z0 z1 x
      = outArr m c (ix2 r k) := by
  have x0 : (x 0).val < 128 := (x 0).isLt
  have x1 : (x 1).val < 128 := (x 1).isLt
  have ht := lt256 t
  have ex : x = ix2 (⟨(x 0).val, x0⟩ : Fin 128) (⟨(x 1).val, x1⟩ : Fin 128) := by funext b; fin_cases b <;> rfl
  rw [ex, two_att (aa m c) _ _ _ (t.val % 128) _ kd vd _ (fun s i => mask_apply _ (t.val % 128) (by rw [coord]) s i) hk hv (query_at m c t p inb) z0 z1]
  unfold outArr
  dsimp only [ix2]
  have a1 : k.val / 256 = 2 * (t.val / 128) + p / 2 := by omega
  have a2 : k.val / 64 = 8 * (t.val / 128) + 2 * p + (x 1).val / 64 := by omega
  have a3 : k.val % 64 = (x 1).val % 64 := by omega
  have a4 : r.val / 128 = t.val % 128 := by omega
  have a5 : r.val % 128 = (x 0).val := by omega
  show att (aa m c) (5120 + 128 * (t.val / 128) + 64 * (p / 2)) (5376 + 128 * (t.val / 128) + 64 * (p / 2)) (4096 + 512 * (t.val / 128) + 128 * p + 64 * ((x 1).val / 64)) (t.val % 128) (x 0).val (if (x 1).val < 64 then z0 else z1) ((x 1).val % 64)
    = att (aa m c) (5120 + 64 * (k.val / 256)) (5376 + 64 * (k.val / 256)) (4096 + 64 * (k.val / 64)) (r.val / 128) (r.val % 128) (za m c (ix1 ⟨k.val / 64, _⟩)) (k.val % 64)
  have hz : za m c (ix1 ⟨k.val / 64, by omega⟩) = (if (x 1).val < 64 then z0 else z1) := by
    split_ifs with h
    · rw [h0]; congr 2; exact Fin.ext (by show k.val / 64 = 8 * (t.val / 128) + 2 * p.val; omega)
    · rw [h1]; congr 2; exact Fin.ext (by show k.val / 64 = 8 * (t.val / 128) + 2 * p.val + 1; omega)
  rw [hz, a1, a2, a3, a4, a5]
  rw [show 5120 + 64 * (2 * (t.val / 128) + p.val / 2) = 5120 + 128 * (t.val / 128) + 64 * (p.val / 2) by omega,
    show 5376 + 64 * (2 * (t.val / 128) + p.val / 2) = 5376 + 128 * (t.val / 128) + 64 * (p.val / 2) by omega,
    show 4096 + 64 * (8 * (t.val / 128) + 2 * p.val + (x 1).val / 64) = 4096 + 512 * (t.val / 128) + 128 * p.val + 64 * ((x 1).val / 64) by omega]

theorem kd0_at (s : Fin 256) (l : Fin 128) :
    k0_pay13 (k0_pay5 (F := Ideal) (iblk m c 5 t) (iblk m c 6 t) (iblk m c 7 t) (iblk m c 8 t) (iblk m c 9 t) (iblk m c 10 t) (iblk m c 2 t) (iblk m c 1 t)) (ix2 s l)
      = key (aa m c) (5120 + 128 * (t.val / 128) + 64 * 0) (t.val % 128) s ⟨l % 64, by omega⟩ := by
  rw [kd0_apply, keys_at]
  dsimp only
  congr 1
  · rw [show l.val % 64 / 64 = 0 by omega]
  · exact Fin.ext (by show l.val % 64 % 64 = l.val % 64; omega)

theorem kd1_at (s : Fin 256) (l : Fin 128) (K : FVec Ideal S256x128 .f32) (hK : K = k0_pay5 (F := Ideal) (iblk m c 5 t) (iblk m c 6 t) (iblk m c 7 t) (iblk m c 8 t) (iblk m c 9 t) (iblk m c 10 t) (iblk m c 2 t) (iblk m c 1 t)) :
    k0_pay29 K (k0_pay8 K) k0_pay10 (ix2 s l)
      = key (aa m c) (5120 + 128 * (t.val / 128) + 64 * 1) (t.val % 128) s ⟨l % 64, by omega⟩ := by
  rw [kd1_apply, hK, keys_at]
  dsimp only
  congr 1
  · rw [show (64 + l.val % 64) / 64 = 1 by omega]
  · exact Fin.ext (by show (64 + l.val % 64) % 64 = l.val % 64; omega)

theorem vd0_at (s : Fin 256) (l : Fin 128) :
    k0_pay14 (k0_pay6 (F := Ideal) (iblk m c 4 t) (iblk m c 3 t)) (ix2 s l) = val (aa m c) (5376 + 128 * (t.val / 128) + 64 * 0) (t.val % 128) s (l % 64) := by
  rw [vd0_apply, vals_at]
  dsimp only
  rw [show l.val % 64 / 64 = 0 by omega, show l.val % 64 % 64 = l.val % 64 by omega]

theorem vd1_at (s : Fin 256) (l : Fin 128) (K : FVec Ideal S256x128 .f32) (hK : K = k0_pay6 (F := Ideal) (iblk m c 4 t) (iblk m c 3 t)) :
    k0_pay30 K (k0_pay9 K) k0_pay10 (ix2 s l) = val (aa m c) (5376 + 128 * (t.val / 128) + 64 * 1) (t.val % 128) s (l % 64) := by
  rw [vd1_apply, hK, vals_at]
  dsimp only
  rw [show (64 + l.val % 64) / 64 = 1 by omega, show (64 + l.val % 64) % 64 = l.val % 64 by omega]

end

theorem offs : ∀ t : Fin cfg0.N, k0_off1 (grid0.coords t) 0#32 0#32 0#32 = ![0, 8 * (t.val / 128) + 0] ∧ k0_off1 (grid0.coords t) 0#32 0#32 1#32 = ![0, 8 * (t.val / 128) + 1]
    ∧ k0_off1 (grid0.coords t) 0#32 2#32 0#32 = ![0, 8 * (t.val / 128) + 2] ∧ k0_off1 (grid0.coords t) 0#32 2#32 1#32 = ![0, 8 * (t.val / 128) + 3]
    ∧ k0_off1 (grid0.coords t) 4#32 0#32 0#32 = ![0, 8 * (t.val / 128) + 4] ∧ k0_off1 (grid0.coords t) 4#32 0#32 1#32 = ![0, 8 * (t.val / 128) + 5]
    ∧ k0_off1 (grid0.coords t) 4#32 2#32 0#32 = ![0, 8 * (t.val / 128) + 6] ∧ k0_off1 (grid0.coords t) 4#32 2#32 1#32 = ![0, 8 * (t.val / 128) + 7] :=
  (by decide +kernel : ∀ t : Fin grid0.N, _)

set_option backward.isDefEq.respectTransparency false in
theorem final : (dats m 0 c).arrAt 12 cfg0.N = outArr m c := by
  refine (dats m 0 c).arrAt_eq_of_covers 12 _ (by decide +kernel) fun t hf y => ?_
  obtain ⟨e0, e1, e2, e3, e4, e5, e6, e7, e8, e9, e10, e11, e12⟩ := idx t
  obtain ⟨o0, o1, o2, o3, o4, o5, o6, o7⟩ := offs t
  have ht : t.val < 256 := t.isLt
  have ey : (win0_12.blk t).view.emb y
      = ix2 (⟨128 * (t.val % 128) + (y 0).val, by have := (y 0).isLt; change (y 0).val < 128 at this; omega⟩ : Fin 16384)
          (⟨512 * (t.val / 128) + (y 1).val, by have := (y 1).isLt; change (y 1).val < 512 at this; omega⟩ : Fin 1024) := by
    blk_ext [e12]
  blk_simp
  rw [ey, after0_12]
  unfold outsAt0 out0_A_12
  frame_out
  canon_tiles x h
  · rw [pays3]
    refine piece m c t 3 _ _ _ _ _ x _ _ (kd1_at m c t · · _ rfl) (vd1_at m c t · · _ rfl) (sink m c t _ _ _ ⟨8 * (t.val / 128) + 6, by omega⟩ o6 _ _) (sink m c t _ _ _ ⟨8 * (t.val / 128) + 7, by omega⟩ o7 _ _) ?_ ?_
    · show 128 * (t.val % 128) + (y 0).val = _; omega
    · show 512 * (t.val / 128) + (y 1).val = 512 * (t.val / 128) + (384 + (x 1).val); omega
  · rw [pays2]
    refine piece m c t 2 _ _ _ _ _ x _ _ (kd1_at m c t · · _ rfl) (vd1_at m c t · · _ rfl) (sink m c t _ _ _ ⟨8 * (t.val / 128) + 4, by omega⟩ o4 _ _) (sink m c t _ _ _ ⟨8 * (t.val / 128) + 5, by omega⟩ o5 _ _) ?_ ?_
    · show 128 * (t.val % 128) + (y 0).val = _; omega
    · show 512 * (t.val / 128) + (y 1).val = 512 * (t.val / 128) + (256 + (x 1).val); omega
  · rw [pays1]
    refine piece m c t 1 _ _ _ _ _ x _ _ (kd0_at m c t) (vd0_at m c t) (sink m c t _ _ _ ⟨8 * (t.val / 128) + 2, by omega⟩ o2 _ _) (sink m c t _ _ _ ⟨8 * (t.val / 128) + 3, by omega⟩ o3 _ _) ?_ ?_
    · show 128 * (t.val % 128) + (y 0).val = _; omega
    · show 512 * (t.val / 128) + (y 1).val = 512 * (t.val / 128) + (128 + (x 1).val); omega
  · rw [pays0]
    refine piece m c t 0 _ _ _ _ _ x _ _ (kd0_at m c t) (vd0_at m c t) (sink m c t _ _ _ ⟨8 * (t.val / 128) + 0, by omega⟩ o0 _ _) (sink m c t _ _ _ ⟨8 * (t.val / 128) + 1, by omega⟩ o1 _ _) ?_ ?_
    · show 128 * (t.val % 128) + (y 0).val = _; omega
    · show 512 * (t.val / 128) + (y 1).val = 512 * (t.val / 128) + (0 + (x 1).val); omega

end Cert.Own.Swf.K

end
-- ==== Proof.Swf.lean ====
module

public import proofs.«01_k».proof.Defs
public import proofs.«01_k».proof.Proof.Lib
public import proofs.«01_k».proof.Proof.SwfCom
public import proofs.«01_k».proof.Proof.SwfRef
public import proofs.«01_k».proof.Proof.SwfKer
public import proofs.«01_k».proof.Proof.Gen.SwfKernelIdeal.Value
public import proofs.«01_k».proof.Proof.Gen.SwfRefIdeal.Run
public import proofs.«01_k».proof.Proof.Gen.Pre_swf_finite
public import Idealize.ShloMosaic.Lib.Pipeline.ValueKit
public import Idealize.ShloMosaic.Lib.Claim
public import Idealize.ShloMosaic.Lib.Pointwise

/-! The windowed attention: at finite arguments the call returns what the reference returns. -/

@[expose] public section

set_option maxRecDepth 65536

noncomputable section

namespace Cert.Own.Swf

open Idealize.ShloMosaic Idealize.ShloMosaic.TcCoe Idealize.SL.Sem

namespace R
open Cert.SwfRefIdeal Cert.SwfRefIdeal.Gen

variable (X : FVec Ideal S16384x7680 .f32) (Z : FVec Ideal S16 .f32)

/-- The argument by row and column. -/
def ar : Fin 16384 → Fin 7680 → EReal := fun r k => X (ix2 r k)

theorem queries (t : Fin 16384) (h : Fin 16) (d : Fin 64) : ropeQ (pq X) (ix4 0 t h d) = rk (ar X) (4096 + 64 * h) t d := by
  rw [ropeQ_apply]
  unfold rk
  congr 1
  funext e
  rw [pq_apply]
  refine (xn_eq (ar X) _ _).trans ?_
  dsimp only
  rw [add_assoc]

theorem keys (t : Fin 16384) (g : Fin 4) (d : Fin 64) : ropeK (pk X) (ix4 0 t g d) = rk (ar X) (5120 + 64 * g) t d := by
  rw [ropeK_apply]
  unfold rk
  congr 1
  funext e
  rw [pk_apply]
  refine (xn_eq (ar X) _ _).trans ?_
  dsimp only
  rw [add_assoc]

theorem values (t : Fin 16384) (g : Fin 4) (d : Fin 64) : pv X (ix4 0 t g d) = xn (ar X) t (5376 + 64 * g + d) := by
  rw [pv_apply]
  refine (xn_eq (ar X) _ _).trans ?_
  dsimp only
  rw [add_assoc]

theorem scores_eq (n : Fin 128) (g j : Fin 4) (i : Fin 128) (s : Fin 256) :
    scores (win (cut (ropeK (pk X)))) (ropeQ (pq X)) (ix6 0 n g j i s) = score (ar X) (5120 + 64 * g) (4096 + 64 * (4 * g + j)) n i s := by
  rw [scores_apply, mask_apply]
  by_cases h : s.val < 128 ∧ n.val < 1
  · have hn : n.val = 0 := by omega
    have e1 : sees n i s = 0#1 := by rw [hn]; exact sees_first _ _ h.1
    have e2 : score (ar X) (5120 + 64 * g) (4096 + 64 * (4 * g + j)) n i s = ⊥ := by rw [hn]; exact score_first _ _ _ _ _ h.1
    rw [e1, e2, select_zero]
  · unfold score
    congr 2
    refine Finset.sum_congr rfl fun x _ => ?_
    rw [queries, win_apply]
    congr 1
    unfold key
    split_ifs with h1 h2
    · exact absurd ⟨h1, h2⟩ h
    · rw [cut_apply, keys]
    · rw [cut_apply, keys]

theorem vals_eq (n : Fin 128) (g : Fin 4) (d : Fin 64) (x : Fin 256) (h : ¬ (x.val < 128 ∧ n.val < 1)) :
    val (ar X) (5376 + 64 * g) n x d = win (cut (pv X)) (ix5 0 n x g d) := by
  rw [win_apply]
  unfold val
  split_ifs with h1 h2
  · exact absurd ⟨h1, h2⟩ h
  · rw [cut_apply, values]
  · rw [cut_apply, values]

theorem value (hX : ∀ r k, ∃ a : ℝ, X (ix2 r k) = a) (hZ : ∀ h, ∃ a : ℝ, Z (ix1 h) = a) (n : Fin 128) (g j : Fin 4) (i : Fin 128) (d : Fin 64) :
    outp (win (cut (pv X))) (prob (scores (win (cut (ropeK (pk X)))) (ropeQ (pq X))) Z) (ix2 ⟨128 * n + i, by omega⟩ ⟨256 * g + 64 * j + d, by omega⟩)
      = att (ar X) (5120 + 64 * g) (5376 + 64 * g) (4096 + 64 * (4 * g + j)) n i (Z (ix1 ⟨4 * g + j, by omega⟩)) d := by
  rw [outp_apply]
  simp only [prob_apply, top_apply, scores_eq]
  unfold att
  refine (weigh (score (ar X) (5120 + 64 * g) (4096 + 64 * (4 * g + j)) n i) (Z (ix1 ⟨4 * g + j, by omega⟩)) _ _ (hZ _)
    (fun x => score_real (ar X) hX _ _ _ _ x) (fun x => ?_)).symm
  by_cases h : x.val < 128 ∧ n.val < 1
  · have hn : n.val = 0 := by omega
    rw [hn]
    exact .inl (score_first _ _ _ _ _ h.1)
  · exact .inr (vals_eq X n g d x h)

end R

theorem algebraic : Cert.algebraic_SwfKernelIdeal_SwfRefIdeal_pre_swf_finite := by
  pair_intro
  · run_from Cert.SwfKernelIdeal.Value.run_blocks m g
  · refine (θ_run _ _ _).mono (fun r h c => ⟨(h c).1.trans ?_, (h c).2⟩) (Cert.SwfRefIdeal.Value.run m' g')
    clear h
    obtain ⟨a0, a1⟩ := hagree c
    obtain ⟨hl, hd⟩ := hpre c
    have px (i : Fin 16384) (k : Fin 7680) : ∃ r : ℝ, m (c.tc.loc Cert.SwfKernelIdeal.main_arg0) (ix2 i k) = (r : EReal) := by
      have := congrFun hl (ix2 i k)
      revert this
      pointwise [Cert.Pre_swf_finite.fn]
      exact real_of_test
    have pz (h : Fin 16) : ∃ r : ℝ, m (c.tc.loc Cert.SwfKernelIdeal.main_arg1) (ix1 h) = (r : EReal) := by
      have := congrFun hd (ix1 h)
      revert this
      pointwise [Cert.Pre_swf_finite.fn]
      exact real_of_test
    rw [R.res_eq, a0, a1, K.final]
    funext y
    idx_vars y
    unfold K.outArr
    have b0 : y0.val / 128 < 128 := by have := y0.isLt; omega
    have b1 : y1.val / 256 < 4 := by have := y1.isLt; omega
    have hv := R.value (m (c.tc.loc Cert.SwfKernelIdeal.main_arg0)) (m (c.tc.loc Cert.SwfKernelIdeal.main_arg1)) px pz ⟨y0.val / 128, b0⟩ ⟨y1.val / 256, b1⟩
      ⟨y1.val / 64 % 4, by omega⟩ ⟨y0.val % 128, by omega⟩ ⟨y1.val % 64, by omega⟩
    have q0 : (⟨128 * (y0.val / 128) + y0.val % 128, by omega⟩ : Fin 16384) = y0 := Fin.ext (by show 128 * (y0.val / 128) + y0.val % 128 = y0.val; omega)
    have q1 : (⟨256 * (y1.val / 256) + 64 * (y1.val / 64 % 4) + y1.val % 64, by omega⟩ : Fin 1024) = y1 := Fin.ext (by show 256 * (y1.val / 256) + 64 * (y1.val / 64 % 4) + y1.val % 64 = y1.val; omega)
    have q2 : (⟨4 * (y1.val / 256) + y1.val / 64 % 4, by omega⟩ : Fin 16) = ⟨y1.val / 64, by omega⟩ := Fin.ext (by show 4 * (y1.val / 256) + y1.val / 64 % 4 = y1.val / 64; omega)
    have q3 : 4 * (y1.val / 256) + y1.val / 64 % 4 = y1.val / 64 := by omega
    dsimp only at hv
    rw [q0, q1, q2, q3] at hv
    exact hv

end Cert.Own.Swf

end
-- ==== Proof.SwvRun.lean ====
module

public import proofs.«01_k».proof.Proof.Gen.SwvKernelIdeal.Frame
public import proofs.«01_k».proof.Proof.Gen.SwvKernelIdeal.Skeleton
public import Idealize.ShloMosaic.Lib.Claim
public import Idealize.ShloMosaic.Lib.Ring
public import Idealize.ShloMosaic.Lib.Tactic
public import Idealize.ShloMosaic.Lib.WordCmp

/-! The body of the attention backward call run at one grid point, in its three cases: the first block row, a middle
    one, and the trailing point which only hands the carried gradients out. Each run names the pieces every buffer ends with. -/

@[expose] public section

set_option maxRecDepth 16384

noncomputable section

namespace Cert.Own.SwvRun

open Cert.SwvKernelIdeal Cert.SwvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (arg2 : Memref sig .tc .vmem S128x512 .f32) (harg2 : arg2.IsWhole)
variable (arg3 : Memref sig .tc .vmem S128x128 .f32) (harg3 : arg3.IsWhole)
variable (arg4 : Memref sig .tc .vmem S128x128 .f32) (harg4 : arg4.IsWhole)
variable (arg5 : Memref sig .tc .vmem S128x128 .f32) (harg5 : arg5.IsWhole)
variable (arg6 : Memref sig .tc .vmem S128x128 .f32) (harg6 : arg6.IsWhole)
variable (arg7 : Memref sig .tc .vmem S128x128 .f32) (harg7 : arg7.IsWhole)
variable (arg8 : Memref sig .tc .vmem S128x128 .f32) (harg8 : arg8.IsWhole)
variable (arg9 : Memref sig .tc .vmem S128x128 .f32) (harg9 : arg9.IsWhole)
variable (arg10 : Memref sig .tc .vmem S128x128 .f32) (harg10 : arg10.IsWhole)
variable (arg11 : Memref sig .tc .vmem S128x128 .f32) (harg11 : arg11.IsWhole)
variable (arg12 : Memref sig .tc .vmem S128x128 .f32) (harg12 : arg12.IsWhole)
variable (arg13 : Memref sig .tc .smem S1x16 .f32) (harg13 : arg13.IsWhole)
variable (arg14 : Memref sig .tc .vmem S128x512 .bf16) (harg14 : arg14.IsWhole)
variable (arg15 : Memref sig .tc .vmem S128x512 .f32) (harg15 : arg15.IsWhole)
variable (arg16 : Memref sig .tc .vmem S128x512 .bf16) (harg16 : arg16.IsWhole)
variable (arg17 : Memref sig .tc .vmem S128x128 .bf16) (harg17 : arg17.IsWhole)
variable (arg18 : Memref sig .tc .vmem S128x128 .bf16) (harg18 : arg18.IsWhole)
variable (arg19 : Memref sig .tc .vmem S1x8x128 .f32) (harg19 : arg19.IsWhole)
variable (arg20 : Memref sig .tc .vmem S128x128 .f32) (harg20 : arg20.IsWhole)
variable (arg21 : Memref sig .tc .vmem S128x128 .f32) (harg21 : arg21.IsWhole)
variable (x0 : Vec F S128x512 .f32)
variable (x1 : Vec F S128x128 .f32)
variable (x2 : Vec F S128x128 .f32)
variable (x3 : Vec F S128x128 .f32)
variable (x4 : Vec F S128x128 .f32)
variable (x5 : Vec F S128x128 .f32)
variable (x6 : Vec F S128x128 .f32)
variable (x7 : Vec F S128x128 .f32)
variable (x8 : Vec F S128x128 .f32)
variable (x9 : Vec F S128x128 .f32)
variable (x10 : Vec F S128x128 .f32)
variable (x11 : Vec F S1x16 .f32)
variable (x12 : Vec F S128x512 .bf16)
variable (x13 : Vec F S128x512 .f32)

/-- The fourteen input buffers at their contents. -/
def inp (c : Dev nD) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13)

set_option maxHeartbeats 4000000 in
/-- The run in case A. -/
noncomputable def runA (c : Dev nD) (i : grid0.Coords) (hc0 : k0_cond1 i = 1#1) (hc1 : k0_cond2 i = 1#1) (hc2 : ¬k0_cond3 i = 1#1)  :
    Σ' (L0 : List (View.Piece (Elt F) S128x512 .bf16)), Σ' (L1 : List (View.Piece (Elt F) S128x128 .bf16)), Σ' (L2 : List (View.Piece (Elt F) S128x128 .bf16)), Σ' (L3 : List (View.Piece (Elt F) S1x8x128 .f32)), Σ' (L4 : List (View.Piece (Elt F) S128x128 .f32)), { L5 : List (View.Piece (Elt F) S128x128 .f32) //
      ∀ (E : Set ℕ) (K : PUnit → sProp 𝕄),
        iprop(inp arg2 arg3 arg4 arg5 arg6 arg7 arg8 arg9 arg10 arg11 arg12 arg13 arg14 arg15 x0 x1 x2 x3 x4 x5 x6 x7 x8 x9 x10 x11 x12 x13 c ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(inp arg2 arg3 arg4 arg5 arg6 arg7 arg8 arg9 arg10 arg11 arg12 arg13 arg14 arg15 x0 x1 x2 x3 x4 x5 x6 x7 x8 x9 x10 x11 x12 x13 c ∗ (∃ f, arg16.view.loc (c : Thread nD τ) ↦[arg16.view.set]{fullShare} arg16.view.writes (Elt F) f L0) ∗ (∃ f, arg17.view.loc (c : Thread nD τ) ↦[arg17.view.set]{fullShare} arg17.view.writes (Elt F) f L1) ∗ (∃ f, arg18.view.loc (c : Thread nD τ) ↦[arg18.view.set]{fullShare} arg18.view.writes (Elt F) f L2) ∗ (∃ f, arg19.view.loc (c : Thread nD τ) ↦[arg19.view.set]{fullShare} arg19.view.writes (Elt F) f L3) ∗ (∃ f, arg20.view.loc (c : Thread nD τ) ↦[arg20.view.set]{fullShare} arg20.view.writes (Elt F) f L4) ∗ (∃ f, arg21.view.loc (c : Thread nD τ) ↦[arg21.view.set]{fullShare} arg21.view.writes (Elt F) f L5)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold inp owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d0, %g0, -, G0⟩, ⟨%d1, %g1, -, G1⟩, ⟨%d2, %g2, -, G2⟩, ⟨%d3, %g3, -, G3⟩, ⟨%d4, %g4, -, G4⟩, ⟨%d5, %g5, -, G5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | sl_exact hc0 | sl_exact hc1 | sl_exact hc2)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [G0]
    · iexists _; iexact G0
    isplitl [G1]
    · iexists _; iexact G1
    isplitl [G2]
    · iexists _; iexact G2
    isplitl [G3]
    · iexists _; iexact G3
    isplitl [G4]
    · iexists _; iexact G4
    iexists _; iexact G5

set_option maxHeartbeats 4000000 in
/-- The run in case B. -/
noncomputable def runB (c : Dev nD) (i : grid0.Coords) (hc0 : ¬k0_cond1 i = 1#1) (hc1 : k0_cond2 i = 1#1) (hc2 : ¬k0_cond3 i = 1#1) (y3 : Vec F S1x8x128 .f32) (y4 : Vec F S128x128 .f32) (y5 : Vec F S128x128 .f32) :
    Σ' (L0 : List (View.Piece (Elt F) S128x512 .bf16)), Σ' (L1 : List (View.Piece (Elt F) S128x128 .bf16)), Σ' (L2 : List (View.Piece (Elt F) S128x128 .bf16)), Σ' (L3 : List (View.Piece (Elt F) S1x8x128 .f32)), Σ' (L4 : List (View.Piece (Elt F) S128x128 .f32)), { L5 : List (View.Piece (Elt F) S128x128 .f32) //
      ∀ (E : Set ℕ) (K : PUnit → sProp 𝕄),
        iprop(inp arg2 arg3 arg4 arg5 arg6 arg7 arg8 arg9 arg10 arg11 arg12 arg13 arg14 arg15 x0 x1 x2 x3 x4 x5 x6 x7 x8 x9 x10 x11 x12 x13 c ∗ (∃ d, owns (c : Thread nD τ) arg16 fullShare d) ∗ (∃ d, owns (c : Thread nD τ) arg17 fullShare d) ∗ (∃ d, owns (c : Thread nD τ) arg18 fullShare d) ∗ owns (c : Thread nD τ) arg19 fullShare y3 ∗ owns (c : Thread nD τ) arg20 fullShare y4 ∗ owns (c : Thread nD τ) arg21 fullShare y5
            ∗ (iprop(inp arg2 arg3 arg4 arg5 arg6 arg7 arg8 arg9 arg10 arg11 arg12 arg13 arg14 arg15 x0 x1 x2 x3 x4 x5 x6 x7 x8 x9 x10 x11 x12 x13 c ∗ (∃ f, arg16.view.loc (c : Thread nD τ) ↦[arg16.view.set]{fullShare} arg16.view.writes (Elt F) f L0) ∗ (∃ f, arg17.view.loc (c : Thread nD τ) ↦[arg17.view.set]{fullShare} arg17.view.writes (Elt F) f L1) ∗ (∃ f, arg18.view.loc (c : Thread nD τ) ↦[arg18.view.set]{fullShare} arg18.view.writes (Elt F) f L2) ∗ (∃ f, arg19.view.loc (c : Thread nD τ) ↦[arg19.view.set]{fullShare} arg19.view.writes (Elt F) f L3) ∗ (∃ f, arg20.view.loc (c : Thread nD τ) ↦[arg20.view.set]{fullShare} arg20.view.writes (Elt F) f L4) ∗ (∃ f, arg21.view.loc (c : Thread nD τ) ↦[arg21.view.set]{fullShare} arg21.view.writes (Elt F) f L5)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0_swa_bwd_eq_skeleton]; unfold cc0_swa_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold inp owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d0, %g0, -, G0⟩, ⟨%d1, %g1, -, G1⟩, ⟨%d2, %g2, -, G2⟩, ⟨%g3, %hg3, G3⟩, ⟨%g4, %hg4, G4⟩, ⟨%g5, %hg5, G5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg19.eq_unread hg3; obtain rfl := harg20.eq_unread hg4; obtain rfl := harg21.eq_unread hg5
    sl_exec (disch := first | sl_exact hc0 | sl_exact hc1 | sl_exact hc2)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [G0]
    · iexists _; iexact G0
    isplitl [G1]
    · iexists _; iexact G1
    isplitl [G2]
    · iexists _; iexact G2
    isplitl [G3]
    · iexists _; iexact G3
    isplitl [G4]
    · iexists _; iexact G4
    iexists _; iexact G5

set_option maxHeartbeats 4000000 in
/-- The run in case C. -/
noncomputable def runC (c : Dev nD) (i : grid0.Coords) (hc0 : ¬k0_cond1 i = 1#1) (hc1 : ¬k0_cond2 i = 1#1) (hc2 : k0_cond3 i = 1#1) (y0 : Vec F S128x512 .bf16) (y3 : Vec F S1x8x128 .f32) (y4 : Vec F S128x128 .f32) (y5 : Vec F S128x128 .f32) :
    Σ' (L1 : List (View.Piece (Elt F) S128x128 .bf16)), { L2 : List (View.Piece (Elt F) S128x128 .bf16) //
      ∀ (E : Set ℕ) (K : PUnit → sProp 𝕄),
        iprop(inp arg2 arg3 arg4 arg5 arg6 arg7 arg8 arg9 arg10 arg11 arg12 arg13 arg14 arg15 x0 x1 x2 x3 x4 x5 x6 x7 x8 x9 x10 x11 x12 x13 c ∗ owns (c : Thread nD τ) arg16 fullShare y0 ∗ (∃ d, owns (c : Thread nD τ) arg17 fullShare d) ∗ (∃ d, owns (c : Thread nD τ) arg18 fullShare d) ∗ owns (c : Thread nD τ) arg19 fullShare y3 ∗ owns (c : Thread nD τ) arg20 fullShare y4 ∗ owns (c : Thread nD τ) arg21 fullShare y5
            ∗ (iprop(inp arg2 arg3 arg4 arg5 arg6 arg7 arg8 arg9 arg10 arg11 arg12 arg13 arg14 arg15 x0 x1 x2 x3 x4 x5 x6 x7 x8 x9 x10 x11 x12 x13 c ∗ owns (c : Thread nD τ) arg16 fullShare y0 ∗ (∃ f, arg17.view.loc (c : Thread nD τ) ↦[arg17.view.set]{fullShare} arg17.view.writes (Elt F) f L1) ∗ (∃ f, arg18.view.loc (c : Thread nD τ) ↦[arg18.view.set]{fullShare} arg18.view.writes (Elt F) f L2) ∗ owns (c : Thread nD τ) arg19 fullShare y3 ∗ owns (c : Thread nD τ) arg20 fullShare y4 ∗ owns (c : Thread nD τ) arg21 fullShare y5) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, fun E K => ?run⟩
  case run =>
    simp only [cc0_swa_bwd_eq_skeleton]; unfold cc0_swa_bwd_skel
    skip
    unfold inp owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%g0, %hg0, G0⟩, ⟨%d1, %g1, -, G1⟩, ⟨%d2, %g2, -, G2⟩, ⟨%g3, %hg3, G3⟩, ⟨%g4, %hg4, G4⟩, ⟨%g5, %hg5, G5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    obtain rfl := harg16.eq_unread hg0; obtain rfl := harg19.eq_unread hg3; obtain rfl := harg20.eq_unread hg4; obtain rfl := harg21.eq_unread hg5
    sl_exec (disch := first | sl_exact hc0 | sl_exact hc1 | sl_exact hc2)
    sl_step
    iapply Hk
    isplitl [H0 H1 H2 H3 H4 H5 H6 H7 H8 H9 H10 H11 H12 H13]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _; isplitr; · ipureintro; exact harg11.read_unread _
        iexact H9
      isplitl [H10]
      · iexists _; isplitr; · ipureintro; exact harg12.read_unread _
        iexact H10
      isplitl [H11]
      · iexists _; isplitr; · ipureintro; exact harg13.read_unread _
        iexact H11
      isplitl [H12]
      · iexists _; isplitr; · ipureintro; exact harg14.read_unread _
        iexact H12
      iexists _; isplitr; · ipureintro; exact harg15.read_unread _
      iexact H13
    isplitl [G0]
    · iexists _; isplitr; · ipureintro; exact harg16.read_unread _
      iexact G0
    isplitl [G1]
    · iexists _; iexact G1
    isplitl [G2]
    · iexists _; iexact G2
    isplitl [G3]
    · iexists _; isplitr; · ipureintro; exact harg19.read_unread _
      iexact G3
    isplitl [G4]
    · iexists _; isplitr; · ipureintro; exact harg20.read_unread _
      iexact G4
    iexists _; isplitr; · ipureintro; exact harg21.read_unread _
    iexact G5

end Cert.Own.SwvRun
-- ==== Proof.SwvHead.lean ====
module

public import proofs.«01_k».proof.Defs
public import proofs.«01_k».proof.Proof.SwfHead
public import proofs.«01_k».proof.Proof.Gen.SwvKernelIdeal.Frame
public import proofs.«01_k».proof.Proof.Gen.SwvKernelIdeal.Skeleton
public import Idealize.ShloMosaic.Lib.Pointwise

/-! The attention backward body's gradient of the values in named steps, each at an index. -/

@[expose] public section

set_option maxRecDepth 65536

noncomputable section

namespace Cert.Own.Swv.K

open Idealize.ShloMosaic Idealize.ShloMosaic.TcCoe Idealize.SL.Sem
open Cert.SwvKernelIdeal Cert.SwvKernelIdeal.Gen
open Cert.Own.Swf (xn rk key score peak sum_lo sum_hi sum_scale eighth_nonneg eighth_ne_top)
open Cert.Own.Swf.K (turn qs mx ex dn mx_apply ex_apply dn_apply up_lo up_hi)

/-- One query's weight for key `s`, from its scores and its sink. -/
def wt (S : Fin 256 → EReal) (z : EReal) (s : Fin 256) : EReal :=
  Ideal.exp (S s - peak S z) * Ideal.div 1 (∑ y, Ideal.exp (S y - peak S z) + Ideal.exp (z - peak S z))

section
variable {F : FTy → Type} [FloatOps F]

/-- The scores of two heads, one below the other. -/
def st (kh : FVec F S512x128 .bf16) (q : FVec F S128x128 .f32) : FVec F S512x128 .f32 :=
  matmul dot_S512x128_S128x128_S512x128_1_1_0_0_n_n none kh (truncf .bf16 q bitsLt_bf16_f32) (constant S512x128 .f32 0x00000000#32)

/-- The first head's masked scores. -/
def sa (mask : IVec S256x128 1) (x : FVec F S512x128 .f32) : FVec F S256x128 .f32 :=
  select mask (extractStridedSlice S256x128 ![0, 0] x slices_S512x128_o0_0_S256x128) (broadcast S256x128 (Scalar.ofBits .f32 0xFF800000#32))

/-- The second head's masked scores. -/
def sb (mask : IVec S256x128 1) (x : FVec F S512x128 .f32) : FVec F S256x128 .f32 :=
  select mask (extractStridedSlice S256x128 ![256, 0] x slices_S512x128_o256_0_S256x128) (broadcast S256x128 (Scalar.ofBits .f32 0xFF800000#32))

/-- The weights. -/
def pn (s : FVec F S256x128 .f32) (z : Elt F .f32) : FVec F S256x128 .bf16 :=
  truncf .bf16 (mulf (ex s z) (broadcastTo S256x128 (divf (broadcast S1x128 (Scalar.ofBits .f32 0x3F800000#32)) (dn s z)) broadcasts_S1x128_S256x128)) bitsLt_bf16_f32

/-- Both heads' weights times the incoming gradient. -/
def rv (p p' : FVec F S256x128 .bf16) (d : FVec F S128x128 .f32) : FVec F S512x128 .f32 :=
  matmul dot_S512x128_S128x128_S512x128_1_0_0_1_n_n none (concatenate S512x128 0 [⟨S256x128, p⟩, ⟨S256x128, p'⟩] concatenates_S256x128_S256x128_S512x128_d0) (truncf .bf16 d bitsLt_bf16_f32) (constant S512x128 .f32 0x00000000#32)

/-- Each head's rows in its own columns. -/
def pick (x : FVec F S512x128 .f32) : FVec F S256x128 .f32 :=
  select k0_pay18 (extractStridedSlice S256x128 ![256, 0] x slices_S512x128_o256_0_S256x128) (extractStridedSlice S256x128 ![0, 0] x slices_S512x128_o0_0_S256x128)

/-- What two query heads give, each in its own columns. -/
def part (mask : IVec S256x128 1) (kh : FVec F S512x128 .bf16) (q d : FVec F S128x128 .f32) (z z' : Elt F .f32) : FVec F S256x128 .f32 :=
  pick (rv (pn (sa mask (st kh q)) z) (pn (sb mask (st kh q)) z') d)

/-- The two halves added, kept in one key head's columns. -/
def fold (own : IVec S256x128 1) (x : FVec F S256x128 .f32) : FVec F S256x128 .f32 :=
  select own (addf x (dynamicRotate 1 64#32 none x rotates_S256x128_d1)) (broadcast S256x128 (Scalar.ofBits .f32 0x00000000#32))

/-- Four query heads over one key head. -/
def four (mask : IVec S256x128 1) (own : IVec S256x128 1) (kh : FVec F S512x128 .bf16) (q q' d d' : FVec F S128x128 .f32) (z0 z1 z2 z3 : Elt F .f32) : FVec F S256x128 .f32 :=
  fold own (addf (addf (broadcast S256x128 (Scalar.ofBits .f32 0x00000000#32)) (part mask kh q d z0 z1)) (part mask kh q' d' z2 z3))

/-- Both key heads. -/
def dv2 (mask : IVec S256x128 1) (k : FVec F S256x128 .f32) (q0 q1 q2 q3 d0 d1 d2 d3 : FVec F S128x128 .f32) (z0 z1 z2 z3 z4 z5 z6 z7 : Elt F .f32) : FVec F S256x128 .f32 :=
  addf (addf (broadcast S256x128 (Scalar.ofBits .f32 0x00000000#32)) (four mask k0_pay23 (k0_pay24 k) q0 q1 d0 d1 z0 z1 z2 z3))
    (four mask k0_pay18 (k0_pay95 k (k0_pay16 k) k0_pay18) q2 q3 d2 d3 z4 z5 z6 z7)

end

/-! At an index -/

theorem st_apply (kh : FVec Ideal S512x128 .bf16) (q : FVec Ideal S128x128 .f32) (s : Fin 512) (i : Fin 128) :
    st kh q (ix2 s i) = ∑ x, kh (ix2 s x) * q (ix2 i x) := by
  pointwise [st]

theorem sa_apply (mask : IVec S256x128 1) (x : FVec Ideal S512x128 .f32) (s : Fin 256) (i : Fin 128) :
    sa mask x (ix2 s i) = Scalar.select (mask (ix2 s i)) (x (ix2 ⟨s, by omega⟩ i)) ⊥ := by
  pointwise [sa]
  rw [ofBits_ninf]

theorem sb_apply (mask : IVec S256x128 1) (x : FVec Ideal S512x128 .f32) (s : Fin 256) (i : Fin 128) :
    sb mask x (ix2 s i) = Scalar.select (mask (ix2 s i)) (x (ix2 ⟨256 + s, by omega⟩ i)) ⊥ := by
  pointwise [sb]
  rw [ofBits_ninf]

theorem pn_apply (s : FVec Ideal S256x128 .f32) (z : Ideal .f32) (k : Fin 256) (i : Fin 128) :
    pn (F := Ideal) s z (ix2 k i) = wt (fun x => s (ix2 x i)) z k := by
  have e : mx (F := Ideal) s z (ix2 0 i) = peak (fun x => s (ix2 x i)) z := mx_apply s z i
  have h := ex_apply s z k i
  have h' := dn_apply s z i
  have h2 (y : Fin 256) := ex_apply s z y i
  pointwise [pn]
  rw [h, h']
  simp only [h2, e]
  rfl

theorem rv_lo (p p' : FVec Ideal S256x128 .bf16) (d : FVec Ideal S128x128 .f32) (s : Fin 256) (l : Fin 128) :
    rv p p' d (ix2 ⟨s, by omega⟩ l) = ∑ x, p (ix2 s x) * d (ix2 x l) := by
  pointwise [rv]

theorem rv_hi (p p' : FVec Ideal S256x128 .bf16) (d : FVec Ideal S128x128 .f32) (s : Fin 256) (l : Fin 128) :
    rv p p' d (ix2 ⟨256 + s, by omega⟩ l) = ∑ x, p' (ix2 s x) * d (ix2 x l) := by
  pointwise [rv]

theorem up_apply (s : Fin 256) (l : Fin 128) : k0_pay18 (ix2 s l) = if l.val < 64 then 0#1 else 1#1 := by
  pointwise [k0_pay18]
  split_ifs with h
  · exact up_lo l h
  · exact up_hi l h

theorem co_apply (s : Fin 256) (l : Fin 128) : k0_pay23 (ix2 s l) = if l.val < 64 then 1#1 else 0#1 := by
  have := up_apply s l
  pointwise [k0_pay23]
  rw [this]
  split_ifs <;> rfl

theorem pick_apply (x : FVec Ideal S512x128 .f32) (s : Fin 256) (l : Fin 128) :
    pick x (ix2 s l) = if l.val < 64 then x (ix2 ⟨s, by omega⟩ l) else x (ix2 ⟨256 + s, by omega⟩ l) := by
  have := up_apply s l
  pointwise [pick]
  rw [this]
  split_ifs <;> rfl

theorem part_apply (mask : IVec S256x128 1) (kh : FVec Ideal S512x128 .bf16) (q d : FVec Ideal S128x128 .f32) (z z' : Ideal .f32) (s : Fin 256) (l : Fin 128) :
    part (F := Ideal) mask kh q d z z' (ix2 s l)
      = if l.val < 64 then ∑ x, wt (fun y => sa mask (st kh q) (ix2 y x)) z s * d (ix2 x l)
        else ∑ x, wt (fun y => sb mask (st kh q) (ix2 y x)) z' s * d (ix2 x l) := by
  unfold part
  rw [pick_apply, rv_lo, rv_hi]
  simp only [pn_apply]

theorem fold_lo (x : FVec Ideal S256x128 .f32) (s : Fin 256) (l : Fin 128) :
    fold k0_pay23 x (ix2 s l) = if h : l.val < 64 then x (ix2 s l) + x (ix2 s ⟨64 + l, by omega⟩) else 0 := by
  have := co_apply s l
  pointwise [fold]
  rw [this]
  split_ifs with h
  · change x (ix2 s l) + x (ix2 s ⟨(l + 128 - 64) % 128, _⟩) = _
    congr 2
    blk_ext
  · rfl

theorem fold_hi (x : FVec Ideal S256x128 .f32) (s : Fin 256) (l : Fin 128) :
    fold k0_pay18 x (ix2 s l) = if h : l.val < 64 then 0 else x (ix2 s l) + x (ix2 s ⟨l - 64, by omega⟩) := by
  have := up_apply s l
  pointwise [fold]
  rw [this]
  split_ifs with h
  · rfl
  · change x (ix2 s l) + x (ix2 s ⟨(l + 128 - 64) % 128, _⟩) = _
    congr 2
    blk_ext

theorem kh0_lo (k : FVec Ideal S256x128 .f32) (s : Fin 256) (l : Fin 128) :
    k0_pay24 k (ix2 ⟨s, by omega⟩ l) = if h : l.val < 64 then k (ix2 s ⟨l, by omega⟩) else 0 := by
  have := up_apply s l
  have h' := co_apply s l
  pointwise [k0_pay24]
  rw [this, h']
  split_ifs <;> rfl

theorem kh0_hi (k : FVec Ideal S256x128 .f32) (s : Fin 256) (l : Fin 128) :
    k0_pay24 k (ix2 ⟨256 + s, by omega⟩ l) = if h : l.val < 64 then 0 else k (ix2 s ⟨l - 64, by omega⟩) := by
  have := up_apply s l
  have h' := co_apply s l
  pointwise [k0_pay24, k0_pay16]
  rw [this, h']
  split_ifs with h
  · rfl
  · change k (ix2 s ⟨(l + 128 - 64) % 128, _⟩) = _
    blk_ext

theorem kh1_lo (k : FVec Ideal S256x128 .f32) (s : Fin 256) (l : Fin 128) :
    k0_pay95 k (k0_pay16 k) k0_pay18 (ix2 ⟨s, by omega⟩ l) = if h : l.val < 64 then k (ix2 s ⟨64 + l, by omega⟩) else 0 := by
  have := up_apply s l
  pointwise [k0_pay95, k0_pay16]
  rw [this]
  split_ifs with h
  · change k (ix2 s ⟨(l + 128 - 64) % 128, _⟩) = _
    blk_ext
  · rfl

theorem kh1_hi (k : FVec Ideal S256x128 .f32) (s : Fin 256) (l : Fin 128) :
    k0_pay95 k (k0_pay16 k) k0_pay18 (ix2 ⟨256 + s, by omega⟩ l) = if h : l.val < 64 then 0 else k (ix2 s l) := by
  have := up_apply s l
  pointwise [k0_pay95, k0_pay16]
  rw [this]
  split_ifs <;> rfl

section
variable (A : Fin 16384 → Fin 7680 → EReal) (ok oq n : ℕ) (mask : IVec S256x128 1) (kh : FVec Ideal S512x128 .bf16) (q q' : FVec Ideal S128x128 .f32)
  (hm : ∀ (s : Fin 256) (i : Fin 128), mask (ix2 s i) = Cert.Own.Swf.sees n i s)
  (hlo : ∀ (s : Fin 256) (l : Fin 128), kh (ix2 ⟨s, by omega⟩ l) = if h : l.val < 64 then key A ok n s ⟨l, h⟩ else 0)
  (hhi : ∀ (s : Fin 256) (l : Fin 128), kh (ix2 ⟨256 + s, by omega⟩ l) = if h : l.val < 64 then 0 else key A ok n s ⟨l - 64, by omega⟩)
  (hq : ∀ i l : Fin 128, q (ix2 i l) = rk A (oq + 64 * (l / 64)) (128 * n + i) ⟨l % 64, by omega⟩ * Ideal.ofBits .f32 0x3E000000#32)
  (hq' : ∀ i l : Fin 128, q' (ix2 i l) = rk A (oq + 128 + 64 * (l / 64)) (128 * n + i) ⟨l % 64, by omega⟩ * Ideal.ofBits .f32 0x3E000000#32)

include hm hlo hq in
theorem sa_score (s : Fin 256) (i : Fin 128) : sa mask (st kh q) (ix2 s i) = score A ok oq n i s := by
  rw [sa_apply, hm, st_apply]
  unfold score
  congr 1
  rw [← sum_scale _ _ eighth_nonneg eighth_ne_top]
  refine sum_lo _ _ (fun l => ?_) (fun l => ?_)
  · rw [hlo, dif_pos (show (⟨l.val, by omega⟩ : Fin 128).val < 64 from l.isLt), hq]
    have e1 : (⟨l.val % 64, by omega⟩ : Fin 64) = l := Fin.ext (Nat.mod_eq_of_lt l.isLt)
    dsimp only
    rw [e1, show oq + 64 * (l.val / 64) = oq by omega]
  · rw [hlo, dif_neg (show ¬ (64 + l.val < 64) by omega), zero_mul]

include hm hhi hq in
theorem sb_score (s : Fin 256) (i : Fin 128) : sb mask (st kh q) (ix2 s i) = score A ok (oq + 64) n i s := by
  rw [sb_apply, hm, st_apply]
  unfold score
  congr 1
  rw [← sum_scale _ _ eighth_nonneg eighth_ne_top]
  refine sum_hi _ _ (fun l => ?_) (fun l => ?_)
  · rw [hhi, dif_pos (show (⟨l.val, by omega⟩ : Fin 128).val < 64 from l.isLt), zero_mul]
  · rw [hhi, dif_neg (show ¬ (64 + l.val < 64) by omega), hq]
    have e1 : (⟨(64 + l.val) % 64, by omega⟩ : Fin 64) = l := Fin.ext (by show (64 + l.val) % 64 = l.val; omega)
    have e2 : (⟨64 + l.val - 64, by omega⟩ : Fin 64) = l := Fin.ext (by show 64 + l.val - 64 = l.val; omega)
    dsimp only
    rw [e1, e2, show oq + 64 * ((64 + l.val) / 64) = oq + 64 by omega]

include hm hlo hhi hq in
theorem part_score (d : FVec Ideal S128x128 .f32) (z z' : Ideal .f32) (s : Fin 256) (l : Fin 128) :
    part (F := Ideal) mask kh q d z z' (ix2 s l)
      = if l.val < 64 then ∑ x : Fin 128, wt (score A ok oq n x) z s * d (ix2 x l)
        else ∑ x : Fin 128, wt (score A ok (oq + 64) n x) z' s * d (ix2 x l) := by
  rw [part_apply]
  simp only [sa_score A ok oq n mask kh q hm hlo hq, sb_score A ok oq n mask kh q hm hhi hq]

/-- The four heads' sum. -/
def gsum (ok oq n : ℕ) (d d' : FVec Ideal S128x128 .f32) (z0 z1 z2 z3 : Ideal .f32) (s : Fin 256) (l : Fin 64) : EReal :=
  ∑ x : Fin 128, wt (score A ok oq n x) z0 s * d (ix2 x ⟨l, by omega⟩) + ∑ x : Fin 128, wt (score A ok (oq + 64) n x) z1 s * d (ix2 x ⟨64 + l, by omega⟩)
    + ∑ x : Fin 128, wt (score A ok (oq + 128) n x) z2 s * d' (ix2 x ⟨l, by omega⟩) + ∑ x : Fin 128, wt (score A ok (oq + 192) n x) z3 s * d' (ix2 x ⟨64 + l, by omega⟩)

/-- The two heads' parts, two times. -/
def acc (d d' : FVec Ideal S128x128 .f32) (z0 z1 z2 z3 : Ideal .f32) : FVec Ideal S256x128 .f32 :=
  addf (addf (broadcast S256x128 (Scalar.ofBits .f32 0x00000000#32)) (part (F := Ideal) mask kh q d z0 z1)) (part (F := Ideal) mask kh q' d' z2 z3)

theorem acc_apply (d d' : FVec Ideal S128x128 .f32) (z0 z1 z2 z3 : Ideal .f32) (s : Fin 256) (l : Fin 128) :
    acc mask kh q q' d d' z0 z1 z2 z3 (ix2 s l) = part (F := Ideal) mask kh q d z0 z1 (ix2 s l) + part (F := Ideal) mask kh q' d' z2 z3 (ix2 s l) := by
  pointwise [acc]

include hm hlo hhi hq hq' in
theorem acc_sum (d d' : FVec Ideal S128x128 .f32) (z0 z1 z2 z3 : Ideal .f32) (s : Fin 256) (l : Fin 64) :
    acc mask kh q q' d d' z0 z1 z2 z3 (ix2 s ⟨l, by omega⟩) + acc mask kh q q' d d' z0 z1 z2 z3 (ix2 s ⟨64 + l, by omega⟩)
      = gsum A ok oq n d d' z0 z1 z2 z3 s l := by
  rw [acc_apply, acc_apply]
  simp only [part_score A ok oq n mask kh q hm hlo hhi hq, part_score A ok (oq + 128) n mask kh q' hm hlo hhi hq']
  simp only [show l.val < 64 from l.isLt, show ¬ (64 + l.val < 64) by omega, if_true, if_false]
  unfold gsum
  rw [show oq + 128 + 64 = oq + 192 by omega]
  abel

end

section
variable (A : Fin 16384 → Fin 7680 → EReal) (ok oq n : ℕ) (mask : IVec S256x128 1) (k : FVec Ideal S256x128 .f32) (q0 q1 q2 q3 d0 d1 d2 d3 : FVec Ideal S128x128 .f32)
  (z0 z1 z2 z3 z4 z5 z6 z7 : Ideal .f32)
  (hm : ∀ (s : Fin 256) (i : Fin 128), mask (ix2 s i) = Cert.Own.Swf.sees n i s)
  (hk : ∀ (s : Fin 256) (l : Fin 128), k (ix2 s l) = key A (ok + 64 * (l / 64)) n s ⟨l % 64, Nat.mod_lt _ (Nat.zero_lt_succ 63)⟩)
  (h0 : ∀ i l : Fin 128, q0 (ix2 i l) = rk A (oq + 64 * (l / 64)) (128 * n + i) ⟨l % 64, Nat.mod_lt _ (Nat.zero_lt_succ 63)⟩ * Ideal.ofBits .f32 0x3E000000#32)
  (h1 : ∀ i l : Fin 128, q1 (ix2 i l) = rk A (oq + 128 + 64 * (l / 64)) (128 * n + i) ⟨l % 64, Nat.mod_lt _ (Nat.zero_lt_succ 63)⟩ * Ideal.ofBits .f32 0x3E000000#32)
  (h2 : ∀ i l : Fin 128, q2 (ix2 i l) = rk A (oq + 256 + 64 * (l / 64)) (128 * n + i) ⟨l % 64, Nat.mod_lt _ (Nat.zero_lt_succ 63)⟩ * Ideal.ofBits .f32 0x3E000000#32)
  (h3 : ∀ i l : Fin 128, q3 (ix2 i l) = rk A (oq + 256 + 128 + 64 * (l / 64)) (128 * n + i) ⟨l % 64, Nat.mod_lt _ (Nat.zero_lt_succ 63)⟩ * Ideal.ofBits .f32 0x3E000000#32)

theorem dv2_apply (s : Fin 256) (l : Fin 128) :
    dv2 (F := Ideal) mask k q0 q1 q2 q3 d0 d1 d2 d3 z0 z1 z2 z3 z4 z5 z6 z7 (ix2 s l)
      = fold k0_pay23 (acc mask (k0_pay24 k) q0 q1 d0 d1 z0 z1 z2 z3) (ix2 s l)
        + fold k0_pay18 (acc mask (k0_pay95 k (k0_pay16 k) k0_pay18) q2 q3 d2 d3 z4 z5 z6 z7) (ix2 s l) := by
  have e : dv2 (F := Ideal) mask k q0 q1 q2 q3 d0 d1 d2 d3 z0 z1 z2 z3 z4 z5 z6 z7
      = addf (addf (broadcast S256x128 (Scalar.ofBits .f32 0x00000000#32)) (fold k0_pay23 (acc mask (k0_pay24 k) q0 q1 d0 d1 z0 z1 z2 z3)))
        (fold k0_pay18 (acc mask (k0_pay95 k (k0_pay16 k) k0_pay18) q2 q3 d2 d3 z4 z5 z6 z7)) := rfl
  rw [e]
  generalize fold k0_pay23 (acc mask (k0_pay24 k) q0 q1 d0 d1 z0 z1 z2 z3) = x
  generalize fold k0_pay18 (acc mask (k0_pay95 k (k0_pay16 k) k0_pay18) q2 q3 d2 d3 z4 z5 z6 z7) = y
  pointwise []

include hm hk h0 h1 in
theorem dv2_lo (s : Fin 256) (l : Fin 128) (h : l.val < 64) :
    dv2 (F := Ideal) mask k q0 q1 q2 q3 d0 d1 d2 d3 z0 z1 z2 z3 z4 z5 z6 z7 (ix2 s l) = gsum A ok oq n d0 d1 z0 z1 z2 z3 s ⟨l, h⟩ := by
  rw [dv2_apply, fold_lo, fold_hi, dif_pos h, dif_pos h, add_zero]
  refine acc_sum A ok oq n mask _ q0 q1 hm (fun s l => ?_) (fun s l => ?_) h0 h1 d0 d1 z0 z1 z2 z3 s ⟨l, h⟩
  · rw [kh0_lo]
    split_ifs with h
    · rw [hk]
      have e1 : (⟨l.val % 64, by omega⟩ : Fin 64) = ⟨l, h⟩ := Fin.ext (Nat.mod_eq_of_lt h)
      dsimp only
      rw [e1, show ok + 64 * (l.val / 64) = ok by omega]
    · rfl
  · rw [kh0_hi]
    split_ifs with h
    · rfl
    · rw [hk]
      have e1 : (⟨(l.val - 64) % 64, by omega⟩ : Fin 64) = ⟨l - 64, by omega⟩ := Fin.ext (by show (l.val - 64) % 64 = l.val - 64; omega)
      dsimp only
      rw [e1, show ok + 64 * ((l.val - 64) / 64) = ok by omega]

include hm hk h2 h3 in
theorem dv2_hi (s : Fin 256) (l : Fin 128) (h : ¬ l.val < 64) (h' : l.val - 64 < 64) :
    dv2 (F := Ideal) mask k q0 q1 q2 q3 d0 d1 d2 d3 z0 z1 z2 z3 z4 z5 z6 z7 (ix2 s l) = gsum A (ok + 64) (oq + 256) n d2 d3 z4 z5 z6 z7 s ⟨l - 64, h'⟩ := by
  rw [dv2_apply, fold_lo, fold_hi, dif_neg h, dif_neg h, zero_add]
  have e0 : l = ⟨64 + (l.val - 64), by omega⟩ := Fin.ext (by show l.val = 64 + (l.val - 64); omega)
  rw [add_comm]
  refine Eq.trans (congrArg (fun u => _ + acc mask (k0_pay95 k (k0_pay16 k) k0_pay18) q2 q3 d2 d3 z4 z5 z6 z7 (ix2 s u)) e0) ?_
  refine acc_sum A (ok + 64) (oq + 256) n mask _ q2 q3 hm (fun s l => ?_) (fun s l => ?_) h2 h3 d2 d3 z4 z5 z6 z7 s ⟨l - 64, by omega⟩
  · rw [kh1_lo]
    split_ifs with h
    · rw [hk]
      have e1 : (⟨(64 + l.val) % 64, by omega⟩ : Fin 64) = ⟨l, h⟩ := Fin.ext (by show (64 + l.val) % 64 = l.val; omega)
      dsimp only
      rw [e1, show ok + 64 * ((64 + l.val) / 64) = ok + 64 by omega]
    · rfl
  · rw [kh1_hi]
    split_ifs with h
    · rfl
    · rw [hk]
      have e1 : (⟨l.val % 64, by omega⟩ : Fin 64) = ⟨l - 64, by omega⟩ := Fin.ext (by show l.val % 64 = l.val - 64; omega)
      rw [e1, show ok + 64 * (l.val / 64) = ok + 64 by omega]

end

end Cert.Own.Swv.K

end
-- ==== Proof.SwvVal.lean ====
module

public import proofs.«01_k».proof.Proof.SwvRun
public import proofs.«01_k».proof.Proof.SwvHead
public import proofs.«01_k».proof.Proof.Gen.SwvKernelIdeal.Frame
public import proofs.«01_k».proof.Proof.Gen.SwvKernelIdeal.Skeleton
public import Idealize.ShloMosaic.Lib.Claim
public import Idealize.ShloMosaic.Lib.Ring
public import Idealize.ShloMosaic.Lib.Tactic
public import Idealize.ShloMosaic.Lib.WordCmp

/-! What the runs of the attention backward body leave in the carried buffer and in the block of the gradient of the values. -/

@[expose] public section

set_option maxRecDepth 65536

noncomputable section

namespace Cert.Own.SwvRun

open Cert.SwvKernelIdeal Cert.SwvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Own.Swv.K (dv2)
open Cert.Own.Swf.K (qs)
open Idealize.ShloMosaic.Pipeline (Dat Cfg Window BodyObligation cellOf)

variable {F : FTy → Type} [FloatOps F]

local notation "𝕄" => MT nD τ sig Unit (Elt F) ℕ (UR sig nD τ) ℕ

variable (arg2 : Memref sig .tc .vmem S128x512 .f32) (harg2 : arg2.IsWhole)
variable (arg3 : Memref sig .tc .vmem S128x128 .f32) (harg3 : arg3.IsWhole)
variable (arg4 : Memref sig .tc .vmem S128x128 .f32) (harg4 : arg4.IsWhole)
variable (arg5 : Memref sig .tc .vmem S128x128 .f32) (harg5 : arg5.IsWhole)
variable (arg6 : Memref sig .tc .vmem S128x128 .f32) (harg6 : arg6.IsWhole)
variable (arg7 : Memref sig .tc .vmem S128x128 .f32) (harg7 : arg7.IsWhole)
variable (arg8 : Memref sig .tc .vmem S128x128 .f32) (harg8 : arg8.IsWhole)
variable (arg9 : Memref sig .tc .vmem S128x128 .f32) (harg9 : arg9.IsWhole)
variable (arg10 : Memref sig .tc .vmem S128x128 .f32) (harg10 : arg10.IsWhole)
variable (arg11 : Memref sig .tc .vmem S128x128 .f32) (harg11 : arg11.IsWhole)
variable (arg12 : Memref sig .tc .vmem S128x128 .f32) (harg12 : arg12.IsWhole)
variable (arg13 : Memref sig .tc .smem S1x16 .f32) (harg13 : arg13.IsWhole)
variable (arg14 : Memref sig .tc .vmem S128x512 .bf16) (harg14 : arg14.IsWhole)
variable (arg15 : Memref sig .tc .vmem S128x512 .f32) (harg15 : arg15.IsWhole)
variable (arg16 : Memref sig .tc .vmem S128x512 .bf16) (harg16 : arg16.IsWhole)
variable (arg17 : Memref sig .tc .vmem S128x128 .bf16) (harg17 : arg17.IsWhole)
variable (arg18 : Memref sig .tc .vmem S128x128 .bf16) (harg18 : arg18.IsWhole)
variable (arg19 : Memref sig .tc .vmem S1x8x128 .f32) (harg19 : arg19.IsWhole)
variable (arg20 : Memref sig .tc .vmem S128x128 .f32) (harg20 : arg20.IsWhole)
variable (arg21 : Memref sig .tc .vmem S128x128 .f32) (harg21 : arg21.IsWhole)
variable (x0 : Vec F S128x512 .f32)
variable (x1 : Vec F S128x128 .f32)
variable (x2 : Vec F S128x128 .f32)
variable (x3 : Vec F S128x128 .f32)
variable (x4 : Vec F S128x128 .f32)
variable (x5 : Vec F S128x128 .f32)
variable (x6 : Vec F S128x128 .f32)
variable (x7 : Vec F S128x128 .f32)
variable (x8 : Vec F S128x128 .f32)
variable (x9 : Vec F S128x128 .f32)
variable (x10 : Vec F S128x128 .f32)
variable (x11 : Vec F S1x16 .f32)
variable (x12 : Vec F S128x512 .bf16)
variable (x13 : Vec F S128x512 .f32)

/-- A row's share of the gradient of the values of its window. -/
def blk (i : grid0.Coords) (h2 : k0_cond2 i = 1#1) (x0 : Vec F S128x512 .f32) (x1 x2 x5 x6 x7 x8 x9 x10 : Vec F S128x128 .f32) (x11 : Vec F S1x16 .f32) (x13 : Vec F S128x512 .f32) : FVec F S256x128 .f32 :=
  dv2 (F := F) (k0_pay15 (BitVec.ofNat 32 (i 1).val) (iota .tc S256x128 32 [0] iota_S256x128_d0_w32) (iota .tc S256x128 32 [1] iota_S256x128_d1_w32) k0_pay14) (k0_pay12 x5 x6 x7 x8 x9 x10 x2 x1)
    (qs (F := F) (k0_pay6 x5) (k0_pay7 x6) (k0_pay8 x7) (View.ld x0 (Rect.unit (s := S128x512) ![0, 0] S128x128.size inb_S128x512_S128x128_0_0))) (qs (F := F) (k0_pay6 x5) (k0_pay7 x6) (k0_pay8 x7) (View.ld x0 (Rect.unit (s := S128x512) ![0, 128] S128x128.size inb_S128x512_S128x128_0_128))) (qs (F := F) (k0_pay6 x5) (k0_pay7 x6) (k0_pay8 x7) (View.ld x0 (Rect.unit (s := S128x512) ![0, 256] S128x128.size inb_S128x512_S128x128_0_256))) (qs (F := F) (k0_pay6 x5) (k0_pay7 x6) (k0_pay8 x7) (View.ld x0 (Rect.unit (s := S128x512) ![0, 384] S128x128.size inb_S128x512_S128x128_0_384)))
    (View.ld x13 (Rect.unit (s := S128x512) ![0, 0] S128x128.size inb_S128x512_S128x128_0_0)) (View.ld x13 (Rect.unit (s := S128x512) ![0, 128] S128x128.size inb_S128x512_S128x128_0_128)) (View.ld x13 (Rect.unit (s := S128x512) ![0, 256] S128x128.size inb_S128x512_S128x128_0_256)) (View.ld x13 (Rect.unit (s := S128x512) ![0, 384] S128x128.size inb_S128x512_S128x128_0_384))
    (View.ld x11 (Rect.unit (s := S1x16) (k0_off1 i 0#32) S1x1.size (k0_off1_inb i h2 0)) (Shape.Idx.first (numel1_S1x1.symm ▸ Nat.one_pos))) (View.ld x11 (Rect.unit (s := S1x16) (k0_off1 i 1#32) S1x1.size (k0_off1_inb i h2 1)) (Shape.Idx.first (numel1_S1x1.symm ▸ Nat.one_pos))) (View.ld x11 (Rect.unit (s := S1x16) (k0_off1 i 2#32) S1x1.size (k0_off1_inb i h2 2)) (Shape.Idx.first (numel1_S1x1.symm ▸ Nat.one_pos))) (View.ld x11 (Rect.unit (s := S1x16) (k0_off1 i 3#32) S1x1.size (k0_off1_inb i h2 3)) (Shape.Idx.first (numel1_S1x1.symm ▸ Nat.one_pos))) (View.ld x11 (Rect.unit (s := S1x16) (k0_off1 i 4#32) S1x1.size (k0_off1_inb i h2 4)) (Shape.Idx.first (numel1_S1x1.symm ▸ Nat.one_pos))) (View.ld x11 (Rect.unit (s := S1x16) (k0_off1 i 5#32) S1x1.size (k0_off1_inb i h2 5)) (Shape.Idx.first (numel1_S1x1.symm ▸ Nat.one_pos))) (View.ld x11 (Rect.unit (s := S1x16) (k0_off1 i 6#32) S1x1.size (k0_off1_inb i h2 6)) (Shape.Idx.first (numel1_S1x1.symm ▸ Nat.one_pos))) (View.ld x11 (Rect.unit (s := S1x16) (k0_off1 i 7#32) S1x1.size (k0_off1_inb i h2 7)) (Shape.Idx.first (numel1_S1x1.symm ▸ Nat.one_pos)))

theorem stepA (c : Dev nD) (i : grid0.Coords) (h2) : runA.sl.r_94 (F := F) arg2 harg2 arg3 harg3 arg4 harg4 arg7 harg7 arg8 harg8 arg9 harg9 arg10 harg10 arg11 harg11 arg12 harg12 arg13 harg13 arg15 harg15 x0 x1 x2 x5 x6 x7 x8 x9 x10 x11 x13 c i h2 = dv2 (F := F) (k0_pay15 (BitVec.ofNat 32 (i 1).val) (iota .tc S256x128 32 [0] iota_S256x128_d0_w32) (iota .tc S256x128 32 [1] iota_S256x128_d1_w32) k0_pay14) (k0_pay12 (View.readAt (Elt F) arg7.view (Rect.unit (s := S128x128) ![0, 0] S128x128.size inb_S128x128_S128x128_0_0).toLoadRect (harg7.unread x5)) (View.readAt (Elt F) arg8.view (Rect.unit (s := S128x128) ![0, 0] S128x128.size inb_S128x128_S128x128_0_0).toLoadRect (harg8.unread x6)) (View.readAt (Elt F) arg9.view (Rect.unit (s := S128x128) ![0, 0] S128x128.size inb_S128x128_S128x128_0_0).toLoadRect (harg9.unread x7)) (View.readAt (Elt F) arg10.view (Rect.unit (s := S128x128) ![0, 0] S128x128.size inb_S128x128_S128x128_0_0).toLoadRect (harg10.unread x8)) (View.readAt (Elt F) arg11.view (Rect.unit (s := S128x128) ![0, 0] S128x128.size inb_S128x128_S128x128_0_0).toLoadRect (harg11.unread x9)) (View.readAt (Elt F) arg12.view (Rect.unit (s := S128x128) ![0, 0] S128x128.size inb_S128x128_S128x128_0_0).toLoadRect (harg12.unread x10)) (View.readAt (Elt F) arg4.view (Rect.unit (s := S128x128) ![0, 0] S128x128.size inb_S128x128_S128x128_0_0).toLoadRect (harg4.unread x2)) (View.readAt (Elt F) arg3.view (Rect.unit (s := S128x128) ![0, 0] S128x128.size inb_S128x128_S128x128_0_0).toLoadRect (harg3.unread x1)))
    (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 0] S128x128.size inb_S128x512_S128x128_0_0).toLoadRect (harg2.unread x0))) (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 128] S128x128.size inb_S128x512_S128x128_0_128).toLoadRect (harg2.unread x0))) (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 256] S128x128.size inb_S128x512_S128x128_0_256).toLoadRect (harg2.unread x0))) (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 384] S128x128.size inb_S128x512_S128x128_0_384).toLoadRect (harg2.unread x0)))
    (View.readAt (Elt F) arg15.view (Rect.unit (s := S128x512) ![0, 0] S128x128.size inb_S128x512_S128x128_0_0).toLoadRect (harg15.unread x13)) (View.readAt (Elt F) arg15.view (Rect.unit (s := S128x512) ![0, 128] S128x128.size inb_S128x512_S128x128_0_128).toLoadRect (harg15.unread x13)) (View.readAt (Elt F) arg15.view (Rect.unit (s := S128x512) ![0, 256] S128x128.size inb_S128x512_S128x128_0_256).toLoadRect (harg15.unread x13)) (View.readAt (Elt F) arg15.view (Rect.unit (s := S128x512) ![0, 384] S128x128.size inb_S128x512_S128x128_0_384).toLoadRect (harg15.unread x13))
    (View.readAt (Elt F) arg13.view (Rect.unit (s := S1x16) (k0_off1 i 0#32) S1x1.size (k0_off1_inb i h2 0)).toLoadRect (harg13.unread x11) (Shape.Idx.first (numel1_S1x1.symm ▸ Nat.one_pos))) (View.readAt (Elt F) arg13.view (Rect.unit (s := S1x16) (k0_off1 i 1#32) S1x1.size (k0_off1_inb i h2 1)).toLoadRect (harg13.unread x11) (Shape.Idx.first (numel1_S1x1.symm ▸ Nat.one_pos))) (View.readAt (Elt F) arg13.view (Rect.unit (s := S1x16) (k0_off1 i 2#32) S1x1.size (k0_off1_inb i h2 2)).toLoadRect (harg13.unread x11) (Shape.Idx.first (numel1_S1x1.symm ▸ Nat.one_pos))) (View.readAt (Elt F) arg13.view (Rect.unit (s := S1x16) (k0_off1 i 3#32) S1x1.size (k0_off1_inb i h2 3)).toLoadRect (harg13.unread x11) (Shape.Idx.first (numel1_S1x1.symm ▸ Nat.one_pos))) (View.readAt (Elt F) arg13.view (Rect.unit (s := S1x16) (k0_off1 i 4#32) S1x1.size (k0_off1_inb i h2 4)).toLoadRect (harg13.unread x11) (Shape.Idx.first (numel1_S1x1.symm ▸ Nat.one_pos))) (View.readAt (Elt F) arg13.view (Rect.unit (s := S1x16) (k0_off1 i 5#32) S1x1.size (k0_off1_inb i h2 5)).toLoadRect (harg13.unread x11) (Shape.Idx.first (numel1_S1x1.symm ▸ Nat.one_pos))) (View.readAt (Elt F) arg13.view (Rect.unit (s := S1x16) (k0_off1 i 6#32) S1x1.size (k0_off1_inb i h2 6)).toLoadRect (harg13.unread x11) (Shape.Idx.first (numel1_S1x1.symm ▸ Nat.one_pos))) (View.readAt (Elt F) arg13.view (Rect.unit (s := S1x16) (k0_off1 i 7#32) S1x1.size (k0_off1_inb i h2 7)).toLoadRect (harg13.unread x11) (Shape.Idx.first (numel1_S1x1.symm ▸ Nat.one_pos))) := rfl

theorem stepB (c : Dev nD) (i : grid0.Coords) (h2) : runB.sl.r_94 (F := F) arg2 harg2 arg3 harg3 arg4 harg4 arg7 harg7 arg8 harg8 arg9 harg9 arg10 harg10 arg11 harg11 arg12 harg12 arg13 harg13 arg15 harg15 x0 x1 x2 x5 x6 x7 x8 x9 x10 x11 x13 c i h2 = dv2 (F := F) (k0_pay15 (BitVec.ofNat 32 (i 1).val) (iota .tc S256x128 32 [0] iota_S256x128_d0_w32) (iota .tc S256x128 32 [1] iota_S256x128_d1_w32) k0_pay14) (k0_pay12 (View.readAt (Elt F) arg7.view (Rect.unit (s := S128x128) ![0, 0] S128x128.size inb_S128x128_S128x128_0_0).toLoadRect (harg7.unread x5)) (View.readAt (Elt F) arg8.view (Rect.unit (s := S128x128) ![0, 0] S128x128.size inb_S128x128_S128x128_0_0).toLoadRect (harg8.unread x6)) (View.readAt (Elt F) arg9.view (Rect.unit (s := S128x128) ![0, 0] S128x128.size inb_S128x128_S128x128_0_0).toLoadRect (harg9.unread x7)) (View.readAt (Elt F) arg10.view (Rect.unit (s := S128x128) ![0, 0] S128x128.size inb_S128x128_S128x128_0_0).toLoadRect (harg10.unread x8)) (View.readAt (Elt F) arg11.view (Rect.unit (s := S128x128) ![0, 0] S128x128.size inb_S128x128_S128x128_0_0).toLoadRect (harg11.unread x9)) (View.readAt (Elt F) arg12.view (Rect.unit (s := S128x128) ![0, 0] S128x128.size inb_S128x128_S128x128_0_0).toLoadRect (harg12.unread x10)) (View.readAt (Elt F) arg4.view (Rect.unit (s := S128x128) ![0, 0] S128x128.size inb_S128x128_S128x128_0_0).toLoadRect (harg4.unread x2)) (View.readAt (Elt F) arg3.view (Rect.unit (s := S128x128) ![0, 0] S128x128.size inb_S128x128_S128x128_0_0).toLoadRect (harg3.unread x1)))
    (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 0] S128x128.size inb_S128x512_S128x128_0_0).toLoadRect (harg2.unread x0))) (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 128] S128x128.size inb_S128x512_S128x128_0_128).toLoadRect (harg2.unread x0))) (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 256] S128x128.size inb_S128x512_S128x128_0_256).toLoadRect (harg2.unread x0))) (qs (F := F) (k0_pay6 (View.readAt (Elt F) arg7.view (Rect.unit (s := S128x128) ![0, 0] S128x128.size inb_S128x128_S128x128_0_0).toLoadRect (harg7.unread x5))) (k0_pay7 (View.readAt (Elt F) arg8.view (Rect.unit (s := S128x128) ![0, 0] S128x128.size inb_S128x128_S128x128_0_0).toLoadRect (harg8.unread x6))) (k0_pay8 (View.readAt (Elt F) arg9.view (Rect.unit (s := S128x128) ![0, 0] S128x128.size inb_S128x128_S128x128_0_0).toLoadRect (harg9.unread x7))) (View.readAt (Elt F) arg2.view (Rect.unit (s := S128x512) ![0, 384] S128x128.size inb_S128x512_S128x128_0_384).toLoadRect (harg2.unread x0)))
    (View.readAt (Elt F) arg15.view (Rect.unit (s := S128x512) ![0, 0] S128x128.size inb_S128x512_S128x128_0_0).toLoadRect (harg15.unread x13)) (View.readAt (Elt F) arg15.view (Rect.unit (s := S128x512) ![0, 128] S128x128.size inb_S128x512_S128x128_0_128).toLoadRect (harg15.unread x13)) (View.readAt (Elt F) arg15.view (Rect.unit (s := S128x512) ![0, 256] S128x128.size inb_S128x512_S128x128_0_256).toLoadRect (harg15.unread x13)) (View.readAt (Elt F) arg15.view (Rect.unit (s := S128x512) ![0, 384] S128x128.size inb_S128x512_S128x128_0_384).toLoadRect (harg15.unread x13))
    (View.readAt (Elt F) arg13.view (Rect.unit (s := S1x16) (k0_off1 i 0#32) S1x1.size (k0_off1_inb i h2 0)).toLoadRect (harg13.unread x11) (Shape.Idx.first (numel1_S1x1.symm ▸ Nat.one_pos))) (View.readAt (Elt F) arg13.view (Rect.unit (s := S1x16) (k0_off1 i 1#32) S1x1.size (k0_off1_inb i h2 1)).toLoadRect (harg13.unread x11) (Shape.Idx.first (numel1_S1x1.symm ▸ Nat.one_pos))) (View.readAt (Elt F) arg13.view (Rect.unit (s := S1x16) (k0_off1 i 2#32) S1x1.size (k0_off1_inb i h2 2)).toLoadRect (harg13.unread x11) (Shape.Idx.first (numel1_S1x1.symm ▸ Nat.one_pos))) (View.readAt (Elt F) arg13.view (Rect.unit (s := S1x16) (k0_off1 i 3#32) S1x1.size (k0_off1_inb i h2 3)).toLoadRect (harg13.unread x11) (Shape.Idx.first (numel1_S1x1.symm ▸ Nat.one_pos))) (View.readAt (Elt F) arg13.view (Rect.unit (s := S1x16) (k0_off1 i 4#32) S1x1.size (k0_off1_inb i h2 4)).toLoadRect (harg13.unread x11) (Shape.Idx.first (numel1_S1x1.symm ▸ Nat.one_pos))) (View.readAt (Elt F) arg13.view (Rect.unit (s := S1x16) (k0_off1 i 5#32) S1x1.size (k0_off1_inb i h2 5)).toLoadRect (harg13.unread x11) (Shape.Idx.first (numel1_S1x1.symm ▸ Nat.one_pos))) (View.readAt (Elt F) arg13.view (Rect.unit (s := S1x16) (k0_off1 i 6#32) S1x1.size (k0_off1_inb i h2 6)).toLoadRect (harg13.unread x11) (Shape.Idx.first (numel1_S1x1.symm ▸ Nat.one_pos))) (View.readAt (Elt F) arg13.view (Rect.unit (s := S1x16) (k0_off1 i 7#32) S1x1.size (k0_off1_inb i h2 7)).toLoadRect (harg13.unread x11) (Shape.Idx.first (numel1_S1x1.symm ▸ Nat.one_pos))) := rfl

theorem valA (c : Dev nD) (i : grid0.Coords) (h2) : runA.sl.r_94 (F := F) arg2 harg2 arg3 harg3 arg4 harg4 arg7 harg7 arg8 harg8 arg9 harg9 arg10 harg10 arg11 harg11 arg12 harg12 arg13 harg13 arg15 harg15 x0 x1 x2 x5 x6 x7 x8 x9 x10 x11 x13 c i h2 = blk i h2 x0 x1 x2 x5 x6 x7 x8 x9 x10 x11 x13 := by
  rw [stepA]
  simp (disch := decide) only [View.readAt_eq_ld, Memref.IsWhole.read_unread, View.ld_unit_lit']
  rfl

theorem valB (c : Dev nD) (i : grid0.Coords) (h2) : runB.sl.r_94 (F := F) arg2 harg2 arg3 harg3 arg4 harg4 arg7 harg7 arg8 harg8 arg9 harg9 arg10 harg10 arg11 harg11 arg12 harg12 arg13 harg13 arg15 harg15 x0 x1 x2 x5 x6 x7 x8 x9 x10 x11 x13 c i h2 = blk i h2 x0 x1 x2 x5 x6 x7 x8 x9 x10 x11 x13 := by
  rw [stepB]
  simp (disch := decide) only [View.readAt_eq_ld, Memref.IsWhole.read_unread, View.ld_unit_lit']
  rfl

theorem cvA (c : Dev nD) (i : grid0.Coords) (h1 h2 h3) :
    arg21.view.read (Elt F) (arg21.view.writes (Elt F) arg21.view.junk (runA (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 c i h1 h2 h3).2.2.2.2.2.1) = k0_pay170 (blk i h2 x0 x1 x2 x5 x6 x7 x8 x9 x10 x11 x13) := by
  unfold runA
  dsimp only
  rw [valA]
  simp (disch := decide) only [View.read_writes_junk_eq_canon, View.canon_cons_unit_lit']

theorem cvB (c : Dev nD) (i : grid0.Coords) (h1 h2 h3 y3 y4 y5) :
    arg21.view.read (Elt F) (arg21.view.writes (Elt F) arg21.view.junk (runB (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 c i h1 h2 h3 y3 y4 y5).2.2.2.2.2.1) = k0_pay170 (blk i h2 x0 x1 x2 x5 x6 x7 x8 x9 x10 x11 x13) := by
  unfold runB
  dsimp only
  rw [valB]
  simp (disch := decide) only [View.read_writes_junk_eq_canon, View.canon_cons_unit_lit']

theorem dvB (c : Dev nD) (i : grid0.Coords) (h1 h2 h3 y3 y4 y5) :
    arg18.view.read (Elt F) (arg18.view.writes (Elt F) arg18.view.junk (runB (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 c i h1 h2 h3 y3 y4 y5).2.2.1) = k0_pay168 (blk i h2 x0 x1 x2 x5 x6 x7 x8 x9 x10 x11 x13) y5 := by
  unfold runB
  dsimp only
  rw [valB]
  simp (disch := decide) only [View.read_writes_junk_eq_canon, View.canon_cons_unit_lit', View.readAt_eq_ld, Memref.IsWhole.read_unread, View.ld_unit_lit']

theorem dvC (c : Dev nD) (i : grid0.Coords) (h1 h2 h3 y0 y3 y4 y5) :
    arg18.view.read (Elt F) (arg18.view.writes (Elt F) arg18.view.junk (runC (F := F) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 c i h1 h2 h3 y0 y3 y4 y5).2.1) = k0_pay5 y5 := by
  unfold runC
  dsimp only
  simp (disch := decide) only [View.read_writes_junk_eq_canon, View.canon_cons_unit_lit', View.readAt_eq_ld, Memref.IsWhole.read_unread, View.ld_unit_lit']

end Cert.Own.SwvRun

end
-- ==== Proof.SwvFrame.lean ====
module

public import proofs.«01_k».proof.Proof.SwvRun
public import proofs.«01_k».proof.Proof.SwvVal

/-! The attention backward call over its whole grid: the gradient of the values, named point by point, while the gradients of
    the queries, keys and sinks are left unnamed. The second carried buffer holds, after each block row, that row's own
    share of the gradient of its values, to which the next row adds. -/

@[expose] public section

set_option maxRecDepth 16384

noncomputable section

namespace Cert.Own.SwvRun

open Cert.SwvKernelIdeal Cert.SwvKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem first_iff : ∀ t : Fin cfg0.N, k0_cond1 (grid0.coords t) = 1#1 ↔ t.val % 129 = 0 :=
  (by decide +kernel : ∀ t : Fin grid0.N, k0_cond1 (grid0.coords t) = 1#1 ↔ t.val % 129 = 0)
theorem row_iff : ∀ t : Fin cfg0.N, k0_cond2 (grid0.coords t) = 1#1 ↔ t.val % 129 ≤ 127 :=
  (by decide +kernel : ∀ t : Fin grid0.N, k0_cond2 (grid0.coords t) = 1#1 ↔ t.val % 129 ≤ 127)
theorem last_iff : ∀ t : Fin cfg0.N, k0_cond3 (grid0.coords t) = 1#1 ↔ t.val % 129 = 128 :=
  (by decide +kernel : ∀ t : Fin grid0.N, k0_cond3 (grid0.coords t) = 1#1 ↔ t.val % 129 = 128)

/-- The carried buffers. -/
abbrev scK : Memref sig .tc .vmem S128x128 .f32 := Memref.whole cc0_scratch0
abbrev scV : Memref sig .tc .vmem S128x128 .f32 := Memref.whole cc0_scratch1

/-- The point before. -/
def bef (t : Fin cfg0.N) : Fin cfg0.N := ⟨t.val - 1, lt_of_le_of_lt (Nat.sub_le _ _) t.isLt⟩

/-- The three runs at a grid point, on the buffers and blocks it is called with. -/
abbrev atA (c : Dev nD) (t : Fin cfg0.N) (h : t.val % 129 = 0) :=
  runA (F := F) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) scK (Memref.isWhole_whole _) scV (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) ((first_iff t).mpr h) ((row_iff t).mpr (by omega)) (fun e => by have := (last_iff t).mp e; omega)
abbrev atB (c : Dev nD) (t : Fin cfg0.N) (h : ¬t.val % 129 = 0) (h' : t.val % 129 ≤ 127) :=
  runB (F := F) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) scK (Memref.isWhole_whole _) scV (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (fun e => h ((first_iff t).mp e)) ((row_iff t).mpr h') (fun e => by have := (last_iff t).mp e; omega)
abbrev atC (c : Dev nD) (t : Fin cfg0.N) (h : t.val % 129 = 128) :=
  runC (F := F) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) scK (Memref.isWhole_whole _) scV (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) c (grid0.coords t) (fun e => by have := (first_iff t).mp e; omega) (fun e => by have := (row_iff t).mp e; omega) ((last_iff t).mpr h)

/-- A block of zeros where nothing is named. -/
abbrev zk : Vec F S128x128 .f32 := (constant S128x128 .f32 0x0#32)

/-- A row's share of the gradient of the values of its window, from the blocks the point is given. -/
def share (c : Dev nD) (t : Fin cfg0.N) (h : t.val % 129 ≤ 127) : FVec F S256x128 .f32 :=
  blk (grid0.coords t) ((row_iff t).mpr h) (iblk m c 0 t) (iblk m c 1 t) (iblk m c 2 t) (iblk m c 5 t) (iblk m c 6 t) (iblk m c 7 t) (iblk m c 8 t) (iblk m c 9 t) (iblk m c 10 t) (iblk m c 11 t) (iblk m c 13 t)

/-- What the second carried buffer holds after a block row. -/
def keep (c : Dev nD) (t : Fin cfg0.N) : Vec F S128x128 .f32 :=
  if h : t.val % 129 ≤ 127 then k0_pay170 (share m c t h) else zk

/-- The same after any point: the trailing one leaves it. -/
def carry (c : Dev nD) (t : Fin cfg0.N) : Vec F S128x128 .f32 := if t.val % 129 = 128 then keep m c (bef t) else keep m c t

/-- The block of the gradient of the values which a point hands out. -/
def outV (c : Dev nD) (t : Fin cfg0.N) : Vec F S128x128 .bf16 :=
  if h : t.val % 129 = 0 then (win0_16.stage (cfg0.slots t 16)).view.read (Elt F) ((win0_16.stage (cfg0.slots t 16)).view.writes (Elt F) (win0_16.stage (cfg0.slots t 16)).view.junk (atA m c t h).2.2.1)
  else if h' : t.val % 129 ≤ 127 then k0_pay168 (share m c t h') (keep m c (bef t)) else k0_pay5 (keep m c (bef t))

/-! What a run stores covers its buffer. -/

theorem covA_cv (c : Dev nD) (t : Fin cfg0.N) (h) (y : S128x128.Idx) : ∃ pc ∈ (atA m c t h).2.2.2.2.2.1, y ∈ pc.1.set :=
  View.cover_of_wholeMem _ (by sl_whole_mem) y
theorem covB_cv (c : Dev nD) (t : Fin cfg0.N) (h h' y3 y4 y5) (y : S128x128.Idx) : ∃ pc ∈ (atB m c t h h' y3 y4 y5).2.2.2.2.2.1, y ∈ pc.1.set :=
  View.cover_of_wholeMem _ (by sl_whole_mem) y
theorem covA_dv (c : Dev nD) (t : Fin cfg0.N) (h) (y : S128x128.Idx) : ∃ pc ∈ (atA m c t h).2.2.1, y ∈ pc.1.set :=
  View.cover_of_wholeMem _ (by sl_whole_mem) y
theorem covB_dv (c : Dev nD) (t : Fin cfg0.N) (h h' y3 y4 y5) (y : S128x128.Idx) : ∃ pc ∈ (atB m c t h h' y3 y4 y5).2.2.1, y ∈ pc.1.set :=
  View.cover_of_wholeMem _ (by sl_whole_mem) y
theorem covC_dv (c : Dev nD) (t : Fin cfg0.N) (h y0 y3 y4 y5) (y : S128x128.Idx) : ∃ pc ∈ (atC m c t h y0 y3 y4 y5).2.1, y ∈ pc.1.set :=
  View.cover_of_wholeMem _ (by sl_whole_mem) y

/-! ## The invariant -/

/-- Before point `n`: the second carried buffer at what the point before left, the first at anything. -/
def PhiS (c : Dev nD) : (n : ℕ) → n ≤ cfg0.N → sProp 𝕄
  | 0, _ => Pipeline.ΦA spec0 c
  | n + 1, hn => iprop(iprop((∃ d, owns (c : Thread nD τ) scK fullShare d) ∗ owns (c : Thread nD τ) scV fullShare (carry m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop((∃ d, owns (c : Thread nD τ) scK fullShare d) ∗ owns (c : Thread nD τ) scV fullShare (carry m c t)) ∗ (∃ r, prngReg c r)) := rfl

theorem PhiS_pos (c : Dev nD) (t : Fin cfg0.N) (hz : t.val ≠ 0) :
    PhiS m c t.val (Nat.le_of_lt t.isLt) = iprop(iprop((∃ d, owns (c : Thread nD τ) scK fullShare d) ∗ owns (c : Thread nD τ) scV fullShare (carry m c (bef t))) ∗ (∃ r, prngReg c r)) := by
  obtain ⟨n, hn⟩ := t
  cases n with
  | zero => exact absurd rfl hz
  | succ n => rfl

theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- The gradients of queries, keys and sinks are not named. -/
def forgets0 : Fin 18 → Bool := fun w => w.val == 14 || w.val == 15 || w.val == 17

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨16, _⟩ => outV m c t
    | ⟨17, h⟩ => Pipeline.Dat.unnamed (cfg := cfg0) ⟨17, h⟩ t
    | ⟨_ + 18, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem aft0 (c : Dev nD) (t : Fin cfg0.N) : (dats m 0 c).after 0 t = iblk m c 0 t := by dsimp only [dats]
theorem aft1 (c : Dev nD) (t : Fin cfg0.N) : (dats m 0 c).after 1 t = iblk m c 1 t := by dsimp only [dats]
theorem aft2 (c : Dev nD) (t : Fin cfg0.N) : (dats m 0 c).after 2 t = iblk m c 2 t := by dsimp only [dats]
theorem aft3 (c : Dev nD) (t : Fin cfg0.N) : (dats m 0 c).after 3 t = iblk m c 3 t := by dsimp only [dats]
theorem aft4 (c : Dev nD) (t : Fin cfg0.N) : (dats m 0 c).after 4 t = iblk m c 4 t := by dsimp only [dats]
theorem aft5 (c : Dev nD) (t : Fin cfg0.N) : (dats m 0 c).after 5 t = iblk m c 5 t := by dsimp only [dats]
theorem aft6 (c : Dev nD) (t : Fin cfg0.N) : (dats m 0 c).after 6 t = iblk m c 6 t := by dsimp only [dats]
theorem aft7 (c : Dev nD) (t : Fin cfg0.N) : (dats m 0 c).after 7 t = iblk m c 7 t := by dsimp only [dats]
theorem aft8 (c : Dev nD) (t : Fin cfg0.N) : (dats m 0 c).after 8 t = iblk m c 8 t := by dsimp only [dats]
theorem aft9 (c : Dev nD) (t : Fin cfg0.N) : (dats m 0 c).after 9 t = iblk m c 9 t := by dsimp only [dats]
theorem aft10 (c : Dev nD) (t : Fin cfg0.N) : (dats m 0 c).after 10 t = iblk m c 10 t := by dsimp only [dats]
theorem aft11 (c : Dev nD) (t : Fin cfg0.N) : (dats m 0 c).after 11 t = iblk m c 11 t := by dsimp only [dats]
theorem aft12 (c : Dev nD) (t : Fin cfg0.N) : (dats m 0 c).after 12 t = iblk m c 12 t := by dsimp only [dats]
theorem aft13 (c : Dev nD) (t : Fin cfg0.N) : (dats m 0 c).after 13 t = iblk m c 13 t := by dsimp only [dats]
theorem aft16 (c : Dev nD) (t : Fin cfg0.N) : (dats m 0 c).after 16 t = outV m c t := by dsimp only [dats]

theorem bf0 (c : Dev nD) (t : Fin cfg0.N) (d) : (dats m 0 c).before 0 t d = iblk m c 0 t :=
  before0_0_of m (dats m 0 c) (A_eq m c 0) (aft0 m c) t d
theorem bf1 (c : Dev nD) (t : Fin cfg0.N) (d) : (dats m 0 c).before 1 t d = iblk m c 1 t :=
  before0_1_of m (dats m 0 c) (A_eq m c 1) (aft1 m c) t d
theorem bf2 (c : Dev nD) (t : Fin cfg0.N) (d) : (dats m 0 c).before 2 t d = iblk m c 2 t :=
  before0_2_of m (dats m 0 c) (A_eq m c 2) (aft2 m c) t d
theorem bf3 (c : Dev nD) (t : Fin cfg0.N) (d) : (dats m 0 c).before 3 t d = iblk m c 3 t :=
  before0_3_of m (dats m 0 c) (A_eq m c 3) (aft3 m c) t d
theorem bf4 (c : Dev nD) (t : Fin cfg0.N) (d) : (dats m 0 c).before 4 t d = iblk m c 4 t :=
  before0_4_of m (dats m 0 c) (A_eq m c 4) (aft4 m c) t d
theorem bf5 (c : Dev nD) (t : Fin cfg0.N) (d) : (dats m 0 c).before 5 t d = iblk m c 5 t :=
  before0_5_of m (dats m 0 c) (A_eq m c 5) (aft5 m c) t d
theorem bf6 (c : Dev nD) (t : Fin cfg0.N) (d) : (dats m 0 c).before 6 t d = iblk m c 6 t :=
  before0_6_of m (dats m 0 c) (A_eq m c 6) (aft6 m c) t d
theorem bf7 (c : Dev nD) (t : Fin cfg0.N) (d) : (dats m 0 c).before 7 t d = iblk m c 7 t :=
  before0_7_of m (dats m 0 c) (A_eq m c 7) (aft7 m c) t d
theorem bf8 (c : Dev nD) (t : Fin cfg0.N) (d) : (dats m 0 c).before 8 t d = iblk m c 8 t :=
  before0_8_of m (dats m 0 c) (A_eq m c 8) (aft8 m c) t d
theorem bf9 (c : Dev nD) (t : Fin cfg0.N) (d) : (dats m 0 c).before 9 t d = iblk m c 9 t :=
  before0_9_of m (dats m 0 c) (A_eq m c 9) (aft9 m c) t d
theorem bf10 (c : Dev nD) (t : Fin cfg0.N) (d) : (dats m 0 c).before 10 t d = iblk m c 10 t :=
  before0_10_of m (dats m 0 c) (A_eq m c 10) (aft10 m c) t d
theorem bf11 (c : Dev nD) (t : Fin cfg0.N) (d) : (dats m 0 c).before 11 t d = iblk m c 11 t :=
  before0_11_of m (dats m 0 c) (A_eq m c 11) (aft11 m c) t d
theorem bf12 (c : Dev nD) (t : Fin cfg0.N) (d) : (dats m 0 c).before 12 t d = iblk m c 12 t :=
  before0_12_of m (dats m 0 c) (A_eq m c 12) (aft12 m c) t d
theorem bf13 (c : Dev nD) (t : Fin cfg0.N) (d) : (dats m 0 c).before 13 t d = iblk m c 13 t :=
  before0_13_of m (dats m 0 c) (A_eq m c 13) (aft13 m c) t d

/-! ## The body at any point -/

/-- What a point is handed and what it hands back. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare (d))
    ∗ (∃ d, owns (c : Thread nD τ) (win0_15.stage (cfg0.slots t 15)) fullShare (d))
    ∗ (∃ d, owns (c : Thread nD τ) (win0_16.stage (cfg0.slots t 16)) fullShare ((dats m 0 c).before 16 t d))
    ∗ (∃ d, owns (c : Thread nD τ) (win0_17.stage (cfg0.slots t 17)) fullShare (d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (win0_14.stage (cfg0.slots t 14)) fullShare (d))
    ∗ (∃ d, owns (c : Thread nD τ) (win0_15.stage (cfg0.slots t 15)) fullShare (d))
    ∗ (dats m 0 c).leavesExact 16 t
    ∗ (∃ d, owns (c : Thread nD τ) (win0_17.stage (cfg0.slots t 17)) fullShare (d)))

theorem lv0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, aft0]
theorem lv1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, aft1]
theorem lv2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, aft2]
theorem lv3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, aft3]
theorem lv4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, aft4]
theorem lv5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, aft5]
theorem lv6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, aft6]
theorem lv7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, aft7]
theorem lv8 (c : Dev nD) (t : Fin cfg0.N) : (dats m 0 c).leavesExact 8 t = owns (c : Thread nD τ) (win0_8.stage (cfg0.slots t 8)) fullShare (iblk m c 8 t) := by
  unfold Dat.leavesExact; rw [show cfg0.idle 8 (grid0.coords t) = false from rfl, aft8]
theorem lv9 (c : Dev nD) (t : Fin cfg0.N) : (dats m 0 c).leavesExact 9 t = owns (c : Thread nD τ) (win0_9.stage (cfg0.slots t 9)) fullShare (iblk m c 9 t) := by
  unfold Dat.leavesExact; rw [show cfg0.idle 9 (grid0.coords t) = false from rfl, aft9]
theorem lv10 (c : Dev nD) (t : Fin cfg0.N) : (dats m 0 c).leavesExact 10 t = owns (c : Thread nD τ) (win0_10.stage (cfg0.slots t 10)) fullShare (iblk m c 10 t) := by
  unfold Dat.leavesExact; rw [show cfg0.idle 10 (grid0.coords t) = false from rfl, aft10]
theorem lv11 (c : Dev nD) (t : Fin cfg0.N) : (dats m 0 c).leavesExact 11 t = owns (c : Thread nD τ) (win0_11.stage (cfg0.slots t 11)) fullShare (iblk m c 11 t) := by
  unfold Dat.leavesExact; rw [show cfg0.idle 11 (grid0.coords t) = false from rfl, aft11]
theorem lv12 (c : Dev nD) (t : Fin cfg0.N) : (dats m 0 c).leavesExact 12 t = owns (c : Thread nD τ) (win0_12.stage (cfg0.slots t 12)) fullShare (iblk m c 12 t) := by
  unfold Dat.leavesExact; rw [show cfg0.idle 12 (grid0.coords t) = false from rfl, aft12]
theorem lv13 (c : Dev nD) (t : Fin cfg0.N) : (dats m 0 c).leavesExact 13 t = owns (c : Thread nD τ) (win0_13.stage (cfg0.slots t 13)) fullShare (iblk m c 13 t) := by
  unfold Dat.leavesExact; rw [show cfg0.idle 13 (grid0.coords t) = false from rfl, aft13]
theorem idle16 : ∀ t : Fin cfg0.N, cfg0.idle 16 (grid0.coords t) = false := (by decide +kernel : ∀ t : Fin grid0.N, idle0 16 (grid0.coords t) = false)
theorem lv16 (c : Dev nD) (t : Fin cfg0.N) : (dats m 0 c).leavesExact 16 t = owns (c : Thread nD τ) (win0_16.stage (cfg0.slots t 16)) fullShare (outV m c t) := by
  unfold Dat.leavesExact; rw [idle16, aft16]

set_option maxHeartbeats 6000000 in
theorem soundA (c : Dev nD) (t : Fin cfg0.N) (h : t.val % 129 = 0) :
    bodyPre m c t ⊢ wp frame (wpE (defs₀ (F := F)) Variants.none c none) Set.univ (bodyAt0 t) (fun _ => bodyPost m c t) := by
  unfold bodyPre bodyPost bodyAt0
  simp only [bf0, bf1, bf2, bf3, bf4, bf5, bf6, bf7, bf8, bf9, bf10, bf11, bf12, bf13]
  rw [show (dats m 0 c).owesAt () t.succ = (dats m 0 c).owesAt () t.castSucc from rfl, lv0, lv1, lv2, lv3, lv4, lv5, lv6, lv7, lv8, lv9, lv10, lv11, lv12, lv13, lv16]
  rw [show (dats m 0 c).Φ t.succ = PhiS m c (t.val + 1) t.isLt from rfl, PhiS_succ, PhiS_castSucc m c t]
  rw [show carry m c t = keep m c t from if_neg (by omega), show keep m c t = _ from dif_pos (show t.val % 129 ≤ 127 by omega), show outV m c t = _ from dif_pos h]
  have hΦ : PhiS m c t.val (Nat.le_of_lt t.isLt) ⊢ iprop(iprop((∃ d, owns (c : Thread nD τ) scK fullShare d) ∗ (∃ d, owns (c : Thread nD τ) scV fullShare d)) ∗ (∃ r, prngReg c r)) := by
    by_cases hz : t.val = 0
    · rw [PhiS_zero m c _ _ hz, PhiA_eq]
    · rw [PhiS_pos m c t hz]
      iintro ⟨⟨HK, HV⟩, Hg⟩
      isplitl [HK HV]
      · isplitl [HK]
        · iexact HK
        iexists _; iexact HV
      iexact Hg
  refine (sep_mono_left hΦ).trans ?_
  iintro ⟨⟨⟨HK, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atA m c t h).2.2.2.2.2.2 Set.univ _)
  isplitl [H0 H1 H2 H3 H4 H5 H6 H7 H8 H9 H10 H11 H12 H13]
  · unfold inp
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexists _; iexact H14
  isplitl [H15]; · iexists _; iexact H15
  isplitl [H16]; · iexists _; iexact H16
  isplitl [H17]; · iexists _; iexact H17
  isplitl [HK]; · iexact HK
  isplitl [HV]; · iexact HV
  unfold inp
  iintro ⟨⟨H0, H1, H2, H3, H4, H5, H6, H7, H8, H9, H10, H11, H12, H13⟩, ⟨%e14, H14⟩, ⟨%e15, H15⟩, ⟨%e16, H16⟩, ⟨%e17, H17⟩, ⟨%eK, HK⟩, ⟨%eV, HV⟩⟩
  isplitl [HK HV Hg]
  · isplitl [HK HV]
    · isplitl [HK]
      · iexists scK.view.read (Elt F) (scK.view.writes (Elt F) eK _); unfold owns; iexists _; isplitr
        swap; · iexact HK
        ipureintro; rfl
      unfold owns; iexists _; isplitr
      swap; · iexact HV
      ipureintro; exact (View.read_writes_of_cover _ _ _ _ _ (covA_cv m c t h)).trans (cvA ..)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists (win0_14.stage (cfg0.slots t 14)).view.read (Elt F) ((win0_14.stage (cfg0.slots t 14)).view.writes (Elt F) e14 _); unfold owns; iexists _; isplitr
    swap; · iexact H14
    ipureintro; rfl
  isplitl [H15]
  · iexists (win0_15.stage (cfg0.slots t 15)).view.read (Elt F) ((win0_15.stage (cfg0.slots t 15)).view.writes (Elt F) e15 _); unfold owns; iexists _; isplitr
    swap; · iexact H15
    ipureintro; rfl
  isplitl [H16]
  · unfold owns; iexists _; isplitr
    swap; · iexact H16
    ipureintro; exact View.read_writes_of_cover _ _ _ _ _ (covA_dv m c t h)
  iexists (win0_17.stage (cfg0.slots t 17)).view.read (Elt F) ((win0_17.stage (cfg0.slots t 17)).view.writes (Elt F) e17 _); unfold owns; iexists _; isplitr
  swap; · iexact H17
  ipureintro; rfl

set_option maxHeartbeats 6000000 in
theorem soundB (c : Dev nD) (t : Fin cfg0.N) (h : ¬t.val % 129 = 0) (h' : t.val % 129 ≤ 127) :
    bodyPre m c t ⊢ wp frame (wpE (defs₀ (F := F)) Variants.none c none) Set.univ (bodyAt0 t) (fun _ => bodyPost m c t) := by
  unfold bodyPre bodyPost bodyAt0
  simp only [bf0, bf1, bf2, bf3, bf4, bf5, bf6, bf7, bf8, bf9, bf10, bf11, bf12, bf13]
  rw [show (dats m 0 c).owesAt () t.succ = (dats m 0 c).owesAt () t.castSucc from rfl, lv0, lv1, lv2, lv3, lv4, lv5, lv6, lv7, lv8, lv9, lv10, lv11, lv12, lv13, lv16]
  rw [show (dats m 0 c).Φ t.succ = PhiS m c (t.val + 1) t.isLt from rfl, PhiS_succ, PhiS_castSucc m c t]
  rw [show carry m c t = keep m c t from if_neg (by omega), show keep m c t = _ from dif_pos h', show outV m c t = _ from (dif_neg h).trans (dif_pos h')]
  rw [PhiS_pos m c t (by omega), show carry m c (bef t) = keep m c (bef t) from if_neg (by unfold bef; dsimp only; omega)]
  iintro ⟨⟨⟨⟨%dK, HK⟩, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atB m c t h h' d17 dK (keep m c (bef t))).2.2.2.2.2.2 Set.univ _)
  isplitl [H0 H1 H2 H3 H4 H5 H6 H7 H8 H9 H10 H11 H12 H13]
  · unfold inp
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexists _; iexact H14
  isplitl [H15]; · iexists _; iexact H15
  isplitl [H16]; · iexists _; iexact H16
  isplitl [H17]; · iexact H17
  isplitl [HK]; · iexact HK
  isplitl [HV]; · iexact HV
  unfold inp
  iintro ⟨⟨H0, H1, H2, H3, H4, H5, H6, H7, H8, H9, H10, H11, H12, H13⟩, ⟨%e14, H14⟩, ⟨%e15, H15⟩, ⟨%e16, H16⟩, ⟨%e17, H17⟩, ⟨%eK, HK⟩, ⟨%eV, HV⟩⟩
  isplitl [HK HV Hg]
  · isplitl [HK HV]
    · isplitl [HK]
      · iexists scK.view.read (Elt F) (scK.view.writes (Elt F) eK _); unfold owns; iexists _; isplitr
        swap; · iexact HK
        ipureintro; rfl
      unfold owns; iexists _; isplitr
      swap; · iexact HV
      ipureintro; exact (View.read_writes_of_cover _ _ _ _ _ (covB_cv m c t h h' _ _ _)).trans (cvB ..)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists (win0_14.stage (cfg0.slots t 14)).view.read (Elt F) ((win0_14.stage (cfg0.slots t 14)).view.writes (Elt F) e14 _); unfold owns; iexists _; isplitr
    swap; · iexact H14
    ipureintro; rfl
  isplitl [H15]
  · iexists (win0_15.stage (cfg0.slots t 15)).view.read (Elt F) ((win0_15.stage (cfg0.slots t 15)).view.writes (Elt F) e15 _); unfold owns; iexists _; isplitr
    swap; · iexact H15
    ipureintro; rfl
  isplitl [H16]
  · unfold owns; iexists _; isplitr
    swap; · iexact H16
    ipureintro; exact (View.read_writes_of_cover _ _ _ _ _ (covB_dv m c t h h' _ _ _)).trans (dvB ..)
  iexists (win0_17.stage (cfg0.slots t 17)).view.read (Elt F) ((win0_17.stage (cfg0.slots t 17)).view.writes (Elt F) e17 _); unfold owns; iexists _; isplitr
  swap; · iexact H17
  ipureintro; rfl

set_option maxHeartbeats 6000000 in
theorem soundC (c : Dev nD) (t : Fin cfg0.N) (h : t.val % 129 = 128) :
    bodyPre m c t ⊢ wp frame (wpE (defs₀ (F := F)) Variants.none c none) Set.univ (bodyAt0 t) (fun _ => bodyPost m c t) := by
  unfold bodyPre bodyPost bodyAt0
  simp only [bf0, bf1, bf2, bf3, bf4, bf5, bf6, bf7, bf8, bf9, bf10, bf11, bf12, bf13]
  rw [show (dats m 0 c).owesAt () t.succ = (dats m 0 c).owesAt () t.castSucc from rfl, lv0, lv1, lv2, lv3, lv4, lv5, lv6, lv7, lv8, lv9, lv10, lv11, lv12, lv13, lv16]
  rw [show (dats m 0 c).Φ t.succ = PhiS m c (t.val + 1) t.isLt from rfl, PhiS_succ, PhiS_castSucc m c t]
  rw [show carry m c t = keep m c (bef t) from if_pos h, show outV m c t = _ from (dif_neg (by omega)).trans (dif_neg (by omega))]
  rw [PhiS_pos m c t (by omega), show carry m c (bef t) = keep m c (bef t) from if_neg (by unfold bef; dsimp only; omega)]
  iintro ⟨⟨⟨⟨%dK, HK⟩, HV⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((atC m c t h d14 d17 dK (keep m c (bef t))).2.2 Set.univ _)
  isplitl [H0 H1 H2 H3 H4 H5 H6 H7 H8 H9 H10 H11 H12 H13]
  · unfold inp
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [H14]; · iexact H14
  isplitl [H15]; · iexists _; iexact H15
  isplitl [H16]; · iexists _; iexact H16
  isplitl [H17]; · iexact H17
  isplitl [HK]; · iexact HK
  isplitl [HV]; · iexact HV
  unfold inp
  iintro ⟨⟨H0, H1, H2, H3, H4, H5, H6, H7, H8, H9, H10, H11, H12, H13⟩, H14, ⟨%e15, H15⟩, ⟨%e16, H16⟩, H17, HK, HV⟩
  isplitl [HK HV Hg]
  · isplitl [HK HV]
    · isplitl [HK]
      · iexists _; iexact HK
      iexact HV
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]
  · iexists (win0_15.stage (cfg0.slots t 15)).view.read (Elt F) ((win0_15.stage (cfg0.slots t 15)).view.writes (Elt F) e15 _); unfold owns; iexists _; isplitr
    swap; · iexact H15
    ipureintro; rfl
  isplitl [H16]
  · unfold owns; iexists _; isplitr
    swap; · iexact H16
    ipureintro; exact (View.read_writes_of_cover _ _ _ _ _ (covC_dv m c t h _ _ _ _)).trans (dvC ..)
  iexists _; iexact H17

theorem row_eq (t : Fin cfg0.N) :
    defs₀ (F := F) .tc cfg0.body (cfg0.bodyArgs t (cfg0.slots t)) = bodyAt0 t := by
  unfold defs₀; rw [Defs.onTc_tc]

theorem sound (c : Dev nD) (t : Fin cfg0.N) : bodyPre m c t ⊢ wp frame (wpE (defs₀ (F := F)) Variants.none c none) Set.univ (bodyAt0 t) (fun _ => bodyPost m c t) := by
  have hN : t.val < 258 := lt_of_lt_of_eq t.isLt (show cfg0.N = 258 from N_0)
  by_cases h : t.val % 129 = 0
  · exact soundA m c t h
  by_cases h' : t.val % 129 ≤ 127
  · exact soundB m c t h h'
  · exact soundC m c t (by omega)

theorem body_ok (c : Dev nD) : BodyObligation (dats (F := F) m 0 c) (defs₀ (F := F)) Variants.none () Set.univ forgets0 := fun t => by
  rw [bigSep_W0, bigSep_W0, row_eq]
  exact triple_restated (sound m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c ((⟨257, by decide⟩ : Fin cfg0.N).val + 1) (by decide) from rfl, PhiS_succ, PhiA_eq]
  iintro ⟨⟨HK, HV⟩, Hg⟩
  isplitl [HK HV]
  · isplitl [HK]
    · iexact HK
    iexists _; iexact HV
  iexact Hg

set_option backward.isDefEq.respectTransparency.types false in
/-- Every run ends, with the counters at zero. -/
theorem run_all : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_ok m c).loose) (hq := fun _ _ _ => rfl)
    (howed := fun _ _ => rfl) (V := V m) (hmain := hmain m Variants.none) (hA := A_eq m) (hin := hin m) (hout := hout m)

/-- The arguments are left as they were, the counters at zero, and the gradient of the values is the array of the blocks handed out. -/
theorem ends : θ_run defs (onTc (τ := τ) (main (F := F))) ⟨m, fun _ => 0, ρ⟩ (fun r => (∀ c : Dev nD,
      r.2.mem ((c.tc : Thread nD τ).loc main_v134_2) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((dats m 0 c).toRForget_arrAt_iff (fgt := forgets0) (w := 16) rfl _ _).mp ((h.1 c).1 16),
      (((dats m 0 c).toRForget_arrAt_iff (fgt := forgets0) (w := 4) rfl _ _).mp ((h.1 c).1 4)).trans (((dats m 0 c).arrAt_in 4 rfl _).trans ((A_eq m c 4).trans (V_main_arg0 m c))),
      ((h.1 c).2 main_arg1 (Pipeline.mem_restRefs_of main_arg1 (by decide) (by decide))).trans (V_main_arg1 m c),
      (((dats m 0 c).toRForget_arrAt_iff (fgt := forgets0) (w := 13) rfl _ _).mp ((h.1 c).1 13)).trans (((dats m 0 c).arrAt_in 13 rfl _).trans ((A_eq m c 13).trans (V_main_arg2 m c)))⟩, h.2⟩) (run_all m ρ)

/-- The call runs and leaves its arguments. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (ends m ρ)

end Cert.Own.SwvRun

end
-- ==== Proof.SwvTab.lean ====
module

public import proofs.«01_k».proof.Defs
public import proofs.«01_k».proof.Proof.Lib
public import proofs.«01_k».proof.Proof.SwfCom
public import proofs.«01_k».proof.Proof.SwfTab
public import proofs.«01_k».proof.Proof.Gen.SwvKernelIdeal.Frame
public import Idealize.ShloMosaic.Lib.Pipeline.ValueKit
public import Idealize.ShloMosaic.Lib.Claim
public import Idealize.ShloMosaic.Lib.Pointwise

/-! The attention backward call's rotation tables and sinks, as the call's host lines make them. -/

@[expose] public section

set_option maxRecDepth 65536

noncomputable section

namespace Cert.Own.Swv.T

open Idealize.ShloMosaic Idealize.ShloMosaic.TcCoe Idealize.SL.Sem
open Cert.SwvKernelIdeal Cert.SwvKernelIdeal.Gen
open Cert.Own.Swf.T (freq rm md lane tabl cosl upl dnl angs ang0 ang0_eq after_app)

variable (m : (ℓ : Loc nD τ sig) → Buf (Elt Ideal) ℓ) (c : Dev nD)

variable (G : Valuation τ sig (Elt Ideal))

theorem st0_v8 : StableHlo.after (hostOps0_2 (F := Ideal)) G (Proc.devRef .tc main_v101) = freq := by
  after_results_simp
  try rfl

theorem st0_v9 : StableHlo.after (hostOps0_2 (F := Ideal)) G (Proc.devRef .tc main_v102) = iotaInDim S128 32 0 := by
  after_results_simp
  try rfl

theorem st0_c : StableHlo.after (hostOps0_2 (F := Ideal)) G (Proc.devRef .tc main_c_15) = constantI S_ 32 64#32 := by
  after_results_simp
  try rfl

theorem st1_v10 (h : G (Proc.devRef .tc main_c_15) = constantI S_ 32 64#32) : StableHlo.after (hostOps0_3 (F := Ideal)) G (Proc.devRef .tc main_v103) = rm (G (Proc.devRef .tc main_v102)) 64#32 := by
  after_results_simp
  have e := h
  generalize G (Proc.devRef .tc main_c_15) = K at *
  subst e
  rfl

theorem st2_v13 : StableHlo.after (hostOps0_4 (F := Ideal)) G (Proc.devRef .tc main_v106) = (broadcastInDim S16384x1 ![0] bcast_S16384_S16384x1_0 (sitofp .f32 (iotaInDim S16384 32 0)) : FVec Ideal S16384x1 .f32) := by
  after_results_simp
  try rfl

theorem st2_c : StableHlo.after (hostOps0_4 (F := Ideal)) G (Proc.devRef .tc main_c_16) = constantI S_ 32 8#32 := by
  after_results_simp
  try rfl

theorem st3_v14 (h : G (Proc.devRef .tc main_c_16) = constantI S_ 32 8#32) : StableHlo.after (hostOps0_5 (F := Ideal)) G (Proc.devRef .tc main_v107) = rm (G (Proc.devRef .tc main_v103)) 8#32 := by
  after_results_simp
  have e := h
  generalize G (Proc.devRef .tc main_c_16) = K at *
  subst e
  rfl

theorem st4_v26 : StableHlo.after (hostOps0_6 (F := Ideal)) G (Proc.devRef .tc main_v119) = Host.cos (ang0 (G (Proc.devRef .tc main_v106)) (G (Proc.devRef .tc main_v101)) (G (Proc.devRef .tc main_v107))) := by
  after_results_simp
  try rfl

theorem st4_v27 : StableHlo.after (hostOps0_6 (F := Ideal)) G (Proc.devRef .tc main_v120) = Host.sin (ang0 (G (Proc.devRef .tc main_v106)) (G (Proc.devRef .tc main_v101)) (G (Proc.devRef .tc main_v107))) := by
  after_results_simp
  try rfl

theorem st4_v29 : StableHlo.after (hostOps0_6 (F := Ideal)) G (Proc.devRef .tc main_v122) = cmpi .slt (G (Proc.devRef .tc main_v103) : IVec S128 32) (broadcastInDim S128 ![] bcast_S_S128 (constantI S_ 32 16#32)) := by
  after_results_simp
  try rfl

theorem st4_c : StableHlo.after (hostOps0_6 (F := Ideal)) G (Proc.devRef .tc main_cst_20) = constant (F := Ideal) S_ .f32 0x3F800000#32 := by
  after_results_simp
  try rfl

theorem st5_o (h : G (Proc.devRef .tc main_cst_20) = constant (F := Ideal) S_ .f32 0x3F800000#32) : StableHlo.after (hostOps0_7 (F := Ideal)) G (Proc.devRef .tc main_v123) = tabl (G (Proc.devRef .tc main_v122)) (G (Proc.devRef .tc main_v119)) 0x3F800000#32 := by
  after_results_simp
  have e := h
  generalize G (Proc.devRef .tc main_cst_20) = K at *
  subst e
  rfl

theorem st6_p : StableHlo.after (hostOps0_8 (F := Ideal)) G (Proc.devRef .tc main_v125) = cmpi .slt (G (Proc.devRef .tc main_v103) : IVec S128 32) (broadcastInDim S128 ![] bcast_S_S128 (constantI S_ 32 8#32)) := by
  after_results_simp
  try rfl

theorem st6_v : StableHlo.after (hostOps0_8 (F := Ideal)) G (Proc.devRef .tc main_v126) = Host.negf (F := Ideal) (s := S16384x128) (φ := .f32) (G (Proc.devRef .tc main_v120)) := by
  after_results_simp
  try rfl

theorem st6_c : StableHlo.after (hostOps0_8 (F := Ideal)) G (Proc.devRef .tc main_cst_22) = constant (F := Ideal) S_ .f32 0x00000000#32 := by
  after_results_simp
  try rfl

theorem st7_o (h : G (Proc.devRef .tc main_cst_22) = constant (F := Ideal) S_ .f32 0x00000000#32) : StableHlo.after (hostOps0_9 (F := Ideal)) G (Proc.devRef .tc main_v127) = tabl (G (Proc.devRef .tc main_v125)) (G (Proc.devRef .tc main_v126)) 0x00000000#32 := by
  after_results_simp
  have e := h
  generalize G (Proc.devRef .tc main_cst_22) = K at *
  subst e
  rfl

theorem st8_p : StableHlo.after (hostOps0_10 (F := Ideal)) G (Proc.devRef .tc main_v132) = andi (cmpi .sge (G (Proc.devRef .tc main_v103) : IVec S128 32) (broadcastInDim S128 ![] bcast_S_S128 (constantI S_ 32 8#32))) (cmpi .slt (G (Proc.devRef .tc main_v103) : IVec S128 32) (broadcastInDim S128 ![] bcast_S_S128 (constantI S_ 32 16#32))) := by
  after_results_simp
  try rfl

theorem st8_c : StableHlo.after (hostOps0_10 (F := Ideal)) G (Proc.devRef .tc main_cst_25) = constant (F := Ideal) S_ .f32 0x00000000#32 := by
  after_results_simp
  try rfl

theorem st9_o (h : G (Proc.devRef .tc main_cst_25) = constant (F := Ideal) S_ .f32 0x00000000#32) : StableHlo.after (hostOps0_11 (F := Ideal)) G (Proc.devRef .tc main_v133) = tabl (G (Proc.devRef .tc main_v132)) (G (Proc.devRef .tc main_v120)) 0x00000000#32 := by
  after_results_simp
  have e := h
  generalize G (Proc.devRef .tc main_cst_25) = K at *
  subst e
  rfl

theorem kp1_v8 : StableHlo.after (hostOps0_3 (F := Ideal)) G (Proc.devRef .tc main_v101) = G (Proc.devRef .tc main_v101) := by
  after_results_simp
  try rfl

theorem kp2_v8 : StableHlo.after (hostOps0_4 (F := Ideal)) G (Proc.devRef .tc main_v101) = G (Proc.devRef .tc main_v101) := by
  after_results_simp
  try rfl

theorem kp3_v8 : StableHlo.after (hostOps0_5 (F := Ideal)) G (Proc.devRef .tc main_v101) = G (Proc.devRef .tc main_v101) := by
  after_results_simp
  try rfl

theorem kp2_v10 : StableHlo.after (hostOps0_4 (F := Ideal)) G (Proc.devRef .tc main_v103) = G (Proc.devRef .tc main_v103) := by
  after_results_simp
  try rfl

theorem kp3_v10 : StableHlo.after (hostOps0_5 (F := Ideal)) G (Proc.devRef .tc main_v103) = G (Proc.devRef .tc main_v103) := by
  after_results_simp
  try rfl

theorem kp4_v10 : StableHlo.after (hostOps0_6 (F := Ideal)) G (Proc.devRef .tc main_v103) = G (Proc.devRef .tc main_v103) := by
  after_results_simp
  try rfl

theorem kp5_v10 : StableHlo.after (hostOps0_7 (F := Ideal)) G (Proc.devRef .tc main_v103) = G (Proc.devRef .tc main_v103) := by
  after_results_simp
  try rfl

theorem kp6_v10 : StableHlo.after (hostOps0_8 (F := Ideal)) G (Proc.devRef .tc main_v103) = G (Proc.devRef .tc main_v103) := by
  after_results_simp
  try rfl

theorem kp7_v10 : StableHlo.after (hostOps0_9 (F := Ideal)) G (Proc.devRef .tc main_v103) = G (Proc.devRef .tc main_v103) := by
  after_results_simp
  try rfl

theorem kp3_v13 : StableHlo.after (hostOps0_5 (F := Ideal)) G (Proc.devRef .tc main_v106) = G (Proc.devRef .tc main_v106) := by
  after_results_simp
  try rfl

theorem kp5_v27 : StableHlo.after (hostOps0_7 (F := Ideal)) G (Proc.devRef .tc main_v120) = G (Proc.devRef .tc main_v120) := by
  after_results_simp
  try rfl

theorem kp6_v27 : StableHlo.after (hostOps0_8 (F := Ideal)) G (Proc.devRef .tc main_v120) = G (Proc.devRef .tc main_v120) := by
  after_results_simp
  try rfl

theorem kp7_v27 : StableHlo.after (hostOps0_9 (F := Ideal)) G (Proc.devRef .tc main_v120) = G (Proc.devRef .tc main_v120) := by
  after_results_simp
  try rfl

theorem kp8_v27 : StableHlo.after (hostOps0_10 (F := Ideal)) G (Proc.devRef .tc main_v120) = G (Proc.devRef .tc main_v120) := by
  after_results_simp
  try rfl

theorem kp6_v30 : StableHlo.after (hostOps0_8 (F := Ideal)) G (Proc.devRef .tc main_v123) = G (Proc.devRef .tc main_v123) := by
  after_results_simp
  try rfl

theorem kp7_v30 : StableHlo.after (hostOps0_9 (F := Ideal)) G (Proc.devRef .tc main_v123) = G (Proc.devRef .tc main_v123) := by
  after_results_simp
  try rfl

theorem kp8_v30 : StableHlo.after (hostOps0_10 (F := Ideal)) G (Proc.devRef .tc main_v123) = G (Proc.devRef .tc main_v123) := by
  after_results_simp
  try rfl

theorem kp9_v30 : StableHlo.after (hostOps0_11 (F := Ideal)) G (Proc.devRef .tc main_v123) = G (Proc.devRef .tc main_v123) := by
  after_results_simp
  try rfl

theorem kp8_v34 : StableHlo.after (hostOps0_10 (F := Ideal)) G (Proc.devRef .tc main_v127) = G (Proc.devRef .tc main_v127) := by
  after_results_simp
  try rfl

theorem kp9_v34 : StableHlo.after (hostOps0_11 (F := Ideal)) G (Proc.devRef .tc main_v127) = G (Proc.devRef .tc main_v127) := by
  after_results_simp
  try rfl

theorem entries : V m c main_v123 = cosl ∧ V m c main_v127 = upl ∧ V m c main_v133 = dnl := by
  generalize eW : StableHlo.after (hostOps0_1 (F := Ideal)) (StableHlo.after hostOps0 (fun b => m (c, b))) = W
  have hV : StableHlo.after (List.flatten [hostOps0 (F := Ideal), hostOps0_1, hostOps0_2, hostOps0_3, hostOps0_4, hostOps0_5, hostOps0_6, hostOps0_7, hostOps0_8, hostOps0_9, hostOps0_10, hostOps0_11]) (fun b => m (c, b)) = StableHlo.after (hostOps0_11 (F := Ideal)) (StableHlo.after hostOps0_10 (StableHlo.after hostOps0_9 (StableHlo.after hostOps0_8 (StableHlo.after hostOps0_7 (StableHlo.after hostOps0_6 (StableHlo.after hostOps0_5 (StableHlo.after hostOps0_4 (StableHlo.after hostOps0_3 (StableHlo.after hostOps0_2 W))))))))) := by
    simp only [List.flatten_cons, List.flatten_nil, List.append_nil, after_app, eW]
  generalize e0 : StableHlo.after (hostOps0_2 (F := Ideal)) W = W0 at hV
  have a8 := st0_v8 W
  have a9 := st0_v9 W
  have ac := st0_c W
  rw [e0] at a8 a9 ac
  generalize e1 : StableHlo.after (hostOps0_3 (F := Ideal)) W0 = W1 at hV
  have b10 := st1_v10 W0 ac
  have b8 := kp1_v8 W0
  rw [e1] at b10 b8
  rw [a9] at b10
  rw [a8] at b8
  generalize e2 : StableHlo.after (hostOps0_4 (F := Ideal)) W1 = W2 at hV
  have c10 := kp2_v10 W1
  have c8 := kp2_v8 W1
  have c13 := st2_v13 W1
  have cc := st2_c W1
  rw [e2] at c10 c8 c13 cc
  rw [b10] at c10
  rw [b8] at c8
  generalize e3 : StableHlo.after (hostOps0_5 (F := Ideal)) W2 = W3 at hV
  have d10 := kp3_v10 W2
  have d8 := kp3_v8 W2
  have d13 := kp3_v13 W2
  have d14 := st3_v14 W2 cc
  rw [e3] at d10 d8 d13 d14
  rw [c10] at d10 d14
  rw [c8] at d8
  rw [c13] at d13
  generalize e4 : StableHlo.after (hostOps0_6 (F := Ideal)) W3 = W4 at hV
  have f10 := kp4_v10 W3
  have f26 := st4_v26 W3
  have f27 := st4_v27 W3
  have f29 := st4_v29 W3
  have fc := st4_c W3
  rw [e4] at f10 f26 f27 f29 fc
  rw [d13, d8, d14] at f26 f27
  rw [d10] at f10 f29
  have q := ang0_eq
  unfold lane at q
  rw [q] at f26 f27
  generalize e5 : StableHlo.after (hostOps0_7 (F := Ideal)) W4 = W5 at hV
  have g10 := kp5_v10 W4
  have g27 := kp5_v27 W4
  have g30 := st5_o W4 fc
  rw [e5] at g10 g27 g30
  rw [f29, f26] at g30
  rw [f10] at g10
  rw [f27] at g27
  generalize e6 : StableHlo.after (hostOps0_8 (F := Ideal)) W5 = W6 at hV
  have h10 := kp6_v10 W5
  have h27 := kp6_v27 W5
  have h30 := kp6_v30 W5
  have hp := st6_p W5
  have hv := st6_v W5
  have hc := st6_c W5
  rw [e6] at h10 h27 h30 hp hv hc
  rw [g10] at h10 hp
  rw [g27] at h27 hv
  rw [g30] at h30
  generalize e7 : StableHlo.after (hostOps0_9 (F := Ideal)) W6 = W7 at hV
  have i10 := kp7_v10 W6
  have i27 := kp7_v27 W6
  have i30 := kp7_v30 W6
  have i34 := st7_o W6 hc
  rw [e7] at i10 i27 i30 i34
  rw [hp, hv] at i34
  rw [h10] at i10
  rw [h27] at i27
  rw [h30] at i30
  generalize e8 : StableHlo.after (hostOps0_10 (F := Ideal)) W7 = W8 at hV
  have j27 := kp8_v27 W7
  have j30 := kp8_v30 W7
  have j34 := kp8_v34 W7
  have jp := st8_p W7
  have jc := st8_c W7
  rw [e8] at j27 j30 j34 jp jc
  rw [i10] at jp
  rw [i27] at j27
  rw [i30] at j30
  rw [i34] at j34
  have k30 := kp9_v30 W8
  have k34 := kp9_v34 W8
  have k40 := st9_o W8 jc
  rw [j30] at k30
  rw [j34] at k34
  rw [jp, j27] at k40
  show StableHlo.after (List.flatten [hostOps0 (F := Ideal), hostOps0_1, hostOps0_2, hostOps0_3, hostOps0_4, hostOps0_5, hostOps0_6, hostOps0_7, hostOps0_8, hostOps0_9, hostOps0_10, hostOps0_11]) (fun b => m (c, b)) (Proc.devRef .tc main_v123) = _ ∧ StableHlo.after (List.flatten [hostOps0 (F := Ideal), hostOps0_1, hostOps0_2, hostOps0_3, hostOps0_4, hostOps0_5, hostOps0_6, hostOps0_7, hostOps0_8, hostOps0_9, hostOps0_10, hostOps0_11]) (fun b => m (c, b)) (Proc.devRef .tc main_v127) = _ ∧ StableHlo.after (List.flatten [hostOps0 (F := Ideal), hostOps0_1, hostOps0_2, hostOps0_3, hostOps0_4, hostOps0_5, hostOps0_6, hostOps0_7, hostOps0_8, hostOps0_9, hostOps0_10, hostOps0_11]) (fun b => m (c, b)) (Proc.devRef .tc main_v133) = _
  rw [hV]
  exact ⟨k30, k34, k40⟩

theorem kp_z (k : List (HloOp τ sig (Elt Ideal))) (h : k = hostOps0_3 ∨ k = hostOps0_4 ∨ k = hostOps0_5 ∨ k = hostOps0_6 ∨ k = hostOps0_7 ∨ k = hostOps0_8 ∨ k = hostOps0_9 ∨ k = hostOps0_10 ∨ k = hostOps0_11) :
    StableHlo.after k G (Proc.devRef .tc main_v93) = G (Proc.devRef .tc main_v93) := by
  rcases h with h | h | h | h | h | h | h | h | h <;> subst h <;> after_results_simp <;> try rfl

theorem st_z : StableHlo.after (hostOps0_2 (F := Ideal)) G (Proc.devRef .tc main_v93) = broadcastInDim S1x16 ![1] bcast_S16_S1x16_1 (G (Proc.devRef .tc main_arg1)) := by
  after_results_simp
  try rfl

theorem st_a0 : StableHlo.after (hostOps0 (F := Ideal)) G (Proc.devRef .tc main_arg1) = G (Proc.devRef .tc main_arg1) := by
  after_results_simp
  try rfl

theorem st_a1 : StableHlo.after (hostOps0_1 (F := Ideal)) G (Proc.devRef .tc main_arg1) = G (Proc.devRef .tc main_arg1) := by
  after_results_simp
  try rfl

theorem entry_z : V m c main_v93 = broadcastInDim S1x16 ![1] bcast_S16_S1x16_1 (m ((c.tc : Thread nD τ).loc main_arg1)) := by
  show StableHlo.after (List.flatten [hostOps0 (F := Ideal), hostOps0_1, hostOps0_2, hostOps0_3, hostOps0_4, hostOps0_5, hostOps0_6, hostOps0_7, hostOps0_8, hostOps0_9, hostOps0_10, hostOps0_11]) (fun b => m (c, b)) (Proc.devRef .tc main_v93) = _
  simp only [List.flatten_cons, List.flatten_nil, List.append_nil, after_app]
  rw [kp_z _ _ (by simp), kp_z _ _ (by simp), kp_z _ _ (by simp), kp_z _ _ (by simp), kp_z _ _ (by simp), kp_z _ _ (by simp), kp_z _ _ (by simp), kp_z _ _ (by simp), kp_z _ _ (by simp), st_z, st_a1, st_a0]

end Cert.Own.Swv.T

end
-- ==== Proof.SwvRef.lean ====
module

public import proofs.«01_k».proof.Defs
public import proofs.«01_k».proof.Proof.Lib
public import proofs.«01_k».proof.Proof.SwfCom
public import proofs.«01_k».proof.Proof.Gen.SwvRefIdeal.Run
public import Idealize.ShloMosaic.Lib.Pipeline.ValueKit
public import Idealize.ShloMosaic.Lib.Claim
public import Idealize.ShloMosaic.Lib.Pointwise

/-! The attention backward's reference, read back in named steps, and each step at an index. -/

@[expose] public section

set_option maxRecDepth 65536

noncomputable section

namespace Cert.Own.Swv.R

open Idealize.ShloMosaic Idealize.ShloMosaic.TcCoe Idealize.SL.Sem
open Cert.SwvRefIdeal Cert.SwvRefIdeal.Gen
open Cert.Own.Swf (angv rope sees ofBits_eighth)

/-- The angles: position times inverse frequency. -/
def ang  : FVec Ideal S16384x8 .f32 :=
  mulf (broadcastInDim S16384x8 ![0, 1] bcast_S16384x1_S16384x8_0_1 (broadcastInDim S16384x1 ![0] bcast_S16384_S16384x1_0 (sitofp .f32 (iotaInDim S16384 32 0)))) (broadcastInDim S16384x8 ![0, 1] bcast_S1x8_S16384x8_0_1 (broadcastInDim S1x8 ![1] bcast_S8_S1x8_1 (Host.powf (broadcastInDim S8 ![] bcast_S_S8 (constant S_ .f32 0x48F42400#32)) (Host.divf (mulf (Host.negf (sitofp .f32 (iotaInDim S8 32 0))) (broadcastInDim S8 ![] bcast_S_S8 (constant S_ .f32 0x40000000#32))) (broadcastInDim S8 ![] bcast_S_S8 (constant S_ .f32 0x41800000#32))))))

/-- Their cosines. -/
def cosT  : FVec Ideal S1x16384x1x8 .f32 :=
  broadcastInDim S1x16384x1x8 ![1, 3] bcast_S16384x8_S1x16384x1x8_1_3 (Host.cos ang)

/-- Their sines. -/
def sinT  : FVec Ideal S1x16384x1x8 .f32 :=
  broadcastInDim S1x16384x1x8 ![1, 3] bcast_S16384x8_S1x16384x1x8_1_3 (Host.sin ang)

/-- The query and key columns, by head. -/
def pqk (X : FVec Ideal S16384x7680 .f32) : FVec Ideal S1x16384x20x64 .f32 :=
  shapeCast _ (extractStridedSlice S16384x1280 ![0, 4096] X slices_S16384x7680_S16384x1280_0_4096) shapeCasts_S16384x1280_S1x16384x20x64

/-- Every head, rotated. -/
def ropeB (x : FVec Ideal S1x16384x20x64 .f32) : FVec Ideal S1x16384x20x64 .f32 :=
  concatenate S1x16384x20x64 3 [⟨S1x16384x20x16, (concatenate S1x16384x20x16 3 [⟨S1x16384x20x8, (subf (mulf (extractStridedSlice S1x16384x20x8 ![0, 0, 0, 0] (extractStridedSlice S1x16384x20x16 ![0, 0, 0, 0] x slices_S1x16384x20x64_S1x16384x20x16_0_0_0_0) slices_S1x16384x20x16_S1x16384x20x8_0_0_0_0) (broadcastInDim S1x16384x20x8 ![0, 1, 2, 3] bcast_S1x16384x1x8_S1x16384x20x8_0_1_2_3 cosT)) (mulf (extractStridedSlice S1x16384x20x8 ![0, 0, 0, 8] (extractStridedSlice S1x16384x20x16 ![0, 0, 0, 0] x slices_S1x16384x20x64_S1x16384x20x16_0_0_0_0) slices_S1x16384x20x16_S1x16384x20x8_0_0_0_8) (broadcastInDim S1x16384x20x8 ![0, 1, 2, 3] bcast_S1x16384x1x8_S1x16384x20x8_0_1_2_3 sinT)))⟩, ⟨S1x16384x20x8, (addf (mulf (extractStridedSlice S1x16384x20x8 ![0, 0, 0, 8] (extractStridedSlice S1x16384x20x16 ![0, 0, 0, 0] x slices_S1x16384x20x64_S1x16384x20x16_0_0_0_0) slices_S1x16384x20x16_S1x16384x20x8_0_0_0_8) (broadcastInDim S1x16384x20x8 ![0, 1, 2, 3] bcast_S1x16384x1x8_S1x16384x20x8_0_1_2_3 cosT)) (mulf (extractStridedSlice S1x16384x20x8 ![0, 0, 0, 0] (extractStridedSlice S1x16384x20x16 ![0, 0, 0, 0] x slices_S1x16384x20x64_S1x16384x20x16_0_0_0_0) slices_S1x16384x20x16_S1x16384x20x8_0_0_0_0) (broadcastInDim S1x16384x20x8 ![0, 1, 2, 3] bcast_S1x16384x1x8_S1x16384x20x8_0_1_2_3 sinT)))⟩] concatenates_S1x16384x20x8_S1x16384x20x8_S1x16384x20x16_d3)⟩, ⟨S1x16384x20x48, (extractStridedSlice S1x16384x20x48 ![0, 0, 0, 16] x slices_S1x16384x20x64_S1x16384x20x48_0_0_0_16)⟩] concatenates_S1x16384x20x16_S1x16384x20x48_S1x16384x20x64_d3

/-- The keys, by block. -/
def keysOf (y : FVec Ideal S1x16384x20x64 .f32) : FVec Ideal S128x128x4x64 .f32 :=
  shapeCast _ (extractStridedSlice S1x16384x4x64 ![0, 0, 16, 0] y slices_S1x16384x20x64_S1x16384x4x64_0_0_16_0) shapeCasts_S1x16384x4x64_S128x128x4x64

/-- The queries, by block. -/
def qryOf (y : FVec Ideal S1x16384x20x64 .f32) : FVec Ideal S128x128x4x4x64 .f32 :=
  (shapeCast _ (extractStridedSlice S1x16384x16x64 ![0, 0, 0, 0] y slices_S1x16384x20x64_S1x16384x16x64_0_0_0_0) shapeCasts_S1x16384x16x64_S128x128x4x4x64)

/-- Each block behind the block before it. -/
def win (x : FVec Ideal S128x128x4x64 .f32) : FVec Ideal S128x256x4x64 .f32 :=
  (concatenate S128x256x4x64 1 [⟨S128x128x4x64, (concatenate S128x128x4x64 0 [⟨S1x128x4x64, (broadcastInDim S1x128x4x64 ![] bcast_S_S1x128x4x64 (constant S_ .f32 0x00000000#32))⟩, ⟨S127x128x4x64, (extractStridedSlice S127x128x4x64 ![0, 0, 0, 0] x slices_S128x128x4x64_S127x128x4x64_0_0_0_0)⟩] concatenates_S1x128x4x64_S127x128x4x64_S128x128x4x64_d0)⟩, ⟨S128x128x4x64, x⟩] concatenates_S128x128x4x64_S128x128x4x64_S128x256x4x64_d1)

/-- Which key of the window a query sees. -/
def mask  : IVec S128x128x256 1 :=
  (andi (andi (cmpi .sge (subi (iotaInDim S128x128x256 32 1) (subi (iotaInDim S128x128x256 32 2) (broadcastInDim S128x128x256 ![] bcast_S_S128x128x256 (constantI S_ 32 128#32)))) (broadcastInDim S128x128x256 ![] bcast_S_S128x128x256 (constantI S_ 32 0#32))) (cmpi .slt (subi (iotaInDim S128x128x256 32 1) (subi (iotaInDim S128x128x256 32 2) (broadcastInDim S128x128x256 ![] bcast_S_S128x128x256 (constantI S_ 32 128#32)))) (broadcastInDim S128x128x256 ![] bcast_S_S128x128x256 (constantI S_ 32 128#32)))) (cmpi .sge (addi (subi (iotaInDim S128x128x256 32 2) (broadcastInDim S128x128x256 ![] bcast_S_S128x128x256 (constantI S_ 32 128#32))) (muli (iotaInDim S128x128x256 32 0) (broadcastInDim S128x128x256 ![] bcast_S_S128x128x256 (constantI S_ 32 128#32)))) (broadcastInDim S128x128x256 ![] bcast_S_S128x128x256 (constantI S_ 32 0#32))))

/-- The masked scores. -/
def scores (k : FVec Ideal S128x256x4x64 .f32) (q : FVec Ideal S128x128x4x4x64 .f32) : FVec Ideal S128x4x4x128x256 .f32 :=
  select (broadcastInDim S128x4x4x128x256 ![0, 1, 2, 3, 4] bcast_S128x1x1x128x256_S128x4x4x128x256_0_1_2_3_4 (broadcastInDim S128x1x1x128x256 ![0, 3, 4] bcast_S128x128x256_S128x1x1x128x256_0_3_4 mask)) (mulf (transpose S128x4x4x128x256 [0, 1, 4, 3, 2] (Host.dotGeneral dot_S128x256x4x64_S128x128x4x4x64_S128x4x256x128x4_3_4_1_13_02_02 none k q) transposes_S128x4x256x128x4_S128x4x4x128x256_0_1_4_3_2) (broadcastInDim S128x4x4x128x256 ![] bcast_S_S128x4x4x128x256 (constant S_ .f32 0x3E000000#32))) (broadcastInDim S128x4x4x128x256 ![] bcast_S_S128x4x4x128x256 (id (constant S_ .f32 0xFF800000#32)))

/-- A row's maximum and the sink, the greater. -/
def topOf (R : FVec Ideal S128x4x4x128 .f32) (Z : FVec Ideal S16 .f32) : FVec Ideal S128x4x4x128x1 .f32 :=
  maximumf (broadcastInDim S128x4x4x128x1 ![0, 1, 2, 3] bcast_S128x4x4x128_S128x4x4x128x1_0_1_2_3 R) (broadcastInDim S128x4x4x128x1 ![0, 1, 2, 3, 4] bcast_S1x4x4x1x1_S128x4x4x128x1_0_1_2_3_4 (shapeCast _ Z shapeCasts_S16_S1x4x4x1x1))

/-- A row's maximum. -/
def rowMax (S : FVec Ideal S128x4x4x128x256 .f32) : FVec Ideal S128x4x4x128 .f32 :=
  (Host.reduce FloatOps.maximumf S (constant S_ .f32 0xFF800000#32) reducesTo_S128x4x4x128x256_S128x4x4x128_d4 h_S_)

/-- A row's maximum, the sink included. -/
def top (S : FVec Ideal S128x4x4x128x256 .f32) (Z : FVec Ideal S16 .f32) : FVec Ideal S128x4x4x128x1 .f32 :=
  topOf (rowMax S) Z

/-- The exponentials of a row from its maximum. -/
def exOf (S : FVec Ideal S128x4x4x128x256 .f32) (T : FVec Ideal S128x4x4x128x1 .f32) : FVec Ideal S128x4x4x128x256 .f32 :=
  Host.exp (subf S (broadcastInDim S128x4x4x128x256 ![0, 1, 2, 3, 4] bcast_S128x4x4x128x1_S128x4x4x128x256_0_1_2_3_4 T))

/-- The row sums. -/
def sumOf (E : FVec Ideal S128x4x4x128x256 .f32) : FVec Ideal S128x4x4x128 .f32 :=
  (Host.reduceAdd E (constant S_ .f32 0x00000000#32) reducesTo_S128x4x4x128x256_S128x4x4x128_d4 h_S_)

/-- The weights from the exponentials, the sums, the maximum and the sink. -/
def wtOf (E : FVec Ideal S128x4x4x128x256 .f32) (R : FVec Ideal S128x4x4x128 .f32) (T : FVec Ideal S128x4x4x128x1 .f32) (Z : FVec Ideal S16 .f32) : FVec Ideal S128x4x4x128x256 .f32 :=
  Host.divf E (broadcastInDim S128x4x4x128x256 ![0, 1, 2, 3, 4] bcast_S128x4x4x128x1_S128x4x4x128x256_0_1_2_3_4 (addf (broadcastInDim S128x4x4x128x1 ![0, 1, 2, 3] bcast_S128x4x4x128_S128x4x4x128x1_0_1_2_3 R) (Host.exp (subf (broadcastInDim S128x4x4x128x1 ![0, 1, 2, 3, 4] bcast_S1x4x4x1x1_S128x4x4x128x1_0_1_2_3_4 (shapeCast _ Z shapeCasts_S16_S1x4x4x1x1)) T))))

/-- The row's weights. -/
def prob (S : FVec Ideal S128x4x4x128x256 .f32) (Z : FVec Ideal S16 .f32) : FVec Ideal S128x4x4x128x256 .f32 :=
  wtOf (exOf S (top S Z)) (sumOf (exOf S (top S Z))) (top S Z) Z

/-- The incoming gradient, by key head, column, query head and query. -/
def inc (D : FVec Ideal S16384x1024 .f32) : FVec Ideal S128x4x64x4x128 .f32 :=
  transpose S128x4x64x4x128 [0, 2, 4, 3, 1] (shapeCast _ D shapeCasts_S16384x1024_S128x128x4x4x64) transposes_S128x128x4x4x64_S128x4x64x4x128_0_2_4_3_1

/-- The weighted gradient at each key of each window. -/
def wgrad (D : FVec Ideal S128x4x64x4x128 .f32) (p : FVec Ideal S128x4x4x128x256 .f32) : FVec Ideal S128x256x4x64 .f32 :=
  transpose S128x256x4x64 [0, 3, 1, 2] (Host.dotGeneral dot_S128x4x64x4x128_S128x4x4x128x256_S128x4x64x256_34_23_2_4_01_01 none D p) transposes_S128x4x64x256_S128x256x4x64_0_3_1_2

/-- Each key's two windows added. -/
def join (w : FVec Ideal S128x256x4x64 .f32) : FVec Ideal S16384x256 .bf16 :=
  truncf .bf16 (shapeCast _ (addf (extractStridedSlice S128x128x4x64 ![0, 128, 0, 0] w slices_S128x256x4x64_S128x128x4x64_0_128_0_0) (pad S128x128x4x64 ![0, 0, 0, 0] ![1, 0, 0, 0] ![0, 0, 0, 0] (extractStridedSlice S127x128x4x64 ![1, 0, 0, 0] (extractStridedSlice S128x128x4x64 ![0, 0, 0, 0] w slices_S128x256x4x64_S128x128x4x64_0_0_0_0) slices_S128x128x4x64_S127x128x4x64_1_0_0_0) (constant S_ .f32 0x00000000#32) pads_S127x128x4x64_S128x128x4x64_010_000_000_000 h_S_)) shapeCasts_S128x128x4x64_S16384x256) bitsLt_bf16_f32

/-- The reference's result in these steps. -/
theorem res_eq (m : (ℓ : Loc nD τ sig) → Buf (Elt Ideal) ℓ) (c : Dev nD) :
    truncf .bf16 (shapeCast _ (addf (extractStridedSlice S128x128x4x64 ![0, 128, 0, 0] (Value.res_main_v96 (StableHlo.launchContents m c)) slices_S128x256x4x64_S128x128x4x64_0_128_0_0) (pad S128x128x4x64 ![0, 0, 0, 0] ![1, 0, 0, 0] ![0, 0, 0, 0] (extractStridedSlice S127x128x4x64 ![1, 0, 0, 0] (Value.res_main_v97 (StableHlo.launchContents m c)) slices_S128x128x4x64_S127x128x4x64_1_0_0_0) (constant S_ .f32 0x00000000#32) pads_S127x128x4x64_S128x128x4x64_010_000_000_000 h_S_)) shapeCasts_S128x128x4x64_S16384x256) bitsLt_bf16_f32 = join (wgrad (inc (m ((c.tc : Thread nD τ).loc main_arg2))) (prob (scores (win (keysOf (ropeB (pqk (m ((c.tc : Thread nD τ).loc main_arg0)))))) (qryOf (ropeB (pqk (m ((c.tc : Thread nD τ).loc main_arg0)))))) (m ((c.tc : Thread nD τ).loc main_arg1)))) := by
  unfold Value.res_main_v97 Value.res_main_v96 Value.res_main_v89 Value.res_main_v81 Value.res_main_v78 Value.res_main_v74 Value.res_main_v73 Value.res_main_v59 Value.res_main_v58 Value.res_main_v40 Value.res_main_v36 Value.res_main_v23 Value.res_main_v22 Value.res_main_v21 Value.res_main_v20 Value.res_main_v18 Value.res_main_v16 Value.res_main_v2 join wgrad inc prob top topOf rowMax sumOf exOf wtOf scores mask win qryOf keysOf ropeB pqk sinT cosT ang
  rfl

theorem pqk_apply (X : FVec Ideal S16384x7680 .f32) (t : Fin 16384) (g : Fin 20) (d : Fin 64) :
    pqk X (ix4 0 t g d) = X (ix2 t ⟨4096 + (64 * g + d), by omega⟩) := by
  pointwise [pqk]
  blk_ext

theorem ang_apply (t : Fin 16384) (l : Fin 8) : ang (ix2 t l) = angv t l := by
  pointwise [ang]
  rfl

theorem rope_of (t : Fin 16384) (x : Fin 64 → EReal) (d : Fin 64) :
    (if h : d.val < 16 then
      if h_1 : d.val < 8 then x d * Ideal.cos (ang (ix2 t ⟨d, h_1⟩)) - x ⟨8 + d, by omega⟩ * Ideal.sin (ang (ix2 t ⟨d, h_1⟩))
      else x ⟨8 + (d - 8), by omega⟩ * Ideal.cos (ang (ix2 t ⟨d - 8, by omega⟩)) + x ⟨d - 8, by omega⟩ * Ideal.sin (ang (ix2 t ⟨d - 8, by omega⟩))
    else x ⟨16 + (d - 16), by omega⟩) = rope t x d := by
  unfold rope
  split_ifs with h h'
  · rw [ang_apply]
  · rw [ang_apply, show (⟨8 + (d.val - 8), by omega⟩ : Fin 64) = d from Fin.ext (by show 8 + (d.val - 8) = d.val; omega)]
  · rw [show (⟨16 + (d.val - 16), by omega⟩ : Fin 64) = d from Fin.ext (by show 16 + (d.val - 16) = d.val; omega)]

theorem ropeB_apply (x : FVec Ideal S1x16384x20x64 .f32) (t : Fin 16384) (g : Fin 20) (d : Fin 64) : ropeB x (ix4 0 t g d) = rope t (fun e => x (ix4 0 t g e)) d := by
  rw [← rope_of]
  pointwise [ropeB, cosT, sinT]

theorem keysOf_apply (y : FVec Ideal S1x16384x20x64 .f32) (n r : Fin 128) (g : Fin 4) (d : Fin 64) : keysOf y (ix4 n r g d) = y (ix4 0 ⟨128 * n + r, by omega⟩ ⟨16 + g, by omega⟩ d) := by
  pointwise [keysOf]
  blk_ext

theorem qryOf_apply (y : FVec Ideal S1x16384x20x64 .f32) (n r : Fin 128) (g j : Fin 4) (d : Fin 64) : qryOf y (ix5 n r g j d) = y (ix4 0 ⟨128 * n + r, by omega⟩ ⟨4 * g + j, by omega⟩ d) := by
  pointwise [qryOf]
  blk_ext

theorem win_apply (x : FVec Ideal S128x128x4x64 .f32) (n : Fin 128) (j : Fin 256) (g : Fin 4) (d : Fin 64) :
    win x (ix4 n j g d) = if h : j.val < 128 then if h' : n.val < 1 then 0 else x (ix4 ⟨n - 1, by omega⟩ ⟨j, h⟩ g d) else x (ix4 n ⟨j - 128, by omega⟩ g d) := by
  pointwise [win]

theorem scores_apply (k : FVec Ideal S128x256x4x64 .f32) (q : FVec Ideal S128x128x4x4x64 .f32) (n : Fin 128) (g j : Fin 4) (i : Fin 128) (s : Fin 256) :
    scores k q (ix5 n g j i s) = Scalar.select (mask (ix3 n i s))
      ((∑ x, k (ix4 n s g x) * q (ix5 n i g j x)) * Ideal.ofBits .f32 0x3E000000#32) ⊥ := by
  pointwise [scores]
  have e : (id (constant (F := Ideal) S_ FTy.f32 4286578688#32) ix0) = ⊥ := by
    exact ofBits_ninf
  rw [e]

theorem max_apply (s : FVec Ideal S128x4x4x128x256 .f32) (n : Fin 128) (g j : Fin 4) (i : Fin 128) :
    rowMax s (ix4 n g j i) = (Finset.univ : Finset (Fin 256)).fold max ⊥ fun k => s (ix5 n g j i k) := by
  refine (Host.reduce_eq_fold_single _ _ _ _ (by decide : Shape.Reduces S128x4x4x128x256 [4] S128x4x4x128) _ _).trans ?_
  have e : (constant (F := Ideal) S_ FTy.f32 (4286578688#32) (Shape.Idx.first h_S_)) = (⊥ : EReal) := ofBits_ninf
  rw [e]
  refine congrArg (fun f => Finset.fold max (⊥ : EReal) f (Finset.univ : Finset (Fin 256))) (funext fun k => congrArg s ?_)
  funext b; fin_cases b <;> rfl

theorem sum_apply (s : FVec Ideal S128x4x4x128x256 .f32) (n : Fin 128) (g j : Fin 4) (i : Fin 128) :
    Ideal.hostReduceAdd reducesTo_S128x4x4x128x256_S128x4x4x128_d4 s 0 (ix4 n g j i)
      = ∑ k : Fin 256, s (ix5 n g j i k) := by
  refine (Ideal.hostReduceAdd_single _ (by decide) _ _ _).trans ?_
  rw [zero_add]
  refine Finset.sum_congr rfl fun k _ => congrArg s ?_
  funext b; fin_cases b <;> rfl

theorem topOf_apply (R : FVec Ideal S128x4x4x128 .f32) (Z : FVec Ideal S16 .f32) (n : Fin 128) (g j : Fin 4) (i : Fin 128) :
    topOf R Z (ix5 n g j i 0) = max (R (ix4 n g j i)) (Z (ix1 ⟨4 * g + j, by omega⟩)) := by
  pointwise [topOf]
  congr 1
  blk_ext

theorem top_apply (s : FVec Ideal S128x4x4x128x256 .f32) (Z : FVec Ideal S16 .f32) (n : Fin 128) (g j : Fin 4) (i : Fin 128) :
    top s Z (ix5 n g j i 0) = max ((Finset.univ : Finset (Fin 256)).fold max ⊥ fun k => s (ix5 n g j i k)) (Z (ix1 ⟨4 * g + j, by omega⟩)) := by
  unfold top
  generalize e : rowMax s = R
  rw [topOf_apply, ← e, max_apply]

theorem exOf_apply (s : FVec Ideal S128x4x4x128x256 .f32) (T : FVec Ideal S128x4x4x128x1 .f32) (n : Fin 128) (g j : Fin 4) (i : Fin 128) (k : Fin 256) :
    exOf s T (ix5 n g j i k) = Ideal.exp (s (ix5 n g j i k) - T (ix5 n g j i 0)) := by
  pointwise [exOf]

theorem sumOf_apply (E : FVec Ideal S128x4x4x128x256 .f32) (n : Fin 128) (g j : Fin 4) (i : Fin 128) :
    sumOf E (ix4 n g j i) = ∑ x : Fin 256, E (ix5 n g j i x) := by
  pointwise [sumOf]

theorem wtOf_apply (E : FVec Ideal S128x4x4x128x256 .f32) (R : FVec Ideal S128x4x4x128 .f32) (T : FVec Ideal S128x4x4x128x1 .f32) (Z : FVec Ideal S16 .f32) (n : Fin 128) (g j : Fin 4) (i : Fin 128) (k : Fin 256) :
    wtOf E R T Z (ix5 n g j i k) = Ideal.div (E (ix5 n g j i k)) (R (ix4 n g j i) + Ideal.exp (Z (ix1 ⟨4 * g + j, by omega⟩) - T (ix5 n g j i 0))) := by
  pointwise [wtOf]
  congr 5
  blk_ext

theorem prob_apply (s : FVec Ideal S128x4x4x128x256 .f32) (Z : FVec Ideal S16 .f32) (n : Fin 128) (g j : Fin 4) (i : Fin 128) (k : Fin 256) :
    prob s Z (ix5 n g j i k) = Ideal.div (Ideal.exp (s (ix5 n g j i k) - top s Z (ix5 n g j i 0)))
      (∑ x : Fin 256, Ideal.exp (s (ix5 n g j i x) - top s Z (ix5 n g j i 0)) + Ideal.exp (Z (ix1 ⟨4 * g + j, by omega⟩) - top s Z (ix5 n g j i 0))) := by
  unfold prob
  generalize top s Z = T
  rw [wtOf_apply, sumOf_apply, exOf_apply]
  simp only [exOf_apply]

theorem inc_apply (D : FVec Ideal S16384x1024 .f32) (n : Fin 128) (g : Fin 4) (d : Fin 64) (j : Fin 4) (i : Fin 128) :
    inc D (ix5 n g d j i) = D (ix2 ⟨128 * n + i, by omega⟩ ⟨256 * g + 64 * j + d, by omega⟩) := by
  pointwise [inc]
  blk_ext

theorem wgrad_apply (D : FVec Ideal S128x4x64x4x128 .f32) (p : FVec Ideal S128x4x4x128x256 .f32) (n : Fin 128) (s : Fin 256) (g : Fin 4) (d : Fin 64) :
    wgrad D p (ix4 n s g d) = ∑ j : Fin 4, ∑ i : Fin 128, D (ix5 n g d j i) * p (ix5 n g j i s) := by
  pointwise [wgrad]

theorem join_apply (w : FVec Ideal S128x256x4x64 .f32) (n i : Fin 128) (g : Fin 4) (d : Fin 64) :
    join w (ix2 ⟨128 * n + i, by omega⟩ ⟨64 * g + d, by omega⟩) = w (ix4 n ⟨128 + i, by omega⟩ g d) + (if h : n.val < 127 then w (ix4 ⟨n + 1, by omega⟩ ⟨i, by omega⟩ g d) else 0) := by
  pointwise [join]
  simp only [Nat.add_comm 1 n.val]

theorem mask_apply (n : Fin 128) (i : Fin 128) (s : Fin 256) : mask (ix3 n i s) = sees n i s := by
  pointwise [mask]
  have e1 : IntOp.subi (BitVec.ofNat 32 i) (IntOp.subi (BitVec.ofNat 32 s) 128#32)
      = IntOp.subi (IntOp.addi (BitVec.ofNat 32 i) 128#32) (BitVec.ofNat 32 s) := by
    show BitVec.ofNat 32 i.val - (BitVec.ofNat 32 s.val - 128#32) = BitVec.ofNat 32 i.val + 128#32 - BitVec.ofNat 32 s.val
    generalize BitVec.ofNat 32 i.val = b
    generalize BitVec.ofNat 32 s.val = d
    generalize 128#32 = k
    have h : b + k - d + (d - k) = b := by
      calc b + k - d + (d - k) = (d - k) + ((b + k - d)) := by ac_rfl
        _ = d + -k + (b + k + -d) := by rw [BitVec.sub_eq_add_neg, BitVec.sub_eq_add_neg]
        _ = b + (k + -k) + (d + -d) := by ac_rfl
        _ = b := by rw [BitVec.add_right_neg, BitVec.add_right_neg, BitVec.add_zero, BitVec.add_zero]
    calc b - (d - k) = (b + k - d + (d - k)) - (d - k) := by rw [h]
      _ = b + k - d := BitVec.add_sub_cancel _ _
  have e2 : IntOp.cmpi .sge (IntOp.addi (IntOp.subi (BitVec.ofNat 32 s) 128#32) (IntOp.muli (BitVec.ofNat 32 n) 128#32)) 0#32
      = IntOp.ori (IntOp.cmpi .sge (BitVec.ofNat 32 s) 128#32) (IntOp.cmpi .sgt (BitVec.ofNat 32 n) 0#32) := by
    exact (by decide +kernel : ∀ (n : Fin 128) (s : Fin 256), IntOp.cmpi .sge (IntOp.addi (IntOp.subi (BitVec.ofNat 32 s) 128#32) (IntOp.muli (BitVec.ofNat 32 n) 128#32)) 0#32
      = IntOp.ori (IntOp.cmpi .sge (BitVec.ofNat 32 s) 128#32) (IntOp.cmpi .sgt (BitVec.ofNat 32 n) 0#32)) n s
  rw [e1, e2]
  rfl

end Cert.Own.Swv.R

end
-- ==== Proof.SwvKer.lean ====
module

public import proofs.«01_k».proof.Defs
public import proofs.«01_k».proof.Proof.SwvHead
public import proofs.«01_k».proof.Proof.SwvTab
public import proofs.«01_k».proof.Proof.SwvFrame
public import Idealize.ShloMosaic.Lib.Pipeline.ValueKit
public import Idealize.ShloMosaic.Lib.Claim
public import Idealize.ShloMosaic.Lib.Pointwise

/-! The attention backward's kernel side: the gradient of the values, over the arguments. -/

@[expose] public section

set_option maxRecDepth 65536

noncomputable section

namespace Cert.Own.Swv.K

open Idealize.ShloMosaic Idealize.ShloMosaic.TcCoe Idealize.SL.Sem
open Cert.SwvKernelIdeal Cert.SwvKernelIdeal.Gen
open Cert.Own.SwvRun (keep outV share bef dats)
open Cert.Own.Swf (xn xn_eq rk key score sees)
open Cert.Own.Swf.K (turn qs qs_apply turn_rope cast_self)

variable (m : (ℓ : Loc nD τ sig) → Buf (Elt Ideal) ℓ) (c : Dev nD)

theorem idx : ∀ t : Fin cfg0.N, win0_0.index t = ![min (t.val % 129) 127, 8 + t.val / 129] ∧ win0_1.index t = ![min (t.val % 129) 127, 40 + t.val / 129] ∧ win0_2.index t = ![min (t.val % 129) 127 - 1, 40 + t.val / 129]
    ∧ win0_5.index t = ![min (t.val % 129) 127, 0] ∧ win0_6.index t = ![min (t.val % 129) 127, 0] ∧ win0_7.index t = ![min (t.val % 129) 127, 0]
    ∧ win0_8.index t = ![min (t.val % 129) 127 - 1, 0] ∧ win0_9.index t = ![min (t.val % 129) 127 - 1, 0] ∧ win0_10.index t = ![min (t.val % 129) 127 - 1, 0]
    ∧ win0_11.index t = ![0, 0] ∧ win0_13.index t = ![min (t.val % 129) 127, t.val / 129] ∧ win0_16.index t = ![t.val % 129 - 1, t.val / 129] :=
  (by decide +kernel : ∀ t : Fin grid0.N, _)

theorem coord : ∀ t : Fin cfg0.N, (grid0.coords t 1).val = t.val % 129 := (by decide +kernel : ∀ t : Fin grid0.N, _)

theorem flushes : ∀ t : Fin cfg0.N, win0_16.flush t = true → ¬ t.val % 129 = 0 := (by decide +kernel : ∀ t : Fin grid0.N, _)

/-- The array the columns come from. -/
def xa : FVec Ideal S16384x7680 .f32 := m ((c.tc : Thread nD τ).loc main_arg0)
/-- The sinks. -/
def za : FVec Ideal S16 .f32 := m ((c.tc : Thread nD τ).loc main_arg1)
/-- The incoming gradient. -/
def da : FVec Ideal S16384x1024 .f32 := m ((c.tc : Thread nD τ).loc main_arg2)

theorem lt258 (t : Fin cfg0.N) : t.val < 258 := t.isLt

theorem row_min (t : Fin cfg0.N) (ht : t.val % 129 ≤ 127) : min (t.val % 129) 127 = t.val % 129 := by omega

section
variable (t : Fin cfg0.N) (ht : t.val % 129 ≤ 127) (s l : Fin 128)
include ht

theorem rd_q (l : Fin 512) : iblk m c 0 t (ix2 s l) = xa m c (ix2 ⟨128 * (t.val % 129) + s, by have := lt258 t; omega⟩ ⟨4096 + 512 * (t.val / 129) + l, by have := lt258 t; omega⟩) := by
  obtain ⟨e0, e1, e2, e5, e6, e7, e8, e9, e10, e11, e13, e16⟩ := idx t
  rw [row_min t ht] at e0
  unfold xa
  blk_ext [iblk, V, e0]

theorem rd_kc : iblk m c 1 t (ix2 s l) = xa m c (ix2 ⟨128 * (t.val % 129) + s, by have := lt258 t; omega⟩ ⟨5120 + 128 * (t.val / 129) + l, by have := lt258 t; omega⟩) := by
  obtain ⟨e0, e1, e2, e5, e6, e7, e8, e9, e10, e11, e13, e16⟩ := idx t
  rw [row_min t ht] at e1
  unfold xa
  blk_ext [iblk, V, e1]

theorem rd_kp : iblk m c 2 t (ix2 s l) = xa m c (ix2 ⟨128 * (t.val % 129 - 1) + s, by have := lt258 t; omega⟩ ⟨5120 + 128 * (t.val / 129) + l, by have := lt258 t; omega⟩) := by
  obtain ⟨e0, e1, e2, e5, e6, e7, e8, e9, e10, e11, e13, e16⟩ := idx t
  rw [row_min t ht] at e2
  unfold xa
  blk_ext [iblk, V, e2]

theorem rd_d (l : Fin 512) : iblk m c 13 t (ix2 s l) = da m c (ix2 ⟨128 * (t.val % 129) + s, by have := lt258 t; omega⟩ ⟨512 * (t.val / 129) + l, by have := lt258 t; omega⟩) := by
  obtain ⟨e0, e1, e2, e5, e6, e7, e8, e9, e10, e11, e13, e16⟩ := idx t
  rw [row_min t ht] at e13
  unfold da
  blk_ext [iblk, V, e13]

theorem rd_cc : iblk m c 5 t (ix2 s l) = Cert.Own.Swf.T.cosl (ix2 ⟨128 * (t.val % 129) + s, by have := lt258 t; omega⟩ l) := by
  obtain ⟨e0, e1, e2, e5, e6, e7, e8, e9, e10, e11, e13, e16⟩ := idx t
  rw [row_min t ht] at e5
  have e' := (Cert.Own.Swv.T.entries m c).1
  unfold iblk
  generalize V m c main_v123 = Y at e' ⊢
  subst e'
  generalize Cert.Own.Swf.T.cosl = Y
  blk_ext [e5]

theorem rd_uc : iblk m c 6 t (ix2 s l) = Cert.Own.Swf.T.upl (ix2 ⟨128 * (t.val % 129) + s, by have := lt258 t; omega⟩ l) := by
  obtain ⟨e0, e1, e2, e5, e6, e7, e8, e9, e10, e11, e13, e16⟩ := idx t
  rw [row_min t ht] at e6
  have e' := (Cert.Own.Swv.T.entries m c).2.1
  unfold iblk
  generalize V m c main_v127 = Y at e' ⊢
  subst e'
  generalize Cert.Own.Swf.T.upl = Y
  blk_ext [e6]

theorem rd_dc : iblk m c 7 t (ix2 s l) = Cert.Own.Swf.T.dnl (ix2 ⟨128 * (t.val % 129) + s, by have := lt258 t; omega⟩ l) := by
  obtain ⟨e0, e1, e2, e5, e6, e7, e8, e9, e10, e11, e13, e16⟩ := idx t
  rw [row_min t ht] at e7
  have e' := (Cert.Own.Swv.T.entries m c).2.2
  unfold iblk
  generalize V m c main_v133 = Y at e' ⊢
  subst e'
  generalize Cert.Own.Swf.T.dnl = Y
  blk_ext [e7]

theorem rd_cp : iblk m c 8 t (ix2 s l) = Cert.Own.Swf.T.cosl (ix2 ⟨128 * (t.val % 129 - 1) + s, by have := lt258 t; omega⟩ l) := by
  obtain ⟨e0, e1, e2, e5, e6, e7, e8, e9, e10, e11, e13, e16⟩ := idx t
  rw [row_min t ht] at e8
  have e' := (Cert.Own.Swv.T.entries m c).1
  unfold iblk
  generalize V m c main_v123 = Y at e' ⊢
  subst e'
  generalize Cert.Own.Swf.T.cosl = Y
  blk_ext [e8]

theorem rd_up : iblk m c 9 t (ix2 s l) = Cert.Own.Swf.T.upl (ix2 ⟨128 * (t.val % 129 - 1) + s, by have := lt258 t; omega⟩ l) := by
  obtain ⟨e0, e1, e2, e5, e6, e7, e8, e9, e10, e11, e13, e16⟩ := idx t
  rw [row_min t ht] at e9
  have e' := (Cert.Own.Swv.T.entries m c).2.1
  unfold iblk
  generalize V m c main_v127 = Y at e' ⊢
  subst e'
  generalize Cert.Own.Swf.T.upl = Y
  blk_ext [e9]

theorem rd_dp : iblk m c 10 t (ix2 s l) = Cert.Own.Swf.T.dnl (ix2 ⟨128 * (t.val % 129 - 1) + s, by have := lt258 t; omega⟩ l) := by
  obtain ⟨e0, e1, e2, e5, e6, e7, e8, e9, e10, e11, e13, e16⟩ := idx t
  rw [row_min t ht] at e10
  have e' := (Cert.Own.Swv.T.entries m c).2.2
  unfold iblk
  generalize V m c main_v133 = Y at e' ⊢
  subst e'
  generalize Cert.Own.Swf.T.dnl = Y
  blk_ext [e10]

omit ht in
theorem rd_z (h : Fin 16) : iblk m c 11 t (ix2 0 h) = za m c (ix1 h) := by
  obtain ⟨e0, e1, e2, e5, e6, e7, e8, e9, e10, e11, e13, e16⟩ := idx t
  have e' := Cert.Own.Swv.T.entry_z m c
  unfold iblk za
  generalize (m ((c.tc : Thread nD τ).loc main_arg1) : FVec Ideal S16 .f32) = Z at e' ⊢
  have e2 : ∀ h, broadcastInDim S1x16 ![1] bcast_S16_S1x16_1 Z (ix2 0 h) = Z (ix1 h) := fun h => by pointwise []
  refine Eq.trans ?_ (e2 h)
  generalize broadcastInDim S1x16 ![1] bcast_S16_S1x16_1 Z = W at e' ⊢
  generalize V m c main_v93 = Y at e'
  subst e'
  blk_ext [e11]

end

theorem mask_apply (n : BitVec 32) (k : ℕ) (hn : n = BitVec.ofNat 32 k) (s : Fin 256) (i : Fin 128) :
    k0_pay15 n (iota .tc S256x128 32 [0] iota_S256x128_d0_w32) (iota .tc S256x128 32 [1] iota_S256x128_d1_w32) k0_pay14 (ix2 s i) = sees k i s := by
  subst hn
  pointwise [k0_pay15, k0_pay14]
  rfl

theorem keys_cast (c u d c' u' d' x x' : FVec Ideal S128x128 .f32) :
    k0_pay12 (F := Ideal) c u d c' u' d' x' x = Cert.SwfKernelIdeal.Gen.k0_pay6 (F := Ideal) (turn (F := Ideal) (k0_pay9 c') (k0_pay10 u') (k0_pay11 d') x') (turn (F := Ideal) (k0_pay6 c) (k0_pay7 u) (k0_pay8 d) x) := rfl

theorem tab_c (x : FVec Ideal S128x128 .f32) : k0_pay6 (F := Ideal) x = x := cast_self x _
theorem tab_u (x : FVec Ideal S128x128 .f32) : k0_pay7 (F := Ideal) x = x := cast_self x _
theorem tab_d (x : FVec Ideal S128x128 .f32) : k0_pay8 (F := Ideal) x = x := cast_self x _
theorem tab_c' (x : FVec Ideal S128x128 .f32) : k0_pay9 (F := Ideal) x = x := cast_self x _
theorem tab_u' (x : FVec Ideal S128x128 .f32) : k0_pay10 (F := Ideal) x = x := cast_self x _
theorem tab_d' (x : FVec Ideal S128x128 .f32) : k0_pay11 (F := Ideal) x = x := cast_self x _

/-- The array of the columns, by row and column. -/
def aa : Fin 16384 → Fin 7680 → EReal := fun r k => xa m c (ix2 r k)

/-- One key head's gradient of the values at key `s` of block `n`'s window, from that block's queries. -/
def dvw (A : Fin 16384 → Fin 7680 → EReal) (Z : FVec Ideal S16 .f32) (D : FVec Ideal S16384x1024 .f32) (G : Fin 4) (n : Fin 128) (s : Fin 256) (d : Fin 64) : EReal :=
  ∑ h : Fin 4, ∑ x : Fin 128, wt (score A (5120 + 64 * G) (4096 + 64 * (4 * G + h)) n x) (Z (ix1 ⟨4 * G + h, by omega⟩)) s
    * D (ix2 ⟨128 * n + x, by omega⟩ ⟨256 * G + 64 * h + d, by omega⟩)

/-- The result: a key's own window, and the next block's. -/
def outArr : FVec Ideal S16384x256 .bf16 := fun y =>
  dvw (aa m c) (za m c) (da m c) ⟨(y 1).val / 64, by have := (y 1).isLt; change (y 1).val < 256 at this; omega⟩
      ⟨(y 0).val / 128, by have := (y 0).isLt; change (y 0).val < 16384 at this; omega⟩ ⟨128 + (y 0).val % 128, by omega⟩ ⟨(y 1).val % 64, by omega⟩
    + (if h : (y 0).val / 128 < 127 then dvw (aa m c) (za m c) (da m c) ⟨(y 1).val / 64, by have := (y 1).isLt; change (y 1).val < 256 at this; omega⟩
        ⟨(y 0).val / 128 + 1, by omega⟩ ⟨(y 0).val % 128, by omega⟩ ⟨(y 1).val % 64, by omega⟩ else 0)

theorem term_eq (A : Fin 16384 → Fin 7680 → EReal) (n s : ℕ) (hs : s < 256) (ok ok' oq oq' : ℕ) (z z' : EReal) (f g : Fin 128 → EReal) (e1 : ok = ok') (e2 : oq = oq') (e3 : z = z') (e4 : ∀ x, f x = g x) :
    ∑ x : Fin 128, wt (score A ok oq n x) z ⟨s, hs⟩ * f x = ∑ x : Fin 128, wt (score A ok' oq' n x) z' ⟨s, hs⟩ * g x := by
  subst e1 e2 e3
  simp only [e4]

theorem gsum_dvw (A : Fin 16384 → Fin 7680 → EReal) (Z : FVec Ideal S16 .f32) (D : FVec Ideal S16384x1024 .f32) (G : Fin 4) (n : Fin 128) (ok oq : ℕ) (d d' : FVec Ideal S128x128 .f32) (z0 z1 z2 z3 : Ideal .f32)
    (e1 : ok = 5120 + 64 * G) (e2 : oq = 4096 + 256 * G)
    (h0 : z0 = Z (ix1 ⟨4 * G, by omega⟩)) (h1 : z1 = Z (ix1 ⟨4 * G + 1, by omega⟩)) (h2 : z2 = Z (ix1 ⟨4 * G + 2, by omega⟩)) (h3 : z3 = Z (ix1 ⟨4 * G + 3, by omega⟩))
    (hd : ∀ x l : Fin 128, d (ix2 x l) = D (ix2 ⟨128 * n + x, by omega⟩ ⟨256 * G + l, by omega⟩))
    (hd' : ∀ x l : Fin 128, d' (ix2 x l) = D (ix2 ⟨128 * n + x, by omega⟩ ⟨256 * G + 128 + l, by omega⟩)) (s : Fin 256) (l : Fin 64) :
    gsum A ok oq n d d' z0 z1 z2 z3 s l = dvw A Z D G n s l := by
  unfold gsum dvw
  rw [Fin.sum_univ_four]
  refine congrArg₂ (· + ·) (congrArg₂ (· + ·) (congrArg₂ (· + ·) ?_ ?_) ?_) ?_
  · refine term_eq A n s s.isLt _ _ _ _ _ _ _ _ e1 (by show oq = 4096 + 64 * (4 * G.val + 0); omega) h0 fun x => ?_
    rw [hd]
    rfl
  · refine term_eq A n s s.isLt _ _ _ _ _ _ _ _ e1 (by show oq + 64 = 4096 + 64 * (4 * G.val + 1); omega) h1 fun x => ?_
    rw [hd]
    refine congrArg D (congrArg (ix2 _) (Fin.ext ?_))
    show 256 * G.val + (64 + l.val) = 256 * G.val + 64 * 1 + l.val
    omega
  · refine term_eq A n s s.isLt _ _ _ _ _ _ _ _ e1 (by show oq + 128 = 4096 + 64 * (4 * G.val + 2); omega) h2 fun x => ?_
    rw [hd']
    refine congrArg D (congrArg (ix2 _) (Fin.ext ?_))
    show 256 * G.val + 128 + l.val = 256 * G.val + 64 * 2 + l.val
    omega
  · refine term_eq A n s s.isLt _ _ _ _ _ _ _ _ e1 (by show oq + 192 = 4096 + 64 * (4 * G.val + 3); omega) h3 fun x => ?_
    rw [hd']
    refine congrArg D (congrArg (ix2 _) (Fin.ext ?_))
    show 256 * G.val + 128 + (64 + l.val) = 256 * G.val + 64 * 3 + l.val
    omega

section
variable (t : Fin cfg0.N) (ht : t.val % 129 ≤ 127)

theorem sink (e : BitVec 32) (k : Fin 16) (ho : k0_off1 (grid0.coords t) e = ![0, k.val]) (inb) (j) :
    View.ld (iblk m c 11 t) (Rect.unit (s := S1x16) (k0_off1 (grid0.coords t) e) S1x1.size inb) j = za m c (ix1 k) := by
  refine (congrArg (iblk m c 11 t) ?_).trans (rd_z m c t k)
  funext b'
  have j0 : (j 0).val = 0 := by have := (j 0).isLt; change (j 0).val < 1 at this; omega
  have j1 : (j 1).val = 0 := by have := (j 1).isLt; change (j 1).val < 1 at this; omega
  fin_cases b' <;> apply Fin.ext <;> simp [Rect.unit, ho, j0, j1]

include ht in
theorem keys_at (s : Fin 256) (l : Fin 128) :
    k0_pay12 (F := Ideal) (iblk m c 5 t) (iblk m c 6 t) (iblk m c 7 t) (iblk m c 8 t) (iblk m c 9 t) (iblk m c 10 t) (iblk m c 2 t) (iblk m c 1 t) (ix2 s l)
      = key (aa m c) (5120 + 128 * (t.val / 129) + 64 * (l / 64)) (t.val % 129) s ⟨l % 64, by omega⟩ := by
  rw [keys_cast, tab_c, tab_u, tab_d, tab_c', tab_u', tab_d']
  refine (Cert.Own.Swf.K.cat_apply _ _ s l).trans ?_
  unfold key
  split_ifs with hs
  · refine turn_rope _ _ _ _ (aa m c) (5120 + 128 * (t.val / 129)) (128 * (t.val % 129 - 1) + s) ⟨s, hs⟩ l ?_ ?_ ?_ fun l => ?_
    · rw [rd_cp m c t ht, Cert.Own.Swf.T.cosl_apply]
    · rw [rd_up m c t ht, Cert.Own.Swf.T.upl_apply]
    · rw [rd_dp m c t ht, Cert.Own.Swf.T.dnl_apply]
    · rw [rd_kp m c t ht]; exact xn_eq (aa m c) _ _
  · refine turn_rope _ _ _ _ (aa m c) (5120 + 128 * (t.val / 129)) (128 * (t.val % 129) + (s - 128)) ⟨s - 128, by omega⟩ l ?_ ?_ ?_ fun l => ?_
    · rw [rd_cc m c t ht, Cert.Own.Swf.T.cosl_apply]
    · rw [rd_uc m c t ht, Cert.Own.Swf.T.upl_apply]
    · rw [rd_dc m c t ht, Cert.Own.Swf.T.dnl_apply]
    · rw [rd_kc m c t ht]; exact xn_eq (aa m c) _ _

include ht in
theorem query_at (o q : ℕ) (ho : o + 128 ≤ 512) (hq : q = 4096 + 512 * (t.val / 129) + o) (inb) (i l : Fin 128) :
    qs (F := Ideal) (k0_pay6 (iblk m c 5 t)) (k0_pay7 (iblk m c 6 t)) (k0_pay8 (iblk m c 7 t)) (View.ld (iblk m c 0 t) (Rect.unit (s := S128x512) ![0, o] S128x128.size inb)) (ix2 i l)
      = rk (aa m c) (q + 64 * (l / 64)) (128 * (t.val % 129) + i) ⟨l % 64, by omega⟩ * Ideal.ofBits .f32 0x3E000000#32 := by
  subst hq
  rw [tab_c, tab_u, tab_d, qs_apply]
  congr 1
  refine turn_rope _ _ _ _ (aa m c) (4096 + 512 * (t.val / 129) + o) (128 * (t.val % 129) + i) i l ?_ ?_ ?_ fun l => ?_
  · rw [rd_cc m c t ht, Cert.Own.Swf.T.cosl_apply]
  · rw [rd_uc m c t ht, Cert.Own.Swf.T.upl_apply]
  · rw [rd_dc m c t ht, Cert.Own.Swf.T.dnl_apply]
  · have e : View.ld (iblk m c 0 t) (Rect.unit (s := S128x512) ![0, o] S128x128.size inb) (ix2 i l) = iblk m c 0 t (ix2 i ⟨o + l, by omega⟩) := by
      refine congrArg (iblk m c 0 t) ?_
      funext b'
      fin_cases b' <;> apply Fin.ext <;> simp [Rect.unit]
    refine e.trans ?_
    rw [rd_q m c t ht]
    refine (xn_eq (aa m c) _ _).trans ?_
    dsimp only
    rw [show 4096 + 512 * (t.val / 129) + (o + l.val) = 4096 + 512 * (t.val / 129) + o + l.val by omega]

include ht in
theorem inc_at (o k : ℕ) (ho : o + 128 ≤ 512) (hk : k = 512 * (t.val / 129) + o) (inb) (i l : Fin 128) :
    View.ld (iblk m c 13 t) (Rect.unit (s := S128x512) ![0, o] S128x128.size inb) (ix2 i l)
      = da m c (ix2 ⟨128 * (t.val % 129) + i, by omega⟩ ⟨k + l, by have := lt258 t; omega⟩) := by
  subst hk
  have e : View.ld (iblk m c 13 t) (Rect.unit (s := S128x512) ![0, o] S128x128.size inb) (ix2 i l) = iblk m c 13 t (ix2 i ⟨o + l, by omega⟩) := by
    refine congrArg (iblk m c 13 t) ?_
    funext b'
    fin_cases b' <;> apply Fin.ext <;> simp [Rect.unit]
  refine e.trans ?_
  rw [rd_d m c t ht]
  refine congrArg (da m c) (congrArg (ix2 _) (Fin.ext ?_))
  show 512 * (t.val / 129) + (o + l.val) = 512 * (t.val / 129) + o + l.val
  omega

end

theorem offs : ∀ t : Fin cfg0.N, k0_off1 (grid0.coords t) 0#32 = ![0, 8 * (t.val / 129) + 0] ∧ k0_off1 (grid0.coords t) 1#32 = ![0, 8 * (t.val / 129) + 1] ∧ k0_off1 (grid0.coords t) 2#32 = ![0, 8 * (t.val / 129) + 2] ∧ k0_off1 (grid0.coords t) 3#32 = ![0, 8 * (t.val / 129) + 3] ∧ k0_off1 (grid0.coords t) 4#32 = ![0, 8 * (t.val / 129) + 4] ∧ k0_off1 (grid0.coords t) 5#32 = ![0, 8 * (t.val / 129) + 5] ∧ k0_off1 (grid0.coords t) 6#32 = ![0, 8 * (t.val / 129) + 6] ∧ k0_off1 (grid0.coords t) 7#32 = ![0, 8 * (t.val / 129) + 7] :=
  (by decide +kernel : ∀ t : Fin grid0.N, _)

theorem share_apply (t : Fin cfg0.N) (ht : t.val % 129 ≤ 127) (s : Fin 256) (l : Fin 128) :
    share m c t ht (ix2 s l) = dvw (aa m c) (za m c) (da m c) ⟨2 * (t.val / 129) + l / 64, by have := lt258 t; omega⟩ ⟨t.val % 129, by omega⟩ s ⟨l % 64, by omega⟩ := by
  obtain ⟨o0, o1, o2, o3, o4, o5, o6, o7⟩ := offs t
  have hb : t.val < 258 := t.isLt
  unfold share Cert.Own.SwvRun.blk
  by_cases h : l.val < 64
  · refine (dv2_lo (aa m c) (5120 + 128 * (t.val / 129)) (4096 + 512 * (t.val / 129)) (t.val % 129) _ _ _ _ _ _ _ _ _ _ _ _ _ _ _ _ _ _
      (fun s i => mask_apply _ (t.val % 129) (by rw [coord]) s i) (keys_at m c t ht) (query_at m c t ht 0 _ (by omega) (by omega) _) (query_at m c t ht 128 _ (by omega) (by omega) _) s l h).trans ?_
    have eG : (⟨2 * (t.val / 129) + l.val / 64, by omega⟩ : Fin 4) = ⟨2 * (t.val / 129), by omega⟩ := Fin.ext (by show 2 * (t.val / 129) + l.val / 64 = 2 * (t.val / 129); omega)
    have el : (⟨l.val % 64, by omega⟩ : Fin 64) = ⟨l, h⟩ := Fin.ext (Nat.mod_eq_of_lt h)
    rw [eG, el]
    refine gsum_dvw (aa m c) (za m c) (da m c) ⟨2 * (t.val / 129), by omega⟩ ⟨t.val % 129, by omega⟩ _ _ _ _ _ _ _ _ (by dsimp only; omega) (by dsimp only; omega)
      (sink m c t _ ⟨4 * (2 * (t.val / 129)), by omega⟩ (by rw [o0]; dsimp only; congr 2; omega) _ _) (sink m c t _ ⟨4 * (2 * (t.val / 129)) + 1, by omega⟩ (by rw [o1]; dsimp only; congr 2; omega) _ _)
      (sink m c t _ ⟨4 * (2 * (t.val / 129)) + 2, by omega⟩ (by rw [o2]; dsimp only; congr 2; omega) _ _) (sink m c t _ ⟨4 * (2 * (t.val / 129)) + 3, by omega⟩ (by rw [o3]; dsimp only; congr 2; omega) _ _)
      (fun x l => ?_) (fun x l => ?_) s ⟨l, h⟩
    · exact inc_at m c t ht 0 (256 * (2 * (t.val / 129))) (by omega) (by omega) _ x l
    · exact inc_at m c t ht 128 (256 * (2 * (t.val / 129)) + 128) (by omega) (by omega) _ x l
  · refine (dv2_hi (aa m c) (5120 + 128 * (t.val / 129)) (4096 + 512 * (t.val / 129)) (t.val % 129) _ _ _ _ _ _ _ _ _ _ _ _ _ _ _ _ _ _
      (fun s i => mask_apply _ (t.val % 129) (by rw [coord]) s i) (keys_at m c t ht) (query_at m c t ht 256 _ (by omega) (by omega) _) (query_at m c t ht 384 _ (by omega) (by omega) _) s l h (by omega)).trans ?_
    have eG : (⟨2 * (t.val / 129) + l.val / 64, by omega⟩ : Fin 4) = ⟨2 * (t.val / 129) + 1, by omega⟩ := Fin.ext (by show 2 * (t.val / 129) + l.val / 64 = 2 * (t.val / 129) + 1; omega)
    have el : (⟨l.val % 64, by omega⟩ : Fin 64) = ⟨l - 64, by omega⟩ := Fin.ext (by show l.val % 64 = l.val - 64; omega)
    rw [eG, el]
    refine gsum_dvw (aa m c) (za m c) (da m c) ⟨2 * (t.val / 129) + 1, by omega⟩ ⟨t.val % 129, by omega⟩ _ _ _ _ _ _ _ _ (by dsimp only; omega) (by dsimp only; omega)
      (sink m c t _ ⟨4 * (2 * (t.val / 129) + 1), by omega⟩ (by rw [o4]; dsimp only; congr 2; omega) _ _) (sink m c t _ ⟨4 * (2 * (t.val / 129) + 1) + 1, by omega⟩ (by rw [o5]; dsimp only; congr 2; omega) _ _)
      (sink m c t _ ⟨4 * (2 * (t.val / 129) + 1) + 2, by omega⟩ (by rw [o6]; dsimp only; congr 2; omega) _ _) (sink m c t _ ⟨4 * (2 * (t.val / 129) + 1) + 3, by omega⟩ (by rw [o7]; dsimp only; congr 2; omega) _ _)
      (fun x l => ?_) (fun x l => ?_) s ⟨l - 64, by omega⟩
    · exact inc_at m c t ht 256 (256 * (2 * (t.val / 129) + 1)) (by omega) (by omega) _ x l
    · exact inc_at m c t ht 384 (256 * (2 * (t.val / 129) + 1) + 128) (by omega) (by omega) _ x l

theorem low_apply (x : FVec Ideal S256x128 .f32) (y : FVec Ideal S128x128 .f32) (i l : Fin 128) : k0_pay168 (F := Ideal) x y (ix2 i l) = y (ix2 i l) + x (ix2 ⟨i, by omega⟩ l) := by
  pointwise [k0_pay168]

theorem high_apply (x : FVec Ideal S256x128 .f32) (i l : Fin 128) : k0_pay170 (F := Ideal) x (ix2 i l) = x (ix2 ⟨128 + i, by omega⟩ l) := by
  pointwise [k0_pay170]

theorem last_apply (y : FVec Ideal S128x128 .f32) (i l : Fin 128) : k0_pay5 (F := Ideal) y (ix2 i l) = y (ix2 i l) := by
  pointwise [k0_pay5]

theorem keep_apply (t : Fin cfg0.N) (ht : t.val % 129 ≤ 127) (i l : Fin 128) :
    keep m c t (ix2 i l) = dvw (aa m c) (za m c) (da m c) ⟨2 * (t.val / 129) + l / 64, by have := lt258 t; omega⟩ ⟨t.val % 129, by omega⟩ ⟨128 + i, by omega⟩ ⟨l % 64, by omega⟩ := by
  unfold keep
  rw [dif_pos ht, high_apply, share_apply]

theorem outV_apply (t : Fin cfg0.N) (h0 : ¬ t.val % 129 = 0) (i l : Fin 128) :
    outV m c t (ix2 i l) = outArr m c (ix2 ⟨128 * (t.val % 129 - 1) + i, by omega⟩ ⟨128 * (t.val / 129) + l, by have := lt258 t; omega⟩) := by
  have hb : t.val < 258 := t.isLt
  have b1 : (bef t).val % 129 = t.val % 129 - 1 := by unfold bef; dsimp only; omega
  have b2 : (bef t).val / 129 = t.val / 129 := by unfold bef; dsimp only; omega
  have hk := keep_apply m c (bef t) (by omega) i l
  have eG : (⟨(128 * (t.val / 129) + l.val) / 64, by omega⟩ : Fin 4) = ⟨2 * (t.val / 129) + l.val / 64, by omega⟩ := Fin.ext (by show (128 * (t.val / 129) + l.val) / 64 = 2 * (t.val / 129) + l.val / 64; omega)
  have eG' : (⟨2 * ((bef t).val / 129) + l.val / 64, by omega⟩ : Fin 4) = ⟨2 * (t.val / 129) + l.val / 64, by omega⟩ := Fin.ext (by show 2 * ((bef t).val / 129) + l.val / 64 = 2 * (t.val / 129) + l.val / 64; omega)
  have en : (⟨(128 * (t.val % 129 - 1) + i.val) / 128, by omega⟩ : Fin 128) = ⟨t.val % 129 - 1, by omega⟩ := Fin.ext (by show (128 * (t.val % 129 - 1) + i.val) / 128 = t.val % 129 - 1; omega)
  have en' : (⟨(bef t).val % 129, by omega⟩ : Fin 128) = ⟨t.val % 129 - 1, by omega⟩ := Fin.ext b1
  have ei : (⟨128 + (128 * (t.val % 129 - 1) + i.val) % 128, by omega⟩ : Fin 256) = ⟨128 + i, by omega⟩ := Fin.ext (by show 128 + (128 * (t.val % 129 - 1) + i.val) % 128 = 128 + i.val; omega)
  have ed : (⟨(128 * (t.val / 129) + l.val) % 64, by omega⟩ : Fin 64) = ⟨l.val % 64, by omega⟩ := Fin.ext (by show (128 * (t.val / 129) + l.val) % 64 = l.val % 64; omega)
  rw [eG', en'] at hk
  unfold outV outArr
  rw [dif_neg h0]
  dsimp only [ix2]
  change _ = dvw (aa m c) (za m c) (da m c) ⟨(128 * (t.val / 129) + l.val) / 64, _⟩ ⟨(128 * (t.val % 129 - 1) + i.val) / 128, _⟩ ⟨128 + (128 * (t.val % 129 - 1) + i.val) % 128, _⟩ ⟨(128 * (t.val / 129) + l.val) % 64, _⟩
    + (if h : (128 * (t.val % 129 - 1) + i.val) / 128 < 127 then dvw (aa m c) (za m c) (da m c) ⟨(128 * (t.val / 129) + l.val) / 64, _⟩
        ⟨(128 * (t.val % 129 - 1) + i.val) / 128 + 1, _⟩ ⟨(128 * (t.val % 129 - 1) + i.val) % 128, _⟩ ⟨(128 * (t.val / 129) + l.val) % 64, _⟩ else 0)
  by_cases h' : t.val % 129 ≤ 127
  · have e2 : (⟨(128 * (t.val % 129 - 1) + i.val) / 128 + 1, by omega⟩ : Fin 128) = ⟨t.val % 129, by omega⟩ := Fin.ext (by show (128 * (t.val % 129 - 1) + i.val) / 128 + 1 = t.val % 129; omega)
    have e3 : (⟨(128 * (t.val % 129 - 1) + i.val) % 128, by omega⟩ : Fin 256) = ⟨i, by omega⟩ := Fin.ext (by show (128 * (t.val % 129 - 1) + i.val) % 128 = i.val; omega)
    rw [dif_pos h', dif_pos (by omega), low_apply, hk, share_apply, eG, en, ei, ed, e2, e3]
  · rw [dif_neg h', dif_neg (by omega), last_apply, hk, eG, en, ei, ed, add_zero]

set_option backward.isDefEq.respectTransparency false in
theorem final : (dats m 0 c).arrAt 16 cfg0.N = outArr m c := by
  refine (dats m 0 c).arrAt_eq_of_covers 16 _ (by decide +kernel) fun t hf y => ?_
  obtain ⟨e0, e1, e2, e5, e6, e7, e8, e9, e10, e11, e13, e16⟩ := idx t
  have ht : t.val < 258 := t.isLt
  have h0 := flushes t hf
  have y0 : (y 0).val < 128 := (y 0).isLt
  have y1 : (y 1).val < 128 := (y 1).isLt
  have ey : (win0_16.blk t).view.emb y
      = ix2 (⟨128 * (t.val % 129 - 1) + (y 0).val, by omega⟩ : Fin 16384) (⟨128 * (t.val / 129) + (y 1).val, by omega⟩ : Fin 256) := by
    blk_ext [e16]
  have ex : y = ix2 (⟨(y 0).val, y0⟩ : Fin 128) (⟨(y 1).val, y1⟩ : Fin 128) := by funext b; fin_cases b <;> rfl
  blk_simp
  rw [ey, Cert.Own.SwvRun.aft16]
  exact (congrArg (outV m c t) ex).trans (outV_apply m c t h0 ⟨(y 0).val, y0⟩ ⟨(y 1).val, y1⟩)

end Cert.Own.Swv.K

end
-- ==== Proof.SwvBits.lean ====
module

public import proofs.«01_k».proof.Defs
public import proofs.«01_k».proof.Proof.SwvFrame
public import proofs.«01_k».proof.Proof.Gen.SwvKernel.Frame
public import Idealize.ShloMosaic.Lib.Tactic

/-! The attention backward's kernel over words: its run is the run that is proved over any float values. -/

@[expose] public section

set_option maxRecDepth 65536

noncomputable section

namespace Cert.Own.SwvBits

open Idealize.ShloMosaic Idealize.ShloMosaic.TcCoe Idealize.SL.Sem
open Cert.SwvKernelIdeal

/-- The frame claim, of the ideal program's text over words. -/
def Words : Prop := ∀ (m : (ℓ : Loc nD τ sig) → Buf (Elt Bits) ℓ) (g : Dev nD → PrngReg), True →
  θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The two printed programs are one text. -/
theorem same : Cert.quiescent_SwvKernel = Words := by
  sl_kernel_rfl

theorem frame : Cert.quiescent_SwvKernel := same ▸ (fun m g _ => Cert.Own.SwvRun.frame (F := Bits) m g : Words)

end Cert.Own.SwvBits

end
-- ==== Proof.Swv.lean ====
module

public import proofs.«01_k».proof.Defs
public import proofs.«01_k».proof.Proof.Lib
public import proofs.«01_k».proof.Proof.SwfCom
public import proofs.«01_k».proof.Proof.SwvRef
public import proofs.«01_k».proof.Proof.SwvKer
public import proofs.«01_k».proof.Proof.SwvFrame
public import proofs.«01_k».proof.Proof.Gen.SwvRefIdeal.Run
public import proofs.«01_k».proof.Proof.Gen.Pre_swv_finite
public import Idealize.ShloMosaic.Lib.Pipeline.ValueKit
public import Idealize.ShloMosaic.Lib.Claim
public import Idealize.ShloMosaic.Lib.Pointwise

/-! The attention backward's gradient of the values: at finite columns and sinks the call returns what the reference returns. -/

@[expose] public section

set_option maxRecDepth 65536

noncomputable section

namespace Cert.Own.Swv

open Idealize.ShloMosaic Idealize.ShloMosaic.TcCoe Idealize.SL.Sem
open Cert.Own.Swf

/-- A weight by a reciprocal is a weight by the quotient. -/
theorem wt_eq (S : Fin 256 → EReal) (z : EReal) (s : Fin 256) (hz : ∃ r : ℝ, z = r) (hS : ∀ x, S x = ⊥ ∨ ∃ r : ℝ, S x = r) :
    K.wt S z s = Ideal.div (Ideal.exp (S s - peak S z)) (∑ y, Ideal.exp (S y - peak S z) + Ideal.exp (z - peak S z)) := by
  unfold K.wt
  obtain ⟨p, hp⟩ := peak_real S z hz hS
  rw [hp]
  obtain ⟨a, rfl⟩ := hz
  have e0 : ∀ x, ∃ r : ℝ, 0 ≤ r ∧ Ideal.exp (S x - (p : EReal)) = r := by
    intro x
    rcases hS x with h | ⟨r, h⟩ <;> rw [h]
    · exact ⟨0, le_refl _, by simp⟩
    · rw [← EReal.coe_sub]; exact ⟨_, (Real.exp_pos _).le, Ideal.exp_coe _⟩
  choose e he he' using e0
  have hD : ∑ y, Ideal.exp (S y - (p : EReal)) + Ideal.exp ((a : EReal) - (p : EReal)) = ((∑ y, e y + Real.exp (a - p) : ℝ) : EReal) := by
    simp only [he']
    rw [← EReal.coe_sub, Ideal.exp_coe, EReal.coe_add]
    congr 1
  have hne : (∑ y, e y + Real.exp (a - p) : ℝ) ≠ 0 :=
    (add_pos_of_nonneg_of_pos (Finset.sum_nonneg fun y _ => he y) (Real.exp_pos _)).ne'
  rw [hD, Ideal.div_coe hne, Ideal.div_coe hne, one_mul]

namespace R
open Cert.SwvRefIdeal Cert.SwvRefIdeal.Gen

variable (X : FVec Ideal S16384x7680 .f32) (Z : FVec Ideal S16 .f32) (D : FVec Ideal S16384x1024 .f32)

/-- The argument by row and column. -/
def ar : Fin 16384 → Fin 7680 → EReal := fun r k => X (ix2 r k)

theorem turned (t : Fin 16384) (h : Fin 20) (d : Fin 64) : ropeB (pqk X) (ix4 0 t h d) = rk (ar X) (4096 + 64 * h) t d := by
  rw [ropeB_apply]
  unfold rk
  congr 1
  funext e
  rw [pqk_apply]
  refine (xn_eq (ar X) _ _).trans ?_
  dsimp only
  rw [add_assoc]

theorem keys (n r : Fin 128) (g : Fin 4) (d : Fin 64) : keysOf (ropeB (pqk X)) (ix4 n r g d) = rk (ar X) (5120 + 64 * g) (128 * n + r) d := by
  rw [keysOf_apply, turned]
  dsimp only
  rw [show 4096 + 64 * (16 + g.val) = 5120 + 64 * g.val by omega]

theorem queries (n r : Fin 128) (g j : Fin 4) (d : Fin 64) : qryOf (ropeB (pqk X)) (ix5 n r g j d) = rk (ar X) (4096 + 64 * (4 * g + j)) (128 * n + r) d := by
  rw [qryOf_apply, turned]

theorem scores_eq (n : Fin 128) (g j : Fin 4) (i : Fin 128) (s : Fin 256) :
    scores (win (keysOf (ropeB (pqk X)))) (qryOf (ropeB (pqk X))) (ix5 n g j i s) = score (ar X) (5120 + 64 * g) (4096 + 64 * (4 * g + j)) n i s := by
  rw [scores_apply, mask_apply]
  by_cases h : s.val < 128 ∧ n.val < 1
  · have hn : n.val = 0 := by omega
    have e1 : sees n i s = 0#1 := by rw [hn]; exact sees_first _ _ h.1
    have e2 : score (ar X) (5120 + 64 * g) (4096 + 64 * (4 * g + j)) n i s = ⊥ := by rw [hn]; exact score_first _ _ _ _ _ h.1
    rw [e1, e2, select_zero]
  · unfold score
    congr 2
    refine Finset.sum_congr rfl fun x _ => ?_
    rw [queries, win_apply]
    congr 1
    unfold key
    split_ifs with h1 h2
    · exact absurd ⟨h1, h2⟩ h
    · rw [keys]
    · rw [keys]

theorem value (hX : ∀ r k, ∃ a : ℝ, X (ix2 r k) = a) (hZ : ∀ h, ∃ a : ℝ, Z (ix1 h) = a) (n : Fin 128) (s : Fin 256) (g : Fin 4) (d : Fin 64) :
    wgrad (inc D) (prob (scores (win (keysOf (ropeB (pqk X)))) (qryOf (ropeB (pqk X)))) Z) (ix4 n s g d) = K.dvw (ar X) Z D g n s d := by
  rw [wgrad_apply]
  unfold K.dvw
  refine Finset.sum_congr rfl fun j _ => Finset.sum_congr rfl fun i _ => ?_
  rw [inc_apply, prob_apply, mul_comm, wt_eq _ _ _ (hZ _) (fun x => score_real (ar X) hX _ _ _ _ x)]
  simp only [top_apply, scores_eq]
  rfl

end R

theorem algebraic : Cert.algebraic_SwvKernelIdeal_SwvRefIdeal_pre_swv_finite := by
  intro m g m' g' hpre hagree
  refine ⟨fun c => K.outArr m c, ?_, ?_⟩
  · exact (θ_run _ _ _).mono (fun r h c => ⟨(h.1 c).1.trans (K.final m c), (h.1 c).2⟩) (Cert.Own.SwvRun.ends m g)
  · refine (θ_run _ _ _).mono (fun r h c => ⟨(h c).1.trans ?_, (h c).2⟩) (Cert.SwvRefIdeal.Value.run m' g')
    clear h
    obtain ⟨a0, a1, a2⟩ := hagree c
    obtain ⟨hl, hd⟩ := hpre c
    have px (i : Fin 16384) (k : Fin 7680) : ∃ r : ℝ, m (c.tc.loc Cert.SwvKernelIdeal.main_arg0) (ix2 i k) = (r : EReal) := by
      have := congrFun hl (ix2 i k)
      revert this
      pointwise [Cert.Pre_swv_finite.fn]
      exact real_of_test
    have pz (h : Fin 16) : ∃ r : ℝ, m (c.tc.loc Cert.SwvKernelIdeal.main_arg1) (ix1 h) = (r : EReal) := by
      have := congrFun hd (ix1 h)
      revert this
      pointwise [Cert.Pre_swv_finite.fn]
      exact real_of_test
    rw [R.res_eq, a0, a1, a2]
    funext y
    idx_vars y
    have b0 : y0.val < 16384 := y0.isLt
    have b1 : y1.val < 256 := y1.isLt
    have hj (w) := R.join_apply w ⟨y0.val / 128, by omega⟩ ⟨y0.val % 128, by omega⟩ ⟨y1.val / 64, by omega⟩ ⟨y1.val % 64, by omega⟩
    have q0 : (⟨128 * (y0.val / 128) + y0.val % 128, by omega⟩ : Fin 16384) = y0 := Fin.ext (by show 128 * (y0.val / 128) + y0.val % 128 = y0.val; omega)
    have q1 : (⟨64 * (y1.val / 64) + y1.val % 64, by omega⟩ : Fin 256) = y1 := Fin.ext (by show 64 * (y1.val / 64) + y1.val % 64 = y1.val; omega)
    dsimp only at hj
    rw [q0, q1] at hj
    rw [hj]
    have hv := R.value (m (c.tc.loc Cert.SwvKernelIdeal.main_arg0)) (m (c.tc.loc Cert.SwvKernelIdeal.main_arg1)) (m (c.tc.loc Cert.SwvKernelIdeal.main_arg2)) px pz
    simp only [hv]
    rfl

end Cert.Own.Swv

end
-- ==== Proof.Mix.lean ====
module

public import proofs.«01_k».proof.Defs
public import proofs.«01_k».proof.Proof.Lib
public import proofs.«01_k».proof.Proof.Gen.MixKernelIdeal.Value
public import proofs.«01_k».proof.Proof.Gen.MixRefIdeal.Run
public import Idealize.ShloMosaic.Lib.Pipeline.ValueKit
public import Idealize.ShloMosaic.Lib.Claim
public import Idealize.ShloMosaic.Lib.Pointwise

/-! The gated merge's forward call: the two projected branches, their mix, the residual and its norm are what the reference returns. -/

@[expose] public section

set_option maxRecDepth 65536

noncomputable section

namespace Cert.Own.Mix

open Idealize.ShloMosaic Idealize.ShloMosaic.TcCoe Idealize.SL.Sem

section
open Cert.MixKernelIdeal Cert.MixKernelIdeal.Gen

/-- A branch's projected rows. -/
def br (o : S16384x1024.Idx → EReal) (w : S1024x1024.Idx → EReal) (i : Fin 16384) (k : Fin 1024) : EReal :=
  ∑ c : Fin 1024, o (ix2 i c) * w (ix2 c k)

/-- The first gate's column. -/
def ga (p : S16384x7680.Idx → EReal) (i : Fin 16384) (k : Fin 1024) : EReal := p (ix2 i (⟨5632 + k.val, by omega⟩ : Fin 7680))

/-- The second gate's column. -/
def gb (p : S16384x7680.Idx → EReal) (i : Fin 16384) (k : Fin 1024) : EReal := p (ix2 i (⟨6656 + k.val, by omega⟩ : Fin 7680))

/-- The mix of the two branches. -/
def mixed (o a : S16384x1024.Idx → EReal) (p : S16384x7680.Idx → EReal) (wa wb : S1024x1024.Idx → EReal) (i : Fin 16384) (k : Fin 1024) : EReal :=
  Ideal.logistic (ga p i k) * br o wa i k + Ideal.logistic (gb p i k) * br a wb i k

/-- The residual's rows. -/
def res (o a : S16384x1024.Idx → EReal) (p : S16384x7680.Idx → EReal) (x : S16384x1024.Idx → EReal) (wa wb wo : S1024x1024.Idx → EReal)
    (i : Fin 16384) (k : Fin 1024) : EReal :=
  x (ix2 i k) + ∑ c : Fin 1024, mixed o a p wa wb i c * wo (ix2 c k)

/-- A row's norm. -/
def nrm (r : Fin 1024 → EReal) (g : S1x1024.Idx → EReal) (k : Fin 1024) : EReal := r k * Ideal.rsqrt (ms r) * g (ix2 0 k)

theorem idx : ∀ t : Fin cfg0.N, win0_0.index t = ![t.val, 0] ∧ win0_1.index t = ![t.val, 0]
    ∧ win0_2.index t = ![t.val, 11] ∧ win0_3.index t = ![t.val, 12] ∧ win0_4.index t = ![t.val, 13] ∧ win0_5.index t = ![t.val, 14]
    ∧ win0_6.index t = ![t.val, 0] ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0]
    ∧ win0_14.index t = ![t.val, 0] ∧ win0_15.index t = ![t.val, 0] :=
  (by decide +kernel : ∀ t : Fin grid0.N, _)

section
variable (m : (ℓ : Loc nD τ sig) → Buf (Elt Ideal) ℓ) (c : Dev nD) (t : Fin cfg0.N)

theorem row (a : Fin 512) : t.val * 512 + a.val < 16384 := by
  have := t.isLt; change t.val < 32 at this; omega

/-- A row of a block among all rows. -/
abbrev rw' (a : Fin 512) : Fin 16384 := ⟨t.val * 512 + a.val, row t a⟩

/-- The call's arguments. -/
abbrev A0 : S16384x1024.Idx → EReal := m ((c.tc : Thread nD τ).loc main_arg0)
/-- The attention's output. -/
abbrev A1 : S16384x1024.Idx → EReal := m ((c.tc : Thread nD τ).loc main_arg1)
/-- The projections. -/
abbrev A2 : S16384x7680.Idx → EReal := m ((c.tc : Thread nD τ).loc main_arg2)
/-- The residual's input. -/
abbrev A3 : S16384x1024.Idx → EReal := m ((c.tc : Thread nD τ).loc main_arg3)
/-- The first branch's weight. -/
abbrev A4 : S1024x1024.Idx → EReal := m ((c.tc : Thread nD τ).loc main_arg4)
/-- The second branch's weight. -/
abbrev A5 : S1024x1024.Idx → EReal := m ((c.tc : Thread nD τ).loc main_arg5)
/-- The output weight. -/
abbrev A6 : S1024x1024.Idx → EReal := m ((c.tc : Thread nD τ).loc main_arg6)
/-- The norm's scale. -/
abbrev A7 : S1x1024.Idx → EReal := m ((c.tc : Thread nD τ).loc main_arg7)

theorem entry_og : V m c main_v0 = truncf (F := Ideal) (s := S16384x1024) (φ := .f32) .bf16 (m ((c.tc : Thread nD τ).loc main_arg0)) bitsLt_bf16_f32 := by
  change StableHlo.after hostOps0 (fun b => m (c, b)) _ = _
  after_results
  try rfl

theorem entry_oa : V m c main_v1 = truncf (F := Ideal) (s := S16384x1024) (φ := .f32) .bf16 (m ((c.tc : Thread nD τ).loc main_arg1)) bitsLt_bf16_f32 := by
  change StableHlo.after hostOps0 (fun b => m (c, b)) _ = _
  after_results
  try rfl

theorem entry_wa : V m c main_v2 = truncf (F := Ideal) (s := S1024x1024) (φ := .f32) .bf16 (m ((c.tc : Thread nD τ).loc main_arg4)) bitsLt_bf16_f32 := by
  change StableHlo.after hostOps0 (fun b => m (c, b)) _ = _
  after_results
  try rfl

theorem entry_wb : V m c main_v3 = truncf (F := Ideal) (s := S1024x1024) (φ := .f32) .bf16 (m ((c.tc : Thread nD τ).loc main_arg5)) bitsLt_bf16_f32 := by
  change StableHlo.after hostOps0 (fun b => m (c, b)) _ = _
  after_results
  try rfl

theorem entry_wo : V m c main_v4 = truncf (F := Ideal) (s := S1024x1024) (φ := .f32) .bf16 (m ((c.tc : Thread nD τ).loc main_arg6)) bitsLt_bf16_f32 := by
  change StableHlo.after hostOps0 (fun b => m (c, b)) _ = _
  after_results
  try rfl

theorem read_og (a : Fin 512) (b : Fin 1024) : iblk m c 0 t (ix2 a b) = A0 m c (ix2 (rw' t a) b) := by
  have e := (idx t).1
  unfold iblk
  have e' := entry_og m c
  generalize V m c main_v0 = X at e'
  subst e'
  blk_ext [e]

theorem read_oa (a : Fin 512) (b : Fin 1024) : iblk m c 1 t (ix2 a b) = A1 m c (ix2 (rw' t a) b) := by
  have e := (idx t).2.1
  unfold iblk
  have e' := entry_oa m c
  generalize V m c main_v1 = X at e'
  subst e'
  blk_ext [e]

theorem read_ga0 (a b : Fin 512) : iblk m c 2 t (ix2 a b) = A2 m c (ix2 (rw' t a) (⟨5632 + b.val, by omega⟩ : Fin 7680)) := by
  have e := (idx t).2.2.1
  blk_ext [iblk, V, e]

theorem read_ga1 (a b : Fin 512) : iblk m c 3 t (ix2 a b) = A2 m c (ix2 (rw' t a) (⟨6144 + b.val, by omega⟩ : Fin 7680)) := by
  have e := (idx t).2.2.2.1
  blk_ext [iblk, V, e]

theorem read_gb0 (a b : Fin 512) : iblk m c 4 t (ix2 a b) = A2 m c (ix2 (rw' t a) (⟨6656 + b.val, by omega⟩ : Fin 7680)) := by
  have e := (idx t).2.2.2.2.1
  blk_ext [iblk, V, e]

theorem read_gb1 (a b : Fin 512) : iblk m c 5 t (ix2 a b) = A2 m c (ix2 (rw' t a) (⟨7168 + b.val, by omega⟩ : Fin 7680)) := by
  have e := (idx t).2.2.2.2.2.1
  blk_ext [iblk, V, e]

theorem read_x (a : Fin 512) (b : Fin 1024) : iblk m c 6 t (ix2 a b) = A3 m c (ix2 (rw' t a) b) := by
  have e := (idx t).2.2.2.2.2.2.1
  blk_ext [iblk, V, e]

theorem read_wa (a b : Fin 1024) : iblk m c 7 t (ix2 a b) = A4 m c (ix2 a b) := by
  have e := (idx t).2.2.2.2.2.2.2.1
  unfold iblk
  have e' := entry_wa m c
  generalize V m c main_v2 = X at e'
  subst e'
  blk_ext [e]

theorem read_wb (a b : Fin 1024) : iblk m c 8 t (ix2 a b) = A5 m c (ix2 a b) := by
  have e := (idx t).2.2.2.2.2.2.2.2.1
  unfold iblk
  have e' := entry_wb m c
  generalize V m c main_v3 = X at e'
  subst e'
  blk_ext [e]

theorem read_wo (a b : Fin 1024) : iblk m c 9 t (ix2 a b) = A6 m c (ix2 a b) := by
  have e := (idx t).2.2.2.2.2.2.2.2.2.1
  unfold iblk
  have e' := entry_wo m c
  generalize V m c main_v4 = X at e'
  subst e'
  blk_ext [e]

theorem read_g (a : Fin 1) (b : Fin 1024) : iblk m c 10 t (ix2 a b) = A7 m c (ix2 0 b) := by
  have e := (idx t).2.2.2.2.2.2.2.2.2.2.1
  obtain rfl : a = 0 := Subsingleton.elim _ _
  blk_ext [iblk, V, e]

theorem val_ya (a : Fin 512) (b : Fin 1024) : k0_pay4 (iblk m c 0 t) (iblk m c 7 t) (ix2 a b) = br (A0 m c) (A4 m c) (rw' t a) b := by
  pointwise [k0_pay4, br]
  simp only [read_og, read_wa]

theorem val_yb (a : Fin 512) (b : Fin 1024) : k0_pay5 (iblk m c 1 t) (iblk m c 8 t) (ix2 a b) = br (A1 m c) (A5 m c) (rw' t a) b := by
  pointwise [k0_pay5, br]
  simp only [read_oa, read_wb]

theorem val_mix (a : Fin 512) (b : Fin 1024) :
    k0_pay6 (iblk m c 0 t) (iblk m c 7 t) (iblk m c 1 t) (iblk m c 8 t) (iblk m c 2 t) (iblk m c 3 t) (iblk m c 4 t) (iblk m c 5 t) (ix2 a b)
      = mixed (A0 m c) (A1 m c) (A2 m c) (A4 m c) (A5 m c) (rw' t a) b := by
  pointwise [k0_pay6, mixed, ga, gb]
  rw [val_ya, val_yb]
  have e1 (h : ¬ b.val < 512) : (⟨6144 + (b.val - 512), by omega⟩ : Fin 7680) = ⟨5632 + b.val, by omega⟩ := Fin.ext (by simp only; omega)
  have e2 (h : ¬ b.val < 512) : (⟨7168 + (b.val - 512), by omega⟩ : Fin 7680) = ⟨6656 + b.val, by omega⟩ := Fin.ext (by simp only; omega)
  split_ifs with h h'
  · rw [read_ga0, read_gb0, half_tanh_bits, half_tanh_bits]
  · rw [read_ga1, read_gb1]
    simp only [e1 h, e2 h]
    rw [half_tanh_bits, half_tanh_bits]
  · exact absurd rfl h'

/-- The block's mix. -/
abbrev M33 : FVec Ideal S512x1024 .bf16 :=
  k0_pay6 (iblk m c 0 t) (iblk m c 7 t) (iblk m c 1 t) (iblk m c 8 t) (iblk m c 2 t) (iblk m c 3 t) (iblk m c 4 t) (iblk m c 5 t)

theorem val_res (a : Fin 512) (b : Fin 1024) : k0_pay2 (M33 m c t) (iblk m c 6 t) (iblk m c 9 t) (ix2 a b)
    = res (A0 m c) (A1 m c) (A2 m c) (A3 m c) (A4 m c) (A5 m c) (A6 m c) (rw' t a) b := by
  pointwise [k0_pay2, res]
  simp only [val_mix, read_wo, read_x]

theorem val_nrm (a : Fin 512) (b : Fin 1024) : k0_pay3 (M33 m c t) (iblk m c 6 t) (iblk m c 9 t) (iblk m c 10 t) (ix2 a b)
    = nrm (res (A0 m c) (A1 m c) (A2 m c) (A3 m c) (A4 m c) (A5 m c) (A6 m c) (rw' t a)) (A7 m c) b := by
  pointwise [k0_pay3, nrm, ms]
  simp only [val_res, read_g]

theorem val_pay : k0_pay8 (iblk m c 0 t) (iblk m c 1 t) (iblk m c 2 t) (iblk m c 3 t) (iblk m c 4 t) (iblk m c 5 t) (iblk m c 6 t)
    (iblk m c 7 t) (iblk m c 8 t) (iblk m c 9 t) (iblk m c 10 t) = M33 m c t := by
  have h0 (x : Vec Ideal S512x1024 .bf16) : View.ld x r0_0 = x := by funext y; idx_vars y; pointwise
  have h1 (x : Vec Ideal S1024x1024 .bf16) : View.ld x r0_1 = x := by funext y; idx_vars y; pointwise
  have h2 (x : Vec Ideal S512x512 .f32) : View.ld x r0_2 = x := by funext y; idx_vars y; pointwise
  unfold k0_pay8
  rw [h0, h0, h1, h1, h2, h2, h2, h2]

end

section
variable (m : (ℓ : Loc nD τ sig) → Buf (Elt Ideal) ℓ) (c : Dev nD)

set_option backward.isDefEq.respectTransparency false in
theorem final11 : (dats m 0 c).arrAt 11 cfg0.N = (fun y => br (A0 m c) (A4 m c) (y 0) (y 1) : S16384x1024.Idx → EReal) := by
  refine (dats m 0 c).arrAt_eq_of_covers 11 _ (by decide +kernel) fun t hf y => ?_
  have e := (idx t).2.2.2.2.2.2.2.2.2.2.2.1
  have ht : t.val < 32 := t.isLt
  have ey : (win0_11.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_11]
  frame_out
  idx_vars y
  pointwise [k0_pay7]
  rw [val_ya]

set_option backward.isDefEq.respectTransparency false in
theorem final12 : (dats m 0 c).arrAt 12 cfg0.N = (fun y => br (A1 m c) (A5 m c) (y 0) (y 1) : S16384x1024.Idx → EReal) := by
  refine (dats m 0 c).arrAt_eq_of_covers 12 _ (by decide +kernel) fun t hf y => ?_
  have e := (idx t).2.2.2.2.2.2.2.2.2.2.2.2.1
  have ht : t.val < 32 := t.isLt
  have ey : (win0_12.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_12]
  frame_out
  idx_vars y
  pointwise [k0_pay1]
  rw [val_yb]

set_option backward.isDefEq.respectTransparency false in
theorem final13 : (dats m 0 c).arrAt 13 cfg0.N
    = (fun y => mixed (A0 m c) (A1 m c) (A2 m c) (A4 m c) (A5 m c) (y 0) (y 1) : S16384x1024.Idx → EReal) := by
  refine (dats m 0 c).arrAt_eq_of_covers 13 _ (by decide +kernel) fun t hf y => ?_
  have e := (idx t).2.2.2.2.2.2.2.2.2.2.2.2.2.1
  have ht : t.val < 32 := t.isLt
  have ey : (win0_13.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_13]
  frame_out
  idx_vars y
  rw [val_pay]
  unfold M33
  rw [val_mix]

set_option backward.isDefEq.respectTransparency false in
theorem final14 : (dats m 0 c).arrAt 14 cfg0.N
    = (fun y => nrm (res (A0 m c) (A1 m c) (A2 m c) (A3 m c) (A4 m c) (A5 m c) (A6 m c) (y 0)) (A7 m c) (y 1) : S16384x1024.Idx → EReal) := by
  refine (dats m 0 c).arrAt_eq_of_covers 14 _ (by decide +kernel) fun t hf y => ?_
  have e := (idx t).2.2.2.2.2.2.2.2.2.2.2.2.2.2.1
  have ht : t.val < 32 := t.isLt
  have ey : (win0_14.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_14]
  frame_out
  idx_vars y
  rw [val_pay, val_nrm]

set_option backward.isDefEq.respectTransparency false in
theorem final15 : (dats m 0 c).arrAt 15 cfg0.N
    = (fun y => res (A0 m c) (A1 m c) (A2 m c) (A3 m c) (A4 m c) (A5 m c) (A6 m c) (y 0) (y 1) : S16384x1024.Idx → EReal) := by
  refine (dats m 0 c).arrAt_eq_of_covers 15 _ (by decide +kernel) fun t hf y => ?_
  have e := (idx t).2.2.2.2.2.2.2.2.2.2.2.2.2.2.2
  have ht : t.val < 32 := t.isLt
  have ey : (win0_15.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_15]
  frame_out
  idx_vars y
  rw [val_pay, val_res]

end
end

theorem algebraic : Cert.algebraic_MixKernelIdeal_MixRefIdeal := by
  pair_intro
  · run_from Cert.MixKernelIdeal.Value.run_blocks m g
  · run_from Cert.MixRefIdeal.Value.run m' g'
    · funext y
      idx_vars y
      rw [final11]
      pointwise [br]
    · funext y
      idx_vars y
      rw [final12]
      pointwise [br]
    · funext y
      idx_vars y
      rw [final13]
      pointwise [mixed, br, ga, gb]
      simp only [div_logistic]
    · funext y
      idx_vars y
      rw [final14]
      pointwise [Cert.MixRefIdeal.Value.res_main_v36, nrm, ms, res, mixed, br, ga, gb]
      obtain ⟨h0, h1, h2, h3, h4, h5, h6, h7⟩ := hagree c
      simp only [div_logistic, h0, h1, h2, h3, h4, h5, h6, h7]
    · funext y
      idx_vars y
      rw [final15]
      pointwise [res, mixed, br, ga, gb]
      simp only [div_logistic]

end Cert.Own.Mix

end
-- ==== Proof.Act.lean ====
module

public import proofs.«01_k».proof.Defs
public import proofs.«01_k».proof.Proof.Lib
public import proofs.«01_k».proof.Proof.Gen.ActKernelIdeal.Frame
public import proofs.«01_k».proof.Proof.Gen.ActRefIdeal.Run
public import Idealize.ShloMosaic.Lib.Pipeline.ValueKit
public import Idealize.ShloMosaic.Lib.Claim
public import Idealize.ShloMosaic.Lib.Pointwise

/-! The SwiGLU's forward call: the gate's and the up projection's columns and the activation are what the reference returns. -/

@[expose] public section

set_option maxRecDepth 65536

noncomputable section

namespace Cert.Own.Act

open Idealize.ShloMosaic Idealize.ShloMosaic.TcCoe Idealize.SL.Sem

section
open Cert.ActKernelIdeal Cert.ActKernelIdeal.Gen

/-- A projection of the rows, row `i`, column `k`. -/
def pr (x : S16384x1024.Idx → EReal) (w : S1024x2816.Idx → EReal) (i : Fin 16384) (k : Fin 2816) : EReal :=
  ∑ c : Fin 1024, x (ix2 i c) * w (ix2 c k)

/-- The two projections as the call lays them out: in each half the gate's columns, then the up projection's. -/
def packed (x : S16384x1024.Idx → EReal) (g u : S1024x2816.Idx → EReal) : S16384x5632.Idx → EReal := fun y =>
  let i : Fin 16384 := y 0
  let j : Fin 5632 := y 1
  if h : j.val % 2816 < 1408 then pr x g i ⟨j.val / 2816 * 1408 + j.val % 2816, by omega⟩
  else pr x u i ⟨j.val / 2816 * 1408 + (j.val % 2816 - 1408), by omega⟩

theorem packed_gate (x : S16384x1024.Idx → EReal) (g u : S1024x2816.Idx → EReal)
    (i : Fin 16384) (j : Fin 5632) (k : Fin 2816) (h : j.val = k.val / 1408 * 2816 + k.val % 1408) :
    packed x g u (ix2 i j) = pr x g i k := by
  have h1 : j.val % 2816 < 1408 := by omega
  have h2 : (⟨j.val / 2816 * 1408 + j.val % 2816, by omega⟩ : Fin 2816) = k := Fin.ext (by simp only; omega)
  exact (dif_pos h1).trans (congrArg (pr x g i) h2)

theorem packed_up (x : S16384x1024.Idx → EReal) (g u : S1024x2816.Idx → EReal)
    (i : Fin 16384) (j : Fin 5632) (k : Fin 2816) (h : j.val = k.val / 1408 * 2816 + 1408 + k.val % 1408) :
    packed x g u (ix2 i j) = pr x u i k := by
  have h1 : ¬ j.val % 2816 < 1408 := by omega
  have h2 : (⟨j.val / 2816 * 1408 + (j.val % 2816 - 1408), by omega⟩ : Fin 2816) = k := Fin.ext (by simp only; omega)
  exact (dif_neg h1).trans (congrArg (pr x u i) h2)

/-- The operand of the call that holds the two weights' columns as rows. -/
def gu (g u : FVec Ideal S1024x2816 .f32) : FVec Ideal S5632x1024 .bf16 := concatenate S5632x1024 0
    [⟨S1408x1024, extractStridedSlice S1408x1024 ![0, 0] (truncf .bf16 (transpose S2816x1024 [1, 0] g transposes_S1024x2816_S2816x1024_1_0 : FVec Ideal S2816x1024 .f32) bitsLt_bf16_f32 : FVec Ideal S2816x1024 .bf16) slices_S2816x1024_S1408x1024_0_0⟩,
     ⟨S1408x1024, extractStridedSlice S1408x1024 ![0, 0] (truncf .bf16 (transpose S2816x1024 [1, 0] u transposes_S1024x2816_S2816x1024_1_0 : FVec Ideal S2816x1024 .f32) bitsLt_bf16_f32 : FVec Ideal S2816x1024 .bf16) slices_S2816x1024_S1408x1024_0_0⟩,
     ⟨S1408x1024, extractStridedSlice S1408x1024 ![1408, 0] (truncf .bf16 (transpose S2816x1024 [1, 0] g transposes_S1024x2816_S2816x1024_1_0 : FVec Ideal S2816x1024 .f32) bitsLt_bf16_f32 : FVec Ideal S2816x1024 .bf16) slices_S2816x1024_S1408x1024_1408_0⟩,
     ⟨S1408x1024, extractStridedSlice S1408x1024 ![1408, 0] (truncf .bf16 (transpose S2816x1024 [1, 0] u transposes_S1024x2816_S2816x1024_1_0 : FVec Ideal S2816x1024 .f32) bitsLt_bf16_f32 : FVec Ideal S2816x1024 .bf16) slices_S2816x1024_S1408x1024_1408_0⟩]
    concatenates_S1408x1024_S1408x1024_S1408x1024_S1408x1024_S5632x1024_d0

theorem idx : ∀ t : Fin cfg0.N, win0_0.index t = ![t.val % 32, 0] ∧ win0_1.index t = ![t.val / 32, 0]
    ∧ win0_2.index t = ![t.val % 32, t.val / 32] ∧ win0_3.index t = ![t.val % 32, t.val / 32] :=
  (by decide +kernel : ∀ t : Fin grid0.N, _)

section
variable (m : (ℓ : Loc nD τ sig) → Buf (Elt Ideal) ℓ) (c : Dev nD)

/-- The normed rows. -/
abbrev A0 : S16384x1024.Idx → EReal := m ((c.tc : Thread nD τ).loc main_arg0)
/-- The gate's weight. -/
abbrev A1 : S1024x2816.Idx → EReal := m ((c.tc : Thread nD τ).loc main_arg1)
/-- The up projection's weight. -/
abbrev A2 : S1024x2816.Idx → EReal := m ((c.tc : Thread nD τ).loc main_arg2)

theorem entry_x : V m c main_v9 = truncf (F := Ideal) (s := S16384x1024) (φ := .f32) .bf16 (m ((c.tc : Thread nD τ).loc main_arg0)) bitsLt_bf16_f32 := by
  change StableHlo.after hostOps0 (fun b => m (c, b)) _ = _
  after_results
  try rfl

theorem entry_w : V m c main_v8 = gu (m ((c.tc : Thread nD τ).loc main_arg1)) (m ((c.tc : Thread nD τ).loc main_arg2)) := by
  change StableHlo.after hostOps0 (fun b => m (c, b)) _ = _
  after_results
  try rfl

variable (t : Fin cfg0.N)

theorem read_x (a : Fin 512) (b : Fin 1024) : iblk m c 0 t (ix2 a b)
    = A0 m c (ix2 (⟨t.val % 32 * 512 + a.val, by omega⟩ : Fin 16384) b) := by
  obtain ⟨e0, e1, e2, e3⟩ := idx t
  unfold iblk
  have e' := entry_x m c
  generalize V m c main_v9 = X at e'
  subst e'
  blk_ext [e0]

theorem col (b : Fin 1408) : t.val / 32 * 1408 + b.val < 2816 := by
  have := t.isLt; change t.val < 64 at this; omega

theorem read_g (b : Fin 1408) (k : Fin 1024) : iblk m c 1 t (ix2 (⟨b.val, by omega⟩ : Fin 2816) k)
    = A1 m c (ix2 k (⟨t.val / 32 * 1408 + b.val, col t b⟩ : Fin 2816)) := by
  obtain ⟨e0, e1, e2, e3⟩ := idx t
  have ht : t.val < 64 := t.isLt
  have e : iblk m c 1 t (ix2 (⟨b.val, by omega⟩ : Fin 2816) k) = V m c main_v8 (ix2 (⟨t.val / 32 * 2816 + b.val, by omega⟩ : Fin 5632) k) := by
    unfold iblk
    generalize V m c main_v8 = X
    blk_ext [e1]
  rw [e, entry_w]
  pointwise [gu]
  obtain h | h : t.val / 32 = 0 ∨ t.val / 32 = 1 := by omega
  all_goals
    split_ifs
    all_goals first | omega | blk_ext

theorem read_u (b : Fin 1408) (k : Fin 1024) : iblk m c 1 t (ix2 (⟨1408 + b.val, by omega⟩ : Fin 2816) k)
    = A2 m c (ix2 k (⟨t.val / 32 * 1408 + b.val, col t b⟩ : Fin 2816)) := by
  obtain ⟨e0, e1, e2, e3⟩ := idx t
  have ht : t.val < 64 := t.isLt
  have e : iblk m c 1 t (ix2 (⟨1408 + b.val, by omega⟩ : Fin 2816) k) = V m c main_v8 (ix2 (⟨t.val / 32 * 2816 + (1408 + b.val), by omega⟩ : Fin 5632) k) := by
    unfold iblk
    generalize V m c main_v8 = X
    blk_ext [e1]
  rw [e, entry_w]
  pointwise [gu]
  obtain h | h : t.val / 32 = 0 ∨ t.val / 32 = 1 := by omega
  all_goals
    split_ifs
    all_goals first | omega | blk_ext

/-- A row of a block among all rows. -/
abbrev rw' (a : Fin 512) : Fin 16384 := ⟨t.val % 32 * 512 + a.val, by omega⟩

theorem val_g (a : Fin 512) (b : Fin 1408) : k0_pay1 (iblk m c 0 t) (iblk m c 1 t) (ix2 a (⟨b.val, by omega⟩ : Fin 2816))
    = pr (A0 m c) (A1 m c) (rw' t a) ⟨t.val / 32 * 1408 + b.val, col t b⟩ := by
  pointwise [k0_pay1, pr]
  simp only [read_x, read_g]

theorem val_u (a : Fin 512) (b : Fin 1408) : k0_pay1 (iblk m c 0 t) (iblk m c 1 t) (ix2 a (⟨1408 + b.val, by omega⟩ : Fin 2816))
    = pr (A0 m c) (A2 m c) (rw' t a) ⟨t.val / 32 * 1408 + b.val, col t b⟩ := by
  pointwise [k0_pay1, pr]
  simp only [read_x, read_u]

theorem val_packed (a : Fin 512) (b : Fin 2816) (hb : t.val / 32 * 2816 + b.val < 5632) : k0_pay1 (iblk m c 0 t) (iblk m c 1 t) (ix2 a b)
    = packed (A0 m c) (A1 m c) (A2 m c) (ix2 (rw' t a) (⟨t.val / 32 * 2816 + b.val, hb⟩ : Fin 5632)) := by
  by_cases h : b.val < 1408
  · rw [packed_gate _ _ _ _ _ ⟨t.val / 32 * 1408 + b.val, col t ⟨b.val, h⟩⟩ (by simp only; omega)]
    exact val_g m c t a ⟨b.val, h⟩
  · rw [packed_up _ _ _ _ _ ⟨t.val / 32 * 1408 + (b.val - 1408), col t ⟨b.val - 1408, by omega⟩⟩ (by simp only; omega)]
    refine Eq.trans ?_ (val_u m c t a ⟨b.val - 1408, by omega⟩)
    exact congrArg (fun z => k0_pay1 (iblk m c 0 t) (iblk m c 1 t) (ix2 a z)) (Fin.ext (by simp only; omega))

theorem val_act (a : Fin 512) (b : Fin 1408) : k0_pay3 (iblk m c 0 t) (iblk m c 1 t) (ix2 a b)
    = pr (A0 m c) (A1 m c) (rw' t a) ⟨t.val / 32 * 1408 + b.val, col t b⟩
        * Ideal.logistic (pr (A0 m c) (A1 m c) (rw' t a) ⟨t.val / 32 * 1408 + b.val, col t b⟩)
        * pr (A0 m c) (A2 m c) (rw' t a) ⟨t.val / 32 * 1408 + b.val, col t b⟩ := by
  pointwise [k0_pay3]
  rw [val_g, val_u, half_tanh_bits]

end

section
variable (m : (ℓ : Loc nD τ sig) → Buf (Elt Ideal) ℓ) (c : Dev nD)

set_option backward.isDefEq.respectTransparency false in
theorem final2 : (dats m 0 c).arrAt 2 cfg0.N = packed (A0 m c) (A1 m c) (A2 m c) := by
  refine (dats m 0 c).arrAt_eq_of_covers 2 _ (by decide +kernel) fun t hf y => ?_
  obtain ⟨e0, e1, e2, e3⟩ := idx t
  have ht : t.val < 64 := t.isLt
  have ey : (win0_2.blk t).view.emb y
      = ix2 (⟨t.val % 32 * 512 + (y 0).val, by have := (y 0).isLt; change (y 0).val < 512 at this; omega⟩ : Fin 16384)
          (⟨t.val / 32 * 2816 + (y 1).val, by have := (y 1).isLt; change (y 1).val < 2816 at this; omega⟩ : Fin 5632) := by
    blk_ext [e2]
  blk_simp
  rw [ey, after0_2]
  frame_out
  idx_vars y
  exact val_packed m c t _ _ _

set_option backward.isDefEq.respectTransparency false in
theorem final3 : (dats m 0 c).arrAt 3 cfg0.N
    = (fun y => pr (A0 m c) (A1 m c) (y 0) (y 1) * Ideal.logistic (pr (A0 m c) (A1 m c) (y 0) (y 1)) * pr (A0 m c) (A2 m c) (y 0) (y 1) :
        S16384x2816.Idx → EReal) := by
  refine (dats m 0 c).arrAt_eq_of_covers 3 _ (by decide +kernel) fun t hf y => ?_
  obtain ⟨e0, e1, e2, e3⟩ := idx t
  have ht : t.val < 64 := t.isLt
  have ey : (win0_3.blk t).view.emb y
      = ix2 (⟨t.val % 32 * 512 + (y 0).val, by have := (y 0).isLt; change (y 0).val < 512 at this; omega⟩ : Fin 16384)
          (⟨t.val / 32 * 1408 + (y 1).val, by have := (y 1).isLt; change (y 1).val < 1408 at this; omega⟩ : Fin 2816) := by
    blk_ext [e3]
  blk_simp
  rw [ey, after0_3]
  frame_out
  idx_vars y
  exact val_act m c t _ _

/-- The columns of one projection out of the packed array. -/
def ungate (P : FVec Ideal S16384x5632 .bf16) : FVec Ideal S16384x2816 .bf16 := concatenate S16384x2816 1
    [⟨S16384x1408, extractStridedSlice S16384x1408 ![0, 0] P slices_S16384x5632_S16384x1408_0_0⟩,
     ⟨S16384x1408, extractStridedSlice S16384x1408 ![0, 2816] P slices_S16384x5632_S16384x1408_0_2816⟩]
    concatenates_S16384x1408_S16384x1408_S16384x2816_d1

/-- The columns of the other projection. -/
def unup (P : FVec Ideal S16384x5632 .bf16) : FVec Ideal S16384x2816 .bf16 := concatenate S16384x2816 1
    [⟨S16384x1408, extractStridedSlice S16384x1408 ![0, 1408] P slices_S16384x5632_S16384x1408_0_1408⟩,
     ⟨S16384x1408, extractStridedSlice S16384x1408 ![0, 4224] P slices_S16384x5632_S16384x1408_0_4224⟩]
    concatenates_S16384x1408_S16384x1408_S16384x2816_d1

theorem tail_gate (i : Fin 16384) (k : Fin 2816) :
    Pipeline.afterTail₀ cfgs (dats m) 0 (V0 m) [hostOps1] c main_v13 (ix2 i k) = pr (A0 m c) (A1 m c) i k := by
  have e : Pipeline.withArrays (cfgs 0).spec c (V0 m c) (fun w => (dats m 0 c).arrAt w (cfgs 0).N) (Proc.tc.devRef main_v10_0)
      = _ := (Pipeline.withArrays_arr (cfgs 0).spec (by decide) c _ _ 2).trans (final2 m c)
  unfold Pipeline.afterTail₀
  change StableHlo.after hostOps1 _ _ _ = _
  refine (congrFun (?_ : _ = ungate (packed (A0 m c) (A1 m c) (A2 m c))) _).trans ?_
  · after_results
    rw [e]
    try rfl
  pointwise [ungate]
  split_ifs
  all_goals exact packed_gate _ _ _ _ _ _ (by simp only; omega)

theorem tail_up (i : Fin 16384) (k : Fin 2816) :
    Pipeline.afterTail₀ cfgs (dats m) 0 (V0 m) [hostOps1] c main_v16 (ix2 i k) = pr (A0 m c) (A2 m c) i k := by
  have e : Pipeline.withArrays (cfgs 0).spec c (V0 m c) (fun w => (dats m 0 c).arrAt w (cfgs 0).N) (Proc.tc.devRef main_v10_0)
      = _ := (Pipeline.withArrays_arr (cfgs 0).spec (by decide) c _ _ 2).trans (final2 m c)
  unfold Pipeline.afterTail₀
  change StableHlo.after hostOps1 _ _ _ = _
  refine (congrFun (?_ : _ = unup (packed (A0 m c) (A1 m c) (A2 m c))) _).trans ?_
  · after_results
    rw [e]
    try rfl
  pointwise [unup]
  split_ifs
  all_goals exact packed_up _ _ _ _ _ _ (by simp only; omega)

end
end

theorem algebraic : Cert.algebraic_ActKernelIdeal_ActRefIdeal := by
  pair_intro
  · run_from Cert.ActKernelIdeal.Gen.run_main m g
    · exact Cert.ActKernelIdeal.Gen.W_main_arg0 m _ c
    · exact Cert.ActKernelIdeal.Gen.W_main_arg1 m _ c
    · exact Cert.ActKernelIdeal.Gen.W_main_arg2 m _ c
  · run_from Cert.ActRefIdeal.Value.run m' g'
    · funext y
      idx_vars y
      rw [tail_gate]
      pointwise [pr]
    · funext y
      idx_vars y
      rw [tail_up]
      pointwise [pr]
    · funext y
      idx_vars y
      erw [final3]
      pointwise [pr]
      simp only [div_logistic]

end Cert.Own.Act

end
-- ==== Proof.Down.lean ====
module

public import proofs.«01_k».proof.Defs
public import proofs.«01_k».proof.Proof.Lib
public import proofs.«01_k».proof.Proof.Gen.DownKernelIdeal.Value
public import proofs.«01_k».proof.Proof.Gen.DownRefIdeal.Run
public import Idealize.ShloMosaic.Lib.Pipeline.ValueKit
public import Idealize.ShloMosaic.Lib.Claim
public import Idealize.ShloMosaic.Lib.Pointwise

/-! The down projection's forward call with the next layer's norm: the residual and its norm are what the reference returns. -/

@[expose] public section

set_option maxRecDepth 65536

noncomputable section

namespace Cert.Own.Down

open Idealize.ShloMosaic Idealize.ShloMosaic.TcCoe Idealize.SL.Sem

section
open Cert.DownKernelIdeal Cert.DownKernelIdeal.Gen

/-- The residual's rows. -/
def res (a : S16384x2816.Idx → EReal) (w : S2816x1024.Idx → EReal) (x : S16384x1024.Idx → EReal) (i : Fin 16384) (k : Fin 1024) : EReal :=
  x (ix2 i k) + ∑ c : Fin 2816, a (ix2 i c) * w (ix2 c k)

/-- A row's norm. -/
def nrm (r : Fin 1024 → EReal) (g : S1x1024.Idx → EReal) (k : Fin 1024) : EReal := r k * Ideal.rsqrt (ms r) * g (ix2 0 k)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

section
variable (m : (ℓ : Loc nD τ sig) → Buf (Elt Ideal) ℓ) (c : Dev nD) (t : Fin cfg0.N)

theorem row (a : Fin 512) : t.val * 512 + a.val < 16384 := by
  have := t.isLt; change t.val < 32 at this; omega

/-- A row of a block among all rows. -/
abbrev rw' (a : Fin 512) : Fin 16384 := ⟨t.val * 512 + a.val, row t a⟩

/-- The activation. -/
abbrev A0 : S16384x2816.Idx → EReal := m ((c.tc : Thread nD τ).loc main_arg0)
/-- The down projection's weight. -/
abbrev A1 : S2816x1024.Idx → EReal := m ((c.tc : Thread nD τ).loc main_arg1)
/-- The residual's input. -/
abbrev A2 : S16384x1024.Idx → EReal := m ((c.tc : Thread nD τ).loc main_arg2)
/-- The norm's scale. -/
abbrev A3 : S1x1024.Idx → EReal := m ((c.tc : Thread nD τ).loc main_arg3)

theorem entry_a : V m c main_v0 = truncf (F := Ideal) (s := S16384x2816) (φ := .f32) .bf16 (m ((c.tc : Thread nD τ).loc main_arg0)) bitsLt_bf16_f32 := by
  change StableHlo.after hostOps0 (fun b => m (c, b)) _ = _
  after_results
  try rfl

theorem entry_w : V m c main_v1 = truncf (F := Ideal) (s := S2816x1024) (φ := .f32) .bf16 (m ((c.tc : Thread nD τ).loc main_arg1)) bitsLt_bf16_f32 := by
  change StableHlo.after hostOps0 (fun b => m (c, b)) _ = _
  after_results
  try rfl

theorem read_a (a : Fin 512) (b : Fin 2816) : iblk m c 0 t (ix2 a b) = A0 m c (ix2 (rw' t a) b) := by
  have e := (idx t).1
  unfold iblk
  have e' := entry_a m c
  generalize V m c main_v0 = X at e'
  subst e'
  blk_ext [e]

theorem read_w (a : Fin 2816) (b : Fin 1024) : iblk m c 1 t (ix2 a b) = A1 m c (ix2 a b) := by
  have e := (idx t).2.1
  unfold iblk
  have e' := entry_w m c
  generalize V m c main_v1 = X at e'
  subst e'
  blk_ext [e]

theorem read_x (a : Fin 512) (b : Fin 1024) : iblk m c 2 t (ix2 a b) = A2 m c (ix2 (rw' t a) b) := by
  have e := (idx t).2.2.1
  blk_ext [iblk, V, e]

theorem read_g (a : Fin 1) (b : Fin 1024) : iblk m c 3 t (ix2 a b) = A3 m c (ix2 0 b) := by
  have e := (idx t).2.2.2.1
  obtain rfl : a = 0 := Subsingleton.elim _ _
  blk_ext [iblk, V, e]

theorem val_prod (a : Fin 512) (b : Fin 1024) : k0_pay2 (iblk m c 0 t) (iblk m c 1 t) (ix2 a b)
    = ∑ d : Fin 2816, A0 m c (ix2 (rw' t a) d) * A1 m c (ix2 d b) := by
  pointwise [k0_pay2, k0_pay1]
  simp only [read_a, read_w]

theorem val_res (a : Fin 512) (b : Fin 1024) : k0_pay4 (k0_pay2 (iblk m c 0 t) (iblk m c 1 t)) (iblk m c 2 t) (ix2 a b)
    = res (A0 m c) (A1 m c) (A2 m c) (rw' t a) b := by
  pointwise [k0_pay4, res]
  rw [val_prod, read_x]
  exact add_comm _ _

theorem val_nrm (a : Fin 512) (b : Fin 1024) : k0_pay5 (k0_pay2 (iblk m c 0 t) (iblk m c 1 t)) (iblk m c 2 t) (iblk m c 3 t) (ix2 a b)
    = nrm (res (A0 m c) (A1 m c) (A2 m c) (rw' t a)) (A3 m c) b := by
  pointwise [k0_pay5, nrm, ms]
  simp only [val_res, read_g]

end

section
variable (m : (ℓ : Loc nD τ sig) → Buf (Elt Ideal) ℓ) (c : Dev nD)

set_option backward.isDefEq.respectTransparency false in
theorem final4 : (dats m 0 c).arrAt 4 cfg0.N
    = (fun y => res (A0 m c) (A1 m c) (A2 m c) (y 0) (y 1) : S16384x1024.Idx → EReal) := by
  refine (dats m 0 c).arrAt_eq_of_covers 4 _ (by decide +kernel) fun t hf y => ?_
  have e := (idx t).2.2.2.2.1
  have ht : t.val < 32 := t.isLt
  have ey : (win0_4.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_4]
  unfold outsAt0
  frame_out
  idx_vars y
  rw [val_res]

set_option backward.isDefEq.respectTransparency false in
theorem final5 : (dats m 0 c).arrAt 5 cfg0.N
    = (fun y => nrm (res (A0 m c) (A1 m c) (A2 m c) (y 0)) (A3 m c) (y 1) : S16384x1024.Idx → EReal) := by
  refine (dats m 0 c).arrAt_eq_of_covers 5 _ (by decide +kernel) fun t hf y => ?_
  have e := (idx t).2.2.2.2.2
  have ht : t.val < 32 := t.isLt
  have ey : (win0_5.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_5]
  unfold outsAt0
  frame_out
  idx_vars y
  rw [val_nrm]

end
end

theorem algebraic : Cert.algebraic_DownKernelIdeal_DownRefIdeal := by
  pair_intro
  · run_from Cert.DownKernelIdeal.Value.run_blocks m g
  · run_from Cert.DownRefIdeal.Value.run m' g'
    · funext y
      idx_vars y
      rw [final4]
      pointwise [res]
    · funext y
      idx_vars y
      rw [final5]
      pointwise [nrm, ms, res]

end Cert.Own.Down

end
-- ==== Proof.Bounds.lean ====
module

public import proofs.«01_k».proof.Defs
public import proofs.«01_k».proof.Proof.Lib
public import proofs.«01_k».proof.Proof.Gen.BoundsKernelIdeal.Value
public import proofs.«01_k».proof.Proof.Gen.BoundsRefIdeal.Run
public import Idealize.ShloMosaic.Lib.Pipeline.ValueKit
public import Idealize.ShloMosaic.Lib.Claim
public import Idealize.ShloMosaic.Lib.Pointwise

/-! The decay bounds, a softmax over four rows and a running sum less its first row: the call returns what the reference returns. -/

@[expose] public section

set_option maxRecDepth 65536

noncomputable section

namespace Cert.Own.Bounds

open Idealize.ShloMosaic Idealize.ShloMosaic.TcCoe Idealize.SL.Sem

/-- The greatest of a column's four logits. -/
def mx (a : Fin 4 → EReal) : EReal := max (max (a 0) (a 1)) (max (a 2) (a 3))

/-- A row's exponential. -/
def ex (a : Fin 4 → EReal) (i : Fin 4) : EReal := Ideal.exp (a i - mx a)

/-- A row's share of the exponentials' sum. -/
def sh (a : Fin 4 → EReal) (i : Fin 4) : EReal := Ideal.div (ex a i) (ex a 0 + ex a 1 + ex a 2 + ex a 3)

/-- The running sum of the shares. -/
def cum (a : Fin 4 → EReal) : Fin 4 → EReal := ![sh a 0, sh a 0 + sh a 1, sh a 0 + sh a 1 + sh a 2, sh a 0 + sh a 1 + sh a 2 + sh a 3]

section
open Cert.BoundsKernelIdeal Cert.BoundsKernelIdeal.Gen

variable (X : Vec Ideal S4x1024 .f32) (k : Fin 1024)

theorem value (i : Fin 4) : Value.G1 X (ix2 i k) = cum (fun r => X (ix2 r k)) i - sh (fun r => X (ix2 r k)) 0 := by
  canon_tiles x h
  all_goals
    obtain rfl : x = ix2 0 k := by
      idx_vars x
      refine congrArg₂ ix2 (Subsingleton.elim _ _) (Fin.ext ?_)
      simpa using h1.symm
  · obtain rfl : i = 3 := by apply Fin.ext; simpa using h0
    pointwise [k0_pay13, k0_pay9, k0_pay8, k0_pay7, k0_pay6, k0_pay5, k0_pay4, k0_pay3, k0_pay2, k0_pay1]
    rfl
  · obtain rfl : i = 2 := by apply Fin.ext; simpa using h0
    pointwise [k0_pay12, k0_pay9, k0_pay8, k0_pay7, k0_pay6, k0_pay5, k0_pay4, k0_pay3, k0_pay2, k0_pay1]
    rfl
  · obtain rfl : i = 1 := by apply Fin.ext; simpa using h0
    pointwise [k0_pay11, k0_pay8, k0_pay7, k0_pay6, k0_pay5, k0_pay4, k0_pay3, k0_pay2, k0_pay1]
    rfl
  · obtain rfl : i = 0 := by apply Fin.ext; simpa using h0
    pointwise [k0_pay10, k0_pay7, k0_pay6, k0_pay5, k0_pay4, k0_pay3, k0_pay2, k0_pay1]
    rfl

end

section
open Cert.BoundsRefIdeal Cert.BoundsRefIdeal.Gen

variable (x : Vec Ideal S4x1024 .f32) (k : Fin 1024)

/-- The window's positions, in order. -/
theorem win_pos : ∀ n : Fin 4, ((⟨2, ![4, 1]⟩ : Shape).rowMajor.symm n 0).val = n.val ∧ ((⟨2, ![4, 1]⟩ : Shape).rowMajor.symm n 1).val = 0 := by
  decide +kernel

theorem fold4 (q : Fin 4 → EReal) : List.foldl (fun r n => r + q n) 0 (List.finRange 4) = q 0 + q 1 + q 2 + q 3 := by
  simp [List.finRange_succ]

/-- The running sum: the rows up to a row. -/
theorem prefix_sum (i : Fin 4) (z : S_.Idx → EReal) (hz : z = fun _ => 0) (h : S4x1024.ReduceWindows ![4, 1] ![1, 1] ![3, 0] ![0, 0] S4x1024) (hu : 0 < S_.numel) :
    Host.reduceWindowAdd (F := Ideal) (φ := .f32) ![4, 1] ![1, 1] ![3, 0] ![0, 0] x z h hu (ix2 i k)
      = ∑ j : Fin 4, if h : 3 ≤ i.val + j.val ∧ i.val + j.val - 3 < 4 then x (ix2 (⟨i.val + j.val - 3, h.2⟩ : Fin 4) k) else 0 := by
  subst hz
  change Host.reduceWindow (· + ·) _ _ _ _ x _ h _ (ix2 i k) = _
  unfold Host.reduceWindow
  change List.foldl _ _ (List.finRange 4) = _
  have f (j : Fin 4) : ∀ (p : Fin 2 → ℕ) (hp : p = ![i.val + j.val, k.val]) (D : Decidable (∀ b : Fin 2, (![3, 0] : Fin 2 → ℕ) b ≤ p b ∧ p b - (![3, 0] : Fin 2 → ℕ) b < S4x1024.size b)), (if hin : ∀ b : Fin 2, (![3, 0] : Fin 2 → ℕ) b ≤ p b ∧ p b - (![3, 0] : Fin 2 → ℕ) b < S4x1024.size b then x (fun b => ⟨p b - (![3, 0] : Fin 2 → ℕ) b, (hin b).2⟩) else (0 : EReal))
      = if h : 3 ≤ i.val + j.val ∧ i.val + j.val - 3 < 4 then x (ix2 (⟨i.val + j.val - 3, h.2⟩ : Fin 4) k) else 0 := by
    rintro p rfl D
    by_cases hj : 3 ≤ i.val + j.val ∧ i.val + j.val - 3 < 4
    · rw [dif_pos hj, dif_pos]
      · refine congrArg x ?_; funext b; fin_cases b <;> rfl
      · intro b; fin_cases b
        · exact hj
        · exact ⟨Nat.zero_le _, k.isLt⟩
    · rw [dif_neg hj, dif_neg]
      exact fun hin => hj (hin 0)
  have w (n : Fin 4) : (fun b : Fin 2 => (ix2 i k b).val * (![1, 1] : Fin 2 → ℕ) b + ((⟨2, ![4, 1]⟩ : Shape).rowMajor.symm n b).val) = ![i.val + n.val, k.val] := by
    funext b
    have := win_pos n
    fin_cases b
    · exact congrArg₂ (· + ·) (Nat.mul_one _) this.1
    · exact congrArg₂ (· + ·) (Nat.mul_one _) this.2
  rw [Fin.sum_univ_four]
  refine (fold4 (fun n => _)).trans ?_
  exact congrArg₂ (· + ·) (congrArg₂ (· + ·) (congrArg₂ (· + ·) (f 0 _ (w 0) _) (f 1 _ (w 1) _)) (f 2 _ (w 2) _)) (f 3 _ (w 3) _)

/-- The running sum, row by row. -/
theorem prefix_rows (i : Fin 4) (q : Fin 4 → EReal) (hq : ∀ r, x (ix2 r k) = q r) :
    Host.reduceWindowAdd (F := Ideal) (φ := .f32) ![4, 1] ![1, 1] ![3, 0] ![0, 0] x
      (broadcastInDim S_ ![] bcast_S_S_ (constant S_ .f32 0#32)) reduceWindows_S4x1024_S4x1024_w4s1p3_0_w1s1p0_0 h_S_ (ix2 i k)
      = (![q 0, q 0 + q 1, q 0 + q 1 + q 2, q 0 + q 1 + q 2 + q 3] : Fin 4 → EReal) i := by
  rw [prefix_sum x k i _ (by funext j; pointwise)]
  fin_cases i <;> simp [Fin.sum_univ_four, hq] <;> rfl

theorem drop_eq (i : Fin 4) (j : Fin 1024) : reducesTo_S4x1024_S1024_d0.drop (ix2 i j) = ix1 j := by
  funext b; fin_cases b; rfl

/-- The maximum the reference subtracts. -/
theorem fold_mx (D : DecidablePred fun i : S4x1024.Idx => reducesTo_S4x1024_S1024_d0.drop i = ix1 k) :
    max (Ideal.ofBits .f32 4286578688#32) (Finset.fold max (Ideal.ofBits .f32 4286578688#32) x {i | reducesTo_S4x1024_S1024_d0.drop i = ix1 k})
      = mx (fun r => x (ix2 r k)) := by
  have hb : Ideal.ofBits .f32 4286578688#32 = ⊥ := by simp [Ideal.ofBits, Ideal.ieee, -EReal.coe_mul]
  have hm (i : Fin 4) : x (ix2 i k) ≤ mx (fun r => x (ix2 r k)) := by
    unfold mx; fin_cases i <;> simp
  rw [hb, max_eq_right bot_le]
  refine le_antisymm ((Finset.fold_max_le _).mpr ⟨bot_le, fun i hi => ?_⟩) ?_
  · idx_vars i
    rw [Finset.mem_filter, drop_eq] at hi
    obtain rfl : i1 = k := congrFun hi.2 0
    exact hm i0
  · have hle (i : Fin 4) : x (ix2 i k) ≤ Finset.fold max ⊥ x {i | reducesTo_S4x1024_S1024_d0.drop i = ix1 k} :=
      (Finset.le_fold_max _).mpr (.inr ⟨ix2 i k, Finset.mem_filter.mpr ⟨Finset.mem_univ _, drop_eq i k⟩, le_rfl⟩)
    exact max_le (max_le (hle 0) (hle 1)) (max_le (hle 2) (hle 3))

end

theorem algebraic : Cert.algebraic_BoundsKernelIdeal_BoundsRefIdeal := by
  pair_intro
  · run_from Cert.BoundsKernelIdeal.Value.run m g
  · refine (θ_run _ _ _).mono (fun r h c => ⟨(h c).1.trans ?_, (h c).2⟩) (Cert.BoundsRefIdeal.Value.run m' g')
    clear h
    obtain a0 := hagree c
    rw [← a0]
    generalize m' (c.tc.loc Cert.BoundsRefIdeal.main_arg0) = x at *
    funext j
    idx_vars j
    refine Eq.trans ?_ (value x j1 j0).symm
    pointwise
    rw [prefix_rows _ j1 j0 (sh fun r => x (ix2 r j1)) (fun r => by
      pointwise
      erw [fold_mx x j1]
      simp only [fold_mx x j1, Fin.sum_univ_four]
      rfl)]
    erw [fold_mx x j1]
    simp only [fold_mx x j1, Fin.sum_univ_four]
    rfl

end Cert.Own.Bounds

end
-- ==== Proof.Rms.lean ====
module

public import proofs.«01_k».proof.Defs
public import proofs.«01_k».proof.Proof.Lib
public import proofs.«01_k».proof.Proof.Gen.RmsKernelIdeal.Value
public import proofs.«01_k».proof.Proof.Gen.RmsRefIdeal.Run
public import Idealize.ShloMosaic.Lib.Pipeline.ValueKit
public import Idealize.ShloMosaic.Lib.Claim
public import Idealize.ShloMosaic.Lib.Pointwise

/-! The first norm of a layer: the normed rows are what the reference returns. -/

@[expose] public section

set_option maxRecDepth 65536

noncomputable section

namespace Cert.Own.Rms

open Idealize.ShloMosaic Idealize.ShloMosaic.TcCoe Idealize.SL.Sem

section
open Cert.RmsKernelIdeal Cert.RmsKernelIdeal.Gen

/-- A row's norm. -/
def nrm (x : S16384x1024.Idx → EReal) (g : S1x1024.Idx → EReal) (i : Fin 16384) (k : Fin 1024) : EReal :=
  x (ix2 i k) * Ideal.rsqrt (ms fun k => x (ix2 i k)) * g (ix2 0 k)

theorem idx : ∀ t : Fin cfg0.N, win0_0.index t = ![t.val, 0] ∧ win0_1.index t = ![0, 0] ∧ win0_2.index t = ![t.val, 0] :=
  (by decide +kernel : ∀ t : Fin grid0.N, _)

section
variable (m : (ℓ : Loc nD τ sig) → Buf (Elt Ideal) ℓ) (c : Dev nD) (t : Fin cfg0.N)

theorem row (a : Fin 512) : t.val * 512 + a.val < 16384 := by
  have := t.isLt; change t.val < 32 at this; omega

/-- A row of a block among all rows. -/
abbrev rw' (a : Fin 512) : Fin 16384 := ⟨t.val * 512 + a.val, row t a⟩

/-- The rows. -/
abbrev A0 : S16384x1024.Idx → EReal := m ((c.tc : Thread nD τ).loc main_arg0)
/-- The norm's scale. -/
abbrev A1 : S1x1024.Idx → EReal := m ((c.tc : Thread nD τ).loc main_arg1)

theorem read_x (a : Fin 512) (b : Fin 1024) : iblk m c 0 t (ix2 a b) = A0 m c (ix2 (rw' t a) b) := by
  have e := (idx t).1
  blk_ext [iblk, V, e]

theorem read_g (a : Fin 1) (b : Fin 1024) : iblk m c 1 t (ix2 a b) = A1 m c (ix2 0 b) := by
  have e := (idx t).2.1
  obtain rfl : a = 0 := Subsingleton.elim _ _
  blk_ext [iblk, V, e]

theorem val_nrm (a : Fin 512) (b : Fin 1024) : k0_pay1 (iblk m c 0 t) (iblk m c 1 t) (ix2 a b)
    = nrm (A0 m c) (A1 m c) (rw' t a) b := by
  pointwise [k0_pay1, nrm, ms]
  simp only [read_x, read_g]

end

section
variable (m : (ℓ : Loc nD τ sig) → Buf (Elt Ideal) ℓ) (c : Dev nD)

set_option backward.isDefEq.respectTransparency false in
theorem final2 : (dats m 0 c).arrAt 2 cfg0.N
    = (fun y => nrm (A0 m c) (A1 m c) (y 0) (y 1) : S16384x1024.Idx → EReal) := by
  refine (dats m 0 c).arrAt_eq_of_covers 2 _ (by decide +kernel) fun t hf y => ?_
  have e := (idx t).2.2
  have ht : t.val < 32 := t.isLt
  have ey : (win0_2.blk t).view.emb y
      = ix2 (⟨t.val * 512 + (y 0).val, by have := (y 0).isLt; change (y 0).val < 512 at this; omega⟩ : Fin 16384)
          (⟨(y 1).val, by have := (y 1).isLt; change (y 1).val < 1024 at this; omega⟩ : Fin 1024) := by
    blk_ext [e]
  blk_simp
  rw [ey, after0_2]
  try unfold outsAt0
  frame_out
  idx_vars y
  rw [val_nrm]

end
end

theorem algebraic : Cert.algebraic_RmsKernelIdeal_RmsRefIdeal := by
  pair_intro
  · run_from Cert.RmsKernelIdeal.Value.run_blocks m g
  · run_from Cert.RmsRefIdeal.Value.run m' g'
    · funext y
      idx_vars y
      rw [final2]
      pointwise [nrm, ms]

end Cert.Own.Rms

end
-- ==== Proof.Proj.lean ====
module

public import proofs.«01_k».proof.Defs
public import proofs.«01_k».proof.Proof.Lib
public import proofs.«01_k».proof.Proof.Gen.ProjKernelIdeal.Value
public import proofs.«01_k».proof.Proof.Gen.ProjRefIdeal.Run
public import Idealize.ShloMosaic.Lib.Pipeline.ValueKit
public import Idealize.ShloMosaic.Lib.Claim
public import Idealize.ShloMosaic.Lib.Pointwise

/-! The input projection's product. -/

@[expose] public section

set_option maxRecDepth 65536

noncomputable section

namespace Cert.Own.Proj

open Idealize.ShloMosaic Idealize.ShloMosaic.TcCoe Idealize.SL.Sem

section
open Cert.ProjKernelIdeal Cert.ProjKernelIdeal.Gen

/-- The product, row `i`, column `k`. -/
def pr (x : S16384x1024.Idx → EReal) (w : S1024x7680.Idx → EReal) (i : Fin 16384) (k : Fin 7680) : EReal :=
  ∑ c : Fin 1024, x (ix2 i c) * w (ix2 c k)

/-- The weight's columns as rows. -/
def tr (a : FVec Ideal S1024x7680 .f32) : FVec Ideal S7680x1024 .bf16 :=
  truncf .bf16 (transpose S7680x1024 [1, 0] a transposes_S1024x7680_S7680x1024_1_0 : FVec Ideal S7680x1024 .f32) bitsLt_bf16_f32

theorem tr_apply (a : FVec Ideal S1024x7680 .f32) (i : Fin 7680) (k : Fin 1024) : tr a (ix2 i k) = a (ix2 k i) := by
  pointwise [tr]

theorem idx : ∀ t : Fin cfg0.N, win0_0.index t = ![t.val % 16, 0] ∧ win0_1.index t = ![t.val / 16, 0]
    ∧ win0_2.index t = ![t.val % 16, t.val / 16] :=
  (by decide +kernel : ∀ t : Fin grid0.N, _)

section
variable (m : (ℓ : Loc nD τ sig) → Buf (Elt Ideal) ℓ) (c : Dev nD) (t : Fin cfg0.N)

/-- A row of a block among all rows. -/
abbrev rw' (a : Fin 1024) : Fin 16384 := ⟨t.val % 16 * 1024 + a.val, by omega⟩

theorem col (b : Fin 1280) : t.val / 16 * 1280 + b.val < 7680 := by
  have := t.isLt; change t.val < 96 at this; omega

/-- A column of a block among all columns. -/
abbrev cl (b : Fin 1280) : Fin 7680 := ⟨t.val / 16 * 1280 + b.val, col t b⟩

/-- The rows. -/
abbrev A0 : S16384x1024.Idx → EReal := m ((c.tc : Thread nD τ).loc main_arg0)
/-- The weight. -/
abbrev A1 : S1024x7680.Idx → EReal := m ((c.tc : Thread nD τ).loc main_arg1)

theorem entry_x : V m c main_v0 = truncf (F := Ideal) (s := S16384x1024) (φ := .f32) .bf16 (m ((c.tc : Thread nD τ).loc main_arg0)) bitsLt_bf16_f32 := by
  change StableHlo.after hostOps0 (fun b => m (c, b)) _ = _
  after_results
  try rfl

theorem entry_w : V m c main_v2 = tr (m ((c.tc : Thread nD τ).loc main_arg1)) := by
  change StableHlo.after hostOps0 (fun b => m (c, b)) _ = _
  after_results
  try rfl

theorem read_x (a : Fin 1024) (b : Fin 1024) : iblk m c 0 t (ix2 a b) = A0 m c (ix2 (rw' t a) b) := by
  have e := (idx t).1
  unfold iblk
  have e' := entry_x m c
  generalize V m c main_v0 = X at e'
  subst e'
  blk_ext [e]

theorem read_w (a : Fin 1280) (b : Fin 1024) : iblk m c 1 t (ix2 a b) = A1 m c (ix2 b (cl t a)) := by
  refine Eq.trans ?_ (tr_apply (m ((c.tc : Thread nD τ).loc main_arg1)) (cl t a) b)
  have e := (idx t).2.1
  unfold iblk
  have e' := entry_w m c
  generalize V m c main_v2 = X at e'
  subst e'
  blk_ext [e]

theorem val_prod (a : Fin 1024) (b : Fin 1280) : k0_pay1 (iblk m c 0 t) (iblk m c 1 t) (ix2 a b)
    = pr (A0 m c) (A1 m c) (rw' t a) (cl t b) := by
  pointwise [k0_pay1, pr]
  simp only [read_x, read_w]

end

section
variable (m : (ℓ : Loc nD τ sig) → Buf (Elt Ideal) ℓ) (c : Dev nD)

set_option backward.isDefEq.respectTransparency false in
theorem final2 : (dats m 0 c).arrAt 2 cfg0.N
    = (fun y => pr (A0 m c) (A1 m c) (y 0) (y 1) : S16384x7680.Idx → EReal) := by
  refine (dats m 0 c).arrAt_eq_of_covers 2 _ (by decide +kernel) fun t hf y => ?_
  have e := (idx t).2.2
  have ht : t.val < 96 := t.isLt
  have ey : (win0_2.blk t).view.emb y
      = ix2 (⟨t.val % 16 * 1024 + (y 0).val, by have := (y 0).isLt; change (y 0).val < 1024 at this; omega⟩ : Fin 16384)
          (⟨t.val / 16 * 1280 + (y 1).val, by have := (y 1).isLt; change (y 1).val < 1280 at this; omega⟩ : Fin 7680) := by
    blk_ext [e]
  blk_simp
  rw [ey, after0_2]
  try unfold outsAt0
  frame_out
  idx_vars y
  rw [val_prod]

end
end

theorem algebraic : Cert.algebraic_ProjKernelIdeal_ProjRefIdeal := by
  pair_intro
  · run_from Cert.ProjKernelIdeal.Value.run_blocks m g
  · run_from Cert.ProjRefIdeal.Value.run m' g'
    · funext y
      idx_vars y
      rw [final2]
      pointwise [pr]

end Cert.Own.Proj

end
-- ==== Proof.Wgu.lean ====
module

public import proofs.«01_k».proof.Defs
public import proofs.«01_k».proof.Proof.Lib
public import proofs.«01_k».proof.Proof.Gen.WguKernelIdeal.Frame
public import proofs.«01_k».proof.Proof.Gen.WguRefIdeal.Run
public import Idealize.ShloMosaic.Lib.Pipeline.ValueKit
public import Idealize.ShloMosaic.Lib.Pipeline.ReadBack
public import Idealize.ShloMosaic.Lib.Claim
public import Idealize.ShloMosaic.Lib.Pointwise

/-! The gate's and the up projection's weight gradients: sums over the grid's steps are what the reference returns. -/

@[expose] public section

set_option maxRecDepth 65536

noncomputable section

namespace Cert.Own.Wgu

open Idealize.ShloMosaic Idealize.ShloMosaic.TcCoe Idealize.SL.Sem

section
open Cert.WguKernelIdeal Cert.WguKernelIdeal.Gen

/-- Columns of two arrays as the call lays them out: in each half the first's columns, then the second's. -/
def pk (f g : Fin 2816 → EReal) (j : Fin 5632) : EReal :=
  if h : j.val % 2816 < 1408 then f ⟨j.val / 2816 * 1408 + j.val % 2816, by omega⟩
  else g ⟨j.val / 2816 * 1408 + (j.val % 2816 - 1408), by omega⟩

theorem pk_gate (f g : Fin 2816 → EReal) (j : Fin 5632) (k : Fin 2816) (h : j.val = k.val / 1408 * 2816 + k.val % 1408) :
    pk f g j = f k := by
  have h1 : j.val % 2816 < 1408 := by omega
  have h2 : (⟨j.val / 2816 * 1408 + j.val % 2816, by omega⟩ : Fin 2816) = k := Fin.ext (by simp only; omega)
  exact (dif_pos h1).trans (congrArg f h2)

theorem pk_up (f g : Fin 2816 → EReal) (j : Fin 5632) (k : Fin 2816) (h : j.val = k.val / 1408 * 2816 + 1408 + k.val % 1408) :
    pk f g j = g k := by
  have h1 : ¬ j.val % 2816 < 1408 := by omega
  have h2 : (⟨j.val / 2816 * 1408 + (j.val % 2816 - 1408), by omega⟩ : Fin 2816) = k := Fin.ext (by simp only; omega)
  exact (dif_neg h1).trans (congrArg g h2)

/-- The operand of the call that holds the two cotangents' columns. -/
def packX (a b : FVec Ideal S16384x2816 .f32) : FVec Ideal S16384x5632 .bf16 :=
  truncf .bf16 (concatenate S16384x5632 1 [⟨S16384x1408, extractStridedSlice S16384x1408 ![0, 0] a slices_S16384x2816_S16384x1408_0_0⟩,
    ⟨S16384x1408, extractStridedSlice S16384x1408 ![0, 0] b slices_S16384x2816_S16384x1408_0_0⟩,
    ⟨S16384x1408, extractStridedSlice S16384x1408 ![0, 1408] a slices_S16384x2816_S16384x1408_0_1408⟩,
    ⟨S16384x1408, extractStridedSlice S16384x1408 ![0, 1408] b slices_S16384x2816_S16384x1408_0_1408⟩] concatenates_S16384x1408_S16384x1408_S16384x1408_S16384x1408_S16384x5632_d1 : FVec Ideal S16384x5632 .f32) bitsLt_bf16_f32

theorem packX_apply (a b : FVec Ideal S16384x2816 .f32) (i : Fin 16384) (j : Fin 5632) :
    packX a b (ix2 i j) = pk (fun k => a (ix2 i k)) (fun k => b (ix2 i k)) j := by
  have hj := j.isLt
  pointwise [packX]
  split_ifs
  all_goals first
    | exact (pk_gate (fun k => a (ix2 i k)) (fun k => b (ix2 i k)) j ⟨_, _⟩ (by first | omega | (simp only; omega))).symm
    | exact (pk_up (fun k => a (ix2 i k)) (fun k => b (ix2 i k)) j ⟨_, _⟩ (by first | omega | (simp only; omega))).symm

theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

section
variable (m : (ℓ : Loc nD τ sig) → Buf (Elt Ideal) ℓ) (c : Dev nD)

/-- The gate's cotangent. -/
abbrev A0 : S16384x2816.Idx → EReal := m ((c.tc : Thread nD τ).loc main_arg0)
/-- The up projection's cotangent. -/
abbrev A1 : S16384x2816.Idx → EReal := m ((c.tc : Thread nD τ).loc main_arg1)
/-- The normed rows. -/
abbrev A2 : S16384x1024.Idx → EReal := m ((c.tc : Thread nD τ).loc main_arg2)

/-- A row of the packed cotangents. -/
abbrev dg (i : Fin 16384) (j : Fin 5632) : EReal := pk (fun k => A0 m c (ix2 i k)) (fun k => A1 m c (ix2 i k)) j

theorem entry_x : V m c main_v5 = packX (m ((c.tc : Thread nD τ).loc main_arg0)) (m ((c.tc : Thread nD τ).loc main_arg1)) := by
  change StableHlo.after hostOps0 (fun b => m (c, b)) _ = _
  after_results
  try rfl

theorem entry_h : V m c main_v6 = truncf (F := Ideal) (s := S16384x1024) (φ := .f32) .bf16 (m ((c.tc : Thread nD τ).loc main_arg2)) bitsLt_bf16_f32 := by
  change StableHlo.after hostOps0 (fun b => m (c, b)) _ = _
  after_results
  try rfl

variable (t : Fin cfg0.N)

/-- A row of a block among all rows. -/
abbrev rw' (a : Fin 2048) : Fin 16384 := ⟨t.val % 8 * 2048 + a.val, by omega⟩

theorem col (b : Fin 1408) : t.val / 8 * 1408 + b.val < 5632 := by
  have := t.isLt; change t.val < 32 at this; omega

/-- A column of a block among all columns. -/
abbrev cl (b : Fin 1408) : Fin 5632 := ⟨t.val / 8 * 1408 + b.val, col t b⟩

theorem read_x (a : Fin 2048) (b : Fin 1408) : iblk m c 0 t (ix2 a b) = dg m c (rw' t a) (cl t b) := by
  refine Eq.trans ?_ (packX_apply (m ((c.tc : Thread nD τ).loc main_arg0)) (m ((c.tc : Thread nD τ).loc main_arg1)) _ _)
  have e := (idx t).1
  unfold iblk
  have e' := entry_x m c
  generalize V m c main_v5 = X at e'
  subst e'
  blk_ext [e]

theorem read_h (a : Fin 2048) (b : Fin 1024) : iblk m c 1 t (ix2 a b) = A2 m c (ix2 (rw' t a) b) := by
  have e := (idx t).2.1
  unfold iblk
  have e' := entry_h m c
  generalize V m c main_v6 = X at e'
  subst e'
  blk_ext [e]

theorem val_prod (a : Fin 1408) (b : Fin 1024) : k0_pay1 (iblk m c 0 t) (iblk m c 1 t) (ix2 a b)
    = ∑ r : Fin 2048, dg m c (rw' t r) (cl t a) * A2 m c (ix2 (rw' t r) b) := by
  pointwise [k0_pay1]
  simp only [read_x, read_h]

theorem pay2 (x : Vec Ideal S2048x1408 .bf16) (h : Vec Ideal S2048x1024 .bf16) (y : S1408x1024.Idx) : k0_pay2 (F := Ideal) x h y = 0 + k0_pay1 x h y := by
  rw [zero_add]
  pointwise [k0_pay2]

theorem pay3 (x : Vec Ideal S2048x1408 .bf16) (h : Vec Ideal S2048x1024 .bf16) (acc : Vec Ideal S1408x1024 .f32) (y : S1408x1024.Idx) :
    k0_pay3 (F := Ideal) x h acc y = acc y + k0_pay1 x h y := by
  pointwise [k0_pay3]

theorem pay4 (acc : Vec Ideal S1408x1024 .f32) (y : S1408x1024.Idx) : k0_pay4 (F := Ideal) acc y = acc y := by
  pointwise [k0_pay4]

/-- The product over all rows, of the packed cotangents' column `j` and the rows' column `k`. -/
def gt (j : Fin 5632) (k : Fin 1024) : EReal := ∑ i : Fin 16384, dg m c i j * A2 m c (ix2 i k)

set_option backward.isDefEq.respectTransparency false in
theorem last (h : t.val % 8 = 7) : (outsAt0 m c t.val t.isLt).1 = k0_pay4 ((outsAt0 m c t.val t.isLt).2) := by
  rw [outsAt0_C m c t (by omega) (by omega) h]
  frame_out

set_option backward.isDefEq.respectTransparency false in
theorem acc (h : t.val % 8 = 7) (a : Fin 1408) (b : Fin 1024) : (outsAt0 m c t.val t.isLt).2 (ix2 a b) = gt m c (cl t a) b := by
  rw [Pipeline.eq_sum_fin_of_reset_step_apply_of_flush (fun n h => (outsAt0 m c n h).2) 8 (fun _ => 0)
    (fun t => k0_pay1 (iblk m c 0 t) (iblk m c 1 t))
    (fun t h j => by rw [outsAt0_A m c t h (by omega) (by omega)]; frame_out; rw [pay2])
    (fun t h j => by
      by_cases h7 : t.val % 8 = 7
      · rw [outsAt0_C m c t h (by omega) h7]; frame_out; rw [pay3, Idealize.ShloMosaic.read_unread_whole]
      · rw [outsAt0_B m c t h (by omega) h7]; frame_out; rw [pay3, Idealize.ShloMosaic.read_unread_whole]) t h (ix2 a b), zero_add]
  simp only [val_prod, gt]
  refine Fin.sum_mul_add_congr fun s k hl => ?_
  have h1 : rw' ⟨8 * (t.val / 8) + s.val, Pipeline.run_point_lt_of_flush t h s⟩ k = ⟨s.val * 2048 + k.val, hl⟩ := Fin.ext (by simp only; omega)
  have h2 : cl ⟨8 * (t.val / 8) + s.val, Pipeline.run_point_lt_of_flush t h s⟩ a = cl t a := Fin.ext (by simp only; omega)
  rw [h1, h2]

end

section
variable (m : (ℓ : Loc nD τ sig) → Buf (Elt Ideal) ℓ) (c : Dev nD)

set_option backward.isDefEq.respectTransparency false in
theorem final2 : (dats m 0 c).arrAt 2 cfg0.N = (fun y => gt m c (y 0) (y 1) : S5632x1024.Idx → EReal) := by
  refine (dats m 0 c).arrAt_eq_of_covers 2 _ (by decide +kernel) fun t hf y => ?_
  have e := (idx t).2.2
  have ht : t.val < 32 := t.isLt
  have h7 : t.val % 8 = 7 := (flush0_2 t).mp hf
  have ey : (win0_2.blk t).view.emb y
      = ix2 (⟨t.val / 8 * 1408 + (y 0).val, by have := (y 0).isLt; change (y 0).val < 1408 at this; omega⟩ : Fin 5632)
          (⟨(y 1).val, by have := (y 1).isLt; change (y 1).val < 1024 at this; omega⟩ : Fin 1024) := by
    blk_ext [e]
  blk_simp
  rw [ey, after0_2, last m c t h7, pay4]
  idx_vars y
  rw [acc m c t h7]

/-- One weight's gradient out of the packed array. -/
def ungate (P : FVec Ideal S5632x1024 .bf16) : FVec Ideal S1024x2816 .bf16 := transpose S1024x2816 [1, 0] (concatenate S2816x1024 0
    [⟨S1408x1024, extractStridedSlice S1408x1024 ![0, 0] P slices_S5632x1024_S1408x1024_0_0⟩,
     ⟨S1408x1024, extractStridedSlice S1408x1024 ![2816, 0] P slices_S5632x1024_S1408x1024_2816_0⟩]
    concatenates_S1408x1024_S1408x1024_S2816x1024_d0 : FVec Ideal S2816x1024 .bf16) transposes_S2816x1024_S1024x2816_1_0

/-- The other weight's gradient. -/
def unup (P : FVec Ideal S5632x1024 .bf16) : FVec Ideal S1024x2816 .bf16 := transpose S1024x2816 [1, 0] (concatenate S2816x1024 0
    [⟨S1408x1024, extractStridedSlice S1408x1024 ![1408, 0] P slices_S5632x1024_S1408x1024_1408_0⟩,
     ⟨S1408x1024, extractStridedSlice S1408x1024 ![4224, 0] P slices_S5632x1024_S1408x1024_4224_0⟩]
    concatenates_S1408x1024_S1408x1024_S2816x1024_d0 : FVec Ideal S2816x1024 .bf16) transposes_S2816x1024_S1024x2816_1_0

theorem gt_gate (k : Fin 1024) (j : Fin 5632) (b : Fin 2816) (h : j.val = b.val / 1408 * 2816 + b.val % 1408) :
    gt m c j k = ∑ i : Fin 16384, A2 m c (ix2 i k) * A0 m c (ix2 i b) := by
  simp only [gt, dg, pk_gate _ _ j b h]
  exact Finset.sum_congr rfl fun i _ => mul_comm _ _

theorem gt_up (k : Fin 1024) (j : Fin 5632) (b : Fin 2816) (h : j.val = b.val / 1408 * 2816 + 1408 + b.val % 1408) :
    gt m c j k = ∑ i : Fin 16384, A2 m c (ix2 i k) * A1 m c (ix2 i b) := by
  simp only [gt, dg, pk_up _ _ j b h]
  exact Finset.sum_congr rfl fun i _ => mul_comm _ _

theorem tail_11 (k : Fin 1024) (b : Fin 2816) :
    Pipeline.afterTail₀ cfgs (dats m) 0 (V0 m) [hostOps1] c main_v11 (ix2 k b) = ∑ i : Fin 16384, A2 m c (ix2 i k) * A0 m c (ix2 i b) := by
  have e : Pipeline.withArrays (cfgs 0).spec c (V0 m c) (fun w => (dats m 0 c).arrAt w (cfgs 0).N) (Proc.tc.devRef main_v7)
      = _ := (Pipeline.withArrays_arr (cfgs 0).spec (by decide) c _ _ 2).trans (final2 m c)
  unfold Pipeline.afterTail₀
  change StableHlo.after hostOps1 _ _ _ = _
  refine (congrFun (?_ : _ = ungate (fun y => gt m c (y 0) (y 1))) _).trans ?_
  · after_results
    rw [e]
    try rfl
  pointwise [ungate]
  split_ifs
  all_goals exact gt_gate _ _ _ _ _ (by simp only; omega)

theorem tail_15 (k : Fin 1024) (b : Fin 2816) :
    Pipeline.afterTail₀ cfgs (dats m) 0 (V0 m) [hostOps1] c main_v15 (ix2 k b) = ∑ i : Fin 16384, A2 m c (ix2 i k) * A1 m c (ix2 i b) := by
  have e : Pipeline.withArrays (cfgs 0).spec c (V0 m c) (fun w => (dats m 0 c).arrAt w (cfgs 0).N) (Proc.tc.devRef main_v7)
      = _ := (Pipeline.withArrays_arr (cfgs 0).spec (by decide) c _ _ 2).trans (final2 m c)
  unfold Pipeline.afterTail₀
  change StableHlo.after hostOps1 _ _ _ = _
  refine (congrFun (?_ : _ = unup (fun y => gt m c (y 0) (y 1))) _).trans ?_
  · after_results
    rw [e]
    try rfl
  pointwise [unup]
  split_ifs
  all_goals exact gt_up _ _ _ _ _ (by simp only; omega)

end
end

theorem algebraic : Cert.algebraic_WguKernelIdeal_WguRefIdeal := by
  pair_intro
  · run_from Cert.WguKernelIdeal.Gen.run_main m g
    · exact Cert.WguKernelIdeal.Gen.W_main_arg0 m _ c
    · exact Cert.WguKernelIdeal.Gen.W_main_arg1 m _ c
    · exact Cert.WguKernelIdeal.Gen.W_main_arg2 m _ c
  · refine (θ_run _ _ _).mono (fun r h c => ⟨(h c).1.trans ?_, (h c).2.1.trans ?_, (h c).2.2⟩) (Cert.WguRefIdeal.Value.run m' g')
    · obtain ⟨h0, h1, h2⟩ := hagree c
      funext y
      idx_vars y
      rw [tail_11, h0, h2]
      pointwise
    · obtain ⟨h0, h1, h2⟩ := hagree c
      funext y
      idx_vars y
      rw [tail_15, h1, h2]
      pointwise

end Cert.Own.Wgu

end
-- ==== Proof.Slots.lean ====
module

public import proofs.«01_k».proof.Defs
public import proofs.«01_k».proof.Proof.Lib
public import proofs.«01_k».proof.Proof.Gen.SlotsKernelIdeal.Value
public import proofs.«01_k».proof.Proof.Gen.SlotsRefIdeal.Run
public import Idealize.ShloMosaic.Lib.Pipeline.ValueKit
public import Idealize.ShloMosaic.Lib.Claim
public import Idealize.ShloMosaic.Lib.Pointwise

/-! The sum over the eight devices' parts. -/

@[expose] public section

set_option maxRecDepth 65536

noncomputable section

namespace Cert.Own.Slots

open Idealize.ShloMosaic Idealize.ShloMosaic.TcCoe Idealize.SL.Sem

section
open Cert.SlotsKernelIdeal Cert.SlotsKernelIdeal.Gen

theorem idx : ∀ t : Fin cfg0.N, win0_0.index t = ![0, t.val, 0] ∧ win0_1.index t = ![t.val, 0] :=
  (by decide +kernel : ∀ t : Fin grid0.N, _)

section
variable (m : (ℓ : Loc nD τ sig) → Buf (Elt Ideal) ℓ) (c : Dev nD) (t : Fin cfg0.N)

theorem row (a : Fin 480) : t.val * 480 + a.val < 1440 := by
  have := t.isLt; change t.val < 3 at this; omega

/-- A row of a block among all rows. -/
abbrev rw' (a : Fin 480) : Fin 1440 := ⟨t.val * 480 + a.val, row t a⟩

/-- The parts. -/
abbrev A0 : S8x1440x1024.Idx → EReal := m ((c.tc : Thread nD τ).loc main_arg0)

theorem entry_x : V m c main_v0 = truncf (F := Ideal) (s := S8x1440x1024) (φ := .f32) .bf16 (m ((c.tc : Thread nD τ).loc main_arg0)) bitsLt_bf16_f32 := by
  change StableHlo.after hostOps0 (fun b => m (c, b)) _ = _
  after_results
  try rfl

theorem read_x (d : Fin 8) (a : Fin 480) (b : Fin 1024) : iblk m c 0 t (ix3 d a b) = A0 m c (ix3 d (rw' t a) b) := by
  have e := (idx t).1
  unfold iblk
  have e' := entry_x m c
  generalize V m c main_v0 = X at e'
  subst e'
  blk_ext [e]

end

section
variable (m : (ℓ : Loc nD τ sig) → Buf (Elt Ideal) ℓ) (c : Dev nD)

set_option backward.isDefEq.respectTransparency false in
theorem final1 : (dats m 0 c).arrAt 1 cfg0.N
    = (fun y => ∑ d : Fin 8, A0 m c (ix3 d (y 0) (y 1)) : S1440x1024.Idx → EReal) := by
  refine (dats m 0 c).arrAt_eq_of_covers 1 _ (by decide +kernel) fun t hf y => ?_
  have e := (idx t).2
  have ht : t.val < 3 := t.isLt
  have ey : (win0_1.blk t).view.emb y
      = ix2 (⟨t.val * 480 + (y 0).val, by have := (y 0).isLt; change (y 0).val < 480 at this; omega⟩ : Fin 1440)
          (⟨(y 1).val, by have := (y 1).isLt; change (y 1).val < 1024 at this; omega⟩ : Fin 1024) := by
    blk_ext [e]
  blk_simp
  rw [ey, after0_1]
  try unfold outsAt0
  frame_out
  idx_vars y
  pointwise [k0_pay1]
  simp only [Fin.sum_univ_eight, read_x]

end
end

theorem algebraic : Cert.algebraic_SlotsKernelIdeal_SlotsRefIdeal := by
  pair_intro
  · run_from Cert.SlotsKernelIdeal.Value.run_blocks m g
  · refine (θ_run _ _ _).mono (fun r h c => ⟨(h c).1.trans ?_, (h c).2⟩) (Cert.SlotsRefIdeal.Value.run m' g')
    rw [hagree c, final1]
    funext y
    idx_vars y
    pointwise

end Cert.Own.Slots

end
-- ==== Proof.Adam.lean ====
module

public import proofs.«01_k».proof.Defs
public import proofs.«01_k».proof.Proof.Lib
public import proofs.«01_k».proof.Proof.Gen.AdamKernelIdeal.Frame
public import proofs.«01_k».proof.Proof.Gen.AdamRefIdeal.Run
public import Idealize.ShloMosaic.Lib.Pipeline.ValueKit
public import Idealize.ShloMosaic.Lib.Claim
public import Idealize.ShloMosaic.Lib.Pointwise

/-! The optimiser's step: the change of the weights and the two moments are what the reference returns. -/

@[expose] public section

set_option maxRecDepth 65536

noncomputable section

namespace Cert.Own.Adam

open Idealize.ShloMosaic Idealize.ShloMosaic.TcCoe Idealize.SL.Sem

section
open Cert.AdamKernelIdeal Cert.AdamKernelIdeal.Gen

/-- Four blocks of rows as the call lays them out, one below the other. -/
def flat (x : FVec Ideal S4x1024x960 .f32) : FVec Ideal S4096x960 .f32 := shapeCast S4096x960 x shapeCasts_S4x1024x960_S4096x960

theorem flat_apply (x : FVec Ideal S4x1024x960 .f32) (r : Fin 4096) (b : Fin 960) :
    flat x (ix2 r b) = x (ix3 (⟨r.val / 1024, by omega⟩ : Fin 4) (⟨r.val % 1024, by omega⟩ : Fin 1024) b) := by
  pointwise [flat]

theorem ofBits_bm : Ideal.ofBits .f32 1059503362#32 = ((5463681 / 8388608 : ℝ) : EReal) := by
  simp [Ideal.ofBits, Ideal.ieee, -EReal.coe_mul]; norm_num

theorem ofBits_bv : Ideal.ofBits .f32 1008933580#32 = ((2672307 / 268435456 : ℝ) : EReal) := by
  simp [Ideal.ofBits, Ideal.ieee, -EReal.coe_mul]; norm_num

theorem inv_m : Named.named (F := Ideal) κ "inv_m" (φ := .f32) 0x3FC48605#32 = ((8388608 / 5463681 : ℝ) : EReal) :=
  IdealRules.named_const.ideal_named_scalar _ _ _ _ rfl

theorem inv_v : Named.named (F := Ideal) κ "inv_v" (φ := .f32) 0x42C8E6D3#32 = ((268435456 / 2672307 : ℝ) : EReal) :=
  IdealRules.named_const.ideal_named_scalar _ _ _ _ rfl

/-- The first moment after the step. -/
def mo (m g : EReal) : EReal := Ideal.ofBits .f32 1063675494#32 * m + Ideal.ofBits .f32 1036831949#32 * g

/-- The second moment after the step. -/
def vo (v g : EReal) : EReal := Ideal.ofBits .f32 1065336439#32 * v + Ideal.ofBits .f32 981668463#32 * (g * g)

/-- The change of a weight, from the weight and the two moments. -/
def de (w m v : EReal) : EReal := Ideal.ofBits .f32 3129152111#32 *
  (Ideal.div (Ideal.div m (Ideal.ofBits .f32 1059503362#32)) (Ideal.sqrt (Ideal.div v (Ideal.ofBits .f32 1008933580#32)) + Ideal.ofBits .f32 841731191#32)
    + Ideal.ofBits .f32 1008981770#32 * w)

theorem div_bm (x : EReal) : Ideal.div x (Ideal.ofBits .f32 1059503362#32) = x * Named.named (F := Ideal) κ "inv_m" (φ := .f32) 0x3FC48605#32 := by
  rw [ofBits_bm, inv_m, Ideal.div_coe (by norm_num)]
  norm_num

theorem div_bv (x : EReal) : Ideal.div x (Ideal.ofBits .f32 1008933580#32) = x * Named.named (F := Ideal) κ "inv_v" (φ := .f32) 0x42C8E6D3#32 := by
  rw [ofBits_bv, inv_v, Ideal.div_coe (by norm_num)]
  norm_num

/-- The rows as the blocks they came from. -/
def unflat (x : FVec Ideal S4096x960 .f32) : FVec Ideal S4x1024x960 .f32 := shapeCast S4x1024x960 x shapeCasts_S4096x960_S4x1024x960

theorem unflat_flat (x : FVec Ideal S4x1024x960 .f32) : unflat (flat x) = x := by
  funext y
  idx_vars y
  pointwise [unflat, flat]

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

section
variable (m : (ℓ : Loc nD τ sig) → Buf (Elt Ideal) ℓ) (c : Dev nD) (t : Fin cfg0.N)

theorem row (a : Fin 512) : t.val * 512 + a.val < 4096 := by
  have := t.isLt; change t.val < 8 at this; omega

/-- A row of a block among all rows. -/
abbrev rw' (a : Fin 512) : Fin 4096 := ⟨t.val * 512 + a.val, row t a⟩

/-- The weights. -/
abbrev A0 : S4x1024x960.Idx → EReal := m ((c.tc : Thread nD τ).loc main_arg0)
/-- The gradient. -/
abbrev A1 : S4x1024x960.Idx → EReal := m ((c.tc : Thread nD τ).loc main_arg1)
/-- The first moment. -/
abbrev A2 : S4x1024x960.Idx → EReal := m ((c.tc : Thread nD τ).loc main_arg2)
/-- The second moment. -/
abbrev A3 : S4x1024x960.Idx → EReal := m ((c.tc : Thread nD τ).loc main_arg3)

theorem entry_w : V m c main_v0 = flat (m ((c.tc : Thread nD τ).loc main_arg0)) := by
  change StableHlo.after hostOps0 (fun b => m (c, b)) _ = _
  after_results
  try rfl

theorem entry_g : V m c main_v1 = flat (m ((c.tc : Thread nD τ).loc main_arg1)) := by
  change StableHlo.after hostOps0 (fun b => m (c, b)) _ = _
  after_results
  try rfl

theorem entry_m : V m c main_v2 = flat (m ((c.tc : Thread nD τ).loc main_arg2)) := by
  change StableHlo.after hostOps0 (fun b => m (c, b)) _ = _
  after_results
  try rfl

theorem entry_v : V m c main_v3 = flat (m ((c.tc : Thread nD τ).loc main_arg3)) := by
  change StableHlo.after hostOps0 (fun b => m (c, b)) _ = _
  after_results
  try rfl

theorem read_w (a : Fin 512) (b : Fin 960) : iblk m c 0 t (ix2 a b) = flat (A0 m c) (ix2 (rw' t a) b) := by
  have e := (idx t).1
  unfold iblk
  have e' := entry_w m c
  generalize V m c main_v0 = X at e'
  subst e'
  blk_ext [e]

theorem read_g (a : Fin 512) (b : Fin 960) : iblk m c 1 t (ix2 a b) = flat (A1 m c) (ix2 (rw' t a) b) := by
  have e := (idx t).2.1
  unfold iblk
  have e' := entry_g m c
  generalize V m c main_v1 = X at e'
  subst e'
  blk_ext [e]

theorem read_m (a : Fin 512) (b : Fin 960) : iblk m c 2 t (ix2 a b) = flat (A2 m c) (ix2 (rw' t a) b) := by
  have e := (idx t).2.2.1
  unfold iblk
  have e' := entry_m m c
  generalize V m c main_v2 = X at e'
  subst e'
  blk_ext [e]

theorem read_v (a : Fin 512) (b : Fin 960) : iblk m c 3 t (ix2 a b) = flat (A3 m c) (ix2 (rw' t a) b) := by
  have e := (idx t).2.2.2.1
  unfold iblk
  have e' := entry_v m c
  generalize V m c main_v3 = X at e'
  subst e'
  blk_ext [e]

theorem val_m (a : Fin 512) (b : Fin 960) : k0_pay2 (iblk m c 1 t) (iblk m c 2 t) (ix2 a b)
    = flat (fun z => mo (A2 m c z) (A1 m c z)) (ix2 (rw' t a) b) := by
  pointwise [k0_pay2, k0_pay1]
  simp only [read_m, read_g, flat_apply, mo]

theorem val_v (a : Fin 512) (b : Fin 960) : k0_pay3 (iblk m c 1 t) (iblk m c 3 t) (ix2 a b)
    = flat (fun z => vo (A3 m c z) (A1 m c z)) (ix2 (rw' t a) b) := by
  pointwise [k0_pay3, k0_pay1]
  simp only [read_v, read_g, flat_apply, vo]

theorem val_d (a : Fin 512) (b : Fin 960) : k0_pay4 (iblk m c 1 t) (iblk m c 2 t) (iblk m c 3 t) (iblk m c 0 t) (ix2 a b)
    = flat (fun z => de (A0 m c z) (mo (A2 m c z) (A1 m c z)) (vo (A3 m c z) (A1 m c z))) (ix2 (rw' t a) b) := by
  pointwise [k0_pay4]
  simp only [read_w, val_m, val_v, flat_apply, de, div_bm, div_bv]

end

section
variable (m : (ℓ : Loc nD τ sig) → Buf (Elt Ideal) ℓ) (c : Dev nD)

set_option backward.isDefEq.respectTransparency false in
theorem final4 : (dats m 0 c).arrAt 4 cfg0.N = flat (fun z => de (A0 m c z) (mo (A2 m c z) (A1 m c z)) (vo (A3 m c z) (A1 m c z))) := by
  refine (dats m 0 c).arrAt_eq_of_covers 4 _ (by decide +kernel) fun t hf y => ?_
  have e := (idx t).2.2.2.2.1
  have ht : t.val < 8 := t.isLt
  have ey : (win0_4.blk t).view.emb y
      = ix2 (⟨t.val * 512 + (y 0).val, by have := (y 0).isLt; change (y 0).val < 512 at this; omega⟩ : Fin 4096)
          (⟨(y 1).val, by have := (y 1).isLt; change (y 1).val < 960 at this; omega⟩ : Fin 960) := by
    blk_ext [e]
  blk_simp
  rw [ey, after0_4]
  try unfold outsAt0
  frame_out
  idx_vars y
  rw [val_d]

theorem tail_5 (i : Fin 4) (j : Fin 1024) (k : Fin 960) : Pipeline.afterTail₀ cfgs (dats m) 0 (V0 m) [hostOps1] c main_v5 (ix3 i j k) = (fun z => de (A0 m c z) (mo (A2 m c z) (A1 m c z)) (vo (A3 m c z) (A1 m c z))) (ix3 i j k) := by
  have e : Pipeline.withArrays (cfgs 0).spec c (V0 m c) (fun w => (dats m 0 c).arrAt w (cfgs 0).N) (Proc.tc.devRef main_v4_0)
      = _ := (Pipeline.withArrays_arr (cfgs 0).spec (by decide) c _ _ 4).trans (final4 m c)
  unfold Pipeline.afterTail₀
  change StableHlo.after hostOps1 _ _ _ = _
  refine (congrFun (?_ : _ = unflat (flat (fun z => de (A0 m c z) (mo (A2 m c z) (A1 m c z)) (vo (A3 m c z) (A1 m c z))))) _).trans (congrFun (unflat_flat _) _)
  after_results
  rw [e]
  try rfl

set_option backward.isDefEq.respectTransparency false in
theorem final5 : (dats m 0 c).arrAt 5 cfg0.N = flat (fun z => mo (A2 m c z) (A1 m c z)) := by
  refine (dats m 0 c).arrAt_eq_of_covers 5 _ (by decide +kernel) fun t hf y => ?_
  have e := (idx t).2.2.2.2.2.1
  have ht : t.val < 8 := t.isLt
  have ey : (win0_5.blk t).view.emb y
      = ix2 (⟨t.val * 512 + (y 0).val, by have := (y 0).isLt; change (y 0).val < 512 at this; omega⟩ : Fin 4096)
          (⟨(y 1).val, by have := (y 1).isLt; change (y 1).val < 960 at this; omega⟩ : Fin 960) := by
    blk_ext [e]
  blk_simp
  rw [ey, after0_5]
  try unfold outsAt0
  frame_out
  idx_vars y
  rw [val_m]

theorem tail_6 (i : Fin 4) (j : Fin 1024) (k : Fin 960) : Pipeline.afterTail₀ cfgs (dats m) 0 (V0 m) [hostOps1] c main_v6 (ix3 i j k) = (fun z => mo (A2 m c z) (A1 m c z)) (ix3 i j k) := by
  have e : Pipeline.withArrays (cfgs 0).spec c (V0 m c) (fun w => (dats m 0 c).arrAt w (cfgs 0).N) (Proc.tc.devRef main_v4_1)
      = _ := (Pipeline.withArrays_arr (cfgs 0).spec (by decide) c _ _ 5).trans (final5 m c)
  unfold Pipeline.afterTail₀
  change StableHlo.after hostOps1 _ _ _ = _
  refine (congrFun (?_ : _ = unflat (flat (fun z => mo (A2 m c z) (A1 m c z)))) _).trans (congrFun (unflat_flat _) _)
  after_results
  rw [e]
  try rfl

set_option backward.isDefEq.respectTransparency false in
theorem final6 : (dats m 0 c).arrAt 6 cfg0.N = flat (fun z => vo (A3 m c z) (A1 m c z)) := by
  refine (dats m 0 c).arrAt_eq_of_covers 6 _ (by decide +kernel) fun t hf y => ?_
  have e := (idx t).2.2.2.2.2.2
  have ht : t.val < 8 := t.isLt
  have ey : (win0_6.blk t).view.emb y
      = ix2 (⟨t.val * 512 + (y 0).val, by have := (y 0).isLt; change (y 0).val < 512 at this; omega⟩ : Fin 4096)
          (⟨(y 1).val, by have := (y 1).isLt; change (y 1).val < 960 at this; omega⟩ : Fin 960) := by
    blk_ext [e]
  blk_simp
  rw [ey, after0_6]
  try unfold outsAt0
  frame_out
  idx_vars y
  rw [val_v]

theorem tail_7 (i : Fin 4) (j : Fin 1024) (k : Fin 960) : Pipeline.afterTail₀ cfgs (dats m) 0 (V0 m) [hostOps1] c main_v7 (ix3 i j k) = (fun z => vo (A3 m c z) (A1 m c z)) (ix3 i j k) := by
  have e : Pipeline.withArrays (cfgs 0).spec c (V0 m c) (fun w => (dats m 0 c).arrAt w (cfgs 0).N) (Proc.tc.devRef main_v4_2)
      = _ := (Pipeline.withArrays_arr (cfgs 0).spec (by decide) c _ _ 6).trans (final6 m c)
  unfold Pipeline.afterTail₀
  change StableHlo.after hostOps1 _ _ _ = _
  refine (congrFun (?_ : _ = unflat (flat (fun z => vo (A3 m c z) (A1 m c z)))) _).trans (congrFun (unflat_flat _) _)
  after_results
  rw [e]
  try rfl

end
end

theorem preserves : Cert.preserves_AdamKernel_AdamKernelIdeal :=
  ⟨IdealRules.named_const.statement Cert.AdamKernelIdeal.κ "inv_m" .f32 0x3FC48605#32 ((8388608 / 5463681 : ℝ) : EReal) rfl,
    IdealRules.named_const.statement Cert.AdamKernelIdeal.κ "inv_v" .f32 0x42C8E6D3#32 ((268435456 / 2672307 : ℝ) : EReal) rfl⟩

theorem algebraic : Cert.algebraic_AdamKernelIdeal_AdamRefIdeal := by
  pair_intro
  · run_from Cert.AdamKernelIdeal.Gen.run_main m g
    · exact Cert.AdamKernelIdeal.Gen.W_main_arg0 m _ c
    · exact Cert.AdamKernelIdeal.Gen.W_main_arg1 m _ c
    · exact Cert.AdamKernelIdeal.Gen.W_main_arg2 m _ c
    · exact Cert.AdamKernelIdeal.Gen.W_main_arg3 m _ c
  · refine (θ_run _ _ _).mono (fun r h c => ⟨(h c).1.trans ?_, (h c).2.1.trans ?_, (h c).2.2.1.trans ?_, (h c).2.2.2⟩) (Cert.AdamRefIdeal.Value.run m' g')
    · obtain ⟨h0, h1, h2, h3⟩ := hagree c
      funext y
      idx_vars y
      rw [tail_5, h0, h1, h2, h3]
      pointwise [de, mo, vo]
    · obtain ⟨h0, h1, h2, h3⟩ := hagree c
      funext y
      idx_vars y
      rw [tail_6, h1, h2]
      pointwise [mo]
    · obtain ⟨h0, h1, h2, h3⟩ := hagree c
      funext y
      idx_vars y
      rw [tail_7, h1, h3]
      pointwise [vo]

end Cert.Own.Adam

end
-- ==== Proof.HgvPay.lean ====
module

public import proofs.«01_k».proof.Proof.Lib
public import proofs.«01_k».proof.Proof.Gen.HgvKernelIdeal.Skeleton
public import Idealize.ShloMosaic.Lib.Pipeline.ValueKit
public import Idealize.ShloMosaic.Lib.Pointwise

/-! The running log-decays of one chunk of 64 rows: what the kernel stores for 256 columns. -/

@[expose] public section

set_option maxRecDepth 65536

noncomputable section

namespace Cert.Own.Hgv

open Idealize.ShloMosaic Idealize.ShloMosaic.TcCoe Idealize.SL.Sem
open Cert.HgvKernelIdeal Cert.HgvKernelIdeal.Gen

/-- One entry's log-decay, from its gate's preactivation and its lower bound. -/
def lf (z l : EReal) : EReal :=
  Ideal.log (max (l + (1 - l) * Ideal.logistic z) (Ideal.ofBits .f32 228737632#32))

theorem least : Ideal.ofBits .f32 228737632#32 = ((10633824 * (2 ^ 123)⁻¹ : ℝ) : EReal) := by
  simp [Ideal.ofBits, Ideal.ieee, -EReal.coe_mul]

/-- With a real bound the log-decay is a real number, whatever the preactivation. -/
theorem lf_real (z l : EReal) (hl : ∃ a : ℝ, l = (a : EReal)) : ∃ g : ℝ, lf z l = (g : EReal) := by
  obtain ⟨a, rfl⟩ := hl
  obtain ⟨b, hb⟩ := logistic_real z
  refine ⟨Real.log (max (a + (1 - a) * b) (10633824 * (2 ^ 123)⁻¹)), ?_⟩
  unfold lf
  rw [hb, least, ← EReal.coe_one, ← EReal.coe_sub, ← EReal.coe_mul, ← EReal.coe_add,
    ← (EReal.coe_strictMono.monotone.map_max : ((max _ _ : ℝ) : EReal) = max _ _), Ideal.log_coe, if_neg]
  exact not_le.mpr (lt_max_of_lt_right (by positivity))

theorem tri_int : ∀ r s : Fin 64, (BitVec.setWidth 32 (IntOp.cmpi CmpIPredicate.sle (BitVec.ofNat 32 s.val) (BitVec.ofNat 32 r.val))).toInt = if s.val ≤ r.val then 1 else 0 := by
  decide +kernel

/-- The triangle of ones. -/
theorem tri (r s : Fin 64) : k0_pay6 (F := Ideal) (ix2 r s) = if s.val ≤ r.val then 1 else 0 := by
  pointwise [k0_pay6]
  refine (congrArg (fun n : ℤ => ((n : ℝ) : EReal)) (tri_int r s)).trans ?_
  split_ifs <;> simp

/-- What the kernel stores for a chunk: each column's log-decays summed up to the row. -/
theorem pay (z : FVec Ideal S64x256 .f32) (l : FVec Ideal S1x256 .f32) (r : Fin 64) (k : Fin 256) (hl : ∃ a : ℝ, l (ix2 0 k) = (a : EReal)) :
    k0_pay11 (F := Ideal) k0_pay6 z l (ix2 r k) = ∑ s : Fin 64, if s.val ≤ r.val then lf (z (ix2 s k)) (l (ix2 0 k)) else 0 := by
  choose g hg using fun x : Fin 64 => lf_real (z (ix2 x k)) (l (ix2 0 k)) hl
  unfold lf at hg
  pointwise [k0_pay11, k0_pay8, half_tanh_bits]
  have n1 : ¬ 512 + k.val < 256 := by omega
  have n2 : ¬ 512 + k.val - 256 < 256 := by omega
  have ek (h) : (⟨512 + k.val - 256 - 256, h⟩ : Fin 256) = k := Fin.ext (by simp only; omega)
  simp only [n1, n2, dif_neg, not_false_eq_true, ek, hg, ← EReal.coe_sub, sub_self, EReal.coe_zero, sub_zero, mul_zero, Finset.sum_const_zero, add_zero]
  refine Finset.sum_congr rfl fun s _ => ?_
  rw [tri, lf, hg]
  split_ifs <;> simp

end Cert.Own.Hgv

end
-- ==== Proof.HgvKer.lean ====
module

public import proofs.«01_k».proof.Proof.Lib
public import proofs.«01_k».proof.Proof.HgvPay
public import proofs.«01_k».proof.Proof.Gen.HgvKernelIdeal.Value
public import Idealize.ShloMosaic.Lib.Pipeline.ValueKit
public import Idealize.ShloMosaic.Lib.Claim
public import Idealize.ShloMosaic.Lib.Pointwise

/-! The running log-decays, over the whole grid. -/

@[expose] public section

set_option maxRecDepth 65536

noncomputable section

namespace Cert.Own.Hgv

open Idealize.ShloMosaic Idealize.ShloMosaic.TcCoe Idealize.SL.Sem
open Cert.HgvKernelIdeal Cert.HgvKernelIdeal.Gen

theorem idx : ∀ t : Fin cfg0.N, win0_1.index t = ![t.val, 1] ∧ win0_4.index t = ![0, 0] ∧ win0_9.index t = ![t.val, 0] :=
  (by decide +kernel : ∀ t : Fin grid0.N, _)

section
variable (m : (ℓ : Loc nD τ sig) → Buf (Elt Ideal) ℓ) (c : Dev nD)

/-- The projections. -/
abbrev P : S16384x7680.Idx → EReal := m ((c.tc : Thread nD τ).loc main_arg0)
/-- The decay bounds. -/
abbrev B : S1x1024.Idx → EReal := m ((c.tc : Thread nD τ).loc main_arg1)

/-- The running log-decay of an entry: its chunk's log-decays up to its row. -/
def run (P : S16384x7680.Idx → EReal) (B : S1x1024.Idx → EReal) : S16384x1024.Idx → EReal := fun y =>
  ∑ s : Fin 64, if s.val ≤ (y 0).val % 64 then
    lf (P (ix2 (⟨64 * ((y 0).val / 64) + s.val, by have := (y 0).isLt; change (y 0).val < 16384 at this; omega⟩ : Fin 16384)
      (⟨1024 + (y 1).val, by have := (y 1).isLt; change (y 1).val < 1024 at this; omega⟩ : Fin 7680))) (B (ix2 0 (y 1))) else 0

theorem rd_z (t : Fin cfg0.N) (a : Fin 512) (b : Fin 1024) : X0_1 m c t (ix2 a b)
    = P m c (ix2 (⟨512 * t.val + a.val, by have : t.val < 32 := t.isLt; omega⟩ : Fin 16384) (⟨1024 + b.val, by omega⟩ : Fin 7680)) := by
  obtain ⟨e0, e1, e2⟩ := idx t
  unfold X0_1 Pipeline.Window.fill
  rw [dif_pos (moved0_1 t _)]
  unfold iblk
  have e : V m c main_arg0 = P m c := rfl
  generalize V m c main_arg0 = X at e
  subst e
  blk_ext [e0]

theorem rd_l (t : Fin cfg0.N) (b : Fin 1024) : iblk m c 4 t (ix2 0 b) = B m c (ix2 0 b) := by
  obtain ⟨e0, e1, e2⟩ := idx t
  unfold iblk
  have e : V m c main_arg1 = B m c := rfl
  generalize V m c main_arg1 = X at e
  subst e
  blk_ext [e1]

theorem tile (t : Fin cfg0.N) (hB : ∀ b, ∃ a : ℝ, B m c (ix2 0 b) = (a : EReal)) (r k : ℕ) (x : S64x256.Idx) (inb) (inb') (i j : ℕ) (hi : 512 * t.val + i < 16384) (hj : j < 1024)
    (ei : i = r + (x 0).val) (ej : j = k + (x 1).val) (hr : r % 64 = 0) (hr' : r ≤ 448) :
    k0_pay11 (F := Ideal) k0_pay6 (View.ld (X0_1 m c t) (Rect.unit (s := S512x1024) ![r, k] ![64, 256] inb)) (View.ld (iblk m c 4 t) (Rect.unit (s := S1x1024) ![0, k] ![1, 256] inb')) x
      = run (P m c) (B m c) (ix2 (⟨512 * t.val + i, hi⟩ : Fin 16384) (⟨j, hj⟩ : Fin 1024)) := by
  subst ei ej
  have x0 : (x 0).val < 64 := (x 0).isLt
  have x1 : (x 1).val < 256 := (x 1).isLt
  have hk : k + 256 ≤ 1024 := inb 1
  have el : View.ld (iblk m c 4 t) (Rect.unit (s := S1x1024) ![0, k] ![1, 256] inb') (ix2 0 (x 1)) = B m c (ix2 0 (⟨k + (x 1).val, hj⟩ : Fin 1024)) := by
    refine (congrArg (iblk m c 4 t) ?_).trans (rd_l m c t ⟨k + (x 1).val, hj⟩)
    funext b; fin_cases b <;> apply Fin.ext <;> simp [Rect.unit]
  have ez (s : Fin 64) : View.ld (X0_1 m c t) (Rect.unit (s := S512x1024) ![r, k] ![64, 256] inb) (ix2 s (x 1))
      = P m c (ix2 (⟨512 * t.val + (r + s.val), by omega⟩ : Fin 16384) (⟨1024 + (k + (x 1).val), by omega⟩ : Fin 7680)) := by
    refine (congrArg (X0_1 m c t) ?_).trans (rd_z m c t ⟨r + s.val, by omega⟩ ⟨k + (x 1).val, hj⟩)
    funext b; fin_cases b <;> apply Fin.ext <;> simp [Rect.unit]
  refine (congrArg _ (eq_ix2 x)).trans ((pay _ _ (x 0) (x 1) (by rw [el]; exact hB _)).trans ?_)
  rw [el]
  refine Finset.sum_congr rfl fun s _ => ?_
  rw [ez s]
  have e1 : (512 * t.val + (r + (x 0).val)) % 64 = (x 0).val := by omega
  have e2 : 64 * ((512 * t.val + (r + (x 0).val)) / 64) + s.val = 512 * t.val + (r + s.val) := by omega
  change _ = if s.val ≤ (512 * t.val + (r + (x 0).val)) % 64 then
    lf (P m c (ix2 (⟨64 * ((512 * t.val + (r + (x 0).val)) / 64) + s.val, by omega⟩ : Fin 16384) (⟨1024 + (k + (x 1).val), by omega⟩ : Fin 7680)))
      (B m c (ix2 0 (⟨k + (x 1).val, hj⟩ : Fin 1024))) else 0
  simp only [e1, e2]

set_option backward.isDefEq.respectTransparency false in
theorem final9 (hB : ∀ b, ∃ a : ℝ, B m c (ix2 0 b) = (a : EReal)) : (dats m 0 c).arrAt 9 cfg0.N = run (P m c) (B m c) := by
  refine (dats m 0 c).arrAt_eq_of_covers 9 _ (by decide +kernel) fun t hf y => ?_
  obtain ⟨e0, e1, e2⟩ := idx t
  have ht : t.val < 32 := t.isLt
  have ey : (win0_9.blk t).view.emb y
      = ix2 (⟨512 * t.val + (y 0).val, by have := (y 0).isLt; change (y 0).val < 512 at this; omega⟩ : Fin 16384)
          (⟨(y 1).val, by have := (y 1).isLt; change (y 1).val < 1024 at this; omega⟩ : Fin 1024) := by
    blk_ext [e2]
  blk_simp
  rw [ey, after0_9]
  by_cases h0 : t.val % 32 = 0
  · rw [outsAt0_A m c t h0]
    unfold out0_A_9
    frame_out
    canon_tiles x h
    · exact tile m c t hB 448 768 x _ _ _ _ _ _ (by omega) (by omega) (by omega) (by omega)
    · exact tile m c t hB 448 512 x _ _ _ _ _ _ (by omega) (by omega) (by omega) (by omega)
    · exact tile m c t hB 448 256 x _ _ _ _ _ _ (by omega) (by omega) (by omega) (by omega)
    · exact tile m c t hB 448 0 x _ _ _ _ _ _ (by omega) (by omega) (by omega) (by omega)
    · exact tile m c t hB 384 768 x _ _ _ _ _ _ (by omega) (by omega) (by omega) (by omega)
    · exact tile m c t hB 384 512 x _ _ _ _ _ _ (by omega) (by omega) (by omega) (by omega)
    · exact tile m c t hB 384 256 x _ _ _ _ _ _ (by omega) (by omega) (by omega) (by omega)
    · exact tile m c t hB 384 0 x _ _ _ _ _ _ (by omega) (by omega) (by omega) (by omega)
    · exact tile m c t hB 320 768 x _ _ _ _ _ _ (by omega) (by omega) (by omega) (by omega)
    · exact tile m c t hB 320 512 x _ _ _ _ _ _ (by omega) (by omega) (by omega) (by omega)
    · exact tile m c t hB 320 256 x _ _ _ _ _ _ (by omega) (by omega) (by omega) (by omega)
    · exact tile m c t hB 320 0 x _ _ _ _ _ _ (by omega) (by omega) (by omega) (by omega)
    · exact tile m c t hB 256 768 x _ _ _ _ _ _ (by omega) (by omega) (by omega) (by omega)
    · exact tile m c t hB 256 512 x _ _ _ _ _ _ (by omega) (by omega) (by omega) (by omega)
    · exact tile m c t hB 256 256 x _ _ _ _ _ _ (by omega) (by omega) (by omega) (by omega)
    · exact tile m c t hB 256 0 x _ _ _ _ _ _ (by omega) (by omega) (by omega) (by omega)
    · exact tile m c t hB 192 768 x _ _ _ _ _ _ (by omega) (by omega) (by omega) (by omega)
    · exact tile m c t hB 192 512 x _ _ _ _ _ _ (by omega) (by omega) (by omega) (by omega)
    · exact tile m c t hB 192 256 x _ _ _ _ _ _ (by omega) (by omega) (by omega) (by omega)
    · exact tile m c t hB 192 0 x _ _ _ _ _ _ (by omega) (by omega) (by omega) (by omega)
    · exact tile m c t hB 128 768 x _ _ _ _ _ _ (by omega) (by omega) (by omega) (by omega)
    · exact tile m c t hB 128 512 x _ _ _ _ _ _ (by omega) (by omega) (by omega) (by omega)
    · exact tile m c t hB 128 256 x _ _ _ _ _ _ (by omega) (by omega) (by omega) (by omega)
    · exact tile m c t hB 128 0 x _ _ _ _ _ _ (by omega) (by omega) (by omega) (by omega)
    · exact tile m c t hB 64 768 x _ _ _ _ _ _ (by omega) (by omega) (by omega) (by omega)
    · exact tile m c t hB 64 512 x _ _ _ _ _ _ (by omega) (by omega) (by omega) (by omega)
    · exact tile m c t hB 64 256 x _ _ _ _ _ _ (by omega) (by omega) (by omega) (by omega)
    · exact tile m c t hB 64 0 x _ _ _ _ _ _ (by omega) (by omega) (by omega) (by omega)
    · exact tile m c t hB 0 768 x _ _ _ _ _ _ (by omega) (by omega) (by omega) (by omega)
    · exact tile m c t hB 0 512 x _ _ _ _ _ _ (by omega) (by omega) (by omega) (by omega)
    · exact tile m c t hB 0 256 x _ _ _ _ _ _ (by omega) (by omega) (by omega) (by omega)
    · exact tile m c t hB 0 0 x _ _ _ _ _ _ (by omega) (by omega) (by omega) (by omega)
  · rw [outsAt0_B m c t h0]
    unfold out0_B_9
    frame_out
    canon_tiles x h
    · exact tile m c t hB 448 768 x _ _ _ _ _ _ (by omega) (by omega) (by omega) (by omega)
    · exact tile m c t hB 448 512 x _ _ _ _ _ _ (by omega) (by omega) (by omega) (by omega)
    · exact tile m c t hB 448 256 x _ _ _ _ _ _ (by omega) (by omega) (by omega) (by omega)
    · exact tile m c t hB 448 0 x _ _ _ _ _ _ (by omega) (by omega) (by omega) (by omega)
    · exact tile m c t hB 384 768 x _ _ _ _ _ _ (by omega) (by omega) (by omega) (by omega)
    · exact tile m c t hB 384 512 x _ _ _ _ _ _ (by omega) (by omega) (by omega) (by omega)
    · exact tile m c t hB 384 256 x _ _ _ _ _ _ (by omega) (by omega) (by omega) (by omega)
    · exact tile m c t hB 384 0 x _ _ _ _ _ _ (by omega) (by omega) (by omega) (by omega)
    · exact tile m c t hB 320 768 x _ _ _ _ _ _ (by omega) (by omega) (by omega) (by omega)
    · exact tile m c t hB 320 512 x _ _ _ _ _ _ (by omega) (by omega) (by omega) (by omega)
    · exact tile m c t hB 320 256 x _ _ _ _ _ _ (by omega) (by omega) (by omega) (by omega)
    · exact tile m c t hB 320 0 x _ _ _ _ _ _ (by omega) (by omega) (by omega) (by omega)
    · exact tile m c t hB 256 768 x _ _ _ _ _ _ (by omega) (by omega) (by omega) (by omega)
    · exact tile m c t hB 256 512 x _ _ _ _ _ _ (by omega) (by omega) (by omega) (by omega)
    · exact tile m c t hB 256 256 x _ _ _ _ _ _ (by omega) (by omega) (by omega) (by omega)
    · exact tile m c t hB 256 0 x _ _ _ _ _ _ (by omega) (by omega) (by omega) (by omega)
    · exact tile m c t hB 192 768 x _ _ _ _ _ _ (by omega) (by omega) (by omega) (by omega)
    · exact tile m c t hB 192 512 x _ _ _ _ _ _ (by omega) (by omega) (by omega) (by omega)
    · exact tile m c t hB 192 256 x _ _ _ _ _ _ (by omega) (by omega) (by omega) (by omega)
    · exact tile m c t hB 192 0 x _ _ _ _ _ _ (by omega) (by omega) (by omega) (by omega)
    · exact tile m c t hB 128 768 x _ _ _ _ _ _ (by omega) (by omega) (by omega) (by omega)
    · exact tile m c t hB 128 512 x _ _ _ _ _ _ (by omega) (by omega) (by omega) (by omega)
    · exact tile m c t hB 128 256 x _ _ _ _ _ _ (by omega) (by omega) (by omega) (by omega)
    · exact tile m c t hB 128 0 x _ _ _ _ _ _ (by omega) (by omega) (by omega) (by omega)
    · exact tile m c t hB 64 768 x _ _ _ _ _ _ (by omega) (by omega) (by omega) (by omega)
    · exact tile m c t hB 64 512 x _ _ _ _ _ _ (by omega) (by omega) (by omega) (by omega)
    · exact tile m c t hB 64 256 x _ _ _ _ _ _ (by omega) (by omega) (by omega) (by omega)
    · exact tile m c t hB 64 0 x _ _ _ _ _ _ (by omega) (by omega) (by omega) (by omega)
    · exact tile m c t hB 0 768 x _ _ _ _ _ _ (by omega) (by omega) (by omega) (by omega)
    · exact tile m c t hB 0 512 x _ _ _ _ _ _ (by omega) (by omega) (by omega) (by omega)
    · exact tile m c t hB 0 256 x _ _ _ _ _ _ (by omega) (by omega) (by omega) (by omega)
    · exact tile m c t hB 0 0 x _ _ _ _ _ _ (by omega) (by omega) (by omega) (by omega)

end

end Cert.Own.Hgv

end
-- ==== Proof.Hgv.lean ====
module

public import proofs.«01_k».proof.Defs
public import proofs.«01_k».proof.Proof.HgvKer
public import proofs.«01_k».proof.Proof.Gen.HgvRefIdeal.Run
public import proofs.«01_k».proof.Proof.Gen.Pre_hgv_finite
public import Idealize.ShloMosaic.Lib.Claim
public import Idealize.ShloMosaic.Lib.Pointwise

/-! The recurrence's running log-decays: the kernel's, chunk by chunk, are the reference's. -/

@[expose] public section

set_option maxRecDepth 65536

noncomputable section

namespace Cert.Own.Hgv

open Idealize.ShloMosaic Idealize.ShloMosaic.TcCoe Idealize.SL.Sem

section
open Cert.HgvRefIdeal Cert.HgvRefIdeal.Gen

/-- The window's positions, in order. -/
theorem win_pos : ∀ n : Fin 64, ∀ b : Fin 5, ((⟨5, ![1, 1, 1, 64, 1]⟩ : Shape).rowMajor.symm n b).val = (![0, 0, 0, n.val, 0] : Fin 5 → ℕ) b := by
  decide +kernel

/-- A fold that adds is a sum. -/
theorem fold_sum (q : Fin 64 → EReal) : List.foldl (fun r n => r + q n) 0 (List.finRange 64) = ∑ n, q n := by
  rw [Fin.sum_univ_def, List.sum_eq_foldl, List.foldl_map]

/-- A window that ends at a row, counted from the first row instead. -/
theorem shift (t : Fin 64) (x : Fin 64 → EReal) :
    (∑ n : Fin 64, if h : 63 ≤ t.val + n.val ∧ t.val + n.val - 63 < 64 then x ⟨t.val + n.val - 63, h.2⟩ else 0)
      = ∑ s : Fin 64, if s.val ≤ t.val then x s else 0 := by
  refine Eq.trans ?_ (Equiv.sum_comp (Equiv.addRight (t + 1)) (fun s : Fin 64 => if s.val ≤ t.val then x s else 0))
  refine Finset.sum_congr rfl fun n _ => ?_
  have e : (Equiv.addRight (t + 1) n).val = (n.val + (t.val + 1) % 64) % 64 := by
    simp [Fin.val_add, add_assoc]
  have ht := t.isLt
  have hn := n.isLt
  by_cases h : 63 ≤ t.val + n.val
  · rw [dif_pos ⟨h, by omega⟩, if_pos (by rw [e]; omega)]
    exact congrArg x (Fin.ext (by rw [e]; simp only; omega))
  · rw [dif_neg (fun h' => h h'.1), if_neg (by rw [e]; omega)]

/-- The running sum: the rows of a chunk up to a row. -/
theorem running (x : S256x1x8x64x128.Idx → EReal) (z : S_.Idx → EReal) (hz : z = fun _ => 0) (a : Fin 256) (p : Fin 8) (t : Fin 64) (k : Fin 128) (h) (hu : 0 < S_.numel) :
    Host.reduceWindowAdd (F := Ideal) (φ := .f32) (s := S256x1x8x64x128) (t := S256x1x8x64x128) ![1, 1, 1, 64, 1] ![1, 1, 1, 1, 1] ![0, 0, 0, 63, 0] ![0, 0, 0, 0, 0] x z h hu (ix5 a 0 p t k)
      = ∑ s : Fin 64, if s.val ≤ t.val then x (ix5 a 0 p s k) else 0 := by
  subst hz
  change Host.reduceWindow (· + ·) _ _ _ _ x _ h _ (ix5 a 0 p t k) = _
  unfold Host.reduceWindow
  change List.foldl _ _ (List.finRange 64) = _
  have f (n : Fin 64) : ∀ (q : Fin 5 → ℕ) (hq : q = ![a.val, 0, p.val, t.val + n.val, k.val]) (D : Decidable (∀ b : Fin 5, (![0, 0, 0, 63, 0] : Fin 5 → ℕ) b ≤ q b ∧ q b - (![0, 0, 0, 63, 0] : Fin 5 → ℕ) b < S256x1x8x64x128.size b)), (if hin : ∀ b : Fin 5, (![0, 0, 0, 63, 0] : Fin 5 → ℕ) b ≤ q b ∧ q b - (![0, 0, 0, 63, 0] : Fin 5 → ℕ) b < S256x1x8x64x128.size b then x (fun b => ⟨q b - (![0, 0, 0, 63, 0] : Fin 5 → ℕ) b, (hin b).2⟩) else (0 : EReal))
      = if h : 63 ≤ t.val + n.val ∧ t.val + n.val - 63 < 64 then x (ix5 a 0 p (⟨t.val + n.val - 63, h.2⟩ : Fin 64) k) else 0 := by
    rintro q rfl D
    by_cases hj : 63 ≤ t.val + n.val ∧ t.val + n.val - 63 < 64
    · rw [dif_pos hj, dif_pos]
      · refine congrArg x ?_; funext b; fin_cases b <;> rfl
      · intro b; fin_cases b
        · exact ⟨Nat.zero_le _, a.isLt⟩
        · exact ⟨Nat.zero_le _, Nat.one_pos⟩
        · exact ⟨Nat.zero_le _, p.isLt⟩
        · exact hj
        · exact ⟨Nat.zero_le _, k.isLt⟩
    · rw [dif_neg hj, dif_neg]
      exact fun hin => hj (hin 3)
  have w (n : Fin 64) : (fun b : Fin 5 => (ix5 a (0 : Fin 1) p t k b).val * (![1, 1, 1, 1, 1] : Fin 5 → ℕ) b + ((⟨5, ![1, 1, 1, 64, 1]⟩ : Shape).rowMajor.symm n b).val) = ![a.val, 0, p.val, t.val + n.val, k.val] := by
    funext b
    rw [win_pos n b]
    fin_cases b <;> simp [ix5]
  refine (fold_sum (fun n => _)).trans ((Finset.sum_congr rfl fun n _ => f n _ (w n) _).trans ?_)
  exact shift t (fun s => x (ix5 a 0 p s k))

/-- Which entry a chunk's row is. -/
theorem chunk (x : S1x16384x8x128.Idx → EReal) (a : Fin 256) (p : Fin 8) (t : Fin 64) (k : Fin 128) :
    transpose (α := EReal) S256x1x8x64x128 [1, 0, 3, 2, 4] (shapeCast S1x256x64x8x128 x shapeCasts_S1x16384x8x128_S1x256x64x8x128)
      transposes_S1x256x64x8x128_S256x1x8x64x128_1_0_3_2_4 (ix5 a 0 p t k) = x (ix4 0 (⟨64 * a.val + t.val, by omega⟩ : Fin 16384) p k) := by
  pointwise
  exact congrArg x (congr (congr (congrArg (ix4 0) (Fin.ext (by simp only; omega))) rfl) rfl)

/-- A row's log-decays, as the reference computes them. -/
theorem logs (X : Vec Ideal S16384x7680 .f32) (Y : Vec Ideal S1x1024 .f32) (i : Fin 16384) (p : Fin 8) (k : Fin 128) :
    Host.log (F := Ideal) (φ := .f32) (maximumf (addf (broadcastInDim S1x16384x8x128 ![0, 1, 2, 3] bcast_S1x1x8x128_S1x16384x8x128_0_1_2_3 (broadcastInDim S1x1x8x128 ![2, 3] bcast_S8x128_S1x1x8x128_2_3 (shapeCast _ Y shapeCasts_S1x1024_S8x128))) (mulf (broadcastInDim S1x16384x8x128 ![0, 1, 2, 3] bcast_S1x1x8x128_S1x16384x8x128_0_1_2_3 (broadcastInDim S1x1x8x128 ![2, 3] bcast_S8x128_S1x1x8x128_2_3 (subf (broadcastInDim S8x128 ![] bcast_S_S8x128 (constant S_ .f32 0x3F800000#32)) (shapeCast _ Y shapeCasts_S1x1024_S8x128)))) (Host.divf (broadcastInDim S1x16384x8x128 ![] bcast_S_S1x16384x8x128 (constant S_ .f32 0x3F800000#32)) (addf (broadcastInDim S1x16384x8x128 ![] bcast_S_S1x16384x8x128 (constant S_ .f32 0x3F800000#32)) (Host.exp (Host.negf (shapeCast _ (extractStridedSlice S16384x1024 ![0, 1024] X slices_S16384x7680_S16384x1024_0_1024) shapeCasts_S16384x1024_S1x16384x8x128))))))) (broadcastInDim S1x16384x8x128 ![] bcast_S_S1x16384x8x128 (constant S_ .f32 0x0DA24260#32))) (ix4 0 i p k) = lf (X (ix2 i (⟨1024 + (128 * p.val + k.val), by omega⟩ : Fin 7680))) (Y (ix2 0 (⟨128 * p.val + k.val, by omega⟩ : Fin 1024))) := by
  pointwise [lf]
  simp only [div_logistic, Nat.mul_comm p.val 128]

end

theorem algebraic : Cert.algebraic_HgvKernelIdeal_HgvRefIdeal_pre_hgv_finite := by
  pair_intro
  · run_from Cert.HgvKernelIdeal.Value.run m g
  · refine (θ_run _ _ _).mono (fun r h c => ⟨(h c).1.trans ?_, (h c).2⟩) (Cert.HgvRefIdeal.Value.run m' g')
    clear h
    obtain ⟨a0, a1, a2⟩ := hagree c
    have pl (k : Fin 1024) : ∃ r : ℝ, m (c.tc.loc Cert.HgvKernelIdeal.main_arg1) (ix2 0 k) = (r : EReal) := by
      have := congrFun (hpre c) (ix2 0 k)
      revert this
      pointwise [Cert.Pre_hgv_finite.fn]
      exact real_of_test
    refine Eq.trans ?_ ((final9 m c pl).symm.trans (Cert.HgvKernelIdeal.Value.final9 m c))
    rw [a0, a1]
    clear a0 a1 a2 hpre hagree pl
    unfold P B
    generalize m (c.tc.loc Cert.HgvKernelIdeal.main_arg0) = X
    generalize m (c.tc.loc Cert.HgvKernelIdeal.main_arg1) = Y
    funext y
    idx_vars y
    have h0 := y0.isLt
    have h1 := y1.isLt
    pointwise
    refine (running _ _ (by funext j; pointwise) _ _ _ _ _ _).trans ?_
    refine Finset.sum_congr rfl fun s _ => ?_
    refine if_congr Iff.rfl ?_ rfl
    refine (chunk _ _ _ _ _).trans ((logs X Y _ _ _).trans ?_)
    have e : 128 * (y1.val / 128) + y1.val % 128 = y1.val := by omega
    change lf (X (ix2 (⟨64 * (y0.val / 64) + s.val, by omega⟩ : Fin 16384) (⟨1024 + (128 * (y1.val / 128) + y1.val % 128), by omega⟩ : Fin 7680)))
      (Y (ix2 0 (⟨128 * (y1.val / 128) + y1.val % 128, by omega⟩ : Fin 1024))) = lf (X (ix2 (⟨64 * (y0.val / 64) + s.val, by omega⟩ : Fin 16384) (⟨1024 + y1.val, by omega⟩ : Fin 7680))) (Y (ix2 0 y1))
    simp only [e]

end Cert.Own.Hgv

end
-- ==== Proof.HgsPay.lean ====
module

public import proofs.«01_k».proof.Proof.Lib
public import proofs.«01_k».proof.Proof.HgvPay
public import proofs.«01_k».proof.Proof.Gen.HgsKernelIdeal.Skeleton
public import Idealize.ShloMosaic.Lib.Pipeline.ValueKit
public import Idealize.ShloMosaic.Lib.Pointwise

/-! The recurrence's state over one chunk of 64 rows: what the kernel makes of two heads' states. -/

@[expose] public section

set_option maxRecDepth 65536

noncomputable section

namespace Cert.Own.Hgs

open Idealize.ShloMosaic Idealize.ShloMosaic.TcCoe Idealize.SL.Sem
open Cert.HgsKernelIdeal Cert.HgsKernelIdeal.Gen
open Cert.Own.Hgv (lf lf_real)

theorem upper : ∀ a : Fin 256, IntOp.cmpi CmpIPredicate.sge (BitVec.ofNat 32 a.val) 128#32 = if 128 ≤ a.val then 1#1 else 0#1 := by
  decide +kernel

/-- Which pairs of columns belong to one head. -/
theorem same (a b : Fin 256) : k0_pay5 (ix2 a b) = if a.val / 128 = b.val / 128 then 1#1 else 0#1 := by
  pointwise [k0_pay5]
  change IntOp.xori (IntOp.xori (IntOp.cmpi CmpIPredicate.sge (BitVec.ofNat 32 a.val) 128#32) (IntOp.cmpi CmpIPredicate.sge (BitVec.ofNat 32 b.val) 128#32)) 1#1 = _
  rw [upper, upper]
  by_cases ha : 128 ≤ a.val <;> by_cases hb : 128 ≤ b.val
  · rw [if_pos ha, if_pos hb, if_pos (by omega)]; rfl
  · rw [if_pos ha, if_neg hb, if_neg (by omega)]; rfl
  · rw [if_neg ha, if_pos hb, if_neg (by omega)]; rfl
  · rw [if_neg ha, if_neg hb, if_pos (by omega)]; rfl

/-- One chunk's step of two heads' states. -/
theorem upd (z : FVec Ideal S64x256 .f32) (l : FVec Ideal S1x256 .f32) (B : FVec Ideal S64x256 .f32) (bc : FVec Ideal S1x256 .f32)
    (st : FVec Ideal S1x256x256 .f32) (v : FVec Ideal S64x256 .f32) (a b : Fin 256) :
    k0_pay24 (F := Ideal) k0_pay5 (k0_pay10 z l) (k0_pay12 B) (k0_pay14 bc) (k0_pay16 st) (k0_pay19 v) (ix3 0 a b)
      = st (ix3 0 a b) * Ideal.exp (bc (ix2 0 b))
        + if a.val / 128 = b.val / 128 then
            ∑ s : Fin 64, v (ix2 s a) * ((1 - (l (ix2 0 b) + (1 - l (ix2 0 b)) * Ideal.logistic (z (ix2 s b)))) * Ideal.exp (bc (ix2 0 b) - B (ix2 s b)))
          else 0 := by
  pointwise [k0_pay24, k0_pay10, k0_pay8, k0_pay12, k0_pay14, k0_pay16, k0_pay19, half_tanh_bits]
  rw [same]
  split_ifs <;> rfl

/-- What the kernel stores of a chunk's running log-decays. -/
theorem pay (z : FVec Ideal S64x256 .f32) (l : FVec Ideal S1x256 .f32) (r : Fin 64) (k : Fin 256) (hl : ∃ a : ℝ, l (ix2 0 k) = (a : EReal)) :
    k0_pay11 (F := Ideal) k0_pay6 z l (ix2 r k) = ∑ s : Fin 64, if s.val ≤ r.val then lf (z (ix2 s k)) (l (ix2 0 k)) else 0 :=
  Cert.Own.Hgv.pay z l r k hl

/-- The state of one head in two heads' states. -/
theorem lower_half (st : FVec Ideal S1x256x256 .f32) (a b : Fin 128) :
    k0_pay17 (F := Ideal) st (ix4 0 0 a b) = st (ix3 0 (⟨a.val, by omega⟩ : Fin 256) (⟨b.val, by omega⟩ : Fin 256)) := by
  pointwise [k0_pay17, k0_pay16]

theorem upper_half (st : FVec Ideal S1x256x256 .f32) (a b : Fin 128) :
    k0_pay18 (F := Ideal) st (ix4 0 0 a b) = st (ix3 0 (⟨128 + a.val, by omega⟩ : Fin 256) (⟨128 + b.val, by omega⟩ : Fin 256)) := by
  pointwise [k0_pay18, k0_pay16]

/-- An entry of the projections, by its row and column. -/
def at2 (P : S16384x7680.Idx → EReal) (i j : ℕ) : EReal := if h : i < 16384 ∧ j < 7680 then P (ix2 ⟨i, h.1⟩ ⟨j, h.2⟩) else 0
/-- A decay bound, by its column. -/
def at1 (B : S1x1024.Idx → EReal) (j : ℕ) : EReal := if h : j < 1024 then B (ix2 0 ⟨j, h⟩) else 0

section
variable (P : S16384x7680.Idx → EReal) (B : S1x1024.Idx → EReal)

/-- A chunk's running log-decay at one of its rows. -/
def R (n s j : ℕ) : EReal := ∑ i : Fin 64, if i.val ≤ s then lf (at2 P (64 * n + i.val) (1024 + j)) (at1 B j) else 0
/-- What a row lets in. -/
def K (i j : ℕ) : EReal := 1 - (at1 B j + (1 - at1 B j) * Ideal.logistic (at2 P i (1024 + j)))
/-- The state at a chunk's start, for a value's column and a key's. -/
def S : ℕ → ℕ → ℕ → EReal
  | 0, _, _ => 0
  | n + 1, i, j => S n i j * Ideal.exp (R P B n 63 j)
      + ∑ s : Fin 64, at2 P (64 * n + s.val) (2048 + i) * (K P B (64 * n + s.val) j * Ideal.exp (R P B n 63 j - R P B n s.val j))
/-- Two heads' states as the kernel keeps them, with zeros between the heads. -/
def T (n q a b : ℕ) : EReal := if a / 128 = b / 128 then S P B n (256 * q + a) (256 * q + b) else 0

/-- That an array is two heads' states at a chunk's start. -/
def Is (n q : ℕ) (w : S1x256x256.Idx → EReal) : Prop := ∀ a b : Fin 256, w (ix3 0 a b) = T P B n q a.val b.val

theorem step (n q : ℕ) (z : FVec Ideal S64x256 .f32) (l : FVec Ideal S1x256 .f32) (b : FVec Ideal S64x256 .f32) (bc : FVec Ideal S1x256 .f32)
    (st : FVec Ideal S1x256x256 .f32) (v : FVec Ideal S64x256 .f32)
    (hz : ∀ (s : Fin 64) (k : Fin 256), z (ix2 s k) = at2 P (64 * n + s.val) (1024 + (256 * q + k.val)))
    (hv : ∀ (s : Fin 64) (k : Fin 256), v (ix2 s k) = at2 P (64 * n + s.val) (2048 + (256 * q + k.val)))
    (hl : ∀ k : Fin 256, l (ix2 0 k) = at1 B (256 * q + k.val))
    (hb : ∀ (s : Fin 64) (k : Fin 256), b (ix2 s k) = R P B n s.val (256 * q + k.val))
    (hbc : ∀ k : Fin 256, bc (ix2 0 k) = R P B n 63 (256 * q + k.val))
    (hst : Is P B n q st) :
    Is P B (n + 1) q (k0_pay24 (F := Ideal) k0_pay5 (k0_pay10 z l) (k0_pay12 b) (k0_pay14 bc) (k0_pay16 st) (k0_pay19 v)) := by
  intro x y
  rw [upd, hst]
  simp only [hz, hv, hl, hb, hbc, T]
  split_ifs
  · rfl
  · rw [zero_mul, add_zero]

end

end Cert.Own.Hgs

end
-- ==== Proof.HgsKer.lean ====
module

public import proofs.«01_k».proof.Proof.Lib
public import proofs.«01_k».proof.Proof.HgsPay
public import proofs.«01_k».proof.Proof.Gen.HgsKernelIdeal.Value
public import Idealize.ShloMosaic.Lib.Pipeline.ValueKit
public import Idealize.ShloMosaic.Lib.Claim
public import Idealize.ShloMosaic.Lib.Pipeline.ReadBack
public import Idealize.ShloMosaic.Lib.Pointwise

/-! The states at the chunks' starts, over the whole grid. -/

@[expose] public section

set_option maxRecDepth 65536

noncomputable section

namespace Cert.Own.Hgs

open Idealize.ShloMosaic Idealize.ShloMosaic.TcCoe Idealize.SL.Sem
open Cert.HgsKernelIdeal Cert.HgsKernelIdeal.Gen

theorem idx : ∀ t : Fin cfg0.N, win0_1.index t = ![t.val, 1] ∧ win0_2.index t = ![t.val, 2] ∧ win0_4.index t = ![0, 0] ∧ win0_8.index t = ![t.val, 0, 0, 0] :=
  (by decide +kernel : ∀ t : Fin grid0.N, _)

/-- Two heads' states among all, and a read of them after writes of others. -/
abbrev at4 (q : ℕ) (h : ∀ a, (![q, 0, 0] : Fin 3 → ℕ) a + (![1, 256, 256] : Fin 3 → ℕ) a ≤ S4x256x256.size a) : Rect S4x256x256 := Rect.unit (s := S4x256x256) ![q, 0, 0] ![1, 256, 256] h

section
variable (m : (ℓ : Loc nD τ sig) → Buf (Elt Ideal) ℓ) (c : Dev nD)

/-- The projections. -/
abbrev A0 : S16384x7680.Idx → EReal := m ((c.tc : Thread nD τ).loc main_arg0)
/-- The decay bounds. -/
abbrev A1 : S1x1024.Idx → EReal := m ((c.tc : Thread nD τ).loc main_arg1)

theorem rd_z (t : Fin cfg0.N) (a : Fin 512) (b : Fin 1024) : X0_1 m c t (ix2 a b)
    = at2 (A0 m c) (512 * t.val + a.val) (1024 + b.val) := by
  have ht : t.val < 32 := t.isLt
  obtain ⟨e0, -⟩ := idx t
  rw [at2, dif_pos ⟨by omega, by omega⟩]
  unfold X0_1 Pipeline.Window.fill
  rw [dif_pos (moved0_1 t _)]
  unfold iblk
  have e : V m c main_arg0 = A0 m c := rfl
  generalize V m c main_arg0 = X at e
  subst e
  blk_ext [e0]

theorem rd_v (t : Fin cfg0.N) (a : Fin 512) (b : Fin 1024) : X0_2 m c t (ix2 a b)
    = at2 (A0 m c) (512 * t.val + a.val) (2048 + b.val) := by
  have ht : t.val < 32 := t.isLt
  obtain ⟨-, e0, -⟩ := idx t
  rw [at2, dif_pos ⟨by omega, by omega⟩]
  unfold X0_2 Pipeline.Window.fill
  rw [dif_pos (moved0_2 t _)]
  unfold iblk
  have e : V m c main_arg0 = A0 m c := rfl
  generalize V m c main_arg0 = X at e
  subst e
  blk_ext [e0]

theorem rd_l (t : Fin cfg0.N) (b : Fin 1024) : iblk m c 4 t (ix2 0 b) = at1 (A1 m c) b.val := by
  obtain ⟨-, -, e1, -⟩ := idx t
  rw [at1, dif_pos b.isLt]
  unfold iblk
  have e : V m c main_arg1 = A1 m c := rfl
  generalize V m c main_arg1 = X at e
  subst e
  blk_ext [e1]

section
variable (t : Fin cfg0.N) (hB : ∀ b, ∃ a : ℝ, A1 m c (ix2 0 b) = (a : EReal))
  (n q r k : ℕ) (en : 64 * n = 512 * t.val + r) (ek : k = 256 * q)
  (inb : ∀ a, (![r, k] : Fin 2 → ℕ) a + (![64, 256] : Fin 2 → ℕ) a ≤ S512x1024.size a)
  (inl : ∀ a, (![0, k] : Fin 2 → ℕ) a + (![1, 256] : Fin 2 → ℕ) a ≤ S1x1024.size a)
include en ek

theorem ld_z (s : Fin 64) (j : Fin 256) : View.ld (X0_1 m c t) (Rect.unit (s := S512x1024) ![r, k] ![64, 256] inb) (ix2 s j)
    = at2 (A0 m c) (64 * n + s.val) (1024 + (256 * q + j.val)) := by
  have h0 : r + 64 ≤ 512 := inb 0
  have h1 : k + 256 ≤ 1024 := inb 1
  refine (congrArg (X0_1 m c t) ?_).trans ((rd_z m c t ⟨r + s.val, by omega⟩ ⟨k + j.val, by omega⟩).trans ?_)
  · funext b; fin_cases b <;> apply Fin.ext <;> simp [Rect.unit]
  · rw [en, ← ek, Nat.add_assoc]

theorem ld_v (s : Fin 64) (j : Fin 256) : View.ld (X0_2 m c t) (Rect.unit (s := S512x1024) ![r, k] ![64, 256] inb) (ix2 s j)
    = at2 (A0 m c) (64 * n + s.val) (2048 + (256 * q + j.val)) := by
  have h0 : r + 64 ≤ 512 := inb 0
  have h1 : k + 256 ≤ 1024 := inb 1
  refine (congrArg (X0_2 m c t) ?_).trans ((rd_v m c t ⟨r + s.val, by omega⟩ ⟨k + j.val, by omega⟩).trans ?_)
  · funext b; fin_cases b <;> apply Fin.ext <;> simp [Rect.unit]
  · rw [en, ← ek, Nat.add_assoc]

omit en in
theorem ld_l (j : Fin 256) : View.ld (iblk m c 4 t) (Rect.unit (s := S1x1024) ![0, k] ![1, 256] inl) (ix2 0 j) = at1 (A1 m c) (256 * q + j.val) := by
  have h1 : k + 256 ≤ 1024 := inl 1
  refine (congrArg (iblk m c 4 t) ?_).trans ((rd_l m c t ⟨k + j.val, by omega⟩).trans ?_)
  · funext b; fin_cases b <;> apply Fin.ext <;> simp [Rect.unit]
  · rw [← ek]

include hB in
theorem tile (s : Fin 64) (j : Fin 256) :
    k0_pay11 (F := Ideal) k0_pay6 (View.ld (X0_1 m c t) (Rect.unit (s := S512x1024) ![r, k] ![64, 256] inb)) (View.ld (iblk m c 4 t) (Rect.unit (s := S1x1024) ![0, k] ![1, 256] inl)) (ix2 s j)
      = R (A0 m c) (A1 m c) n s.val (256 * q + j.val) := by
  have h1 : k + 256 ≤ 1024 := inl 1
  have el := ld_l m c t q k ek inl j
  refine (pay _ _ s j ?_).trans ?_
  · rw [el, at1, dif_pos (by omega)]; exact hB _
  · rw [el]
    simp only [ld_z m c t n q r k en ek inb]
    rfl

include hB in
/-- One chunk's step in the kernel: the running log-decays are read back from where they were stored. -/
theorem next {sp : Space} (v : View sig .tc sp S512x1024 .f32) (L L' : List (View.Piece (Elt Ideal) S512x1024 .f32)) (st : FVec Ideal S1x256x256 .f32)
    (rr : ℕ) (er : rr = r + 63) (inr : ∀ a, (![rr, k] : Fin 2 → ℕ) a + (![1, 256] : Fin 2 → ℕ) a ≤ S512x1024.size a)
    (hst : Is (A0 m c) (A1 m c) n q st) :
    Is (A0 m c) (A1 m c) (n + 1) q
      (k0_pay24 (F := Ideal) k0_pay5
        (k0_pay10 (View.ld (X0_1 m c t) (Rect.unit (s := S512x1024) ![r, k] ![64, 256] inb)) (View.ld (iblk m c 4 t) (Rect.unit (s := S1x1024) ![0, k] ![1, 256] inl)))
        (k0_pay12 (v.readCov (⟨Rect.unit (s := S512x1024) ![r, k] ![64, 256] inb, k0_pay11 (F := Ideal) k0_pay6 (View.ld (X0_1 m c t) (Rect.unit (s := S512x1024) ![r, k] ![64, 256] inb)) (View.ld (iblk m c 4 t) (Rect.unit (s := S1x1024) ![0, k] ![1, 256] inl))⟩ :: L)
          (Rect.unit (s := S512x1024) ![r, k] ![64, 256] inb).toLoadRect))
        (k0_pay14 (v.readCov (⟨Rect.unit (s := S512x1024) ![r, k] ![64, 256] inb, k0_pay11 (F := Ideal) k0_pay6 (View.ld (X0_1 m c t) (Rect.unit (s := S512x1024) ![r, k] ![64, 256] inb)) (View.ld (iblk m c 4 t) (Rect.unit (s := S1x1024) ![0, k] ![1, 256] inl))⟩ :: L')
          (Rect.unit (s := S512x1024) ![rr, k] ![1, 256] inr).toLoadRect))
        (k0_pay16 st)
        (k0_pay19 (View.ld (X0_2 m c t) (Rect.unit (s := S512x1024) ![r, k] ![64, 256] inb)))) := by
  refine step (A0 m c) (A1 m c) n q _ _ _ _ _ _ (ld_z m c t n q r k en ek inb) (ld_v m c t n q r k en ek inb) (ld_l m c t q k ek inl) (fun s j => ?_) (fun j => ?_) hst
  · rw [View.readCov_cons_toLoadRect]
    exact tile m c t hB n q r k en ek inb inl s j
  · rw [View.readCov_eq_canon']
    have e : (Rect.unit (s := S512x1024) ![rr, k] ![1, 256] inr).toLoadRect.idx (ix2 0 j)
        = (Rect.unit (s := S512x1024) ![r, k] ![64, 256] inb).emb (ix2 (63 : Fin 64) j) := by
      funext b; refine Fin.ext ?_; fin_cases b
      · change rr + 1 * 0 = r + 1 * 63; omega
      · rfl
    change View.canon _ _ = _
    rw [e, View.canon_cons_emb]
    exact tile m c t hB n q r k en ek inb inl 63 j

end

/-- A read of two heads' states skips a write of others. -/
theorem skip {sp : Space} (v : View sig .tc sp S4x256x256 .f32) (n q p : ℕ) (hp : q ≠ p) (hq) (hq' : ∀ a, (![p, 0, 0] : Fin 3 → ℕ) a + (![1, 256, 256] : Fin 3 → ℕ) a ≤ S4x256x256.size a)
    (w : FVec Ideal S1x256x256 .f32) (L : List (View.Piece (Elt Ideal) S4x256x256 .f32))
    (h : Is (A0 m c) (A1 m c) n q (v.readCov L (at4 q hq).toLoadRect)) :
    Is (A0 m c) (A1 m c) n q (v.readCov (⟨at4 p hq', w⟩ :: L) (at4 q hq).toLoadRect) := by
  rw [View.readCov_cons_of_disjoint]
  · exact h
  · refine Rect.disjoint_of_axis _ _ 0 fun i hi j hj => ?_
    change i < 1 at hi
    change j < 1 at hj
    change p + 1 * i ≠ q + 1 * j
    omega

/-- It reads the last write of them. -/
theorem hit {sp : Space} (v : View sig .tc sp S4x256x256 .f32) (n q : ℕ) (hq)
    (w : FVec Ideal S1x256x256 .f32) (L : List (View.Piece (Elt Ideal) S4x256x256 .f32)) (h : Is (A0 m c) (A1 m c) n q w) :
    Is (A0 m c) (A1 m c) n q (v.readCov (⟨at4 q hq, w⟩ :: L) (at4 q hq).toLoadRect) := by
  rw [View.readCov_cons_toLoadRect]
  exact h

/-- All heads' states at a chunk's start. -/
def All (n : ℕ) (w : S4x256x256.Idx → EReal) : Prop := ∀ y, w y = T (A0 m c) (A1 m c) n (y 0).val (y 1).val (y 2).val

/-- The states as the step before left them. -/
theorem base (n q : ℕ) (hq) (h : (Memref.whole cc0_scratch0).IsWhole) (w : S4x256x256.Idx → EReal) (hw : All m c n w) :
    Is (A0 m c) (A1 m c) n q (View.ld (View.read (Elt Ideal) (View.whole cc0_scratch0) (h.unread w)) (at4 q hq)) := by
  intro a b
  rw [show View.read (Elt Ideal) (View.whole cc0_scratch0) (h.unread w) = w from read_unread_whole (Val := Elt Ideal) cc0_scratch0 h w]
  refine (hw _).trans ?_
  change T _ _ n (q + 1 * 0) (0 + 1 * a.val) (0 + 1 * b.val) = _
  simp only [Nat.mul_zero, Nat.add_zero, Nat.one_mul, Nat.zero_add]

/-- The zeros the first step starts from. -/
theorem zero {sp : Space} (v : View sig .tc sp S4x256x256 .f32) (n q : ℕ) (hn : n = 0) (hq) (hz : ∀ a, (![0, 0, 0] : Fin 3 → ℕ) a + S4x256x256.size a ≤ S4x256x256.size a)
    (L : List (View.Piece (Elt Ideal) S4x256x256 .f32)) :
    Is (A0 m c) (A1 m c) n q (v.readCov (⟨Rect.unit (s := S4x256x256) ![0, 0, 0] S4x256x256.size hz, (k0_pay2 (F := Ideal) : S4x256x256.Idx → EReal)⟩ :: L) (at4 q hq).toLoadRect) := by
  intro a b
  rw [View.readCov_eq_canon']
  have e : (at4 q hq).toLoadRect.idx (ix3 0 a b : S1x256x256.Idx) = (Rect.unit (s := S4x256x256) ![0, 0, 0] S4x256x256.size hz).emb (show (Rect.unit (s := S4x256x256) ![0, 0, 0] S4x256x256.size hz).shape.Idx from (at4 q hq).toLoadRect.idx (ix3 0 a b : S1x256x256.Idx)) := by
    funext i; refine Fin.ext ?_; fin_cases i
    · change _ = 0 + 1 * _; simp
    · change _ = 0 + 1 * _; simp
    · change _ = 0 + 1 * _; simp
  change View.canon _ _ = _
  rw [e, View.canon_cons_emb]
  refine Eq.trans (b := (0 : EReal)) ?_ ?_
  · generalize (at4 q hq).toLoadRect.idx (ix3 0 a b : S1x256x256.Idx) = y
    pointwise [k0_pay2]
  · subst hn; simp [T, S]

/-- What a step leaves. -/
theorem left (n : ℕ) (L : List (View.Piece (Elt Ideal) S4x256x256 .f32))
    (h0 : ∀ hq, Is (A0 m c) (A1 m c) n 0 ((View.whole (sig := sig) cc0_scratch0).readCov L (at4 0 hq).toLoadRect))
    (h1 : ∀ hq, Is (A0 m c) (A1 m c) n 1 ((View.whole (sig := sig) cc0_scratch0).readCov L (at4 1 hq).toLoadRect))
    (h2 : ∀ hq, Is (A0 m c) (A1 m c) n 2 ((View.whole (sig := sig) cc0_scratch0).readCov L (at4 2 hq).toLoadRect))
    (h3 : ∀ hq, Is (A0 m c) (A1 m c) n 3 ((View.whole (sig := sig) cc0_scratch0).readCov L (at4 3 hq).toLoadRect)) :
    All m c n (View.canon L) := by
  have key (q : ℕ) (hq) (h : Is (A0 m c) (A1 m c) n q ((View.whole (sig := sig) cc0_scratch0).readCov L (at4 q hq).toLoadRect)) (a b : Fin 256) (y : S4x256x256.Idx) (y0 : (y 0).val = q) (y1 : (y 1).val = a.val) (y2 : (y 2).val = b.val) :
      View.canon L y = T (A0 m c) (A1 m c) n (y 0).val (y 1).val (y 2).val := by
    have := h a b
    rw [View.readCov_eq_canon'] at this
    rw [y0, y1, y2, ← this]
    refine congrArg (View.canon L) ?_
    funext i; refine Fin.ext ?_; fin_cases i
    · change (y 0).val = q + 1 * 0; omega
    · change (y 1).val = 0 + 1 * a.val; omega
    · change (y 2).val = 0 + 1 * b.val; omega
  intro y
  have l0 : (y 0).val < 4 := (y 0).isLt
  have c0 : (y 0).val = 0 ∨ (y 0).val = 1 ∨ (y 0).val = 2 ∨ (y 0).val = 3 := by omega
  rcases c0 with e | e | e | e
  · exact key 0 (by decide) (h0 _) (y 1) (y 2) y e rfl rfl
  · exact key 1 (by decide) (h1 _) (y 1) (y 2) y e rfl rfl
  · exact key 2 (by decide) (h2 _) (y 1) (y 2) y e rfl rfl
  · exact key 3 (by decide) (h3 _) (y 1) (y 2) y e rfl rfl

/-- What the kernel stores of one head's state. -/
theorem low (f : FVec Ideal S1x256x256 .f32 → FVec Ideal S1x1x128x128 .f32) (hf : ∀ st, f st = k0_pay17 (F := Ideal) st) (n q : ℕ) (st : FVec Ideal S1x256x256 .f32) (x : S1x1x128x128.Idx) (i p a b : ℕ) (hi : i = n) (hp : p = 2 * q) (ha : a = (x 2).val) (hb : b = (x 3).val) (h : Is (A0 m c) (A1 m c) n q st) :
    f st x = S (A0 m c) (A1 m c) i (128 * p + a) (128 * p + b) := by
  rw [hf]
  subst hi hp ha hb
  idx_vars x
  have l2 := x2.isLt
  have l3 := x3.isLt
  refine (congrArg _ (by rw [Subsingleton.elim x0 0, Subsingleton.elim x1 0])).trans ((lower_half st x2 x3).trans ((h _ _).trans ?_))
  unfold T
  rw [if_pos (by change x2.val / 128 = x3.val / 128; omega)]
  change S _ _ _ (256 * q + x2.val) (256 * q + x3.val) = S _ _ _ (128 * (2 * q) + x2.val) (128 * (2 * q) + x3.val)
  congr 1 <;> omega

theorem high (f : FVec Ideal S1x256x256 .f32 → FVec Ideal S1x1x128x128 .f32) (hf : ∀ st, f st = k0_pay18 (F := Ideal) st) (n q : ℕ) (st : FVec Ideal S1x256x256 .f32) (x : S1x1x128x128.Idx) (i p a b : ℕ) (hi : i = n) (hp : p = 2 * q + 1) (ha : a = (x 2).val) (hb : b = (x 3).val) (h : Is (A0 m c) (A1 m c) n q st) :
    f st x = S (A0 m c) (A1 m c) i (128 * p + a) (128 * p + b) := by
  rw [hf]
  subst hi hp ha hb
  idx_vars x
  have l2 := x2.isLt
  have l3 := x3.isLt
  refine (congrArg _ (by rw [Subsingleton.elim x0 0, Subsingleton.elim x1 0])).trans ((upper_half st x2 x3).trans ((h _ _).trans ?_))
  unfold T
  rw [if_pos (by change (128 + x2.val) / 128 = (128 + x3.val) / 128; omega)]
  change S _ _ _ (256 * q + (128 + x2.val)) (256 * q + (128 + x3.val)) = S _ _ _ (128 * (2 * q + 1) + x2.val) (128 * (2 * q + 1) + x3.val)
  congr 1 <;> omega

set_option maxHeartbeats 8000000 in
set_option backward.isDefEq.respectTransparency false in
theorem scr_A (hB : ∀ b, ∃ a : ℝ, A1 m c (ix2 0 b) = (a : EReal)) (t : Fin cfg0.N) (h0 : t.val % 32 = 0) :
    All m c (8 * t.val + 8) (outsAt0 m c t.val t.isLt).2.2.2.2.2 := by
  have ht : t.val < 32 := t.isLt
  rw [outsAt0_A m c t h0]
  unfold sout0_A_0
  frame_out
  apply left m c
  all_goals intro hq
  all_goals repeat first
    | with_reducible exact zero m c _ _ _ (by omega) _ _ _
    | with_reducible refine hit m c _ _ _ _ _ _ ?_
    | with_reducible refine skip m c _ _ _ _ (by decide) _ _ _ _ ?_
    | refine next m c t hB _ _ _ _ (by omega) (by omega) _ _ _ _ _ _ _ (by omega) _ ?_

set_option maxHeartbeats 8000000 in
set_option backward.isDefEq.respectTransparency false in
theorem scr_B (hB : ∀ b, ∃ a : ℝ, A1 m c (ix2 0 b) = (a : EReal)) (t : Fin cfg0.N) (h0 : ¬ t.val % 32 = 0)
    (hw : All m c (8 * t.val) (outsAt0 m c (t.val - 1) (by have : t.val < cfg0.N := t.isLt; omega)).2.2.2.2.2) :
    All m c (8 * t.val + 8) (outsAt0 m c t.val t.isLt).2.2.2.2.2 := by
  rw [outsAt0_B m c t h0]
  unfold sout0_B_0
  frame_out
  apply left m c
  all_goals intro hq
  all_goals repeat first
    | with_reducible refine hit m c _ _ _ _ _ _ ?_
    | with_reducible refine skip m c _ _ _ _ (by decide) _ _ _ _ ?_
    | refine next m c t hB _ _ _ _ (by omega) (by omega) _ _ _ _ _ _ _ (by omega) _ ?_
  all_goals exact base m c _ _ _ _ _ hw

end

end Cert.Own.Hgs

end
-- ==== Proof.HgsFst.lean ====
module

public import proofs.«01_k».proof.Proof.Lib
public import proofs.«01_k».proof.Proof.HgsKer
public import proofs.«01_k».proof.Proof.Gen.HgsKernelIdeal.Value
public import Idealize.ShloMosaic.Lib.Pipeline.ValueKit
public import Idealize.ShloMosaic.Lib.Claim
public import Idealize.ShloMosaic.Lib.Pipeline.ReadBack
public import Idealize.ShloMosaic.Lib.Pointwise

/-! What the grid's first step stores of the states. -/

@[expose] public section

set_option maxRecDepth 65536

noncomputable section

namespace Cert.Own.Hgs

open Idealize.ShloMosaic Idealize.ShloMosaic.TcCoe Idealize.SL.Sem
open Cert.HgsKernelIdeal Cert.HgsKernelIdeal.Gen

section
variable (m : (ℓ : Loc nD τ sig) → Buf (Elt Ideal) ℓ) (c : Dev nD)

set_option maxHeartbeats 8000000 in
set_option backward.isDefEq.respectTransparency false in
theorem all_A (hB : ∀ b, ∃ a : ℝ, A1 m c (ix2 0 b) = (a : EReal)) (t : Fin cfg0.N) (h0 : t.val % 32 = 0) (y : S8x8x128x128.Idx) :
    (outsAt0 m c t.val t.isLt).2.2.1 y = S (A0 m c) (A1 m c) (8 * t.val + (y 0).val) (128 * (y 1).val + (y 2).val) (128 * (y 1).val + (y 3).val) := by
  have ht : t.val < 32 := t.isLt
  rw [outsAt0_A m c t h0]
  unfold out0_A_8
  frame_out
  canon_tiles x h
  have e : ∀ st, k0_pay796 (F := Ideal) (k0_pay793 st) = k0_pay18 (F := Ideal) st := fun _ => rfl
  with_reducible refine high m c (fun st => k0_pay796 (F := Ideal) (k0_pay793 st)) e (8 * t.val + 7) 3 _ x _ _ _ _ (by omega) (by omega) (by omega) (by omega) ?_
  rotate_left
  have e : ∀ st, k0_pay795 (F := Ideal) (k0_pay794 st) = k0_pay17 (F := Ideal) st := fun _ => rfl
  with_reducible refine low m c (fun st => k0_pay795 (F := Ideal) (k0_pay794 st)) e (8 * t.val + 7) 3 _ x _ _ _ _ (by omega) (by omega) (by omega) (by omega) ?_
  rotate_left
  have e : ∀ st, k0_pay769 (F := Ideal) (k0_pay768 st) = k0_pay18 (F := Ideal) st := fun _ => rfl
  with_reducible refine high m c (fun st => k0_pay769 (F := Ideal) (k0_pay768 st)) e (8 * t.val + 7) 2 _ x _ _ _ _ (by omega) (by omega) (by omega) (by omega) ?_
  rotate_left
  have e : ∀ st, k0_pay767 (F := Ideal) st = k0_pay17 (F := Ideal) st := fun _ => rfl
  with_reducible refine low m c (fun st => k0_pay767 (F := Ideal) st) e (8 * t.val + 7) 2 _ x _ _ _ _ (by omega) (by omega) (by omega) (by omega) ?_
  rotate_left
  have e : ∀ st, k0_pay737 (F := Ideal) st = k0_pay18 (F := Ideal) st := fun _ => rfl
  with_reducible refine high m c (fun st => k0_pay737 (F := Ideal) st) e (8 * t.val + 7) 1 _ x _ _ _ _ (by omega) (by omega) (by omega) (by omega) ?_
  rotate_left
  have e : ∀ st, k0_pay736 (F := Ideal) st = k0_pay17 (F := Ideal) st := fun _ => rfl
  with_reducible refine low m c (fun st => k0_pay736 (F := Ideal) st) e (8 * t.val + 7) 1 _ x _ _ _ _ (by omega) (by omega) (by omega) (by omega) ?_
  rotate_left
  have e : ∀ st, k0_pay715 (F := Ideal) st = k0_pay18 (F := Ideal) st := fun _ => rfl
  with_reducible refine high m c (fun st => k0_pay715 (F := Ideal) st) e (8 * t.val + 7) 0 _ x _ _ _ _ (by omega) (by omega) (by omega) (by omega) ?_
  rotate_left
  have e : ∀ st, k0_pay714 (F := Ideal) st = k0_pay17 (F := Ideal) st := fun _ => rfl
  with_reducible refine low m c (fun st => k0_pay714 (F := Ideal) st) e (8 * t.val + 7) 0 _ x _ _ _ _ (by omega) (by omega) (by omega) (by omega) ?_
  rotate_left
  have e : ∀ st, k0_pay694 (F := Ideal) st = k0_pay18 (F := Ideal) st := fun _ => rfl
  with_reducible refine high m c (fun st => k0_pay694 (F := Ideal) st) e (8 * t.val + 6) 3 _ x _ _ _ _ (by omega) (by omega) (by omega) (by omega) ?_
  rotate_left
  have e : ∀ st, k0_pay693 (F := Ideal) st = k0_pay17 (F := Ideal) st := fun _ => rfl
  with_reducible refine low m c (fun st => k0_pay693 (F := Ideal) st) e (8 * t.val + 6) 3 _ x _ _ _ _ (by omega) (by omega) (by omega) (by omega) ?_
  rotate_left
  have e : ∀ st, k0_pay666 (F := Ideal) (k0_pay663 st) = k0_pay18 (F := Ideal) st := fun _ => rfl
  with_reducible refine high m c (fun st => k0_pay666 (F := Ideal) (k0_pay663 st)) e (8 * t.val + 6) 2 _ x _ _ _ _ (by omega) (by omega) (by omega) (by omega) ?_
  rotate_left
  have e : ∀ st, k0_pay665 (F := Ideal) (k0_pay664 st) = k0_pay17 (F := Ideal) st := fun _ => rfl
  with_reducible refine low m c (fun st => k0_pay665 (F := Ideal) (k0_pay664 st)) e (8 * t.val + 6) 2 _ x _ _ _ _ (by omega) (by omega) (by omega) (by omega) ?_
  rotate_left
  have e : ∀ st, k0_pay644 (F := Ideal) st = k0_pay18 (F := Ideal) st := fun _ => rfl
  with_reducible refine high m c (fun st => k0_pay644 (F := Ideal) st) e (8 * t.val + 6) 1 _ x _ _ _ _ (by omega) (by omega) (by omega) (by omega) ?_
  rotate_left
  have e : ∀ st, k0_pay643 (F := Ideal) st = k0_pay17 (F := Ideal) st := fun _ => rfl
  with_reducible refine low m c (fun st => k0_pay643 (F := Ideal) st) e (8 * t.val + 6) 1 _ x _ _ _ _ (by omega) (by omega) (by omega) (by omega) ?_
  rotate_left
  have e : ∀ st, k0_pay611 (F := Ideal) st = k0_pay18 (F := Ideal) st := fun _ => rfl
  with_reducible refine high m c (fun st => k0_pay611 (F := Ideal) st) e (8 * t.val + 6) 0 _ x _ _ _ _ (by omega) (by omega) (by omega) (by omega) ?_
  rotate_left
  have e : ∀ st, k0_pay610 (F := Ideal) st = k0_pay17 (F := Ideal) st := fun _ => rfl
  with_reducible refine low m c (fun st => k0_pay610 (F := Ideal) st) e (8 * t.val + 6) 0 _ x _ _ _ _ (by omega) (by omega) (by omega) (by omega) ?_
  rotate_left
  have e : ∀ st, k0_pay590 (F := Ideal) st = k0_pay18 (F := Ideal) st := fun _ => rfl
  with_reducible refine high m c (fun st => k0_pay590 (F := Ideal) st) e (8 * t.val + 5) 3 _ x _ _ _ _ (by omega) (by omega) (by omega) (by omega) ?_
  rotate_left
  have e : ∀ st, k0_pay589 (F := Ideal) st = k0_pay17 (F := Ideal) st := fun _ => rfl
  with_reducible refine low m c (fun st => k0_pay589 (F := Ideal) st) e (8 * t.val + 5) 3 _ x _ _ _ _ (by omega) (by omega) (by omega) (by omega) ?_
  rotate_left
  have e : ∀ st, k0_pay570 (F := Ideal) st = k0_pay18 (F := Ideal) st := fun _ => rfl
  with_reducible refine high m c (fun st => k0_pay570 (F := Ideal) st) e (8 * t.val + 5) 2 _ x _ _ _ _ (by omega) (by omega) (by omega) (by omega) ?_
  rotate_left
  have e : ∀ st, k0_pay569 (F := Ideal) st = k0_pay17 (F := Ideal) st := fun _ => rfl
  with_reducible refine low m c (fun st => k0_pay569 (F := Ideal) st) e (8 * t.val + 5) 2 _ x _ _ _ _ (by omega) (by omega) (by omega) (by omega) ?_
  rotate_left
  have e : ∀ st, k0_pay545 (F := Ideal) (k0_pay544 st) = k0_pay18 (F := Ideal) st := fun _ => rfl
  with_reducible refine high m c (fun st => k0_pay545 (F := Ideal) (k0_pay544 st)) e (8 * t.val + 5) 1 _ x _ _ _ _ (by omega) (by omega) (by omega) (by omega) ?_
  rotate_left
  have e : ∀ st, k0_pay543 (F := Ideal) st = k0_pay17 (F := Ideal) st := fun _ => rfl
  with_reducible refine low m c (fun st => k0_pay543 (F := Ideal) st) e (8 * t.val + 5) 1 _ x _ _ _ _ (by omega) (by omega) (by omega) (by omega) ?_
  rotate_left
  have e : ∀ st, k0_pay515 (F := Ideal) st = k0_pay18 (F := Ideal) st := fun _ => rfl
  with_reducible refine high m c (fun st => k0_pay515 (F := Ideal) st) e (8 * t.val + 5) 0 _ x _ _ _ _ (by omega) (by omega) (by omega) (by omega) ?_
  rotate_left
  have e : ∀ st, k0_pay514 (F := Ideal) st = k0_pay17 (F := Ideal) st := fun _ => rfl
  with_reducible refine low m c (fun st => k0_pay514 (F := Ideal) st) e (8 * t.val + 5) 0 _ x _ _ _ _ (by omega) (by omega) (by omega) (by omega) ?_
  rotate_left
  have e : ∀ st, k0_pay488 (F := Ideal) st = k0_pay18 (F := Ideal) st := fun _ => rfl
  with_reducible refine high m c (fun st => k0_pay488 (F := Ideal) st) e (8 * t.val + 4) 3 _ x _ _ _ _ (by omega) (by omega) (by omega) (by omega) ?_
  rotate_left
  have e : ∀ st, k0_pay487 (F := Ideal) st = k0_pay17 (F := Ideal) st := fun _ => rfl
  with_reducible refine low m c (fun st => k0_pay487 (F := Ideal) st) e (8 * t.val + 4) 3 _ x _ _ _ _ (by omega) (by omega) (by omega) (by omega) ?_
  rotate_left
  have e : ∀ st, k0_pay466 (F := Ideal) st = k0_pay18 (F := Ideal) st := fun _ => rfl
  with_reducible refine high m c (fun st => k0_pay466 (F := Ideal) st) e (8 * t.val + 4) 2 _ x _ _ _ _ (by omega) (by omega) (by omega) (by omega) ?_
  rotate_left
  have e : ∀ st, k0_pay465 (F := Ideal) st = k0_pay17 (F := Ideal) st := fun _ => rfl
  with_reducible refine low m c (fun st => k0_pay465 (F := Ideal) st) e (8 * t.val + 4) 2 _ x _ _ _ _ (by omega) (by omega) (by omega) (by omega) ?_
  rotate_left
  have e : ∀ st, k0_pay441 (F := Ideal) (k0_pay438 st) = k0_pay18 (F := Ideal) st := fun _ => rfl
  with_reducible refine high m c (fun st => k0_pay441 (F := Ideal) (k0_pay438 st)) e (8 * t.val + 4) 1 _ x _ _ _ _ (by omega) (by omega) (by omega) (by omega) ?_
  rotate_left
  have e : ∀ st, k0_pay440 (F := Ideal) (k0_pay439 st) = k0_pay17 (F := Ideal) st := fun _ => rfl
  with_reducible refine low m c (fun st => k0_pay440 (F := Ideal) (k0_pay439 st)) e (8 * t.val + 4) 1 _ x _ _ _ _ (by omega) (by omega) (by omega) (by omega) ?_
  rotate_left
  have e : ∀ st, k0_pay416 (F := Ideal) (k0_pay415 st) = k0_pay18 (F := Ideal) st := fun _ => rfl
  with_reducible refine high m c (fun st => k0_pay416 (F := Ideal) (k0_pay415 st)) e (8 * t.val + 4) 0 _ x _ _ _ _ (by omega) (by omega) (by omega) (by omega) ?_
  rotate_left
  have e : ∀ st, k0_pay414 (F := Ideal) st = k0_pay17 (F := Ideal) st := fun _ => rfl
  with_reducible refine low m c (fun st => k0_pay414 (F := Ideal) st) e (8 * t.val + 4) 0 _ x _ _ _ _ (by omega) (by omega) (by omega) (by omega) ?_
  rotate_left
  have e : ∀ st, k0_pay384 (F := Ideal) st = k0_pay18 (F := Ideal) st := fun _ => rfl
  with_reducible refine high m c (fun st => k0_pay384 (F := Ideal) st) e (8 * t.val + 3) 3 _ x _ _ _ _ (by omega) (by omega) (by omega) (by omega) ?_
  rotate_left
  have e : ∀ st, k0_pay383 (F := Ideal) st = k0_pay17 (F := Ideal) st := fun _ => rfl
  with_reducible refine low m c (fun st => k0_pay383 (F := Ideal) st) e (8 * t.val + 3) 3 _ x _ _ _ _ (by omega) (by omega) (by omega) (by omega) ?_
  rotate_left
  have e : ∀ st, k0_pay364 (F := Ideal) st = k0_pay18 (F := Ideal) st := fun _ => rfl
  with_reducible refine high m c (fun st => k0_pay364 (F := Ideal) st) e (8 * t.val + 3) 2 _ x _ _ _ _ (by omega) (by omega) (by omega) (by omega) ?_
  rotate_left
  have e : ∀ st, k0_pay363 (F := Ideal) st = k0_pay17 (F := Ideal) st := fun _ => rfl
  with_reducible refine low m c (fun st => k0_pay363 (F := Ideal) st) e (8 * t.val + 3) 2 _ x _ _ _ _ (by omega) (by omega) (by omega) (by omega) ?_
  rotate_left
  have e : ∀ st, k0_pay344 (F := Ideal) st = k0_pay18 (F := Ideal) st := fun _ => rfl
  with_reducible refine high m c (fun st => k0_pay344 (F := Ideal) st) e (8 * t.val + 3) 1 _ x _ _ _ _ (by omega) (by omega) (by omega) (by omega) ?_
  rotate_left
  have e : ∀ st, k0_pay343 (F := Ideal) st = k0_pay17 (F := Ideal) st := fun _ => rfl
  with_reducible refine low m c (fun st => k0_pay343 (F := Ideal) st) e (8 * t.val + 3) 1 _ x _ _ _ _ (by omega) (by omega) (by omega) (by omega) ?_
  rotate_left
  have e : ∀ st, k0_pay317 (F := Ideal) (k0_pay315 st) = k0_pay18 (F := Ideal) st := fun _ => rfl
  with_reducible refine high m c (fun st => k0_pay317 (F := Ideal) (k0_pay315 st)) e (8 * t.val + 3) 0 _ x _ _ _ _ (by omega) (by omega) (by omega) (by omega) ?_
  rotate_left
  have e : ∀ st, k0_pay316 (F := Ideal) st = k0_pay17 (F := Ideal) st := fun _ => rfl
  with_reducible refine low m c (fun st => k0_pay316 (F := Ideal) st) e (8 * t.val + 3) 0 _ x _ _ _ _ (by omega) (by omega) (by omega) (by omega) ?_
  rotate_left
  have e : ∀ st, k0_pay293 (F := Ideal) st = k0_pay18 (F := Ideal) st := fun _ => rfl
  with_reducible refine high m c (fun st => k0_pay293 (F := Ideal) st) e (8 * t.val + 2) 3 _ x _ _ _ _ (by omega) (by omega) (by omega) (by omega) ?_
  rotate_left
  have e : ∀ st, k0_pay292 (F := Ideal) st = k0_pay17 (F := Ideal) st := fun _ => rfl
  with_reducible refine low m c (fun st => k0_pay292 (F := Ideal) st) e (8 * t.val + 2) 3 _ x _ _ _ _ (by omega) (by omega) (by omega) (by omega) ?_
  rotate_left
  have e : ∀ st, k0_pay267 (F := Ideal) st = k0_pay18 (F := Ideal) st := fun _ => rfl
  with_reducible refine high m c (fun st => k0_pay267 (F := Ideal) st) e (8 * t.val + 2) 2 _ x _ _ _ _ (by omega) (by omega) (by omega) (by omega) ?_
  rotate_left
  have e : ∀ st, k0_pay266 (F := Ideal) st = k0_pay17 (F := Ideal) st := fun _ => rfl
  with_reducible refine low m c (fun st => k0_pay266 (F := Ideal) st) e (8 * t.val + 2) 2 _ x _ _ _ _ (by omega) (by omega) (by omega) (by omega) ?_
  rotate_left
  have e : ∀ st, k0_pay245 (F := Ideal) st = k0_pay18 (F := Ideal) st := fun _ => rfl
  with_reducible refine high m c (fun st => k0_pay245 (F := Ideal) st) e (8 * t.val + 2) 1 _ x _ _ _ _ (by omega) (by omega) (by omega) (by omega) ?_
  rotate_left
  have e : ∀ st, k0_pay244 (F := Ideal) st = k0_pay17 (F := Ideal) st := fun _ => rfl
  with_reducible refine low m c (fun st => k0_pay244 (F := Ideal) st) e (8 * t.val + 2) 1 _ x _ _ _ _ (by omega) (by omega) (by omega) (by omega) ?_
  rotate_left
  have e : ∀ st, k0_pay222 (F := Ideal) (k0_pay220 st) = k0_pay18 (F := Ideal) st := fun _ => rfl
  with_reducible refine high m c (fun st => k0_pay222 (F := Ideal) (k0_pay220 st)) e (8 * t.val + 2) 0 _ x _ _ _ _ (by omega) (by omega) (by omega) (by omega) ?_
  rotate_left
  have e : ∀ st, k0_pay221 (F := Ideal) (k0_pay220 st) = k0_pay17 (F := Ideal) st := fun _ => rfl
  with_reducible refine low m c (fun st => k0_pay221 (F := Ideal) (k0_pay220 st)) e (8 * t.val + 2) 0 _ x _ _ _ _ (by omega) (by omega) (by omega) (by omega) ?_
  rotate_left
  have e : ∀ st, k0_pay196 (F := Ideal) (k0_pay195 st) = k0_pay18 (F := Ideal) st := fun _ => rfl
  with_reducible refine high m c (fun st => k0_pay196 (F := Ideal) (k0_pay195 st)) e (8 * t.val + 1) 3 _ x _ _ _ _ (by omega) (by omega) (by omega) (by omega) ?_
  rotate_left
  have e : ∀ st, k0_pay194 (F := Ideal) st = k0_pay17 (F := Ideal) st := fun _ => rfl
  with_reducible refine low m c (fun st => k0_pay194 (F := Ideal) st) e (8 * t.val + 1) 3 _ x _ _ _ _ (by omega) (by omega) (by omega) (by omega) ?_
  rotate_left
  have e : ∀ st, k0_pay167 (F := Ideal) st = k0_pay18 (F := Ideal) st := fun _ => rfl
  with_reducible refine high m c (fun st => k0_pay167 (F := Ideal) st) e (8 * t.val + 1) 2 _ x _ _ _ _ (by omega) (by omega) (by omega) (by omega) ?_
  rotate_left
  have e : ∀ st, k0_pay166 (F := Ideal) st = k0_pay17 (F := Ideal) st := fun _ => rfl
  with_reducible refine low m c (fun st => k0_pay166 (F := Ideal) st) e (8 * t.val + 1) 2 _ x _ _ _ _ (by omega) (by omega) (by omega) (by omega) ?_
  rotate_left
  have e : ∀ st, k0_pay142 (F := Ideal) st = k0_pay18 (F := Ideal) st := fun _ => rfl
  with_reducible refine high m c (fun st => k0_pay142 (F := Ideal) st) e (8 * t.val + 1) 1 _ x _ _ _ _ (by omega) (by omega) (by omega) (by omega) ?_
  rotate_left
  have e : ∀ st, k0_pay141 (F := Ideal) st = k0_pay17 (F := Ideal) st := fun _ => rfl
  with_reducible refine low m c (fun st => k0_pay141 (F := Ideal) st) e (8 * t.val + 1) 1 _ x _ _ _ _ (by omega) (by omega) (by omega) (by omega) ?_
  rotate_left
  have e : ∀ st, k0_pay118 (F := Ideal) st = k0_pay18 (F := Ideal) st := fun _ => rfl
  with_reducible refine high m c (fun st => k0_pay118 (F := Ideal) st) e (8 * t.val + 1) 0 _ x _ _ _ _ (by omega) (by omega) (by omega) (by omega) ?_
  rotate_left
  have e : ∀ st, k0_pay117 (F := Ideal) st = k0_pay17 (F := Ideal) st := fun _ => rfl
  with_reducible refine low m c (fun st => k0_pay117 (F := Ideal) st) e (8 * t.val + 1) 0 _ x _ _ _ _ (by omega) (by omega) (by omega) (by omega) ?_
  rotate_left
  have e : ∀ st, k0_pay92 (F := Ideal) (k0_pay89 st) = k0_pay18 (F := Ideal) st := fun _ => rfl
  with_reducible refine high m c (fun st => k0_pay92 (F := Ideal) (k0_pay89 st)) e (8 * t.val + 0) 3 _ x _ _ _ _ (by omega) (by omega) (by omega) (by omega) ?_
  rotate_left
  have e : ∀ st, k0_pay91 (F := Ideal) (k0_pay90 st) = k0_pay17 (F := Ideal) st := fun _ => rfl
  with_reducible refine low m c (fun st => k0_pay91 (F := Ideal) (k0_pay90 st)) e (8 * t.val + 0) 3 _ x _ _ _ _ (by omega) (by omega) (by omega) (by omega) ?_
  rotate_left
  have e : ∀ st, k0_pay70 (F := Ideal) st = k0_pay18 (F := Ideal) st := fun _ => rfl
  with_reducible refine high m c (fun st => k0_pay70 (F := Ideal) st) e (8 * t.val + 0) 2 _ x _ _ _ _ (by omega) (by omega) (by omega) (by omega) ?_
  rotate_left
  have e : ∀ st, k0_pay69 (F := Ideal) st = k0_pay17 (F := Ideal) st := fun _ => rfl
  with_reducible refine low m c (fun st => k0_pay69 (F := Ideal) st) e (8 * t.val + 0) 2 _ x _ _ _ _ (by omega) (by omega) (by omega) (by omega) ?_
  rotate_left
  have e : ∀ st, k0_pay39 (F := Ideal) st = k0_pay18 (F := Ideal) st := fun _ => rfl
  with_reducible refine high m c (fun st => k0_pay39 (F := Ideal) st) e (8 * t.val + 0) 1 _ x _ _ _ _ (by omega) (by omega) (by omega) (by omega) ?_
  rotate_left
  have e : ∀ st, k0_pay38 (F := Ideal) st = k0_pay17 (F := Ideal) st := fun _ => rfl
  with_reducible refine low m c (fun st => k0_pay38 (F := Ideal) st) e (8 * t.val + 0) 1 _ x _ _ _ _ (by omega) (by omega) (by omega) (by omega) ?_
  rotate_left
  have e : ∀ st, k0_pay18 (F := Ideal) st = k0_pay18 (F := Ideal) st := fun _ => rfl
  with_reducible refine high m c (fun st => k0_pay18 (F := Ideal) st) e (8 * t.val + 0) 0 _ x _ _ _ _ (by omega) (by omega) (by omega) (by omega) ?_
  rotate_left
  have e : ∀ st, k0_pay17 (F := Ideal) st = k0_pay17 (F := Ideal) st := fun _ => rfl
  with_reducible refine low m c (fun st => k0_pay17 (F := Ideal) st) e (8 * t.val + 0) 0 _ x _ _ _ _ (by omega) (by omega) (by omega) (by omega) ?_
  rotate_left
  all_goals repeat first
    | with_reducible exact zero m c _ _ _ (by omega) _ _ _
    | with_reducible refine hit m c _ _ _ _ _ _ ?_
    | with_reducible refine skip m c _ _ _ _ (by decide) _ _ _ _ ?_
    | refine next m c t hB _ _ _ _ (by omega) (by omega) _ _ _ _ _ _ _ (by omega) _ ?_

end

end Cert.Own.Hgs

end
-- ==== Proof.HgsNxt.lean ====
module

public import proofs.«01_k».proof.Proof.Lib
public import proofs.«01_k».proof.Proof.HgsKer
public import proofs.«01_k».proof.Proof.Gen.HgsKernelIdeal.Value
public import Idealize.ShloMosaic.Lib.Pipeline.ValueKit
public import Idealize.ShloMosaic.Lib.Claim
public import Idealize.ShloMosaic.Lib.Pipeline.ReadBack
public import Idealize.ShloMosaic.Lib.Pointwise

/-! What a later step of the grid stores of the states. -/

@[expose] public section

set_option maxRecDepth 65536

noncomputable section

namespace Cert.Own.Hgs

open Idealize.ShloMosaic Idealize.ShloMosaic.TcCoe Idealize.SL.Sem
open Cert.HgsKernelIdeal Cert.HgsKernelIdeal.Gen

section
variable (m : (ℓ : Loc nD τ sig) → Buf (Elt Ideal) ℓ) (c : Dev nD)

set_option maxHeartbeats 8000000 in
set_option backward.isDefEq.respectTransparency false in
theorem all_B (hB : ∀ b, ∃ a : ℝ, A1 m c (ix2 0 b) = (a : EReal)) (t : Fin cfg0.N) (h0 : ¬ t.val % 32 = 0)
    (hw : All m c (8 * t.val) (outsAt0 m c (t.val - 1) (by have : t.val < cfg0.N := t.isLt; omega)).2.2.2.2.2) (y : S8x8x128x128.Idx) :
    (outsAt0 m c t.val t.isLt).2.2.1 y = S (A0 m c) (A1 m c) (8 * t.val + (y 0).val) (128 * (y 1).val + (y 2).val) (128 * (y 1).val + (y 3).val) := by
  rw [outsAt0_B m c t h0]
  unfold out0_B_8
  frame_out
  canon_tiles x h
  have e : ∀ st, k0_pay796 (F := Ideal) (k0_pay793 st) = k0_pay18 (F := Ideal) st := fun _ => rfl
  with_reducible refine high m c (fun st => k0_pay796 (F := Ideal) (k0_pay793 st)) e (8 * t.val + 7) 3 _ x _ _ _ _ (by omega) (by omega) (by omega) (by omega) ?_
  rotate_left
  have e : ∀ st, k0_pay795 (F := Ideal) (k0_pay794 st) = k0_pay17 (F := Ideal) st := fun _ => rfl
  with_reducible refine low m c (fun st => k0_pay795 (F := Ideal) (k0_pay794 st)) e (8 * t.val + 7) 3 _ x _ _ _ _ (by omega) (by omega) (by omega) (by omega) ?_
  rotate_left
  have e : ∀ st, k0_pay769 (F := Ideal) (k0_pay768 st) = k0_pay18 (F := Ideal) st := fun _ => rfl
  with_reducible refine high m c (fun st => k0_pay769 (F := Ideal) (k0_pay768 st)) e (8 * t.val + 7) 2 _ x _ _ _ _ (by omega) (by omega) (by omega) (by omega) ?_
  rotate_left
  have e : ∀ st, k0_pay767 (F := Ideal) st = k0_pay17 (F := Ideal) st := fun _ => rfl
  with_reducible refine low m c (fun st => k0_pay767 (F := Ideal) st) e (8 * t.val + 7) 2 _ x _ _ _ _ (by omega) (by omega) (by omega) (by omega) ?_
  rotate_left
  have e : ∀ st, k0_pay737 (F := Ideal) st = k0_pay18 (F := Ideal) st := fun _ => rfl
  with_reducible refine high m c (fun st => k0_pay737 (F := Ideal) st) e (8 * t.val + 7) 1 _ x _ _ _ _ (by omega) (by omega) (by omega) (by omega) ?_
  rotate_left
  have e : ∀ st, k0_pay736 (F := Ideal) st = k0_pay17 (F := Ideal) st := fun _ => rfl
  with_reducible refine low m c (fun st => k0_pay736 (F := Ideal) st) e (8 * t.val + 7) 1 _ x _ _ _ _ (by omega) (by omega) (by omega) (by omega) ?_
  rotate_left
  have e : ∀ st, k0_pay715 (F := Ideal) st = k0_pay18 (F := Ideal) st := fun _ => rfl
  with_reducible refine high m c (fun st => k0_pay715 (F := Ideal) st) e (8 * t.val + 7) 0 _ x _ _ _ _ (by omega) (by omega) (by omega) (by omega) ?_
  rotate_left
  have e : ∀ st, k0_pay714 (F := Ideal) st = k0_pay17 (F := Ideal) st := fun _ => rfl
  with_reducible refine low m c (fun st => k0_pay714 (F := Ideal) st) e (8 * t.val + 7) 0 _ x _ _ _ _ (by omega) (by omega) (by omega) (by omega) ?_
  rotate_left
  have e : ∀ st, k0_pay694 (F := Ideal) st = k0_pay18 (F := Ideal) st := fun _ => rfl
  with_reducible refine high m c (fun st => k0_pay694 (F := Ideal) st) e (8 * t.val + 6) 3 _ x _ _ _ _ (by omega) (by omega) (by omega) (by omega) ?_
  rotate_left
  have e : ∀ st, k0_pay693 (F := Ideal) st = k0_pay17 (F := Ideal) st := fun _ => rfl
  with_reducible refine low m c (fun st => k0_pay693 (F := Ideal) st) e (8 * t.val + 6) 3 _ x _ _ _ _ (by omega) (by omega) (by omega) (by omega) ?_
  rotate_left
  have e : ∀ st, k0_pay666 (F := Ideal) (k0_pay663 st) = k0_pay18 (F := Ideal) st := fun _ => rfl
  with_reducible refine high m c (fun st => k0_pay666 (F := Ideal) (k0_pay663 st)) e (8 * t.val + 6) 2 _ x _ _ _ _ (by omega) (by omega) (by omega) (by omega) ?_
  rotate_left
  have e : ∀ st, k0_pay665 (F := Ideal) (k0_pay664 st) = k0_pay17 (F := Ideal) st := fun _ => rfl
  with_reducible refine low m c (fun st => k0_pay665 (F := Ideal) (k0_pay664 st)) e (8 * t.val + 6) 2 _ x _ _ _ _ (by omega) (by omega) (by omega) (by omega) ?_
  rotate_left
  have e : ∀ st, k0_pay644 (F := Ideal) st = k0_pay18 (F := Ideal) st := fun _ => rfl
  with_reducible refine high m c (fun st => k0_pay644 (F := Ideal) st) e (8 * t.val + 6) 1 _ x _ _ _ _ (by omega) (by omega) (by omega) (by omega) ?_
  rotate_left
  have e : ∀ st, k0_pay643 (F := Ideal) st = k0_pay17 (F := Ideal) st := fun _ => rfl
  with_reducible refine low m c (fun st => k0_pay643 (F := Ideal) st) e (8 * t.val + 6) 1 _ x _ _ _ _ (by omega) (by omega) (by omega) (by omega) ?_
  rotate_left
  have e : ∀ st, k0_pay611 (F := Ideal) st = k0_pay18 (F := Ideal) st := fun _ => rfl
  with_reducible refine high m c (fun st => k0_pay611 (F := Ideal) st) e (8 * t.val + 6) 0 _ x _ _ _ _ (by omega) (by omega) (by omega) (by omega) ?_
  rotate_left
  have e : ∀ st, k0_pay610 (F := Ideal) st = k0_pay17 (F := Ideal) st := fun _ => rfl
  with_reducible refine low m c (fun st => k0_pay610 (F := Ideal) st) e (8 * t.val + 6) 0 _ x _ _ _ _ (by omega) (by omega) (by omega) (by omega) ?_
  rotate_left
  have e : ∀ st, k0_pay590 (F := Ideal) st = k0_pay18 (F := Ideal) st := fun _ => rfl
  with_reducible refine high m c (fun st => k0_pay590 (F := Ideal) st) e (8 * t.val + 5) 3 _ x _ _ _ _ (by omega) (by omega) (by omega) (by omega) ?_
  rotate_left
  have e : ∀ st, k0_pay589 (F := Ideal) st = k0_pay17 (F := Ideal) st := fun _ => rfl
  with_reducible refine low m c (fun st => k0_pay589 (F := Ideal) st) e (8 * t.val + 5) 3 _ x _ _ _ _ (by omega) (by omega) (by omega) (by omega) ?_
  rotate_left
  have e : ∀ st, k0_pay570 (F := Ideal) st = k0_pay18 (F := Ideal) st := fun _ => rfl
  with_reducible refine high m c (fun st => k0_pay570 (F := Ideal) st) e (8 * t.val + 5) 2 _ x _ _ _ _ (by omega) (by omega) (by omega) (by omega) ?_
  rotate_left
  have e : ∀ st, k0_pay569 (F := Ideal) st = k0_pay17 (F := Ideal) st := fun _ => rfl
  with_reducible refine low m c (fun st => k0_pay569 (F := Ideal) st) e (8 * t.val + 5) 2 _ x _ _ _ _ (by omega) (by omega) (by omega) (by omega) ?_
  rotate_left
  have e : ∀ st, k0_pay545 (F := Ideal) (k0_pay544 st) = k0_pay18 (F := Ideal) st := fun _ => rfl
  with_reducible refine high m c (fun st => k0_pay545 (F := Ideal) (k0_pay544 st)) e (8 * t.val + 5) 1 _ x _ _ _ _ (by omega) (by omega) (by omega) (by omega) ?_
  rotate_left
  have e : ∀ st, k0_pay543 (F := Ideal) st = k0_pay17 (F := Ideal) st := fun _ => rfl
  with_reducible refine low m c (fun st => k0_pay543 (F := Ideal) st) e (8 * t.val + 5) 1 _ x _ _ _ _ (by omega) (by omega) (by omega) (by omega) ?_
  rotate_left
  have e : ∀ st, k0_pay515 (F := Ideal) st = k0_pay18 (F := Ideal) st := fun _ => rfl
  with_reducible refine high m c (fun st => k0_pay515 (F := Ideal) st) e (8 * t.val + 5) 0 _ x _ _ _ _ (by omega) (by omega) (by omega) (by omega) ?_
  rotate_left
  have e : ∀ st, k0_pay514 (F := Ideal) st = k0_pay17 (F := Ideal) st := fun _ => rfl
  with_reducible refine low m c (fun st => k0_pay514 (F := Ideal) st) e (8 * t.val + 5) 0 _ x _ _ _ _ (by omega) (by omega) (by omega) (by omega) ?_
  rotate_left
  have e : ∀ st, k0_pay488 (F := Ideal) st = k0_pay18 (F := Ideal) st := fun _ => rfl
  with_reducible refine high m c (fun st => k0_pay488 (F := Ideal) st) e (8 * t.val + 4) 3 _ x _ _ _ _ (by omega) (by omega) (by omega) (by omega) ?_
  rotate_left
  have e : ∀ st, k0_pay487 (F := Ideal) st = k0_pay17 (F := Ideal) st := fun _ => rfl
  with_reducible refine low m c (fun st => k0_pay487 (F := Ideal) st) e (8 * t.val + 4) 3 _ x _ _ _ _ (by omega) (by omega) (by omega) (by omega) ?_
  rotate_left
  have e : ∀ st, k0_pay466 (F := Ideal) st = k0_pay18 (F := Ideal) st := fun _ => rfl
  with_reducible refine high m c (fun st => k0_pay466 (F := Ideal) st) e (8 * t.val + 4) 2 _ x _ _ _ _ (by omega) (by omega) (by omega) (by omega) ?_
  rotate_left
  have e : ∀ st, k0_pay465 (F := Ideal) st = k0_pay17 (F := Ideal) st := fun _ => rfl
  with_reducible refine low m c (fun st => k0_pay465 (F := Ideal) st) e (8 * t.val + 4) 2 _ x _ _ _ _ (by omega) (by omega) (by omega) (by omega) ?_
  rotate_left
  have e : ∀ st, k0_pay441 (F := Ideal) (k0_pay438 st) = k0_pay18 (F := Ideal) st := fun _ => rfl
  with_reducible refine high m c (fun st => k0_pay441 (F := Ideal) (k0_pay438 st)) e (8 * t.val + 4) 1 _ x _ _ _ _ (by omega) (by omega) (by omega) (by omega) ?_
  rotate_left
  have e : ∀ st, k0_pay440 (F := Ideal) (k0_pay439 st) = k0_pay17 (F := Ideal) st := fun _ => rfl
  with_reducible refine low m c (fun st => k0_pay440 (F := Ideal) (k0_pay439 st)) e (8 * t.val + 4) 1 _ x _ _ _ _ (by omega) (by omega) (by omega) (by omega) ?_
  rotate_left
  have e : ∀ st, k0_pay416 (F := Ideal) (k0_pay415 st) = k0_pay18 (F := Ideal) st := fun _ => rfl
  with_reducible refine high m c (fun st => k0_pay416 (F := Ideal) (k0_pay415 st)) e (8 * t.val + 4) 0 _ x _ _ _ _ (by omega) (by omega) (by omega) (by omega) ?_
  rotate_left
  have e : ∀ st, k0_pay414 (F := Ideal) st = k0_pay17 (F := Ideal) st := fun _ => rfl
  with_reducible refine low m c (fun st => k0_pay414 (F := Ideal) st) e (8 * t.val + 4) 0 _ x _ _ _ _ (by omega) (by omega) (by omega) (by omega) ?_
  rotate_left
  have e : ∀ st, k0_pay384 (F := Ideal) st = k0_pay18 (F := Ideal) st := fun _ => rfl
  with_reducible refine high m c (fun st => k0_pay384 (F := Ideal) st) e (8 * t.val + 3) 3 _ x _ _ _ _ (by omega) (by omega) (by omega) (by omega) ?_
  rotate_left
  have e : ∀ st, k0_pay383 (F := Ideal) st = k0_pay17 (F := Ideal) st := fun _ => rfl
  with_reducible refine low m c (fun st => k0_pay383 (F := Ideal) st) e (8 * t.val + 3) 3 _ x _ _ _ _ (by omega) (by omega) (by omega) (by omega) ?_
  rotate_left
  have e : ∀ st, k0_pay364 (F := Ideal) st = k0_pay18 (F := Ideal) st := fun _ => rfl
  with_reducible refine high m c (fun st => k0_pay364 (F := Ideal) st) e (8 * t.val + 3) 2 _ x _ _ _ _ (by omega) (by omega) (by omega) (by omega) ?_
  rotate_left
  have e : ∀ st, k0_pay363 (F := Ideal) st = k0_pay17 (F := Ideal) st := fun _ => rfl
  with_reducible refine low m c (fun st => k0_pay363 (F := Ideal) st) e (8 * t.val + 3) 2 _ x _ _ _ _ (by omega) (by omega) (by omega) (by omega) ?_
  rotate_left
  have e : ∀ st, k0_pay344 (F := Ideal) st = k0_pay18 (F := Ideal) st := fun _ => rfl
  with_reducible refine high m c (fun st => k0_pay344 (F := Ideal) st) e (8 * t.val + 3) 1 _ x _ _ _ _ (by omega) (by omega) (by omega) (by omega) ?_
  rotate_left
  have e : ∀ st, k0_pay343 (F := Ideal) st = k0_pay17 (F := Ideal) st := fun _ => rfl
  with_reducible refine low m c (fun st => k0_pay343 (F := Ideal) st) e (8 * t.val + 3) 1 _ x _ _ _ _ (by omega) (by omega) (by omega) (by omega) ?_
  rotate_left
  have e : ∀ st, k0_pay317 (F := Ideal) (k0_pay315 st) = k0_pay18 (F := Ideal) st := fun _ => rfl
  with_reducible refine high m c (fun st => k0_pay317 (F := Ideal) (k0_pay315 st)) e (8 * t.val + 3) 0 _ x _ _ _ _ (by omega) (by omega) (by omega) (by omega) ?_
  rotate_left
  have e : ∀ st, k0_pay316 (F := Ideal) st = k0_pay17 (F := Ideal) st := fun _ => rfl
  with_reducible refine low m c (fun st => k0_pay316 (F := Ideal) st) e (8 * t.val + 3) 0 _ x _ _ _ _ (by omega) (by omega) (by omega) (by omega) ?_
  rotate_left
  have e : ∀ st, k0_pay293 (F := Ideal) st = k0_pay18 (F := Ideal) st := fun _ => rfl
  with_reducible refine high m c (fun st => k0_pay293 (F := Ideal) st) e (8 * t.val + 2) 3 _ x _ _ _ _ (by omega) (by omega) (by omega) (by omega) ?_
  rotate_left
  have e : ∀ st, k0_pay292 (F := Ideal) st = k0_pay17 (F := Ideal) st := fun _ => rfl
  with_reducible refine low m c (fun st => k0_pay292 (F := Ideal) st) e (8 * t.val + 2) 3 _ x _ _ _ _ (by omega) (by omega) (by omega) (by omega) ?_
  rotate_left
  have e : ∀ st, k0_pay267 (F := Ideal) st = k0_pay18 (F := Ideal) st := fun _ => rfl
  with_reducible refine high m c (fun st => k0_pay267 (F := Ideal) st) e (8 * t.val + 2) 2 _ x _ _ _ _ (by omega) (by omega) (by omega) (by omega) ?_
  rotate_left
  have e : ∀ st, k0_pay266 (F := Ideal) st = k0_pay17 (F := Ideal) st := fun _ => rfl
  with_reducible refine low m c (fun st => k0_pay266 (F := Ideal) st) e (8 * t.val + 2) 2 _ x _ _ _ _ (by omega) (by omega) (by omega) (by omega) ?_
  rotate_left
  have e : ∀ st, k0_pay245 (F := Ideal) st = k0_pay18 (F := Ideal) st := fun _ => rfl
  with_reducible refine high m c (fun st => k0_pay245 (F := Ideal) st) e (8 * t.val + 2) 1 _ x _ _ _ _ (by omega) (by omega) (by omega) (by omega) ?_
  rotate_left
  have e : ∀ st, k0_pay244 (F := Ideal) st = k0_pay17 (F := Ideal) st := fun _ => rfl
  with_reducible refine low m c (fun st => k0_pay244 (F := Ideal) st) e (8 * t.val + 2) 1 _ x _ _ _ _ (by omega) (by omega) (by omega) (by omega) ?_
  rotate_left
  have e : ∀ st, k0_pay222 (F := Ideal) (k0_pay220 st) = k0_pay18 (F := Ideal) st := fun _ => rfl
  with_reducible refine high m c (fun st => k0_pay222 (F := Ideal) (k0_pay220 st)) e (8 * t.val + 2) 0 _ x _ _ _ _ (by omega) (by omega) (by omega) (by omega) ?_
  rotate_left
  have e : ∀ st, k0_pay221 (F := Ideal) (k0_pay220 st) = k0_pay17 (F := Ideal) st := fun _ => rfl
  with_reducible refine low m c (fun st => k0_pay221 (F := Ideal) (k0_pay220 st)) e (8 * t.val + 2) 0 _ x _ _ _ _ (by omega) (by omega) (by omega) (by omega) ?_
  rotate_left
  have e : ∀ st, k0_pay196 (F := Ideal) (k0_pay195 st) = k0_pay18 (F := Ideal) st := fun _ => rfl
  with_reducible refine high m c (fun st => k0_pay196 (F := Ideal) (k0_pay195 st)) e (8 * t.val + 1) 3 _ x _ _ _ _ (by omega) (by omega) (by omega) (by omega) ?_
  rotate_left
  have e : ∀ st, k0_pay194 (F := Ideal) st = k0_pay17 (F := Ideal) st := fun _ => rfl
  with_reducible refine low m c (fun st => k0_pay194 (F := Ideal) st) e (8 * t.val + 1) 3 _ x _ _ _ _ (by omega) (by omega) (by omega) (by omega) ?_
  rotate_left
  have e : ∀ st, k0_pay167 (F := Ideal) st = k0_pay18 (F := Ideal) st := fun _ => rfl
  with_reducible refine high m c (fun st => k0_pay167 (F := Ideal) st) e (8 * t.val + 1) 2 _ x _ _ _ _ (by omega) (by omega) (by omega) (by omega) ?_
  rotate_left
  have e : ∀ st, k0_pay166 (F := Ideal) st = k0_pay17 (F := Ideal) st := fun _ => rfl
  with_reducible refine low m c (fun st => k0_pay166 (F := Ideal) st) e (8 * t.val + 1) 2 _ x _ _ _ _ (by omega) (by omega) (by omega) (by omega) ?_
  rotate_left
  have e : ∀ st, k0_pay142 (F := Ideal) st = k0_pay18 (F := Ideal) st := fun _ => rfl
  with_reducible refine high m c (fun st => k0_pay142 (F := Ideal) st) e (8 * t.val + 1) 1 _ x _ _ _ _ (by omega) (by omega) (by omega) (by omega) ?_
  rotate_left
  have e : ∀ st, k0_pay141 (F := Ideal) st = k0_pay17 (F := Ideal) st := fun _ => rfl
  with_reducible refine low m c (fun st => k0_pay141 (F := Ideal) st) e (8 * t.val + 1) 1 _ x _ _ _ _ (by omega) (by omega) (by omega) (by omega) ?_
  rotate_left
  have e : ∀ st, k0_pay118 (F := Ideal) st = k0_pay18 (F := Ideal) st := fun _ => rfl
  with_reducible refine high m c (fun st => k0_pay118 (F := Ideal) st) e (8 * t.val + 1) 0 _ x _ _ _ _ (by omega) (by omega) (by omega) (by omega) ?_
  rotate_left
  have e : ∀ st, k0_pay117 (F := Ideal) st = k0_pay17 (F := Ideal) st := fun _ => rfl
  with_reducible refine low m c (fun st => k0_pay117 (F := Ideal) st) e (8 * t.val + 1) 0 _ x _ _ _ _ (by omega) (by omega) (by omega) (by omega) ?_
  rotate_left
  have e : ∀ st, k0_pay92 (F := Ideal) (k0_pay89 st) = k0_pay18 (F := Ideal) st := fun _ => rfl
  with_reducible refine high m c (fun st => k0_pay92 (F := Ideal) (k0_pay89 st)) e (8 * t.val + 0) 3 _ x _ _ _ _ (by omega) (by omega) (by omega) (by omega) ?_
  rotate_left
  have e : ∀ st, k0_pay91 (F := Ideal) (k0_pay90 st) = k0_pay17 (F := Ideal) st := fun _ => rfl
  with_reducible refine low m c (fun st => k0_pay91 (F := Ideal) (k0_pay90 st)) e (8 * t.val + 0) 3 _ x _ _ _ _ (by omega) (by omega) (by omega) (by omega) ?_
  rotate_left
  have e : ∀ st, k0_pay70 (F := Ideal) st = k0_pay18 (F := Ideal) st := fun _ => rfl
  with_reducible refine high m c (fun st => k0_pay70 (F := Ideal) st) e (8 * t.val + 0) 2 _ x _ _ _ _ (by omega) (by omega) (by omega) (by omega) ?_
  rotate_left
  have e : ∀ st, k0_pay69 (F := Ideal) st = k0_pay17 (F := Ideal) st := fun _ => rfl
  with_reducible refine low m c (fun st => k0_pay69 (F := Ideal) st) e (8 * t.val + 0) 2 _ x _ _ _ _ (by omega) (by omega) (by omega) (by omega) ?_
  rotate_left
  have e : ∀ st, k0_pay39 (F := Ideal) st = k0_pay18 (F := Ideal) st := fun _ => rfl
  with_reducible refine high m c (fun st => k0_pay39 (F := Ideal) st) e (8 * t.val + 0) 1 _ x _ _ _ _ (by omega) (by omega) (by omega) (by omega) ?_
  rotate_left
  have e : ∀ st, k0_pay38 (F := Ideal) st = k0_pay17 (F := Ideal) st := fun _ => rfl
  with_reducible refine low m c (fun st => k0_pay38 (F := Ideal) st) e (8 * t.val + 0) 1 _ x _ _ _ _ (by omega) (by omega) (by omega) (by omega) ?_
  rotate_left
  have e : ∀ st, k0_pay18 (F := Ideal) st = k0_pay18 (F := Ideal) st := fun _ => rfl
  with_reducible refine high m c (fun st => k0_pay18 (F := Ideal) st) e (8 * t.val + 0) 0 _ x _ _ _ _ (by omega) (by omega) (by omega) (by omega) ?_
  rotate_left
  have e : ∀ st, k0_pay17 (F := Ideal) st = k0_pay17 (F := Ideal) st := fun _ => rfl
  with_reducible refine low m c (fun st => k0_pay17 (F := Ideal) st) e (8 * t.val + 0) 0 _ x _ _ _ _ (by omega) (by omega) (by omega) (by omega) ?_
  rotate_left
  all_goals repeat first
    | with_reducible refine hit m c _ _ _ _ _ _ ?_
    | with_reducible refine skip m c _ _ _ _ (by decide) _ _ _ _ ?_
    | refine next m c t hB _ _ _ _ (by omega) (by omega) _ _ _ _ _ _ _ (by omega) _ ?_
  all_goals exact base m c _ _ _ _ _ hw

end

end Cert.Own.Hgs

end
-- ==== Proof.HgsEnd.lean ====
module

public import proofs.«01_k».proof.Proof.Lib
public import proofs.«01_k».proof.Proof.HgsFst
public import proofs.«01_k».proof.Proof.HgsNxt
public import proofs.«01_k».proof.Proof.Gen.HgsKernelIdeal.Value
public import Idealize.ShloMosaic.Lib.Pipeline.ValueKit
public import Idealize.ShloMosaic.Lib.Claim
public import Idealize.ShloMosaic.Lib.Pipeline.ReadBack
public import Idealize.ShloMosaic.Lib.Pointwise

/-! The states at the chunks' starts, over the whole grid. -/

@[expose] public section

set_option maxRecDepth 65536

noncomputable section

namespace Cert.Own.Hgs

open Idealize.ShloMosaic Idealize.ShloMosaic.TcCoe Idealize.SL.Sem
open Cert.HgsKernelIdeal Cert.HgsKernelIdeal.Gen

section
variable (m : (ℓ : Loc nD τ sig) → Buf (Elt Ideal) ℓ) (c : Dev nD)
theorem scr (hB : ∀ b, ∃ a : ℝ, A1 m c (ix2 0 b) = (a : EReal)) : ∀ n hn, All m c (8 * n + 8) (outsAt0 m c n hn).2.2.2.2.2
  | 0, hn => scr_A m c hB ⟨0, hn⟩ rfl
  | n + 1, hn => scr_B m c hB ⟨n + 1, hn⟩ (by change ¬ (n + 1) % 32 = 0; have : n + 1 < 32 := hn; omega) (scr hB n (by have : n + 1 < cfg0.N := hn; omega))

/-- All chunks' states. -/
def states (P : S16384x7680.Idx → EReal) (B : S1x1024.Idx → EReal) : S256x8x128x128.Idx → EReal := fun y =>
  S P B (y 0).val (128 * (y 1).val + (y 2).val) (128 * (y 1).val + (y 3).val)

set_option backward.isDefEq.respectTransparency false in
theorem final8 (hB : ∀ b, ∃ a : ℝ, A1 m c (ix2 0 b) = (a : EReal)) : (dats m 0 c).arrAt 8 cfg0.N = states (A0 m c) (A1 m c) := by
  refine (dats m 0 c).arrAt_eq_of_covers 8 _ (by decide +kernel) fun t hf y => ?_
  obtain ⟨e0, e1, e2, e3⟩ := idx t
  have ht : t.val < 32 := t.isLt
  have ey : (win0_8.blk t).view.emb y
      = ix4 (⟨8 * t.val + (y 0).val, by have := (y 0).isLt; change (y 0).val < 8 at this; omega⟩ : Fin 256)
          (⟨(y 1).val, by have := (y 1).isLt; change (y 1).val < 8 at this; omega⟩ : Fin 8)
          (⟨(y 2).val, by have := (y 2).isLt; change (y 2).val < 128 at this; omega⟩ : Fin 128)
          (⟨(y 3).val, by have := (y 3).isLt; change (y 3).val < 128 at this; omega⟩ : Fin 128) := by
    blk_ext [e3]
  blk_simp
  rw [ey, after0_8]
  by_cases h0 : t.val % 32 = 0
  · exact all_A m c hB t h0 y
  · refine all_B m c hB t h0 ?_ y
    have := scr m c hB (t.val - 1) (by have : t.val < cfg0.N := t.isLt; omega)
    rwa [show 8 * (t.val - 1) + 8 = 8 * t.val by omega] at this

end

end Cert.Own.Hgs

end
-- ==== Proof.HgsRef.lean ====
module

public import proofs.«01_k».proof.Proof.HgsEnd
public import proofs.«01_k».proof.Proof.Hgv
public import proofs.«01_k».proof.Proof.Gen.HgsRefIdeal.Run
public import Idealize.ShloMosaic.Lib.Claim
public import Idealize.ShloMosaic.Lib.Pointwise
public import Idealize.ShloMosaic.Lib.DynamicIndex
public import Idealize.ShloMosaic.Lib.WordCmp

/-! The reference's states: one trip of its loop for each chunk. -/

@[expose] public section

set_option maxRecDepth 65536

noncomputable section

namespace Cert.Own.Hgs

open Idealize.ShloMosaic Idealize.ShloMosaic.TcCoe Idealize.SL.Sem
open Cert.HgsRefIdeal Cert.HgsRefIdeal.Gen Cert.HgsRefIdeal.Value
open Idealize.ShloMosaic.StableHlo
open Cert.Own.Hgv (lf fold_sum shift)

theorem win_pos : ∀ n : Fin 64, ∀ b : Fin 4, ((⟨4, ![1, 1, 64, 1]⟩ : Shape).rowMajor.symm n b).val = (![0, 0, n.val, 0] : Fin 4 → ℕ) b := by
  decide +kernel

/-- The running sum: the rows of a chunk up to a row. -/
theorem running (x : S1x8x64x128.Idx → EReal) (z : S_.Idx → EReal) (hz : z = fun _ => 0) (p : Fin 8) (t : Fin 64) (k : Fin 128) (h) (hu : 0 < S_.numel) :
    Host.reduceWindowAdd (F := Ideal) (φ := .f32) (s := S1x8x64x128) (t := S1x8x64x128) ![1, 1, 64, 1] ![1, 1, 1, 1] ![0, 0, 63, 0] ![0, 0, 0, 0] x z h hu (ix4 0 p t k)
      = ∑ s : Fin 64, if s.val ≤ t.val then x (ix4 0 p s k) else 0 := by
  subst hz
  change Host.reduceWindow (· + ·) _ _ _ _ x _ h _ (ix4 0 p t k) = _
  unfold Host.reduceWindow
  change List.foldl _ _ (List.finRange 64) = _
  have f (n : Fin 64) : ∀ (q : Fin 4 → ℕ) (hq : q = ![0, p.val, t.val + n.val, k.val]) (D : Decidable (∀ b : Fin 4, (![0, 0, 63, 0] : Fin 4 → ℕ) b ≤ q b ∧ q b - (![0, 0, 63, 0] : Fin 4 → ℕ) b < S1x8x64x128.size b)), (if hin : ∀ b : Fin 4, (![0, 0, 63, 0] : Fin 4 → ℕ) b ≤ q b ∧ q b - (![0, 0, 63, 0] : Fin 4 → ℕ) b < S1x8x64x128.size b then x (fun b => ⟨q b - (![0, 0, 63, 0] : Fin 4 → ℕ) b, (hin b).2⟩) else (0 : EReal))
      = if h : 63 ≤ t.val + n.val ∧ t.val + n.val - 63 < 64 then x (ix4 0 p (⟨t.val + n.val - 63, h.2⟩ : Fin 64) k) else 0 := by
    rintro q rfl D
    by_cases hj : 63 ≤ t.val + n.val ∧ t.val + n.val - 63 < 64
    · rw [dif_pos hj, dif_pos]
      · refine congrArg x ?_; funext b; fin_cases b <;> rfl
      · intro b; fin_cases b
        · exact ⟨Nat.zero_le _, Nat.one_pos⟩
        · exact ⟨Nat.zero_le _, p.isLt⟩
        · exact hj
        · exact ⟨Nat.zero_le _, k.isLt⟩
    · rw [dif_neg hj, dif_neg]
      exact fun hin => hj (hin 2)
  have w (n : Fin 64) : (fun b : Fin 4 => (ix4 (0 : Fin 1) p t k b).val * (![1, 1, 1, 1] : Fin 4 → ℕ) b + ((⟨4, ![1, 1, 64, 1]⟩ : Shape).rowMajor.symm n b).val) = ![0, p.val, t.val + n.val, k.val] := by
    funext b
    rw [win_pos n b]
    fin_cases b <;> simp [ix4]
  refine (fold_sum (fun n => _)).trans ((Finset.sum_congr rfl fun n _ => f n _ (w n) _).trans ?_)
  exact shift t (fun s => x (ix4 0 p s k))

/-- A trip's starts. -/
abbrev starts (V : Valuation τ sig (Elt Ideal)) : Fin 5 → Int := fun k =>
  (((![V (Proc.devRef .tc main_v32_3), constantI S_ 32 0#32, constantI S_ 32 0#32, constantI S_ 32 0#32, constantI S_ 32 0#32] : Fin 5 → (⟨S_, .i32⟩ : BufTy).Contents (Elt Ideal))) k (Shape.Idx.first h_S_)).toInt

theorem starts_eq (V : Valuation τ sig (Elt Ideal)) (n : ℕ) (hn : n < 256) (h : V (Proc.devRef .tc main_v32_3) = fun _ => BitVec.ofNat 32 n) :
    ∀ a, starts V a = ((![n, 0, 0, 0, 0] : Fin 5 → ℕ) a : Int) := by
  intro a
  unfold starts
  rw [h]
  fin_cases a
  · exact toInt_ofNat_of_lt (by omega)
  · rfl
  · rfl
  · rfl
  · rfl

/-- A trip's chunk of an array of chunks. -/
theorem part (V : Valuation τ sig (Elt Ideal)) (n : ℕ) (hn : n < 256) (h : V (Proc.devRef .tc main_v32_3) = fun _ => BitVec.ofNat 32 n)
    (x : S256x1x8x64x128.Idx → EReal) (p : Fin 8) (t : Fin 64) (k : Fin 128) :
    shapeCast (α := EReal) S1x8x64x128 (Host.dynamicSlice S1x1x8x64x128 x (starts V) sliceFits_S256x1x8x64x128_S1x1x8x64x128) shapeCasts_S1x1x8x64x128_S1x8x64x128 (ix4 0 p t k)
      = x (ix5 (⟨n, hn⟩ : Fin 256) 0 p t k) := by
  rw [Host.dynamicSlice_eq_extractStridedSlice S1x1x8x64x128 x (starts V) ![n, 0, 0, 0, 0] _ ⟨rfl, by intro a; fin_cases a <;> simp <;> omega⟩ (starts_eq V n hn h)]
  pointwise

/-- Which entry a chunk's row is. -/
theorem pick (x : S1x16384x8x128.Idx → EReal) (a : Fin 256) (p : Fin 8) (t : Fin 64) (k : Fin 128) :
    transpose (α := EReal) S256x1x8x64x128 [1, 0, 3, 2, 4] (shapeCast S1x256x64x8x128 x shapeCasts_S1x16384x8x128_S1x256x64x8x128)
      transposes_S1x256x64x8x128_S256x1x8x64x128_1_0_3_2_4 (ix5 a 0 p t k) = x (ix4 0 (⟨64 * a.val + t.val, by omega⟩ : Fin 16384) p k) := by
  pointwise
  exact congrArg x (congr (congr (congrArg (ix4 0) (Fin.ext (by simp only; omega))) rfl) rfl)

/-- A row's log-decays, as the reference computes them. -/
theorem logs' (X : Vec Ideal S16384x7680 .f32) (Y : Vec Ideal S1x1024 .f32) (i : Fin 16384) (p : Fin 8) (k : Fin 128) :
    Host.log (F := Ideal) (φ := .f32) (maximumf (addf (broadcastInDim S1x16384x8x128 ![0, 1, 2, 3] bcast_S1x1x8x128_S1x16384x8x128_0_1_2_3 (broadcastInDim S1x1x8x128 ![2, 3] bcast_S8x128_S1x1x8x128_2_3 (shapeCast _ Y shapeCasts_S1x1024_S8x128))) (mulf (broadcastInDim S1x16384x8x128 ![0, 1, 2, 3] bcast_S1x1x8x128_S1x16384x8x128_0_1_2_3 (broadcastInDim S1x1x8x128 ![2, 3] bcast_S8x128_S1x1x8x128_2_3 (subf (broadcastInDim S8x128 ![] bcast_S_S8x128 (constant S_ .f32 0x3F800000#32)) (shapeCast _ Y shapeCasts_S1x1024_S8x128)))) (Host.divf (broadcastInDim S1x16384x8x128 ![] bcast_S_S1x16384x8x128 (constant S_ .f32 0x3F800000#32)) (addf (broadcastInDim S1x16384x8x128 ![] bcast_S_S1x16384x8x128 (constant S_ .f32 0x3F800000#32)) (Host.exp (Host.negf (shapeCast _ (extractStridedSlice S16384x1024 ![0, 1024] X slices_S16384x7680_S16384x1024_0_1024) shapeCasts_S16384x1024_S1x16384x8x128))))))) (broadcastInDim S1x16384x8x128 ![] bcast_S_S1x16384x8x128 (constant S_ .f32 0x0DA24260#32))) (ix4 0 i p k) = lf (X (ix2 i (⟨1024 + (128 * p.val + k.val), by omega⟩ : Fin 7680))) (Y (ix2 0 (⟨128 * p.val + k.val, by omega⟩ : Fin 1024))) := by
  pointwise [lf]
  simp only [div_logistic, Nat.mul_comm p.val 128]

/-- What a row lets in, as the reference computes it. -/
theorem lets (X : Vec Ideal S16384x7680 .f32) (Y : Vec Ideal S1x1024 .f32) (i : Fin 16384) (p : Fin 8) (k : Fin 128) :
    (subf (F := Ideal) (φ := .f32) (broadcastInDim S1x16384x8x128 ![] bcast_S_S1x16384x8x128 (constant S_ .f32 0x3F800000#32)) (addf (broadcastInDim S1x16384x8x128 ![0, 1, 2, 3] bcast_S1x1x8x128_S1x16384x8x128_0_1_2_3 (broadcastInDim S1x1x8x128 ![2, 3] bcast_S8x128_S1x1x8x128_2_3 (shapeCast _ Y shapeCasts_S1x1024_S8x128))) (mulf (broadcastInDim S1x16384x8x128 ![0, 1, 2, 3] bcast_S1x1x8x128_S1x16384x8x128_0_1_2_3 (broadcastInDim S1x1x8x128 ![2, 3] bcast_S8x128_S1x1x8x128_2_3 (subf (broadcastInDim S8x128 ![] bcast_S_S8x128 (constant S_ .f32 0x3F800000#32)) (shapeCast _ Y shapeCasts_S1x1024_S8x128)))) (Host.divf (broadcastInDim S1x16384x8x128 ![] bcast_S_S1x16384x8x128 (constant S_ .f32 0x3F800000#32)) (addf (broadcastInDim S1x16384x8x128 ![] bcast_S_S1x16384x8x128 (constant S_ .f32 0x3F800000#32)) (Host.exp (Host.negf (shapeCast _ (extractStridedSlice S16384x1024 ![0, 1024] X slices_S16384x7680_S16384x1024_0_1024) shapeCasts_S16384x1024_S1x16384x8x128)))))))) (ix4 0 i p k) = 1 - (Y (ix2 0 (⟨128 * p.val + k.val, by omega⟩ : Fin 1024)) + (1 - Y (ix2 0 (⟨128 * p.val + k.val, by omega⟩ : Fin 1024))) * Ideal.logistic (X (ix2 i (⟨1024 + (128 * p.val + k.val), by omega⟩ : Fin 7680)))) := by
  pointwise
  simp only [div_logistic, Nat.mul_comm p.val 128]

theorem vals (X : Vec Ideal S16384x7680 .f32) (i : Fin 16384) (p : Fin 8) (k : Fin 128) :
    (shapeCast S1x16384x8x128 (extractStridedSlice S16384x1024 ![0, 2048] X slices_S16384x7680_S16384x1024_0_2048) shapeCasts_S16384x1024_S1x16384x8x128 : S1x16384x8x128.Idx → EReal) (ix4 0 i p k)
      = X (ix2 i (⟨2048 + (128 * p.val + k.val), by omega⟩ : Fin 7680)) := by
  pointwise
  simp only [Nat.mul_comm p.val 128]

theorem at2_eq (X : S16384x7680.Idx → EReal) (i : Fin 16384) (j : Fin 7680) : at2 X i.val j.val = X (ix2 i j) := dif_pos ⟨i.isLt, j.isLt⟩
theorem at1_eq (Y : S1x1024.Idx → EReal) (j : Fin 1024) : at1 Y j.val = Y (ix2 0 j) := dif_pos j.isLt

section
variable (X : S16384x7680.Idx → EReal) (Y : S1x1024.Idx → EReal)

/-- One trip's new state, entry by entry. -/
theorem mid (x1 x3 x4 : FVec Ideal S1x8x64x128 .f32) (x2 : FVec Ideal S1x8x1x128 .f32) (x5 : FVec Ideal S1x8x128x128 .f32) (p : Fin 8) (a b : Fin 128) :
    addf (F := Ideal) (φ := .f32) (mulf (broadcastInDim S1x8x128x128 ![0, 1, 2, 3] bcast_S1x8x128x1_S1x8x128x128_0_1_2_3 (broadcastInDim S1x8x128x1 ![0, 1, 2] bcast_S1x8x128_S1x8x128x1_0_1_2 (Host.exp (shapeCast S1x8x128 x2 shapeCasts_S1x8x1x128_S1x8x128)))) x5)
      (Host.dotGeneral dot_S1x8x64x128_S1x8x64x128_S1x8x128x128_2_2_3_3_01_01 none (mulf x3 (Host.exp (subf (broadcastInDim S1x8x64x128 ![0, 1, 2, 3] bcast_S1x8x1x128_S1x8x64x128_0_1_2_3 x2) x1))) x4) (ix4 0 p a b)
      = Ideal.exp (x2 (ix4 0 p 0 a)) * x5 (ix4 0 p a b) + ∑ s : Fin 64, x3 (ix4 0 p s a) * Ideal.exp (x2 (ix4 0 p 0 a) - x1 (ix4 0 p s a)) * x4 (ix4 0 p s b) := by
  pointwise

theorem fits (n : ℕ) (hn : n < 256) : S256x1x8x128x128.Slices ![n, 0, 0, 0, 0] S1x1x8x128x128 :=
  ⟨rfl, by intro a; fin_cases a <;> simp <;> omega⟩

/-- A chunk's entry put at its place. -/
theorem put (x : S1x8x128x128.Idx → EReal) (y : S256x1x8x128x128.Idx → EReal) (st : Fin 5 → Int) (n : ℕ) (hn : n < 256)
    (e : ∀ a, st a = ((![n, 0, 0, 0, 0] : Fin 5 → ℕ) a : Int)) (j : Fin 256) (p : Fin 8) (a b : Fin 128) :
    Host.dynamicUpdateSlice (s := S256x1x8x128x128) y (broadcastInDim S1x1x8x128x128 ![1, 2, 3, 4] bcast_S1x8x128x128_S1x1x8x128x128_1_2_3_4 x) st updateFits_S256x1x8x128x128_S1x1x8x128x128 (ix5 j 0 p a b)
      = if j.val = n then x (ix4 0 p a b) else y (ix5 j 0 p a b) := by
  refine (congrFun (WordCmp.dynamicUpdateSlice_eq_update (u := S1x1x8x128x128) y _ st _ ![n, 0, 0, 0, 0] (fits n hn) e) _).trans ?_
  refine (updateSlice_apply _ _ _ _ _).trans ?_
  by_cases h : j.val = n
  · rw [if_pos h, dif_pos]
    · pointwise
    · intro q
      have := p.isLt
      have := a.isLt
      have := b.isLt
      fin_cases q <;> simp [ix5] <;> omega
  · rw [if_neg h, dif_neg]
    intro hin
    have := hin 0
    simp [ix5] at this
    omega

/-- What the loop's buffers hold before a trip. -/
structure Inv (V : Valuation τ sig (Elt Ideal)) (n : ℕ) : Prop where
  k : ∀ (a : Fin 256) (p : Fin 8) (t : Fin 64) (b : Fin 128), (V (Proc.devRef .tc main_v32_0) : S256x1x8x64x128.Idx → EReal) (ix5 a 0 p t b) = K X Y (64 * a.val + t.val) (128 * p.val + b.val)
  v : ∀ (a : Fin 256) (p : Fin 8) (t : Fin 64) (b : Fin 128), (V (Proc.devRef .tc main_v32_1) : S256x1x8x64x128.Idx → EReal) (ix5 a 0 p t b) = at2 X (64 * a.val + t.val) (2048 + (128 * p.val + b.val))
  f : ∀ (a : Fin 256) (p : Fin 8) (t : Fin 64) (b : Fin 128), (V (Proc.devRef .tc main_v32_2) : S256x1x8x64x128.Idx → EReal) (ix5 a 0 p t b) = lf (at2 X (64 * a.val + t.val) (1024 + (128 * p.val + b.val))) (at1 Y (128 * p.val + b.val))
  i : V (Proc.devRef .tc main_v32_3) = fun _ => BitVec.ofNat 32 n
  s : ∀ (p : Fin 8) (a b : Fin 128), (V (Proc.devRef .tc main_v32_4) : S1x8x128x128.Idx → EReal) (ix4 0 p a b) = S X Y n (128 * p.val + b.val) (128 * p.val + a.val)
  o : ∀ (j : Fin 256) (p : Fin 8) (a b : Fin 128), j.val < n → (V (Proc.devRef .tc main_v32_5) : S256x1x8x128x128.Idx → EReal) (ix5 j 0 p a b) = S X Y j.val (128 * p.val + b.val) (128 * p.val + a.val)

variable {X Y}
variable {V : Valuation τ sig (Elt Ideal)} {n : ℕ}

theorem Inv.sums (h : Inv X Y V n) (hn : n < 256) (p : Fin 8) (t : Fin 64) (b : Fin 128) :
    (res_main_while0b_v38 V : S1x8x64x128.Idx → EReal) (ix4 0 p t b) = R X Y n t.val (128 * p.val + b.val) := by
  unfold res_main_while0b_v38
  refine (running _ _ (by funext j; pointwise) _ _ _ _ _).trans ?_
  refine Finset.sum_congr rfl fun s _ => ?_
  refine if_congr Iff.rfl ?_ rfl
  exact (part V n hn h.i _ _ _ _).trans (h.f _ _ _ _)

theorem Inv.last (h : Inv X Y V n) (hn : n < 256) (p : Fin 8) (b : Fin 128) :
    (res_main_while0b_v39 V : S1x8x1x128.Idx → EReal) (ix4 0 p 0 b) = R X Y n 63 (128 * p.val + b.val) := by
  refine Eq.trans ?_ (h.sums hn p 63 b)
  unfold res_main_while0b_v39
  generalize res_main_while0b_v38 V = x
  pointwise

theorem Inv.state (h : Inv X Y V n) (hn : n < 256) (p : Fin 8) (a b : Fin 128) :
    (step_main_v32_4 V : S1x8x128x128.Idx → EReal) (ix4 0 p a b) = S X Y (n + 1) (128 * p.val + b.val) (128 * p.val + a.val) := by
  have h1 := h.sums hn
  have h2 := h.last hn
  have h3 := fun p t b => (part V n hn h.i _ p t b).trans (h.k ⟨n, hn⟩ p t b)
  have h4 := fun p t b => (part V n hn h.i _ p t b).trans (h.v ⟨n, hn⟩ p t b)
  have h5 := h.s
  unfold step_main_v32_4
  unfold starts at h3 h4
  revert h1 h2 h3 h4 h5
  generalize res_main_while0b_v38 V = x1
  generalize res_main_while0b_v39 V = x2
  generalize shapeCast S1x8x64x128 (Host.dynamicSlice S1x1x8x64x128 (V (Proc.devRef .tc main_v32_0)) _ _) _ = x3
  generalize shapeCast S1x8x64x128 (Host.dynamicSlice S1x1x8x64x128 (V (Proc.devRef .tc main_v32_1)) _ _) _ = x4
  generalize V (Proc.devRef .tc main_v32_4) = x5
  intro h1 h2 h3 h4 h5
  refine (mid x1 x3 x4 x2 x5 p a b).trans ?_
  rw [S, mul_comm (S X Y n _ _), h2, h5]
  refine congrArg _ (Finset.sum_congr rfl fun s _ => ?_)
  rw [h1, h3, h4, mul_comm]

theorem Inv.out (h : Inv X Y V n) (hn : n < 256) (j : Fin 256) (p : Fin 8) (a b : Fin 128) (hj : j.val < n + 1) :
    (step_main_v32_5 V : S256x1x8x128x128.Idx → EReal) (ix5 j 0 p a b) = S X Y j.val (128 * p.val + b.val) (128 * p.val + a.val) := by
  have e := starts_eq V n hn h.i
  have h1 := h.s
  have h2 := h.o
  unfold step_main_v32_5
  revert e h1 h2
  unfold starts
  generalize V (Proc.devRef .tc main_v32_4) = x
  generalize V (Proc.devRef .tc main_v32_5) = y
  intro e h1 h2
  refine (put x y _ n hn e j p a b).trans ?_
  split_ifs with g
  · rw [h1, g]
  · exact h2 j p a b (by omega)

theorem Inv.step (h : Inv X Y V n) (hn : n < 256) : Inv X Y (STEP V) (n + 1) := by
  constructor
  · rw [STEP_main_v32_0]; exact h.k
  · rw [STEP_main_v32_1]; exact h.v
  · rw [STEP_main_v32_2]; exact h.f
  · rw [STEP_main_v32_3]
    unfold step_main_v32_3
    rw [h.i]
    funext y
    change BitVec.ofNat 32 n + 1#32 = BitVec.ofNat 32 (n + 1)
    rw [BitVec.ofNat_add]
  · rw [STEP_main_v32_4]; exact h.state hn
  · rw [STEP_main_v32_5]; exact h.out hn

theorem Inv.iter (h : Inv X Y V 0) : ∀ n, n ≤ 256 → Inv X Y (STEP^[n] V) n
  | 0, _ => h
  | n + 1, hn => by
    rw [Function.iterate_succ_apply']
    exact (Inv.iter h n (by omega)).step (by omega)

end

section
variable (m : (ℓ : Loc nD τ sig) → Buf (Elt Ideal) ℓ) (c : Dev nD)

/-- What the loop's buffers hold as it starts. -/
theorem entry : Inv (m (c.tc.loc main_arg0)) (m (c.tc.loc main_arg1)) (entryContents preI m c) 0 := by
  constructor
  · intro a p t b
    have e : (entryContents preI m c (Proc.devRef .tc main_v32_0) : S256x1x8x64x128.Idx → EReal) = transpose S256x1x8x64x128 [1, 0, 3, 2, 4] (shapeCast S1x256x64x8x128 (subf (F := Ideal) (φ := .f32) (broadcastInDim S1x16384x8x128 ![] bcast_S_S1x16384x8x128 (constant S_ .f32 0x3F800000#32)) (addf (broadcastInDim S1x16384x8x128 ![0, 1, 2, 3] bcast_S1x1x8x128_S1x16384x8x128_0_1_2_3 (broadcastInDim S1x1x8x128 ![2, 3] bcast_S8x128_S1x1x8x128_2_3 (shapeCast _ (m (c.tc.loc main_arg1)) shapeCasts_S1x1024_S8x128))) (mulf (broadcastInDim S1x16384x8x128 ![0, 1, 2, 3] bcast_S1x1x8x128_S1x16384x8x128_0_1_2_3 (broadcastInDim S1x1x8x128 ![2, 3] bcast_S8x128_S1x1x8x128_2_3 (subf (broadcastInDim S8x128 ![] bcast_S_S8x128 (constant S_ .f32 0x3F800000#32)) (shapeCast _ (m (c.tc.loc main_arg1)) shapeCasts_S1x1024_S8x128)))) (Host.divf (broadcastInDim S1x16384x8x128 ![] bcast_S_S1x16384x8x128 (constant S_ .f32 0x3F800000#32)) (addf (broadcastInDim S1x16384x8x128 ![] bcast_S_S1x16384x8x128 (constant S_ .f32 0x3F800000#32)) (Host.exp (Host.negf (shapeCast _ (extractStridedSlice S16384x1024 ![0, 1024] (m (c.tc.loc main_arg0)) slices_S16384x7680_S16384x1024_0_1024) shapeCasts_S16384x1024_S1x16384x8x128)))))))) shapeCasts_S1x16384x8x128_S1x256x64x8x128) transposes_S1x256x64x8x128_S256x1x8x64x128_1_0_3_2_4 := by
      simp only [entryContents, afterL_cons, afterL_nil]
      after_reads_simp
      rfl
    rw [e]
    refine (pick _ _ _ _ _).trans ((lets _ _ _ _ _).trans ?_)
    unfold K
    rw [← at1_eq (m (c.tc.loc main_arg1)), ← at2_eq (m (c.tc.loc main_arg0))]
  · intro a p t b
    have e : (entryContents preI m c (Proc.devRef .tc main_v32_1) : S256x1x8x64x128.Idx → EReal) = transpose S256x1x8x64x128 [1, 0, 3, 2, 4] (shapeCast S1x256x64x8x128 (shapeCast S1x16384x8x128 (extractStridedSlice S16384x1024 ![0, 2048] (m (c.tc.loc main_arg0)) slices_S16384x7680_S16384x1024_0_2048) shapeCasts_S16384x1024_S1x16384x8x128) shapeCasts_S1x16384x8x128_S1x256x64x8x128) transposes_S1x256x64x8x128_S256x1x8x64x128_1_0_3_2_4 := by
      simp only [entryContents, afterL_cons, afterL_nil]
      after_reads_simp
      rfl
    rw [e]
    refine (pick _ _ _ _ _).trans ((vals _ _ _ _).trans ?_)
    rw [← at2_eq (m (c.tc.loc main_arg0))]
  · intro a p t b
    have e : (entryContents preI m c (Proc.devRef .tc main_v32_2) : S256x1x8x64x128.Idx → EReal) = transpose S256x1x8x64x128 [1, 0, 3, 2, 4] (shapeCast S1x256x64x8x128 (Host.log (F := Ideal) (φ := .f32) (maximumf (addf (broadcastInDim S1x16384x8x128 ![0, 1, 2, 3] bcast_S1x1x8x128_S1x16384x8x128_0_1_2_3 (broadcastInDim S1x1x8x128 ![2, 3] bcast_S8x128_S1x1x8x128_2_3 (shapeCast _ (m (c.tc.loc main_arg1)) shapeCasts_S1x1024_S8x128))) (mulf (broadcastInDim S1x16384x8x128 ![0, 1, 2, 3] bcast_S1x1x8x128_S1x16384x8x128_0_1_2_3 (broadcastInDim S1x1x8x128 ![2, 3] bcast_S8x128_S1x1x8x128_2_3 (subf (broadcastInDim S8x128 ![] bcast_S_S8x128 (constant S_ .f32 0x3F800000#32)) (shapeCast _ (m (c.tc.loc main_arg1)) shapeCasts_S1x1024_S8x128)))) (Host.divf (broadcastInDim S1x16384x8x128 ![] bcast_S_S1x16384x8x128 (constant S_ .f32 0x3F800000#32)) (addf (broadcastInDim S1x16384x8x128 ![] bcast_S_S1x16384x8x128 (constant S_ .f32 0x3F800000#32)) (Host.exp (Host.negf (shapeCast _ (extractStridedSlice S16384x1024 ![0, 1024] (m (c.tc.loc main_arg0)) slices_S16384x7680_S16384x1024_0_1024) shapeCasts_S16384x1024_S1x16384x8x128))))))) (broadcastInDim S1x16384x8x128 ![] bcast_S_S1x16384x8x128 (constant S_ .f32 0x0DA24260#32)))) shapeCasts_S1x16384x8x128_S1x256x64x8x128) transposes_S1x256x64x8x128_S256x1x8x64x128_1_0_3_2_4 := by
      simp only [entryContents, afterL_cons, afterL_nil]
      after_reads_simp
      rfl
    rw [e]
    refine (pick _ _ _ _ _).trans ((logs' _ _ _ _ _).trans ?_)
    rw [← at1_eq (m (c.tc.loc main_arg1)), ← at2_eq (m (c.tc.loc main_arg0))]
  · exact ctr_entry m c
  · intro p a b
    have e : (entryContents preI m c (Proc.devRef .tc main_v32_4) : S1x8x128x128.Idx → EReal) = broadcastInDim S1x8x128x128 ![] bcast_S_S1x8x128x128 (constant (F := Ideal) S_ .f32 0x00000000#32) := by
      simp only [entryContents, afterL_cons, afterL_nil]
      after_reads_simp
      rfl
    rw [e, S]
    pointwise
  · exact fun j _ _ _ hj => absurd hj (Nat.not_lt_zero _)

/-- The reference's result. -/
theorem result : (out_main_v34 (STEP^[256] (entryContents preI m c)) : S256x8x128x128.Idx → EReal) = states (m (c.tc.loc main_arg0)) (m (c.tc.loc main_arg1)) := by
  have h := ((entry m c).iter 256 (Nat.le_refl _)).o
  unfold out_main_v34 states
  revert h
  generalize (STEP^[256] (entryContents preI m c)) (Proc.devRef .tc main_v32_5) = x
  intro h
  funext y
  idx_vars y
  pointwise
  exact h _ _ _ _ y0.isLt

end

end Cert.Own.Hgs

end
-- ==== Proof.Hgs.lean ====
module

public import proofs.«01_k».proof.Defs
public import proofs.«01_k».proof.Proof.HgsRef
public import proofs.«01_k».proof.Proof.Gen.Pre_hgs_finite
public import Idealize.ShloMosaic.Lib.Claim
public import Idealize.ShloMosaic.Lib.Pointwise

/-! The recurrence's states at the chunks' starts: the kernel's are the reference's. -/

@[expose] public section

set_option maxRecDepth 65536

noncomputable section

namespace Cert.Own.Hgs

open Idealize.ShloMosaic Idealize.ShloMosaic.TcCoe Idealize.SL.Sem

theorem algebraic : Cert.algebraic_HgsKernelIdeal_HgsRefIdeal_pre_hgs_finite := by
  pair_intro
  · run_from Cert.HgsKernelIdeal.Value.run m g
  · refine (θ_run _ _ _).mono (fun r h c => ⟨(h c).1.trans ?_, (h c).2⟩) (Cert.HgsRefIdeal.Value.run m' g')
    clear h
    obtain ⟨a0, a1, a2⟩ := hagree c
    have pl (k : Fin 1024) : ∃ r : ℝ, m (c.tc.loc Cert.HgsKernelIdeal.main_arg1) (ix2 0 k) = (r : EReal) := by
      have := congrFun (hpre c) (ix2 0 k)
      revert this
      pointwise [Cert.Pre_hgs_finite.fn]
      exact real_of_test
    refine Eq.trans ?_ ((final8 m c pl).symm.trans (Cert.HgsKernelIdeal.Value.final8 m c))
    refine (result m' c).trans ?_
    rw [a0, a1]

end Cert.Own.Hgs

end
-- ==== Proof.lean ====
module

public import proofs.«01_k».proof.Defs
public import Idealize.ShloMosaic.Lib.Claim
public import proofs.«01_k».proof.Proof.Gen.FfnKernel.Frame
public import proofs.«01_k».proof.Proof.Gen.FfnKernelIdeal.Frame
public import proofs.«01_k».proof.Proof.Gen.FfnRefIdeal.Run
public import proofs.«01_k».proof.Proof.Gen.LbKernel.Frame
public import proofs.«01_k».proof.Proof.Gen.LbKernelIdeal.Frame
public import proofs.«01_k».proof.Proof.Gen.LbRefIdeal.Run
public import proofs.«01_k».proof.Proof.Gen.LossKernel.Frame
public import proofs.«01_k».proof.Proof.Gen.LossKernelIdeal.Frame
public import proofs.«01_k».proof.Proof.Gen.LossRefIdeal.Run
public import proofs.«01_k».proof.Proof.Gen.MergeKernel.Frame
public import proofs.«01_k».proof.Proof.Gen.MergeKernelIdeal.Frame
public import proofs.«01_k».proof.Proof.Gen.MergeRefIdeal.Run
public import proofs.«01_k».proof.Proof.Gen.UpKernel.Frame
public import proofs.«01_k».proof.Proof.Gen.UpKernelIdeal.Frame
public import proofs.«01_k».proof.Proof.Gen.UpRefIdeal.Run
public import proofs.«01_k».proof.Proof.Gen.WinKernel.Frame
public import proofs.«01_k».proof.Proof.Gen.WinKernelIdeal.Frame
public import proofs.«01_k».proof.Proof.Gen.WinRefIdeal.Run
public import proofs.«01_k».proof.Proof.Gen.SwfKernel.Frame
public import proofs.«01_k».proof.Proof.Gen.SwfKernelIdeal.Frame
public import proofs.«01_k».proof.Proof.Gen.SwfRefIdeal.Run
public import proofs.«01_k».proof.Proof.Gen.SwvKernel.Frame
public import proofs.«01_k».proof.Proof.Gen.SwvKernelIdeal.Frame
public import proofs.«01_k».proof.Proof.Gen.SwvRefIdeal.Run
public import proofs.«01_k».proof.Proof.Gen.MixKernel.Frame
public import proofs.«01_k».proof.Proof.Gen.MixKernelIdeal.Frame
public import proofs.«01_k».proof.Proof.Gen.MixRefIdeal.Run
public import proofs.«01_k».proof.Proof.Gen.ActKernel.Frame
public import proofs.«01_k».proof.Proof.Gen.ActKernelIdeal.Frame
public import proofs.«01_k».proof.Proof.Gen.ActRefIdeal.Run
public import proofs.«01_k».proof.Proof.Gen.DownKernel.Frame
public import proofs.«01_k».proof.Proof.Gen.DownKernelIdeal.Frame
public import proofs.«01_k».proof.Proof.Gen.DownRefIdeal.Run
public import proofs.«01_k».proof.Proof.Gen.BoundsKernel.Frame
public import proofs.«01_k».proof.Proof.Gen.BoundsKernelIdeal.Frame
public import proofs.«01_k».proof.Proof.Gen.BoundsRefIdeal.Run
public import proofs.«01_k».proof.Proof.Gen.RmsKernel.Frame
public import proofs.«01_k».proof.Proof.Gen.RmsKernelIdeal.Frame
public import proofs.«01_k».proof.Proof.Gen.RmsRefIdeal.Run
public import proofs.«01_k».proof.Proof.Gen.ProjKernel.Frame
public import proofs.«01_k».proof.Proof.Gen.ProjKernelIdeal.Frame
public import proofs.«01_k».proof.Proof.Gen.ProjRefIdeal.Run
public import proofs.«01_k».proof.Proof.Gen.WguKernel.Frame
public import proofs.«01_k».proof.Proof.Gen.WguKernelIdeal.Frame
public import proofs.«01_k».proof.Proof.Gen.WguRefIdeal.Run
public import proofs.«01_k».proof.Proof.Gen.SlotsKernel.Frame
public import proofs.«01_k».proof.Proof.Gen.SlotsKernelIdeal.Frame
public import proofs.«01_k».proof.Proof.Gen.SlotsRefIdeal.Run
public import proofs.«01_k».proof.Proof.Gen.AdamKernel.Frame
public import proofs.«01_k».proof.Proof.Gen.AdamKernelIdeal.Frame
public import proofs.«01_k».proof.Proof.Gen.AdamRefIdeal.Run
public import proofs.«01_k».proof.Proof.Gen.HgvKernel.Frame
public import proofs.«01_k».proof.Proof.Gen.HgvKernelIdeal.Frame
public import proofs.«01_k».proof.Proof.Gen.HgvRefIdeal.Run
public import proofs.«01_k».proof.Proof.Gen.HgsKernel.Frame
public import proofs.«01_k».proof.Proof.Gen.HgsKernelIdeal.Frame
public import proofs.«01_k».proof.Proof.Gen.HgsRefIdeal.Run
public import proofs.«01_k».proof.Proof.Gen.HgCall.Frame
public import proofs.«01_k».proof.Proof.Gen.HgCallIdeal.Frame
public import proofs.«01_k».proof.Proof.Gen.Pre_ffn_finite
public import proofs.«01_k».proof.Proof.Gen.Pre_lb_finite
public import proofs.«01_k».proof.Proof.Gen.Pre_swf_finite
public import proofs.«01_k».proof.Proof.Gen.Pre_swv_finite
public import proofs.«01_k».proof.Proof.Gen.Pre_hgv_finite
public import proofs.«01_k».proof.Proof.Gen.Pre_hgs_finite
public import proofs.«01_k».proof.Proof.Ffn
public import proofs.«01_k».proof.Proof.FfnClaim
public import proofs.«01_k».proof.Proof.Merge
public import proofs.«01_k».proof.Proof.Up
public import proofs.«01_k».proof.Proof.Win
public import proofs.«01_k».proof.Proof.Loss
public import proofs.«01_k».proof.Proof.Lb
public import proofs.«01_k».proof.Proof.Lib
public import proofs.«01_k».proof.Proof.SwfCom
public import proofs.«01_k».proof.Proof.SwfHead
public import proofs.«01_k».proof.Proof.SwfTab
public import proofs.«01_k».proof.Proof.SwfRef
public import proofs.«01_k».proof.Proof.SwfKer
public import proofs.«01_k».proof.Proof.Swf
public import proofs.«01_k».proof.Proof.SwvRun
public import proofs.«01_k».proof.Proof.SwvVal
public import proofs.«01_k».proof.Proof.SwvHead
public import proofs.«01_k».proof.Proof.SwvFrame
public import proofs.«01_k».proof.Proof.SwvTab
public import proofs.«01_k».proof.Proof.SwvRef
public import proofs.«01_k».proof.Proof.SwvKer
public import proofs.«01_k».proof.Proof.SwvBits
public import proofs.«01_k».proof.Proof.Swv
public import proofs.«01_k».proof.Proof.Mix
public import proofs.«01_k».proof.Proof.Act
public import proofs.«01_k».proof.Proof.Down
public import proofs.«01_k».proof.Proof.Bounds
public import proofs.«01_k».proof.Proof.Rms
public import proofs.«01_k».proof.Proof.Proj
public import proofs.«01_k».proof.Proof.Wgu
public import proofs.«01_k».proof.Proof.Slots
public import proofs.«01_k».proof.Proof.Adam
public import proofs.«01_k».proof.Proof.HgvPay
public import proofs.«01_k».proof.Proof.HgvKer
public import proofs.«01_k».proof.Proof.Hgv
public import proofs.«01_k».proof.Proof.HgsPay
public import proofs.«01_k».proof.Proof.HgsKer
public import proofs.«01_k».proof.Proof.HgsFst
public import proofs.«01_k».proof.Proof.HgsNxt
public import proofs.«01_k».proof.Proof.HgsEnd
public import proofs.«01_k».proof.Proof.HgsRef
public import proofs.«01_k».proof.Proof.Hgs

/-! The certificate: every claim, from the generated frames, the generated runs of the references and the value proofs. -/

@[expose] public section

set_option maxRecDepth 16384

noncomputable section

namespace Cert.Proof

open Idealize.ShloMosaic Idealize.ShloMosaic.TcCoe Idealize.SL.Sem

/-- The reference of `Ffn` runs, leaves its arguments and declares no semaphore. -/
theorem frame_Ffn : Cert.quiescent_FfnRefIdeal := fun m g _ =>
  (θ_run Cert.FfnRefIdeal.defs _ _).mono (fun r h => ⟨fun c => (h c).2.2, sem_eq_zero_of_no_sems (by decide) r.2⟩)
    (Cert.FfnRefIdeal.Value.run (F := Ideal) m g)

/-- The reference of `Lb` runs, leaves its arguments and declares no semaphore. -/
theorem frame_Lb : Cert.quiescent_LbRefIdeal := fun m g _ =>
  (θ_run Cert.LbRefIdeal.defs _ _).mono (fun r h => ⟨fun c => (h c).2, sem_eq_zero_of_no_sems (by decide) r.2⟩)
    (Cert.LbRefIdeal.Value.run (F := Ideal) m g)

/-- The reference of `Loss` runs, leaves its arguments and declares no semaphore. -/
theorem frame_Loss : Cert.quiescent_LossRefIdeal := fun m g _ =>
  (θ_run Cert.LossRefIdeal.defs _ _).mono (fun r h => ⟨fun c => (h c).2.2.2, sem_eq_zero_of_no_sems (by decide) r.2⟩)
    (Cert.LossRefIdeal.Value.run (F := Ideal) m g)

/-- The reference of `Merge` runs, leaves its arguments and declares no semaphore. -/
theorem frame_Merge : Cert.quiescent_MergeRefIdeal := fun m g _ =>
  (θ_run Cert.MergeRefIdeal.defs _ _).mono (fun r h => ⟨fun c => (h c).2.2.2.2.2, sem_eq_zero_of_no_sems (by decide) r.2⟩)
    (Cert.MergeRefIdeal.Value.run (F := Ideal) m g)

/-- The reference of `Up` runs, leaves its arguments and declares no semaphore. -/
theorem frame_Up : Cert.quiescent_UpRefIdeal := fun m g _ =>
  (θ_run Cert.UpRefIdeal.defs _ _).mono (fun r h => ⟨fun c => (h c).2.2, sem_eq_zero_of_no_sems (by decide) r.2⟩)
    (Cert.UpRefIdeal.Value.run (F := Ideal) m g)

/-- The reference of `Win` runs, leaves its arguments and declares no semaphore. -/
theorem frame_Win : Cert.quiescent_WinRefIdeal := fun m g _ =>
  (θ_run Cert.WinRefIdeal.defs _ _).mono (fun r h => ⟨fun c => (h c).2.2, sem_eq_zero_of_no_sems (by decide) r.2⟩)
    (Cert.WinRefIdeal.Value.run (F := Ideal) m g)

/-- The reference of `Swf` runs, leaves its arguments and declares no semaphore. -/
theorem frame_Swf : Cert.quiescent_SwfRefIdeal := fun m g _ =>
  (θ_run Cert.SwfRefIdeal.defs _ _).mono (fun r h => ⟨fun c => (h c).2, sem_eq_zero_of_no_sems (by decide) r.2⟩)
    (Cert.SwfRefIdeal.Value.run (F := Ideal) m g)

/-- The reference of `Swv` runs, leaves its arguments and declares no semaphore. -/
theorem frame_Swv : Cert.quiescent_SwvRefIdeal := fun m g _ =>
  (θ_run Cert.SwvRefIdeal.defs _ _).mono (fun r h => ⟨fun c => (h c).2, sem_eq_zero_of_no_sems (by decide) r.2⟩)
    (Cert.SwvRefIdeal.Value.run (F := Ideal) m g)

/-- The reference of `Mix` runs, leaves its arguments and declares no semaphore. -/
theorem frame_Mix : Cert.quiescent_MixRefIdeal := fun m g _ =>
  (θ_run Cert.MixRefIdeal.defs _ _).mono (fun r h => ⟨fun c => (h c).2.2.2.2.2, sem_eq_zero_of_no_sems (by decide) r.2⟩)
    (Cert.MixRefIdeal.Value.run (F := Ideal) m g)

/-- The reference of `Act` runs, leaves its arguments and declares no semaphore. -/
theorem frame_Act : Cert.quiescent_ActRefIdeal := fun m g _ =>
  (θ_run Cert.ActRefIdeal.defs _ _).mono (fun r h => ⟨fun c => (h c).2.2.2, sem_eq_zero_of_no_sems (by decide) r.2⟩)
    (Cert.ActRefIdeal.Value.run (F := Ideal) m g)

/-- The reference of `Down` runs, leaves its arguments and declares no semaphore. -/
theorem frame_Down : Cert.quiescent_DownRefIdeal := fun m g _ =>
  (θ_run Cert.DownRefIdeal.defs _ _).mono (fun r h => ⟨fun c => (h c).2.2, sem_eq_zero_of_no_sems (by decide) r.2⟩)
    (Cert.DownRefIdeal.Value.run (F := Ideal) m g)

/-- The reference of `Bounds` runs, leaves its arguments and declares no semaphore. -/
theorem frame_Bounds : Cert.quiescent_BoundsRefIdeal := fun m g _ =>
  (θ_run Cert.BoundsRefIdeal.defs _ _).mono (fun r h => ⟨fun c => (h c).2, sem_eq_zero_of_no_sems (by decide) r.2⟩)
    (Cert.BoundsRefIdeal.Value.run (F := Ideal) m g)

/-- The reference of `Rms` runs, leaves its arguments and declares no semaphore. -/
theorem frame_Rms : Cert.quiescent_RmsRefIdeal := fun m g _ =>
  (θ_run Cert.RmsRefIdeal.defs _ _).mono (fun r h => ⟨fun c => (h c).2, sem_eq_zero_of_no_sems (by decide) r.2⟩)
    (Cert.RmsRefIdeal.Value.run (F := Ideal) m g)

/-- The reference of `Proj` runs, leaves its arguments and declares no semaphore. -/
theorem frame_Proj : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run (F := Ideal) m g)

/-- The reference of `Wgu` runs, leaves its arguments and declares no semaphore. -/
theorem frame_Wgu : Cert.quiescent_WguRefIdeal := fun m g _ =>
  (θ_run Cert.WguRefIdeal.defs _ _).mono (fun r h => ⟨fun c => (h c).2.2, sem_eq_zero_of_no_sems (by decide) r.2⟩)
    (Cert.WguRefIdeal.Value.run (F := Ideal) m g)

/-- The reference of `Slots` runs, leaves its arguments and declares no semaphore. -/
theorem frame_Slots : Cert.quiescent_SlotsRefIdeal := fun m g _ =>
  (θ_run Cert.SlotsRefIdeal.defs _ _).mono (fun r h => ⟨fun c => (h c).2, sem_eq_zero_of_no_sems (by decide) r.2⟩)
    (Cert.SlotsRefIdeal.Value.run (F := Ideal) m g)

/-- The reference of `Adam` runs, leaves its arguments and declares no semaphore. -/
theorem frame_Adam : Cert.quiescent_AdamRefIdeal := fun m g _ =>
  (θ_run Cert.AdamRefIdeal.defs _ _).mono (fun r h => ⟨fun c => (h c).2.2.2, sem_eq_zero_of_no_sems (by decide) r.2⟩)
    (Cert.AdamRefIdeal.Value.run (F := Ideal) m g)

/-- The reference of `Hgv` runs, leaves its arguments and declares no semaphore. -/
theorem frame_Hgv : Cert.quiescent_HgvRefIdeal := fun m g _ =>
  (θ_run Cert.HgvRefIdeal.defs _ _).mono (fun r h => ⟨fun c => (h c).2, sem_eq_zero_of_no_sems (by decide) r.2⟩)
    (Cert.HgvRefIdeal.Value.run (F := Ideal) m g)

/-- The reference of `Hgs` runs, leaves its arguments and declares no semaphore. -/
theorem frame_Hgs : Cert.quiescent_HgsRefIdeal := fun m g _ =>
  (θ_run Cert.HgsRefIdeal.defs _ _).mono (fun r h => ⟨fun c => (h c).2, sem_eq_zero_of_no_sems (by decide) r.2⟩)
    (Cert.HgsRefIdeal.Value.run (F := Ideal) m g)

/-- Every claim of the certificate. -/
theorem claim : Cert.Claim :=
  ⟨Cert.FfnKernel.Gen.facts,
    Cert.FfnKernelIdeal.Gen.facts,
    Cert.FfnRefIdeal.Gen.facts,
    Cert.LbKernel.Gen.facts,
    Cert.LbKernelIdeal.Gen.facts,
    Cert.LbRefIdeal.Gen.facts,
    Cert.LossKernel.Gen.facts,
    Cert.LossKernelIdeal.Gen.facts,
    Cert.LossRefIdeal.Gen.facts,
    Cert.MergeKernel.Gen.facts,
    Cert.MergeKernelIdeal.Gen.facts,
    Cert.MergeRefIdeal.Gen.facts,
    Cert.UpKernel.Gen.facts,
    Cert.UpKernelIdeal.Gen.facts,
    Cert.UpRefIdeal.Gen.facts,
    Cert.WinKernel.Gen.facts,
    Cert.WinKernelIdeal.Gen.facts,
    Cert.WinRefIdeal.Gen.facts,
    Cert.SwfKernel.Gen.facts,
    Cert.SwfKernelIdeal.Gen.facts,
    Cert.SwfRefIdeal.Gen.facts,
    Cert.SwvKernel.Gen.facts,
    Cert.SwvKernelIdeal.Gen.facts,
    Cert.SwvRefIdeal.Gen.facts,
    Cert.MixKernel.Gen.facts,
    Cert.MixKernelIdeal.Gen.facts,
    Cert.MixRefIdeal.Gen.facts,
    Cert.ActKernel.Gen.facts,
    Cert.ActKernelIdeal.Gen.facts,
    Cert.ActRefIdeal.Gen.facts,
    Cert.DownKernel.Gen.facts,
    Cert.DownKernelIdeal.Gen.facts,
    Cert.DownRefIdeal.Gen.facts,
    Cert.BoundsKernel.Gen.facts,
    Cert.BoundsKernelIdeal.Gen.facts,
    Cert.BoundsRefIdeal.Gen.facts,
    Cert.RmsKernel.Gen.facts,
    Cert.RmsKernelIdeal.Gen.facts,
    Cert.RmsRefIdeal.Gen.facts,
    Cert.ProjKernel.Gen.facts,
    Cert.ProjKernelIdeal.Gen.facts,
    Cert.ProjRefIdeal.Gen.facts,
    Cert.WguKernel.Gen.facts,
    Cert.WguKernelIdeal.Gen.facts,
    Cert.WguRefIdeal.Gen.facts,
    Cert.SlotsKernel.Gen.facts,
    Cert.SlotsKernelIdeal.Gen.facts,
    Cert.SlotsRefIdeal.Gen.facts,
    Cert.AdamKernel.Gen.facts,
    Cert.AdamKernelIdeal.Gen.facts,
    Cert.AdamRefIdeal.Gen.facts,
    Cert.HgvKernel.Gen.facts,
    Cert.HgvKernelIdeal.Gen.facts,
    Cert.HgvRefIdeal.Gen.facts,
    Cert.HgsKernel.Gen.facts,
    Cert.HgsKernelIdeal.Gen.facts,
    Cert.HgsRefIdeal.Gen.facts,
    Cert.HgCall.Gen.facts,
    Cert.HgCallIdeal.Gen.facts,
    Cert.Pre_ffn_finite.Gen.facts,
    Cert.Pre_lb_finite.Gen.facts,
    Cert.Pre_swf_finite.Gen.facts,
    Cert.Pre_swv_finite.Gen.facts,
    Cert.Pre_hgv_finite.Gen.facts,
    Cert.Pre_hgs_finite.Gen.facts,
    fun m g _ => Cert.FfnKernel.Gen.frame m g,
    fun m g _ => Cert.FfnKernelIdeal.Gen.frame m g,
    fun m g _ => Cert.FfnKernelIdeal.Gen.frame m g,
    fun m g _ => frame_Ffn m g trivial,
    fun m g _ => frame_Ffn m g trivial,
    fun m g _ => Cert.LbKernel.Gen.frame m g,
    fun m g _ => Cert.LbKernelIdeal.Gen.frame m g,
    fun m g _ => Cert.LbKernelIdeal.Gen.frame m g,
    fun m g _ => frame_Lb m g trivial,
    fun m g _ => frame_Lb m g trivial,
    fun m g _ => Cert.LossKernel.Gen.frame m g,
    fun m g _ => Cert.LossKernelIdeal.Gen.frame m g,
    fun m g _ => frame_Loss m g trivial,
    fun m g _ => Cert.MergeKernel.Gen.frame m g,
    fun m g _ => Cert.MergeKernelIdeal.Gen.frame m g,
    fun m g _ => frame_Merge m g trivial,
    fun m g _ => Cert.UpKernel.Gen.frame m g,
    fun m g _ => Cert.UpKernelIdeal.Gen.frame m g,
    fun m g _ => frame_Up m g trivial,
    fun m g _ => Cert.WinKernel.Gen.frame m g,
    fun m g _ => Cert.WinKernelIdeal.Gen.frame m g,
    fun m g _ => frame_Win m g trivial,
    fun m g _ => Cert.SwfKernel.Gen.frame m g,
    fun m g _ => Cert.SwfKernelIdeal.Gen.frame m g,
    fun m g _ => Cert.SwfKernelIdeal.Gen.frame m g,
    fun m g _ => frame_Swf m g trivial,
    fun m g _ => frame_Swf m g trivial,
    Cert.Own.SwvBits.frame,
    fun m g _ => Cert.Own.SwvRun.frame m g,
    fun m g _ => Cert.Own.SwvRun.frame m g,
    fun m g _ => frame_Swv m g trivial,
    fun m g _ => frame_Swv m g trivial,
    fun m g _ => Cert.MixKernel.Gen.frame m g,
    fun m g _ => Cert.MixKernelIdeal.Gen.frame m g,
    fun m g _ => frame_Mix m g trivial,
    fun m g _ => Cert.ActKernel.Gen.frame m g,
    fun m g _ => Cert.ActKernelIdeal.Gen.frame m g,
    fun m g _ => frame_Act m g trivial,
    fun m g _ => Cert.DownKernel.Gen.frame m g,
    fun m g _ => Cert.DownKernelIdeal.Gen.frame m g,
    fun m g _ => frame_Down m g trivial,
    fun m g _ => Cert.BoundsKernel.Gen.frame m g,
    fun m g _ => Cert.BoundsKernelIdeal.Gen.frame m g,
    fun m g _ => frame_Bounds m g trivial,
    fun m g _ => Cert.RmsKernel.Gen.frame m g,
    fun m g _ => Cert.RmsKernelIdeal.Gen.frame m g,
    fun m g _ => frame_Rms m g trivial,
    fun m g _ => Cert.ProjKernel.Gen.frame m g,
    fun m g _ => Cert.ProjKernelIdeal.Gen.frame m g,
    fun m g _ => frame_Proj m g trivial,
    fun m g _ => Cert.WguKernel.Gen.frame m g,
    fun m g _ => Cert.WguKernelIdeal.Gen.frame m g,
    fun m g _ => frame_Wgu m g trivial,
    fun m g _ => Cert.SlotsKernel.Gen.frame m g,
    fun m g _ => Cert.SlotsKernelIdeal.Gen.frame m g,
    fun m g _ => frame_Slots m g trivial,
    fun m g _ => Cert.AdamKernel.Gen.frame m g,
    fun m g _ => Cert.AdamKernelIdeal.Gen.frame m g,
    fun m g _ => frame_Adam m g trivial,
    fun m g _ => Cert.HgvKernel.Gen.frame m g,
    fun m g _ => Cert.HgvKernelIdeal.Gen.frame m g,
    fun m g _ => Cert.HgvKernelIdeal.Gen.frame m g,
    fun m g _ => frame_Hgv m g trivial,
    fun m g _ => frame_Hgv m g trivial,
    fun m g _ => Cert.HgsKernel.Gen.frame m g,
    fun m g _ => Cert.HgsKernelIdeal.Gen.frame m g,
    fun m g _ => Cert.HgsKernelIdeal.Gen.frame m g,
    fun m g _ => frame_Hgs m g trivial,
    fun m g _ => frame_Hgs m g trivial,
    fun m g _ => Cert.HgCall.Gen.frame m g,
    fun m g _ => Cert.HgCallIdeal.Gen.frame m g,
    trivial,
    Cert.Own.Ffn.algebraic,
    trivial,
    Cert.Own.Lb.algebraic,
    trivial,
    Cert.Own.Loss.algebraic,
    trivial,
    Cert.Own.Merge.algebraic,
    trivial,
    Cert.Own.Up.algebraic,
    trivial,
    Cert.Own.Win.algebraic,
    trivial,
    Cert.Own.Swf.algebraic,
    trivial,
    Cert.Own.Swv.algebraic,
    trivial,
    Cert.Own.Mix.algebraic,
    trivial,
    Cert.Own.Act.algebraic,
    trivial,
    Cert.Own.Down.algebraic,
    trivial,
    Cert.Own.Bounds.algebraic,
    trivial,
    Cert.Own.Rms.algebraic,
    trivial,
    Cert.Own.Proj.algebraic,
    trivial,
    Cert.Own.Wgu.algebraic,
    trivial,
    Cert.Own.Slots.algebraic,
    Cert.Own.Adam.preserves,
    Cert.Own.Adam.algebraic,
    trivial,
    Cert.Own.Hgv.algebraic,
    trivial,
    Cert.Own.Hgs.algebraic,
    trivial⟩

end Cert.Proof

end
